-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Kernel1Ideal_finite1 [hPre_finite1 : Cert.Pre_finite1.Facts] (m : (ℓ : Loc Cert.Kernel1Ideal.nD Cert.Kernel1Ideal.τ Cert.Kernel1Ideal.sig) → Buf (Elt Ideal) ℓ) : Prop :=
  ∀ c : Dev Cert.Kernel1Ideal.nD,
    (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5))) = (fun _ => 1#1)

def Pre_Reference1Ideal (m : (ℓ : Loc Cert.Reference1Ideal.nD Cert.Reference1Ideal.τ Cert.Reference1Ideal.sig) → Buf (Elt Ideal) ℓ) : Prop :=
  True

def Pre_Reference1Ideal_finite1 [hPre_finite1 : Cert.Pre_finite1.Facts] (m : (ℓ : Loc Cert.Reference1Ideal.nD Cert.Reference1Ideal.τ Cert.Reference1Ideal.sig) → Buf (Elt Ideal) ℓ) : Prop :=
  ∀ c : Dev Cert.Reference1Ideal.nD,
    (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5))
      ∧ r.2.sem = fun _ => 0)

def quiescent_Kernel1Ideal_pre_finite1 [hKernel1Ideal : Cert.Kernel1Ideal.Facts] [hPre_finite1 : Cert.Pre_finite1.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal_finite1 m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5))
      ∧ r.2.sem = fun _ => 0)

def quiescent_Reference1Ideal_pre_finite1 [hReference1Ideal : Cert.Reference1Ideal.Facts] [hPre_finite1 : Cert.Pre_finite1.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal_finite1 m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0))
      ∧ r.2.sem = fun _ => 0)

def preserves_Kernel_KernelIdeal : Prop :=
  True

def preserves_Kernel1_Kernel1Ideal : Prop :=
  True

def algebraic_Kernel1Ideal_Reference1Ideal_pre_finite1 [hKernel1Ideal : Cert.Kernel1Ideal.Facts] [hReference1Ideal : Cert.Reference1Ideal.Facts] [hPre_finite1 : Cert.Pre_finite1.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal_finite1 m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)) →
    ∃ (v0 : (c : Dev Cert.Kernel1Ideal.nD) → Buf (Elt Ideal) ((c.tc : Thread Cert.Kernel1Ideal.nD Cert.Kernel1Ideal.τ).loc Cert.Kernel1Ideal.main_v20_0)) (v1 : (c : Dev Cert.Kernel1Ideal.nD) → Buf (Elt Ideal) ((c.tc : Thread Cert.Kernel1Ideal.nD Cert.Kernel1Ideal.τ).loc Cert.Kernel1Ideal.main_v20_1)) (v2 : (c : Dev Cert.Kernel1Ideal.nD) → Buf (Elt Ideal) ((c.tc : Thread Cert.Kernel1Ideal.nD Cert.Kernel1Ideal.τ).loc Cert.Kernel1Ideal.main_v20_2)) (v3 : (c : Dev Cert.Kernel1Ideal.nD) → Buf (Elt Ideal) ((c.tc : Thread Cert.Kernel1Ideal.nD Cert.Kernel1Ideal.τ).loc Cert.Kernel1Ideal.main_v20_3)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v20_0) = v0 c
          ∧ r.2.mem ((c.tc : Thread Cert.Kernel1Ideal.nD Cert.Kernel1Ideal.τ).loc Cert.Kernel1Ideal.main_v20_1) = v1 c
          ∧ r.2.mem ((c.tc : Thread Cert.Kernel1Ideal.nD Cert.Kernel1Ideal.τ).loc Cert.Kernel1Ideal.main_v20_2) = v2 c
          ∧ r.2.mem ((c.tc : Thread Cert.Kernel1Ideal.nD Cert.Kernel1Ideal.τ).loc Cert.Kernel1Ideal.main_v20_3) = v3 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v80) = v0 c
          ∧ r.2.mem ((c.tc : Thread Cert.Reference1Ideal.nD Cert.Reference1Ideal.τ).loc Cert.Reference1Ideal.main_v81) = v1 c
          ∧ r.2.mem ((c.tc : Thread Cert.Reference1Ideal.nD Cert.Reference1Ideal.τ).loc Cert.Reference1Ideal.main_v82) = v2 c
          ∧ r.2.mem ((c.tc : Thread Cert.Reference1Ideal.nD Cert.Reference1Ideal.τ).loc Cert.Reference1Ideal.main_v83) = v3 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v19_0)) (v1 : (c : Dev Cert.Kernel2Ideal.nD) → Buf (Elt Ideal) ((c.tc : Thread Cert.Kernel2Ideal.nD Cert.Kernel2Ideal.τ).loc Cert.Kernel2Ideal.main_v19_1)) (v2 : (c : Dev Cert.Kernel2Ideal.nD) → Buf (Elt Ideal) ((c.tc : Thread Cert.Kernel2Ideal.nD Cert.Kernel2Ideal.τ).loc Cert.Kernel2Ideal.main_v19_2)) (v3 : (c : Dev Cert.Kernel2Ideal.nD) → Buf (Elt Ideal) ((c.tc : Thread Cert.Kernel2Ideal.nD Cert.Kernel2Ideal.τ).loc Cert.Kernel2Ideal.main_v19_3)) (v4 : (c : Dev Cert.Kernel2Ideal.nD) → Buf (Elt Ideal) ((c.tc : Thread Cert.Kernel2Ideal.nD Cert.Kernel2Ideal.τ).loc Cert.Kernel2Ideal.main_v19_4)) (v5 : (c : Dev Cert.Kernel2Ideal.nD) → Buf (Elt Ideal) ((c.tc : Thread Cert.Kernel2Ideal.nD Cert.Kernel2Ideal.τ).loc Cert.Kernel2Ideal.main_v19_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19_0) = v0 c
          ∧ r.2.mem ((c.tc : Thread Cert.Kernel2Ideal.nD Cert.Kernel2Ideal.τ).loc Cert.Kernel2Ideal.main_v19_1) = v1 c
          ∧ r.2.mem ((c.tc : Thread Cert.Kernel2Ideal.nD Cert.Kernel2Ideal.τ).loc Cert.Kernel2Ideal.main_v19_2) = v2 c
          ∧ r.2.mem ((c.tc : Thread Cert.Kernel2Ideal.nD Cert.Kernel2Ideal.τ).loc Cert.Kernel2Ideal.main_v19_3) = v3 c
          ∧ r.2.mem ((c.tc : Thread Cert.Kernel2Ideal.nD Cert.Kernel2Ideal.τ).loc Cert.Kernel2Ideal.main_v19_4) = v4 c
          ∧ r.2.mem ((c.tc : Thread Cert.Kernel2Ideal.nD Cert.Kernel2Ideal.τ).loc Cert.Kernel2Ideal.main_v19_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_v67) = v1 c
          ∧ r.2.mem ((c.tc : Thread Cert.Reference2Ideal.nD Cert.Reference2Ideal.τ).loc Cert.Reference2Ideal.main_v68) = v2 c
          ∧ r.2.mem ((c.tc : Thread Cert.Reference2Ideal.nD Cert.Reference2Ideal.τ).loc Cert.Reference2Ideal.main_v69) = v3 c
          ∧ r.2.mem ((c.tc : Thread Cert.Reference2Ideal.nD Cert.Reference2Ideal.τ).loc Cert.Reference2Ideal.main_v70) = v4 c
          ∧ r.2.mem ((c.tc : Thread Cert.Reference2Ideal.nD Cert.Reference2Ideal.τ).loc Cert.Reference2Ideal.main_v71) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v16_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v45) = v0 c
          ∧ r.2.mem ((c.tc : Thread Cert.Reference9Ideal.nD Cert.Reference9Ideal.τ).loc Cert.Reference9Ideal.main_v17) = v1 c
          ∧ r.2.mem ((c.tc : Thread Cert.Reference9Ideal.nD Cert.Reference9Ideal.τ).loc Cert.Reference9Ideal.main_v46) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v9_0)) (v1 : (c : Dev Cert.Kernel10Ideal.nD) → Buf (Elt Ideal) ((c.tc : Thread Cert.Kernel10Ideal.nD Cert.Kernel10Ideal.τ).loc Cert.Kernel10Ideal.main_v9_1)) (v2 : (c : Dev Cert.Kernel10Ideal.nD) → Buf (Elt Ideal) ((c.tc : Thread Cert.Kernel10Ideal.nD Cert.Kernel10Ideal.τ).loc Cert.Kernel10Ideal.main_v9_2)) (v3 : (c : Dev Cert.Kernel10Ideal.nD) → Buf (Elt Ideal) ((c.tc : Thread Cert.Kernel10Ideal.nD Cert.Kernel10Ideal.τ).loc Cert.Kernel10Ideal.main_v9_3)) (v4 : (c : Dev Cert.Kernel10Ideal.nD) → Buf (Elt Ideal) ((c.tc : Thread Cert.Kernel10Ideal.nD Cert.Kernel10Ideal.τ).loc Cert.Kernel10Ideal.main_v9_4)) (v5 : (c : Dev Cert.Kernel10Ideal.nD) → Buf (Elt Ideal) ((c.tc : Thread Cert.Kernel10Ideal.nD Cert.Kernel10Ideal.τ).loc Cert.Kernel10Ideal.main_v9_5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9_0) = v0 c
          ∧ r.2.mem ((c.tc : Thread Cert.Kernel10Ideal.nD Cert.Kernel10Ideal.τ).loc Cert.Kernel10Ideal.main_v9_1) = v1 c
          ∧ r.2.mem ((c.tc : Thread Cert.Kernel10Ideal.nD Cert.Kernel10Ideal.τ).loc Cert.Kernel10Ideal.main_v9_2) = v2 c
          ∧ r.2.mem ((c.tc : Thread Cert.Kernel10Ideal.nD Cert.Kernel10Ideal.τ).loc Cert.Kernel10Ideal.main_v9_3) = v3 c
          ∧ r.2.mem ((c.tc : Thread Cert.Kernel10Ideal.nD Cert.Kernel10Ideal.τ).loc Cert.Kernel10Ideal.main_v9_4) = v4 c
          ∧ r.2.mem ((c.tc : Thread Cert.Kernel10Ideal.nD Cert.Kernel10Ideal.τ).loc Cert.Kernel10Ideal.main_v9_5) = v5 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v18) = v0 c
          ∧ r.2.mem ((c.tc : Thread Cert.Reference10Ideal.nD Cert.Reference10Ideal.τ).loc Cert.Reference10Ideal.main_v14) = v1 c
          ∧ r.2.mem ((c.tc : Thread Cert.Reference10Ideal.nD Cert.Reference10Ideal.τ).loc Cert.Reference10Ideal.main_v15) = v2 c
          ∧ r.2.mem ((c.tc : Thread Cert.Reference10Ideal.nD Cert.Reference10Ideal.τ).loc Cert.Reference10Ideal.main_v19) = v3 c
          ∧ r.2.mem ((c.tc : Thread Cert.Reference10Ideal.nD Cert.Reference10Ideal.τ).loc Cert.Reference10Ideal.main_v17) = v4 c
          ∧ r.2.mem ((c.tc : Thread Cert.Reference10Ideal.nD Cert.Reference10Ideal.τ).loc Cert.Reference10Ideal.main_v20) = v5 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v28) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_v29) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v1) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v1) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v1) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v0) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0))

def Claim : Prop :=
  ∃ (hKernel : Cert.Kernel.Facts) (hKernelIdeal : Cert.KernelIdeal.Facts) (hKernel1 : Cert.Kernel1.Facts) (hKernel1Ideal : Cert.Kernel1Ideal.Facts) (hReference1Ideal : Cert.Reference1Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite1 : Cert.Pre_finite1.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_Kernel1 (hKernel1 := hKernel1)
    ∧ quiescent_Kernel1Ideal (hKernel1Ideal := hKernel1Ideal)
    ∧ quiescent_Kernel1Ideal_pre_finite1 (hKernel1Ideal := hKernel1Ideal) (hPre_finite1 := hPre_finite1)
    ∧ quiescent_Reference1Ideal (hReference1Ideal := hReference1Ideal)
    ∧ quiescent_Reference1Ideal_pre_finite1 (hReference1Ideal := hReference1Ideal) (hPre_finite1 := hPre_finite1)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ preserves_Kernel1_Kernel1Ideal
    ∧ algebraic_Kernel1Ideal_Reference1Ideal_pre_finite1 (hKernel1Ideal := hKernel1Ideal) (hReference1Ideal := hReference1Ideal) (hPre_finite1 := hPre_finite1)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_finite1.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x5632 .f32) (main_arg5 : FVec F S2816x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024x5632 .f32 := Host.absf main_arg4
  let main_cst_6 : FVec F S_ .f32 := constant S_ .f32 0x7F800000#32
  let main_v20 : FVec F S1024x5632 .f32 := broadcastInDim S1024x5632 ![] bcast_S_S1024x5632 main_cst_6
  let main_v21 : IVec S1024x5632 1 := cmpf .olt main_v19 main_v20
  let main_c_7 : IVec S_ 1 := constantI S_ 1 1#1
  let main_v22 : IVec S_ 1 := (fun x v => Host.reduce IntOp.andi x v reducesTo_S1024x5632_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1024x5632 .f32) (main_arg5 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Pre_finite2.lean ====
abbrev S8192x1024 : Shape := ⟨2, ![8192, 1024]⟩
abbrev S8192x512 : Shape := ⟨2, ![8192, 512]⟩
abbrev S8192x2048 : Shape := ⟨2, ![8192, 2048]⟩
abbrev S1x2048 : Shape := ⟨2, ![1, 2048]⟩
abbrev S1x1024 : Shape := ⟨2, ![1, 1024]⟩
abbrev S512x1024 : Shape := ⟨2, ![512, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S1x1024 : S_.BroadcastsInDim S1x1024 (![] : Fin 0 → Fin S1x1024.rank)
  reducesTo_S1x1024_S_d0_1 : S1x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S512x1024 .f32) (main_arg8 : FVec F S1024x1024 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  main_v43

def fn_part1 {F : FTy → Type} [FloatOps F] (main_arg4 : FVec F S1x2048 .f32) (main_arg5 : FVec F S1x1024 .f32) (main_arg6 : FVec F S512x1024 .f32) (main_arg7 : FVec F S512x1024 .f32) (main_arg8 : FVec F S1024x1024 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S8192x512 .f32) (main_arg2 : FVec F S8192x512 .f32) (main_arg3 : FVec F S8192x2048 .f32) (main_arg4 : FVec F S1x2048 .f32) (main_arg5 : FVec F S1x1024 .f32) (main_arg6 : FVec F S512x1024 .f32) (main_arg7 : FVec F S512x1024 .f32) (main_arg8 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_arg7 main_arg8 main_v13 main_v16
-- ==== Pre_finite3.lean ====
abbrev S8192x1024 : Shape := ⟨2, ![8192, 1024]⟩
abbrev S8192x512 : Shape := ⟨2, ![8192, 512]⟩
abbrev S8192x384 : Shape := ⟨2, ![8192, 384]⟩
abbrev S8192x256 : Shape := ⟨2, ![8192, 256]⟩
abbrev S8192x32 : Shape := ⟨2, ![8192, 32]⟩
abbrev S8192x2048 : Shape := ⟨2, ![8192, 2048]⟩
abbrev S1x1024 : Shape := ⟨2, ![1, 1024]⟩
abbrev S1024x4256 : Shape := ⟨2, ![1024, 4256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x384 : S_.BroadcastsInDim S8192x384 (![] : Fin 0 → Fin S8192x384.rank)
  reducesTo_S8192x384_S_d0_1 : S8192x384.ReducesTo [0, 1] S_
  bcast_S_S8192x256 : S_.BroadcastsInDim S8192x256 (![] : Fin 0 → Fin S8192x256.rank)
  reducesTo_S8192x256_S_d0_1 : S8192x256.ReducesTo [0, 1] S_
  bcast_S_S8192x32 : S_.BroadcastsInDim S8192x32 (![] : Fin 0 → Fin S8192x32.rank)
  reducesTo_S8192x32_S_d0_1 : S8192x32.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x4256 : S_.BroadcastsInDim S1024x4256 (![] : Fin 0 → Fin S1024x4256.rank)
  reducesTo_S1024x4256_S_d0_1 : S1024x4256.ReducesTo [0, 1] S_

variable [Facts]

def fn_part3 {F : FTy → Type} [FloatOps F] (main_v48 : IVec S_ 1) (main_v49 : FVec F S1024x4256 .f32) (main_v50 : FVec F S1024x4256 .f32) : IVec S_ 1 :=
  let main_v51 : IVec S1024x4256 1 := cmpf .olt main_v49 main_v50
  let main_c_19 : IVec S_ 1 := constantI S_ 1 1#1
  let main_v52 : IVec S_ 1 := (fun x v => Host.reduce IntOp.andi x v reducesTo_S1024x4256_S_d0_1 h_S_) main_v51 main_c_19
  let main_v53 : IVec S_ 1 := andi main_v48 main_v52
  main_v53

def fn_part2 {F : FTy → Type} [FloatOps F] (main_arg7 : FVec F S8192x32 .f32) (main_arg8 : FVec F S8192x2048 .f32) (main_arg9 : FVec F S1x1024 .f32) (main_arg10 : FVec F S1024x4256 .f32) (main_v33 : IVec S_ 1) : IVec S_ 1 :=
  let main_v34 : FVec F S8192x32 .f32 := Host.absf main_arg7
  let main_cst_12 : FVec F S_ .f32 := constant S_ .f32 0x7F800000#32
  let main_v35 : FVec F S8192x32 .f32 := broadcastInDim S8192x32 ![] bcast_S_S8192x32 main_cst_12
  let main_v36 : IVec S8192x32 1 := cmpf .olt main_v34 main_v35
  let main_c_13 : IVec S_ 1 := constantI S_ 1 1#1
  let main_v37 : IVec S_ 1 := (fun x v => Host.reduce IntOp.andi x v reducesTo_S8192x32_S_d0_1 h_S_) main_v36 main_c_13
  let main_v38 : IVec S_ 1 := andi main_v33 main_v37
  let main_v39 : FVec F S8192x2048 .f32 := Host.absf main_arg8
  let main_cst_14 : FVec F S_ .f32 := constant S_ .f32 0x7F800000#32
  let main_v40 : FVec F S8192x2048 .f32 := broadcastInDim S8192x2048 ![] bcast_S_S8192x2048 main_cst_14
  let main_v41 : IVec S8192x2048 1 := cmpf .olt main_v39 main_v40
  let main_c_15 : IVec S_ 1 := constantI S_ 1 1#1
  let main_v42 : IVec S_ 1 := (fun x v => Host.reduce IntOp.andi x v reducesTo_S8192x2048_S_d0_1 h_S_) main_v41 main_c_15
  let main_v43 : IVec S_ 1 := andi main_v38 main_v42
  let main_v44 : FVec F S1x1024 .f32 := Host.absf main_arg9
  let main_cst_16 : FVec F S_ .f32 := constant S_ .f32 0x7F800000#32
  let main_v45 : FVec F S1x1024 .f32 := broadcastInDim S1x1024 ![] bcast_S_S1x1024 main_cst_16
  let main_v46 : IVec S1x1024 1 := cmpf .olt main_v44 main_v45
  let main_c_17 : IVec S_ 1 := constantI S_ 1 1#1
  let main_v47 : IVec S_ 1 := (fun x v => Host.reduce IntOp.andi x v reducesTo_S1x1024_S_d0_1 h_S_) main_v46 main_c_17
  let main_v48 : IVec S_ 1 := andi main_v43 main_v47
  let main_v49 : FVec F S1024x4256 .f32 := Host.absf main_arg10
  let main_cst_18 : FVec F S_ .f32 := constant S_ .f32 0x7F800000#32
  let main_v50 : FVec F S1024x4256 .f32 := broadcastInDim S1024x4256 ![] bcast_S_S1024x4256 main_cst_18
  fn_part3 (F := F) main_v48 main_v49 main_v50

def fn_part1 {F : FTy → Type} [FloatOps F] (main_arg4 : FVec F S8192x512 .f32) (main_arg5 : FVec F S8192x384 .f32) (main_arg6 : FVec F S8192x256 .f32) (main_arg7 : FVec F S8192x32 .f32) (main_arg8 : FVec F S8192x2048 .f32) (main_arg9 : FVec F S1x1024 .f32) (main_arg10 : FVec F S1024x4256 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  let main_v24 : FVec F S8192x384 .f32 := Host.absf main_arg5
  let main_cst_8 : FVec F S_ .f32 := constant S_ .f32 0x7F800000#32
  let main_v25 : FVec F S8192x384 .f32 := broadcastInDim S8192x384 ![] bcast_S_S8192x384 main_cst_8
  let main_v26 : IVec S8192x384 1 := cmpf .olt main_v24 main_v25
  let main_c_9 : IVec S_ 1 := constantI S_ 1 1#1
  let main_v27 : IVec S_ 1 := (fun x v => Host.reduce IntOp.andi x v reducesTo_S8192x384_S_d0_1 h_S_) main_v26 main_c_9
  let main_v28 : IVec S_ 1 := andi main_v23 main_v27
  let main_v29 : FVec F S8192x256 .f32 := Host.absf main_arg6
  let main_cst_10 : FVec F S_ .f32 := constant S_ .f32 0x7F800000#32
  let main_v30 : FVec F S8192x256 .f32 := broadcastInDim S8192x256 ![] bcast_S_S8192x256 main_cst_10
  let main_v31 : IVec S8192x256 1 := cmpf .olt main_v29 main_v30
  let main_c_11 : IVec S_ 1 := constantI S_ 1 1#1
  let main_v32 : IVec S_ 1 := (fun x v => Host.reduce IntOp.andi x v reducesTo_S8192x256_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x512 .f32) (main_arg3 : FVec F S8192x512 .f32) (main_arg4 : FVec F S8192x512 .f32) (main_arg5 : FVec F S8192x384 .f32) (main_arg6 : FVec F S8192x256 .f32) (main_arg7 : FVec F S8192x32 .f32) (main_arg8 : FVec F S8192x2048 .f32) (main_arg9 : FVec F S1x1024 .f32) (main_arg10 : FVec F S1024x4256 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_arg6 main_arg7 main_arg8 main_arg9 main_arg10 main_v13 main_v16
-- ==== Kernel.lean ====
abbrev S8192x1536 : Shape := ⟨2, ![8192, 1536]⟩
abbrev S8192x512 : Shape := ⟨2, ![8192, 512]⟩
abbrev S8192x1024 : Shape := ⟨2, ![8192, 1024]⟩
abbrev S8x8192x128 : Shape := ⟨3, ![8, 8192, 128]⟩
abbrev S8x128 : Shape := ⟨2, ![8, 128]⟩
abbrev S512x128 : Shape := ⟨2, ![512, 128]⟩
abbrev S8192x128 : Shape := ⟨2, ![8192, 128]⟩
abbrev S8192x256 : Shape := ⟨2, ![8192, 256]⟩
abbrev S512x256 : Shape := ⟨2, ![512, 256]⟩
abbrev S2x512x128 : Shape := ⟨3, ![2, 512, 128]⟩
abbrev S4 : Shape := ⟨1, ![4]⟩
abbrev S128x128 : Shape := ⟨2, ![128, 128]⟩
abbrev S128x256 : Shape := ⟨2, ![128, 256]⟩
abbrev S256x256 : Shape := ⟨2, ![256, 256]⟩
abbrev S512 : Shape := ⟨1, ![512]⟩
abbrev S512x1 : Shape := ⟨2, ![512, 1]⟩
abbrev S1x512x128 : Shape := ⟨3, ![1, 512, 128]⟩
abbrev S1024x128 : Shape := ⟨2, ![1024, 128]⟩
abbrev S1024x256 : Shape := ⟨2, ![1024, 256]⟩
abbrev S256x128 : Shape := ⟨2, ![256, 128]⟩
abbrev S1x256x128 : Shape := ⟨3, ![1, 256, 128]⟩
abbrev S256x512 : Shape := ⟨2, ![256, 512]⟩
abbrev S512x512 : Shape := ⟨2, ![512, 512]⟩
abbrev S1 : Shape := ⟨1, ![1]⟩
abbrev S_ : Shape := ⟨0, ![]⟩

abbrev nBuf : Space → Nat
  | .hbm => 16
  | .vmem => 33
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S8192x512, .f32⟩
  | .hbm, ⟨3, _⟩ => ⟨S8192x1024, .bf16⟩
  | .hbm, ⟨4, _⟩ => ⟨S8192x1024, .bf16⟩
  | .hbm, ⟨5, _⟩ => ⟨S8192x512, .bf16⟩
  | .hbm, ⟨6, _⟩ => ⟨S8192x512, .bf16⟩
  | .hbm, ⟨7, _⟩ => ⟨S8192x512, .f32⟩
  | .hbm, ⟨8, _⟩ => ⟨S8x8192x128, .f32⟩
  | .hbm, ⟨9, _⟩ => ⟨S8x128, .f32⟩
  | .hbm, ⟨10, _⟩ => ⟨S8192x512, .f32⟩
  | .hbm, ⟨11, _⟩ => ⟨S8192x1024, .f32⟩
  | .hbm, ⟨12, _⟩ => ⟨S8192x512, .f32⟩
  | .hbm, ⟨13, _⟩ => ⟨S8192x512, .f32⟩
  | .hbm, ⟨14, _⟩ => ⟨S8192x1024, .f32⟩
  | .hbm, ⟨15, _⟩ => ⟨S8192x512, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x256, .bf16⟩
  | .local _ .vmem, ⟨5, _⟩ => ⟨S8192x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S512x256, .bf16⟩
  | .local _ .vmem, ⟨11, _⟩ => ⟨S512x256, .bf16⟩
  | .local _ .vmem, ⟨12, _⟩ => ⟨S512x128, .bf16⟩
  | .local _ .vmem, ⟨13, _⟩ => ⟨S512x128, .bf16⟩
  | .local _ .vmem, ⟨14, _⟩ => ⟨S512x128, .f32⟩
  | .local _ .vmem, ⟨15, _⟩ => ⟨S512x128, .f32⟩
  | .local _ .vmem, ⟨16, _⟩ => ⟨S2x512x128, .f32⟩
  | .local _ .vmem, ⟨17, _⟩ => ⟨S2x512x128, .f32⟩
  | .local _ .vmem, ⟨18, _⟩ => ⟨S8x128, .f32⟩
  | .local _ .vmem, ⟨19, _⟩ => ⟨S512x128, .f32⟩
  | .local _ .vmem, ⟨20, _⟩ => ⟨S512x128, .f32⟩
  | .local _ .vmem, ⟨21, _⟩ => ⟨S512x256, .f32⟩
  | .local _ .vmem, ⟨22, _⟩ => ⟨S512x256, .f32⟩
  | .local _ .vmem, ⟨23, _⟩ => ⟨S512x128, .f32⟩
  | .local _ .vmem, ⟨24, _⟩ => ⟨S512x256, .f32⟩
  | .local _ .vmem, ⟨25, _⟩ => ⟨S8192x128, .f32⟩
  | .local _ .vmem, ⟨26, _⟩ => ⟨S8192x128, .f32⟩
  | .local _ .vmem, ⟨27, _⟩ => ⟨S8192x256, .f32⟩
  | .local _ .vmem, ⟨28, _⟩ => ⟨S8192x128, .f32⟩
  | .local _ .vmem, ⟨29, _⟩ => ⟨S2x512x128, .f32⟩
  | .local _ .vmem, ⟨30, _⟩ => ⟨S2x512x128, .f32⟩
  | .local _ .vmem, ⟨31, _⟩ => ⟨S2x512x128, .f32⟩
  | .local _ .vmem, ⟨32, _⟩ => ⟨S2x512x128, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_scratch9 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c4_i32 : BitVec 32 := 4#32
  let v118 : BitVec 32 := Scalar.muli arg1 c4_i32
  let c3_i32 : BitVec 32 := 3#32
  let v119 : BitVec 32 := Scalar.addi v118 c3_i32
  let c0_i32_58 : BitVec 32 := 0#32
  let v132 : BitVec 32 := Scalar.subi v119 c0_i32_58
  let c128_i32_59 : BitVec 32 := 128#32
  let v133 : BitVec 32 := Scalar.muli v132 c128_i32_59
  v133
def k0_mult2 (i : grid0.Coords) : BitVec 32 :=
  let arg1 : BitVec 32 := BitVec.ofNat 32 (i 1).val
  let c4_i32 : BitVec 32 := 4#32
  let v118 : BitVec 32 := Scalar.muli arg1 c4_i32
  let c3_i32 : BitVec 32 := 3#32
  let v119 : BitVec 32 := Scalar.addi v118 c3_i32
  let c1_i32 : BitVec 32 := 1#32
  let v135 : BitVec 32 := Scalar.subi v119 c1_i32
  let c128_i32_60 : BitVec 32 := 128#32
  let v136 : BitVec 32 := Scalar.muli v135 c128_i32_60
  v136
def k0_off1 (i : grid0.Coords) (c3_i32 : BitVec 32) (c0_i32_58 : BitVec 32) : Fin 2 → Nat :=
  let arg1 : BitVec 32 := BitVec.ofNat 32 (i 1).val
  let c4_i32 : BitVec 32 := 4#32
  let v118 : BitVec 32 := Scalar.muli arg1 c4_i32
  let v119 : BitVec 32 := Scalar.addi v118 c3_i32
  let v132 : BitVec 32 := Scalar.subi v119 c0_i32_58
  let c128_i32_59 : BitVec 32 := 128#32
  let v133 : BitVec 32 := Scalar.muli v132 c128_i32_59
  let v134 : BitVec 32 := v133
  let v138 : Index := Scalar.indexCast v134
  let c0_61 : Index := 0#32
  ![v138.toNat, 0]
def k0_off2 (i : grid0.Coords) (c3_i32 : BitVec 32) (c0_i32_58 : BitVec 32) : Fin 2 → Nat :=
  let arg1 : BitVec 32 := BitVec.ofNat 32 (i 1).val
  let c4_i32 : BitVec 32 := 4#32
  let v118 : BitVec 32 := Scalar.muli arg1 c4_i32
  let v119 : BitVec 32 := Scalar.addi v118 c3_i32
  let v132 : BitVec 32 := Scalar.subi v119 c0_i32_58
  let c128_i32_59 : BitVec 32 := 128#32
  let v133 : BitVec 32 := Scalar.muli v132 c128_i32_59
  let v134 : BitVec 32 := v133
  let v154 : Index := Scalar.indexCast v134
  let c0_65 : Index := 0#32
  ![v154.toNat, 0]
def k0_off3 (i : grid0.Coords) (c3_i32 : BitVec 32) : Fin 2 → Nat :=
  let arg1 : BitVec 32 := BitVec.ofNat 32 (i 1).val
  let c4_i32 : BitVec 32 := 4#32
  let v118 : BitVec 32 := Scalar.muli arg1 c4_i32
  let v119 : BitVec 32 := Scalar.addi v118 c3_i32
  let c1_i32 : BitVec 32 := 1#32
  let v135 : BitVec 32 := Scalar.subi v119 c1_i32
  let c128_i32_60 : BitVec 32 := 128#32
  let v136 : BitVec 32 := Scalar.muli v135 c128_i32_60
  let v137 : BitVec 32 := v136
  let v482 : Index := Scalar.indexCast v137
  let c0_181 : Index := 0#32
  ![v482.toNat, 0]
def k0_off4 (i : grid0.Coords) (c3_i32 : BitVec 32) : Fin 2 → Nat :=
  let arg1 : BitVec 32 := BitVec.ofNat 32 (i 1).val
  let c4_i32 : BitVec 32 := 4#32
  let v118 : BitVec 32 := Scalar.muli arg1 c4_i32
  let v119 : BitVec 32 := Scalar.addi v118 c3_i32
  let c1_i32 : BitVec 32 := 1#32
  let v135 : BitVec 32 := Scalar.subi v119 c1_i32
  let c128_i32_60 : BitVec 32 := 128#32
  let v136 : BitVec 32 := Scalar.muli v135 c128_i32_60
  let v137 : BitVec 32 := v136
  let v500 : Index := Scalar.indexCast v137
  let c0_185 : Index := 0#32
  ![v500.toNat, 0]
def k0_mult3 (i : grid0.Coords) : BitVec 32 :=
  let arg1 : BitVec 32 := BitVec.ofNat 32 (i 1).val
  let c4_i32_227 : BitVec 32 := 4#32
  let v613 : BitVec 32 := Scalar.muli arg1 c4_i32_227
  let c1_i32_228 : BitVec 32 := 1#32
  let v614 : BitVec 32 := Scalar.addi v613 c1_i32_228
  let c0_i32_231 : BitVec 32 := 0#32
  let v627 : BitVec 32 := Scalar.subi v614 c0_i32_231
  let c128_i32_232 : BitVec 32 := 128#32
  let v628 : BitVec 32 := Scalar.muli v627 c128_i32_232
  v628
def k0_mult4 (i : grid0.Coords) : BitVec 32 :=
  let arg1 : BitVec 32 := BitVec.ofNat 32 (i 1).val
  let c4_i32_227 : BitVec 32 := 4#32
  let v613 : BitVec 32 := Scalar.muli arg1 c4_i32_227
  let c1_i32_228 : BitVec 32 := 1#32
  let v614 : BitVec 32 := Scalar.addi v613 c1_i32_228
  let c1_i32_233 : BitVec 32 := 1#32
  let v630 : BitVec 32 := Scalar.subi v614 c1_i32_233
  let c128_i32_234 : BitVec 32 := 128#32
  let v631 : BitVec 32 := Scalar.muli v630 c128_i32_234
  v631
@[reducible] def k0_t1_loop (i : grid0.Coords) : Scf.Loop 32 :=
  let c0_i32_408 : BitVec 32 := 0#32
  let arg1 : BitVec 32 := BitVec.ofNat 32 (i 1).val
  let c4_i32_401 : BitVec 32 := 4#32
  let v1083 : BitVec 32 := Scalar.muli arg1 c4_i32_401
  let c0_i32_402 : BitVec 32 := 0#32
  let v1085 : BitVec 1 := Scalar.cmpi .sgt v1083 c0_i32_402
  let v1086 : BitVec 32 := Scalar.extui v1085
  let c0_i32_403 : BitVec 32 := 0#32
  let v1087 : BitVec 1 := Scalar.cmpi .slt v1083 c0_i32_403
  let v1088 : BitVec 32 := Scalar.extui v1087
  let v1089 : BitVec 32 := Scalar.subi v1086 v1088
  let c2_i32 : BitVec 32 := 2#32
  let c0_i32_404 : BitVec 32 := 0#32
  let v1090 : BitVec 1 := Scalar.cmpi .sgt c2_i32 c0_i32_404
  let v1091 : BitVec 32 := Scalar.extui v1090
  let c0_i32_405 : BitVec 32 := 0#32
  let v1092 : BitVec 1 := Scalar.cmpi .slt c2_i32 c0_i32_405
  let v1093 : BitVec 32 := Scalar.extui v1092
  let v1094 : BitVec 32 := Scalar.subi v1091 v1093
  let v1095 : BitVec 1 := Scalar.cmpi .ne v1089 v1094
  let v1096 : BitVec 32 := Scalar.remsi v1083 c2_i32
  let c0_i32_406 : BitVec 32 := 0#32
  let v1097 : BitVec 1 := Scalar.cmpi .ne v1096 c0_i32_406
  let v1098 : BitVec 1 := Scalar.andi v1095 v1097
  let v1084 : BitVec 32 := Scalar.divsi v1083 c2_i32
  let c1_i32_407 : BitVec 32 := 1#32
  let v1099 : BitVec 32 := Scalar.subi v1084 c1_i32_407
  let v1100 : BitVec 32 := Scalar.select v1098 v1099 v1084
  let v1101 : BitVec 32 := Scalar.subi v1100 c0_i32_408
  let c1_i32_410 : BitVec 32 := 1#32
  let v1103 : BitVec 32 := Scalar.divsi v1101 c1_i32_410
  let v1104 : BitVec 32 := Scalar.muli v1103 c1_i32_410
  let v1105 : BitVec 32 := Scalar.addi c0_i32_408 v1104
  let c1_i32_411 : BitVec 32 := 1#32
  ⟨c0_i32_408, v1105, c1_i32_411⟩
def k0_mult5 (i : grid0.Coords) (k0_t1 : Fin (k0_t1_loop i).trips) : BitVec 32 :=
  let arg1 : BitVec 32 := BitVec.ofNat 32 (i 1).val
  let c4_i32_423 : BitVec 32 := 4#32
  let v1117 : BitVec 32 := Scalar.muli arg1 c4_i32_423
  let c1_i32_424 : BitVec 32 := 1#32
  let v1118 : BitVec 32 := Scalar.subi v1117 c1_i32_424
  let c0_i32_408 : BitVec 32 := 0#32
  let c1_i32_411 : BitVec 32 := 1#32
  let arg31 : BitVec 32 := Scf.iv c0_i32_408 c1_i32_411 k0_t1
  let c2_i32_425 : BitVec 32 := 2#32
  let v1119 : BitVec 32 := Scalar.muli arg31 c2_i32_425
  let v1120 : BitVec 32 := Scalar.subi v1118 v1119
  let c0_i32_426 : BitVec 32 := 0#32
  let v1121 : BitVec 32 := Scalar.subi v1120 c0_i32_426
  let c128_i32_427 : BitVec 32 := 128#32
  let v1122 : BitVec 32 := Scalar.muli v1121 c128_i32_427
  v1122
def k0_mult6 (i : grid0.Coords) (k0_t1 : Fin (k0_t1_loop i).trips) : BitVec 32 :=
  let arg1 : BitVec 32 := BitVec.ofNat 32 (i 1).val
  let c4_i32_423 : BitVec 32 := 4#32
  let v1117 : BitVec 32 := Scalar.muli arg1 c4_i32_423
  let c1_i32_424 : BitVec 32 := 1#32
  let v1118 : BitVec 32 := Scalar.subi v1117 c1_i32_424
  let c0_i32_408 : BitVec 32 := 0#32
  let c1_i32_411 : BitVec 32 := 1#32
  let arg31 : BitVec 32 := Scf.iv c0_i32_408 c1_i32_411 k0_t1
  let c2_i32_425 : BitVec 32 := 2#32
  let v1119 : BitVec 32 := Scalar.muli arg31 c2_i32_425
  let v1120 : BitVec 32 := Scalar.subi v1118 v1119
  let c1_i32_428 : BitVec 32 := 1#32
  let v1124 : BitVec 32 := Scalar.subi v1120 c1_i32_428
  let c128_i32_429 : BitVec 32 := 128#32
  let v1125 : BitVec 32 := Scalar.muli v1124 c128_i32_429
  v1125
def k0_off5 (i : grid0.Coords) (k0_t1 : Fin (k0_t1_loop i).trips) (c0_i32_426 : BitVec 32) : Fin 2 → Nat :=
  let arg1 : BitVec 32 := BitVec.ofNat 32 (i 1).val
  let c4_i32_423 : BitVec 32 := 4#32
  let v1117 : BitVec 32 := Scalar.muli arg1 c4_i32_423
  let c1_i32_424 : BitVec 32 := 1#32
  let v1118 : BitVec 32 := Scalar.subi v1117 c1_i32_424
  let c0_i32_408 : BitVec 32 := 0#32
  let c1_i32_411 : BitVec 32 := 1#32
  let arg31 : BitVec 32 := Scf.iv c0_i32_408 c1_i32_411 k0_t1
  let c2_i32_425 : BitVec 32 := 2#32
  let v1119 : BitVec 32 := Scalar.muli arg31 c2_i32_425
  let v1120 : BitVec 32 := Scalar.subi v1118 v1119
  let v1121 : BitVec 32 := Scalar.subi v1120 c0_i32_426
  let c128_i32_427 : BitVec 32 := 128#32
  let v1122 : BitVec 32 := Scalar.muli v1121 c128_i32_427
  let v1123 : BitVec 32 := v1122
  let v1127 : Index := Scalar.indexCast v1123
  let c0_430 : Index := 0#32
  ![v1127.toNat, 0]
def k0_off6 (i : grid0.Coords) (k0_t1 : Fin (k0_t1_loop i).trips) (c0_i32_426 : BitVec 32) : Fin 2 → Nat :=
  let arg1 : BitVec 32 := BitVec.ofNat 32 (i 1).val
  let c4_i32_423 : BitVec 32 := 4#32
  let v1117 : BitVec 32 := Scalar.muli arg1 c4_i32_423
  let c1_i32_424 : BitVec 32 := 1#32
  let v1118 : BitVec 32 := Scalar.subi v1117 c1_i32_424
  let c0_i32_408 : BitVec 32 := 0#32
  let c1_i32_411 : BitVec 32 := 1#32
  let arg31 : BitVec 32 := Scf.iv c0_i32_408 c1_i32_411 k0_t1
  let c2_i32_425 : BitVec 32 := 2#32
  let v1119 : BitVec 32 := Scalar.muli arg31 c2_i32_425
  let v1120 : BitVec 32 := Scalar.subi v1118 v1119
  let v1121 : BitVec 32 := Scalar.subi v1120 c0_i32_426
  let c128_i32_427 : BitVec 32 := 128#32
  let v1122 : BitVec 32 := Scalar.muli v1121 c128_i32_427
  let v1123 : BitVec 32 := v1122
  let v1143 : Index := Scalar.indexCast v1123
  let c0_434 : Index := 0#32
  ![v1143.toNat, 0]
def k0_off7 (i : grid0.Coords) (k0_t1 : Fin (k0_t1_loop i).trips) : Fin 2 → Nat :=
  let arg1 : BitVec 32 := BitVec.ofNat 32 (i 1).val
  let c4_i32_423 : BitVec 32 := 4#32
  let v1117 : BitVec 32 := Scalar.muli arg1 c4_i32_423
  let c1_i32_424 : BitVec 32 := 1#32
  let v1118 : BitVec 32 := Scalar.subi v1117 c1_i32_424
  let c0_i32_408 : BitVec 32 := 0#32
  let c1_i32_411 : BitVec 32 := 1#32
  let arg31 : BitVec 32 := Scf.iv c0_i32_408 c1_i32_411 k0_t1
  let c2_i32_425 : BitVec 32 := 2#32
  let v1119 : BitVec 32 := Scalar.muli arg31 c2_i32_425
  let v1120 : BitVec 32 := Scalar.subi v1118 v1119
  let c1_i32_428 : BitVec 32 := 1#32
  let v1124 : BitVec 32 := Scalar.subi v1120 c1_i32_428
  let c128_i32_429 : BitVec 32 := 128#32
  let v1125 : BitVec 32 := Scalar.muli v1124 c128_i32_429
  let v1126 : BitVec 32 := v1125
  let v1439 : Index := Scalar.indexCast v1126
  let c0_539 : Index := 0#32
  ![v1439.toNat, 0]
def k0_off8 (i : grid0.Coords) (k0_t1 : Fin (k0_t1_loop i).trips) : Fin 2 → Nat :=
  let arg1 : BitVec 32 := BitVec.ofNat 32 (i 1).val
  let c4_i32_423 : BitVec 32 := 4#32
  let v1117 : BitVec 32 := Scalar.muli arg1 c4_i32_423
  let c1_i32_424 : BitVec 32 := 1#32
  let v1118 : BitVec 32 := Scalar.subi v1117 c1_i32_424
  let c0_i32_408 : BitVec 32 := 0#32
  let c1_i32_411 : BitVec 32 := 1#32
  let arg31 : BitVec 32 := Scf.iv c0_i32_408 c1_i32_411 k0_t1
  let c2_i32_425 : BitVec 32 := 2#32
  let v1119 : BitVec 32 := Scalar.muli arg31 c2_i32_425
  let v1120 : BitVec 32 := Scalar.subi v1118 v1119
  let c1_i32_428 : BitVec 32 := 1#32
  let v1124 : BitVec 32 := Scalar.subi v1120 c1_i32_428
  let c128_i32_429 : BitVec 32 := 128#32
  let v1125 : BitVec 32 := Scalar.muli v1124 c128_i32_429
  let v1126 : BitVec 32 := v1125
  let v1450 : Index := Scalar.indexCast v1126
  let c0_542 : Index := 0#32
  ![v1450.toNat, 0]
@[reducible] def k0_t2_loop (i : grid0.Coords) : Scf.Loop 32 :=
  let c0_i32_408 : BitVec 32 := 0#32
  let arg1 : BitVec 32 := BitVec.ofNat 32 (i 1).val
  let c4_i32_401 : BitVec 32 := 4#32
  let v1083 : BitVec 32 := Scalar.muli arg1 c4_i32_401
  let c0_i32_402 : BitVec 32 := 0#32
  let v1085 : BitVec 1 := Scalar.cmpi .sgt v1083 c0_i32_402
  let v1086 : BitVec 32 := Scalar.extui v1085
  let c0_i32_403 : BitVec 32 := 0#32
  let v1087 : BitVec 1 := Scalar.cmpi .slt v1083 c0_i32_403
  let v1088 : BitVec 32 := Scalar.extui v1087
  let v1089 : BitVec 32 := Scalar.subi v1086 v1088
  let c2_i32 : BitVec 32 := 2#32
  let c0_i32_404 : BitVec 32 := 0#32
  let v1090 : BitVec 1 := Scalar.cmpi .sgt c2_i32 c0_i32_404
  let v1091 : BitVec 32 := Scalar.extui v1090
  let c0_i32_405 : BitVec 32 := 0#32
  let v1092 : BitVec 1 := Scalar.cmpi .slt c2_i32 c0_i32_405
  let v1093 : BitVec 32 := Scalar.extui v1092
  let v1094 : BitVec 32 := Scalar.subi v1091 v1093
  let v1095 : BitVec 1 := Scalar.cmpi .ne v1089 v1094
  let v1096 : BitVec 32 := Scalar.remsi v1083 c2_i32
  let c0_i32_406 : BitVec 32 := 0#32
  let v1097 : BitVec 1 := Scalar.cmpi .ne v1096 c0_i32_406
  let v1098 : BitVec 1 := Scalar.andi v1095 v1097
  let v1084 : BitVec 32 := Scalar.divsi v1083 c2_i32
  let c1_i32_407 : BitVec 32 := 1#32
  let v1099 : BitVec 32 := Scalar.subi v1084 c1_i32_407
  let v1100 : BitVec 32 := Scalar.select v1098 v1099 v1084
  let v1101 : BitVec 32 := Scalar.subi v1100 c0_i32_408
  let c1_i32_410 : BitVec 32 := 1#32
  let v1103 : BitVec 32 := Scalar.divsi v1101 c1_i32_410
  let v1104 : BitVec 32 := Scalar.muli v1103 c1_i32_410
  let v1105 : BitVec 32 := Scalar.addi c0_i32_408 v1104
  let v1102 : BitVec 32 := Scalar.addi c0_i32_408 v1101
  let c1_i32_412 : BitVec 32 := 1#32
  ⟨v1105, v1102, c1_i32_412⟩
def k0_mult7 (i : grid0.Coords) (k0_t2 : Fin (k0_t2_loop i).trips) : BitVec 32 :=
  let arg1 : BitVec 32 := BitVec.ofNat 32 (i 1).val
  let c4_i32_423 : BitVec 32 := 4#32
  let v1117 : BitVec 32 := Scalar.muli arg1 c4_i32_423
  let c1_i32_424 : BitVec 32 := 1#32
  let v1118 : BitVec 32 := Scalar.subi v1117 c1_i32_424
  let c0_i32_408 : BitVec 32 := 0#32
  let c4_i32_401 : BitVec 32 := 4#32
  let v1083 : BitVec 32 := Scalar.muli arg1 c4_i32_401
  let c0_i32_402 : BitVec 32 := 0#32
  let v1085 : BitVec 1 := Scalar.cmpi .sgt v1083 c0_i32_402
  let v1086 : BitVec 32 := Scalar.extui v1085
  let c0_i32_403 : BitVec 32 := 0#32
  let v1087 : BitVec 1 := Scalar.cmpi .slt v1083 c0_i32_403
  let v1088 : BitVec 32 := Scalar.extui v1087
  let v1089 : BitVec 32 := Scalar.subi v1086 v1088
  let c2_i32 : BitVec 32 := 2#32
  let c0_i32_404 : BitVec 32 := 0#32
  let v1090 : BitVec 1 := Scalar.cmpi .sgt c2_i32 c0_i32_404
  let v1091 : BitVec 32 := Scalar.extui v1090
  let c0_i32_405 : BitVec 32 := 0#32
  let v1092 : BitVec 1 := Scalar.cmpi .slt c2_i32 c0_i32_405
  let v1093 : BitVec 32 := Scalar.extui v1092
  let v1094 : BitVec 32 := Scalar.subi v1091 v1093
  let v1095 : BitVec 1 := Scalar.cmpi .ne v1089 v1094
  let v1096 : BitVec 32 := Scalar.remsi v1083 c2_i32
  let c0_i32_406 : BitVec 32 := 0#32
  let v1097 : BitVec 1 := Scalar.cmpi .ne v1096 c0_i32_406
  let v1098 : BitVec 1 := Scalar.andi v1095 v1097
  let v1084 : BitVec 32 := Scalar.divsi v1083 c2_i32
  let c1_i32_407 : BitVec 32 := 1#32
  let v1099 : BitVec 32 := Scalar.subi v1084 c1_i32_407
  let v1100 : BitVec 32 := Scalar.select v1098 v1099 v1084
  let v1101 : BitVec 32 := Scalar.subi v1100 c0_i32_408
  let c1_i32_410 : BitVec 32 := 1#32
  let v1103 : BitVec 32 := Scalar.divsi v1101 c1_i32_410
  let v1104 : BitVec 32 := Scalar.muli v1103 c1_i32_410
  let v1105 : BitVec 32 := Scalar.addi c0_i32_408 v1104
  let c1_i32_412 : BitVec 32 := 1#32
  let arg31 : BitVec 32 := Scf.iv v1105 c1_i32_412 k0_t2
  let c2_i32_425 : BitVec 32 := 2#32
  let v1119 : BitVec 32 := Scalar.muli arg31 c2_i32_425
  let v1120 : BitVec 32 := Scalar.subi v1118 v1119
  let c0_i32_426 : BitVec 32 := 0#32
  let v1121 : BitVec 32 := Scalar.subi v1120 c0_i32_426
  let c128_i32_427 : BitVec 32 := 128#32
  let v1122 : BitVec 32 := Scalar.muli v1121 c128_i32_427
  v1122
def k0_mult8 (i : grid0.Coords) (k0_t2 : Fin (k0_t2_loop i).trips) : BitVec 32 :=
  let arg1 : BitVec 32 := BitVec.ofNat 32 (i 1).val
  let c4_i32_423 : BitVec 32 := 4#32
  let v1117 : BitVec 32 := Scalar.muli arg1 c4_i32_423
  let c1_i32_424 : BitVec 32 := 1#32
  let v1118 : BitVec 32 := Scalar.subi v1117 c1_i32_424
  let c0_i32_408 : BitVec 32 := 0#32
  let c4_i32_401 : BitVec 32 := 4#32
  let v1083 : BitVec 32 := Scalar.muli arg1 c4_i32_401
  let c0_i32_402 : BitVec 32 := 0#32
  let v1085 : BitVec 1 := Scalar.cmpi .sgt v1083 c0_i32_402
  let v1086 : BitVec 32 := Scalar.extui v1085
  let c0_i32_403 : BitVec 32 := 0#32
  let v1087 : BitVec 1 := Scalar.cmpi .slt v1083 c0_i32_403
  let v1088 : BitVec 32 := Scalar.extui v1087
  let v1089 : BitVec 32 := Scalar.subi v1086 v1088
  let c2_i32 : BitVec 32 := 2#32
  let c0_i32_404 : BitVec 32 := 0#32
  let v1090 : BitVec 1 := Scalar.cmpi .sgt c2_i32 c0_i32_404
  let v1091 : BitVec 32 := Scalar.extui v1090
  let c0_i32_405 : BitVec 32 := 0#32
  let v1092 : BitVec 1 := Scalar.cmpi .slt c2_i32 c0_i32_405
  let v1093 : BitVec 32 := Scalar.extui v1092
  let v1094 : BitVec 32 := Scalar.subi v1091 v1093
  let v1095 : BitVec 1 := Scalar.cmpi .ne v1089 v1094
  let v1096 : BitVec 32 := Scalar.remsi v1083 c2_i32
  let c0_i32_406 : BitVec 32 := 0#32
  let v1097 : BitVec 1 := Scalar.cmpi .ne v1096 c0_i32_406
  let v1098 : BitVec 1 := Scalar.andi v1095 v1097
  let v1084 : BitVec 32 := Scalar.divsi v1083 c2_i32
  let c1_i32_407 : BitVec 32 := 1#32
  let v1099 : BitVec 32 := Scalar.subi v1084 c1_i32_407
  let v1100 : BitVec 32 := Scalar.select v1098 v1099 v1084
  let v1101 : BitVec 32 := Scalar.subi v1100 c0_i32_408
  let c1_i32_410 : BitVec 32 := 1#32
  let v1103 : BitVec 32 := Scalar.divsi v1101 c1_i32_410
  let v1104 : BitVec 32 := Scalar.muli v1103 c1_i32_410
  let v1105 : BitVec 32 := Scalar.addi c0_i32_408 v1104
  let c1_i32_412 : BitVec 32 := 1#32
  let arg31 : BitVec 32 := Scf.iv v1105 c1_i32_412 k0_t2
  let c2_i32_425 : BitVec 32 := 2#32
  let v1119 : BitVec 32 := Scalar.muli arg31 c2_i32_425
  let v1120 : BitVec 32 := Scalar.subi v1118 v1119
  let c1_i32_428 : BitVec 32 := 1#32
  let v1124 : BitVec 32 := Scalar.subi v1120 c1_i32_428
  let c128_i32_429 : BitVec 32 := 128#32
  let v1125 : BitVec 32 := Scalar.muli v1124 c128_i32_429
  v1125
def k0_off9 (i : grid0.Coords) (k0_t2 : Fin (k0_t2_loop i).trips) (c0_i32_426 : BitVec 32) : Fin 2 → Nat :=
  let arg1 : BitVec 32 := BitVec.ofNat 32 (i 1).val
  let c4_i32_423 : BitVec 32 := 4#32
  let v1117 : BitVec 32 := Scalar.muli arg1 c4_i32_423
  let c1_i32_424 : BitVec 32 := 1#32
  let v1118 : BitVec 32 := Scalar.subi v1117 c1_i32_424
  let c0_i32_408 : BitVec 32 := 0#32
  let c4_i32_401 : BitVec 32 := 4#32
  let v1083 : BitVec 32 := Scalar.muli arg1 c4_i32_401
  let c0_i32_402 : BitVec 32 := 0#32
  let v1085 : BitVec 1 := Scalar.cmpi .sgt v1083 c0_i32_402
  let v1086 : BitVec 32 := Scalar.extui v1085
  let c0_i32_403 : BitVec 32 := 0#32
  let v1087 : BitVec 1 := Scalar.cmpi .slt v1083 c0_i32_403
  let v1088 : BitVec 32 := Scalar.extui v1087
  let v1089 : BitVec 32 := Scalar.subi v1086 v1088
  let c2_i32 : BitVec 32 := 2#32
  let c0_i32_404 : BitVec 32 := 0#32
  let v1090 : BitVec 1 := Scalar.cmpi .sgt c2_i32 c0_i32_404
  let v1091 : BitVec 32 := Scalar.extui v1090
  let c0_i32_405 : BitVec 32 := 0#32
  let v1092 : BitVec 1 := Scalar.cmpi .slt c2_i32 c0_i32_405
  let v1093 : BitVec 32 := Scalar.extui v1092
  let v1094 : BitVec 32 := Scalar.subi v1091 v1093
  let v1095 : BitVec 1 := Scalar.cmpi .ne v1089 v1094
  let v1096 : BitVec 32 := Scalar.remsi v1083 c2_i32
  let c0_i32_406 : BitVec 32 := 0#32
  let v1097 : BitVec 1 := Scalar.cmpi .ne v1096 c0_i32_406
  let v1098 : BitVec 1 := Scalar.andi v1095 v1097
  let v1084 : BitVec 32 := Scalar.divsi v1083 c2_i32
  let c1_i32_407 : BitVec 32 := 1#32
  let v1099 : BitVec 32 := Scalar.subi v1084 c1_i32_407
  let v1100 : BitVec 32 := Scalar.select v1098 v1099 v1084
  let v1101 : BitVec 32 := Scalar.subi v1100 c0_i32_408
  let c1_i32_410 : BitVec 32 := 1#32
  let v1103 : BitVec 32 := Scalar.divsi v1101 c1_i32_410
  let v1104 : BitVec 32 := Scalar.muli v1103 c1_i32_410
  let v1105 : BitVec 32 := Scalar.addi c0_i32_408 v1104
  let c1_i32_412 : BitVec 32 := 1#32
  let arg31 : BitVec 32 := Scf.iv v1105 c1_i32_412 k0_t2
  let c2_i32_425 : BitVec 32 := 2#32
  let v1119 : BitVec 32 := Scalar.muli arg31 c2_i32_425
  let v1120 : BitVec 32 := Scalar.subi v1118 v1119
  let v1121 : BitVec 32 := Scalar.subi v1120 c0_i32_426
  let c128_i32_427 : BitVec 32 := 128#32
  let v1122 : BitVec 32 := Scalar.muli v1121 c128_i32_427
  let v1123 : BitVec 32 := v1122
  let v1127 : Index := Scalar.indexCast v1123
  let c0_430 : Index := 0#32
  ![v1127.toNat, 0]
def k0_off10 (i : grid0.Coords) (k0_t2 : Fin (k0_t2_loop i).trips) (c0_i32_426 : BitVec 32) : Fin 2 → Nat :=
  let arg1 : BitVec 32 := BitVec.ofNat 32 (i 1).val
  let c4_i32_423 : BitVec 32 := 4#32
  let v1117 : BitVec 32 := Scalar.muli arg1 c4_i32_423
  let c1_i32_424 : BitVec 32 := 1#32
  let v1118 : BitVec 32 := Scalar.subi v1117 c1_i32_424
  let c0_i32_408 : BitVec 32 := 0#32
  let c4_i32_401 : BitVec 32 := 4#32
  let v1083 : BitVec 32 := Scalar.muli arg1 c4_i32_401
  let c0_i32_402 : BitVec 32 := 0#32
  let v1085 : BitVec 1 := Scalar.cmpi .sgt v1083 c0_i32_402
  let v1086 : BitVec 32 := Scalar.extui v1085
  let c0_i32_403 : BitVec 32 := 0#32
  let v1087 : BitVec 1 := Scalar.cmpi .slt v1083 c0_i32_403
  let v1088 : BitVec 32 := Scalar.extui v1087
  let v1089 : BitVec 32 := Scalar.subi v1086 v1088
  let c2_i32 : BitVec 32 := 2#32
  let c0_i32_404 : BitVec 32 := 0#32
  let v1090 : BitVec 1 := Scalar.cmpi .sgt c2_i32 c0_i32_404
  let v1091 : BitVec 32 := Scalar.extui v1090
  let c0_i32_405 : BitVec 32 := 0#32
  let v1092 : BitVec 1 := Scalar.cmpi .slt c2_i32 c0_i32_405
  let v1093 : BitVec 32 := Scalar.extui v1092
  let v1094 : BitVec 32 := Scalar.subi v1091 v1093
  let v1095 : BitVec 1 := Scalar.cmpi .ne v1089 v1094
  let v1096 : BitVec 32 := Scalar.remsi v1083 c2_i32
  let c0_i32_406 : BitVec 32 := 0#32
  let v1097 : BitVec 1 := Scalar.cmpi .ne v1096 c0_i32_406
  let v1098 : BitVec 1 := Scalar.andi v1095 v1097
  let v1084 : BitVec 32 := Scalar.divsi v1083 c2_i32
  let c1_i32_407 : BitVec 32 := 1#32
  let v1099 : BitVec 32 := Scalar.subi v1084 c1_i32_407
  let v1100 : BitVec 32 := Scalar.select v1098 v1099 v1084
  let v1101 : BitVec 32 := Scalar.subi v1100 c0_i32_408
  let c1_i32_410 : BitVec 32 := 1#32
  let v1103 : BitVec 32 := Scalar.divsi v1101 c1_i32_410
  let v1104 : BitVec 32 := Scalar.muli v1103 c1_i32_410
  let v1105 : BitVec 32 := Scalar.addi c0_i32_408 v1104
  let c1_i32_412 : BitVec 32 := 1#32
  let arg31 : BitVec 32 := Scf.iv v1105 c1_i32_412 k0_t2
  let c2_i32_425 : BitVec 32 := 2#32
  let v1119 : BitVec 32 := Scalar.muli arg31 c2_i32_425
  let v1120 : BitVec 32 := Scalar.subi v1118 v1119
  let v1121 : BitVec 32 := Scalar.subi v1120 c0_i32_426
  let c128_i32_427 : BitVec 32 := 128#32
  let v1122 : BitVec 32 := Scalar.muli v1121 c128_i32_427
  let v1123 : BitVec 32 := v1122
  let v1143 : Index := Scalar.indexCast v1123
  let c0_434 : Index := 0#32
  ![v1143.toNat, 0]
def k0_off11 (i : grid0.Coords) (k0_t2 : Fin (k0_t2_loop i).trips) : Fin 2 → Nat :=
  let arg1 : BitVec 32 := BitVec.ofNat 32 (i 1).val
  let c4_i32_423 : BitVec 32 := 4#32
  let v1117 : BitVec 32 := Scalar.muli arg1 c4_i32_423
  let c1_i32_424 : BitVec 32 := 1#32
  let v1118 : BitVec 32 := Scalar.subi v1117 c1_i32_424
  let c0_i32_408 : BitVec 32 := 0#32
  let c4_i32_401 : BitVec 32 := 4#32
  let v1083 : BitVec 32 := Scalar.muli arg1 c4_i32_401
  let c0_i32_402 : BitVec 32 := 0#32
  let v1085 : BitVec 1 := Scalar.cmpi .sgt v1083 c0_i32_402
  let v1086 : BitVec 32 := Scalar.extui v1085
  let c0_i32_403 : BitVec 32 := 0#32
  let v1087 : BitVec 1 := Scalar.cmpi .slt v1083 c0_i32_403
  let v1088 : BitVec 32 := Scalar.extui v1087
  let v1089 : BitVec 32 := Scalar.subi v1086 v1088
  let c2_i32 : BitVec 32 := 2#32
  let c0_i32_404 : BitVec 32 := 0#32
  let v1090 : BitVec 1 := Scalar.cmpi .sgt c2_i32 c0_i32_404
  let v1091 : BitVec 32 := Scalar.extui v1090
  let c0_i32_405 : BitVec 32 := 0#32
  let v1092 : BitVec 1 := Scalar.cmpi .slt c2_i32 c0_i32_405
  let v1093 : BitVec 32 := Scalar.extui v1092
  let v1094 : BitVec 32 := Scalar.subi v1091 v1093
  let v1095 : BitVec 1 := Scalar.cmpi .ne v1089 v1094
  let v1096 : BitVec 32 := Scalar.remsi v1083 c2_i32
  let c0_i32_406 : BitVec 32 := 0#32
  let v1097 : BitVec 1 := Scalar.cmpi .ne v1096 c0_i32_406
  let v1098 : BitVec 1 := Scalar.andi v1095 v1097
  let v1084 : BitVec 32 := Scalar.divsi v1083 c2_i32
  let c1_i32_407 : BitVec 32 := 1#32
  let v1099 : BitVec 32 := Scalar.subi v1084 c1_i32_407
  let v1100 : BitVec 32 := Scalar.select v1098 v1099 v1084
  let v1101 : BitVec 32 := Scalar.subi v1100 c0_i32_408
  let c1_i32_410 : BitVec 32 := 1#32
  let v1103 : BitVec 32 := Scalar.divsi v1101 c1_i32_410
  let v1104 : BitVec 32 := Scalar.muli v1103 c1_i32_410
  let v1105 : BitVec 32 := Scalar.addi c0_i32_408 v1104
  let c1_i32_412 : BitVec 32 := 1#32
  let arg31 : BitVec 32 := Scf.iv v1105 c1_i32_412 k0_t2
  let c2_i32_425 : BitVec 32 := 2#32
  let v1119 : BitVec 32 := Scalar.muli arg31 c2_i32_425
  let v1120 : BitVec 32 := Scalar.subi v1118 v1119
  let c1_i32_428 : BitVec 32 := 1#32
  let v1124 : BitVec 32 := Scalar.subi v1120 c1_i32_428
  let c128_i32_429 : BitVec 32 := 128#32
  let v1125 : BitVec 32 := Scalar.muli v1124 c128_i32_429
  let v1126 : BitVec 32 := v1125
  let v1439 : Index := Scalar.indexCast v1126
  let c0_539 : Index := 0#32
  ![v1439.toNat, 0]
def k0_off12 (i : grid0.Coords) (k0_t2 : Fin (k0_t2_loop i).trips) : Fin 2 → Nat :=
  let arg1 : BitVec 32 := BitVec.ofNat 32 (i 1).val
  let c4_i32_423 : BitVec 32 := 4#32
  let v1117 : BitVec 32 := Scalar.muli arg1 c4_i32_423
  let c1_i32_424 : BitVec 32 := 1#32
  let v1118 : BitVec 32 := Scalar.subi v1117 c1_i32_424
  let c0_i32_408 : BitVec 32 := 0#32
  let c4_i32_401 : BitVec 32 := 4#32
  let v1083 : BitVec 32 := Scalar.muli arg1 c4_i32_401
  let c0_i32_402 : BitVec 32 := 0#32
  let v1085 : BitVec 1 := Scalar.cmpi .sgt v1083 c0_i32_402
  let v1086 : BitVec 32 := Scalar.extui v1085
  let c0_i32_403 : BitVec 32 := 0#32
  let v1087 : BitVec 1 := Scalar.cmpi .slt v1083 c0_i32_403
  let v1088 : BitVec 32 := Scalar.extui v1087
  let v1089 : BitVec 32 := Scalar.subi v1086 v1088
  let c2_i32 : BitVec 32 := 2#32
  let c0_i32_404 : BitVec 32 := 0#32
  let v1090 : BitVec 1 := Scalar.cmpi .sgt c2_i32 c0_i32_404
  let v1091 : BitVec 32 := Scalar.extui v1090
  let c0_i32_405 : BitVec 32 := 0#32
  let v1092 : BitVec 1 := Scalar.cmpi .slt c2_i32 c0_i32_405
  let v1093 : BitVec 32 := Scalar.extui v1092
  let v1094 : BitVec 32 := Scalar.subi v1091 v1093
  let v1095 : BitVec 1 := Scalar.cmpi .ne v1089 v1094
  let v1096 : BitVec 32 := Scalar.remsi v1083 c2_i32
  let c0_i32_406 : BitVec 32 := 0#32
  let v1097 : BitVec 1 := Scalar.cmpi .ne v1096 c0_i32_406
  let v1098 : BitVec 1 := Scalar.andi v1095 v1097
  let v1084 : BitVec 32 := Scalar.divsi v1083 c2_i32
  let c1_i32_407 : BitVec 32 := 1#32
  let v1099 : BitVec 32 := Scalar.subi v1084 c1_i32_407
  let v1100 : BitVec 32 := Scalar.select v1098 v1099 v1084
  let v1101 : BitVec 32 := Scalar.subi v1100 c0_i32_408
  let c1_i32_410 : BitVec 32 := 1#32
  let v1103 : BitVec 32 := Scalar.divsi v1101 c1_i32_410
  let v1104 : BitVec 32 := Scalar.muli v1103 c1_i32_410
  let v1105 : BitVec 32 := Scalar.addi c0_i32_408 v1104
  let c1_i32_412 : BitVec 32 := 1#32
  let arg31 : BitVec 32 := Scf.iv v1105 c1_i32_412 k0_t2
  let c2_i32_425 : BitVec 32 := 2#32
  let v1119 : BitVec 32 := Scalar.muli arg31 c2_i32_425
  let v1120 : BitVec 32 := Scalar.subi v1118 v1119
  let c1_i32_428 : BitVec 32 := 1#32
  let v1124 : BitVec 32 := Scalar.subi v1120 c1_i32_428
  let c128_i32_429 : BitVec 32 := 128#32
  let v1125 : BitVec 32 := Scalar.muli v1124 c128_i32_429
  let v1126 : BitVec 32 := v1125
  let v1450 : Index := Scalar.indexCast v1126
  let c0_542 : Index := 0#32
  ![v1450.toNat, 0]
def k0_cond2 (i : grid0.Coords) : BitVec 1 :=
  let arg1 : BitVec 32 := BitVec.ofNat 32 (i 1).val
  let c15_i32 : BitVec 32 := 15#32
  let v1114 : BitVec 1 := Scalar.cmpi .eq arg1 c15_i32
  let v1115 : BitVec 32 := Scalar.extui v1114
  let c0_i32_422 : BitVec 32 := 0#32
  let v1116 : BitVec 1 := Scalar.cmpi .ne v1115 c0_i32_422
  v1116

def k0_mult9 (i : grid0.Coords) : BitVec 32 :=
  let arg0 : BitVec 32 := BitVec.ofNat 32 (i 0).val
  let c128_i32_423 : BitVec 32 := 128#32
  let v1117 : BitVec 32 := Scalar.muli arg0 c128_i32_423
  v1117
def k0_mult10 (i : grid0.Coords) : BitVec 32 :=
  let arg0 : BitVec 32 := BitVec.ofNat 32 (i 0).val
  let c2_i32_424 : BitVec 32 := 2#32
  let v1119 : BitVec 32 := Scalar.muli arg0 c2_i32_424
  let c128_i32_425 : BitVec 32 := 128#32
  let v1120 : BitVec 32 := Scalar.muli v1119 c128_i32_425
  v1120
def k0_off13 (i : grid0.Coords) : Fin 2 → Nat :=
  let c0_i32_427 : BitVec 32 := 0#32
  let arg0 : BitVec 32 := BitVec.ofNat 32 (i 0).val
  let c128_i32_423 : BitVec 32 := 128#32
  let v1117 : BitVec 32 := Scalar.muli arg0 c128_i32_423
  let v1118 : BitVec 32 := v1117
  ![0, v1118.toNat]
def k0_off14 (i : grid0.Coords) : Fin 2 → Nat :=
  let c0_i32_431 : BitVec 32 := 0#32
  let arg0 : BitVec 32 := BitVec.ofNat 32 (i 0).val
  let c2_i32_424 : BitVec 32 := 2#32
  let v1119 : BitVec 32 := Scalar.muli arg0 c2_i32_424
  let c128_i32_425 : BitVec 32 := 128#32
  let v1120 : BitVec 32 := Scalar.muli v1119 c128_i32_425
  let v1121 : BitVec 32 := v1120
  ![0, v1121.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8192x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8192x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Kernel1.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S8x1024 : Shape := ⟨2, ![8, 1024]⟩
abbrev S256x1024 : Shape := ⟨2, ![256, 1024]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩
abbrev S32x8x1024 : Shape := ⟨3, ![32, 8, 1024]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 43
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S1024x5632, .bf16⟩
  | .hbm, ⟨36, _⟩ => ⟨S2816x1024, .bf16⟩
  | .hbm, ⟨37, _⟩ => ⟨S8192x1024, .f32⟩
  | .hbm, ⟨38, _⟩ => ⟨S8192x2816, .bf16⟩
  | .hbm, ⟨39, _⟩ => ⟨S8192x5632, .bf16⟩
  | .hbm, ⟨40, _⟩ => ⟨S8192x1024, .bf16⟩
  | .hbm, ⟨41, _⟩ => ⟨S8x1024, .f32⟩
  | .hbm, ⟨42, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S256x1024, .f32⟩
  | .local _ .vmem, ⟨11, _⟩ => ⟨S256x1024, .f32⟩
  | .local _ .vmem, ⟨12, _⟩ => ⟨S256x2816, .bf16⟩
  | .local _ .vmem, ⟨13, _⟩ => ⟨S256x2816, .bf16⟩
  | .local _ .vmem, ⟨14, _⟩ => ⟨S256x5632, .bf16⟩
  | .local _ .vmem, ⟨15, _⟩ => ⟨S256x5632, .bf16⟩
  | .local _ .vmem, ⟨16, _⟩ => ⟨S256x1024, .bf16⟩
  | .local _ .vmem, ⟨17, _⟩ => ⟨S256x1024, .bf16⟩
  | .local _ .vmem, ⟨18, _⟩ => ⟨S8x1024, .f32⟩
  | .local _ .vmem, ⟨19, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_v20_2 : Ref sig .tc := ⟨.hbm, 39, rfl⟩
abbrev main_v20_3 : Ref sig .tc := ⟨.hbm, 40, rfl⟩
abbrev main_v20_4 : Ref sig .tc := ⟨.hbm, 41, rfl⟩
abbrev main_v20_5 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference1Ideal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024 : Shape := ⟨1, ![1024]⟩

abbrev nBuf : Space → Nat
  | .hbm => 121
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x2816, .f32⟩
  | .hbm, ⟨86, _⟩ => ⟨S8192x2816, .f32⟩
  | .hbm, ⟨87, _⟩ => ⟨S8192x2816, .f32⟩
  | .hbm, ⟨88, _⟩ => ⟨S8192x2816, .f32⟩
  | .hbm, ⟨89, _⟩ => ⟨S8192x2816, .f32⟩
  | .hbm, ⟨90, _⟩ => ⟨S8192x2816, .f32⟩
  | .hbm, ⟨91, _⟩ => ⟨S8192x2816, .f32⟩
  | .hbm, ⟨92, _⟩ => ⟨S8192x5632, .f32⟩
  | .hbm, ⟨93, _⟩ => ⟨S8192x1024, .f32⟩
  | .hbm, ⟨94, _⟩ => ⟨S8192x1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S_, .f32⟩
  | .hbm, ⟨102, _⟩ => ⟨S8192, .f32⟩
  | .hbm, ⟨103, _⟩ => ⟨S8192x1, .f32⟩
  | .hbm, ⟨104, _⟩ => ⟨S8192x1024, .f32⟩
  | .hbm, ⟨105, _⟩ => ⟨S8192x1024, .f32⟩
  | .hbm, ⟨106, _⟩ => ⟨S8192x1, .f32⟩
  | .hbm, ⟨107, _⟩ => ⟨S_, .f32⟩
  | .hbm, ⟨108, _⟩ => ⟨S8192x1, .f32⟩
  | .hbm, ⟨109, _⟩ => ⟨S8192x1, .f32⟩
  | .hbm, ⟨110, _⟩ => ⟨S_, .f32⟩
  | .hbm, ⟨111, _⟩ => ⟨S8192, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S8192x1024, .f32⟩
  | .hbm, ⟨118, _⟩ => ⟨S8192x2816, .bf16⟩
  | .hbm, ⟨119, _⟩ => ⟨S8192x5632, .bf16⟩
  | .hbm, ⟨120, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_11 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_13 : Ref sig .tc := ⟨.hbm, 107, rfl⟩
abbrev main_v72 : Ref sig .tc := ⟨.hbm, 108, rfl⟩
abbrev main_v73 : Ref sig .tc := ⟨.hbm, 109, rfl⟩
abbrev main_cst_14 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩

abbrev nD : Nat := 1
abbrev τ : Topo := Topo.v7x

variable {F : FTy → Type} [FloatOps F]
-- ==== Kernel2.lean ====
abbrev S8192x1024 : Shape := ⟨2, ![8192, 1024]⟩
abbrev S8192x512 : Shape := ⟨2, ![8192, 512]⟩
abbrev S8192x2048 : Shape := ⟨2, ![8192, 2048]⟩
abbrev S1x2048 : Shape := ⟨2, ![1, 2048]⟩
abbrev S1x1024 : Shape := ⟨2, ![1, 1024]⟩
abbrev S512x1024 : Shape := ⟨2, ![512, 1024]⟩
abbrev S1024x1024 : Shape := ⟨2, ![1024, 1024]⟩
abbrev S_ : Shape := ⟨0, ![]⟩
abbrev S8x1024 : Shape := ⟨2, ![8, 1024]⟩
abbrev S8x2048 : Shape := ⟨2, ![8, 2048]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S32x8x1024 : Shape := ⟨3, ![32, 8, 1024]⟩

abbrev nBuf : Space → Nat
  | .hbm => 38
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x2048, .f32⟩
  | .hbm, ⟨4, _⟩ => ⟨S1x2048, .f32⟩
  | .hbm, ⟨5, _⟩ => ⟨S1x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S512x1024, .bf16⟩
  | .hbm, ⟨28, _⟩ => ⟨S512x1024, .bf16⟩
  | .hbm, ⟨29, _⟩ => ⟨S1024x1024, .bf16⟩
  | .hbm, ⟨30, _⟩ => ⟨S8192x1024, .bf16⟩
  | .hbm, ⟨31, _⟩ => ⟨S8192x1024, .bf16⟩
  | .hbm, ⟨32, _⟩ => ⟨S8192x1024, .bf16⟩
  | .hbm, ⟨33, _⟩ => ⟨S8192x2048, .bf16⟩
  | .hbm, ⟨34, _⟩ => ⟨S8192x512, .bf16⟩
  | .hbm, ⟨35, _⟩ => ⟨S8192x512, .bf16⟩
  | .hbm, ⟨36, _⟩ => ⟨S8x1024, .f32⟩
  | .hbm, ⟨37, _⟩ => ⟨S8x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x2048, .bf16⟩
  | .local _ .vmem, ⟨22, _⟩ => ⟨S256x2048, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S8x1024, .f32⟩
  | .local _ .vmem, ⟨28, _⟩ => ⟨S8x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v19_4 : Ref sig .tc := ⟨.hbm, 34, rfl⟩
abbrev main_v19_5 : Ref sig .tc := ⟨.hbm, 35, rfl⟩
abbrev main_v19_6 : Ref sig .tc := ⟨.hbm, 36, rfl⟩
abbrev main_v19_7 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference2Ideal.lean ====
abbrev S8192x1024 : Shape := ⟨2, ![8192, 1024]⟩
abbrev S8192x512 : Shape := ⟨2, ![8192, 512]⟩
abbrev S8192x2048 : Shape := ⟨2, ![8192, 2048]⟩
abbrev S1x2048 : Shape := ⟨2, ![1, 2048]⟩
abbrev S1x1024 : Shape := ⟨2, ![1, 1024]⟩
abbrev S512x1024 : Shape := ⟨2, ![512, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S2048 : Shape := ⟨1, ![2048]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x2048, .f32⟩
  | .hbm, ⟨4, _⟩ => ⟨S1x2048, .f32⟩
  | .hbm, ⟨5, _⟩ => ⟨S1x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192x2048, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S_, .f32⟩
  | .hbm, ⟨85, _⟩ => ⟨S2048, .f32⟩
  | .hbm, ⟨86, _⟩ => ⟨S1x2048, .f32⟩
  | .hbm, ⟨87, _⟩ => ⟨S8192x512, .f32⟩
  | .hbm, ⟨88, _⟩ => ⟨S8192x512, .f32⟩
  | .hbm, ⟨89, _⟩ => ⟨S8192x1024, .bf16⟩
  | .hbm, ⟨90, _⟩ => ⟨S8192x1024, .bf16⟩
  | .hbm, ⟨91, _⟩ => ⟨S8192x1024, .bf16⟩
  | .hbm, ⟨92, _⟩ => ⟨S8192x2048, .bf16⟩
  | .hbm, ⟨93, _⟩ => ⟨S8192x512, .bf16⟩
  | .hbm, ⟨94, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩

abbrev nD : Nat := 1
abbrev τ : Topo := Topo.v7x

variable {F : FTy → Type} [FloatOps F]
-- ==== Kernel3.lean ====
abbrev S8192x1024 : Shape := ⟨2, ![8192, 1024]⟩
abbrev S8192x512 : Shape := ⟨2, ![8192, 512]⟩
abbrev S8192x384 : Shape := ⟨2, ![8192, 384]⟩
abbrev S8192x256 : Shape := ⟨2, ![8192, 256]⟩
abbrev S8192x32 : Shape := ⟨2, ![8192, 32]⟩
abbrev S8192x2048 : Shape := ⟨2, ![8192, 2048]⟩
abbrev S1x1024 : Shape := ⟨2, ![1, 1024]⟩
abbrev S1024x4256 : Shape := ⟨2, ![1024, 4256]⟩
abbrev S4256x1024 : Shape := ⟨2, ![4256, 1024]⟩
abbrev S2176x1024 : Shape := ⟨2, ![2176, 1024]⟩
abbrev S_ : Shape := ⟨0, ![]⟩
abbrev S64x1024 : Shape := ⟨2, ![64, 1024]⟩
abbrev S32x1024 : Shape := ⟨2, ![32, 1024]⟩
abbrev S2048x1024 : Shape := ⟨2, ![2048, 1024]⟩
abbrev S4352x1024 : Shape := ⟨2, ![4352, 1024]⟩
abbrev S1024x4352 : Shape := ⟨2, ![1024, 4352]⟩
abbrev S8192x64 : Shape := ⟨2, ![8192, 64]⟩
abbrev S8192x768 : Shape := ⟨2, ![8192, 768]⟩
abbrev S8192x4352 : Shape := ⟨2, ![8192, 4352]⟩
abbrev S8x1024 : Shape := ⟨2, ![8, 1024]⟩
abbrev S512x1024 : Shape := ⟨2, ![512, 1024]⟩
abbrev S512x512 : Shape := ⟨2, ![512, 512]⟩
abbrev S512x768 : Shape := ⟨2, ![512, 768]⟩
abbrev S512x2048 : Shape := ⟨2, ![512, 2048]⟩
abbrev S512x4352 : Shape := ⟨2, ![512, 4352]⟩
abbrev S512x2176 : Shape := ⟨2, ![512, 2176]⟩
abbrev S1024x2176 : Shape := ⟨2, ![1024, 2176]⟩
abbrev S512 : Shape := ⟨1, ![512]⟩
abbrev S512x1 : Shape := ⟨2, ![512, 1]⟩
abbrev S64x8x1024 : Shape := ⟨3, ![64, 8, 1024]⟩

abbrev nBuf : Space → Nat
  | .hbm => 34
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x384, .f32⟩
  | .hbm, ⟨6, _⟩ => ⟨S8192x256, .f32⟩
  | .hbm, ⟨7, _⟩ => ⟨S8192x32, .f32⟩
  | .hbm, ⟨8, _⟩ => ⟨S8192x2048, .f32⟩
  | .hbm, ⟨9, _⟩ => ⟨S1x1024, .f32⟩
  | .hbm, ⟨10, _⟩ => ⟨S1024x4256, .f32⟩
  | .hbm, ⟨11, _⟩ => ⟨S4256x1024, .f32⟩
  | .hbm, ⟨12, _⟩ => ⟨S4256x1024, .bf16⟩
  | .hbm, ⟨13, _⟩ => ⟨S2176x1024, .bf16⟩
  | .hbm, ⟨14, _⟩ => ⟨S_, .bf16⟩
  | .hbm, ⟨15, _⟩ => ⟨S64x1024, .bf16⟩
  | .hbm, ⟨16, _⟩ => ⟨S32x1024, .bf16⟩
  | .hbm, ⟨17, _⟩ => ⟨S_, .bf16⟩
  | .hbm, ⟨18, _⟩ => ⟨S32x1024, .bf16⟩
  | .hbm, ⟨19, _⟩ => ⟨S2048x1024, .bf16⟩
  | .hbm, ⟨20, _⟩ => ⟨S4352x1024, .bf16⟩
  | .hbm, ⟨21, _⟩ => ⟨S1024x4352, .bf16⟩
  | .hbm, ⟨22, _⟩ => ⟨S8192x384, .bf16⟩
  | .hbm, ⟨23, _⟩ => ⟨S8192x256, .bf16⟩
  | .hbm, ⟨24, _⟩ => ⟨S_, .bf16⟩
  | .hbm, ⟨25, _⟩ => ⟨S8192x64, .bf16⟩
  | .hbm, ⟨26, _⟩ => ⟨S8192x32, .bf16⟩
  | .hbm, ⟨27, _⟩ => ⟨S_, .bf16⟩
  | .hbm, ⟨28, _⟩ => ⟨S8192x32, .bf16⟩
  | .hbm, ⟨29, _⟩ => ⟨S8192x768, .bf16⟩
  | .hbm, ⟨30, _⟩ => ⟨S8192x2048, .bf16⟩
  | .hbm, ⟨31, _⟩ => ⟨S8192x1024, .f32⟩
  | .hbm, ⟨32, _⟩ => ⟨S8192x4352, .bf16⟩
  | .hbm, ⟨33, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x768, .bf16⟩
  | .local _ .vmem, ⟨11, _⟩ => ⟨S512x768, .bf16⟩
  | .local _ .vmem, ⟨12, _⟩ => ⟨S512x2048, .bf16⟩
  | .local _ .vmem, ⟨13, _⟩ => ⟨S512x2048, .bf16⟩
  | .local _ .vmem, ⟨14, _⟩ => ⟨S1x1024, .f32⟩
  | .local _ .vmem, ⟨15, _⟩ => ⟨S1024x4352, .bf16⟩
  | .local _ .vmem, ⟨16, _⟩ => ⟨S512x1024, .f32⟩
  | .local _ .vmem, ⟨17, _⟩ => ⟨S512x1024, .f32⟩
  | .local _ .vmem, ⟨18, _⟩ => ⟨S512x4352, .bf16⟩
  | .local _ .vmem, ⟨19, _⟩ => ⟨S512x4352, .bf16⟩
  | .local _ .vmem, ⟨20, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4352 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x4352 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S8192x1024 : Shape := ⟨2, ![8192, 1024]⟩
abbrev S8192x512 : Shape := ⟨2, ![8192, 512]⟩
abbrev S8192x384 : Shape := ⟨2, ![8192, 384]⟩
abbrev S8192x256 : Shape := ⟨2, ![8192, 256]⟩
abbrev S8192x32 : Shape := ⟨2, ![8192, 32]⟩
abbrev S8192x2048 : Shape := ⟨2, ![8192, 2048]⟩
abbrev S1x1024 : Shape := ⟨2, ![1, 1024]⟩
abbrev S1024x4256 : Shape := ⟨2, ![1024, 4256]⟩
abbrev S_ : Shape := ⟨0, ![]⟩
abbrev S8192 : Shape := ⟨1, ![8192]⟩
abbrev S8192x1 : Shape := ⟨2, ![8192, 1]⟩
abbrev S8192x4256 : Shape := ⟨2, ![8192, 4256]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x384, .f32⟩
  | .hbm, ⟨6, _⟩ => ⟨S8192x256, .f32⟩
  | .hbm, ⟨7, _⟩ => ⟨S8192x32, .f32⟩
  | .hbm, ⟨8, _⟩ => ⟨S8192x2048, .f32⟩
  | .hbm, ⟨9, _⟩ => ⟨S1x1024, .f32⟩
  | .hbm, ⟨10, _⟩ => ⟨S1024x4256, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x4256, .f32⟩
  | .hbm, ⟨31, _⟩ => ⟨S8192x4256, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== Kernel4.lean ====
abbrev S8192x1024 : Shape := ⟨2, ![8192, 1024]⟩
abbrev S8192x5632 : Shape := ⟨2, ![8192, 5632]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | .hbm, ⟨10, _⟩ => ⟨S5632x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S8192x4352 : Shape := ⟨2, ![8192, 4352]⟩
abbrev S4352x1024 : Shape := ⟨2, ![4352, 1024]⟩
abbrev S1024x2176 : Shape := ⟨2, ![1024, 2176]⟩
abbrev S1024x1024 : Shape := ⟨2, ![1024, 1024]⟩
abbrev S2176x1024 : Shape := ⟨2, ![2176, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4352, .bf16⟩
  | .hbm, ⟨2, _⟩ => ⟨S4352x1024, .bf16⟩
  | .local _ .vmem, ⟨0, _⟩ => ⟨S1024x2176, .bf16⟩
  | .local _ .vmem, ⟨1, _⟩ => ⟨S1024x2176, .bf16⟩
  | .local _ .vmem, ⟨2, _⟩ => ⟨S1024x1024, .bf16⟩
  | .local _ .vmem, ⟨3, _⟩ => ⟨S1024x1024, .bf16⟩
  | .local _ .vmem, ⟨4, _⟩ => ⟨S2176x1024, .bf16⟩
  | .local _ .vmem, ⟨5, _⟩ => ⟨S2176x1024, .bf16⟩
  | .local _ .vmem, ⟨6, _⟩ => ⟨S2176x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x4352 : Shape := ⟨2, ![8192, 4352]⟩
abbrev S_ : Shape := ⟨0, ![]⟩
abbrev S1024x4352 : Shape := ⟨2, ![1024, 4352]⟩
abbrev S4352x1024 : Shape := ⟨2, ![4352, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4352, .bf16⟩
  | .hbm, ⟨2, _⟩ => ⟨S_, .f32⟩
  | .hbm, ⟨3, _⟩ => ⟨S1024x4352, .f32⟩
  | .hbm, ⟨4, _⟩ => ⟨S8192x1024, .f32⟩
  | .hbm, ⟨5, _⟩ => ⟨S8192x4352, .f32⟩
  | .hbm, ⟨6, _⟩ => ⟨S8192x4352, .f32⟩
  | .hbm, ⟨7, _⟩ => ⟨S4352x1024, .f32⟩
  | .hbm, ⟨8, _⟩ => ⟨S1024x4352, .f32⟩
  | .hbm, ⟨9, _⟩ => ⟨S1024x4352, .bf16⟩
  | .hbm, ⟨10, _⟩ => ⟨S4352x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x512 : Shape := ⟨2, ![8192, 512]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S1024x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S8192x384 : Shape := ⟨2, ![8192, 384]⟩
abbrev S8192x1024 : Shape := ⟨2, ![8192, 1024]⟩
abbrev S1024x384 : Shape := ⟨2, ![1024, 384]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x384, .bf16⟩
  | .hbm, ⟨1, _⟩ => ⟨S8192x1024, .bf16⟩
  | .hbm, ⟨2, _⟩ => ⟨S1024x384, .bf16⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .bf16⟩
  | .local _ .vmem, ⟨5, _⟩ => ⟨S1024x384, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8192x384 : Shape := ⟨2, ![8192, 384]⟩
abbrev S8192x1024 : Shape := ⟨2, ![8192, 1024]⟩
abbrev S_ : Shape := ⟨0, ![]⟩
abbrev S384x1024 : Shape := ⟨2, ![384, 1024]⟩
abbrev S1024x384 : Shape := ⟨2, ![1024, 384]⟩

abbrev nBuf : Space → Nat
  | .hbm => 11
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S8192x1024, .bf16⟩
  | .hbm, ⟨2, _⟩ => ⟨S_, .f32⟩
  | .hbm, ⟨3, _⟩ => ⟨S384x1024, .f32⟩
  | .hbm, ⟨4, _⟩ => ⟨S8192x384, .f32⟩
  | .hbm, ⟨5, _⟩ => ⟨S8192x1024, .f32⟩
  | .hbm, ⟨6, _⟩ => ⟨S8192x1024, .f32⟩
  | .hbm, ⟨7, _⟩ => ⟨S1024x384, .f32⟩
  | .hbm, ⟨8, _⟩ => ⟨S384x1024, .f32⟩
  | .hbm, ⟨9, _⟩ => ⟨S384x1024, .bf16⟩
  | .hbm, ⟨10, _⟩ => ⟨S1024x384, .bf16⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S8192x256 : Shape := ⟨2, ![8192, 256]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | .hbm, ⟨9, _⟩ => ⟨S256x1024, .bf16⟩
  | .hbm, ⟨10, _⟩ => ⟨S1024x256, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel14.lean ====
abbrev S8192x256 : Shape := ⟨2, ![8192, 256]⟩
abbrev S8192x512 : Shape := ⟨2, ![8192, 512]⟩
abbrev S512x256 : Shape := ⟨2, ![512, 256]⟩
abbrev S1024x512 : Shape := ⟨2, ![1024, 512]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x512, .bf16⟩
  | .hbm, ⟨2, _⟩ => ⟨S512x256, .bf16⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S512x256, .bf16⟩
  | .local _ .vmem, ⟨5, _⟩ => ⟨S512x256, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x256 : Shape := ⟨2, ![8192, 256]⟩
abbrev S8192x512 : Shape := ⟨2, ![8192, 512]⟩
abbrev S_ : Shape := ⟨0, ![]⟩
abbrev S256x512 : Shape := ⟨2, ![256, 512]⟩
abbrev S512x256 : Shape := ⟨2, ![512, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x512, .bf16⟩
  | .hbm, ⟨2, _⟩ => ⟨S_, .f32⟩
  | .hbm, ⟨3, _⟩ => ⟨S256x512, .f32⟩
  | .hbm, ⟨4, _⟩ => ⟨S8192x256, .f32⟩
  | .hbm, ⟨5, _⟩ => ⟨S8192x512, .f32⟩
  | .hbm, ⟨6, _⟩ => ⟨S8192x512, .f32⟩
  | .hbm, ⟨7, _⟩ => ⟨S512x256, .f32⟩
  | .hbm, ⟨8, _⟩ => ⟨S256x512, .f32⟩
  | .hbm, ⟨9, _⟩ => ⟨S256x512, .bf16⟩
  | .hbm, ⟨10, _⟩ => ⟨S512x256, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩
abbrev S64x8x1024 : Shape := ⟨3, ![64, 8, 1024]⟩
abbrev S8x1024 : Shape := ⟨2, ![8, 1024]⟩

abbrev nBuf : Space → Nat
  | .hbm => 12
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S2816x1024, .f32⟩
  | .hbm, ⟨6, _⟩ => ⟨S1024x5632, .bf16⟩
  | .hbm, ⟨7, _⟩ => ⟨S2816x1024, .bf16⟩
  | .hbm, ⟨8, _⟩ => ⟨S8192x1024, .f32⟩
  | .hbm, ⟨9, _⟩ => ⟨S8192x1024, .f32⟩
  | .hbm, ⟨10, _⟩ => ⟨S8192x1024, .bf16⟩
  | .hbm, ⟨11, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference9Ideal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_cst_10 : Ref sig .tc := ⟨.hbm, 65, rfl⟩
abbrev main_cst_11 : Ref sig .tc := ⟨.hbm, 66, rfl⟩
abbrev main_v40 : Ref sig .tc := ⟨.hbm, 67, rfl⟩
abbrev main_v41 : Ref sig .tc := ⟨.hbm, 68, rfl⟩
abbrev main_cst_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S1024x4256 : Shape := ⟨2, ![1024, 4256]⟩
abbrev S4256x1024 : Shape := ⟨2, ![4256, 1024]⟩
abbrev S2176x1024 : Shape := ⟨2, ![2176, 1024]⟩
abbrev S_ : Shape := ⟨0, ![]⟩
abbrev S64x1024 : Shape := ⟨2, ![64, 1024]⟩
abbrev S32x1024 : Shape := ⟨2, ![32, 1024]⟩
abbrev S2048x1024 : Shape := ⟨2, ![2048, 1024]⟩
abbrev S4352x1024 : Shape := ⟨2, ![4352, 1024]⟩
abbrev S1024x4352 : Shape := ⟨2, ![1024, 4352]⟩
abbrev S8192x1536 : Shape := ⟨2, ![8192, 1536]⟩
abbrev S8192x384 : Shape := ⟨2, ![8192, 384]⟩
abbrev S8192x256 : Shape := ⟨2, ![8192, 256]⟩
abbrev S8192x128 : Shape := ⟨2, ![8192, 128]⟩
abbrev S8192x2048 : Shape := ⟨2, ![8192, 2048]⟩
abbrev S512x1024 : Shape := ⟨2, ![512, 1024]⟩
abbrev S512x1536 : Shape := ⟨2, ![512, 1536]⟩
abbrev S512x384 : Shape := ⟨2, ![512, 384]⟩
abbrev S512x256 : Shape := ⟨2, ![512, 256]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x384 : Shape := ⟨2, ![1024, 384]⟩
abbrev S1024x256 : Shape := ⟨2, ![1024, 256]⟩
abbrev S1024x128 : Shape := ⟨2, ![1024, 128]⟩

abbrev nBuf : Space → Nat
  | .hbm => 20
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4256, .f32⟩
  | .hbm, ⟨3, _⟩ => ⟨S4256x1024, .f32⟩
  | .hbm, ⟨4, _⟩ => ⟨S4256x1024, .bf16⟩
  | .hbm, ⟨5, _⟩ => ⟨S2176x1024, .bf16⟩
  | .hbm, ⟨6, _⟩ => ⟨S_, .bf16⟩
  | .hbm, ⟨7, _⟩ => ⟨S64x1024, .bf16⟩
  | .hbm, ⟨8, _⟩ => ⟨S32x1024, .bf16⟩
  | .hbm, ⟨9, _⟩ => ⟨S_, .bf16⟩
  | .hbm, ⟨10, _⟩ => ⟨S32x1024, .bf16⟩
  | .hbm, ⟨11, _⟩ => ⟨S2048x1024, .bf16⟩
  | .hbm, ⟨12, _⟩ => ⟨S4352x1024, .bf16⟩
  | .hbm, ⟨13, _⟩ => ⟨S1024x4352, .bf16⟩
  | .hbm, ⟨14, _⟩ => ⟨S8192x1536, .bf16⟩
  | .hbm, ⟨15, _⟩ => ⟨S8192x384, .f32⟩
  | .hbm, ⟨16, _⟩ => ⟨S8192x256, .f32⟩
  | .hbm, ⟨17, _⟩ => ⟨S8192x128, .f32⟩
  | .hbm, ⟨18, _⟩ => ⟨S8192x2048, .f32⟩
  | .hbm, ⟨19, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4352, .bf16⟩
  | .local _ .vmem, ⟨4, _⟩ => ⟨S512x1536, .bf16⟩
  | .local _ .vmem, ⟨5, _⟩ => ⟨S512x1536, .bf16⟩
  | .local _ .vmem, ⟨6, _⟩ => ⟨S512x384, .f32⟩
  | .local _ .vmem, ⟨7, _⟩ => ⟨S512x384, .f32⟩
  | .local _ .vmem, ⟨8, _⟩ => ⟨S512x256, .f32⟩
  | .local _ .vmem, ⟨9, _⟩ => ⟨S512x256, .f32⟩
  | .local _ .vmem, ⟨10, _⟩ => ⟨S512x128, .f32⟩
  | .local _ .vmem, ⟨11, _⟩ => ⟨S512x128, .f32⟩
  | .local _ .vmem, ⟨12, _⟩ => ⟨S512x2048, .f32⟩
  | .local _ .vmem, ⟨13, _⟩ => ⟨S512x2048, .f32⟩
  | .local _ .vmem, ⟨14, _⟩ => ⟨S512x1024, .bf16⟩
  | .local _ .vmem, ⟨15, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v9_4 : Ref sig .tc := ⟨.hbm, 18, rfl⟩
abbrev main_v9_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S8192x1024 : Shape := ⟨2, ![8192, 1024]⟩
abbrev S1x1024 : Shape := ⟨2, ![1, 1024]⟩
abbrev S1024x4256 : Shape := ⟨2, ![1024, 4256]⟩
abbrev S_ : Shape := ⟨0, ![]⟩
abbrev S8192 : Shape := ⟨1, ![8192]⟩
abbrev S8192x1 : Shape := ⟨2, ![8192, 1]⟩
abbrev S8192x4256 : Shape := ⟨2, ![8192, 4256]⟩
abbrev S8192x1536 : Shape := ⟨2, ![8192, 1536]⟩
abbrev S8192x384 : Shape := ⟨2, ![8192, 384]⟩
abbrev S8192x256 : Shape := ⟨2, ![8192, 256]⟩
abbrev S8192x32 : Shape := ⟨2, ![8192, 32]⟩
abbrev S8192x2048 : Shape := ⟨2, ![8192, 2048]⟩
abbrev S8192x128 : Shape := ⟨2, ![8192, 128]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4256, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x4256, .f32⟩
  | .hbm, ⟨19, _⟩ => ⟨S8192x1536, .f32⟩
  | .hbm, ⟨20, _⟩ => ⟨S8192x384, .f32⟩
  | .hbm, ⟨21, _⟩ => ⟨S8192x256, .f32⟩
  | .hbm, ⟨22, _⟩ => ⟨S8192x32, .f32⟩
  | .hbm, ⟨23, _⟩ => ⟨S8192x2048, .f32⟩
  | .hbm, ⟨24, _⟩ => ⟨S8192x1536, .bf16⟩
  | .hbm, ⟨25, _⟩ => ⟨S_, .i32⟩
  | .hbm, ⟨26, _⟩ => ⟨S_, .f32⟩
  | .hbm, ⟨27, _⟩ => ⟨S8192x128, .f32⟩
  | .hbm, ⟨28, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel11.lean ====
abbrev S8192x512 : Shape := ⟨2, ![8192, 512]⟩
abbrev S8192x2048 : Shape := ⟨2, ![8192, 2048]⟩
abbrev S8192x1024 : Shape := ⟨2, ![8192, 1024]⟩
abbrev S1x2048 : Shape := ⟨2, ![1, 2048]⟩
abbrev S1x1024 : Shape := ⟨2, ![1, 1024]⟩
abbrev S512x1024 : Shape := ⟨2, ![512, 1024]⟩
abbrev S1024x1024 : Shape := ⟨2, ![1024, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 23
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x2048, .f32⟩
  | .hbm, ⟨3, _⟩ => ⟨S8192x1024, .f32⟩
  | .hbm, ⟨4, _⟩ => ⟨S1x2048, .f32⟩
  | .hbm, ⟨5, _⟩ => ⟨S1x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S8192x1024, .f32⟩
  | .hbm, ⟨13, _⟩ => ⟨S8192x1024, .f32⟩
  | .hbm, ⟨14, _⟩ => ⟨S8192x1024, .bf16⟩
  | .hbm, ⟨15, _⟩ => ⟨S8192x512, .bf16⟩
  | .hbm, ⟨16, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x2048, .f32⟩
  | .local _ .vmem, ⟨5, _⟩ => ⟨S512x2048, .f32⟩
  | .local _ .vmem, ⟨6, _⟩ => ⟨S512x1024, .f32⟩
  | .local _ .vmem, ⟨7, _⟩ => ⟨S512x1024, .f32⟩
  | .local _ .vmem, ⟨8, _⟩ => ⟨S1x2048, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference11Ideal.lean ====
abbrev S8192x512 : Shape := ⟨2, ![8192, 512]⟩
abbrev S8192x2048 : Shape := ⟨2, ![8192, 2048]⟩
abbrev S8192x1024 : Shape := ⟨2, ![8192, 1024]⟩
abbrev S1x2048 : Shape := ⟨2, ![1, 2048]⟩
abbrev S1x1024 : Shape := ⟨2, ![1, 1024]⟩
abbrev S512x1024 : Shape := ⟨2, ![512, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x2048, .f32⟩
  | .hbm, ⟨3, _⟩ => ⟨S8192x1024, .f32⟩
  | .hbm, ⟨4, _⟩ => ⟨S1x2048, .f32⟩
  | .hbm, ⟨5, _⟩ => ⟨S1x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel15.lean ====
abbrev S1024x532 : Shape := ⟨2, ![1024, 532]⟩
abbrev S256x532 : Shape := ⟨2, ![256, 532]⟩

abbrev nBuf : Space → Nat
  | .hbm => 7
  | .vmem => 14
  | .smem => 0
  | _ => 0

abbrev bufTy : (tb : Table) → Fin (tcTables nBuf tb) → BufTy
  | .hbm, ⟨0, _⟩ => ⟨S1024x532, .f32⟩
  | .hbm, ⟨1, _⟩ => ⟨S1024x532, .f32⟩
  | .hbm, ⟨2, _⟩ => ⟨S1024x532, .f32⟩
  | .hbm, ⟨3, _⟩ => ⟨S1024x532, .f32⟩
  | .hbm, ⟨4, _⟩ => ⟨S1024x532, .f32⟩
  | .hbm, ⟨5, _⟩ => ⟨S1024x532, .f32⟩
  | .hbm, ⟨6, _⟩ => ⟨S1024x532, .f32⟩
  | .local _ .vmem, ⟨0, _⟩ => ⟨S256x532, .f32⟩
  | .local _ .vmem, ⟨1, _⟩ => ⟨S256x532, .f32⟩
  | .local _ .vmem, ⟨2, _⟩ => ⟨S256x532, .f32⟩
  | .local _ .vmem, ⟨3, _⟩ => ⟨S256x532, .f32⟩
  | .local _ .vmem, ⟨4, _⟩ => ⟨S256x532, .f32⟩
  | .local _ .vmem, ⟨5, _⟩ => ⟨S256x532, .f32⟩
  | .local _ .vmem, ⟨6, _⟩ => ⟨S256x532, .f32⟩
  | .local _ .vmem, ⟨7, _⟩ => ⟨S256x532, .f32⟩
  | .local _ .vmem, ⟨8, _⟩ => ⟨S256x532, .f32⟩
  | .local _ .vmem, ⟨9, _⟩ => ⟨S256x532, .f32⟩
  | .local _ .vmem, ⟨10, _⟩ => ⟨S256x532, .f32⟩
  | .local _ .vmem, ⟨11, _⟩ => ⟨S256x532, .f32⟩
  | .local _ .vmem, ⟨12, _⟩ => ⟨S256x532, .f32⟩
  | .local _ .vmem, ⟨13, _⟩ => ⟨S256x532, .f32⟩
  | _, _ => ⟨S1024x532, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x532 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x532 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x532 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x532 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x532 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x532 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x532 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S1024x532 : Shape := ⟨2, ![1024, 532]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x532, .f32⟩
  | .hbm, ⟨1, _⟩ => ⟨S1024x532, .f32⟩
  | .hbm, ⟨2, _⟩ => ⟨S1024x532, .f32⟩
  | .hbm, ⟨3, _⟩ => ⟨S1024x532, .f32⟩
  | .hbm, ⟨4, _⟩ => ⟨S_, .f32⟩
  | .hbm, ⟨5, _⟩ => ⟨S1024x532, .f32⟩
  | .hbm, ⟨6, _⟩ => ⟨S1024x532, .f32⟩
  | .hbm, ⟨7, _⟩ => ⟨S_, .f32⟩
  | .hbm, ⟨8, _⟩ => ⟨S1024x532, .f32⟩
  | .hbm, ⟨9, _⟩ => ⟨S1024x532, .f32⟩
  | .hbm, ⟨10, _⟩ => ⟨S1024x532, .f32⟩
  | .hbm, ⟨11, _⟩ => ⟨S_, .f32⟩
  | .hbm, ⟨12, _⟩ => ⟨S1024x532, .f32⟩
  | .hbm, ⟨13, _⟩ => ⟨S1024x532, .f32⟩
  | .hbm, ⟨14, _⟩ => ⟨S1024x532, .f32⟩
  | .hbm, ⟨15, _⟩ => ⟨S_, .f32⟩
  | .hbm, ⟨16, _⟩ => ⟨S1024x532, .f32⟩
  | .hbm, ⟨17, _⟩ => ⟨S1024x532, .f32⟩
  | .hbm, ⟨18, _⟩ => ⟨S1024x532, .f32⟩
  | .hbm, ⟨19, _⟩ => ⟨S_, .f32⟩
  | .hbm, ⟨20, _⟩ => ⟨S1024x532, .f32⟩
  | .hbm, ⟨21, _⟩ => ⟨S1024x532, .f32⟩
  | .hbm, ⟨22, _⟩ => ⟨S_, .f32⟩
  | .hbm, ⟨23, _⟩ => ⟨S1024x532, .f32⟩
  | .hbm, ⟨24, _⟩ => ⟨S1024x532, .f32⟩
  | .hbm, ⟨25, _⟩ => ⟨S1024x532, .f32⟩
  | .hbm, ⟨26, _⟩ => ⟨S_, .f32⟩
  | .hbm, ⟨27, _⟩ => ⟨S1024x532, .f32⟩
  | .hbm, ⟨28, _⟩ => ⟨S1024x532, .f32⟩
  | .hbm, ⟨29, _⟩ => ⟨S1024x532, .f32⟩
  | .hbm, ⟨30, _⟩ => ⟨S_, .f32⟩
  | .hbm, ⟨31, _⟩ => ⟨S1024x532, .f32⟩
  | .hbm, ⟨32, _⟩ => ⟨S1024x532, .f32⟩
  | .hbm, ⟨33, _⟩ => ⟨S1024x532, .f32⟩
  | .hbm, ⟨34, _⟩ => ⟨S_, .f32⟩
  | .hbm, ⟨35, _⟩ => ⟨S1024x532, .f32⟩
  | .hbm, ⟨36, _⟩ => ⟨S1024x532, .f32⟩
  | _, _ => ⟨S1024x532, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S384x96 : Shape := ⟨2, ![384, 96]⟩
abbrev S128x96 : Shape := ⟨2, ![128, 96]⟩

abbrev nBuf : Space → Nat
  | .hbm => 7
  | .vmem => 14
  | .smem => 0
  | _ => 0

abbrev bufTy : (tb : Table) → Fin (tcTables nBuf tb) → BufTy
  | .hbm, ⟨0, _⟩ => ⟨S384x96, .f32⟩
  | .hbm, ⟨1, _⟩ => ⟨S384x96, .f32⟩
  | .hbm, ⟨2, _⟩ => ⟨S384x96, .f32⟩
  | .hbm, ⟨3, _⟩ => ⟨S384x96, .f32⟩
  | .hbm, ⟨4, _⟩ => ⟨S384x96, .f32⟩
  | .hbm, ⟨5, _⟩ => ⟨S384x96, .f32⟩
  | .hbm, ⟨6, _⟩ => ⟨S384x96, .f32⟩
  | .local _ .vmem, ⟨0, _⟩ => ⟨S128x96, .f32⟩
  | .local _ .vmem, ⟨1, _⟩ => ⟨S128x96, .f32⟩
  | .local _ .vmem, ⟨2, _⟩ => ⟨S128x96, .f32⟩
  | .local _ .vmem, ⟨3, _⟩ => ⟨S128x96, .f32⟩
  | .local _ .vmem, ⟨4, _⟩ => ⟨S128x96, .f32⟩
  | .local _ .vmem, ⟨5, _⟩ => ⟨S128x96, .f32⟩
  | .local _ .vmem, ⟨6, _⟩ => ⟨S128x96, .f32⟩
  | .local _ .vmem, ⟨7, _⟩ => ⟨S128x96, .f32⟩
  | .local _ .vmem, ⟨8, _⟩ => ⟨S128x96, .f32⟩
  | .local _ .vmem, ⟨9, _⟩ => ⟨S128x96, .f32⟩
  | .local _ .vmem, ⟨10, _⟩ => ⟨S128x96, .f32⟩
  | .local _ .vmem, ⟨11, _⟩ => ⟨S128x96, .f32⟩
  | .local _ .vmem, ⟨12, _⟩ => ⟨S128x96, .f32⟩
  | .local _ .vmem, ⟨13, _⟩ => ⟨S128x96, .f32⟩
  | _, _ => ⟨S384x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S384x96 : Shape := ⟨2, ![384, 96]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S384x96, .f32⟩
  | .hbm, ⟨1, _⟩ => ⟨S384x96, .f32⟩
  | .hbm, ⟨2, _⟩ => ⟨S384x96, .f32⟩
  | .hbm, ⟨3, _⟩ => ⟨S384x96, .f32⟩
  | .hbm, ⟨4, _⟩ => ⟨S_, .f32⟩
  | .hbm, ⟨5, _⟩ => ⟨S384x96, .f32⟩
  | .hbm, ⟨6, _⟩ => ⟨S384x96, .f32⟩
  | .hbm, ⟨7, _⟩ => ⟨S_, .f32⟩
  | .hbm, ⟨8, _⟩ => ⟨S384x96, .f32⟩
  | .hbm, ⟨9, _⟩ => ⟨S384x96, .f32⟩
  | .hbm, ⟨10, _⟩ => ⟨S384x96, .f32⟩
  | .hbm, ⟨11, _⟩ => ⟨S_, .f32⟩
  | .hbm, ⟨12, _⟩ => ⟨S384x96, .f32⟩
  | .hbm, ⟨13, _⟩ => ⟨S384x96, .f32⟩
  | .hbm, ⟨14, _⟩ => ⟨S384x96, .f32⟩
  | .hbm, ⟨15, _⟩ => ⟨S_, .f32⟩
  | .hbm, ⟨16, _⟩ => ⟨S384x96, .f32⟩
  | .hbm, ⟨17, _⟩ => ⟨S384x96, .f32⟩
  | .hbm, ⟨18, _⟩ => ⟨S384x96, .f32⟩
  | .hbm, ⟨19, _⟩ => ⟨S_, .f32⟩
  | .hbm, ⟨20, _⟩ => ⟨S384x96, .f32⟩
  | .hbm, ⟨21, _⟩ => ⟨S384x96, .f32⟩
  | .hbm, ⟨22, _⟩ => ⟨S_, .f32⟩
  | .hbm, ⟨23, _⟩ => ⟨S384x96, .f32⟩
  | .hbm, ⟨24, _⟩ => ⟨S384x96, .f32⟩
  | .hbm, ⟨25, _⟩ => ⟨S384x96, .f32⟩
  | .hbm, ⟨26, _⟩ => ⟨S_, .f32⟩
  | .hbm, ⟨27, _⟩ => ⟨S384x96, .f32⟩
  | .hbm, ⟨28, _⟩ => ⟨S384x96, .f32⟩
  | .hbm, ⟨29, _⟩ => ⟨S384x96, .f32⟩
  | .hbm, ⟨30, _⟩ => ⟨S_, .f32⟩
  | .hbm, ⟨31, _⟩ => ⟨S384x96, .f32⟩
  | .hbm, ⟨32, _⟩ => ⟨S384x96, .f32⟩
  | .hbm, ⟨33, _⟩ => ⟨S384x96, .f32⟩
  | .hbm, ⟨34, _⟩ => ⟨S_, .f32⟩
  | .hbm, ⟨35, _⟩ => ⟨S384x96, .f32⟩
  | .hbm, ⟨36, _⟩ => ⟨S384x96, .f32⟩
  | _, _ => ⟨S384x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S256x128 : Shape := ⟨2, ![256, 128]⟩

abbrev nBuf : Space → Nat
  | .hbm => 7
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference17Ideal.lean ====
abbrev S256x128 : Shape := ⟨2, ![256, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S_, .f32⟩
  | .hbm, ⟨5, _⟩ => ⟨S256x128, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S256x128, .f32⟩
  | .hbm, ⟨11, _⟩ => ⟨S_, .f32⟩
  | .hbm, ⟨12, _⟩ => ⟨S256x128, .f32⟩
  | .hbm, ⟨13, _⟩ => ⟨S256x128, .f32⟩
  | .hbm, ⟨14, _⟩ => ⟨S256x128, .f32⟩
  | .hbm, ⟨15, _⟩ => ⟨S_, .f32⟩
  | .hbm, ⟨16, _⟩ => ⟨S256x128, .f32⟩
  | .hbm, ⟨17, _⟩ => ⟨S256x128, .f32⟩
  | .hbm, ⟨18, _⟩ => ⟨S256x128, .f32⟩
  | .hbm, ⟨19, _⟩ => ⟨S_, .f32⟩
  | .hbm, ⟨20, _⟩ => ⟨S256x128, .f32⟩
  | .hbm, ⟨21, _⟩ => ⟨S256x128, .f32⟩
  | .hbm, ⟨22, _⟩ => ⟨S_, .f32⟩
  | .hbm, ⟨23, _⟩ => ⟨S256x128, .f32⟩
  | .hbm, ⟨24, _⟩ => ⟨S256x128, .f32⟩
  | .hbm, ⟨25, _⟩ => ⟨S256x128, .f32⟩
  | .hbm, ⟨26, _⟩ => ⟨S_, .f32⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S_, .f32⟩
  | .hbm, ⟨31, _⟩ => ⟨S256x128, .f32⟩
  | .hbm, ⟨32, _⟩ => ⟨S256x128, .f32⟩
  | .hbm, ⟨33, _⟩ => ⟨S256x128, .f32⟩
  | .hbm, ⟨34, _⟩ => ⟨S_, .f32⟩
  | .hbm, ⟨35, _⟩ => ⟨S256x128, .f32⟩
  | .hbm, ⟨36, _⟩ => ⟨S256x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S512x128 : Shape := ⟨2, ![512, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S1024x704 : Shape := ⟨2, ![1024, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S1024x704 : Shape := ⟨2, ![1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S352x1024 : Shape := ⟨2, ![352, 1024]⟩
abbrev S88x1024 : Shape := ⟨2, ![88, 1024]⟩

abbrev nBuf : Space → Nat
  | .hbm => 7
  | .vmem => 14
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S88x1024, .f32⟩
  | .local _ .vmem, ⟨1, _⟩ => ⟨S88x1024, .f32⟩
  | .local _ .vmem, ⟨2, _⟩ => ⟨S88x1024, .f32⟩
  | .local _ .vmem, ⟨3, _⟩ => ⟨S88x1024, .f32⟩
  | .local _ .vmem, ⟨4, _⟩ => ⟨S88x1024, .f32⟩
  | .local _ .vmem, ⟨5, _⟩ => ⟨S88x1024, .f32⟩
  | .local _ .vmem, ⟨6, _⟩ => ⟨S88x1024, .f32⟩
  | .local _ .vmem, ⟨7, _⟩ => ⟨S88x1024, .f32⟩
  | .local _ .vmem, ⟨8, _⟩ => ⟨S88x1024, .f32⟩
  | .local _ .vmem, ⟨9, _⟩ => ⟨S88x1024, .f32⟩
  | .local _ .vmem, ⟨10, _⟩ => ⟨S88x1024, .f32⟩
  | .local _ .vmem, ⟨11, _⟩ => ⟨S88x1024, .f32⟩
  | .local _ .vmem, ⟨12, _⟩ => ⟨S88x1024, .f32⟩
  | .local _ .vmem, ⟨13, _⟩ => ⟨S88x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S352x1024 : Shape := ⟨2, ![352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference23Ideal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S1x384 : Shape := ⟨2, ![1, 384]⟩

abbrev nBuf : Space → Nat
  | .hbm => 7
  | .vmem => 7
  | .smem => 0
  | _ => 0

abbrev bufTy : (tb : Table) → Fin (tcTables nBuf tb) → BufTy
  | .hbm, ⟨0, _⟩ => ⟨S1x384, .f32⟩
  | .hbm, ⟨1, _⟩ => ⟨S1x384, .f32⟩
  | .hbm, ⟨2, _⟩ => ⟨S1x384, .f32⟩
  | .hbm, ⟨3, _⟩ => ⟨S1x384, .f32⟩
  | .hbm, ⟨4, _⟩ => ⟨S1x384, .f32⟩
  | .hbm, ⟨5, _⟩ => ⟨S1x384, .f32⟩
  | .hbm, ⟨6, _⟩ => ⟨S1x384, .f32⟩
  | .local _ .vmem, ⟨0, _⟩ => ⟨S1x384, .f32⟩
  | .local _ .vmem, ⟨1, _⟩ => ⟨S1x384, .f32⟩
  | .local _ .vmem, ⟨2, _⟩ => ⟨S1x384, .f32⟩
  | .local _ .vmem, ⟨3, _⟩ => ⟨S1x384, .f32⟩
  | .local _ .vmem, ⟨4, _⟩ => ⟨S1x384, .f32⟩
  | .local _ .vmem, ⟨5, _⟩ => ⟨S1x384, .f32⟩
  | .local _ .vmem, ⟨6, _⟩ => ⟨S1x384, .f32⟩
  | _, _ => ⟨S1x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S1x384 : Shape := ⟨2, ![1, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x384, .f32⟩
  | .hbm, ⟨1, _⟩ => ⟨S1x384, .f32⟩
  | .hbm, ⟨2, _⟩ => ⟨S1x384, .f32⟩
  | .hbm, ⟨3, _⟩ => ⟨S1x384, .f32⟩
  | .hbm, ⟨4, _⟩ => ⟨S_, .f32⟩
  | .hbm, ⟨5, _⟩ => ⟨S1x384, .f32⟩
  | .hbm, ⟨6, _⟩ => ⟨S1x384, .f32⟩
  | .hbm, ⟨7, _⟩ => ⟨S_, .f32⟩
  | .hbm, ⟨8, _⟩ => ⟨S1x384, .f32⟩
  | .hbm, ⟨9, _⟩ => ⟨S1x384, .f32⟩
  | .hbm, ⟨10, _⟩ => ⟨S1x384, .f32⟩
  | .hbm, ⟨11, _⟩ => ⟨S_, .f32⟩
  | .hbm, ⟨12, _⟩ => ⟨S1x384, .f32⟩
  | .hbm, ⟨13, _⟩ => ⟨S1x384, .f32⟩
  | .hbm, ⟨14, _⟩ => ⟨S1x384, .f32⟩
  | .hbm, ⟨15, _⟩ => ⟨S_, .f32⟩
  | .hbm, ⟨16, _⟩ => ⟨S1x384, .f32⟩
  | .hbm, ⟨17, _⟩ => ⟨S1x384, .f32⟩
  | .hbm, ⟨18, _⟩ => ⟨S1x384, .f32⟩
  | .hbm, ⟨19, _⟩ => ⟨S_, .f32⟩
  | .hbm, ⟨20, _⟩ => ⟨S1x384, .f32⟩
  | .hbm, ⟨21, _⟩ => ⟨S1x384, .f32⟩
  | .hbm, ⟨22, _⟩ => ⟨S_, .f32⟩
  | .hbm, ⟨23, _⟩ => ⟨S1x384, .f32⟩
  | .hbm, ⟨24, _⟩ => ⟨S1x384, .f32⟩
  | .hbm, ⟨25, _⟩ => ⟨S1x384, .f32⟩
  | .hbm, ⟨26, _⟩ => ⟨S_, .f32⟩
  | .hbm, ⟨27, _⟩ => ⟨S1x384, .f32⟩
  | .hbm, ⟨28, _⟩ => ⟨S1x384, .f32⟩
  | .hbm, ⟨29, _⟩ => ⟨S1x384, .f32⟩
  | .hbm, ⟨30, _⟩ => ⟨S_, .f32⟩
  | .hbm, ⟨31, _⟩ => ⟨S1x384, .f32⟩
  | .hbm, ⟨32, _⟩ => ⟨S1x384, .f32⟩
  | .hbm, ⟨33, _⟩ => ⟨S1x384, .f32⟩
  | .hbm, ⟨34, _⟩ => ⟨S_, .f32⟩
  | .hbm, ⟨35, _⟩ => ⟨S1x384, .f32⟩
  | .hbm, ⟨36, _⟩ => ⟨S1x384, .f32⟩
  | _, _ => ⟨S1x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S8x532x1024 : Shape := ⟨3, ![8, 532, 1024]⟩
abbrev S532x1024 : Shape := ⟨2, ![532, 1024]⟩
abbrev S1x532x1024 : Shape := ⟨3, ![1, 532, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x532x1024, .bf16⟩
  | .hbm, ⟨1, _⟩ => ⟨S532x1024, .f32⟩
  | .local _ .vmem, ⟨0, _⟩ => ⟨S8x532x1024, .bf16⟩
  | .local _ .vmem, ⟨1, _⟩ => ⟨S532x1024, .f32⟩
  | _, _ => ⟨S8x532x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x532x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S532x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference26Ideal.lean ====
abbrev S8x532x1024 : Shape := ⟨3, ![8, 532, 1024]⟩
abbrev S_ : Shape := ⟨0, ![]⟩
abbrev S532x1024 : Shape := ⟨2, ![532, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x532x1024, .bf16⟩
  | .hbm, ⟨1, _⟩ => ⟨S8x532x1024, .f32⟩
  | .hbm, ⟨2, _⟩ => ⟨S_, .f32⟩
  | .hbm, ⟨3, _⟩ => ⟨S532x1024, .f32⟩
  | _, _ => ⟨S8x532x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel27.lean ====
abbrev S8x544x128 : Shape := ⟨3, ![8, 544, 128]⟩
abbrev S544x128 : Shape := ⟨2, ![544, 128]⟩
abbrev S1x544x128 : Shape := ⟨3, ![1, 544, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x544x128, .bf16⟩
  | .hbm, ⟨1, _⟩ => ⟨S544x128, .f32⟩
  | .local _ .vmem, ⟨0, _⟩ => ⟨S8x544x128, .bf16⟩
  | .local _ .vmem, ⟨1, _⟩ => ⟨S544x128, .f32⟩
  | _, _ => ⟨S8x544x128, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x544x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S544x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference27Ideal.lean ====
abbrev S8x544x128 : Shape := ⟨3, ![8, 544, 128]⟩
abbrev S_ : Shape := ⟨0, ![]⟩
abbrev S544x128 : Shape := ⟨2, ![544, 128]⟩

abbrev nBuf : Space → Nat
  | .hbm => 4
  | .vmem => 0
  | .smem => 0
  | _ => 0

abbrev bufTy : (tb : Table) → Fin (tcTables nBuf tb) → BufTy
  | .hbm, ⟨0, _⟩ => ⟨S8x544x128, .bf16⟩
  | .hbm, ⟨1, _⟩ => ⟨S8x544x128, .f32⟩
  | .hbm, ⟨2, _⟩ => ⟨S_, .f32⟩
  | .hbm, ⟨3, _⟩ => ⟨S544x128, .f32⟩
  | _, _ => ⟨S8x544x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel28.lean ====
abbrev S8x128x512 : Shape := ⟨3, ![8, 128, 512]⟩
abbrev S128x512 : Shape := ⟨2, ![128, 512]⟩
abbrev S1x128x512 : Shape := ⟨3, ![1, 128, 512]⟩

abbrev nBuf : Space → Nat
  | .hbm => 2
  | .vmem => 2
  | .smem => 0
  | _ => 0

abbrev bufTy : (tb : Table) → Fin (tcTables nBuf tb) → BufTy
  | .hbm, ⟨0, _⟩ => ⟨S8x128x512, .bf16⟩
  | .hbm, ⟨1, _⟩ => ⟨S128x512, .f32⟩
  | .local _ .vmem, ⟨0, _⟩ => ⟨S8x128x512, .bf16⟩
  | .local _ .vmem, ⟨1, _⟩ => ⟨S128x512, .f32⟩
  | _, _ => ⟨S8x128x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference28Ideal.lean ====
abbrev S8x128x512 : Shape := ⟨3, ![8, 128, 512]⟩
abbrev S_ : Shape := ⟨0, ![]⟩
abbrev S128x512 : Shape := ⟨2, ![128, 512]⟩

abbrev nBuf : Space → Nat
  | .hbm => 4
  | .vmem => 0
  | .smem => 0
  | _ => 0

abbrev bufTy : (tb : Table) → Fin (tcTables nBuf tb) → BufTy
  | .hbm, ⟨0, _⟩ => ⟨S8x128x512, .bf16⟩
  | .hbm, ⟨1, _⟩ => ⟨S8x128x512, .f32⟩
  | .hbm, ⟨2, _⟩ => ⟨S_, .f32⟩
  | .hbm, ⟨3, _⟩ => ⟨S128x512, .f32⟩
  | _, _ => ⟨S8x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel29.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .local _ .vmem, ⟨0, _⟩ => ⟨S8x128x1024, .bf16⟩
  | .local _ .vmem, ⟨1, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference29Ideal.lean ====
abbrev S8x128x1024 : Shape := ⟨3, ![8, 128, 1024]⟩
abbrev S_ : Shape := ⟨0, ![]⟩
abbrev S128x1024 : Shape := ⟨2, ![128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .f32⟩
  | .hbm, ⟨2, _⟩ => ⟨S_, .f32⟩
  | .hbm, ⟨3, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel30.lean ====
abbrev S8x704x1024 : Shape := ⟨3, ![8, 704, 1024]⟩
abbrev S704x1024 : Shape := ⟨2, ![704, 1024]⟩
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S352x1024, .f32⟩
  | .local _ .vmem, ⟨3, _⟩ => ⟨S352x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference30Ideal.lean ====
abbrev S8x704x1024 : Shape := ⟨3, ![8, 704, 1024]⟩
abbrev S_ : Shape := ⟨0, ![]⟩
abbrev S704x1024 : Shape := ⟨2, ![704, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .f32⟩
  | .hbm, ⟨2, _⟩ => ⟨S_, .f32⟩
  | .hbm, ⟨3, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel31.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .local _ .vmem, ⟨0, _⟩ => ⟨S8x352x1024, .bf16⟩
  | .local _ .vmem, ⟨1, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference31Ideal.lean ====
abbrev S8x352x1024 : Shape := ⟨3, ![8, 352, 1024]⟩
abbrev S_ : Shape := ⟨0, ![]⟩
abbrev S352x1024 : Shape := ⟨2, ![352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .f32⟩
  | .hbm, ⟨2, _⟩ => ⟨S_, .f32⟩
  | .hbm, ⟨3, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel32.lean ====
abbrev S8x56x128 : Shape := ⟨3, ![8, 56, 128]⟩
abbrev S56x128 : Shape := ⟨2, ![56, 128]⟩
abbrev S1x56x128 : Shape := ⟨3, ![1, 56, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x56x128, .f32⟩
  | .hbm, ⟨1, _⟩ => ⟨S56x128, .f32⟩
  | .local _ .vmem, ⟨0, _⟩ => ⟨S8x56x128, .f32⟩
  | .local _ .vmem, ⟨1, _⟩ => ⟨S56x128, .f32⟩
  | _, _ => ⟨S8x56x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x56x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S56x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference32Ideal.lean ====
abbrev S8x56x128 : Shape := ⟨3, ![8, 56, 128]⟩
abbrev S_ : Shape := ⟨0, ![]⟩
abbrev S56x128 : Shape := ⟨2, ![56, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x56x128, .f32⟩
  | .hbm, ⟨1, _⟩ => ⟨S_, .f32⟩
  | .hbm, ⟨2, _⟩ => ⟨S56x128, .f32⟩
  | _, _ => ⟨S8x56x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Attn.Loop.lean ====
module

public import proofs.«01_k».proof.Proof.Gen.KernelIdeal.Frame
public import proofs.«01_k».proof.Proof.Gen.KernelIdeal.Loops
public import Idealize.ShloMosaic.Lib.Pipeline.Frame
public import Idealize.ShloMosaic.Lib.LoopRemainder
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The row block is the first one: the key gradients are set to zero. -/
abbrev isFirst (i : grid0.Coords) : Prop := (Scalar.cmpi .ne (Scalar.extui (Scalar.cmpi .eq (BitVec.ofNat 32 (i 1).val) 0#32)) 0#32) = 1#1

/-- What one trip of the loop over full key tiles needs and leaves: the keys, values, saved rows and differences at their contents, the accumulators and carried rows at some contents. -/
def loopHeld (c : Dev nD) (arg3 : Memref sig .tc .vmem S8192x128 .bf16) (arg4 : Memref sig .tc .vmem S8192x128 .bf16) (arg5 : Memref sig .tc .vmem S8192x256 .bf16) (arg6 : Memref sig .tc .vmem S8192x128 .bf16) (arg12 : Memref sig .tc .vmem S2x512x128 .f32) (arg20 : Memref sig .tc .vmem S512x128 .f32) (arg21 : Memref sig .tc .vmem S512x256 .f32) (arg22 : Memref sig .tc .vmem S8192x128 .f32) (arg23 : Memref sig .tc .vmem S8192x128 .f32) (arg24 : Memref sig .tc .vmem S8192x256 .f32) (arg25 : Memref sig .tc .vmem S8192x128 .f32) (arg26 : Memref sig .tc .vmem S2x512x128 .f32) (arg27 : Memref sig .tc .vmem S2x512x128 .f32) (arg28 : Memref sig .tc .vmem S2x512x128 .f32) (arg29 : Memref sig .tc .vmem S2x512x128 .f32) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f12 : Buf (Elt F) (arg12.view.loc (c : Thread nD τ))) (f29 : Buf (Elt F) (arg29.view.loc (c : Thread nD τ))) (f28 : Buf (Elt F) (arg28.view.loc (c : Thread nD τ))) : sProp 𝕄 :=
  iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg12.view.loc (c : Thread nD τ) ↦[arg12.view.set]{fullShare} f12) ∗ (arg29.view.loc (c : Thread nD τ) ↦[arg29.view.set]{fullShare} f29) ∗ (arg28.view.loc (c : Thread nD τ) ↦[arg28.view.set]{fullShare} f28) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)))

set_option maxHeartbeats 4000000 in
/-- One trip of the loop over full key tiles. -/
theorem loopStep (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x256 .bf16) (harg5 : arg5.IsWhole) (arg6 : Memref sig .tc .vmem S8192x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x256 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S2x512x128 .f32) (harg12 : arg12.IsWhole) (arg13 : Memref sig .tc .vmem S8x128 .f32) (harg13 : arg13.IsWhole) (arg14 : Memref sig .tc .vmem S512x128 .f32) (harg14 : arg14.IsWhole) (arg15 : Memref sig .tc .vmem S512x256 .f32) (harg15 : arg15.IsWhole) (arg16 : Memref sig .tc .hbm S8192x512 .f32) (harg16 : arg16.IsWhole) (arg17 : Memref sig .tc .hbm S8192x512 .f32) (harg17 : arg17.IsWhole) (arg18 : Memref sig .tc .hbm S8192x1024 .f32) (harg18 : arg18.IsWhole) (arg19 : Memref sig .tc .hbm S8192x512 .f32) (harg19 : arg19.IsWhole) (arg20 : Memref sig .tc .vmem S512x128 .f32) (harg20 : arg20.IsWhole) (arg21 : Memref sig .tc .vmem S512x256 .f32) (harg21 : arg21.IsWhole) (arg22 : Memref sig .tc .vmem S8192x128 .f32) (harg22 : arg22.IsWhole) (arg23 : Memref sig .tc .vmem S8192x128 .f32) (harg23 : arg23.IsWhole) (arg24 : Memref sig .tc .vmem S8192x256 .f32) (harg24 : arg24.IsWhole) (arg25 : Memref sig .tc .vmem S8192x128 .f32) (harg25 : arg25.IsWhole) (arg26 : Memref sig .tc .vmem S2x512x128 .f32) (harg26 : arg26.IsWhole) (arg27 : Memref sig .tc .vmem S2x512x128 .f32) (harg27 : arg27.IsWhole) (arg28 : Memref sig .tc .vmem S2x512x128 .f32) (harg28 : arg28.IsWhole) (arg29 : Memref sig .tc .vmem S2x512x128 .f32) (harg29 : arg29.IsWhole) (arg30 : DmaSems sig S4) (arg1 : BitVec 32) (v11 : FVec F S256x256 .bf16) (v14 : FVec F S512x128 .bf16) (v15 : Vec F S512x128 .bf16) (v41 : Vec F S512x256 .bf16) (v42 : Vec F S512x128 .bf16) (v92 : FVec F S1024x128 .bf16) (v93 : FVec F S1024x128 .bf16) (v94 : FVec F S1024x128 .bf16) (v100 : FVec F S1024x256 .bf16) (c0_i32_408 : BitVec 32) (c1_i32_411 : BitVec 32)  (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f12 : Buf (Elt F) (arg12.view.loc (c : Thread nD τ))) (f29 : Buf (Elt F) (arg29.view.loc (c : Thread nD τ))) (f28 : Buf (Elt F) (arg28.view.loc (c : Thread nD τ))) (k : Fin (k0_t1_loop i).trips) (acc : BitVec 32) :
    loopHeld c arg3 arg4 arg5 arg6 arg12 arg20 arg21 arg22 arg23 arg24 arg25 arg26 arg27 arg28 arg29 f3 f4 f5 f6 f12 f29 f28
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg1 v11 v14 v15 v41 v42 v92 v93 v94 v100 c0_i32_408 c1_i32_411 k acc)
          (fun _ => loopHeld c arg3 arg4 arg5 arg6 arg12 arg20 arg21 arg22 arg23 arg24 arg25 arg26 arg27 arg28 arg29 f3 f4 f5 f6 f12 f29 f28) := by
  unfold loopHeld k0_t1_body
  iintro ⟨H3, H4, H5, H6, H12, H29, H28, ⟨%f20, H20⟩, ⟨%f21, H21⟩, ⟨%f22, H22⟩, ⟨%f23, H23⟩, ⟨%f24, H24⟩, ⟨%f25, H25⟩, ⟨%f26, H26⟩, ⟨%f27, H27⟩⟩
  sl_exec_parts
  sl_step
  sl_close

/-- The loop over full key tiles, by its invariant. -/
@[sl_loop, instance_reducible] def loopInv_k0_t1 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x256 .bf16) (harg5 : arg5.IsWhole) (arg6 : Memref sig .tc .vmem S8192x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x256 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S2x512x128 .f32) (harg12 : arg12.IsWhole) (arg13 : Memref sig .tc .vmem S8x128 .f32) (harg13 : arg13.IsWhole) (arg14 : Memref sig .tc .vmem S512x128 .f32) (harg14 : arg14.IsWhole) (arg15 : Memref sig .tc .vmem S512x256 .f32) (harg15 : arg15.IsWhole) (arg16 : Memref sig .tc .hbm S8192x512 .f32) (harg16 : arg16.IsWhole) (arg17 : Memref sig .tc .hbm S8192x512 .f32) (harg17 : arg17.IsWhole) (arg18 : Memref sig .tc .hbm S8192x1024 .f32) (harg18 : arg18.IsWhole) (arg19 : Memref sig .tc .hbm S8192x512 .f32) (harg19 : arg19.IsWhole) (arg20 : Memref sig .tc .vmem S512x128 .f32) (harg20 : arg20.IsWhole) (arg21 : Memref sig .tc .vmem S512x256 .f32) (harg21 : arg21.IsWhole) (arg22 : Memref sig .tc .vmem S8192x128 .f32) (harg22 : arg22.IsWhole) (arg23 : Memref sig .tc .vmem S8192x128 .f32) (harg23 : arg23.IsWhole) (arg24 : Memref sig .tc .vmem S8192x256 .f32) (harg24 : arg24.IsWhole) (arg25 : Memref sig .tc .vmem S8192x128 .f32) (harg25 : arg25.IsWhole) (arg26 : Memref sig .tc .vmem S2x512x128 .f32) (harg26 : arg26.IsWhole) (arg27 : Memref sig .tc .vmem S2x512x128 .f32) (harg27 : arg27.IsWhole) (arg28 : Memref sig .tc .vmem S2x512x128 .f32) (harg28 : arg28.IsWhole) (arg29 : Memref sig .tc .vmem S2x512x128 .f32) (harg29 : arg29.IsWhole) (arg30 : DmaSems sig S4) (arg1 : BitVec 32) (v11 : FVec F S256x256 .bf16) (v14 : FVec F S512x128 .bf16) (v15 : Vec F S512x128 .bf16) (v41 : Vec F S512x256 .bf16) (v42 : Vec F S512x128 .bf16) (v92 : FVec F S1024x128 .bf16) (v93 : FVec F S1024x128 .bf16) (v94 : FVec F S1024x128 .bf16) (v100 : FVec F S1024x256 .bf16) (c0_i32_408 : BitVec 32) (c1_i32_411 : BitVec 32) (init : BitVec 32) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f12 : Buf (Elt F) (arg12.view.loc (c : Thread nD τ))) (f29 : Buf (Elt F) (arg29.view.loc (c : Thread nD τ))) (f28 : Buf (Elt F) (arg28.view.loc (c : Thread nD τ))) :
    Cert.KernelIdeal.Gen.LoopInvTy_k0_t1 (F := F) Unit ℕ (Pipeline.UD sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg1 v11 v14 v15 v41 v42 v92 v93 v94 v100 c0_i32_408 c1_i32_411 init where
  inv := fun _ _ => loopHeld c arg3 arg4 arg5 arg6 arg12 arg20 arg21 arg22 arg23 arg24 arg25 arg26 arg27 arg28 arg29 f3 f4 f5 f6 f12 f29 f28
  step := fun k acc => loopStep c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg1 v11 v14 v15 v41 v42 v92 v93 v94 v100 c0_i32_408 c1_i32_411 f3 f4 f5 f6 f12 f29 f28 k acc

end Cert.KernelIdeal.Hand

end
-- ==== Proof.Attn.RunFF.lean ====
module

public import proofs.«01_k».proof.Proof.Gen.KernelIdeal.Frame
public import proofs.«01_k».proof.Proof.Attn.Loop
public import proofs.«01_k».proof.Proof.Gen.KernelIdeal.Loops
public import Idealize.ShloMosaic.Lib.Pipeline.Frame
public import Idealize.ShloMosaic.Lib.LoopRemainder
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 8000000 in
/-- The body's run where the row block is not the first and not the last one: inputs as they were, everything written at some contents. -/
theorem kernelRun_FF (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x256 .bf16) (harg5 : arg5.IsWhole) (arg6 : Memref sig .tc .vmem S8192x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x256 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S2x512x128 .f32) (harg12 : arg12.IsWhole) (arg13 : Memref sig .tc .vmem S8x128 .f32) (harg13 : arg13.IsWhole) (arg14 : Memref sig .tc .vmem S512x128 .f32) (harg14 : arg14.IsWhole) (arg15 : Memref sig .tc .vmem S512x256 .f32) (harg15 : arg15.IsWhole) (hc1 : ¬ isFirst i) (hc2 : ¬ (k0_cond2 i = 1#1))
    (x2 : Vec F S512x128 .bf16) (x3 : Vec F S8192x128 .bf16) (x4 : Vec F S8192x128 .bf16) (x5 : Vec F S8192x256 .bf16) (x6 : Vec F S8192x128 .bf16) (x7 : Vec F S512x128 .bf16) (x8 : Vec F S512x128 .f32) (x9 : Vec F S512x256 .bf16) (x10 : Vec F S512x128 .bf16) (x11 : Vec F S512x128 .f32) (x12 : Vec F S2x512x128 .f32) (x13 : Vec F S8x128 .f32) (W : Waits sig Unit) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) (Memref.whole main_v0_2) fullShare d) ∗ (∃ d, owns (c : Thread nD τ) (Memref.whole main_v0_3) fullShare d) ∗ (∃ d, owns (c : Thread nD τ) (Memref.whole main_v0_4) fullShare d) ∗ (∃ d, owns (c : Thread nD τ) (Memref.whole main_v0_5) fullShare d) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ owes (c : Thread nD τ) 0 W
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) (Memref.whole main_v0_2) fullShare d) ∗ (∃ d, owns (c : Thread nD τ) (Memref.whole main_v0_3) fullShare d) ∗ (∃ d, owns (c : Thread nD τ) (Memref.whole main_v0_4) fullShare d) ∗ (∃ d, owns (c : Thread nD τ) (Memref.whole main_v0_5) fullShare d) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ ∃ W', owes (c : Thread nD τ) 0 W') -∗ K ⟨⟩))
      ⊢ wp frame (wpE (defs₀ (F := F)) Variants.none c none) Set.univ
          (cc0_attn_bwd i arg2 harg2 arg3 harg3 arg4 harg4 arg5 harg5 arg6 harg6 arg7 harg7 arg8 harg8 arg9 harg9 arg10 harg10 arg11 harg11 arg12 harg12 arg13 harg13 arg14 harg14 arg15 harg15 (Memref.whole main_v0_2) (Memref.isWhole_whole _) (Memref.whole main_v0_3) (Memref.isWhole_whole _) (Memref.whole main_v0_4) (Memref.isWhole_whole _) (Memref.whole main_v0_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10) K := by
  simp only [cc0_attn_bwd_eq_skeleton]; unfold cc0_attn_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Q0, Q1, Q2, Q3, HW, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec_parts (disch := first | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [Q0]; · iexact Q0
  isplitl [Q1]; · iexact Q1
  isplitl [Q2]; · iexact Q2
  isplitl [Q3]; · iexact Q3
  iexists _; iexact HW

end Cert.KernelIdeal.Hand

end
-- ==== Proof.Attn.RunTF.lean ====
module

public import proofs.«01_k».proof.Proof.Gen.KernelIdeal.Frame
public import proofs.«01_k».proof.Proof.Attn.Loop
public import proofs.«01_k».proof.Proof.Gen.KernelIdeal.Loops
public import Idealize.ShloMosaic.Lib.Pipeline.Frame
public import Idealize.ShloMosaic.Lib.LoopRemainder
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 8000000 in
/-- The body's run where the row block is the first and not the last one: inputs as they were, everything written at some contents. -/
theorem kernelRun_TF (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x256 .bf16) (harg5 : arg5.IsWhole) (arg6 : Memref sig .tc .vmem S8192x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x256 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S2x512x128 .f32) (harg12 : arg12.IsWhole) (arg13 : Memref sig .tc .vmem S8x128 .f32) (harg13 : arg13.IsWhole) (arg14 : Memref sig .tc .vmem S512x128 .f32) (harg14 : arg14.IsWhole) (arg15 : Memref sig .tc .vmem S512x256 .f32) (harg15 : arg15.IsWhole) (hc1 : isFirst i) (hc2 : ¬ (k0_cond2 i = 1#1))
    (x2 : Vec F S512x128 .bf16) (x3 : Vec F S8192x128 .bf16) (x4 : Vec F S8192x128 .bf16) (x5 : Vec F S8192x256 .bf16) (x6 : Vec F S8192x128 .bf16) (x7 : Vec F S512x128 .bf16) (x8 : Vec F S512x128 .f32) (x9 : Vec F S512x256 .bf16) (x10 : Vec F S512x128 .bf16) (x11 : Vec F S512x128 .f32) (x12 : Vec F S2x512x128 .f32) (x13 : Vec F S8x128 .f32) (W : Waits sig Unit) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) (Memref.whole main_v0_2) fullShare d) ∗ (∃ d, owns (c : Thread nD τ) (Memref.whole main_v0_3) fullShare d) ∗ (∃ d, owns (c : Thread nD τ) (Memref.whole main_v0_4) fullShare d) ∗ (∃ d, owns (c : Thread nD τ) (Memref.whole main_v0_5) fullShare d) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ owes (c : Thread nD τ) 0 W
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) (Memref.whole main_v0_2) fullShare d) ∗ (∃ d, owns (c : Thread nD τ) (Memref.whole main_v0_3) fullShare d) ∗ (∃ d, owns (c : Thread nD τ) (Memref.whole main_v0_4) fullShare d) ∗ (∃ d, owns (c : Thread nD τ) (Memref.whole main_v0_5) fullShare d) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ ∃ W', owes (c : Thread nD τ) 0 W') -∗ K ⟨⟩))
      ⊢ wp frame (wpE (defs₀ (F := F)) Variants.none c none) Set.univ
          (cc0_attn_bwd i arg2 harg2 arg3 harg3 arg4 harg4 arg5 harg5 arg6 harg6 arg7 harg7 arg8 harg8 arg9 harg9 arg10 harg10 arg11 harg11 arg12 harg12 arg13 harg13 arg14 harg14 arg15 harg15 (Memref.whole main_v0_2) (Memref.isWhole_whole _) (Memref.whole main_v0_3) (Memref.isWhole_whole _) (Memref.whole main_v0_4) (Memref.isWhole_whole _) (Memref.whole main_v0_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10) K := by
  simp only [cc0_attn_bwd_eq_skeleton]; unfold cc0_attn_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Q0, Q1, Q2, Q3, HW, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec_parts (disch := first | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [Q0]; · iexact Q0
  isplitl [Q1]; · iexact Q1
  isplitl [Q2]; · iexact Q2
  isplitl [Q3]; · iexact Q3
  iexists _; iexact HW

end Cert.KernelIdeal.Hand

end
-- ==== Proof.Attn.RunFT.lean ====
module

public import proofs.«01_k».proof.Proof.Gen.KernelIdeal.Frame
public import proofs.«01_k».proof.Proof.Attn.Loop
public import proofs.«01_k».proof.Proof.Gen.KernelIdeal.Loops
public import Idealize.ShloMosaic.Lib.Pipeline.Frame
public import Idealize.ShloMosaic.Lib.LoopRemainder
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 8000000 in
/-- The body's run where the row block is not the first and the last one: inputs as they were, everything written at some contents. -/
theorem kernelRun_FT (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x256 .bf16) (harg5 : arg5.IsWhole) (arg6 : Memref sig .tc .vmem S8192x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x256 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S2x512x128 .f32) (harg12 : arg12.IsWhole) (arg13 : Memref sig .tc .vmem S8x128 .f32) (harg13 : arg13.IsWhole) (arg14 : Memref sig .tc .vmem S512x128 .f32) (harg14 : arg14.IsWhole) (arg15 : Memref sig .tc .vmem S512x256 .f32) (harg15 : arg15.IsWhole) (hc1 : ¬ isFirst i) (hc2 : (k0_cond2 i = 1#1))
    (x2 : Vec F S512x128 .bf16) (x3 : Vec F S8192x128 .bf16) (x4 : Vec F S8192x128 .bf16) (x5 : Vec F S8192x256 .bf16) (x6 : Vec F S8192x128 .bf16) (x7 : Vec F S512x128 .bf16) (x8 : Vec F S512x128 .f32) (x9 : Vec F S512x256 .bf16) (x10 : Vec F S512x128 .bf16) (x11 : Vec F S512x128 .f32) (x12 : Vec F S2x512x128 .f32) (x13 : Vec F S8x128 .f32) (W : Waits sig Unit) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) (Memref.whole main_v0_2) fullShare d) ∗ (∃ d, owns (c : Thread nD τ) (Memref.whole main_v0_3) fullShare d) ∗ (∃ d, owns (c : Thread nD τ) (Memref.whole main_v0_4) fullShare d) ∗ (∃ d, owns (c : Thread nD τ) (Memref.whole main_v0_5) fullShare d) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ owes (c : Thread nD τ) 0 W
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) (Memref.whole main_v0_2) fullShare d) ∗ (∃ d, owns (c : Thread nD τ) (Memref.whole main_v0_3) fullShare d) ∗ (∃ d, owns (c : Thread nD τ) (Memref.whole main_v0_4) fullShare d) ∗ (∃ d, owns (c : Thread nD τ) (Memref.whole main_v0_5) fullShare d) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ ∃ W', owes (c : Thread nD τ) 0 W') -∗ K ⟨⟩))
      ⊢ wp frame (wpE (defs₀ (F := F)) Variants.none c none) Set.univ
          (cc0_attn_bwd i arg2 harg2 arg3 harg3 arg4 harg4 arg5 harg5 arg6 harg6 arg7 harg7 arg8 harg8 arg9 harg9 arg10 harg10 arg11 harg11 arg12 harg12 arg13 harg13 arg14 harg14 arg15 harg15 (Memref.whole main_v0_2) (Memref.isWhole_whole _) (Memref.whole main_v0_3) (Memref.isWhole_whole _) (Memref.whole main_v0_4) (Memref.isWhole_whole _) (Memref.whole main_v0_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10) K := by
  simp only [cc0_attn_bwd_eq_skeleton]; unfold cc0_attn_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Q0, Q1, Q2, Q3, HW, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec_parts (disch := first | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [Q0]; · iexact Q0
  isplitl [Q1]; · iexact Q1
  isplitl [Q2]; · iexact Q2
  isplitl [Q3]; · iexact Q3
  iexists _; iexact HW

end Cert.KernelIdeal.Hand

end
-- ==== Proof.Attn.RunTT.lean ====
module

public import proofs.«01_k».proof.Proof.Gen.KernelIdeal.Frame
public import proofs.«01_k».proof.Proof.Attn.Loop
public import proofs.«01_k».proof.Proof.Gen.KernelIdeal.Loops
public import Idealize.ShloMosaic.Lib.Pipeline.Frame
public import Idealize.ShloMosaic.Lib.LoopRemainder
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 8000000 in
/-- The body's run where the row block is the first and the last one: inputs as they were, everything written at some contents. -/
theorem kernelRun_TT (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x256 .bf16) (harg5 : arg5.IsWhole) (arg6 : Memref sig .tc .vmem S8192x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x256 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S2x512x128 .f32) (harg12 : arg12.IsWhole) (arg13 : Memref sig .tc .vmem S8x128 .f32) (harg13 : arg13.IsWhole) (arg14 : Memref sig .tc .vmem S512x128 .f32) (harg14 : arg14.IsWhole) (arg15 : Memref sig .tc .vmem S512x256 .f32) (harg15 : arg15.IsWhole) (hc1 : isFirst i) (hc2 : (k0_cond2 i = 1#1))
    (x2 : Vec F S512x128 .bf16) (x3 : Vec F S8192x128 .bf16) (x4 : Vec F S8192x128 .bf16) (x5 : Vec F S8192x256 .bf16) (x6 : Vec F S8192x128 .bf16) (x7 : Vec F S512x128 .bf16) (x8 : Vec F S512x128 .f32) (x9 : Vec F S512x256 .bf16) (x10 : Vec F S512x128 .bf16) (x11 : Vec F S512x128 .f32) (x12 : Vec F S2x512x128 .f32) (x13 : Vec F S8x128 .f32) (W : Waits sig Unit) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) (Memref.whole main_v0_2) fullShare d) ∗ (∃ d, owns (c : Thread nD τ) (Memref.whole main_v0_3) fullShare d) ∗ (∃ d, owns (c : Thread nD τ) (Memref.whole main_v0_4) fullShare d) ∗ (∃ d, owns (c : Thread nD τ) (Memref.whole main_v0_5) fullShare d) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ owes (c : Thread nD τ) 0 W
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) (Memref.whole main_v0_2) fullShare d) ∗ (∃ d, owns (c : Thread nD τ) (Memref.whole main_v0_3) fullShare d) ∗ (∃ d, owns (c : Thread nD τ) (Memref.whole main_v0_4) fullShare d) ∗ (∃ d, owns (c : Thread nD τ) (Memref.whole main_v0_5) fullShare d) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ ∃ W', owes (c : Thread nD τ) 0 W') -∗ K ⟨⟩))
      ⊢ wp frame (wpE (defs₀ (F := F)) Variants.none c none) Set.univ
          (cc0_attn_bwd i arg2 harg2 arg3 harg3 arg4 harg4 arg5 harg5 arg6 harg6 arg7 harg7 arg8 harg8 arg9 harg9 arg10 harg10 arg11 harg11 arg12 harg12 arg13 harg13 arg14 harg14 arg15 harg15 (Memref.whole main_v0_2) (Memref.isWhole_whole _) (Memref.whole main_v0_3) (Memref.isWhole_whole _) (Memref.whole main_v0_4) (Memref.isWhole_whole _) (Memref.whole main_v0_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10) K := by
  simp only [cc0_attn_bwd_eq_skeleton]; unfold cc0_attn_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Q0, Q1, Q2, Q3, HW, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec_parts (disch := first | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [Q0]; · iexact Q0
  isplitl [Q1]; · iexact Q1
  isplitl [Q2]; · iexact Q2
  isplitl [Q3]; · iexact Q3
  iexists _; iexact HW

end Cert.KernelIdeal.Hand

end
-- ==== Proof.Attn.Launch.lean ====
module

public import proofs.«01_k».proof.Proof.Gen.KernelIdeal.Frame
public import proofs.«01_k».proof.Proof.Gen.KernelIdeal.Launch
public import proofs.«01_k».proof.Proof.Gen.KernelIdeal.Points
public import proofs.«01_k».proof.Proof.Attn.RunFF
public import proofs.«01_k».proof.Proof.Attn.RunTF
public import proofs.«01_k».proof.Proof.Attn.RunFT
public import proofs.«01_k».proof.Proof.Attn.RunTT
public import Idealize.ShloMosaic.Lib.Pipeline.FrameBody
public import Idealize.ShloMosaic.Lib.Pipeline.Cells
public import Idealize.ShloMosaic.Lib.Pipeline.Frame
public import Idealize.ShloMosaic.Lib.LoopRemainder
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's own cells and the results it writes by transfers -/

/-- The four cells of the kernel's own transfers. -/
abbrev osem0 : Fin 4 → SemLoc sig := fun j => (![SemLoc.dma 23, SemLoc.dma 24, SemLoc.dma 25, SemLoc.dma 26] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) := by
  rw [Pipeline.ownSems0_eq_of_list c osem0 [0, 1, 2, 3] (by decide) (by decide)]; rfl
/-- No operand is read by transfers. -/
def H0 : Finset (Ref sig .tc) := ∅
/-- The four results written by transfers: the gradients of the keys and values of both attentions. -/
def R0 : Finset (Ref sig .tc) := {main_v0_2, main_v0_3, main_v0_4, main_v0_5}
theorem H0_sub : H0 ⊆ Pipeline.restRefs sig spec0 := by decide
theorem R0_sub : R0 ⊆ Pipeline.restRefs sig spec0 \ H0 := by decide
theorem hbmPts0_eq (c : Dev nD) :
    (bigSep H0 (fun b => ((c : Thread nD τ).loc b) ↦{fullShare} V m c b) : sProp 𝕄) = iprop(emp) := by
  unfold H0; exact BI.bigSep_empty
/-- The results written by transfers, each whole at some contents. -/
theorem ownedPts0_eq (c : Dev nD) :
    (Pipeline.owned R0 c : sProp 𝕄)
      = iprop((∃ f : Buf (Elt F) ((c : Thread nD τ).loc main_v0_2), ((c : Thread nD τ).loc main_v0_2) ↦{fullShare} f) ∗ (∃ f : Buf (Elt F) ((c : Thread nD τ).loc main_v0_3), ((c : Thread nD τ).loc main_v0_3) ↦{fullShare} f) ∗ (∃ f : Buf (Elt F) ((c : Thread nD τ).loc main_v0_4), ((c : Thread nD τ).loc main_v0_4) ↦{fullShare} f) ∗ (∃ f : Buf (Elt F) ((c : Thread nD τ).loc main_v0_5), ((c : Thread nD τ).loc main_v0_5) ↦{fullShare} f)) := by
  unfold Pipeline.owned; rw [BI.bigSep_eq_bigSepL_of_eq [main_v0_2, main_v0_3, main_v0_4, main_v0_5] (by decide) (by decide)]; rfl

/-- The invariant between points: scratch and written results at some contents, the generator at some state, the cells at zero. -/
theorem PhiDR0_eq (c : Dev nD) :
    (Pipeline.ΦDR osem0 spec0 H0 R0 (V m) c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d)) ∗ (∃ r, prngReg c r) ∗ iprop(semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ iprop(emp)
          ∗ iprop((∃ d, owns (c : Thread nD τ) (Memref.whole main_v0_2) fullShare d) ∗ (∃ d, owns (c : Thread nD τ) (Memref.whole main_v0_3) fullShare d) ∗ (∃ d, owns (c : Thread nD τ) (Memref.whole main_v0_4) fullShare d) ∗ (∃ d, owns (c : Thread nD τ) (Memref.whole main_v0_5) fullShare d))) := by
  rw [Pipeline.ΦDR_eq, scopedRest0_eq, ownSems00_eq, hbmPts0_eq, ownedPts0_eq]
  simp only [owns_whole]; try rfl

/-! ## The proof data and the body obligation -/

/-- The two results written through windows are not named here. -/
def forgets0 : Fin 14 → Bool := fun w => match w with | ⟨12, _⟩ => true | ⟨13, _⟩ => true | _ => false

/-- The proof data on core `c`: the inputs' blocks stay, the outputs' contents are unnamed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => Pipeline.Dat.unnamed (cfg := cfg0) 12 t
    | ⟨13, _⟩ => Pipeline.Dat.unnamed (cfg := cfg0) 13 t
  Φ _ := Pipeline.ΦDR osem0 spec0 H0 R0 (V m) c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare d) ∗ (∃ d, owns (c : Thread nD τ) (st0_13 t) fullShare d))
/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (∃ d, owns (c : Thread nD τ) (st0_12 t) fullShare d) ∗ (∃ d, owns (c : Thread nD τ) (st0_13 t) fullShare d))

set_option maxHeartbeats 4000000 in
/-- The body at the point: one of the four runs, by the point's row block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦDR osem0 spec0 H0 R0 (V m) c from rfl, PhiDR0_eq]
  rw [after0_0, after0_1, after0_2, after0_3, after0_4, after0_5, after0_6, after0_7, after0_8, after0_9, after0_10, after0_11]
  simp only [before0_0, before0_1, before0_2, before0_3, before0_4, before0_5, before0_6, before0_7, before0_8, before0_9, before0_10, before0_11]
  unfold Dat.owesAt Pipeline.owesWithin
  rw [show (dats m 0 c).owed t.castSucc = 0 from rfl]
  iintro ⟨⟨⟨S0, S1, S2, S3, S4, S5, S6, S7, S8, S9⟩, Hg, ⟨Q0, Q1, Q2, Q3⟩, He, ⟨R2, R3, R4, R5⟩⟩, ⟨%W, %hW, HO⟩, ⟨%d0, I0⟩, ⟨%d1, I1⟩, ⟨%d2, I2⟩, ⟨%d3, I3⟩, ⟨%d4, I4⟩, ⟨%d5, I5⟩, ⟨%d6, I6⟩, ⟨%d7, I7⟩, ⟨%d8, I8⟩, ⟨%d9, I9⟩, ⟨%d10, I10⟩, ⟨%d11, I11⟩, O12, O13⟩
  by_cases h1 : isFirst (grid0.coords t) <;> by_cases h2 : k0_cond2 (grid0.coords t) = 1#1
  on_goal 1 => iapply (kernelRun_TT c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) h1 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) W _)
  on_goal 2 => iapply (kernelRun_TF c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) h1 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) W _)
  on_goal 3 => iapply (kernelRun_FT c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) h1 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) W _)
  on_goal 4 => iapply (kernelRun_FF c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) h1 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) W _)
  all_goals
    isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    isplitl [I10]; · iexact I10
    isplitl [I11]; · iexact I11
    isplitl [O12]; · iexact O12
    isplitl [O13]; · iexact O13
    isplitl [R2]; · iexact R2
    isplitl [R3]; · iexact R3
    isplitl [R4]; · iexact R4
    isplitl [R5]; · iexact R5
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [Q0]; · iexact Q0
    isplitl [Q1]; · iexact Q1
    isplitl [Q2]; · iexact Q2
    isplitl [Q3]; · iexact Q3
    isplitl [HO]; · iexact HO
    iintro ⟨I0, I1, I2, I3, I4, I5, I6, I7, I8, I9, I10, I11, O12, O13, R2, R3, R4, R5, S0, S1, S2, S3, S4, S5, S6, S7, S8, S9, Q0, Q1, Q2, Q3, ⟨%W', HO⟩⟩
    isplitl [S0 S1 S2 S3 S4 S5 S6 S7 S8 S9 Hg Q0 Q1 Q2 Q3 He R2 R3 R4 R5]
    · isplitl [S0 S1 S2 S3 S4 S5 S6 S7 S8 S9]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        iexact S9
      isplitl [Hg]; · iexact Hg
      isplitl [Q0 Q1 Q2 Q3]
      · isplitl [Q0]; · iexact Q0
        isplitl [Q1]; · iexact Q1
        isplitl [Q2]; · iexact Q2
        iexact Q3
      isplitl [He]; · iexact He
      isplitl [R2]; · iexact R2
      isplitl [R3]; · iexact R3
      isplitl [R4]; · iexact R4
      iexact R5
    isplitl [HO]
    · iexists W'; isplitr; · ipureintro; exact fun _ _ => Or.inl trivial
      iexact HO
    isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    isplitl [I10]; · iexact I10
    isplitl [I11]; · iexact I11
    isplitl [O12]; · iexact O12
    iexact O13

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

/-- The program up to the pipelined call is the call alone. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- Every weakly fair run terminates, with the inputs' arrays as they were and every semaphore at zero. -/
theorem run_main :
    θ_run defs (onTc (τ := τ) (main (F := F))) (s₀ m ρ)
      (fun r => Pipeline.RDat.FramePostR (cfgs 0) (fun c => (dats m 0 c).toRForget forgets0) R0 (V m) r ∧ r.2.sem = fun _ => 0) :=
  Pipeline.θ_run_frame_dmaR_forget_shared (Q' := _) cfgs (dats m) (0 : Fin 1) launch₀0 osem0 defs₀ Variants.none forgets0 ownSemFacts0 H0 R0 H0_sub R0_sub m ρ main
    (hbody := fun c => (body_obligation m c).loose) (hq := fun _ _ _ => rfl)
    (howed := fun _ _ => rfl) (V := V m) (hmain := hmainD m Variants.none) (hA := A_eq m)
    (hin := fun _ => .rfl) (hout := fun _ => .rfl)

variable {m}

/-- An input window's array after the run holds what it held. -/
theorem final_in {r : PUnit × MemSt nD τ sig (Elt F)}
    (h : Pipeline.RDat.FramePostR (cfgs 0) (fun c => (dats (F := F) m 0 c).toRForget forgets0) R0 (V m) r) (c : Dev nD) (w : Fin 14)
    (hf : forgets0 w = false) (hw : (cfg0.win w).isOut = false) :
    r.2.mem ((spec0 w).arr.view.loc (c : Thread nD τ)) = V m c (Pipeline.arrRef spec0 w) :=
  (((dats (F := F) m 0 c).toRForget_arrAt_iff hf _ _).1 ((h c).1 w)).trans (((dats (F := F) m 0 c).arrAt_in w hw _).trans (A_eq m c w))

variable (m)

/-- The frame: termination without error, the ten arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(final_in h.1 c 2 rfl rfl), (final_in h.1 c 5 rfl rfl), (final_in h.1 c 6 rfl rfl), (final_in h.1 c 7 rfl rfl), (final_in h.1 c 3 rfl rfl), (final_in h.1 c 4 rfl rfl), (final_in h.1 c 8 rfl rfl), (final_in h.1 c 9 rfl rfl), (final_in h.1 c 10 rfl rfl), (final_in h.1 c 11 rfl rfl)⟩, h.2⟩) (run_main m ρ)

end Cert.KernelIdeal.Hand

end
-- ==== Proof.Attn.Same.lean ====
/- The printed attention backward kernel and its idealization are the same program: no rewrite was applied, so their
   tables of bodies agree entry by entry at machine floats. -/
module

public import proofs.«01_k».proof.Defs
public import proofs.«01_k».proof.Proof.Gen.Kernel
public import proofs.«01_k».proof.Proof.Gen.KernelIdeal
public import proofs.«01_k».proof.Proof.Attn.Launch

@[expose] public section

namespace Cert.KernelIdeal.Hand

open Idealize.ShloMosaic Idealize.SL.Sem

variable [Cert.Kernel.Facts] [Cert.KernelIdeal.Facts]

/-- The body of the call is the same function of its memrefs in both. -/
theorem body_eq : @Cert.Kernel.cc0_attn_bwd Bits _ _ = @Cert.KernelIdeal.cc0_attn_bwd Bits _ _ := rfl

set_option maxHeartbeats 2000000 in
/-- The bodies of the kernels, by name: there is one, and it is the same. -/
theorem defs₀_eq : @Cert.Kernel.defs₀ Bits _ _ = @Cert.KernelIdeal.defs₀ Bits _ _ := by
  unfold Cert.Kernel.defs₀ Cert.KernelIdeal.defs₀
  refine congrArg Defs.onTc ?_
  funext l x
  obtain ⟨l, hl⟩ := l
  cases l with
  | succ n => exact absurd hl (Nat.not_lt.2 (Nat.le_add_left _ _))
  | zero =>
    obtain ⟨t, s⟩ := x
    dsimp only
    rw [body_eq]
    rfl

/-- The bodies with the pipelines around them. -/
theorem defs_eq : @Cert.Kernel.defs Bits _ _ = @Cert.KernelIdeal.defs Bits _ _ :=
  congrArg (Pipeline.defs (@Cert.Kernel.pcfgs Bits _)) defs₀_eq

/-- The frame of the printed kernel is the run of the idealized one, read at machine floats. -/
theorem frame_printed : Cert.quiescent_Kernel := by
  intro m ρ _
  rw [defs_eq]
  exact Cert.KernelIdeal.Hand.frame (F := Bits) m ρ

end Cert.KernelIdeal.Hand

end
-- ==== Proof.Real.lean ====
/-
  Arrays of extended reals whose elements are real numbers, and the row functions of the training step over real
  numbers: the root-mean-square norm of a row and the gradient through it. Both programs of a claim are brought to
  these functions, where the usual laws of arithmetic hold.
-/
module

public import Idealize.ShloMosaic.Lib.Pointwise

@[expose] public section

noncomputable section

namespace Cert.Row

open Idealize.ShloMosaic

/-- The matrix `x` holds the real numbers `X`. -/
def R2 {a b : Nat} (x : (⟨2, ![a, b]⟩ : Shape).Idx → EReal) (X : Fin a → Fin b → ℝ) : Prop :=
  ∀ j k, x (ix2 j k) = ((X j k : ℝ) : EReal)

theorem R2.at {a b : Nat} {x : (⟨2, ![a, b]⟩ : Shape).Idx → EReal} {X : Fin a → Fin b → ℝ} (h : R2 x X) (j : Fin a)
    (k : Fin b) : x (ix2 j k) = ((X j k : ℝ) : EReal) := h j k

/-- Two arrays that hold the same real numbers are equal. -/
theorem R2.ext {a b : Nat} {x y : (⟨2, ![a, b]⟩ : Shape).Idx → EReal} {X Y : Fin a → Fin b → ℝ} (hx : R2 x X)
    (hy : R2 y Y) (h : ∀ j k, X j k = Y j k) : x = y := by
  funext i
  rw [← ix2_eta i]
  exact ((hx (i 0) (i 1)).trans (congrArg _ (h (i 0) (i 1)))).trans (hy (i 0) (i 1)).symm

theorem R2.of_fun {a b : Nat} {x : (⟨2, ![a, b]⟩ : Shape).Idx → EReal} {X : (⟨2, ![a, b]⟩ : Shape).Idx → ℝ}
    (h : ∀ i, x i = ((X i : ℝ) : EReal)) : R2 x fun j k => X (ix2 j k) := fun j k => h (ix2 j k)

theorem R2.congr {a b : Nat} {x : (⟨2, ![a, b]⟩ : Shape).Idx → EReal} {X Y : Fin a → Fin b → ℝ} (hx : R2 x X)
    (h : ∀ j k, X j k = Y j k) : R2 x Y := fun j k => by rw [hx, h]

theorem coe_sum {n : Nat} (f : Fin n → ℝ) : (∑ k, ((f k : ℝ) : EReal)) = ((∑ k, f k : ℝ) : EReal) :=
  (map_sum (⟨⟨Real.toEReal, EReal.coe_zero⟩, EReal.coe_add⟩ : ℝ →+ EReal) f Finset.univ).symm

theorem div_coe {x y : ℝ} (h : y ≠ 0) : Ideal.div (x : EReal) (y : EReal) = ((x / y : ℝ) : EReal) := by
  rw [Ideal.div, if_neg (by exact_mod_cast h), ← EReal.coe_inv, ← EReal.coe_mul, div_eq_mul_inv]

theorem rsqrt_coe_pos {x : ℝ} (h : 0 < x) : Ideal.rsqrt (x : EReal) = (((Real.sqrt x)⁻¹ : ℝ) : EReal) := by
  rw [Ideal.rsqrt_coe, if_neg (not_lt.mpr h.le), if_neg h.ne']

theorem lit_zero : Ideal.ofBits .f32 0x00000000#32 = ((0 : ℝ) : EReal) := by simp [Ideal.ofBits, Ideal.ieee]

theorem lit_one : Ideal.ofBits .f32 0x3F800000#32 = ((1 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

theorem lit_1024 : Ideal.ofBits .f32 0x44800000#32 = ((1024 : ℝ) : EReal) := by
  simp [Ideal.ofBits, Ideal.ieee, -EReal.coe_mul]; norm_num

/-- The number added under the root: the f32 nearest to one millionth. -/
def eps : ℝ := 8796093 / 8796093022208

theorem lit_eps : Ideal.ofBits .f32 0x358637BD#32 = ((eps : ℝ) : EReal) := by
  unfold eps
  simp [Ideal.ofBits, Ideal.ieee, -EReal.coe_mul]; norm_num

theorem eps_pos : 0 < eps := by unfold eps; norm_num

/-- A row times the columns of a matrix. -/
def rowMul {a b : Nat} (h : Fin a → ℝ) (w : Fin a → Fin b → ℝ) (n : Fin b) : ℝ := ∑ k, h k * w k n

/-- A row times the rows of a matrix. -/
def rowMulT {a b : Nat} (h : Fin a → ℝ) (w : Fin b → Fin a → ℝ) (n : Fin b) : ℝ := ∑ k, h k * w n k

/-! ## The norm of a row and the gradient through it -/

/-- The mean square of a row plus the small number. -/
def ms (v : Fin 1024 → ℝ) : ℝ := (∑ k, v k * v k) / 1024 + eps

theorem ms_pos (v : Fin 1024 → ℝ) : 0 < ms v :=
  add_pos_of_nonneg_of_pos (div_nonneg (Finset.sum_nonneg fun k _ => mul_self_nonneg (v k)) (by norm_num)) eps_pos

/-- The reciprocal root mean square. -/
def rr (v : Fin 1024 → ℝ) : ℝ := (Real.sqrt (ms v))⁻¹

/-- The row over its root mean square. -/
def nrm (v : Fin 1024 → ℝ) (k : Fin 1024) : ℝ := v k * rr v

/-- The gradient through the norm, in the form the kernels compute. -/
def dnrm (v e : Fin 1024 → ℝ) (k : Fin 1024) : ℝ := rr v * (e k - nrm v k * ((∑ l, e l * nrm v l) / 1024))

/-- The gradient through the norm, in the form automatic differentiation gives. -/
theorem dnrm_eq (v e : Fin 1024 → ℝ) (k : Fin 1024) :
    dnrm v e k = e k * rr v + v k * ((∑ l, v l * e l) * (-(1 / 2) * (rr v / ms v)) / 1024)
      + (∑ l, v l * e l) * (-(1 / 2) * (rr v / ms v)) / 1024 * v k := by
  have h : rr v / ms v = rr v * (rr v * rr v) := by
    have hs : rr v * rr v = (ms v)⁻¹ := by
      unfold rr
      rw [← mul_inv, Real.mul_self_sqrt (ms_pos v).le]
    rw [hs, div_eq_mul_inv]
  have hsum : (∑ l, e l * nrm v l) = rr v * ∑ l, v l * e l := by
    rw [Finset.mul_sum]
    exact Finset.sum_congr rfl fun l _ => by unfold nrm; ring
  rw [h]
  unfold dnrm
  rw [hsum]
  unfold nrm
  ring

/-- The logistic function. -/
def sg (t : ℝ) : ℝ := (1 + Real.exp (-t))⁻¹

theorem one_add_exp_pos (t : ℝ) : 0 < 1 + Real.exp (-t) := by have := Real.exp_pos (-t); linarith

theorem logistic_sg (t : ℝ) : Ideal.logistic (t : EReal) = ((sg t : ℝ) : EReal) := Ideal.logistic_coe t

/-- The logistic function as one over one plus an exponential. -/
theorem div_sg (t : ℝ) : Ideal.div ((1 : ℝ) : EReal) ((1 + Real.exp (-t) : ℝ) : EReal) = ((sg t : ℝ) : EReal) := by
  rw [div_coe (one_add_exp_pos t).ne', one_div]; rfl

end Cert.Row

end
-- ==== Proof.Finite.lean ====
/-
  The preconditions read back: an array of which every absolute value is below infinity holds real numbers.
-/
module

public import proofs.«01_k».proof.Proof.Real
public import Idealize.ShloMosaic.Lib.ReduceAll

@[expose] public section

namespace Cert.Row

open Idealize.ShloMosaic

theorem lit_top : Ideal.ofBits .f32 0x7F800000#32 = (⊤ : EReal) := by simp [Ideal.ofBits, Ideal.ieee]

instance : Subsingleton (⟨0, ![]⟩ : Shape).Idx := ⟨fun _ _ => funext fun k => k.elim0⟩

/-- An extended real whose absolute value is below infinity is a real number. -/
theorem real_of_abs {x : EReal} (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- A matrix that passes the test of the precondition holds real numbers. -/
theorem R2.of_all {a b : Nat} (x : FVec Ideal ⟨2, ![a, b]⟩ .f32)
    (hb : (⟨0, ![]⟩ : Shape).BroadcastsInDim ⟨2, ![a, b]⟩ (![] : Fin 0 → Fin (⟨2, ![a, b]⟩ : Shape).rank))
    (init : (⟨0, ![]⟩ : Shape).Idx → BitVec 1) {axes : List (Fin (⟨2, ![a, b]⟩ : Shape).rank)}
    (h : (⟨2, ![a, b]⟩ : Shape).ReducesTo axes ⟨0, ![]⟩) (hu : 0 < (⟨0, ![]⟩ : Shape).numel) (j : (⟨0, ![]⟩ : Shape).Idx)
    (e : Host.reduce IntOp.andi (cmpf .olt (Host.absf x) (broadcastInDim ⟨2, ![a, b]⟩ ![] hb
      (constant (F := Ideal) ⟨0, ![]⟩ .f32 0x7F800000#32))) init h hu j = 1#1) :
    ∃ X : Fin a → Fin b → ℝ, R2 x X := by
  have hx : ∀ i, ∃ r : ℝ, x i = (r : EReal) := fun i => by
    have := Host.reduce_andi_all _ _ _ _ j e i
    refine real_of_abs ?_
    rw [← lit_top]
    exact this
  choose X hX using hx
  exact ⟨_, R2.of_fun hX⟩

end Cert.Row

end
-- ==== Proof.Ffn.Rows.lean ====
/-
  The backward pass of the feed-forward block on one row of real numbers: the hidden row from the normed row, its
  gradient from the gradient of the second product, and the gradient of the row. The columns of the first weight are
  the gate's 2816 and then the other factor's 2816; the kernel takes each in two halves of 1408.
-/
module

public import proofs.«01_k».proof.Proof.Real

@[expose] public section

noncomputable section

namespace Cert.Row

/-- The gradient of the gate's columns, of the row they come from and the gradient of the last product. -/
def dgate {n : Nat} (H B : Fin 1024 → ℝ) (W U : Fin 1024 → Fin n → ℝ) (Z : Fin n → Fin 1024 → ℝ) (i : Fin n) : ℝ :=
  rowMulT B Z i * rowMul H U i * (sg (rowMul H W i) * (1 + rowMul H W i * (1 - sg (rowMul H W i))))

/-- The gradient of the other factor's columns. -/
def dup {n : Nat} (H B : Fin 1024 → ℝ) (W : Fin 1024 → Fin n → ℝ) (Z : Fin n → Fin 1024 → ℝ) (i : Fin n) : ℝ :=
  rowMulT B Z i * (rowMul H W i * sg (rowMul H W i))

/-- The hidden row. -/
def hid {n : Nat} (H : Fin 1024 → ℝ) (W U : Fin 1024 → Fin n → ℝ) (i : Fin n) : ℝ :=
  rowMul H W i * sg (rowMul H W i) * rowMul H U i

/-- `n` columns of a matrix from column `o` on. -/
def cols {a b : Nat} (o n : Nat) (h : o + n ≤ b) (W : Fin a → Fin b → ℝ) (k : Fin a) (i : Fin n) : ℝ :=
  W k ⟨o + i.val, by have := i.isLt; omega⟩

/-- `n` rows of a matrix from row `o` on. -/
def rows {a b : Nat} (o n : Nat) (h : o + n ≤ a) (Z : Fin a → Fin b → ℝ) (i : Fin n) (k : Fin b) : ℝ :=
  Z ⟨o + i.val, by have := i.isLt; omega⟩ k

/-- Both gradients side by side, the gate's first. -/
def dgu (H B : Fin 1024 → ℝ) (W : Fin 1024 → Fin 5632 → ℝ) (Z : Fin 2816 → Fin 1024 → ℝ) (i : Fin 5632) : ℝ :=
  if h : i.val < 2816 then
    dgate H B (cols 0 2816 (by norm_num) W) (cols 2816 2816 (by norm_num) W) Z ⟨i.val, h⟩
  else dup H B (cols 0 2816 (by norm_num) W) Z ⟨i.val - 2816, by have := i.isLt; omega⟩

variable (H B : Fin 1024 → ℝ) (W : Fin 1024 → Fin 5632 → ℝ) (Z : Fin 2816 → Fin 1024 → ℝ)

/-- A sum over the columns, cut in four. -/
theorem sum_four (f : Fin 5632 → ℝ) :
    (∑ i, f i) = (∑ i : Fin 1408, f ⟨0 + i.val, by have := i.isLt; omega⟩)
      + (∑ i : Fin 1408, f ⟨2816 + i.val, by have := i.isLt; omega⟩)
      + (∑ i : Fin 1408, f ⟨1408 + i.val, by have := i.isLt; omega⟩)
      + (∑ i : Fin 1408, f ⟨4224 + i.val, by have := i.isLt; omega⟩) := by
  have h1 : (∑ i, f i) = (∑ i : Fin 2816, f ⟨i.val, by have := i.isLt; omega⟩)
      + ∑ i : Fin 2816, f ⟨2816 + i.val, by have := i.isLt; omega⟩ := Fin.sum_univ_add (a := 2816) (b := 2816) f
  have h2 : ∀ g : Fin 2816 → ℝ, (∑ i, g i) = (∑ i : Fin 1408, g ⟨i.val, by have := i.isLt; omega⟩)
      + ∑ i : Fin 1408, g ⟨1408 + i.val, by have := i.isLt; omega⟩ := fun g => Fin.sum_univ_add (a := 1408) (b := 1408) g
  rw [h1, h2, h2]
  simp only [zero_add, ← Nat.add_assoc]
  norm_num
  ring

/-- The gate's gradient at a column of one half of them. -/
theorem dgu_gate (c : Nat) (hc : c + 1408 ≤ 2816) (i : Fin 1408) :
    dgate H B (cols c 1408 (by omega) W) (cols (2816 + c) 1408 (by omega) W) (rows c 1408 hc Z) i
      = dgu H B W Z ⟨c + i.val, by have := i.isLt; omega⟩ := by
  have hi := i.isLt
  unfold dgu
  rw [dif_pos (show c + i.val < 2816 by omega)]
  have hW : ∀ k, cols c 1408 (by omega) W k i = cols 0 2816 (by norm_num) W k ⟨c + i.val, by omega⟩ := fun k =>
    congrArg (W k) (Fin.ext (Nat.zero_add _).symm)
  have hU : ∀ k, cols (2816 + c) 1408 (by omega) W k i = cols 2816 2816 (by norm_num) W k ⟨c + i.val, by omega⟩ := fun k =>
    congrArg (W k) (Fin.ext (Nat.add_assoc 2816 c i.val))
  have hZ : ∀ k, rows c 1408 hc Z i k = Z ⟨c + i.val, by omega⟩ k := fun k => rfl
  simp only [dgate, rowMul, rowMulT, hW, hU, hZ]

/-- The other factor's. -/
theorem dgu_up (c : Nat) (hc : c + 1408 ≤ 2816) (i : Fin 1408) :
    dup H B (cols c 1408 (by omega) W) (rows c 1408 hc Z) i
      = dgu H B W Z ⟨2816 + c + i.val, by have := i.isLt; omega⟩ := by
  have hi := i.isLt
  unfold dgu
  rw [dif_neg (show ¬ 2816 + c + i.val < 2816 by omega)]
  have he : (⟨2816 + c + i.val - 2816, by omega⟩ : Fin 2816) = ⟨c + i.val, by omega⟩ := Fin.ext (by show 2816 + c + i.val - 2816 = c + i.val; omega)
  have hW : ∀ k, cols c 1408 (by omega) W k i = cols 0 2816 (by norm_num) W k ⟨c + i.val, by omega⟩ := fun k =>
    congrArg (W k) (Fin.ext (Nat.zero_add _).symm)
  have hZ : ∀ k, rows c 1408 hc Z i k = Z ⟨c + i.val, by omega⟩ k := fun k => rfl
  show _ = dup H B (cols 0 2816 (by norm_num) W) Z (⟨2816 + c + i.val - 2816, by omega⟩ : Fin 2816)
  rw [he]
  simp only [dup, rowMul, rowMulT, hW, hZ]

/-- The hidden row at a column of one half of them. -/
theorem hid_half (c : Nat) (hc : c + 1408 ≤ 2816) (i : Fin 1408) :
    hid H (cols c 1408 (by omega) W) (cols (2816 + c) 1408 (by omega) W) i
      = hid H (cols 0 2816 (by norm_num) W) (cols 2816 2816 (by norm_num) W) ⟨c + i.val, by have := i.isLt; omega⟩ := by
  have hi := i.isLt
  have hW : ∀ k, cols c 1408 (by omega) W k i = cols 0 2816 (by norm_num) W k ⟨c + i.val, by omega⟩ := fun k =>
    congrArg (W k) (Fin.ext (Nat.zero_add _).symm)
  have hU : ∀ k, cols (2816 + c) 1408 (by omega) W k i = cols 2816 2816 (by norm_num) W k ⟨c + i.val, by omega⟩ := fun k =>
    congrArg (W k) (Fin.ext (Nat.add_assoc 2816 c i.val))
  simp only [hid, rowMul, hW, hU]

/-- The gradient of the normed row, taken one half of the columns after the other. -/
theorem dh_eq (k : Fin 1024) :
    0 + rowMulT (dgate H B (cols 0 1408 (by norm_num) W) (cols 2816 1408 (by norm_num) W) (rows 0 1408 (by norm_num) Z))
          (cols 0 1408 (by norm_num) W) k
        + rowMulT (dup H B (cols 0 1408 (by norm_num) W) (rows 0 1408 (by norm_num) Z)) (cols 2816 1408 (by norm_num) W) k
        + rowMulT (dgate H B (cols 1408 1408 (by norm_num) W) (cols 4224 1408 (by norm_num) W)
            (rows 1408 1408 (by norm_num) Z)) (cols 1408 1408 (by norm_num) W) k
        + rowMulT (dup H B (cols 1408 1408 (by norm_num) W) (rows 1408 1408 (by norm_num) Z))
            (cols 4224 1408 (by norm_num) W) k
      = rowMulT (dgu H B W Z) W k := by
  rw [zero_add]
  unfold rowMulT
  rw [sum_four]
  have e1 := fun i => dgu_gate H B W Z 0 (by norm_num) i
  have e2 := fun i => dgu_up H B W Z 0 (by norm_num) i
  have e3 := fun i => dgu_gate H B W Z 1408 (by norm_num) i
  have e4 := fun i => dgu_up H B W Z 1408 (by norm_num) i
  refine congrArg₂ (· + ·) (congrArg₂ (· + ·) (congrArg₂ (· + ·) ?_ ?_) ?_) ?_
  · exact Finset.sum_congr rfl fun i _ => congrArg (· * _) (e1 i)
  · exact Finset.sum_congr rfl fun i _ => congrArg (· * _) (e2 i)
  · exact Finset.sum_congr rfl fun i _ => congrArg (· * _) (e3 i)
  · exact Finset.sum_congr rfl fun i _ => congrArg (· * _) (e4 i)

end Cert.Row

end
-- ==== Proof.Ffn.Pay.lean ====
/-
  What the body of `Kernel1Ideal`'s call computes of blocks that hold real numbers: each of its values, at a row and a
  column, as a real number. `X` is the block of the rows normed first, `D` the incoming gradient, `F` the rows normed
  last, `B` the gradient of the last, `H` the rows the first weight multiplies.
-/
module

public import proofs.«01_k».proof.Proof.Gen.Kernel1Ideal.Skeleton
public import proofs.«01_k».proof.Proof.Ffn.Rows

@[expose] public section

noncomputable section

namespace Cert.Kernel1Ideal.Ffn

open Cert.Kernel1Ideal Cert.Kernel1Ideal.Gen Idealize.ShloMosaic Cert.Row

variable {x d f : Vec Ideal S256x1024 .f32} {g : Vec Ideal S1x1024 .f32} {X D F : Fin 256 → Fin 1024 → ℝ}
  {G : Fin 1 → Fin 1024 → ℝ} {h b : FVec Ideal S256x1024 .bf16} {H B : Fin 256 → Fin 1024 → ℝ}
  {w u : Vec Ideal S1024x1408 .bf16} {W U : Fin 1024 → Fin 1408 → ℝ} {z : Vec Ideal S1408x1024 .bf16}
  {Z : Fin 1408 → Fin 1024 → ℝ}

/-- The reciprocal root mean square of a row, before the last product. -/
theorem pay4_R (hx : R2 f F) : R2 (k0_pay4 f) fun j _ => rr (F j) := by
  intro j k
  pointwise [k0_pay4, k0_pay3]
  simp only [lit_1024, lit_eps, hx.at, ← EReal.coe_mul, coe_sum, div_coe (by norm_num : (1024 : ℝ) ≠ 0), ← EReal.coe_add]
  exact rsqrt_coe_pos (ms_pos _)

theorem pay5_R (hx : R2 f F) : R2 (k0_pay5 f) fun j k => nrm (F j) k := by
  intro j k
  pointwise [k0_pay5, k0_pay3]
  simp only [hx.at, (pay4_R hx).at, ← EReal.coe_mul]
  rfl

/-- The gradient of the last product. -/
theorem pay7_R (hd : R2 d D) (hx : R2 f F) (hg : R2 g G) :
    R2 (k0_pay7 d f g) fun j k => dnrm (F j) (fun l => D j l * G 0 l) k := by
  intro j k
  pointwise [k0_pay7]
  simp only [lit_1024, hd.at, hg.at, (pay4_R hx).at, (pay5_R hx).at, ← EReal.coe_mul, coe_sum,
    div_coe (by norm_num : (1024 : ℝ) ≠ 0), ← EReal.coe_sub]
  rfl

/-- The same two of the rows the first product takes. -/
theorem pay8_R (hx : R2 x X) : R2 (k0_pay8 x) fun j _ => rr (X j) := by
  intro j k
  pointwise [k0_pay8]
  simp only [lit_1024, lit_eps, hx.at, ← EReal.coe_mul, coe_sum, div_coe (by norm_num : (1024 : ℝ) ≠ 0), ← EReal.coe_add]
  exact rsqrt_coe_pos (ms_pos _)

theorem pay9_R (hx : R2 x X) : R2 (k0_pay9 x) fun j k => nrm (X j) k := by
  intro j k
  pointwise [k0_pay9]
  simp only [hx.at, (pay8_R hx).at, ← EReal.coe_mul]
  rfl

theorem pay10_R (hx : R2 x X) (hg : R2 g G) : R2 (k0_pay10 x g) fun j k => nrm (X j) k * G 0 k := by
  intro j k
  pointwise [k0_pay10]
  simp only [hg.at, (pay9_R hx).at, ← EReal.coe_mul]

theorem pay11_R : R2 (k0_pay11 (F := Ideal)) fun _ _ => 0 := by
  intro j k
  pointwise [k0_pay11]
  exact EReal.coe_zero.symm

/-! ## One half of the columns of the gate -/

theorem pay12_eq : k0_pay12 x g w = k0_pay23 (k0_pay10 x g) w := rfl
theorem pay13_eq : k0_pay13 x g w = k0_pay23 (k0_pay10 x g) w := rfl
theorem pay24_eq : k0_pay24 h w = k0_pay23 h w := rfl
theorem pay14_eq : k0_pay14 x g w = k0_pay25 (k0_pay10 x g) w := rfl
theorem pay15_eq : k0_pay15 x g w = k0_pay26 (k0_pay10 x g) w := rfl
theorem pay16_eq : k0_pay16 x g w u = k0_pay27 (k0_pay10 x g) w u := rfl
theorem pay17_eq : k0_pay17 b z = k0_pay28 b z := rfl
theorem pay18_eq : k0_pay18 b x g u z = k0_pay29 b (k0_pay10 x g) u z := rfl
theorem pay19_eq : k0_pay19 x g w = addf (k0_pay31 (F := Ideal)) (k0_pay30 (k0_pay10 x g) w) := rfl
theorem pay20_eq {p q r s : FVec Ideal S256x1408 .f32} : k0_pay20 p q (addf r s) = k0_pay32 p q s r := rfl
theorem pay21_eq {p q : FVec Ideal S256x1408 .f32} : k0_pay21 p q = k0_pay33 p q := rfl

theorem pay23_R (hh : R2 h H) (hw : R2 w W) : R2 (k0_pay23 h w) fun j n => rowMul (H j) W n := by
  intro j n
  pointwise [k0_pay23]
  simp only [hh.at, hw.at, ← EReal.coe_mul, coe_sum]
  rfl

theorem pay25_R (hh : R2 h H) (hw : R2 w W) : R2 (k0_pay25 h w) fun j n => sg (rowMul (H j) W n) := by
  intro j n
  pointwise [k0_pay25]
  simp only [(pay23_R hh hw).at, logistic_sg]

theorem pay26_R (hh : R2 h H) (hw : R2 w W) :
    R2 (k0_pay26 h w) fun j n => rowMul (H j) W n * sg (rowMul (H j) W n) := by
  intro j n
  pointwise [k0_pay26]
  simp only [(pay23_R hh hw).at, (pay25_R hh hw).at, ← EReal.coe_mul]

/-- The hidden row. -/
theorem pay27_R (hh : R2 h H) (hw : R2 w W) (hu : R2 u U) :
    R2 (k0_pay27 h w u) fun j n => rowMul (H j) W n * sg (rowMul (H j) W n) * rowMul (H j) U n := by
  intro j n
  pointwise [k0_pay27]
  simp only [(pay26_R hh hw).at, pay24_eq, (pay23_R hh hu).at, ← EReal.coe_mul]

/-- The gradient of the hidden row. -/
theorem pay28_R (hb : R2 b B) (hz : R2 z Z) : R2 (k0_pay28 b z) fun j n => rowMulT (B j) Z n := by
  intro j n
  pointwise [k0_pay28]
  simp only [hb.at, hz.at, ← EReal.coe_mul, coe_sum]
  rfl

theorem pay29_R (hb : R2 b B) (hh : R2 h H) (hu : R2 u U) (hz : R2 z Z) :
    R2 (k0_pay29 b h u z) fun j n => rowMulT (B j) Z n * rowMul (H j) U n := by
  intro j n
  pointwise [k0_pay29]
  simp only [(pay28_R hb hz).at, pay24_eq, (pay23_R hh hu).at, ← EReal.coe_mul]

theorem pay30_R (hh : R2 h H) (hw : R2 w W) :
    R2 (k0_pay30 h w) fun j n => rowMul (H j) W n * (1 - sg (rowMul (H j) W n)) := by
  intro j n
  pointwise [k0_pay30]
  simp only [← EReal.coe_one, (pay23_R hh hw).at, (pay25_R hh hw).at, ← EReal.coe_mul, ← EReal.coe_sub]

theorem pay31_R : R2 (k0_pay31 (F := Ideal)) fun _ _ => 1 := by
  intro j n
  pointwise [k0_pay31]
  exact EReal.coe_one.symm

theorem pay32_R (hb : R2 b B) (hh : R2 h H) (hw : R2 w W) (hu : R2 u U) (hz : R2 z Z) :
    R2 (k0_pay32 (k0_pay25 h w) (k0_pay29 b h u z) (k0_pay30 h w) (k0_pay31 (F := Ideal)))
      fun j n => dgate (H j) (B j) W U Z n := by
  intro j n
  pointwise [k0_pay32]
  simp only [(pay25_R hh hw).at, (pay29_R hb hh hu hz).at, (pay30_R hh hw).at, pay31_R.at, ← EReal.coe_mul, ← EReal.coe_add]
  rfl

theorem pay33_R (hb : R2 b B) (hh : R2 h H) (hw : R2 w W) (hz : R2 z Z) :
    R2 (k0_pay33 (k0_pay26 h w) (k0_pay28 b z)) fun j n => dup (H j) (B j) W Z n := by
  intro j n
  pointwise [k0_pay33]
  simp only [(pay26_R hh hw).at, (pay28_R hb hz).at, ← EReal.coe_mul]
  rfl

/-- One half's part of the gradient of the row the first product takes, added to `v`. -/
theorem pay34_R {v : FVec Ideal S256x1024 .f32} {V : Fin 256 → Fin 1024 → ℝ} (hv : R2 v V) (hb : R2 b B) (hh : R2 h H)
    (hw : R2 w W) (hu : R2 u U) (hz : R2 z Z) :
    R2 (k0_pay34 v (k0_pay25 h w) (k0_pay26 h w) (k0_pay28 b z) (k0_pay29 b h u z) (k0_pay30 h w)
        (k0_pay31 (F := Ideal)) w u)
      fun j k => V j k + rowMulT (dgate (H j) (B j) W U Z) W k + rowMulT (dup (H j) (B j) W Z) U k := by
  intro j k
  pointwise [k0_pay34]
  simp only [(pay32_R hb hh hw hu hz).at, (pay33_R hb hh hw hz).at, hv.at, hw.at, hu.at, ← EReal.coe_mul, coe_sum,
    ← EReal.coe_add]
  rfl

theorem pay22_eq {v : FVec Ideal S256x1024 .f32} :
    k0_pay22 v (k0_pay14 x g w) (k0_pay15 x g w) (k0_pay17 b z) (k0_pay18 b x g u z) (k0_pay19 x g w) w u
      = k0_pay34 v (k0_pay25 (k0_pay10 x g) w) (k0_pay26 (k0_pay10 x g) w) (k0_pay28 b z)
          (k0_pay29 b (k0_pay10 x g) u z) (k0_pay30 (k0_pay10 x g) w) (k0_pay31 (F := Ideal)) w u := rfl

/-- The gradient of the rows, of the gradient `V` of the row the first product takes. -/
theorem pay36_R {v : FVec Ideal S256x1024 .f32} {V : Fin 256 → Fin 1024 → ℝ} (hd : R2 d D) (hx : R2 x X) (hg : R2 g G)
    (hv : R2 v V) (hb : R2 b B) (hh : R2 h H) (hw : R2 w W) (hu : R2 u U) (hz : R2 z Z) :
    R2 (k0_pay36 d (k0_pay8 x) (k0_pay9 x) v (k0_pay25 h w) (k0_pay26 h w) (k0_pay28 b z) (k0_pay29 b h u z)
        (k0_pay30 h w) (k0_pay31 (F := Ideal)) w u g)
      fun j k => D j k + dnrm (X j) (fun l => (V j l + rowMulT (dgate (H j) (B j) W U Z) W l
        + rowMulT (dup (H j) (B j) W Z) U l) * G 0 l) k := by
  intro j k
  pointwise [k0_pay36]
  simp only [lit_1024, hd.at, hg.at, (pay8_R hx).at, (pay9_R hx).at, (pay34_R hv hb hh hw hu hz).at, ← EReal.coe_mul,
    coe_sum, div_coe (by norm_num : (1024 : ℝ) ≠ 0), ← EReal.coe_sub, ← EReal.coe_add]
  rfl

end Cert.Kernel1Ideal.Ffn

end
-- ==== Proof.Ffn.Out.lean ====
/-
  What the body of `Kernel1Ideal`'s call leaves in its four large output blocks, of input blocks that hold real numbers,
  at the first point and at the others: the same functions of a row.
-/
module

public import proofs.«01_k».proof.Proof.Gen.Kernel1Ideal.Value
public import proofs.«01_k».proof.Proof.Ffn.Pay

@[expose] public section

set_option maxRecDepth 16384

noncomputable section

namespace Cert.Kernel1Ideal.Ffn

open Cert.Kernel1Ideal Cert.Kernel1Ideal.Gen Idealize.ShloMosaic Idealize.ShloMosaic.TcCoe Idealize.SL.Sem Cert.Row

theorem hz : (![0, 0] : Fin 2 → Nat) = fun _ => 0 := funext fun a => by fin_cases a <;> rfl

variable {x0 x1 x2 : Vec Ideal S256x1024 .f32} {x3 x4 : Vec Ideal S1x1024 .f32} {x5 : Vec Ideal S1024x5632 .bf16}
  {x6 : Vec Ideal S2816x1024 .bf16} {xo11 xo12 : Vec Ideal S8x1024 .f32} {D F X : Fin 256 → Fin 1024 → ℝ}
  {G P : Fin 1 → Fin 1024 → ℝ} {W : Fin 1024 → Fin 5632 → ℝ} {Z : Fin 2816 → Fin 1024 → ℝ}

/-- A load of some of the columns of the first weight. -/
theorem ld_cols (o : Nat) (ho : o + 1408 ≤ 5632) (hi : ∀ a, (![0, o] : Fin 2 → Nat) a + S1024x1408.size a ≤ S1024x5632.size a)
    (h : R2 x5 W) : R2 (View.ld x5 (Rect.unit (s := S1024x5632) ![0, o] S1024x1408.size hi)) (cols o 1408 ho W) := by
  intro k n
  refine Eq.trans ?_ (h k ⟨o + n.val, by have := n.isLt; omega⟩)
  show x5 _ = x5 _
  congr 1
  funext d
  apply Fin.ext
  match d with
  | ⟨0, _⟩ => show 0 + 1 * k.val = k.val; omega
  | ⟨1, _⟩ => show o + 1 * n.val = o + n.val; omega

/-- A load of some of the rows of the second. -/
theorem ld_rows (o : Nat) (ho : o + 1408 ≤ 2816) (hi : ∀ a, (![o, 0] : Fin 2 → Nat) a + S1408x1024.size a ≤ S2816x1024.size a)
    (h : R2 x6 Z) : R2 (View.ld x6 (Rect.unit (s := S2816x1024) ![o, 0] S1408x1024.size hi)) (rows o 1408 ho Z) := by
  intro n k
  refine Eq.trans ?_ (h ⟨o + n.val, by have := n.isLt; omega⟩ k)
  show x6 _ = x6 _
  congr 1
  funext d
  apply Fin.ext
  match d with
  | ⟨0, _⟩ => show o + 1 * n.val = o + n.val; omega
  | ⟨1, _⟩ => show 0 + 1 * k.val = k.val; omega

/-- The gradient of the last product, of a point's blocks. -/
def dlast (D F : Fin 256 → Fin 1024 → ℝ) (P : Fin 1 → Fin 1024 → ℝ) (j : Fin 256) (k : Fin 1024) : ℝ :=
  dnrm (F j) (fun l => D j l * P 0 l) k

/-- The row the first product takes. -/
def hrow (X : Fin 256 → Fin 1024 → ℝ) (G : Fin 1 → Fin 1024 → ℝ) (j : Fin 256) (k : Fin 1024) : ℝ := nrm (X j) k * G 0 k

/-- A store of some of the columns, against a function of all of them. -/
theorem col_piece {N : Nat} (o : Nat) (ho : o + 1408 ≤ N)
    (hi : ∀ a, (![0, o] : Fin 2 → Nat) a + (![256, 1408] : Fin 2 → Nat) a ≤ (⟨2, ![256, N]⟩ : Shape).size a)
    {f : Vec Ideal ⟨2, ![256, 1408]⟩ .bf16} {Q : Fin 256 → Fin 1408 → ℝ} (V : Fin 256 → Fin N → ℝ) (hf : R2 f Q)
    (hV : ∀ j i, Q j i = V j ⟨o + i.val, by have := i.isLt; omega⟩) (x : Shape.Idx ⟨2, ![256, 1408]⟩) :
    f x = (fun y : Shape.Idx ⟨2, ![256, N]⟩ => ((V (y 0) (y 1) : ℝ) : EReal))
      ((Rect.unit (s := ⟨2, ![256, N]⟩) ![0, o] ![256, 1408] hi).emb x) := by
  refine ((congrArg f (ix2_eta x).symm).trans (hf (x 0) (x 1))).trans (congrArg _ ((hV _ _).trans ?_))
  refine congrArg₂ V ?_ ?_ <;> apply Fin.ext
  · show (x 0).val = 0 + 1 * (x 0).val
    omega
  · show o + (x 1).val = o + 1 * (x 1).val
    omega

section CaseA

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x2816 .bf16) (harg9 : arg9.IsWhole) (arg10 : Memref sig .tc .vmem S256x5632 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (hc0 : cond0_0 i)

include hc0 in
theorem out_A_10 (h0 : R2 x0 D) (h1 : R2 x1 F) (h4 : R2 x4 P) :
    R2 (out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6) (dlast D F P) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  rw [View.canon_unit_zero (S := S256x1024) hz]
  simp only [View.readAt_eq_ld, harg1.read_unread, harg2.read_unread, harg3.read_unread, harg4.read_unread, harg5.read_unread, harg6.read_unread, harg7.read_unread, View.ld_unit_zero (S := S256x1024) hz, View.ld_unit_zero (S := S1x1024) hz]
  exact pay7_R h0 h1 h4

include hc0 in
theorem out_A_7 (h0 : R2 x0 D) (h1 : R2 x1 F) (h2 : R2 x2 X) (h3 : R2 x3 G) (h4 : R2 x4 P) (h5 : R2 x5 W) (h6 : R2 x6 Z) :
    R2 (out0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6)
      fun j k => D j k + dnrm (X j) (fun l => rowMulT (dgu (hrow X G j) (dlast D F P j) W Z) W l * G 0 l) k := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  rw [View.canon_unit_zero (S := S256x1024) hz]
  simp only [View.readAt_eq_ld, harg1.read_unread, harg2.read_unread, harg3.read_unread, harg4.read_unread, harg5.read_unread, harg6.read_unread, harg7.read_unread, View.ld_unit_zero (S := S256x1024) hz, View.ld_unit_zero (S := S1x1024) hz]
  rw [pay22_eq]
  have hH := pay10_R h2 h3
  have hB := pay7_R h0 h1 h4
  refine (pay36_R h0 h2 h3 (pay34_R pay11_R hB hH (ld_cols 0 (by norm_num) _ h5) (ld_cols 2816 (by norm_num) _ h5)
    (ld_rows 0 (by norm_num) _ h6)) hB hH (ld_cols 1408 (by norm_num) _ h5) (ld_cols 4224 (by norm_num) _ h5)
    (ld_rows 1408 (by norm_num) _ h6)).congr fun j k => ?_
  exact congrArg (fun e => D j k + dnrm (X j) e k)
    (funext fun l => congrArg (· * G 0 l) (dh_eq (hrow X G j) (dlast D F P j) W Z l))

include hc0 in
theorem out_A_8 (h2 : R2 x2 X) (h3 : R2 x3 G) (h5 : R2 x5 W) :
    R2 (out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6)
      fun j n => hid (hrow X G j) (cols 0 2816 (by norm_num) W) (cols 2816 2816 (by norm_num) W) n := by
  have hcv := cover0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  intro j n
  refine View.canon_apply_of_pieces (Val := Elt Ideal) (e := .bf16) (G := fun y : S256x2816.Idx => ((hid (hrow X G (y 0)) (cols 0 2816 (by norm_num) W)
    (cols 2816 2816 (by norm_num) W) (y 1) : ℝ) : EReal)) _ ?_ (ix2 j n) ?_
  on_goal 2 => exact hcv (ix2 j n)
  simp only [View.readAt_eq_ld, harg1.read_unread, harg2.read_unread, harg3.read_unread, harg4.read_unread, harg5.read_unread, harg6.read_unread, harg7.read_unread, View.ld_unit_zero (S := S256x1024) hz, View.ld_unit_zero (S := S1x1024) hz]
  clear hcv
  have hH := pay10_R h2 h3
  rw [pay16_eq]
  refine List.forall_mem_cons.2 ⟨?_, List.forall_mem_cons.2 ⟨?_, fun _ h => nomatch h⟩⟩
  · exact col_piece 1408 (by norm_num) inb_S256x2816_S256x1408_0_1408 (fun j n => hid (hrow X G j) _ _ n)
      (pay27_R hH (ld_cols 1408 (by norm_num) _ h5) (ld_cols 4224 (by norm_num) _ h5))
      fun j i => hid_half _ _ 1408 (by norm_num) i
  · exact col_piece 0 (by norm_num) inb_S256x2816_S256x1408_0_0 (fun j n => hid (hrow X G j) _ _ n)
      (pay27_R hH (ld_cols 0 (by norm_num) _ h5) (ld_cols 2816 (by norm_num) _ h5))
      fun j i => hid_half _ _ 0 (by norm_num) i

include hc0 in
theorem out_A_9 (h0 : R2 x0 D) (h1 : R2 x1 F) (h2 : R2 x2 X) (h3 : R2 x3 G) (h4 : R2 x4 P) (h5 : R2 x5 W) (h6 : R2 x6 Z) :
    R2 (out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6)
      fun j n => dgu (hrow X G j) (dlast D F P j) W Z n := by
  have hcv := cover0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  intro j n
  refine View.canon_apply_of_pieces (Val := Elt Ideal) (e := .bf16) (G := fun y : S256x5632.Idx =>
    ((dgu (hrow X G (y 0)) (dlast D F P (y 0)) W Z (y 1) : ℝ) : EReal)) _ ?_ (ix2 j n) ?_
  on_goal 2 => exact hcv (ix2 j n)
  simp only [View.readAt_eq_ld, harg1.read_unread, harg2.read_unread, harg3.read_unread, harg4.read_unread, harg5.read_unread, harg6.read_unread, harg7.read_unread, View.ld_unit_zero (S := S256x1024) hz, View.ld_unit_zero (S := S1x1024) hz]
  clear hcv
  rw [pay19_eq, pay20_eq, pay14_eq, pay18_eq, pay21_eq, pay15_eq, pay17_eq]
  have hH := pay10_R h2 h3
  have hB := pay7_R h0 h1 h4
  refine List.forall_mem_cons.2 ⟨?_, List.forall_mem_cons.2 ⟨?_, List.forall_mem_cons.2 ⟨?_, List.forall_mem_cons.2
    ⟨?_, fun _ h => nomatch h⟩⟩⟩⟩
  · exact col_piece 4224 (by norm_num) inb_S256x5632_S256x1408_0_4224
      (fun j n => dgu (hrow X G j) (dlast D F P j) W Z n)
      (pay33_R hB hH (ld_cols 1408 (by norm_num) _ h5) (ld_rows 1408 (by norm_num) _ h6))
      fun j i => dgu_up _ _ _ _ 1408 (by norm_num) i
  · exact col_piece 1408 (by norm_num) inb_S256x5632_S256x1408_0_1408
      (fun j n => dgu (hrow X G j) (dlast D F P j) W Z n)
      (pay32_R hB hH (ld_cols 1408 (by norm_num) _ h5) (ld_cols 4224 (by norm_num) _ h5) (ld_rows 1408 (by norm_num) _ h6))
      fun j i => dgu_gate _ _ _ _ 1408 (by norm_num) i
  · exact col_piece 2816 (by norm_num) inb_S256x5632_S256x1408_0_2816
      (fun j n => dgu (hrow X G j) (dlast D F P j) W Z n)
      (pay33_R hB hH (ld_cols 0 (by norm_num) _ h5) (ld_rows 0 (by norm_num) _ h6))
      fun j i => dgu_up _ _ _ _ 0 (by norm_num) i
  · exact col_piece 0 (by norm_num) inb_S256x5632_S256x1408_0_0
      (fun j n => dgu (hrow X G j) (dlast D F P j) W Z n)
      (pay32_R hB hH (ld_cols 0 (by norm_num) _ h5) (ld_cols 2816 (by norm_num) _ h5) (ld_rows 0 (by norm_num) _ h6))
      fun j i => dgu_gate _ _ _ _ 0 (by norm_num) i

end CaseA

section CaseB

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x2816 .bf16) (harg9 : arg9.IsWhole) (arg10 : Memref sig .tc .vmem S256x5632 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S8x1024 .f32) (harg13 : arg13.IsWhole) (hc0 : ¬cond0_0 i)

include hc0 in
theorem out_B_10 (h0 : R2 x0 D) (h1 : R2 x1 F) (h4 : R2 x4 P) :
    R2 (out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12) (dlast D F P) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12)]
  unfold kernelRun0_B
  dsimp only
  sl_unfold_words
  rw [View.canon_unit_zero (S := S256x1024) hz]
  simp only [View.readAt_eq_ld, harg1.read_unread, harg2.read_unread, harg3.read_unread, harg4.read_unread, harg5.read_unread, harg6.read_unread, harg7.read_unread, View.ld_unit_zero (S := S256x1024) hz, View.ld_unit_zero (S := S1x1024) hz]
  exact pay7_R h0 h1 h4

include hc0 in
theorem out_B_7 (h0 : R2 x0 D) (h1 : R2 x1 F) (h2 : R2 x2 X) (h3 : R2 x3 G) (h4 : R2 x4 P) (h5 : R2 x5 W) (h6 : R2 x6 Z) :
    R2 (out0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12)
      fun j k => D j k + dnrm (X j) (fun l => rowMulT (dgu (hrow X G j) (dlast D F P j) W Z) W l * G 0 l) k := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12)]
  unfold kernelRun0_B
  dsimp only
  sl_unfold_words
  rw [View.canon_unit_zero (S := S256x1024) hz]
  simp only [View.readAt_eq_ld, harg1.read_unread, harg2.read_unread, harg3.read_unread, harg4.read_unread, harg5.read_unread, harg6.read_unread, harg7.read_unread, View.ld_unit_zero (S := S256x1024) hz, View.ld_unit_zero (S := S1x1024) hz]
  rw [pay22_eq]
  have hH := pay10_R h2 h3
  have hB := pay7_R h0 h1 h4
  refine (pay36_R h0 h2 h3 (pay34_R pay11_R hB hH (ld_cols 0 (by norm_num) _ h5) (ld_cols 2816 (by norm_num) _ h5)
    (ld_rows 0 (by norm_num) _ h6)) hB hH (ld_cols 1408 (by norm_num) _ h5) (ld_cols 4224 (by norm_num) _ h5)
    (ld_rows 1408 (by norm_num) _ h6)).congr fun j k => ?_
  exact congrArg (fun e => D j k + dnrm (X j) e k)
    (funext fun l => congrArg (· * G 0 l) (dh_eq (hrow X G j) (dlast D F P j) W Z l))

include hc0 in
theorem out_B_8 (h2 : R2 x2 X) (h3 : R2 x3 G) (h5 : R2 x5 W) :
    R2 (out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12)
      fun j n => hid (hrow X G j) (cols 0 2816 (by norm_num) W) (cols 2816 2816 (by norm_num) W) n := by
  have hcv := cover0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12)]
  unfold kernelRun0_B
  dsimp only
  sl_unfold_words
  intro j n
  refine View.canon_apply_of_pieces (Val := Elt Ideal) (e := .bf16) (G := fun y : S256x2816.Idx => ((hid (hrow X G (y 0)) (cols 0 2816 (by norm_num) W)
    (cols 2816 2816 (by norm_num) W) (y 1) : ℝ) : EReal)) _ ?_ (ix2 j n) ?_
  on_goal 2 => exact hcv (ix2 j n)
  simp only [View.readAt_eq_ld, harg1.read_unread, harg2.read_unread, harg3.read_unread, harg4.read_unread, harg5.read_unread, harg6.read_unread, harg7.read_unread, View.ld_unit_zero (S := S256x1024) hz, View.ld_unit_zero (S := S1x1024) hz]
  clear hcv
  have hH := pay10_R h2 h3
  rw [pay16_eq]
  refine List.forall_mem_cons.2 ⟨?_, List.forall_mem_cons.2 ⟨?_, fun _ h => nomatch h⟩⟩
  · exact col_piece 1408 (by norm_num) inb_S256x2816_S256x1408_0_1408 (fun j n => hid (hrow X G j) _ _ n)
      (pay27_R hH (ld_cols 1408 (by norm_num) _ h5) (ld_cols 4224 (by norm_num) _ h5))
      fun j i => hid_half _ _ 1408 (by norm_num) i
  · exact col_piece 0 (by norm_num) inb_S256x2816_S256x1408_0_0 (fun j n => hid (hrow X G j) _ _ n)
      (pay27_R hH (ld_cols 0 (by norm_num) _ h5) (ld_cols 2816 (by norm_num) _ h5))
      fun j i => hid_half _ _ 0 (by norm_num) i

include hc0 in
theorem out_B_9 (h0 : R2 x0 D) (h1 : R2 x1 F) (h2 : R2 x2 X) (h3 : R2 x3 G) (h4 : R2 x4 P) (h5 : R2 x5 W) (h6 : R2 x6 Z) :
    R2 (out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12)
      fun j n => dgu (hrow X G j) (dlast D F P j) W Z n := by
  have hcv := cover0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo11 xo12)]
  unfold kernelRun0_B
  dsimp only
  sl_unfold_words
  intro j n
  refine View.canon_apply_of_pieces (Val := Elt Ideal) (e := .bf16) (G := fun y : S256x5632.Idx =>
    ((dgu (hrow X G (y 0)) (dlast D F P (y 0)) W Z (y 1) : ℝ) : EReal)) _ ?_ (ix2 j n) ?_
  on_goal 2 => exact hcv (ix2 j n)
  simp only [View.readAt_eq_ld, harg1.read_unread, harg2.read_unread, harg3.read_unread, harg4.read_unread, harg5.read_unread, harg6.read_unread, harg7.read_unread, View.ld_unit_zero (S := S256x1024) hz, View.ld_unit_zero (S := S1x1024) hz]
  clear hcv
  rw [pay19_eq, pay20_eq, pay14_eq, pay18_eq, pay21_eq, pay15_eq, pay17_eq]
  have hH := pay10_R h2 h3
  have hB := pay7_R h0 h1 h4
  refine List.forall_mem_cons.2 ⟨?_, List.forall_mem_cons.2 ⟨?_, List.forall_mem_cons.2 ⟨?_, List.forall_mem_cons.2
    ⟨?_, fun _ h => nomatch h⟩⟩⟩⟩
  · exact col_piece 4224 (by norm_num) inb_S256x5632_S256x1408_0_4224
      (fun j n => dgu (hrow X G j) (dlast D F P j) W Z n)
      (pay33_R hB hH (ld_cols 1408 (by norm_num) _ h5) (ld_rows 1408 (by norm_num) _ h6))
      fun j i => dgu_up _ _ _ _ 1408 (by norm_num) i
  · exact col_piece 1408 (by norm_num) inb_S256x5632_S256x1408_0_1408
      (fun j n => dgu (hrow X G j) (dlast D F P j) W Z n)
      (pay32_R hB hH (ld_cols 1408 (by norm_num) _ h5) (ld_cols 4224 (by norm_num) _ h5) (ld_rows 1408 (by norm_num) _ h6))
      fun j i => dgu_gate _ _ _ _ 1408 (by norm_num) i
  · exact col_piece 2816 (by norm_num) inb_S256x5632_S256x1408_0_2816
      (fun j n => dgu (hrow X G j) (dlast D F P j) W Z n)
      (pay33_R hB hH (ld_cols 0 (by norm_num) _ h5) (ld_rows 0 (by norm_num) _ h6))
      fun j i => dgu_up _ _ _ _ 0 (by norm_num) i
  · exact col_piece 0 (by norm_num) inb_S256x5632_S256x1408_0_0
      (fun j n => dgu (hrow X G j) (dlast D F P j) W Z n)
      (pay32_R hB hH (ld_cols 0 (by norm_num) _ h5) (ld_cols 2816 (by norm_num) _ h5) (ld_rows 0 (by norm_num) _ h6))
      fun j i => dgu_gate _ _ _ _ 0 (by norm_num) i

end CaseB

end Cert.Kernel1Ideal.Ffn

end
-- ==== Proof.Ffn.Ref.lean ====
/-
  The reference of the feed-forward block's gradient, stage by stage, on arrays that hold real numbers: what automatic
  differentiation made of the block is, row by row, the function the kernel computes.
-/
module

public import proofs.«01_k».proof.Proof.Gen.Reference1Ideal.Read
public import proofs.«01_k».proof.Proof.Ffn.Rows
public import Idealize.ShloMosaic.Lib.Pointwise

@[expose] public section

noncomputable section

namespace Cert.Reference1Ideal.Ffn

open Cert.Reference1Ideal Cert.Reference1Ideal.Gen Cert.Reference1Ideal.Read Idealize.ShloMosaic Idealize.SL.Sem Cert.Row

variable {x0 x1 : (⟨S8192x1024, .f32⟩ : BufTy).Contents (Elt Ideal)} {x2 x3 : (⟨S1x1024, .f32⟩ : BufTy).Contents (Elt Ideal)}
  {x4 : (⟨S1024x5632, .f32⟩ : BufTy).Contents (Elt Ideal)} {x5 : (⟨S2816x1024, .f32⟩ : BufTy).Contents (Elt Ideal)}
  {D X : Fin 8192 → Fin 1024 → ℝ} {G P : Fin 1 → Fin 1024 → ℝ} {W : Fin 1024 → Fin 5632 → ℝ} {Z : Fin 2816 → Fin 1024 → ℝ}

/-- The normed row, scaled. -/
def hr (X : Fin 8192 → Fin 1024 → ℝ) (G : Fin 1 → Fin 1024 → ℝ) (j : Fin 8192) (k : Fin 1024) : ℝ := nrm (X j) k * G 0 k

/-- The gate and the other factor. -/
def ga (X : Fin 8192 → Fin 1024 → ℝ) (G : Fin 1 → Fin 1024 → ℝ) (W : Fin 1024 → Fin 5632 → ℝ) (j : Fin 8192) (i : Fin 2816) : ℝ :=
  rowMul (hr X G j) (cols 0 2816 (by norm_num) W) i
def up (X : Fin 8192 → Fin 1024 → ℝ) (G : Fin 1 → Fin 1024 → ℝ) (W : Fin 1024 → Fin 5632 → ℝ) (j : Fin 8192) (i : Fin 2816) : ℝ :=
  rowMul (hr X G j) (cols 2816 2816 (by norm_num) W) i

/-- The hidden row of every row. -/
def hidr (X : Fin 8192 → Fin 1024 → ℝ) (G : Fin 1 → Fin 1024 → ℝ) (W : Fin 1024 → Fin 5632 → ℝ) (j : Fin 8192) (i : Fin 2816) : ℝ :=
  hid (hr X G j) (cols 0 2816 (by norm_num) W) (cols 2816 2816 (by norm_num) W) i

/-- The block's output before its norm. -/
def fr (X : Fin 8192 → Fin 1024 → ℝ) (G : Fin 1 → Fin 1024 → ℝ) (W : Fin 1024 → Fin 5632 → ℝ) (Z : Fin 2816 → Fin 1024 → ℝ)
    (j : Fin 8192) (k : Fin 1024) : ℝ := rowMul (hidr X G W j) Z k

/-- The gradient of it. -/
def dfr (D X : Fin 8192 → Fin 1024 → ℝ) (G P : Fin 1 → Fin 1024 → ℝ) (W : Fin 1024 → Fin 5632 → ℝ)
    (Z : Fin 2816 → Fin 1024 → ℝ) (j : Fin 8192) (k : Fin 1024) : ℝ := dnrm (fr X G W Z j) (fun l => D j l * P 0 l) k

/-- The gradient of the first product. -/
def dgur (D X : Fin 8192 → Fin 1024 → ℝ) (G P : Fin 1 → Fin 1024 → ℝ) (W : Fin 1024 → Fin 5632 → ℝ)
    (Z : Fin 2816 → Fin 1024 → ℝ) (j : Fin 8192) (n : Fin 5632) : ℝ := dgu (hr X G j) (dfr D X G P W Z j) W Z n

/-- The gradient of the row the block took. -/
def dxr (D X : Fin 8192 → Fin 1024 → ℝ) (G P : Fin 1 → Fin 1024 → ℝ) (W : Fin 1024 → Fin 5632 → ℝ)
    (Z : Fin 2816 → Fin 1024 → ℝ) (j : Fin 8192) (k : Fin 1024) : ℝ :=
  D j k + dnrm (X j) (fun l => rowMulT (dgur D X G P W Z j) W l * G 0 l) k

/-- The mean square of a row, plus the small number. -/
theorem v6_R (h1 : R2 x1 X) :
    R2 (val_main_v6 (F := Ideal) x1) fun j k => ms (X j) := by
  intro j k
  pointwise [val_main_v6, val_main_v5, val_main_v4, val_main_v3, val_main_v2, val_main_v1, val_main_v0, val_main_cst, val_main_cst_0, val_main_cst_1]
  simp only [h1.at, lit_1024, lit_eps, ← EReal.coe_mul, coe_sum, div_coe (by norm_num : (1024:ℝ) ≠ 0), ← EReal.coe_add]
  all_goals rfl

theorem v7_R (h1 : R2 x1 X) :
    R2 (val_main_v7 (F := Ideal) x1) fun j k => rr (X j) := by
  intro j k
  pointwise [val_main_v7]
  simp only [(v6_R h1).at, rsqrt_coe_pos (ms_pos _)]
  all_goals rfl

theorem v10_R (h1 : R2 x1 X) :
    R2 (val_main_v10 (F := Ideal) x1) fun j k => -(1/2) * (rr (X j) / ms (X j)) := by
  intro j k
  pointwise [val_main_v10, val_main_v9, val_main_v8, val_main_cst_2]
  simp only [(v7_R h1).at, (v6_R h1).at, lit_neg_half, ← EReal.coe_mul, div_coe (ms_pos _).ne']
  all_goals rfl

theorem v12_R (h1 : R2 x1 X) :
    R2 (val_main_v12 (F := Ideal) x1) fun j k => nrm (X j) k := by
  intro j k
  pointwise [val_main_v12, val_main_v11]
  simp only [h1.at, (v7_R h1).at, ← EReal.coe_mul]
  all_goals rfl

theorem v14_R (h1 : R2 x1 X) (h2 : R2 x2 G) :
    R2 (val_main_v14 (F := Ideal) x1 x2) fun j k => hr X G j k := by
  intro j k
  pointwise [val_main_v14, val_main_v13]
  simp only [(v12_R h1).at, h2.at, ← EReal.coe_mul]
  all_goals rfl

theorem v15_R (h1 : R2 x1 X) (h2 : R2 x2 G) (h4 : R2 x4 W) :
    R2 (val_main_v15 (F := Ideal) x1 x2 x4) fun j n => rowMul (hr X G j) W n := by
  intro j n
  pointwise [val_main_v15]
  simp only [(v14_R h1 h2).at, h4.at, ← EReal.coe_mul, coe_sum]
  all_goals rfl

theorem v16_R (h1 : R2 x1 X) (h2 : R2 x2 G) (h4 : R2 x4 W) :
    R2 (val_main_v16 (F := Ideal) x1 x2 x4) fun j n => ga X G W j n := by
  intro j n
  pointwise [val_main_v16]
  simp only [(v15_R h1 h2 h4).at]
  exact congrArg (fun t => ((rowMul (hr X G j) W t : ℝ) : EReal)) (Fin.ext (Nat.zero_add _).symm)

theorem v17_R (h1 : R2 x1 X) (h2 : R2 x2 G) (h4 : R2 x4 W) :
    R2 (val_main_v17 (F := Ideal) x1 x2 x4) fun j n => up X G W j n := by
  intro j n
  pointwise [val_main_v17]
  simp only [(v15_R h1 h2 h4).at]
  all_goals rfl

theorem v18_2_R (h1 : R2 x1 X) (h2 : R2 x2 G) (h4 : R2 x4 W) :
    R2 (val_main_v18_2 (F := Ideal) x1 x2 x4) fun j n => sg (ga X G W j n) := by
  intro j n
  pointwise [val_main_v18_2, val_main_call0_v4, val_main_call0_v3, val_main_call0_v2, val_main_call0_v1, val_main_call0_v0, val_main_call0_cst, val_main_call0_cst_0]
  simp only [(v16_R h1 h2 h4).at, ← EReal.coe_add, ← EReal.coe_neg, Ideal.exp_coe, ← EReal.coe_one, div_sg]
  all_goals rfl

theorem v18_1_R (h1 : R2 x1 X) (h2 : R2 x2 G) (h4 : R2 x4 W) :
    R2 (val_main_v18_1 (F := Ideal) x1 x2 x4) fun j n => sg (ga X G W j n) * (1 - sg (ga X G W j n)) := by
  intro j n
  pointwise [val_main_v18_1, val_main_call0_v7, val_main_call0_v6, val_main_call0_cst_1]
  simp only [(v18_2_R h1 h2 h4).at, ← EReal.coe_mul, ← EReal.coe_sub, ← EReal.coe_one]
  all_goals rfl

theorem v18_0_R (h1 : R2 x1 X) (h2 : R2 x2 G) (h4 : R2 x4 W) :
    R2 (val_main_v18_0 (F := Ideal) x1 x2 x4) fun j n => ga X G W j n * sg (ga X G W j n) := by
  intro j n
  pointwise [val_main_v18_0]
  simp only [(v16_R h1 h2 h4).at, (v18_2_R h1 h2 h4).at, ← EReal.coe_mul]
  all_goals rfl

/-- The hidden row. -/
theorem v19_R (h1 : R2 x1 X) (h2 : R2 x2 G) (h4 : R2 x4 W) :
    R2 (val_main_v19 (F := Ideal) x1 x2 x4) fun j n => hidr X G W j n := by
  intro j n
  pointwise [val_main_v19]
  simp only [(v18_0_R h1 h2 h4).at, (v17_R h1 h2 h4).at, ← EReal.coe_mul]
  all_goals rfl

theorem v20_R (h1 : R2 x1 X) (h2 : R2 x2 G) (h4 : R2 x4 W) (h5 : R2 x5 Z) :
    R2 (val_main_v20 (F := Ideal) x1 x2 x4 x5) fun j k => fr X G W Z j k := by
  intro j k
  pointwise [val_main_v20]
  simp only [(v19_R h1 h2 h4).at, h5.at, ← EReal.coe_mul, coe_sum]
  all_goals rfl

/-- The mean square of a row, plus the small number. -/
theorem v27_R (h1 : R2 x1 X) (h2 : R2 x2 G) (h4 : R2 x4 W) (h5 : R2 x5 Z) :
    R2 (val_main_v27 (F := Ideal) x1 x2 x4 x5) fun j k => ms (fr X G W Z j) := by
  intro j k
  pointwise [val_main_v27, val_main_v26, val_main_v25, val_main_v24, val_main_v23, val_main_v22, val_main_v21, val_main_cst_3, val_main_cst_4, val_main_cst_5]
  simp only [(v20_R h1 h2 h4 h5).at, lit_1024, lit_eps, ← EReal.coe_mul, coe_sum, div_coe (by norm_num : (1024:ℝ) ≠ 0), ← EReal.coe_add]
  all_goals rfl

theorem v28_R (h1 : R2 x1 X) (h2 : R2 x2 G) (h4 : R2 x4 W) (h5 : R2 x5 Z) :
    R2 (val_main_v28 (F := Ideal) x1 x2 x4 x5) fun j k => rr (fr X G W Z j) := by
  intro j k
  pointwise [val_main_v28]
  simp only [(v27_R h1 h2 h4 h5).at, rsqrt_coe_pos (ms_pos _)]
  all_goals rfl

theorem v31_R (h1 : R2 x1 X) (h2 : R2 x2 G) (h4 : R2 x4 W) (h5 : R2 x5 Z) :
    R2 (val_main_v31 (F := Ideal) x1 x2 x4 x5) fun j k => -(1/2) * (rr (fr X G W Z j) / ms (fr X G W Z j)) := by
  intro j k
  pointwise [val_main_v31, val_main_v30, val_main_v29, val_main_cst_6]
  simp only [(v28_R h1 h2 h4 h5).at, (v27_R h1 h2 h4 h5).at, lit_neg_half, ← EReal.coe_mul, div_coe (ms_pos _).ne']
  all_goals rfl

theorem v40_R (h0 : R2 x0 D) (h3 : R2 x3 P) :
    R2 (val_main_v40 (F := Ideal) x0 x3) fun j k => D j k * P 0 k := by
  intro j k
  pointwise [val_main_v40, val_main_v39]
  simp only [h0.at, h3.at, ← EReal.coe_mul]
  all_goals rfl

theorem v43_R (h0 : R2 x0 D) (h1 : R2 x1 X) (h2 : R2 x2 G) (h3 : R2 x3 P) (h4 : R2 x4 W) (h5 : R2 x5 Z) :
    R2 (val_main_v43 (F := Ideal) x0 x1 x2 x3 x4 x5) fun j k => ∑ l, fr X G W Z j l * (D j l * P 0 l) := by
  intro j k
  pointwise [val_main_v43, val_main_v42, val_main_v41, val_main_cst_8]
  simp only [(v20_R h1 h2 h4 h5).at, (v40_R h0 h3).at, ← EReal.coe_mul, coe_sum]
  all_goals rfl

theorem v50_R (h0 : R2 x0 D) (h1 : R2 x1 X) (h2 : R2 x2 G) (h3 : R2 x3 P) (h4 : R2 x4 W) (h5 : R2 x5 Z) :
    R2 (val_main_v50 (F := Ideal) x0 x1 x2 x3 x4 x5) fun j k => (∑ l, fr X G W Z j l * (D j l * P 0 l)) * (-(1/2) * (rr (fr X G W Z j) / ms (fr X G W Z j))) / 1024 := by
  intro j k
  pointwise [val_main_v50, val_main_v49, val_main_v48, val_main_v47, val_main_v46, val_main_cst_9, val_main_cst_10]
  simp only [(v43_R h0 h1 h2 h3 h4 h5).at, (v31_R h1 h2 h4 h5).at, lit_1024, ← EReal.coe_mul, div_coe (by norm_num : (1024:ℝ) ≠ 0), Finset.univ_unique, Finset.sum_singleton]
  all_goals rfl

/-- The gradient of the block's output before its norm. -/
theorem v54_R (h0 : R2 x0 D) (h1 : R2 x1 X) (h2 : R2 x2 G) (h3 : R2 x3 P) (h4 : R2 x4 W) (h5 : R2 x5 Z) :
    R2 (val_main_v54 (F := Ideal) x0 x1 x2 x3 x4 x5) fun j k => dfr D X G P W Z j k := by
  intro j k
  pointwise [val_main_v54, val_main_v53, val_main_v52, val_main_v51, val_main_v45, val_main_v44]
  simp only [(v50_R h0 h1 h2 h3 h4 h5).at, (v20_R h1 h2 h4 h5).at, (v40_R h0 h3).at, (v28_R h1 h2 h4 h5).at, ← EReal.coe_mul, ← EReal.coe_add]
  exact congrArg _ (dnrm_eq (fr X G W Z j) (fun l => D j l * P 0 l) k).symm

theorem v55_R (h0 : R2 x0 D) (h1 : R2 x1 X) (h2 : R2 x2 G) (h3 : R2 x3 P) (h4 : R2 x4 W) (h5 : R2 x5 Z) :
    R2 (val_main_v55 (F := Ideal) x0 x1 x2 x3 x4 x5) fun j n => rowMulT (dfr D X G P W Z j) Z n := by
  intro j n
  pointwise [val_main_v55]
  simp only [(v54_R h0 h1 h2 h3 h4 h5).at, h5.at, ← EReal.coe_mul, coe_sum]
  all_goals rfl

theorem v56_R (h0 : R2 x0 D) (h1 : R2 x1 X) (h2 : R2 x2 G) (h3 : R2 x3 P) (h4 : R2 x4 W) (h5 : R2 x5 Z) :
    R2 (val_main_v56 (F := Ideal) x0 x1 x2 x3 x4 x5) fun j n => dup (hr X G j) (dfr D X G P W Z j) (cols 0 2816 (by norm_num) W) Z n := by
  intro j n
  pointwise [val_main_v56]
  simp only [(v18_0_R h1 h2 h4).at, (v55_R h0 h1 h2 h3 h4 h5).at, ← EReal.coe_mul]
  exact congrArg _ (mul_comm _ _)

theorem v58_R (h0 : R2 x0 D) (h1 : R2 x1 X) (h2 : R2 x2 G) (h3 : R2 x3 P) (h4 : R2 x4 W) (h5 : R2 x5 Z) :
    R2 (val_main_v58 (F := Ideal) x0 x1 x2 x3 x4 x5) fun j n => dgate (hr X G j) (dfr D X G P W Z j) (cols 0 2816 (by norm_num) W) (cols 2816 2816 (by norm_num) W) Z n := by
  intro j n
  pointwise [val_main_v58, val_main_call1_v2, val_main_call1_v1, val_main_call1_v0, val_main_v57]
  simp only [(v16_R h1 h2 h4).at, (v17_R h1 h2 h4).at, (v55_R h0 h1 h2 h3 h4 h5).at, (v18_2_R h1 h2 h4).at, (v18_1_R h1 h2 h4).at, ← EReal.coe_mul, ← EReal.coe_add]
  refine congrArg _ ?_
  show _ = _ * up X G W j n * (sg (ga X G W j n) * (1 + ga X G W j n * (1 - sg (ga X G W j n))))
  ring

/-- Both gradients side by side. -/
theorem v59_R (h0 : R2 x0 D) (h1 : R2 x1 X) (h2 : R2 x2 G) (h3 : R2 x3 P) (h4 : R2 x4 W) (h5 : R2 x5 Z) :
    R2 (val_main_v59 (F := Ideal) x0 x1 x2 x3 x4 x5) fun j n => dgur D X G P W Z j n := by
  intro j n
  pointwise [val_main_v59]
  simp only [(v58_R h0 h1 h2 h3 h4 h5).at, (v56_R h0 h1 h2 h3 h4 h5).at]
  unfold dgur dgu
  split <;> rfl

theorem v60_R (h0 : R2 x0 D) (h1 : R2 x1 X) (h2 : R2 x2 G) (h3 : R2 x3 P) (h4 : R2 x4 W) (h5 : R2 x5 Z) :
    R2 (val_main_v60 (F := Ideal) x0 x1 x2 x3 x4 x5) fun j k => rowMulT (dgur D X G P W Z j) W k := by
  intro j k
  pointwise [val_main_v60]
  simp only [(v59_R h0 h1 h2 h3 h4 h5).at, h4.at, ← EReal.coe_mul, coe_sum]
  all_goals rfl

theorem v65_R (h0 : R2 x0 D) (h1 : R2 x1 X) (h2 : R2 x2 G) (h3 : R2 x3 P) (h4 : R2 x4 W) (h5 : R2 x5 Z) :
    R2 (val_main_v65 (F := Ideal) x0 x1 x2 x3 x4 x5) fun j k => rowMulT (dgur D X G P W Z j) W k * G 0 k := by
  intro j k
  pointwise [val_main_v65, val_main_v64]
  simp only [(v60_R h0 h1 h2 h3 h4 h5).at, h2.at, ← EReal.coe_mul]
  all_goals rfl

theorem v68_R (h0 : R2 x0 D) (h1 : R2 x1 X) (h2 : R2 x2 G) (h3 : R2 x3 P) (h4 : R2 x4 W) (h5 : R2 x5 Z) :
    R2 (val_main_v68 (F := Ideal) x0 x1 x2 x3 x4 x5) fun j k => ∑ l, X j l * (rowMulT (dgur D X G P W Z j) W l * G 0 l) := by
  intro j k
  pointwise [val_main_v68, val_main_v67, val_main_v66, val_main_cst_12]
  simp only [h1.at, (v65_R h0 h1 h2 h3 h4 h5).at, ← EReal.coe_mul, coe_sum]
  all_goals rfl

theorem v75_R (h0 : R2 x0 D) (h1 : R2 x1 X) (h2 : R2 x2 G) (h3 : R2 x3 P) (h4 : R2 x4 W) (h5 : R2 x5 Z) :
    R2 (val_main_v75 (F := Ideal) x0 x1 x2 x3 x4 x5) fun j k => (∑ l, X j l * (rowMulT (dgur D X G P W Z j) W l * G 0 l)) * (-(1/2) * (rr (X j) / ms (X j))) / 1024 := by
  intro j k
  pointwise [val_main_v75, val_main_v74, val_main_v73, val_main_v72, val_main_v71, val_main_cst_13, val_main_cst_14]
  simp only [(v68_R h0 h1 h2 h3 h4 h5).at, (v10_R h1).at, lit_1024, ← EReal.coe_mul, div_coe (by norm_num : (1024:ℝ) ≠ 0), Finset.univ_unique, Finset.sum_singleton]
  all_goals rfl

/-- The gradient of the row the block took. -/
theorem v80_R (h0 : R2 x0 D) (h1 : R2 x1 X) (h2 : R2 x2 G) (h3 : R2 x3 P) (h4 : R2 x4 W) (h5 : R2 x5 Z) :
    R2 (val_main_v80 (F := Ideal) x0 x1 x2 x3 x4 x5) fun j k => dxr D X G P W Z j k := by
  intro j k
  pointwise [val_main_v80, val_main_v79, val_main_v78, val_main_v77, val_main_v76, val_main_v70, val_main_v69]
  simp only [h0.at, (v75_R h0 h1 h2 h3 h4 h5).at, h1.at, (v65_R h0 h1 h2 h3 h4 h5).at, (v7_R h1).at, ← EReal.coe_mul, ← EReal.coe_add]
  exact congrArg (fun t : ℝ => ((D j k + t : ℝ) : EReal))
    (dnrm_eq (X j) (fun l => rowMulT (dgur D X G P W Z j) W l * G 0 l) k).symm

end Cert.Reference1Ideal.Ffn

end
-- ==== Proof.Ffn.Host.lean ====
/-
  What the host code of `Kernel1Ideal` hands its call: the block's output before its norm, and the two weights narrowed.
  The first is the reference's own stage of the same name, the others are the arguments.
-/
module

public import proofs.«01_k».proof.Proof.Gen.Kernel1Ideal.Value
public import proofs.«01_k».proof.Proof.Ffn.Ref
public import Idealize.ShloMosaic.Lib.Claim
public import Idealize.ShloMosaic.Lib.StableHlo.RunRead

@[expose] public section

noncomputable section

namespace Cert.Kernel1Ideal.Ffn

open Cert.Kernel1Ideal Cert.Kernel1Ideal.Gen Idealize.ShloMosaic Idealize.ShloMosaic.TcCoe Idealize.SL.Sem Cert.Row

variable (m : (ℓ : Loc nD τ sig) → Buf (Elt Ideal) ℓ) (c : Dev nD)

theorem V_v18 : V m c main_v18
    = (truncf .bf16 (m ((c : Thread nD τ).loc main_arg4) : FVec Ideal S1024x5632 .f32) bitsLt_bf16_f32 : FVec Ideal S1024x5632 .bf16) := by
  unfold V
  after_reads_simp

theorem V_v19 : V m c main_v19
    = (truncf .bf16 (m ((c : Thread nD τ).loc main_arg5) : FVec Ideal S2816x1024 .f32) bitsLt_bf16_f32 : FVec Ideal S2816x1024 .bf16) := by
  unfold V
  after_reads_simp

theorem V_v17 : V m c main_v17 = Cert.Reference1Ideal.Read.val_main_v20 (F := Ideal) (m ((c : Thread nD τ).loc main_arg1))
    (m ((c : Thread nD τ).loc main_arg2)) (m ((c : Thread nD τ).loc main_arg4)) (m ((c : Thread nD τ).loc main_arg5)) := by
  unfold V
  after_reads_simp
  rfl

end Cert.Kernel1Ideal.Ffn

end
-- ==== Proof.Ffn.Arr.lean ====
/-
  The four large results of `Kernel1Ideal`'s call, of arguments that hold real numbers: block by block the functions of a
  row that `Ffn/Out` finds, the blocks put together.
-/
module

public import proofs.«01_k».proof.Proof.Ffn.Out
public import proofs.«01_k».proof.Proof.Ffn.Host
public import Idealize.ShloMosaic.Lib.Pipeline.ValueKit.Geometry

@[expose] public section

noncomputable section

namespace Cert.Kernel1Ideal.Ffn

open Cert.Kernel1Ideal Cert.Kernel1Ideal.Gen Idealize.ShloMosaic Idealize.ShloMosaic.TcCoe Idealize.SL.Sem Cert.Row
open Cert.Reference1Ideal.Ffn (hr fr hidr dfr dgur dxr)

variable (m : (ℓ : Loc nD τ sig) → Buf (Elt Ideal) ℓ) (c : Dev nD)

/-- The arguments hold real numbers. -/
structure Real (D X : Fin 8192 → Fin 1024 → ℝ) (G P : Fin 1 → Fin 1024 → ℝ) (W : Fin 1024 → Fin 5632 → ℝ)
    (Z : Fin 2816 → Fin 1024 → ℝ) : Prop where
  a0 : R2 (m ((c : Thread nD τ).loc main_arg0)) D
  a1 : R2 (m ((c : Thread nD τ).loc main_arg1)) X
  a2 : R2 (m ((c : Thread nD τ).loc main_arg2)) G
  a3 : R2 (m ((c : Thread nD τ).loc main_arg3)) P
  a4 : R2 (m ((c : Thread nD τ).loc main_arg4)) W
  a5 : R2 (m ((c : Thread nD τ).loc main_arg5)) Z

/-- Row `j` of a point's block. -/
def row (t : Fin cfg0.N) (j : Fin 256) : Fin 8192 :=
  ⟨256 * t.val + j.val, by have := lt_of_lt_of_eq t.isLt N_0; have := j.isLt; omega⟩

section Blocks

variable {m c} {D X : Fin 8192 → Fin 1024 → ℝ} {G P : Fin 1 → Fin 1024 → ℝ} {W : Fin 1024 → Fin 5632 → ℝ}
  {Z : Fin 2816 → Fin 1024 → ℝ}

theorem blk0 (h : Real m c D X G P W Z) (t : Fin cfg0.N) :
    R2 (iblk m c 0 t : Vec Ideal S256x1024 .f32) (fun j => D (row t j)) := by
  intro j k
  refine Eq.trans ?_ (h.a0.at (row t j) k)
  unfold iblk
  rw [View.read_apply]
  show V m c main_arg0 _ = _
  rw [V_main_arg0]
  congr 1
  have hi := (by decide +kernel : ∀ t : Fin grid0.N, win0_0.index t 0 = t.val ∧ win0_0.index t 1 = 0) t
  funext d
  apply Fin.ext
  match d with
  | ⟨0, _⟩ => show win0_0.index t 0 * 256 + 1 * j.val = 256 * t.val + j.val; rw [hi.1]; omega
  | ⟨1, _⟩ => show win0_0.index t 1 * 1024 + 1 * k.val = k.val; rw [hi.2]; omega

theorem blk1 (h : Real m c D X G P W Z) (t : Fin cfg0.N) :
    R2 (iblk m c 1 t : Vec Ideal S256x1024 .f32) (fun j => fr X G W Z (row t j)) := by
  intro j k
  refine Eq.trans ?_ ((Cert.Reference1Ideal.Ffn.v20_R h.a1 h.a2 h.a4 h.a5).at (row t j) k)
  unfold iblk
  rw [View.read_apply]
  show V m c main_v17 _ = _
  rw [V_v17]
  refine congrArg (Cert.Reference1Ideal.Read.val_main_v20 (F := Ideal) _ _ _ _) ?_
  have hi := (by decide +kernel : ∀ t : Fin grid0.N, win0_1.index t 0 = t.val ∧ win0_1.index t 1 = 0) t
  funext d
  apply Fin.ext
  match d with
  | ⟨0, _⟩ => show win0_1.index t 0 * 256 + 1 * j.val = 256 * t.val + j.val; rw [hi.1]; omega
  | ⟨1, _⟩ => show win0_1.index t 1 * 1024 + 1 * k.val = k.val; rw [hi.2]; omega

theorem blk2 (h : Real m c D X G P W Z) (t : Fin cfg0.N) :
    R2 (iblk m c 2 t : Vec Ideal S256x1024 .f32) (fun j => X (row t j)) := by
  intro j k
  refine Eq.trans ?_ (h.a1.at (row t j) k)
  unfold iblk
  rw [View.read_apply]
  show V m c main_arg1 _ = _
  rw [V_main_arg1]
  congr 1
  have hi := (by decide +kernel : ∀ t : Fin grid0.N, win0_2.index t 0 = t.val ∧ win0_2.index t 1 = 0) t
  funext d
  apply Fin.ext
  match d with
  | ⟨0, _⟩ => show win0_2.index t 0 * 256 + 1 * j.val = 256 * t.val + j.val; rw [hi.1]; omega
  | ⟨1, _⟩ => show win0_2.index t 1 * 1024 + 1 * k.val = k.val; rw [hi.2]; omega

theorem blk3 (h : Real m c D X G P W Z) (t : Fin cfg0.N) :
    R2 (iblk m c 3 t : Vec Ideal S1x1024 .f32) (G) := by
  intro j k
  refine Eq.trans ?_ (h.a2.at (j) k)
  unfold iblk
  rw [View.read_apply]
  show V m c main_arg2 _ = _
  rw [V_main_arg2]
  congr 1
  have hi := (by decide +kernel : ∀ t : Fin grid0.N, win0_3.index t 0 = 0 ∧ win0_3.index t 1 = 0) t
  funext d
  apply Fin.ext
  match d with
  | ⟨0, _⟩ => show win0_3.index t 0 * 1 + 1 * j.val = j.val; rw [hi.1]; omega
  | ⟨1, _⟩ => show win0_3.index t 1 * 1024 + 1 * k.val = k.val; rw [hi.2]; omega

theorem blk4 (h : Real m c D X G P W Z) (t : Fin cfg0.N) :
    R2 (iblk m c 4 t : Vec Ideal S1x1024 .f32) (P) := by
  intro j k
  refine Eq.trans ?_ (h.a3.at (j) k)
  unfold iblk
  rw [View.read_apply]
  show V m c main_arg3 _ = _
  rw [V_main_arg3]
  congr 1
  have hi := (by decide +kernel : ∀ t : Fin grid0.N, win0_4.index t 0 = 0 ∧ win0_4.index t 1 = 0) t
  funext d
  apply Fin.ext
  match d with
  | ⟨0, _⟩ => show win0_4.index t 0 * 1 + 1 * j.val = j.val; rw [hi.1]; omega
  | ⟨1, _⟩ => show win0_4.index t 1 * 1024 + 1 * k.val = k.val; rw [hi.2]; omega

theorem blk5 (h : Real m c D X G P W Z) (t : Fin cfg0.N) :
    R2 (iblk m c 5 t : Vec Ideal S1024x5632 .bf16) (W) := by
  intro j k
  refine Eq.trans ?_ (h.a4.at (j) k)
  unfold iblk
  rw [View.read_apply]
  show V m c main_v18 _ = _
  rw [V_v18]
  show m _ _ = m _ _
  congr 1
  have hi := (by decide +kernel : ∀ t : Fin grid0.N, win0_5.index t 0 = 0 ∧ win0_5.index t 1 = 0) t
  funext d
  apply Fin.ext
  match d with
  | ⟨0, _⟩ => show win0_5.index t 0 * 1024 + 1 * j.val = j.val; rw [hi.1]; omega
  | ⟨1, _⟩ => show win0_5.index t 1 * 5632 + 1 * k.val = k.val; rw [hi.2]; omega

theorem blk6 (h : Real m c D X G P W Z) (t : Fin cfg0.N) :
    R2 (iblk m c 6 t : Vec Ideal S2816x1024 .bf16) (Z) := by
  intro j k
  refine Eq.trans ?_ (h.a5.at (j) k)
  unfold iblk
  rw [View.read_apply]
  show V m c main_v19 _ = _
  rw [V_v19]
  show m _ _ = m _ _
  congr 1
  have hi := (by decide +kernel : ∀ t : Fin grid0.N, win0_6.index t 0 = 0 ∧ win0_6.index t 1 = 0) t
  funext d
  apply Fin.ext
  match d with
  | ⟨0, _⟩ => show win0_6.index t 0 * 2816 + 1 * j.val = j.val; rw [hi.1]; omega
  | ⟨1, _⟩ => show win0_6.index t 1 * 1024 + 1 * k.val = k.val; rw [hi.2]; omega

/-- What a point leaves in output block 7. -/
theorem left7 (h : Real m c D X G P W Z) (t : Fin cfg0.N) :
    R2 ((outsAt0 m c t.val t.isLt).1 : Vec Ideal S256x1024 .f32) fun j => dxr D X G P W Z (row t j) := by
  by_cases h0 : t.val % 32 = 0
  · simp only [outsAt0_A m c t h0]
    exact out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (blk0 h t) (blk1 h t) (blk2 h t) (blk3 h t) (blk4 h t) (blk5 h t) (blk6 h t)
  · simp only [outsAt0_B m c t h0]
    exact out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (blk0 h t) (blk1 h t) (blk2 h t) (blk3 h t) (blk4 h t) (blk5 h t) (blk6 h t)

/-- The array it is written back to. -/
def arr7 (Q : Fin 8192 → Fin 1024 → ℝ) : S8192x1024.Idx → EReal := fun i => ((Q (i 0) (i 1) : ℝ) : EReal)

theorem final7 (h : Real m c D X G P W Z) :
    (dats m 0 c).arrAt 7 cfg0.N = (arr7 (dxr D X G P W Z) : S8192x1024.Idx → EReal) := by
  refine (dats m 0 c).arrAt_eq_of_covers 7 _ (by decide +kernel) fun t hf y => ?_
  blk_simp
  rw [after0_7]
  have hi := (by decide +kernel : ∀ t : Fin grid0.N, win0_7.index t 0 = t.val ∧ win0_7.index t 1 = 0) t
  obtain ⟨j, k, rfl⟩ : ∃ (j : Fin 256) (k : Fin 1024), y = ix2 j k := ⟨y 0, y 1, by funext d; fin_cases d <;> rfl⟩
  refine (left7 h t j k).trans ?_
  have e0 : ((win0_7.blk t).view.emb (ix2 j k)) 0 = row t j := by
    apply Fin.ext
    show win0_7.index t 0 * 256 + 1 * j.val = 256 * t.val + j.val
    rw [hi.1]; omega
  have e1 : ((win0_7.blk t).view.emb (ix2 j k)) 1 = k := by
    apply Fin.ext
    show win0_7.index t 1 * 1024 + 1 * k.val = k.val
    rw [hi.2]; omega
  show _ = ((dxr D X G P W Z (((win0_7.blk t).view.emb (ix2 j k)) 0) (((win0_7.blk t).view.emb (ix2 j k)) 1) : ℝ) : EReal)
  rw [e0, e1]

/-- What a point leaves in output block 8. -/
theorem left8 (h : Real m c D X G P W Z) (t : Fin cfg0.N) :
    R2 ((outsAt0 m c t.val t.isLt).2.1 : Vec Ideal S256x2816 .bf16) fun j => hidr X G W (row t j) := by
  by_cases h0 : t.val % 32 = 0
  · simp only [outsAt0_A m c t h0]
    exact out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (blk2 h t) (blk3 h t) (blk5 h t)
  · simp only [outsAt0_B m c t h0]
    exact out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (blk2 h t) (blk3 h t) (blk5 h t)

/-- The array it is written back to. -/
def arr8 (Q : Fin 8192 → Fin 2816 → ℝ) : S8192x2816.Idx → EReal := fun i => ((Q (i 0) (i 1) : ℝ) : EReal)

theorem final8 (h : Real m c D X G P W Z) :
    (dats m 0 c).arrAt 8 cfg0.N = (arr8 (hidr X G W) : S8192x2816.Idx → EReal) := by
  refine (dats m 0 c).arrAt_eq_of_covers 8 _ (by decide +kernel) fun t hf y => ?_
  blk_simp
  rw [after0_8]
  have hi := (by decide +kernel : ∀ t : Fin grid0.N, win0_8.index t 0 = t.val ∧ win0_8.index t 1 = 0) t
  obtain ⟨j, k, rfl⟩ : ∃ (j : Fin 256) (k : Fin 2816), y = ix2 j k := ⟨y 0, y 1, by funext d; fin_cases d <;> rfl⟩
  refine (left8 h t j k).trans ?_
  have e0 : ((win0_8.blk t).view.emb (ix2 j k)) 0 = row t j := by
    apply Fin.ext
    show win0_8.index t 0 * 256 + 1 * j.val = 256 * t.val + j.val
    rw [hi.1]; omega
  have e1 : ((win0_8.blk t).view.emb (ix2 j k)) 1 = k := by
    apply Fin.ext
    show win0_8.index t 1 * 2816 + 1 * k.val = k.val
    rw [hi.2]; omega
  show _ = ((hidr X G W (((win0_8.blk t).view.emb (ix2 j k)) 0) (((win0_8.blk t).view.emb (ix2 j k)) 1) : ℝ) : EReal)
  rw [e0, e1]

/-- What a point leaves in output block 9. -/
theorem left9 (h : Real m c D X G P W Z) (t : Fin cfg0.N) :
    R2 ((outsAt0 m c t.val t.isLt).2.2.1 : Vec Ideal S256x5632 .bf16) fun j => dgur D X G P W Z (row t j) := by
  by_cases h0 : t.val % 32 = 0
  · simp only [outsAt0_A m c t h0]
    exact out_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (blk0 h t) (blk1 h t) (blk2 h t) (blk3 h t) (blk4 h t) (blk5 h t) (blk6 h t)
  · simp only [outsAt0_B m c t h0]
    exact out_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (blk0 h t) (blk1 h t) (blk2 h t) (blk3 h t) (blk4 h t) (blk5 h t) (blk6 h t)

/-- The array it is written back to. -/
def arr9 (Q : Fin 8192 → Fin 5632 → ℝ) : S8192x5632.Idx → EReal := fun i => ((Q (i 0) (i 1) : ℝ) : EReal)

theorem final9 (h : Real m c D X G P W Z) :
    (dats m 0 c).arrAt 9 cfg0.N = (arr9 (dgur D X G P W Z) : S8192x5632.Idx → EReal) := by
  refine (dats m 0 c).arrAt_eq_of_covers 9 _ (by decide +kernel) fun t hf y => ?_
  blk_simp
  rw [after0_9]
  have hi := (by decide +kernel : ∀ t : Fin grid0.N, win0_9.index t 0 = t.val ∧ win0_9.index t 1 = 0) t
  obtain ⟨j, k, rfl⟩ : ∃ (j : Fin 256) (k : Fin 5632), y = ix2 j k := ⟨y 0, y 1, by funext d; fin_cases d <;> rfl⟩
  refine (left9 h t j k).trans ?_
  have e0 : ((win0_9.blk t).view.emb (ix2 j k)) 0 = row t j := by
    apply Fin.ext
    show win0_9.index t 0 * 256 + 1 * j.val = 256 * t.val + j.val
    rw [hi.1]; omega
  have e1 : ((win0_9.blk t).view.emb (ix2 j k)) 1 = k := by
    apply Fin.ext
    show win0_9.index t 1 * 5632 + 1 * k.val = k.val
    rw [hi.2]; omega
  show _ = ((dgur D X G P W Z (((win0_9.blk t).view.emb (ix2 j k)) 0) (((win0_9.blk t).view.emb (ix2 j k)) 1) : ℝ) : EReal)
  rw [e0, e1]

/-- What a point leaves in output block 10. -/
theorem left10 (h : Real m c D X G P W Z) (t : Fin cfg0.N) :
    R2 ((outsAt0 m c t.val t.isLt).2.2.2.1 : Vec Ideal S256x1024 .bf16) fun j => dfr D X G P W Z (row t j) := by
  by_cases h0 : t.val % 32 = 0
  · simp only [outsAt0_A m c t h0]
    exact out_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (blk0 h t) (blk1 h t) (blk4 h t)
  · simp only [outsAt0_B m c t h0]
    exact out_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (blk0 h t) (blk1 h t) (blk4 h t)

/-- The array it is written back to. -/
def arr10 (Q : Fin 8192 → Fin 1024 → ℝ) : S8192x1024.Idx → EReal := fun i => ((Q (i 0) (i 1) : ℝ) : EReal)

theorem final10 (h : Real m c D X G P W Z) :
    (dats m 0 c).arrAt 10 cfg0.N = (arr10 (dfr D X G P W Z) : S8192x1024.Idx → EReal) := by
  refine (dats m 0 c).arrAt_eq_of_covers 10 _ (by decide +kernel) fun t hf y => ?_
  blk_simp
  rw [after0_10]
  have hi := (by decide +kernel : ∀ t : Fin grid0.N, win0_10.index t 0 = t.val ∧ win0_10.index t 1 = 0) t
  obtain ⟨j, k, rfl⟩ : ∃ (j : Fin 256) (k : Fin 1024), y = ix2 j k := ⟨y 0, y 1, by funext d; fin_cases d <;> rfl⟩
  refine (left10 h t j k).trans ?_
  have e0 : ((win0_10.blk t).view.emb (ix2 j k)) 0 = row t j := by
    apply Fin.ext
    show win0_10.index t 0 * 256 + 1 * j.val = 256 * t.val + j.val
    rw [hi.1]; omega
  have e1 : ((win0_10.blk t).view.emb (ix2 j k)) 1 = k := by
    apply Fin.ext
    show win0_10.index t 1 * 1024 + 1 * k.val = k.val
    rw [hi.2]; omega
  show _ = ((dfr D X G P W Z (((win0_10.blk t).view.emb (ix2 j k)) 0) (((win0_10.blk t).view.emb (ix2 j k)) 1) : ℝ) : EReal)
  rw [e0, e1]

end Blocks

end Cert.Kernel1Ideal.Ffn

end
-- ==== Proof.Ffn.Claim.lean ====
/-
  The claim about the feed-forward backward call: of finite arguments its four large results are those of the gradient
  that automatic differentiation takes of the layer.
-/
module

public import proofs.«01_k».proof.Defs
public import proofs.«01_k».proof.Proof.Finite
public import proofs.«01_k».proof.Proof.Ffn.Arr
public import proofs.«01_k».proof.Proof.Gen.Pre_finite1
public import proofs.«01_k».proof.Proof.Gen.Reference1Ideal.Read
public import proofs.«01_k».proof.Proof.Gen.Kernel1Ideal.Value

@[expose] public section

noncomputable section

namespace Cert.Kernel1Ideal.Ffn

open Cert.Kernel1Ideal Cert.Kernel1Ideal.Gen Idealize.ShloMosaic Idealize.ShloMosaic.TcCoe Idealize.SL.Sem Cert.Row
open Cert.Reference1Ideal.Ffn (hr fr hidr dfr dgur dxr)

/-- The precondition says that each argument holds real numbers. -/
theorem real_of_pre (m : (ℓ : Loc nD τ sig) → Buf (Elt Ideal) ℓ) (h : Cert.Pre_Kernel1Ideal_finite1 m) (c : Dev nD) :
    ∃ D X G P W Z, Real m c D X G P W Z := by
  have j : (⟨0, ![]⟩ : Shape).Idx := fun k => k.elim0
  have e := congrFun (h c) j
  unfold Cert.Pre_finite1.fn Cert.Pre_finite1.fn_part1 at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨D, h0⟩ := R2.of_all _ _ _ _ _ j e0
  obtain ⟨X, h1⟩ := R2.of_all _ _ _ _ _ j e1
  obtain ⟨G, h2⟩ := R2.of_all _ _ _ _ _ j e2
  obtain ⟨P, h3⟩ := R2.of_all _ _ _ _ _ j e3
  obtain ⟨W, h4⟩ := R2.of_all _ _ _ _ _ j e4
  obtain ⟨Z, h5⟩ := R2.of_all _ _ _ _ _ j e5
  exact ⟨D, X, G, P, W, Z, h0, h1, h2, h3, h4, h5⟩

theorem eq_arr7 {x : S8192x1024.Idx → EReal} {Q : Fin 8192 → Fin 1024 → ℝ} (h : R2 x Q) : x = arr7 Q :=
  h.ext (fun _ _ => rfl) fun _ _ => rfl
theorem eq_arr8 {x : S8192x2816.Idx → EReal} {Q : Fin 8192 → Fin 2816 → ℝ} (h : R2 x Q) : x = arr8 Q :=
  h.ext (fun _ _ => rfl) fun _ _ => rfl
theorem eq_arr9 {x : S8192x5632.Idx → EReal} {Q : Fin 8192 → Fin 5632 → ℝ} (h : R2 x Q) : x = arr9 Q :=
  h.ext (fun _ _ => rfl) fun _ _ => rfl
theorem eq_arr10 {x : S8192x1024.Idx → EReal} {Q : Fin 8192 → Fin 1024 → ℝ} (h : R2 x Q) : x = arr10 Q :=
  h.ext (fun _ _ => rfl) fun _ _ => rfl

theorem algebraic [Cert.Kernel1Ideal.Facts] [Cert.Reference1Ideal.Facts] [Cert.Pre_finite1.Facts] :
    Cert.algebraic_Kernel1Ideal_Reference1Ideal_pre_finite1 := by
  intro m ρ m' ρ' hpre hargs
  choose D X G P W Z h using real_of_pre m hpre
  refine ⟨fun c => arr7 (dxr (D c) (X c) (G c) (P c) (W c) (Z c)), fun c => arr8 (hidr (X c) (G c) (W c)),
    fun c => arr9 (dgur (D c) (X c) (G c) (P c) (W c) (Z c)), fun c => arr10 (dfr (D c) (X c) (G c) (P c) (W c) (Z c)), ?_, ?_⟩
  · refine (θ_run _ _ _).mono (fun r hr c => ?_) (Value.run_blocks (F := Ideal) m ρ)
    obtain ⟨h7, h8, h9, h10, _, _, ha⟩ := hr c
    exact ⟨h7.trans (final7 (h c)), h8.trans (final8 (h c)), h9.trans (final9 (h c)), h10.trans (final10 (h c)), ha⟩
  · refine (θ_run _ _ _).mono (fun r hr c => ?_) (Cert.Reference1Ideal.Value.run (F := Ideal) m' ρ')
    obtain ⟨h0, h1, h2, h3, ha⟩ := hr c
    obtain ⟨a0, a1, a2, a3, a4, a5⟩ := hargs c
    have g0 := (h c).a0; rw [← a0] at g0
    have g1 := (h c).a1; rw [← a1] at g1
    have g2 := (h c).a2; rw [← a2] at g2
    have g3 := (h c).a3; rw [← a3] at g3
    have g4 := (h c).a4; rw [← a4] at g4
    have g5 := (h c).a5; rw [← a5] at g5
    refine ⟨h0.trans ?_, h1.trans ?_, h2.trans ?_, h3.trans ?_, ha⟩
    · exact (Cert.Reference1Ideal.Read.val_main_v80_eq _).trans
        (eq_arr7 (Cert.Reference1Ideal.Ffn.v80_R g0 g1 g2 g3 g4 g5))
    · exact (Cert.Reference1Ideal.Read.val_main_v81_eq _).trans
        (eq_arr8 (fun j k => (Cert.Reference1Ideal.Ffn.v19_R g1 g2 g4).at j k))
    · exact (Cert.Reference1Ideal.Read.val_main_v82_eq _).trans
        (eq_arr9 (fun j k => (Cert.Reference1Ideal.Ffn.v59_R g0 g1 g2 g3 g4 g5).at j k))
    · exact (Cert.Reference1Ideal.Read.val_main_v83_eq _).trans
        (eq_arr10 (fun j k => (Cert.Reference1Ideal.Ffn.v54_R g0 g1 g2 g3 g4 g5).at j k))

end Cert.Kernel1Ideal.Ffn

end
-- ==== Proof.Mix.Rows.lean ====
/-
  The gradient through the mixing of the two attentions, on rows of real numbers: `Y` is the mixed row before its norm, `D` the
  gradient of the residual, `P` the norm's weight, `O` the last product's weight, `L` and `b` the gates before the logistic
  function and their bias, `A` an attention's output and `S` its projection.
-/
module

public import proofs.«01_k».proof.Proof.Real

@[expose] public section

noncomputable section

namespace Cert.Row

variable {n : Nat}

/-- A column's gate in the two gates side by side: the first attention's, then the second's. -/
def lo (k : Fin 1024) : Fin 2048 := ⟨k.val, by have := k.isLt; omega⟩
def hi (k : Fin 1024) : Fin 2048 := ⟨1024 + k.val, by have := k.isLt; omega⟩

/-- The gates. -/
def gt (L : Fin n → Fin 2048 → ℝ) (b : Fin 1 → Fin 2048 → ℝ) (j : Fin n) (i : Fin 2048) : ℝ := sg (L j i + b 0 i)

/-- The gradient of the mixed row before its norm. -/
def dyr (Y D : Fin n → Fin 1024 → ℝ) (P : Fin 1 → Fin 1024 → ℝ) (j : Fin n) (k : Fin 1024) : ℝ :=
  dnrm (Y j) (fun l => D j l * P 0 l) k

/-- The gradient of the gated sum, of `Z` the gradient above. -/
def dmr (Z : Fin n → Fin 1024 → ℝ) (O : Fin 1024 → Fin 1024 → ℝ) (j : Fin n) (k : Fin 1024) : ℝ := rowMulT (Z j) O k

/-- The gradient of an attention's projected output, of `M` the gradient of the gated sum and `s` the attention's gate. -/
def dpr (M : Fin n → Fin 1024 → ℝ) (s : Fin 1024 → Fin 2048) (L : Fin n → Fin 2048 → ℝ) (b : Fin 1 → Fin 2048 → ℝ) (j : Fin n)
    (k : Fin 1024) : ℝ := M j k * gt L b j (s k)

/-- The gradient of an attention's gate before the logistic function. -/
def dgr (M : Fin n → Fin 1024 → ℝ) (s : Fin 1024 → Fin 2048) (A : Fin n → Fin 512 → ℝ) (S : Fin 512 → Fin 1024 → ℝ)
    (L : Fin n → Fin 2048 → ℝ) (b : Fin 1 → Fin 2048 → ℝ) (j : Fin n) (k : Fin 1024) : ℝ :=
  M j k * rowMul (A j) S k * gt L b j (s k) * (1 - gt L b j (s k))

/-- Two rows side by side. -/
def two (U V : Fin n → Fin 1024 → ℝ) (j : Fin n) (i : Fin 2048) : ℝ :=
  if h : i.val < 1024 then U j ⟨i.val, h⟩ else V j ⟨i.val - 1024, by have := i.isLt; omega⟩

/-- The gradient of an attention's output. -/
def dor (Q : Fin n → Fin 1024 → ℝ) (S : Fin 512 → Fin 1024 → ℝ) (j : Fin n) (i : Fin 512) : ℝ := rowMulT (Q j) S i

/-- The mixed row before its norm. -/
def yr (A B : Fin n → Fin 512 → ℝ) (L : Fin n → Fin 2048 → ℝ) (b : Fin 1 → Fin 2048 → ℝ) (S T : Fin 512 → Fin 1024 → ℝ)
    (O : Fin 1024 → Fin 1024 → ℝ) (j : Fin n) (k : Fin 1024) : ℝ :=
  rowMul (fun l => gt L b j (lo l) * rowMul (A j) S l + gt L b j (hi l) * rowMul (B j) T l) O k

end Cert.Row

end
-- ==== Proof.Fwd.Rows.lean ====
/-
  The rows of the forward pass over extended reals: the root-mean-square norm of a row, a row times a matrix, the gated
  activation. The kernels and the references of the forward calls are both brought to these functions; only the order of
  sums differs between them, so nothing is asked of the arguments.
-/
module

public import Idealize.ShloMosaic.Lib.Pointwise
public import Idealize.ShloMosaic.Lib.Pipeline.ValueKit.Geometry

@[expose] public section

noncomputable section

namespace Cert.Fwd

open Idealize.ShloMosaic

/-- The matrix `x` holds `X`. -/
def E2 {a b : Nat} (x : (⟨2, ![a, b]⟩ : Shape).Idx → EReal) (X : Fin a → Fin b → EReal) : Prop :=
  ∀ j k, x (ix2 j k) = X j k

theorem E2.at {a b : Nat} {x : (⟨2, ![a, b]⟩ : Shape).Idx → EReal} {X : Fin a → Fin b → EReal} (h : E2 x X) (j : Fin a)
    (k : Fin b) : x (ix2 j k) = X j k := h j k

theorem E2.self {a b : Nat} (x : (⟨2, ![a, b]⟩ : Shape).Idx → EReal) : E2 x fun j k => x (ix2 j k) := fun _ _ => rfl

theorem E2.congr {a b : Nat} {x : (⟨2, ![a, b]⟩ : Shape).Idx → EReal} {X Y : Fin a → Fin b → EReal} (hx : E2 x X)
    (h : ∀ j k, X j k = Y j k) : E2 x Y := fun j k => (hx j k).trans (h j k)

/-- The matrix that holds `X`. -/
def mat {a b : Nat} (X : Fin a → Fin b → EReal) : (⟨2, ![a, b]⟩ : Shape).Idx → EReal := fun i => X (i 0) (i 1)

theorem E2.eq_mat {a b : Nat} {x : (⟨2, ![a, b]⟩ : Shape).Idx → EReal} {X : Fin a → Fin b → EReal} (h : E2 x X) :
    x = mat X := by
  funext i
  exact (congrArg x (ix2_eta i).symm).trans (h (i 0) (i 1))

/-- A row times the columns of a matrix. -/
def mul {a b : Nat} (h : Fin a → EReal) (w : Fin a → Fin b → EReal) (n : Fin b) : EReal := ∑ k, h k * w k n

/-- The reciprocal root mean square of a row. -/
def rr (v : Fin 1024 → EReal) : EReal :=
  Ideal.rsqrt (Ideal.div (∑ k, v k * v k) (Ideal.ofBits .f32 0x44800000#32) + Ideal.ofBits .f32 0x358637BD#32)

/-- The row over its root mean square. -/
def nrm (v : Fin 1024 → EReal) (k : Fin 1024) : EReal := v k * rr v

/-- The gated activation of a row. -/
def hid {n : Nat} (H : Fin 1024 → EReal) (W U : Fin 1024 → Fin n → EReal) (i : Fin n) : EReal :=
  mul H W i * Ideal.logistic (mul H W i) * mul H U i

/-- `n` columns of a matrix from column `o` on. -/
def cols {a b : Nat} (o n : Nat) (h : o + n ≤ b) (W : Fin a → Fin b → EReal) (k : Fin a) (i : Fin n) : EReal :=
  W k ⟨o + i.val, by have := i.isLt; omega⟩

/-- `n` rows of a matrix from row `o` on. -/
def rows {a b : Nat} (o n : Nat) (h : o + n ≤ a) (Z : Fin a → Fin b → EReal) (i : Fin n) (k : Fin b) : EReal :=
  Z ⟨o + i.val, by have := i.isLt; omega⟩ k

theorem lit_zero : Ideal.ofBits .f32 0x00000000#32 = (0 : EReal) := by simp [Ideal.ofBits, Ideal.ieee]

theorem lit_one : Ideal.ofBits .f32 0x3F800000#32 = (1 : EReal) := by
  simp [Ideal.ofBits, Ideal.ieee, -EReal.coe_mul]; norm_num

/-- A load of some of the columns of a weight. -/
theorem ld_cols {a b n : Nat} {x : Vec Ideal ⟨2, ![a, b]⟩ .bf16} {W : Fin a → Fin b → EReal} (o : Nat) (ho : o + n ≤ b)
    (hi : ∀ d, (![0, o] : Fin 2 → Nat) d + (![a, n] : Fin 2 → Nat) d ≤ (⟨2, ![a, b]⟩ : Shape).size d) (h : E2 x W) :
    E2 (View.ld x (Rect.unit (s := ⟨2, ![a, b]⟩) ![0, o] ![a, n] hi)) (cols o n ho W) := by
  intro k i
  refine Eq.trans ?_ (h k ⟨o + i.val, by have := i.isLt; omega⟩)
  show x _ = x _
  congr 1
  funext d
  apply Fin.ext
  match d with
  | ⟨0, _⟩ => show 0 + 1 * k.val = k.val; omega
  | ⟨1, _⟩ => show o + 1 * i.val = o + i.val; omega

/-- A load of some of its rows. -/
theorem ld_rows {a b n : Nat} {x : Vec Ideal ⟨2, ![a, b]⟩ .bf16} {Z : Fin a → Fin b → EReal} (o : Nat) (ho : o + n ≤ a)
    (hi : ∀ d, (![o, 0] : Fin 2 → Nat) d + (![n, b] : Fin 2 → Nat) d ≤ (⟨2, ![a, b]⟩ : Shape).size d) (h : E2 x Z) :
    E2 (View.ld x (Rect.unit (s := ⟨2, ![a, b]⟩) ![o, 0] ![n, b] hi)) (rows o n ho Z) := by
  intro i k
  refine Eq.trans ?_ (h ⟨o + i.val, by have := i.isLt; omega⟩ k)
  show x _ = x _
  congr 1
  funext d
  apply Fin.ext
  match d with
  | ⟨0, _⟩ => show o + 1 * i.val = o + i.val; omega
  | ⟨1, _⟩ => show 0 + 1 * k.val = k.val; omega

/-- A store of some of the columns, against a function of all of them. -/
theorem col_piece {e : FTy} {m n N : Nat} (o : Nat) (ho : o + n ≤ N)
    (hi : ∀ a, (![0, o] : Fin 2 → Nat) a + (![m, n] : Fin 2 → Nat) a ≤ (⟨2, ![m, N]⟩ : Shape).size a)
    {f : FVec Ideal ⟨2, ![m, n]⟩ e} {Q : Fin m → Fin n → EReal} (V : Fin m → Fin N → EReal) (hf : E2 f Q)
    (hV : ∀ j i, Q j i = V j ⟨o + i.val, by have := i.isLt; omega⟩) (x : Shape.Idx ⟨2, ![m, n]⟩) :
    f x = (fun y : Shape.Idx ⟨2, ![m, N]⟩ => V (y 0) (y 1)) ((Rect.unit (s := ⟨2, ![m, N]⟩) ![0, o] ![m, n] hi).emb x) := by
  refine ((congrArg f (ix2_eta x).symm).trans (hf (x 0) (x 1))).trans ((hV _ _).trans ?_)
  refine congrArg₂ V ?_ ?_ <;> apply Fin.ext
  · show (x 0).val = 0 + 1 * (x 0).val
    omega
  · show o + (x 1).val = o + 1 * (x 1).val
    omega

theorem hz : (![0, 0] : Fin 2 → Nat) = fun _ => 0 := funext fun a => by fin_cases a <;> rfl

/-- A sum over the hidden columns in two halves. -/
theorem mul_halves {n : Nat} (v : Fin 2816 → EReal) (Z : Fin 2816 → Fin n → EReal) (k : Fin n) :
    mul (fun i : Fin 1408 => v ⟨0 + i.val, by have := i.isLt; omega⟩) (rows 0 1408 (by norm_num) Z) k
      + mul (fun i : Fin 1408 => v ⟨1408 + i.val, by have := i.isLt; omega⟩) (rows 1408 1408 (by norm_num) Z) k = mul v Z k := by
  unfold mul
  rw [show (∑ i : Fin 2816, v i * Z i k) = ∑ i : Fin (1408 + 1408), v i * Z i k from rfl, Fin.sum_univ_add]
  refine congrArg₂ _ (Finset.sum_congr rfl fun i _ => ?_) (Finset.sum_congr rfl fun i _ => rfl)
  have e : (⟨0 + i.val, by have := i.isLt; omega⟩ : Fin 2816) = Fin.castAdd 1408 i := Fin.ext (Nat.zero_add _)
  exact congrArg (fun s : Fin 2816 => v s * Z s k) e

end Cert.Fwd

end
-- ==== Proof.Mix.Out.lean ====
/-
  What a grid point of `Kernel2Ideal`'s call leaves in its six row blocks, of blocks that hold real numbers.
-/
module

public import proofs.«01_k».proof.Proof.Gen.Kernel2Ideal.Value
public import proofs.«01_k».proof.Proof.Mix.Rows
public import proofs.«01_k».proof.Proof.Fwd.Rows
public import Idealize.ShloMosaic.Lib.Pointwise

@[expose] public section

noncomputable section

namespace Cert.Kernel2Ideal.Mix

open Cert.Kernel2Ideal Cert.Kernel2Ideal.Gen Idealize.ShloMosaic Idealize.ShloMosaic.TcCoe Idealize.SL.Sem Cert.Row
open Cert.Fwd (hz)

variable {x0 x1 : Vec Ideal S256x1024 .f32} {x2 x3 : Vec Ideal S256x512 .f32} {x4 : Vec Ideal S256x2048 .f32}
  {x5 : Vec Ideal S1x2048 .f32} {x6 : Vec Ideal S1x1024 .f32} {x7 x8 : Vec Ideal S512x1024 .bf16}
  {x9 : Vec Ideal S1024x1024 .bf16} {xo16 : Vec Ideal S8x1024 .f32} {xo17 : Vec Ideal S8x2048 .f32}
  {z : FVec Ideal S256x1024 .bf16}
  {D Y Z : Fin 256 → Fin 1024 → ℝ} {A B : Fin 256 → Fin 512 → ℝ} {L : Fin 256 → Fin 2048 → ℝ} {b : Fin 1 → Fin 2048 → ℝ}
  {P : Fin 1 → Fin 1024 → ℝ} {S T : Fin 512 → Fin 1024 → ℝ} {O : Fin 1024 → Fin 1024 → ℝ}

theorem pay4_R (h1 : R2 x1 Y) :
    R2 (k0_pay4 x1) (fun j _ => rr (Y j)) := by
  intro j k
  pointwise [k0_pay4, k0_pay3]
  simp only [h1.at, lit_1024, lit_eps, ← EReal.coe_mul, coe_sum, div_coe (by norm_num : (1024:ℝ) ≠ 0), ← EReal.coe_add]
  exact rsqrt_coe_pos (ms_pos _)

theorem pay5_R (h1 : R2 x1 Y) :
    R2 (k0_pay5 x1) (fun j k => nrm (Y j) k) := by
  intro j k
  pointwise [k0_pay5, k0_pay3]
  simp only [h1.at, (pay4_R h1).at, ← EReal.coe_mul]
  rfl

theorem pay7_R (h0 : R2 x0 D) (h1 : R2 x1 Y) (h6 : R2 x6 P) :
    R2 (k0_pay7 x0 x1 x6) (dyr Y D P) := by
  intro j k
  pointwise [k0_pay7]
  simp only [h0.at, h6.at, (pay5_R h1).at, (pay4_R h1).at, lit_1024, ← EReal.coe_mul, coe_sum, div_coe (by norm_num : (1024:ℝ) ≠ 0), ← EReal.coe_sub]
  rfl

theorem pay8_R (h : R2 z Z) (h9 : R2 x9 O) :
    R2 (k0_pay8 z x9) (dmr Z O) := by
  intro j k
  pointwise [k0_pay8]
  simp only [h.at, h9.at, ← EReal.coe_mul, coe_sum]
  rfl

theorem pay9_R (h4 : R2 x4 L) (h5 : R2 x5 b) :
    R2 (k0_pay9 x4 x5) (gt L b) := by
  intro j k
  pointwise [k0_pay9]
  simp only [h4.at, h5.at, logistic_sg, ← EReal.coe_add]
  rfl

theorem pay10_R (h4 : R2 x4 L) (h5 : R2 x5 b) : R2 (k0_pay10 x4 x5) (fun j k => gt L b j (lo k)) := by
  intro j k
  refine Eq.trans ?_ (pay9_R h4 h5 j (lo k))
  unfold k0_pay10
  show k0_pay9 x4 x5 _ = k0_pay9 x4 x5 _
  congr 1
  funext d
  apply Fin.ext
  match d with
  | ⟨0, _⟩ => exact Nat.zero_add _
  | ⟨1, _⟩ => exact Nat.zero_add _

theorem pay11_R (h4 : R2 x4 L) (h5 : R2 x5 b) : R2 (k0_pay11 x4 x5) (fun j k => gt L b j (hi k)) := by
  intro j k
  refine Eq.trans ?_ (pay9_R h4 h5 j (hi k))
  unfold k0_pay11
  show k0_pay9 x4 x5 _ = k0_pay9 x4 x5 _
  congr 1
  funext d
  apply Fin.ext
  match d with
  | ⟨0, _⟩ => exact Nat.zero_add _
  | ⟨1, _⟩ => exact rfl

theorem pay12_R (h : R2 z Z) (h9 : R2 x9 O) (h4 : R2 x4 L) (h5 : R2 x5 b) :
    R2 (k0_pay12 z x9 x4 x5) (dpr (dmr Z O) lo L b) := by
  intro j k
  pointwise [k0_pay12]
  simp only [(pay8_R h h9).at, (pay10_R h4 h5).at, ← EReal.coe_mul]
  rfl

theorem pay13_R (h : R2 z Z) (h9 : R2 x9 O) (h4 : R2 x4 L) (h5 : R2 x5 b) :
    R2 (k0_pay13 z x9 x4 x5) (dpr (dmr Z O) hi L b) := by
  intro j k
  pointwise [k0_pay13]
  simp only [(pay8_R h h9).at, (pay11_R h4 h5).at, ← EReal.coe_mul]
  rfl

theorem pay17_R (h : R2 z Z) (h9 : R2 x9 O) (h2 : R2 x2 A) (h7 : R2 x7 S) (h4 : R2 x4 L) (h5 : R2 x5 b) :
    R2 (k0_pay17 (k0_pay14 z x9 x2 x7 x4 x5)) (dgr (dmr Z O) lo A S L b) := by
  intro j k
  pointwise [k0_pay17, k0_pay14]
  simp only [(pay8_R h h9).at, (pay10_R h4 h5).at, h2.at, h7.at, ← EReal.coe_mul, coe_sum, ← EReal.coe_sub, ← EReal.coe_one]
  rfl

theorem pay18_R (h : R2 z Z) (h9 : R2 x9 O) (h3 : R2 x3 B) (h8 : R2 x8 T) (h4 : R2 x4 L) (h5 : R2 x5 b) :
    R2 (k0_pay18 (k0_pay11 x4 x5) (k0_pay15 z x9 x3 x8 x4 x5) (Scalar.ofBits (F := Ideal) .f32 0x3F800000#32)) (dgr (dmr Z O) hi B T L b) := by
  intro j k
  pointwise [k0_pay18, k0_pay16, k0_pay15]
  simp only [(pay8_R h h9).at, (pay11_R h4 h5).at, h3.at, h8.at, ← EReal.coe_mul, coe_sum, ← EReal.coe_sub, ← EReal.coe_one]
  rfl

theorem pay21_R (h : R2 z Z) (h7 : R2 x7 S) :
    R2 (k0_pay21 z x7) (dor Z S) := by
  intro j k
  pointwise [k0_pay21]
  simp only [h.at, h7.at, ← EReal.coe_mul, coe_sum]
  rfl

theorem pay22_R (h : R2 z Z) (h8 : R2 x8 T) :
    R2 (k0_pay22 z x8) (dor Z T) := by
  intro j k
  pointwise [k0_pay22]
  simp only [h.at, h8.at, ← EReal.coe_mul, coe_sum]
  rfl

/-- The gates' gradients, stored side by side, the last store first. -/
abbrev stores (f g : FVec Ideal S256x1024 .bf16) : List (View.Piece (Elt Ideal) S256x2048 .bf16) :=
  [⟨Rect.unit ![0, 1024] ![256, 1024] inb_S256x2048_S256x1024_0_1024, g⟩,
    ⟨Rect.unit ![0, 0] ![256, 1024] inb_S256x2048_S256x1024_0_0, f⟩]

theorem canon_R {f g : FVec Ideal S256x1024 .bf16} {U W : Fin 256 → Fin 1024 → ℝ} (hf : R2 f U) (hg : R2 g W) :
    R2 (View.canon (stores f g)) (two U W) := by
  intro j n
  refine View.canon_apply_of_pieces (fun y : S256x2048.Idx => ((two U W (y 0) (y 1) : ℝ) : EReal)) (stores f g) ?_ (ix2 j n)
    (View.cover_of_tiledBy (stores f g) ![256, 1024] (by sl_kernel_rfl) (ix2 j n))
  intro p hp
  simp only [stores, List.mem_cons, List.not_mem_nil, or_false] at hp
  rcases hp with rfl | rfl
  · exact Cert.Fwd.col_piece (e := .bf16) 1024 (by norm_num) inb_S256x2048_S256x1024_0_1024 (fun j n => ((two U W j n : ℝ) : EReal))
      (Q := fun j i => ((W j i : ℝ) : EReal)) hg fun j i => by
        unfold two
        dsimp only
        rw [dif_neg (by omega)]
        exact congrArg (fun s => ((W j s : ℝ) : EReal)) (Fin.ext (by dsimp only; omega))
  · exact Cert.Fwd.col_piece (e := .bf16) 0 (by norm_num) inb_S256x2048_S256x1024_0_0 (fun j n => ((two U W j n : ℝ) : EReal))
      (Q := fun j i => ((U j i : ℝ) : EReal)) hf fun j i => by
        have := i.isLt
        unfold two
        dsimp only
        rw [dif_pos (by omega)]
        exact congrArg (fun s => ((U j s : ℝ) : EReal)) (Fin.ext (by dsimp only; omega))

/-- The six row blocks that a point leaves: the gradient of the mixed row, of the two projected outputs, of the gates and of the two
outputs. -/
def Six (y0 y1 y2 : Vec Ideal S256x1024 .bf16) (y3 : Vec Ideal S256x2048 .bf16) (y4 y5 : Vec Ideal S256x512 .bf16)
    (D Y : Fin 256 → Fin 1024 → ℝ) (A B : Fin 256 → Fin 512 → ℝ) (L : Fin 256 → Fin 2048 → ℝ) (b : Fin 1 → Fin 2048 → ℝ)
    (P : Fin 1 → Fin 1024 → ℝ) (S T : Fin 512 → Fin 1024 → ℝ) (O : Fin 1024 → Fin 1024 → ℝ) : Prop :=
  R2 y0 (dyr Y D P) ∧ R2 y1 (dpr (dmr (dyr Y D P) O) lo L b) ∧ R2 y2 (dpr (dmr (dyr Y D P) O) hi L b) ∧
  R2 y3 (two (dgr (dmr (dyr Y D P) O) lo A S L b) (dgr (dmr (dyr Y D P) O) hi B T L b)) ∧
  R2 y4 (dor (dpr (dmr (dyr Y D P) O) lo L b) S) ∧ R2 y5 (dor (dpr (dmr (dyr Y D P) O) hi L b) T)

theorem outs_A (c : Dev nD) (i : grid0.Coords) (r1 : Memref sig .tc .vmem S256x1024 .f32) (s1 : r1.IsWhole) (r2 : Memref sig .tc .vmem S256x1024 .f32) (s2 : r2.IsWhole) (r3 : Memref sig .tc .vmem S256x512 .f32) (s3 : r3.IsWhole) (r4 : Memref sig .tc .vmem S256x512 .f32) (s4 : r4.IsWhole) (r5 : Memref sig .tc .vmem S256x2048 .f32) (s5 : r5.IsWhole) (r6 : Memref sig .tc .vmem S1x2048 .f32) (s6 : r6.IsWhole) (r7 : Memref sig .tc .vmem S1x1024 .f32) (s7 : r7.IsWhole) (r8 : Memref sig .tc .vmem S512x1024 .bf16) (s8 : r8.IsWhole) (r9 : Memref sig .tc .vmem S512x1024 .bf16) (s9 : r9.IsWhole) (r10 : Memref sig .tc .vmem S1024x1024 .bf16) (s10 : r10.IsWhole) (r11 : Memref sig .tc .vmem S256x1024 .bf16) (s11 : r11.IsWhole) (r12 : Memref sig .tc .vmem S256x1024 .bf16) (s12 : r12.IsWhole) (r13 : Memref sig .tc .vmem S256x1024 .bf16) (s13 : r13.IsWhole) (r14 : Memref sig .tc .vmem S256x2048 .bf16) (s14 : r14.IsWhole) (r15 : Memref sig .tc .vmem S256x512 .bf16) (s15 : r15.IsWhole) (r16 : Memref sig .tc .vmem S256x512 .bf16) (s16 : r16.IsWhole) (r17 : Memref sig .tc .vmem S8x1024 .f32) (s17 : r17.IsWhole) (r18 : Memref sig .tc .vmem S8x2048 .f32) (s18 : r18.IsWhole) (hc : cond0_0 i)
    (h0 : R2 x0 D) (h1 : R2 x1 Y) (h2 : R2 x2 A) (h3 : R2 x3 B) (h4 : R2 x4 L) (h5 : R2 x5 b) (h6 : R2 x6 P) (h7 : R2 x7 S) (h8 : R2 x8 T) (h9 : R2 x9 O) :
    Six (out0_A_10 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9)
      (out0_A_11 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9)
      (out0_A_12 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9)
      (out0_A_13 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9)
      (out0_A_14 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9)
      (out0_A_15 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9) D Y A B L b P S T O := by
  have p := pay7_R h0 h1 h6
  have q := pay12_R p h9 h4 h5
  have r := pay13_R p h9 h4 h5
  refine ⟨?_, ?_, ?_, ?_, ?_, ?_⟩
  on_goal 1 => unfold out0_A_10; rw [View.read_writes_eq_canon _ _ _ (cover0_A_10 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9)]
  on_goal 2 => unfold out0_A_11; rw [View.read_writes_eq_canon _ _ _ (cover0_A_11 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9)]
  on_goal 3 => unfold out0_A_12; rw [View.read_writes_eq_canon _ _ _ (cover0_A_12 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9)]
  on_goal 4 => unfold out0_A_13; rw [View.read_writes_eq_canon _ _ _ (cover0_A_13 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9)]
  on_goal 5 => unfold out0_A_14; rw [View.read_writes_eq_canon _ _ _ (cover0_A_14 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9)]
  on_goal 6 => unfold out0_A_15; rw [View.read_writes_eq_canon _ _ _ (cover0_A_15 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9)]
  all_goals
    unfold kernelRun0_A
    dsimp only
    sl_unfold_words
    simp only [View.canon_unit_zero (S := S256x1024) hz, View.canon_unit_zero (S := S256x512) hz, View.readAt_eq_ld, s1.read_unread, s2.read_unread, s3.read_unread, s4.read_unread, s5.read_unread, s6.read_unread, s7.read_unread, s8.read_unread, s9.read_unread, s10.read_unread, View.ld_unit_zero (S := S256x1024) hz, View.ld_unit_zero (S := S256x512) hz, View.ld_unit_zero (S := S256x2048) hz, View.ld_unit_zero (S := S1x2048) hz, View.ld_unit_zero (S := S1x1024) hz, View.ld_unit_zero (S := S512x1024) hz, View.ld_unit_zero (S := S1024x1024) hz]
  exacts [p, q, r, canon_R (pay17_R p h9 h2 h7 h4 h5) (pay18_R p h9 h3 h8 h4 h5), pay21_R q h7, pay22_R r h8]

theorem outs_B (c : Dev nD) (i : grid0.Coords) (r1 : Memref sig .tc .vmem S256x1024 .f32) (s1 : r1.IsWhole) (r2 : Memref sig .tc .vmem S256x1024 .f32) (s2 : r2.IsWhole) (r3 : Memref sig .tc .vmem S256x512 .f32) (s3 : r3.IsWhole) (r4 : Memref sig .tc .vmem S256x512 .f32) (s4 : r4.IsWhole) (r5 : Memref sig .tc .vmem S256x2048 .f32) (s5 : r5.IsWhole) (r6 : Memref sig .tc .vmem S1x2048 .f32) (s6 : r6.IsWhole) (r7 : Memref sig .tc .vmem S1x1024 .f32) (s7 : r7.IsWhole) (r8 : Memref sig .tc .vmem S512x1024 .bf16) (s8 : r8.IsWhole) (r9 : Memref sig .tc .vmem S512x1024 .bf16) (s9 : r9.IsWhole) (r10 : Memref sig .tc .vmem S1024x1024 .bf16) (s10 : r10.IsWhole) (r11 : Memref sig .tc .vmem S256x1024 .bf16) (s11 : r11.IsWhole) (r12 : Memref sig .tc .vmem S256x1024 .bf16) (s12 : r12.IsWhole) (r13 : Memref sig .tc .vmem S256x1024 .bf16) (s13 : r13.IsWhole) (r14 : Memref sig .tc .vmem S256x2048 .bf16) (s14 : r14.IsWhole) (r15 : Memref sig .tc .vmem S256x512 .bf16) (s15 : r15.IsWhole) (r16 : Memref sig .tc .vmem S256x512 .bf16) (s16 : r16.IsWhole) (r17 : Memref sig .tc .vmem S8x1024 .f32) (s17 : r17.IsWhole) (r18 : Memref sig .tc .vmem S8x2048 .f32) (s18 : r18.IsWhole) (hc : ¬cond0_0 i)
    (h0 : R2 x0 D) (h1 : R2 x1 Y) (h2 : R2 x2 A) (h3 : R2 x3 B) (h4 : R2 x4 L) (h5 : R2 x5 b) (h6 : R2 x6 P) (h7 : R2 x7 S) (h8 : R2 x8 T) (h9 : R2 x9 O) :
    Six (out0_B_10 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9 xo16 xo17)
      (out0_B_11 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9 xo16 xo17)
      (out0_B_12 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9 xo16 xo17)
      (out0_B_13 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9 xo16 xo17)
      (out0_B_14 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9 xo16 xo17)
      (out0_B_15 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9 xo16 xo17) D Y A B L b P S T O := by
  have p := pay7_R h0 h1 h6
  have q := pay12_R p h9 h4 h5
  have r := pay13_R p h9 h4 h5
  refine ⟨?_, ?_, ?_, ?_, ?_, ?_⟩
  on_goal 1 => unfold out0_B_10; rw [View.read_writes_eq_canon _ _ _ (cover0_B_10 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9 xo16 xo17)]
  on_goal 2 => unfold out0_B_11; rw [View.read_writes_eq_canon _ _ _ (cover0_B_11 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9 xo16 xo17)]
  on_goal 3 => unfold out0_B_12; rw [View.read_writes_eq_canon _ _ _ (cover0_B_12 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9 xo16 xo17)]
  on_goal 4 => unfold out0_B_13; rw [View.read_writes_eq_canon _ _ _ (cover0_B_13 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9 xo16 xo17)]
  on_goal 5 => unfold out0_B_14; rw [View.read_writes_eq_canon _ _ _ (cover0_B_14 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9 xo16 xo17)]
  on_goal 6 => unfold out0_B_15; rw [View.read_writes_eq_canon _ _ _ (cover0_B_15 c i r1 s1 r2 s2 r3 s3 r4 s4 r5 s5 r6 s6 r7 s7 r8 s8 r9 s9 r10 s10 r11 s11 r12 s12 r13 s13 r14 s14 r15 s15 r16 s16 r17 s17 r18 s18 hc x0 x1 x2 x3 x4 x5 x6 x7 x8 x9 xo16 xo17)]
  all_goals
    unfold kernelRun0_B
    dsimp only
    sl_unfold_words
    simp only [View.canon_unit_zero (S := S256x1024) hz, View.canon_unit_zero (S := S256x512) hz, View.readAt_eq_ld, s1.read_unread, s2.read_unread, s3.read_unread, s4.read_unread, s5.read_unread, s6.read_unread, s7.read_unread, s8.read_unread, s9.read_unread, s10.read_unread, View.ld_unit_zero (S := S256x1024) hz, View.ld_unit_zero (S := S256x512) hz, View.ld_unit_zero (S := S256x2048) hz, View.ld_unit_zero (S := S1x2048) hz, View.ld_unit_zero (S := S1x1024) hz, View.ld_unit_zero (S := S512x1024) hz, View.ld_unit_zero (S := S1024x1024) hz]
  exacts [p, q, r, canon_R (pay17_R p h9 h2 h7 h4 h5) (pay18_R p h9 h3 h8 h4 h5), pay21_R q h7, pay22_R r h8]

end Cert.Kernel2Ideal.Mix

end
-- ==== Proof.Mix.Ref.lean ====
/-
  The reference's gradient through the mixing of the two attentions, stage by stage, on arrays that hold real numbers.
-/
module

public import proofs.«01_k».proof.Proof.Gen.Reference2Ideal.Read
public import proofs.«01_k».proof.Proof.Mix.Rows
public import Idealize.ShloMosaic.Lib.Pointwise

@[expose] public section

noncomputable section

namespace Cert.Reference2Ideal.Mix

open Cert.Reference2Ideal Cert.Reference2Ideal.Gen Cert.Reference2Ideal.Read Idealize.ShloMosaic Idealize.SL.Sem Cert.Row

variable {x0 : (⟨S8192x1024, .f32⟩ : BufTy).Contents (Elt Ideal)} {x1 x2 : (⟨S8192x512, .f32⟩ : BufTy).Contents (Elt Ideal)}
  {x3 : (⟨S8192x2048, .f32⟩ : BufTy).Contents (Elt Ideal)} {x4 : (⟨S1x2048, .f32⟩ : BufTy).Contents (Elt Ideal)}
  {x5 : (⟨S1x1024, .f32⟩ : BufTy).Contents (Elt Ideal)} {x6 x7 : (⟨S512x1024, .f32⟩ : BufTy).Contents (Elt Ideal)}
  {x8 : (⟨S1024x1024, .f32⟩ : BufTy).Contents (Elt Ideal)}
  {D : Fin 8192 → Fin 1024 → ℝ} {A B : Fin 8192 → Fin 512 → ℝ} {L : Fin 8192 → Fin 2048 → ℝ} {b : Fin 1 → Fin 2048 → ℝ}
  {P : Fin 1 → Fin 1024 → ℝ} {S T : Fin 512 → Fin 1024 → ℝ} {O : Fin 1024 → Fin 1024 → ℝ}

theorem v0_R (h1 : R2 x1 A) (h6 : R2 x6 S) :
    R2 (val_main_v0 (F := Ideal) x1 x6) fun j k => rowMul (A j) S k := by
  intro j k
  pointwise [val_main_v0]
  simp only [h1.at, h6.at, ← EReal.coe_mul, coe_sum]
  all_goals rfl

theorem v1_R (h2 : R2 x2 B) (h7 : R2 x7 T) :
    R2 (val_main_v1 (F := Ideal) x2 x7) fun j k => rowMul (B j) T k := by
  intro j k
  pointwise [val_main_v1]
  simp only [h2.at, h7.at, ← EReal.coe_mul, coe_sum]
  all_goals rfl

/-- The gates. -/
theorem v9_R (h3 : R2 x3 L) (h4 : R2 x4 b) :
    R2 (val_main_v9 (F := Ideal) x3 x4) fun j k => gt L b j k := by
  intro j k
  pointwise [val_main_v9, val_main_v8, val_main_v7, val_main_v6, val_main_v5, val_main_v4, val_main_v3, val_main_v2, val_main_cst, val_main_cst_0]
  simp only [h3.at, h4.at, ← EReal.coe_add, ← EReal.coe_neg, Ideal.exp_coe, ← EReal.coe_one, div_sg]
  all_goals rfl

theorem v12_R (h3 : R2 x3 L) (h4 : R2 x4 b) :
    R2 (val_main_v12 (F := Ideal) x3 x4) fun j k => gt L b j k * (1 - gt L b j k) := by
  intro j k
  pointwise [val_main_v12, val_main_v11, val_main_v10, val_main_cst_1]
  simp only [(v9_R h3 h4).at, ← EReal.coe_mul, ← EReal.coe_sub, ← EReal.coe_one]
  all_goals rfl

theorem v13_R (h3 : R2 x3 L) (h4 : R2 x4 b) :
    R2 (val_main_v13 (F := Ideal) x3 x4) fun j k => gt L b j (lo k) := by
  intro j k
  pointwise [val_main_v13]
  simp only [(v9_R h3 h4).at]
  all_goals rfl

theorem v15_R (h3 : R2 x3 L) (h4 : R2 x4 b) :
    R2 (val_main_v15 (F := Ideal) x3 x4) fun j k => gt L b j (hi k) := by
  intro j k
  pointwise [val_main_v15]
  simp only [(v9_R h3 h4).at]
  all_goals rfl

/-- The mixed row before its norm. -/
theorem v18_R (h1 : R2 x1 A) (h2 : R2 x2 B) (h3 : R2 x3 L) (h4 : R2 x4 b) (h6 : R2 x6 S) (h7 : R2 x7 T) (h8 : R2 x8 O) :
    R2 (val_main_v18 (F := Ideal) x1 x2 x3 x4 x6 x7 x8) fun j k => yr A B L b S T O j k := by
  intro j k
  pointwise [val_main_v18, val_main_v17, val_main_v16, val_main_v14]
  simp only [(v13_R h3 h4).at, (v15_R h3 h4).at, (v0_R h1 h6).at, (v1_R h2 h7).at, h8.at, ← EReal.coe_mul, coe_sum, ← EReal.coe_add]
  all_goals rfl

theorem v25_R (h1 : R2 x1 A) (h2 : R2 x2 B) (h3 : R2 x3 L) (h4 : R2 x4 b) (h6 : R2 x6 S) (h7 : R2 x7 T) (h8 : R2 x8 O) :
    R2 (val_main_v25 (F := Ideal) x1 x2 x3 x4 x6 x7 x8) fun j k => ms (yr A B L b S T O j) := by
  intro j k
  pointwise [val_main_v25, val_main_v24, val_main_v23, val_main_v22, val_main_v21, val_main_v20, val_main_v19, val_main_cst_2, val_main_cst_3, val_main_cst_4]
  simp only [(v18_R h1 h2 h3 h4 h6 h7 h8).at, lit_1024, lit_eps, ← EReal.coe_mul, coe_sum, div_coe (by norm_num : (1024:ℝ) ≠ 0), ← EReal.coe_add]
  all_goals rfl

theorem v26_R (h1 : R2 x1 A) (h2 : R2 x2 B) (h3 : R2 x3 L) (h4 : R2 x4 b) (h6 : R2 x6 S) (h7 : R2 x7 T) (h8 : R2 x8 O) :
    R2 (val_main_v26 (F := Ideal) x1 x2 x3 x4 x6 x7 x8) fun j k => rr (yr A B L b S T O j) := by
  intro j k
  pointwise [val_main_v26]
  simp only [(v25_R h1 h2 h3 h4 h6 h7 h8).at, rsqrt_coe_pos (ms_pos _)]
  all_goals rfl

theorem v29_R (h1 : R2 x1 A) (h2 : R2 x2 B) (h3 : R2 x3 L) (h4 : R2 x4 b) (h6 : R2 x6 S) (h7 : R2 x7 T) (h8 : R2 x8 O) :
    R2 (val_main_v29 (F := Ideal) x1 x2 x3 x4 x6 x7 x8) fun j k => -(1/2) * (rr (yr A B L b S T O j) / ms (yr A B L b S T O j)) := by
  intro j k
  pointwise [val_main_v29, val_main_v28, val_main_v27, val_main_cst_5]
  simp only [(v26_R h1 h2 h3 h4 h6 h7 h8).at, (v25_R h1 h2 h3 h4 h6 h7 h8).at, lit_neg_half, ← EReal.coe_mul, div_coe (ms_pos _).ne']
  all_goals rfl

theorem v38_R (h0 : R2 x0 D) (h5 : R2 x5 P) :
    R2 (val_main_v38 (F := Ideal) x0 x5) fun j k => D j k * P 0 k := by
  intro j k
  pointwise [val_main_v38, val_main_v37]
  simp only [h0.at, h5.at, ← EReal.coe_mul]
  all_goals rfl

theorem v41_R (h0 : R2 x0 D) (h1 : R2 x1 A) (h2 : R2 x2 B) (h3 : R2 x3 L) (h4 : R2 x4 b) (h5 : R2 x5 P) (h6 : R2 x6 S) (h7 : R2 x7 T) (h8 : R2 x8 O) :
    R2 (val_main_v41 (F := Ideal) x0 x1 x2 x3 x4 x5 x6 x7 x8) fun j k => (∑ l, yr A B L b S T O j l * (D j l * P 0 l)) := by
  intro j k
  pointwise [val_main_v41, val_main_v40, val_main_v39, val_main_cst_7]
  simp only [(v18_R h1 h2 h3 h4 h6 h7 h8).at, (v38_R h0 h5).at, ← EReal.coe_mul, coe_sum]
  all_goals rfl

theorem v48_R (h0 : R2 x0 D) (h1 : R2 x1 A) (h2 : R2 x2 B) (h3 : R2 x3 L) (h4 : R2 x4 b) (h5 : R2 x5 P) (h6 : R2 x6 S) (h7 : R2 x7 T) (h8 : R2 x8 O) :
    R2 (val_main_v48 (F := Ideal) x0 x1 x2 x3 x4 x5 x6 x7 x8) fun j k => (∑ l, yr A B L b S T O j l * (D j l * P 0 l)) * (-(1/2) * (rr (yr A B L b S T O j) / ms (yr A B L b S T O j))) / 1024 := by
  intro j k
  pointwise [val_main_v48, val_main_v47, val_main_v46, val_main_v45, val_main_v44, val_main_cst_8, val_main_cst_9]
  simp only [(v41_R h0 h1 h2 h3 h4 h5 h6 h7 h8).at, (v29_R h1 h2 h3 h4 h6 h7 h8).at, lit_1024, ← EReal.coe_mul, div_coe (by norm_num : (1024:ℝ) ≠ 0), Finset.univ_unique, Finset.sum_singleton]
  all_goals rfl

/-- The gradient of the mixed row before its norm. -/
theorem v52_R (h0 : R2 x0 D) (h1 : R2 x1 A) (h2 : R2 x2 B) (h3 : R2 x3 L) (h4 : R2 x4 b) (h5 : R2 x5 P) (h6 : R2 x6 S) (h7 : R2 x7 T) (h8 : R2 x8 O) :
    R2 (val_main_v52 (F := Ideal) x0 x1 x2 x3 x4 x5 x6 x7 x8) fun j k => dyr (yr A B L b S T O) D P j k := by
  intro j k
  pointwise [val_main_v52, val_main_v51, val_main_v50, val_main_v49, val_main_v43, val_main_v42]
  simp only [(v48_R h0 h1 h2 h3 h4 h5 h6 h7 h8).at, (v18_R h1 h2 h3 h4 h6 h7 h8).at, (v38_R h0 h5).at, (v26_R h1 h2 h3 h4 h6 h7 h8).at, ← EReal.coe_mul, ← EReal.coe_add]
  exact congrArg _ (dnrm_eq (yr A B L b S T O j) (fun l => D j l * P 0 l) k).symm

theorem v53_R (h0 : R2 x0 D) (h1 : R2 x1 A) (h2 : R2 x2 B) (h3 : R2 x3 L) (h4 : R2 x4 b) (h5 : R2 x5 P) (h6 : R2 x6 S) (h7 : R2 x7 T) (h8 : R2 x8 O) :
    R2 (val_main_v53 (F := Ideal) x0 x1 x2 x3 x4 x5 x6 x7 x8) fun j k => dmr (dyr (yr A B L b S T O) D P) O j k := by
  intro j k
  pointwise [val_main_v53]
  simp only [(v52_R h0 h1 h2 h3 h4 h5 h6 h7 h8).at, h8.at, ← EReal.coe_mul, coe_sum]
  all_goals rfl

theorem v54_R (h0 : R2 x0 D) (h1 : R2 x1 A) (h2 : R2 x2 B) (h3 : R2 x3 L) (h4 : R2 x4 b) (h5 : R2 x5 P) (h6 : R2 x6 S) (h7 : R2 x7 T) (h8 : R2 x8 O) :
    R2 (val_main_v54 (F := Ideal) x0 x1 x2 x3 x4 x5 x6 x7 x8) fun j k => dpr (dmr (dyr (yr A B L b S T O) D P) O) hi L b j k := by
  intro j k
  pointwise [val_main_v54]
  simp only [(v15_R h3 h4).at, (v53_R h0 h1 h2 h3 h4 h5 h6 h7 h8).at, ← EReal.coe_mul]
  exact congrArg _ (mul_comm _ _)

theorem v57_R (h0 : R2 x0 D) (h1 : R2 x1 A) (h2 : R2 x2 B) (h3 : R2 x3 L) (h4 : R2 x4 b) (h5 : R2 x5 P) (h6 : R2 x6 S) (h7 : R2 x7 T) (h8 : R2 x8 O) :
    R2 (val_main_v57 (F := Ideal) x0 x1 x2 x3 x4 x5 x6 x7 x8) fun j k => dpr (dmr (dyr (yr A B L b S T O) D P) O) lo L b j k := by
  intro j k
  pointwise [val_main_v57]
  simp only [(v13_R h3 h4).at, (v53_R h0 h1 h2 h3 h4 h5 h6 h7 h8).at, ← EReal.coe_mul]
  exact congrArg _ (mul_comm _ _)

theorem v55_R (h0 : R2 x0 D) (h1 : R2 x1 A) (h2 : R2 x2 B) (h3 : R2 x3 L) (h4 : R2 x4 b) (h5 : R2 x5 P) (h6 : R2 x6 S) (h7 : R2 x7 T) (h8 : R2 x8 O) :
    R2 (val_main_v55 (F := Ideal) x0 x1 x2 x3 x4 x5 x6 x7 x8) fun j k => dmr (dyr (yr A B L b S T O) D P) O j k * rowMul (B j) T k := by
  intro j k
  pointwise [val_main_v55]
  simp only [(v53_R h0 h1 h2 h3 h4 h5 h6 h7 h8).at, (v1_R h2 h7).at, ← EReal.coe_mul]
  all_goals rfl

theorem v58_R (h0 : R2 x0 D) (h1 : R2 x1 A) (h2 : R2 x2 B) (h3 : R2 x3 L) (h4 : R2 x4 b) (h5 : R2 x5 P) (h6 : R2 x6 S) (h7 : R2 x7 T) (h8 : R2 x8 O) :
    R2 (val_main_v58 (F := Ideal) x0 x1 x2 x3 x4 x5 x6 x7 x8) fun j k => dmr (dyr (yr A B L b S T O) D P) O j k * rowMul (A j) S k := by
  intro j k
  pointwise [val_main_v58]
  simp only [(v53_R h0 h1 h2 h3 h4 h5 h6 h7 h8).at, (v0_R h1 h6).at, ← EReal.coe_mul]
  all_goals rfl

/-- The gradient of the gates before the logistic function. -/
theorem v61_R (h0 : R2 x0 D) (h1 : R2 x1 A) (h2 : R2 x2 B) (h3 : R2 x3 L) (h4 : R2 x4 b) (h5 : R2 x5 P) (h6 : R2 x6 S) (h7 : R2 x7 T) (h8 : R2 x8 O) :
    R2 (val_main_v61 (F := Ideal) x0 x1 x2 x3 x4 x5 x6 x7 x8) fun j n => two (dgr (dmr (dyr (yr A B L b S T O) D P) O) lo A S L b) (dgr (dmr (dyr (yr A B L b S T O) D P) O) hi B T L b) j n := by
  intro j n
  pointwise [val_main_v61, val_main_v60, val_main_v59, val_main_v56, val_main_cst_10, val_main_cst_11]
  simp only [(v55_R h0 h1 h2 h3 h4 h5 h6 h7 h8).at, (v58_R h0 h1 h2 h3 h4 h5 h6 h7 h8).at, (v12_R h3 h4).at]
  unfold two dgr
  simp only [apply_dite Real.toEReal]
  have hn := n.isLt
  by_cases c0 : n.val < 1024
  · have c1 : ¬ 1024 ≤ n.val := by omega
    simp only [c0, c1, false_and, ↓reduceDIte, zero_add, ← EReal.coe_mul]
    refine congrArg Real.toEReal ?_
    show _ * (gt L b j n * (1 - gt L b j n)) = _ * gt L b j n * (1 - gt L b j n)
    ring
  · have c1 : 1024 ≤ n.val := by omega
    have c2 : n.val - 1024 < 1024 := by omega
    have e : hi ⟨n.val - 1024, c2⟩ = n := Fin.ext (by show 1024 + (n.val - 1024) = n.val; omega)
    simp only [c0, c1, c2, e, and_self, ↓reduceDIte, add_zero, ← EReal.coe_mul]
    refine congrArg Real.toEReal ?_
    ring

theorem v64_R (h0 : R2 x0 D) (h1 : R2 x1 A) (h2 : R2 x2 B) (h3 : R2 x3 L) (h4 : R2 x4 b) (h5 : R2 x5 P) (h6 : R2 x6 S) (h7 : R2 x7 T) (h8 : R2 x8 O) :
    R2 (val_main_v64 (F := Ideal) x0 x1 x2 x3 x4 x5 x6 x7 x8) fun j k => dor (dpr (dmr (dyr (yr A B L b S T O) D P) O) lo L b) S j k := by
  intro j k
  pointwise [val_main_v64]
  simp only [(v57_R h0 h1 h2 h3 h4 h5 h6 h7 h8).at, h6.at, ← EReal.coe_mul, coe_sum]
  all_goals rfl

theorem v65_R (h0 : R2 x0 D) (h1 : R2 x1 A) (h2 : R2 x2 B) (h3 : R2 x3 L) (h4 : R2 x4 b) (h5 : R2 x5 P) (h6 : R2 x6 S) (h7 : R2 x7 T) (h8 : R2 x8 O) :
    R2 (val_main_v65 (F := Ideal) x0 x1 x2 x3 x4 x5 x6 x7 x8) fun j k => dor (dpr (dmr (dyr (yr A B L b S T O) D P) O) hi L b) T j k := by
  intro j k
  pointwise [val_main_v65]
  simp only [(v54_R h0 h1 h2 h3 h4 h5 h6 h7 h8).at, h7.at, ← EReal.coe_mul, coe_sum]
  all_goals rfl

end Cert.Reference2Ideal.Mix

end
-- ==== Proof.Mix.Host.lean ====
/-
  What the host code of `Kernel2Ideal` hands its call: the mixed row before its norm, which is the reference's own stage, and the
  weights narrowed.
-/
module

public import proofs.«01_k».proof.Proof.Gen.Kernel2Ideal.Value
public import proofs.«01_k».proof.Proof.Mix.Ref
public import Idealize.ShloMosaic.Lib.Claim
public import Idealize.ShloMosaic.Lib.StableHlo.RunRead

@[expose] public section

noncomputable section

namespace Cert.Kernel2Ideal.Mix

open Cert.Kernel2Ideal Cert.Kernel2Ideal.Gen Idealize.ShloMosaic Idealize.ShloMosaic.TcCoe Idealize.SL.Sem Cert.Row

variable (m : (ℓ : Loc nD τ sig) → Buf (Elt Ideal) ℓ) (c : Dev nD)

theorem V_v16 : V m c main_v16
    = (truncf .bf16 (m ((c : Thread nD τ).loc main_arg6) : FVec Ideal S512x1024 .f32) bitsLt_bf16_f32 : FVec Ideal S512x1024 .bf16) := by
  unfold V
  after_reads_simp

theorem V_v17 : V m c main_v17
    = (truncf .bf16 (m ((c : Thread nD τ).loc main_arg7) : FVec Ideal S512x1024 .f32) bitsLt_bf16_f32 : FVec Ideal S512x1024 .bf16) := by
  unfold V
  after_reads_simp

theorem V_v18 : V m c main_v18
    = (truncf .bf16 (m ((c : Thread nD τ).loc main_arg8) : FVec Ideal S1024x1024 .f32) bitsLt_bf16_f32 : FVec Ideal S1024x1024 .bf16) := by
  unfold V
  after_reads_simp

theorem V_v15 : V m c main_v15 = Cert.Reference2Ideal.Read.val_main_v18 (F := Ideal) (m ((c : Thread nD τ).loc main_arg1))
    (m ((c : Thread nD τ).loc main_arg2)) (m ((c : Thread nD τ).loc main_arg3)) (m ((c : Thread nD τ).loc main_arg4))
    (m ((c : Thread nD τ).loc main_arg6)) (m ((c : Thread nD τ).loc main_arg7)) (m ((c : Thread nD τ).loc main_arg8)) := by
  unfold V
  after_reads_simp
  rfl

end Cert.Kernel2Ideal.Mix

end
-- ==== Proof.Mix.Arr.lean ====
/-
  The six large results of `Kernel2Ideal`'s call, of arguments that hold real numbers: the blocks of `Mix/Out` put together.
-/
module

public import proofs.«01_k».proof.Proof.Mix.Out
public import proofs.«01_k».proof.Proof.Mix.Host
public import Idealize.ShloMosaic.Lib.Pipeline.ValueKit.Geometry

@[expose] public section

noncomputable section

namespace Cert.Kernel2Ideal.Mix

open Cert.Kernel2Ideal Cert.Kernel2Ideal.Gen Idealize.ShloMosaic Idealize.ShloMosaic.TcCoe Idealize.SL.Sem Cert.Row
open Cert.Fwd (mat)

variable (m : (ℓ : Loc nD τ sig) → Buf (Elt Ideal) ℓ) (c : Dev nD)

/-- What the arguments hold. -/
structure Args (D : Fin 8192 → Fin 1024 → ℝ) (A B : Fin 8192 → Fin 512 → ℝ) (L : Fin 8192 → Fin 2048 → ℝ) (b : Fin 1 → Fin 2048 → ℝ)
    (P : Fin 1 → Fin 1024 → ℝ) (S T : Fin 512 → Fin 1024 → ℝ) (O : Fin 1024 → Fin 1024 → ℝ) : Prop where
  a0 : R2 (m ((c : Thread nD τ).loc main_arg0)) D
  a1 : R2 (m ((c : Thread nD τ).loc main_arg1)) A
  a2 : R2 (m ((c : Thread nD τ).loc main_arg2)) B
  a3 : R2 (m ((c : Thread nD τ).loc main_arg3)) L
  a4 : R2 (m ((c : Thread nD τ).loc main_arg4)) b
  a5 : R2 (m ((c : Thread nD τ).loc main_arg5)) P
  a6 : R2 (m ((c : Thread nD τ).loc main_arg6)) S
  a7 : R2 (m ((c : Thread nD τ).loc main_arg7)) T
  a8 : R2 (m ((c : Thread nD τ).loc main_arg8)) O

/-- Row `j` of a point's block. -/
def row (t : Fin cfg0.N) (j : Fin 256) : Fin 8192 :=
  ⟨256 * t.val + j.val, by have := lt_of_lt_of_eq t.isLt N_0; have := j.isLt; omega⟩

variable {m c} {D : Fin 8192 → Fin 1024 → ℝ} {A B : Fin 8192 → Fin 512 → ℝ} {L : Fin 8192 → Fin 2048 → ℝ} {b : Fin 1 → Fin 2048 → ℝ}
    {P : Fin 1 → Fin 1024 → ℝ} {S T : Fin 512 → Fin 1024 → ℝ} {O : Fin 1024 → Fin 1024 → ℝ}

theorem blk0 (h : Args m c D A B L b P S T O) (t : Fin cfg0.N) : R2 (iblk m c 0 t : Vec Ideal S256x1024 .f32) (fun j => D (row t j)) := by
  intro j k
  refine Eq.trans ?_ (h.a0.at (row t j) k)
  unfold iblk
  rw [View.read_apply]
  show V m c main_arg0 _ = _
  rw [V_main_arg0]
  congr 1
  have hi := (by decide +kernel : ∀ t : Fin grid0.N, win0_0.index t 0 = t.val ∧ win0_0.index t 1 = 0) t
  funext d
  apply Fin.ext
  match d with
  | ⟨0, _⟩ => show win0_0.index t 0 * 256 + 1 * j.val = 256 * t.val + j.val; rw [hi.1]; omega
  | ⟨1, _⟩ => show win0_0.index t 1 * 1024 + 1 * k.val = k.val; rw [hi.2]; omega

theorem blk1 (h : Args m c D A B L b P S T O) (t : Fin cfg0.N) : R2 (iblk m c 1 t : Vec Ideal S256x1024 .f32) (fun j => (yr A B L b S T O) (row t j)) := by
  intro j k
  refine Eq.trans ?_ ((Cert.Reference2Ideal.Mix.v18_R h.a1 h.a2 h.a3 h.a4 h.a6 h.a7 h.a8).at (row t j) k)
  unfold iblk
  rw [View.read_apply]
  show V m c main_v15 _ = _
  rw [V_v15]
  congr 1
  have hi := (by decide +kernel : ∀ t : Fin grid0.N, win0_1.index t 0 = t.val ∧ win0_1.index t 1 = 0) t
  funext d
  apply Fin.ext
  match d with
  | ⟨0, _⟩ => show win0_1.index t 0 * 256 + 1 * j.val = 256 * t.val + j.val; rw [hi.1]; omega
  | ⟨1, _⟩ => show win0_1.index t 1 * 1024 + 1 * k.val = k.val; rw [hi.2]; omega

theorem blk2 (h : Args m c D A B L b P S T O) (t : Fin cfg0.N) : R2 (iblk m c 2 t : Vec Ideal S256x512 .f32) (fun j => A (row t j)) := by
  intro j k
  refine Eq.trans ?_ (h.a1.at (row t j) k)
  unfold iblk
  rw [View.read_apply]
  show V m c main_arg1 _ = _
  rw [V_main_arg1]
  congr 1
  have hi := (by decide +kernel : ∀ t : Fin grid0.N, win0_2.index t 0 = t.val ∧ win0_2.index t 1 = 0) t
  funext d
  apply Fin.ext
  match d with
  | ⟨0, _⟩ => show win0_2.index t 0 * 256 + 1 * j.val = 256 * t.val + j.val; rw [hi.1]; omega
  | ⟨1, _⟩ => show win0_2.index t 1 * 512 + 1 * k.val = k.val; rw [hi.2]; omega

theorem blk3 (h : Args m c D A B L b P S T O) (t : Fin cfg0.N) : R2 (iblk m c 3 t : Vec Ideal S256x512 .f32) (fun j => B (row t j)) := by
  intro j k
  refine Eq.trans ?_ (h.a2.at (row t j) k)
  unfold iblk
  rw [View.read_apply]
  show V m c main_arg2 _ = _
  rw [V_main_arg2]
  congr 1
  have hi := (by decide +kernel : ∀ t : Fin grid0.N, win0_3.index t 0 = t.val ∧ win0_3.index t 1 = 0) t
  funext d
  apply Fin.ext
  match d with
  | ⟨0, _⟩ => show win0_3.index t 0 * 256 + 1 * j.val = 256 * t.val + j.val; rw [hi.1]; omega
  | ⟨1, _⟩ => show win0_3.index t 1 * 512 + 1 * k.val = k.val; rw [hi.2]; omega

theorem blk4 (h : Args m c D A B L b P S T O) (t : Fin cfg0.N) : R2 (iblk m c 4 t : Vec Ideal S256x2048 .f32) (fun j => L (row t j)) := by
  intro j k
  refine Eq.trans ?_ (h.a3.at (row t j) k)
  unfold iblk
  rw [View.read_apply]
  show V m c main_arg3 _ = _
  rw [V_main_arg3]
  congr 1
  have hi := (by decide +kernel : ∀ t : Fin grid0.N, win0_4.index t 0 = t.val ∧ win0_4.index t 1 = 0) t
  funext d
  apply Fin.ext
  match d with
  | ⟨0, _⟩ => show win0_4.index t 0 * 256 + 1 * j.val = 256 * t.val + j.val; rw [hi.1]; omega
  | ⟨1, _⟩ => show win0_4.index t 1 * 2048 + 1 * k.val = k.val; rw [hi.2]; omega

theorem blk5 (h : Args m c D A B L b P S T O) (t : Fin cfg0.N) : R2 (iblk m c 5 t : Vec Ideal S1x2048 .f32) (b) := by
  intro j k
  refine Eq.trans ?_ (h.a4.at j k)
  unfold iblk
  rw [View.read_apply]
  show V m c main_arg4 _ = _
  rw [V_main_arg4]
  congr 1
  have hi := (by decide +kernel : ∀ t : Fin grid0.N, win0_5.index t 0 = 0 ∧ win0_5.index t 1 = 0) t
  funext d
  apply Fin.ext
  match d with
  | ⟨0, _⟩ => show win0_5.index t 0 * 1 + 1 * j.val = j.val; rw [hi.1]; omega
  | ⟨1, _⟩ => show win0_5.index t 1 * 2048 + 1 * k.val = k.val; rw [hi.2]; omega

theorem blk6 (h : Args m c D A B L b P S T O) (t : Fin cfg0.N) : R2 (iblk m c 6 t : Vec Ideal S1x1024 .f32) (P) := by
  intro j k
  refine Eq.trans ?_ (h.a5.at j k)
  unfold iblk
  rw [View.read_apply]
  show V m c main_arg5 _ = _
  rw [V_main_arg5]
  congr 1
  have hi := (by decide +kernel : ∀ t : Fin grid0.N, win0_6.index t 0 = 0 ∧ win0_6.index t 1 = 0) t
  funext d
  apply Fin.ext
  match d with
  | ⟨0, _⟩ => show win0_6.index t 0 * 1 + 1 * j.val = j.val; rw [hi.1]; omega
  | ⟨1, _⟩ => show win0_6.index t 1 * 1024 + 1 * k.val = k.val; rw [hi.2]; omega

theorem blk7 (h : Args m c D A B L b P S T O) (t : Fin cfg0.N) : R2 (iblk m c 7 t : Vec Ideal S512x1024 .bf16) (S) := by
  intro j k
  refine Eq.trans ?_ (h.a6.at j k)
  unfold iblk
  rw [View.read_apply]
  show V m c main_v16 _ = _
  rw [V_v16]
  show (m ((c : Thread nD τ).loc main_arg6) : _) _ = _
  congr 1
  have hi := (by decide +kernel : ∀ t : Fin grid0.N, win0_7.index t 0 = 0 ∧ win0_7.index t 1 = 0) t
  funext d
  apply Fin.ext
  match d with
  | ⟨0, _⟩ => show win0_7.index t 0 * 512 + 1 * j.val = j.val; rw [hi.1]; omega
  | ⟨1, _⟩ => show win0_7.index t 1 * 1024 + 1 * k.val = k.val; rw [hi.2]; omega

theorem blk8 (h : Args m c D A B L b P S T O) (t : Fin cfg0.N) : R2 (iblk m c 8 t : Vec Ideal S512x1024 .bf16) (T) := by
  intro j k
  refine Eq.trans ?_ (h.a7.at j k)
  unfold iblk
  rw [View.read_apply]
  show V m c main_v17 _ = _
  rw [V_v17]
  show (m ((c : Thread nD τ).loc main_arg7) : _) _ = _
  congr 1
  have hi := (by decide +kernel : ∀ t : Fin grid0.N, win0_8.index t 0 = 0 ∧ win0_8.index t 1 = 0) t
  funext d
  apply Fin.ext
  match d with
  | ⟨0, _⟩ => show win0_8.index t 0 * 512 + 1 * j.val = j.val; rw [hi.1]; omega
  | ⟨1, _⟩ => show win0_8.index t 1 * 1024 + 1 * k.val = k.val; rw [hi.2]; omega

theorem blk9 (h : Args m c D A B L b P S T O) (t : Fin cfg0.N) : R2 (iblk m c 9 t : Vec Ideal S1024x1024 .bf16) (O) := by
  intro j k
  refine Eq.trans ?_ (h.a8.at j k)
  unfold iblk
  rw [View.read_apply]
  show V m c main_v18 _ = _
  rw [V_v18]
  show (m ((c : Thread nD τ).loc main_arg8) : _) _ = _
  congr 1
  have hi := (by decide +kernel : ∀ t : Fin grid0.N, win0_9.index t 0 = 0 ∧ win0_9.index t 1 = 0) t
  funext d
  apply Fin.ext
  match d with
  | ⟨0, _⟩ => show win0_9.index t 0 * 1024 + 1 * j.val = j.val; rw [hi.1]; omega
  | ⟨1, _⟩ => show win0_9.index t 1 * 1024 + 1 * k.val = k.val; rw [hi.2]; omega

/-- What a point leaves. -/
theorem left (h : Args m c D A B L b P S T O) (t : Fin cfg0.N) : Six (outsAt0 m c t.val t.isLt).1 (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2.1
    (fun j => D (row t j)) (fun j => (yr A B L b S T O) (row t j)) (fun j => A (row t j)) (fun j => B (row t j)) (fun j => L (row t j)) b P S T O := by
  by_cases h0 : t.val % 32 = 0
  · simp only [outsAt0_A m c t h0]
    exact outs_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) ((hcond0_0 t).mpr h0)
      (blk0 h t) (blk1 h t) (blk2 h t) (blk3 h t) (blk4 h t) (blk5 h t) (blk6 h t) (blk7 h t) (blk8 h t) (blk9 h t)
  · simp only [outsAt0_B m c t h0]
    exact outs_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (fun h => h0 ((hcond0_0 t).mp h))
      (blk0 h t) (blk1 h t) (blk2 h t) (blk3 h t) (blk4 h t) (blk5 h t) (blk6 h t) (blk7 h t) (blk8 h t) (blk9 h t)

/-- An array of real numbers. -/
def arr {a b : Nat} (Y : Fin a → Fin b → ℝ) : (⟨2, ![a, b]⟩ : Shape).Idx → EReal := mat fun j k => ((Y j k : ℝ) : EReal)

theorem eq_arr {a b : Nat} {y : (⟨2, ![a, b]⟩ : Shape).Idx → EReal} {Y : Fin a → Fin b → ℝ} (h : R2 y Y) : y = arr Y :=
  Cert.Fwd.E2.eq_mat (X := fun j k => ((Y j k : ℝ) : EReal)) h

theorem final10 (h : Args m c D A B L b P S T O) : (dats m 0 c).arrAt 10 cfg0.N = arr (dyr (yr A B L b S T O) D P) := by
  refine (dats m 0 c).arrAt_eq_of_covers 10 _ (by decide +kernel) fun t hf y => ?_
  blk_simp
  rw [after0_10]
  have hx := (by decide +kernel : ∀ t : Fin grid0.N, win0_10.index t 0 = t.val ∧ win0_10.index t 1 = 0) t
  obtain ⟨j, k, rfl⟩ : ∃ (j : Fin 256) (k : Fin 1024), y = ix2 j k := ⟨y 0, y 1, by funext d; fin_cases d <;> rfl⟩
  refine ((left h t).1 j k).trans ?_
  have e0 : ((win0_10.blk t).view.emb (ix2 j k)) 0 = row t j := by
    apply Fin.ext
    show win0_10.index t 0 * 256 + 1 * j.val = 256 * t.val + j.val
    rw [hx.1]; omega
  have e1 : ((win0_10.blk t).view.emb (ix2 j k)) 1 = k := by
    apply Fin.ext
    show win0_10.index t 1 * 1024 + 1 * k.val = k.val
    rw [hx.2]; omega
  show _ = Real.toEReal ((dyr (yr A B L b S T O) D P) (((win0_10.blk t).view.emb (ix2 j k)) 0) (((win0_10.blk t).view.emb (ix2 j k)) 1))
  rw [e0, e1]
  rfl

theorem final11 (h : Args m c D A B L b P S T O) : (dats m 0 c).arrAt 11 cfg0.N = arr (dpr (dmr (dyr (yr A B L b S T O) D P) O) lo L b) := by
  refine (dats m 0 c).arrAt_eq_of_covers 11 _ (by decide +kernel) fun t hf y => ?_
  blk_simp
  rw [after0_11]
  have hx := (by decide +kernel : ∀ t : Fin grid0.N, win0_11.index t 0 = t.val ∧ win0_11.index t 1 = 0) t
  obtain ⟨j, k, rfl⟩ : ∃ (j : Fin 256) (k : Fin 1024), y = ix2 j k := ⟨y 0, y 1, by funext d; fin_cases d <;> rfl⟩
  refine ((left h t).2.1 j k).trans ?_
  have e0 : ((win0_11.blk t).view.emb (ix2 j k)) 0 = row t j := by
    apply Fin.ext
    show win0_11.index t 0 * 256 + 1 * j.val = 256 * t.val + j.val
    rw [hx.1]; omega
  have e1 : ((win0_11.blk t).view.emb (ix2 j k)) 1 = k := by
    apply Fin.ext
    show win0_11.index t 1 * 1024 + 1 * k.val = k.val
    rw [hx.2]; omega
  show _ = Real.toEReal ((dpr (dmr (dyr (yr A B L b S T O) D P) O) lo L b) (((win0_11.blk t).view.emb (ix2 j k)) 0) (((win0_11.blk t).view.emb (ix2 j k)) 1))
  rw [e0, e1]
  rfl

theorem final12 (h : Args m c D A B L b P S T O) : (dats m 0 c).arrAt 12 cfg0.N = arr (dpr (dmr (dyr (yr A B L b S T O) D P) O) hi L b) := by
  refine (dats m 0 c).arrAt_eq_of_covers 12 _ (by decide +kernel) fun t hf y => ?_
  blk_simp
  rw [after0_12]
  have hx := (by decide +kernel : ∀ t : Fin grid0.N, win0_12.index t 0 = t.val ∧ win0_12.index t 1 = 0) t
  obtain ⟨j, k, rfl⟩ : ∃ (j : Fin 256) (k : Fin 1024), y = ix2 j k := ⟨y 0, y 1, by funext d; fin_cases d <;> rfl⟩
  refine ((left h t).2.2.1 j k).trans ?_
  have e0 : ((win0_12.blk t).view.emb (ix2 j k)) 0 = row t j := by
    apply Fin.ext
    show win0_12.index t 0 * 256 + 1 * j.val = 256 * t.val + j.val
    rw [hx.1]; omega
  have e1 : ((win0_12.blk t).view.emb (ix2 j k)) 1 = k := by
    apply Fin.ext
    show win0_12.index t 1 * 1024 + 1 * k.val = k.val
    rw [hx.2]; omega
  show _ = Real.toEReal ((dpr (dmr (dyr (yr A B L b S T O) D P) O) hi L b) (((win0_12.blk t).view.emb (ix2 j k)) 0) (((win0_12.blk t).view.emb (ix2 j k)) 1))
  rw [e0, e1]
  rfl

theorem final13 (h : Args m c D A B L b P S T O) : (dats m 0 c).arrAt 13 cfg0.N = arr (two (dgr (dmr (dyr (yr A B L b S T O) D P) O) lo A S L b) (dgr (dmr (dyr (yr A B L b S T O) D P) O) hi B T L b)) := by
  refine (dats m 0 c).arrAt_eq_of_covers 13 _ (by decide +kernel) fun t hf y => ?_
  blk_simp
  rw [after0_13]
  have hx := (by decide +kernel : ∀ t : Fin grid0.N, win0_13.index t 0 = t.val ∧ win0_13.index t 1 = 0) t
  obtain ⟨j, k, rfl⟩ : ∃ (j : Fin 256) (k : Fin 2048), y = ix2 j k := ⟨y 0, y 1, by funext d; fin_cases d <;> rfl⟩
  refine ((left h t).2.2.2.1 j k).trans ?_
  have e0 : ((win0_13.blk t).view.emb (ix2 j k)) 0 = row t j := by
    apply Fin.ext
    show win0_13.index t 0 * 256 + 1 * j.val = 256 * t.val + j.val
    rw [hx.1]; omega
  have e1 : ((win0_13.blk t).view.emb (ix2 j k)) 1 = k := by
    apply Fin.ext
    show win0_13.index t 1 * 2048 + 1 * k.val = k.val
    rw [hx.2]; omega
  show _ = Real.toEReal ((two (dgr (dmr (dyr (yr A B L b S T O) D P) O) lo A S L b) (dgr (dmr (dyr (yr A B L b S T O) D P) O) hi B T L b)) (((win0_13.blk t).view.emb (ix2 j k)) 0) (((win0_13.blk t).view.emb (ix2 j k)) 1))
  rw [e0, e1]
  rfl

theorem final14 (h : Args m c D A B L b P S T O) : (dats m 0 c).arrAt 14 cfg0.N = arr (dor (dpr (dmr (dyr (yr A B L b S T O) D P) O) lo L b) S) := by
  refine (dats m 0 c).arrAt_eq_of_covers 14 _ (by decide +kernel) fun t hf y => ?_
  blk_simp
  rw [after0_14]
  have hx := (by decide +kernel : ∀ t : Fin grid0.N, win0_14.index t 0 = t.val ∧ win0_14.index t 1 = 0) t
  obtain ⟨j, k, rfl⟩ : ∃ (j : Fin 256) (k : Fin 512), y = ix2 j k := ⟨y 0, y 1, by funext d; fin_cases d <;> rfl⟩
  refine ((left h t).2.2.2.2.1 j k).trans ?_
  have e0 : ((win0_14.blk t).view.emb (ix2 j k)) 0 = row t j := by
    apply Fin.ext
    show win0_14.index t 0 * 256 + 1 * j.val = 256 * t.val + j.val
    rw [hx.1]; omega
  have e1 : ((win0_14.blk t).view.emb (ix2 j k)) 1 = k := by
    apply Fin.ext
    show win0_14.index t 1 * 512 + 1 * k.val = k.val
    rw [hx.2]; omega
  show _ = Real.toEReal ((dor (dpr (dmr (dyr (yr A B L b S T O) D P) O) lo L b) S) (((win0_14.blk t).view.emb (ix2 j k)) 0) (((win0_14.blk t).view.emb (ix2 j k)) 1))
  rw [e0, e1]
  rfl

theorem final15 (h : Args m c D A B L b P S T O) : (dats m 0 c).arrAt 15 cfg0.N = arr (dor (dpr (dmr (dyr (yr A B L b S T O) D P) O) hi L b) T) := by
  refine (dats m 0 c).arrAt_eq_of_covers 15 _ (by decide +kernel) fun t hf y => ?_
  blk_simp
  rw [after0_15]
  have hx := (by decide +kernel : ∀ t : Fin grid0.N, win0_15.index t 0 = t.val ∧ win0_15.index t 1 = 0) t
  obtain ⟨j, k, rfl⟩ : ∃ (j : Fin 256) (k : Fin 512), y = ix2 j k := ⟨y 0, y 1, by funext d; fin_cases d <;> rfl⟩
  refine ((left h t).2.2.2.2.2 j k).trans ?_
  have e0 : ((win0_15.blk t).view.emb (ix2 j k)) 0 = row t j := by
    apply Fin.ext
    show win0_15.index t 0 * 256 + 1 * j.val = 256 * t.val + j.val
    rw [hx.1]; omega
  have e1 : ((win0_15.blk t).view.emb (ix2 j k)) 1 = k := by
    apply Fin.ext
    show win0_15.index t 1 * 512 + 1 * k.val = k.val
    rw [hx.2]; omega
  show _ = Real.toEReal ((dor (dpr (dmr (dyr (yr A B L b S T O) D P) O) hi L b) T) (((win0_15.blk t).view.emb (ix2 j k)) 0) (((win0_15.blk t).view.emb (ix2 j k)) 1))
  rw [e0, e1]
  rfl

end Cert.Kernel2Ideal.Mix

end
-- ==== Proof.Mix.Claim.lean ====
/-
  The claim about the backward call of the mixing: of finite arguments its six large results are those of the gradient that
  automatic differentiation takes.
-/
module

public import proofs.«01_k».proof.Defs
public import proofs.«01_k».proof.Proof.Finite
public import proofs.«01_k».proof.Proof.Mix.Arr
public import proofs.«01_k».proof.Proof.Gen.Pre_finite2
public import proofs.«01_k».proof.Proof.Gen.Reference2Ideal.Read
public import proofs.«01_k».proof.Proof.Gen.Kernel2Ideal.Value

@[expose] public section

noncomputable section

namespace Cert.Kernel2Ideal.Mix

open Cert.Kernel2Ideal Cert.Kernel2Ideal.Gen Idealize.ShloMosaic Idealize.ShloMosaic.TcCoe Idealize.SL.Sem Cert.Row

/-- The precondition says that each argument holds real numbers. -/
theorem real_of_pre (m : (ℓ : Loc nD τ sig) → Buf (Elt Ideal) ℓ) (h : Cert.Pre_Kernel2Ideal_finite2 m) (c : Dev nD) :
    ∃ D A B L b P S T O, Args m c D A B L b P S T O := by
  have j : (⟨0, ![]⟩ : Shape).Idx := fun k => k.elim0
  have e := congrFun (h c) j
  unfold Cert.Pre_finite2.fn Cert.Pre_finite2.fn_part1 Cert.Pre_finite2.fn_part2 at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨D, h0⟩ := R2.of_all _ _ _ _ _ j e0
  obtain ⟨A, h1⟩ := R2.of_all _ _ _ _ _ j e1
  obtain ⟨B, h2⟩ := R2.of_all _ _ _ _ _ j e2
  obtain ⟨L, h3⟩ := R2.of_all _ _ _ _ _ j e3
  obtain ⟨b, h4⟩ := R2.of_all _ _ _ _ _ j e4
  obtain ⟨P, h5⟩ := R2.of_all _ _ _ _ _ j e5
  obtain ⟨S, h6⟩ := R2.of_all _ _ _ _ _ j e6
  obtain ⟨T, h7⟩ := R2.of_all _ _ _ _ _ j e7
  obtain ⟨O, h8⟩ := R2.of_all _ _ _ _ _ j e8
  exact ⟨D, A, B, L, b, P, S, T, O, h0, h1, h2, h3, h4, h5, h6, h7, h8⟩

theorem algebraic [Cert.Kernel2Ideal.Facts] [Cert.Reference2Ideal.Facts] [Cert.Pre_finite2.Facts] :
    Cert.algebraic_Kernel2Ideal_Reference2Ideal_pre_finite2 := by
  intro m ρ m' ρ' hpre hargs
  choose D A B L b P S T O h using real_of_pre m hpre
  refine ⟨fun c => arr (dyr (yr (A c) (B c) (L c) (b c) (S c) (T c) (O c)) (D c) (P c)),
    fun c => arr (dpr (dmr (dyr (yr (A c) (B c) (L c) (b c) (S c) (T c) (O c)) (D c) (P c)) (O c)) lo (L c) (b c)),
    fun c => arr (dpr (dmr (dyr (yr (A c) (B c) (L c) (b c) (S c) (T c) (O c)) (D c) (P c)) (O c)) hi (L c) (b c)),
    fun c => arr (two (dgr (dmr (dyr (yr (A c) (B c) (L c) (b c) (S c) (T c) (O c)) (D c) (P c)) (O c)) lo (A c) (S c) (L c) (b c)) (dgr (dmr (dyr (yr (A c) (B c) (L c) (b c) (S c) (T c) (O c)) (D c) (P c)) (O c)) hi (B c) (T c) (L c) (b c))),
    fun c => arr (dor (dpr (dmr (dyr (yr (A c) (B c) (L c) (b c) (S c) (T c) (O c)) (D c) (P c)) (O c)) lo (L c) (b c)) (S c)),
    fun c => arr (dor (dpr (dmr (dyr (yr (A c) (B c) (L c) (b c) (S c) (T c) (O c)) (D c) (P c)) (O c)) hi (L c) (b c)) (T c)), ?_, ?_⟩
  · refine (θ_run _ _ _).mono (fun r hr c => ?_) (Value.run_blocks (F := Ideal) m ρ)
    obtain ⟨h10, h11, h12, h13, h14, h15, _, _, ha⟩ := hr c
    exact ⟨h10.trans (final10 (h c)), h11.trans (final11 (h c)), h12.trans (final12 (h c)), h13.trans (final13 (h c)), h14.trans (final14 (h c)), h15.trans (final15 (h c)), ha⟩
  · refine (θ_run _ _ _).mono (fun r hr c => ?_) (Cert.Reference2Ideal.Value.run (F := Ideal) m' ρ')
    obtain ⟨r0, r1, r2, r3, r4, r5, ha⟩ := hr c
    obtain ⟨a0, a1, a2, a3, a4, a5, a6, a7, a8⟩ := hargs c
    have g0 := (h c).a0; rw [← a0] at g0
    have g1 := (h c).a1; rw [← a1] at g1
    have g2 := (h c).a2; rw [← a2] at g2
    have g3 := (h c).a3; rw [← a3] at g3
    have g4 := (h c).a4; rw [← a4] at g4
    have g5 := (h c).a5; rw [← a5] at g5
    have g6 := (h c).a6; rw [← a6] at g6
    have g7 := (h c).a7; rw [← a7] at g7
    have g8 := (h c).a8; rw [← a8] at g8
    refine ⟨r0.trans ?_, r1.trans ?_, r2.trans ?_, r3.trans ?_, r4.trans ?_, r5.trans ?_, ha⟩
    · exact (Cert.Reference2Ideal.Read.val_main_v66_eq _ c).trans (eq_arr (Cert.Reference2Ideal.Mix.v52_R g0 g1 g2 g3 g4 g5 g6 g7 g8))
    · exact (Cert.Reference2Ideal.Read.val_main_v67_eq _ c).trans (eq_arr (Cert.Reference2Ideal.Mix.v57_R g0 g1 g2 g3 g4 g5 g6 g7 g8))
    · exact (Cert.Reference2Ideal.Read.val_main_v68_eq _ c).trans (eq_arr (Cert.Reference2Ideal.Mix.v54_R g0 g1 g2 g3 g4 g5 g6 g7 g8))
    · exact (Cert.Reference2Ideal.Read.val_main_v69_eq _ c).trans (eq_arr (Cert.Reference2Ideal.Mix.v61_R g0 g1 g2 g3 g4 g5 g6 g7 g8))
    · exact (Cert.Reference2Ideal.Read.val_main_v70_eq _ c).trans (eq_arr (Cert.Reference2Ideal.Mix.v64_R g0 g1 g2 g3 g4 g5 g6 g7 g8))
    · exact (Cert.Reference2Ideal.Read.val_main_v71_eq _ c).trans (eq_arr (Cert.Reference2Ideal.Mix.v65_R g0 g1 g2 g3 g4 g5 g6 g7 g8))

end Cert.Kernel2Ideal.Mix

end
-- ==== Proof.Inp.Rows.lean ====
/-
  The rows of the backward input projection over real numbers. The kernel's gradient row is in padded column order, with
  zeros on both sides of the rotated key's columns, and so is its weight; the zeros add nothing to their product.
-/
module

public import proofs.«01_k».proof.Proof.Real

@[expose] public section

noncomputable section

namespace Cert.Row

/-- The latent part of the padded row. -/
def lat (C : Fin 384 → ℝ) (T : Fin 256 → ℝ) (R : Fin 32 → ℝ) (n : Fin 768) : ℝ :=
  if h : n.val < 384 then C ⟨n.val, h⟩
  else if h : n.val < 640 then T ⟨n.val - 384, by omega⟩
  else if n.val < 704 then 0
  else if h : n.val < 736 then R ⟨n.val - 704, by omega⟩
  else 0

/-- The padded row. -/
def padded (Q K V : Fin 512 → ℝ) (L : Fin 768 → ℝ) (E : Fin 2048 → ℝ) (n : Fin 4352) : ℝ :=
  if h : n.val < 512 then Q ⟨n.val, h⟩
  else if h : n.val < 1024 then K ⟨n.val - 512, by omega⟩
  else if h : n.val < 1536 then V ⟨n.val - 1024, by omega⟩
  else if h : n.val < 2304 then L ⟨n.val - 1536, by omega⟩
  else E ⟨n.val - 2304, by have := n.isLt; omega⟩

/-- The row side by side, without padding. -/
def joined (Q K V : Fin 512 → ℝ) (C : Fin 384 → ℝ) (T : Fin 256 → ℝ) (R : Fin 32 → ℝ) (E : Fin 2048 → ℝ) (n : Fin 4256) : ℝ :=
  if h : n.val < 512 then Q ⟨n.val, h⟩
  else if h : n.val < 1024 then K ⟨n.val - 512, by omega⟩
  else if h : n.val < 1536 then V ⟨n.val - 1024, by omega⟩
  else if h : n.val < 1920 then C ⟨n.val - 1536, by omega⟩
  else if h : n.val < 2176 then T ⟨n.val - 1920, by omega⟩
  else if h : n.val < 2208 then R ⟨n.val - 2176, by omega⟩
  else E ⟨n.val - 2208, by have := n.isLt; omega⟩

/-- The weight with its columns of zeros. -/
def wide (W : Fin 1024 → Fin 4256 → ℝ) (k : Fin 1024) (n : Fin 4352) : ℝ :=
  if h : n.val < 2176 then W k ⟨n.val, by omega⟩
  else if n.val < 2240 then 0
  else if h : n.val < 2272 then W k ⟨n.val - 64, by omega⟩
  else if n.val < 2304 then 0
  else W k ⟨n.val - 96, by have := n.isLt; omega⟩

theorem sum_padded (f : Fin 4352 → ℝ) :
    (∑ i, f i) = (∑ i : Fin 2176, f ⟨i.val, by have := i.isLt; omega⟩)
      + ((∑ i : Fin 64, f ⟨2176 + i.val, by have := i.isLt; omega⟩)
      + ((∑ i : Fin 32, f ⟨2176 + (64 + i.val), by have := i.isLt; omega⟩)
      + ((∑ i : Fin 32, f ⟨2176 + (64 + (32 + i.val)), by have := i.isLt; omega⟩)
      + ∑ i : Fin 2048, f ⟨2176 + (64 + (32 + (32 + i.val))), by have := i.isLt; omega⟩))) := by
  rw [show (∑ i, f i) = ∑ i : Fin (2176 + (64 + (32 + (32 + 2048)))), f i from rfl, Fin.sum_univ_add, Fin.sum_univ_add,
    Fin.sum_univ_add, Fin.sum_univ_add]
  rfl

theorem sum_joined (f : Fin 4256 → ℝ) :
    (∑ i, f i) = (∑ i : Fin 2176, f ⟨i.val, by have := i.isLt; omega⟩)
      + ((∑ i : Fin 32, f ⟨2176 + i.val, by have := i.isLt; omega⟩)
      + ∑ i : Fin 2048, f ⟨2176 + (32 + i.val), by have := i.isLt; omega⟩) := by
  rw [show (∑ i, f i) = ∑ i : Fin (2176 + (32 + 2048)), f i from rfl, Fin.sum_univ_add, Fin.sum_univ_add]
  rfl

/-- Before the rotated key the two rows agree. -/
theorem padded_low (Q K V : Fin 512 → ℝ) (C : Fin 384 → ℝ) (T : Fin 256 → ℝ) (R : Fin 32 → ℝ) (E : Fin 2048 → ℝ)
    (n : Nat) (hn : n < 2176) :
    padded Q K V (lat C T R) E ⟨n, by omega⟩ = joined Q K V C T R E ⟨n, by omega⟩ := by
  unfold padded joined lat
  dsimp only
  by_cases h1 : n < 512
  · rw [dif_pos h1, dif_pos h1]
  rw [dif_neg h1, dif_neg h1]
  by_cases h2 : n < 1024
  · rw [dif_pos h2, dif_pos h2]
  rw [dif_neg h2, dif_neg h2]
  by_cases h3 : n < 1536
  · rw [dif_pos h3, dif_pos h3]
  rw [dif_neg h3, dif_neg h3, dif_pos (by omega)]
  by_cases h4 : n < 1920
  · rw [dif_pos (by omega), dif_pos h4]
  rw [dif_neg (by omega), dif_pos (by omega), dif_neg h4, dif_pos hn]
  exact congrArg T (Fin.ext (by dsimp only; omega))

/-- A product over the padded columns is the product over the columns. -/
theorem padded_mul (Q K V : Fin 512 → ℝ) (C : Fin 384 → ℝ) (T : Fin 256 → ℝ) (R : Fin 32 → ℝ) (E : Fin 2048 → ℝ)
    (W : Fin 1024 → Fin 4256 → ℝ) (k : Fin 1024) :
    rowMulT (padded Q K V (lat C T R) E) (wide W) k = rowMulT (joined Q K V C T R E) W k := by
  unfold rowMulT
  rw [sum_padded, sum_joined]
  have z1 : ∀ i : Fin 64, padded Q K V (lat C T R) E ⟨2176 + i.val, by have := i.isLt; omega⟩
      * wide W k ⟨2176 + i.val, by have := i.isLt; omega⟩ = 0 := fun i => by
    unfold wide
    have := i.isLt
    dsimp only
    rw [dif_neg (by omega), if_pos (by omega), mul_zero]
  have z2 : ∀ i : Fin 32, padded Q K V (lat C T R) E ⟨2176 + (64 + (32 + i.val)), by have := i.isLt; omega⟩
      * wide W k ⟨2176 + (64 + (32 + i.val)), by have := i.isLt; omega⟩ = 0 := fun i => by
    unfold wide
    have := i.isLt
    dsimp only
    rw [dif_neg (by omega), if_neg (by omega), dif_neg (by omega), if_pos (by omega), mul_zero]
  rw [Finset.sum_eq_zero fun i _ => z1 i, Finset.sum_eq_zero fun i _ => z2 i, zero_add, zero_add]
  refine congrArg₂ (· + ·) (Finset.sum_congr rfl fun i _ => ?_)
    (congrArg₂ (· + ·) (Finset.sum_congr rfl fun i _ => ?_) (Finset.sum_congr rfl fun i _ => ?_))
  · have := i.isLt
    refine congrArg₂ (· * ·) (padded_low Q K V C T R E i.val i.isLt) ?_
    unfold wide
    dsimp only
    rw [dif_pos (by omega)]
  · have := i.isLt
    refine congrArg₂ (· * ·) ?_ ?_
    · unfold padded joined lat
      dsimp only
      rw [dif_neg (by omega), dif_neg (by omega), dif_neg (by omega), dif_pos (by omega), dif_neg (by omega), dif_neg (by omega),
        if_neg (by omega), dif_pos (by omega), dif_neg (by omega), dif_neg (by omega), dif_neg (by omega), dif_neg (by omega),
        dif_neg (by omega), dif_pos (by omega)]
      exact congrArg R (Fin.ext (by dsimp only; omega))
    · unfold wide
      dsimp only
      rw [dif_neg (by omega), if_neg (by omega), dif_pos (by omega)]
      exact congrArg (W k) (Fin.ext (by dsimp only; omega))
  · have := i.isLt
    refine congrArg₂ (· * ·) ?_ ?_
    · unfold padded joined
      dsimp only
      rw [dif_neg (by omega), dif_neg (by omega), dif_neg (by omega), dif_neg (by omega), dif_neg (by omega), dif_neg (by omega),
        dif_neg (by omega), dif_neg (by omega), dif_neg (by omega), dif_neg (by omega)]
      exact congrArg E (Fin.ext (by dsimp only; omega))
    · unfold wide
      dsimp only
      rw [dif_neg (by omega), if_neg (by omega), dif_neg (by omega), if_neg (by omega)]
      exact congrArg (W k) (Fin.ext (by dsimp only; omega))

/-- The product in two halves of the padded columns. -/
theorem halves_mul (p : Fin 4352 → ℝ) (w : Fin 1024 → Fin 4352 → ℝ) (k : Fin 1024) :
    rowMulT (fun i : Fin 2176 => p ⟨0 + i.val, by have := i.isLt; omega⟩)
        (fun k (i : Fin 2176) => w k ⟨0 + i.val, by have := i.isLt; omega⟩) k
      + rowMulT (fun i : Fin 2176 => p ⟨2176 + i.val, by have := i.isLt; omega⟩)
        (fun k (i : Fin 2176) => w k ⟨2176 + i.val, by have := i.isLt; omega⟩) k = rowMulT p w k := by
  unfold rowMulT
  rw [show (∑ i : Fin 4352, p i * w k i) = ∑ i : Fin (2176 + 2176), p i * w k i from rfl, Fin.sum_univ_add]
  refine congrArg₂ _ (Finset.sum_congr rfl fun i _ => ?_) (Finset.sum_congr rfl fun i _ => rfl)
  have e : (⟨0 + i.val, by have := i.isLt; omega⟩ : Fin 4352) = Fin.castAdd 2176 i := Fin.ext (Nat.zero_add _)
  exact congrArg (fun s : Fin 4352 => p s * w k s) e

/-- The gradient of the row the projection took, the residual's added. -/
def inr {n : Nat} (X D : Fin n → Fin 1024 → ℝ) (G : Fin 1 → Fin 1024 → ℝ) (H : Fin n → Fin 1024 → ℝ) (j : Fin n) (k : Fin 1024) : ℝ :=
  D j k + dnrm (X j) (fun l => H j l * G 0 l) k

end Cert.Row

end
-- ==== Proof.Inp.Out.lean ====
/-
  What the body of `Kernel3Ideal`'s call leaves in the gradient's block, of blocks that hold real numbers: at the first point and at
  the others the same function of a row.
-/
module

public import proofs.«01_k».proof.Proof.Gen.Kernel3Ideal.Value
public import proofs.«01_k».proof.Proof.Inp.Rows
public import proofs.«01_k».proof.Proof.Fwd.Rows

@[expose] public section

set_option maxRecDepth 16384

noncomputable section

namespace Cert.Kernel3Ideal.Inp

open Cert.Kernel3Ideal Cert.Kernel3Ideal.Gen Idealize.ShloMosaic Idealize.ShloMosaic.TcCoe Idealize.SL.Sem Cert.Row
open Cert.Fwd (hz)

variable {x0 x1 : Vec Ideal S512x1024 .f32} {x2 x3 x4 : Vec Ideal S512x512 .f32} {x5 : Vec Ideal S512x768 .bf16}
  {x6 : Vec Ideal S512x2048 .bf16} {x7 : Vec Ideal S1x1024 .f32} {x8 : Vec Ideal S1024x4352 .bf16}
  {a b : Vec Ideal S512x2176 .bf16} {u w : Vec Ideal S1024x2176 .bf16} {xo11 : Vec Ideal S8x1024 .f32}
  {X D : Fin 512 → Fin 1024 → ℝ} {Q K V : Fin 512 → Fin 512 → ℝ} {L : Fin 512 → Fin 768 → ℝ} {E : Fin 512 → Fin 2048 → ℝ}
  {G : Fin 1 → Fin 1024 → ℝ} {W : Fin 1024 → Fin 4352 → ℝ} {A B : Fin 512 → Fin 2176 → ℝ} {U Z : Fin 1024 → Fin 2176 → ℝ}

theorem pay9_R (ha : R2 a A) (hb : R2 b B) (hu : R2 u U) (hw : R2 w Z) :
    R2 (k0_pay9 (k0_pay8 a u) b w) fun j k => rowMulT (A j) U k + rowMulT (B j) Z k := by
  intro j k
  pointwise [k0_pay9, k0_pay8]
  simp only [ha.at, hb.at, hu.at, hw.at, ← EReal.coe_mul, coe_sum, ← EReal.coe_add]
  rfl

theorem pay10_R (hx : R2 x0 X) : R2 (k0_pay10 x0) fun j _ => rr (X j) := by
  intro j k
  pointwise [k0_pay10]
  simp only [lit_1024, lit_eps, hx.at, ← EReal.coe_mul, coe_sum, div_coe (by norm_num : (1024 : ℝ) ≠ 0), ← EReal.coe_add]
  exact rsqrt_coe_pos (ms_pos _)

theorem pay11_R (hx : R2 x0 X) : R2 (k0_pay11 x0) fun j k => nrm (X j) k := by
  intro j k
  pointwise [k0_pay11]
  simp only [hx.at, (pay10_R hx).at, ← EReal.coe_mul]
  rfl

theorem pay1_R (hx : R2 x0 X) (hd : R2 x1 D) (hg : R2 x7 G) (ha : R2 a A) (hb : R2 b B) (hu : R2 u U) (hw : R2 w Z) :
    R2 (k0_pay1 x1 (k0_pay13 (k0_pay8 a u) b w x0 x7))
      (inr X D G fun j k => rowMulT (A j) U k + rowMulT (B j) Z k) := by
  intro j k
  pointwise [k0_pay1, k0_pay13]
  simp only [lit_1024, hd.at, hg.at, (pay10_R hx).at, (pay11_R hx).at, (pay9_R ha hb hu hw).at, ← EReal.coe_mul,
    coe_sum, div_coe (by norm_num : (1024 : ℝ) ≠ 0), ← EReal.coe_sub, ← EReal.coe_add]
  rfl

/-- A load of half of the columns. -/
theorem ld_half {n : Nat} {x : Vec Ideal ⟨2, ![n, 4352]⟩ .bf16} {Y : Fin n → Fin 4352 → ℝ} (o : Nat) (ho : o + 2176 ≤ 4352)
    (hi : ∀ d, (![0, o] : Fin 2 → Nat) d + (![n, 2176] : Fin 2 → Nat) d ≤ (⟨2, ![n, 4352]⟩ : Shape).size d) (h : R2 x Y) :
    R2 (View.ld x (Rect.unit (s := ⟨2, ![n, 4352]⟩) ![0, o] ![n, 2176] hi)) fun j i => Y j ⟨o + i.val, by have := i.isLt; omega⟩ :=
  Cert.Fwd.ld_cols (W := fun j i => ((Y j i : ℝ) : EReal)) o ho hi h

/-- The five stores of the gradient's padded block, the last first. -/
abbrev stores (x2 x3 x4 : Vec Ideal S512x512 .f32) (x5 : Vec Ideal S512x768 .bf16) (x6 : Vec Ideal S512x2048 .bf16) :
    List (View.Piece (Elt Ideal) S512x4352 .bf16) :=
  [⟨Rect.unit ![0, 2304] ![512, 2048] inb_S512x4352_S512x2048_0_2304, k0_pay7 x6⟩,
    ⟨Rect.unit ![0, 1536] ![512, 768] inb_S512x4352_S512x768_0_1536, k0_pay6 x5⟩,
    ⟨Rect.unit ![0, 1024] ![512, 512] inb_S512x4352_S512x512_0_1024, k0_pay5 x4⟩,
    ⟨Rect.unit ![0, 512] ![512, 512] inb_S512x4352_S512x512_0_512, k0_pay4 x3⟩,
    ⟨Rect.unit ![0, 0] ![512, 512] inb_S512x4352_S512x512_0_0, k0_pay3 x2⟩]

theorem canon_R (h2 : R2 x2 Q) (h3 : R2 x3 K) (h4 : R2 x4 V) (h5 : R2 x5 L) (h6 : R2 x6 E) :
    R2 (View.canon (stores x2 x3 x4 x5 x6)) fun j => padded (Q j) (K j) (V j) (L j) (E j) := by
  intro j n
  refine View.canon_apply_of_pieces (fun y : S512x4352.Idx => ((padded (Q (y 0)) (K (y 0)) (V (y 0)) (L (y 0)) (E (y 0)) (y 1) : ℝ) : EReal))
    (stores x2 x3 x4 x5 x6) ?_ (ix2 j n) (View.cover_of_tiledBy (stores x2 x3 x4 x5 x6) ![512, 256] (by sl_kernel_rfl) (ix2 j n))
  intro p hp
  simp only [stores, List.mem_cons, List.not_mem_nil, or_false] at hp
  rcases hp with rfl | rfl | rfl | rfl | rfl
  · exact Cert.Fwd.col_piece (e := .bf16) 2304 (by norm_num) inb_S512x4352_S512x2048_0_2304 (fun j n => ((padded (Q j) (K j) (V j) (L j) (E j) n : ℝ) : EReal))
      (Q := fun j i => ((E j i : ℝ) : EReal)) (fun j i => by pointwise [k0_pay7]; exact h6 j i) fun j i => by
        have := i.isLt
        unfold padded
        dsimp only
        rw [dif_neg (by omega), dif_neg (by omega), dif_neg (by omega), dif_neg (by omega)]
        exact congrArg (fun s => ((E j s : ℝ) : EReal)) (Fin.ext (by dsimp only; omega))
  · exact Cert.Fwd.col_piece (e := .bf16) 1536 (by norm_num) inb_S512x4352_S512x768_0_1536 (fun j n => ((padded (Q j) (K j) (V j) (L j) (E j) n : ℝ) : EReal))
      (Q := fun j i => ((L j i : ℝ) : EReal)) (fun j i => by pointwise [k0_pay6]; exact h5 j i) fun j i => by
        have := i.isLt
        unfold padded
        dsimp only
        rw [dif_neg (by omega), dif_neg (by omega), dif_neg (by omega), dif_pos (by omega)]
        exact congrArg (fun s => ((L j s : ℝ) : EReal)) (Fin.ext (by dsimp only; omega))
  · exact Cert.Fwd.col_piece (e := .bf16) 1024 (by norm_num) inb_S512x4352_S512x512_0_1024 (fun j n => ((padded (Q j) (K j) (V j) (L j) (E j) n : ℝ) : EReal))
      (Q := fun j i => ((V j i : ℝ) : EReal)) (fun j i => by pointwise [k0_pay5]; exact h4 j i) fun j i => by
        have := i.isLt
        unfold padded
        dsimp only
        rw [dif_neg (by omega), dif_neg (by omega), dif_pos (by omega)]
        exact congrArg (fun s => ((V j s : ℝ) : EReal)) (Fin.ext (by dsimp only; omega))
  · exact Cert.Fwd.col_piece (e := .bf16) 512 (by norm_num) inb_S512x4352_S512x512_0_512 (fun j n => ((padded (Q j) (K j) (V j) (L j) (E j) n : ℝ) : EReal))
      (Q := fun j i => ((K j i : ℝ) : EReal)) (fun j i => by pointwise [k0_pay4]; exact h3 j i) fun j i => by
        have := i.isLt
        unfold padded
        dsimp only
        rw [dif_neg (by omega), dif_pos (by omega)]
        exact congrArg (fun s => ((K j s : ℝ) : EReal)) (Fin.ext (by dsimp only; omega))
  · exact Cert.Fwd.col_piece (e := .bf16) 0 (by norm_num) inb_S512x4352_S512x512_0_0 (fun j n => ((padded (Q j) (K j) (V j) (L j) (E j) n : ℝ) : EReal))
      (Q := fun j i => ((Q j i : ℝ) : EReal)) (fun j i => by pointwise [k0_pay3]; exact h2 j i) fun j i => by
        have := i.isLt
        unfold padded
        dsimp only
        rw [dif_pos (by omega)]
        exact congrArg (fun s => ((Q j s : ℝ) : EReal)) (Fin.ext (by dsimp only; omega))

/-- What is read back of them. -/
theorem back_R {sig' : RefSig} {κ : Kind} {sp : Space} (v : View sig' κ sp S512x4352 .bf16) (o : Nat) (ho : o + 2176 ≤ 4352)
    (hi : ∀ d, (![0, o] : Fin 2 → Nat) d + (![512, 2176] : Fin 2 → Nat) d ≤ S512x4352.size d)
    (h2 : R2 x2 Q) (h3 : R2 x3 K) (h4 : R2 x4 V) (h5 : R2 x5 L) (h6 : R2 x6 E) :
    R2 (v.readCov (Val := Elt Ideal) (stores x2 x3 x4 x5 x6) (Rect.unit (s := S512x4352) ![0, o] ![512, 2176] hi).toLoadRect)
      fun j i => padded (Q j) (K j) (V j) (L j) (E j) ⟨o + i.val, by have := i.isLt; omega⟩ := by
  rw [View.readCov_eq_canon']
  exact ld_half o ho hi (canon_R h2 h3 h4 h5 h6)

section CaseA

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x768 .bf16) (harg6 : arg6.IsWhole) (arg7 : Memref sig .tc .vmem S512x2048 .bf16) (harg7 : arg7.IsWhole) (arg8 : Memref sig .tc .vmem S1x1024 .f32) (harg8 : arg8.IsWhole) (arg9 : Memref sig .tc .vmem S1024x4352 .bf16) (harg9 : arg9.IsWhole) (arg10 : Memref sig .tc .vmem S512x1024 .f32) (harg10 : arg10.IsWhole) (arg11 : Memref sig .tc .vmem S512x4352 .bf16) (harg11 : arg11.IsWhole) (arg12 : Memref sig .tc .vmem S8x1024 .f32) (harg12 : arg12.IsWhole) (hc0 : cond0_0 i)

include hc0 in
theorem out_A_9 (h0 : R2 x0 X) (h1 : R2 x1 D) (h2 : R2 x2 Q) (h3 : R2 x3 K) (h4 : R2 x4 V) (h5 : R2 x5 L) (h6 : R2 x6 E)
    (h7 : R2 x7 G) (h8 : R2 x8 W) :
    R2 (out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8)
      (inr X D G fun j => rowMulT (padded (Q j) (K j) (V j) (L j) (E j)) W) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S512x512) hz, View.ld_unit_zero (S := S512x768) hz, View.ld_unit_zero (S := S512x2048) hz]
  refine (pay1_R h0 h1 h7 (back_R arg11.view 0 (by norm_num) inb_S512x4352_S512x2176_0_0 h2 h3 h4 h5 h6)
    (back_R arg11.view 2176 (by norm_num) inb_S512x4352_S512x2176_0_2176 h2 h3 h4 h5 h6)
    (ld_half 0 (by norm_num) inb_S1024x4352_S1024x2176_0_0 h8)
    (ld_half 2176 (by norm_num) inb_S1024x4352_S1024x2176_0_2176 h8)).congr fun j k => ?_
  unfold inr
  simp only [halves_mul]

end CaseA

section CaseB

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x768 .bf16) (harg6 : arg6.IsWhole) (arg7 : Memref sig .tc .vmem S512x2048 .bf16) (harg7 : arg7.IsWhole) (arg8 : Memref sig .tc .vmem S1x1024 .f32) (harg8 : arg8.IsWhole) (arg9 : Memref sig .tc .vmem S1024x4352 .bf16) (harg9 : arg9.IsWhole) (arg10 : Memref sig .tc .vmem S512x1024 .f32) (harg10 : arg10.IsWhole) (arg11 : Memref sig .tc .vmem S512x4352 .bf16) (harg11 : arg11.IsWhole) (arg12 : Memref sig .tc .vmem S8x1024 .f32) (harg12 : arg12.IsWhole) (hc0 : ¬cond0_0 i)

include hc0 in
theorem out_B_9 (h0 : R2 x0 X) (h1 : R2 x1 D) (h2 : R2 x2 Q) (h3 : R2 x3 K) (h4 : R2 x4 V) (h5 : R2 x5 L) (h6 : R2 x6 E)
    (h7 : R2 x7 G) (h8 : R2 x8 W) :
    R2 (out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo11)
      (inr X D G fun j => rowMulT (padded (Q j) (K j) (V j) (L j) (E j)) W) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo11)]
  unfold kernelRun0_B
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S512x512) hz, View.ld_unit_zero (S := S512x768) hz, View.ld_unit_zero (S := S512x2048) hz]
  refine (pay1_R h0 h1 h7 (back_R arg11.view 0 (by norm_num) inb_S512x4352_S512x2176_0_0 h2 h3 h4 h5 h6)
    (back_R arg11.view 2176 (by norm_num) inb_S512x4352_S512x2176_0_2176 h2 h3 h4 h5 h6)
    (ld_half 0 (by norm_num) inb_S1024x4352_S1024x2176_0_0 h8)
    (ld_half 2176 (by norm_num) inb_S1024x4352_S1024x2176_0_2176 h8)).congr fun j k => ?_
  unfold inr
  simp only [halves_mul]

end CaseB

end Cert.Kernel3Ideal.Inp

end
-- ==== Proof.Inp.Host.lean ====
/-
  What the host code of `Kernel3Ideal` hands its call, of arguments that hold real numbers: the weight and the latent gradients
  with columns of zeros put in, the rest narrowed.
-/
module

public import proofs.«01_k».proof.Proof.Gen.Kernel3Ideal.Value
public import proofs.«01_k».proof.Proof.Inp.Rows
public import Idealize.ShloMosaic.Lib.Claim
public import Idealize.ShloMosaic.Lib.StableHlo.RunRead

@[expose] public section

noncomputable section

namespace Cert.Kernel3Ideal.Inp

open Cert.Kernel3Ideal Cert.Kernel3Ideal.Gen Idealize.ShloMosaic Idealize.ShloMosaic.TcCoe Idealize.SL.Sem Cert.Row

variable (m : (ℓ : Loc nD τ sig) → Buf (Elt Ideal) ℓ) (c : Dev nD)

theorem V_v8 {W : Fin 1024 → Fin 4256 → ℝ} (h : R2 (m ((c : Thread nD τ).loc main_arg10)) W) :
    R2 (V m c main_v8 : Vec Ideal S1024x4352 .bf16) (wide W) := by
  intro k n
  unfold V
  after_reads_simp
  pointwise []
  after_reads_simp
  pointwise []
  simp only [h.at]
  unfold wide
  simp only [apply_dite Real.toEReal, apply_ite Real.toEReal]
  have e : ∀ {a b : Fin 4256}, a.val = b.val → ((W k a : ℝ) : EReal) = ((W k b : ℝ) : EReal) := fun h => by rw [Fin.ext h]
  have hn := n.isLt
  by_cases c0 : n.val < 2176
  · simp only [c0, ↓reduceDIte]
  have d1 : (n.val - 2176 < 64) = (n.val < 2240) := by apply propext; omega
  have d2 : (n.val - 2176 - 64 < 32) = (n.val < 2272) := by apply propext; omega
  have d3 : (n.val - 2176 - 64 - 32 < 32) = (n.val < 2304) := by apply propext; omega
  by_cases c1 : n.val < 2240
  · simp only [c0, c1, d1, ↓reduceDIte, ↓reduceIte]
    exact EReal.coe_zero.symm
  by_cases c2 : n.val < 2272
  · simp only [c0, c1, c2, d1, d2, ↓reduceDIte, ↓reduceIte]
    exact e (by dsimp only <;> omega)
  by_cases c3 : n.val < 2304
  · simp only [c0, c1, c2, c3, d1, d2, d3, ↓reduceDIte, ↓reduceIte]
    exact EReal.coe_zero.symm
  · simp only [c0, c1, c2, c3, d1, d2, d3, ↓reduceDIte, ↓reduceIte]
    exact e (by dsimp only <;> omega)

theorem V_v14 {C : Fin 8192 → Fin 384 → ℝ} {T : Fin 8192 → Fin 256 → ℝ} {R : Fin 8192 → Fin 32 → ℝ}
    (h5 : R2 (m ((c : Thread nD τ).loc main_arg5)) C) (h6 : R2 (m ((c : Thread nD τ).loc main_arg6)) T)
    (h7 : R2 (m ((c : Thread nD τ).loc main_arg7)) R) :
    R2 (V m c main_v14 : Vec Ideal S8192x768 .bf16) fun j => lat (C j) (T j) (R j) := by
  intro j n
  unfold V
  after_reads_simp
  pointwise []
  after_reads_simp
  pointwise []
  simp only [h5.at, h6.at, h7.at]
  unfold lat
  simp only [apply_dite Real.toEReal, apply_ite Real.toEReal]
  have d1 : (n.val - 384 < 256) = (n.val < 640) := by apply propext; omega
  have d2 : (n.val - 384 - 256 < 64) = (n.val < 704) := by apply propext; omega
  have d3 : (n.val - 384 - 256 - 64 < 32) = (n.val < 736) := by apply propext; omega
  by_cases c0 : n.val < 384
  · simp only [c0, ↓reduceDIte]
  by_cases c1 : n.val < 640
  · simp only [c0, c1, d1, ↓reduceDIte]
  by_cases c2 : n.val < 704
  · simp only [c0, c1, c2, d1, d2, ↓reduceDIte, ↓reduceIte]
    exact EReal.coe_zero.symm
  by_cases c3 : n.val < 736
  · simp only [c0, c1, c2, c3, d1, d2, d3, ↓reduceDIte, ↓reduceIte]
    exact congrArg (fun s => ((R j s : ℝ) : EReal)) (Fin.ext (by dsimp only <;> omega))
  · simp only [c0, c1, c2, c3, d1, d2, d3, ↓reduceDIte, ↓reduceIte]
    exact EReal.coe_zero.symm

theorem V_v15 {E : Fin 8192 → Fin 2048 → ℝ} (h : R2 (m ((c : Thread nD τ).loc main_arg8)) E) :
    R2 (V m c main_v15 : Vec Ideal S8192x2048 .bf16) E := by
  intro j n
  unfold V
  after_reads_simp
  pointwise []
  exact h j n

end Cert.Kernel3Ideal.Inp

end
-- ==== Proof.Inp.Arr.lean ====
/-
  The result of `Kernel3Ideal`'s call, of arguments that hold real numbers: block by block the function of a row that `Inp/Out`
  finds, the blocks put together.
-/
module

public import proofs.«01_k».proof.Proof.Inp.Out
public import proofs.«01_k».proof.Proof.Inp.Host
public import Idealize.ShloMosaic.Lib.Pipeline.ValueKit.Geometry

@[expose] public section

noncomputable section

namespace Cert.Kernel3Ideal.Inp

open Cert.Kernel3Ideal Cert.Kernel3Ideal.Gen Idealize.ShloMosaic Idealize.ShloMosaic.TcCoe Idealize.SL.Sem Cert.Row
open Cert.Fwd (mat)

variable (m : (ℓ : Loc nD τ sig) → Buf (Elt Ideal) ℓ) (c : Dev nD)

/-- What the arguments hold. -/
structure Args  (X D : Fin 8192 → Fin 1024 → ℝ) (Q K U : Fin 8192 → Fin 512 → ℝ) (C : Fin 8192 → Fin 384 → ℝ) (T : Fin 8192 → Fin 256 → ℝ) (R : Fin 8192 → Fin 32 → ℝ) (E : Fin 8192 → Fin 2048 → ℝ) (G : Fin 1 → Fin 1024 → ℝ) (W : Fin 1024 → Fin 4256 → ℝ) : Prop where
  a0 : R2 (m ((c : Thread nD τ).loc main_arg0)) X
  a1 : R2 (m ((c : Thread nD τ).loc main_arg1)) D
  a2 : R2 (m ((c : Thread nD τ).loc main_arg2)) Q
  a3 : R2 (m ((c : Thread nD τ).loc main_arg3)) K
  a4 : R2 (m ((c : Thread nD τ).loc main_arg4)) U
  a5 : R2 (m ((c : Thread nD τ).loc main_arg5)) C
  a6 : R2 (m ((c : Thread nD τ).loc main_arg6)) T
  a7 : R2 (m ((c : Thread nD τ).loc main_arg7)) R
  a8 : R2 (m ((c : Thread nD τ).loc main_arg8)) E
  a9 : R2 (m ((c : Thread nD τ).loc main_arg9)) G
  a10 : R2 (m ((c : Thread nD τ).loc main_arg10)) W

/-- Row `j` of a point's block. -/
def row (t : Fin cfg0.N) (j : Fin 512) : Fin 8192 :=
  ⟨512 * t.val + j.val, by have := lt_of_lt_of_eq t.isLt N_0; have := j.isLt; omega⟩

section Blocks

variable {m c} {X D : Fin 8192 → Fin 1024 → ℝ} {Q K U : Fin 8192 → Fin 512 → ℝ} {C : Fin 8192 → Fin 384 → ℝ} {T : Fin 8192 → Fin 256 → ℝ} {R : Fin 8192 → Fin 32 → ℝ} {E : Fin 8192 → Fin 2048 → ℝ} {G : Fin 1 → Fin 1024 → ℝ} {W : Fin 1024 → Fin 4256 → ℝ}

theorem blk0 (h : Args m c X D Q K U C T R E G W) (t : Fin cfg0.N) :
    R2 (iblk m c 0 t : Vec Ideal S512x1024 .f32) (fun j => X (row t j)) := by
  intro j k
  refine Eq.trans ?_ (h.a0.at (row t j) k)
  unfold iblk
  rw [View.read_apply]
  show V m c main_arg0 _ = _
  rw [V_main_arg0]
  congr 1
  have hi := (by decide +kernel : ∀ t : Fin grid0.N, win0_0.index t 0 = t.val ∧ win0_0.index t 1 = 0) t
  funext d
  apply Fin.ext
  match d with
  | ⟨0, _⟩ => show win0_0.index t 0 * 512 + 1 * j.val = 512 * t.val + j.val; rw [hi.1]; omega
  | ⟨1, _⟩ => show win0_0.index t 1 * 1024 + 1 * k.val = k.val; rw [hi.2]; omega

theorem blk1 (h : Args m c X D Q K U C T R E G W) (t : Fin cfg0.N) :
    R2 (iblk m c 1 t : Vec Ideal S512x1024 .f32) (fun j => D (row t j)) := by
  intro j k
  refine Eq.trans ?_ (h.a1.at (row t j) k)
  unfold iblk
  rw [View.read_apply]
  show V m c main_arg1 _ = _
  rw [V_main_arg1]
  congr 1
  have hi := (by decide +kernel : ∀ t : Fin grid0.N, win0_1.index t 0 = t.val ∧ win0_1.index t 1 = 0) t
  funext d
  apply Fin.ext
  match d with
  | ⟨0, _⟩ => show win0_1.index t 0 * 512 + 1 * j.val = 512 * t.val + j.val; rw [hi.1]; omega
  | ⟨1, _⟩ => show win0_1.index t 1 * 1024 + 1 * k.val = k.val; rw [hi.2]; omega

theorem blk2 (h : Args m c X D Q K U C T R E G W) (t : Fin cfg0.N) :
    R2 (iblk m c 2 t : Vec Ideal S512x512 .f32) (fun j => Q (row t j)) := by
  intro j k
  refine Eq.trans ?_ (h.a2.at (row t j) k)
  unfold iblk
  rw [View.read_apply]
  show V m c main_arg2 _ = _
  rw [V_main_arg2]
  congr 1
  have hi := (by decide +kernel : ∀ t : Fin grid0.N, win0_2.index t 0 = t.val ∧ win0_2.index t 1 = 0) t
  funext d
  apply Fin.ext
  match d with
  | ⟨0, _⟩ => show win0_2.index t 0 * 512 + 1 * j.val = 512 * t.val + j.val; rw [hi.1]; omega
  | ⟨1, _⟩ => show win0_2.index t 1 * 512 + 1 * k.val = k.val; rw [hi.2]; omega

theorem blk3 (h : Args m c X D Q K U C T R E G W) (t : Fin cfg0.N) :
    R2 (iblk m c 3 t : Vec Ideal S512x512 .f32) (fun j => K (row t j)) := by
  intro j k
  refine Eq.trans ?_ (h.a3.at (row t j) k)
  unfold iblk
  rw [View.read_apply]
  show V m c main_arg3 _ = _
  rw [V_main_arg3]
  congr 1
  have hi := (by decide +kernel : ∀ t : Fin grid0.N, win0_3.index t 0 = t.val ∧ win0_3.index t 1 = 0) t
  funext d
  apply Fin.ext
  match d with
  | ⟨0, _⟩ => show win0_3.index t 0 * 512 + 1 * j.val = 512 * t.val + j.val; rw [hi.1]; omega
  | ⟨1, _⟩ => show win0_3.index t 1 * 512 + 1 * k.val = k.val; rw [hi.2]; omega

theorem blk4 (h : Args m c X D Q K U C T R E G W) (t : Fin cfg0.N) :
    R2 (iblk m c 4 t : Vec Ideal S512x512 .f32) (fun j => U (row t j)) := by
  intro j k
  refine Eq.trans ?_ (h.a4.at (row t j) k)
  unfold iblk
  rw [View.read_apply]
  show V m c main_arg4 _ = _
  rw [V_main_arg4]
  congr 1
  have hi := (by decide +kernel : ∀ t : Fin grid0.N, win0_4.index t 0 = t.val ∧ win0_4.index t 1 = 0) t
  funext d
  apply Fin.ext
  match d with
  | ⟨0, _⟩ => show win0_4.index t 0 * 512 + 1 * j.val = 512 * t.val + j.val; rw [hi.1]; omega
  | ⟨1, _⟩ => show win0_4.index t 1 * 512 + 1 * k.val = k.val; rw [hi.2]; omega

theorem blk5 (h : Args m c X D Q K U C T R E G W) (t : Fin cfg0.N) :
    R2 (iblk m c 5 t : Vec Ideal S512x768 .bf16) (fun j => lat (C (row t j)) (T (row t j)) (R (row t j))) := by
  intro j k
  refine Eq.trans ?_ ((V_v14 m c h.a5 h.a6 h.a7).at (row t j) k)
  unfold iblk
  rw [View.read_apply]
  show V m c main_v14 _ = V m c main_v14 _
  congr 1
  have hi := (by decide +kernel : ∀ t : Fin grid0.N, win0_5.index t 0 = t.val ∧ win0_5.index t 1 = 0) t
  funext d
  apply Fin.ext
  match d with
  | ⟨0, _⟩ => show win0_5.index t 0 * 512 + 1 * j.val = 512 * t.val + j.val; rw [hi.1]; omega
  | ⟨1, _⟩ => show win0_5.index t 1 * 768 + 1 * k.val = k.val; rw [hi.2]; omega

theorem blk6 (h : Args m c X D Q K U C T R E G W) (t : Fin cfg0.N) :
    R2 (iblk m c 6 t : Vec Ideal S512x2048 .bf16) (fun j => E (row t j)) := by
  intro j k
  refine Eq.trans ?_ ((V_v15 m c h.a8).at (row t j) k)
  unfold iblk
  rw [View.read_apply]
  show V m c main_v15 _ = V m c main_v15 _
  congr 1
  have hi := (by decide +kernel : ∀ t : Fin grid0.N, win0_6.index t 0 = t.val ∧ win0_6.index t 1 = 0) t
  funext d
  apply Fin.ext
  match d with
  | ⟨0, _⟩ => show win0_6.index t 0 * 512 + 1 * j.val = 512 * t.val + j.val; rw [hi.1]; omega
  | ⟨1, _⟩ => show win0_6.index t 1 * 2048 + 1 * k.val = k.val; rw [hi.2]; omega

theorem blk7 (h : Args m c X D Q K U C T R E G W) (t : Fin cfg0.N) :
    R2 (iblk m c 7 t : Vec Ideal S1x1024 .f32) G := by
  intro j k
  refine Eq.trans ?_ (h.a9.at j k)
  unfold iblk
  rw [View.read_apply]
  show V m c main_arg9 _ = _
  rw [V_main_arg9]
  congr 1
  have hi := (by decide +kernel : ∀ t : Fin grid0.N, win0_7.index t 0 = 0 ∧ win0_7.index t 1 = 0) t
  funext d
  apply Fin.ext
  match d with
  | ⟨0, _⟩ => show win0_7.index t 0 * 1 + 1 * j.val = j.val; rw [hi.1]; omega
  | ⟨1, _⟩ => show win0_7.index t 1 * 1024 + 1 * k.val = k.val; rw [hi.2]; omega

theorem blk8 (h : Args m c X D Q K U C T R E G W) (t : Fin cfg0.N) :
    R2 (iblk m c 8 t : Vec Ideal S1024x4352 .bf16) (wide W) := by
  intro j k
  refine Eq.trans ?_ ((V_v8 m c h.a10).at j k)
  unfold iblk
  rw [View.read_apply]
  show V m c main_v8 _ = V m c main_v8 _
  congr 1
  have hi := (by decide +kernel : ∀ t : Fin grid0.N, win0_8.index t 0 = 0 ∧ win0_8.index t 1 = 0) t
  funext d
  apply Fin.ext
  match d with
  | ⟨0, _⟩ => show win0_8.index t 0 * 1024 + 1 * j.val = j.val; rw [hi.1]; omega
  | ⟨1, _⟩ => show win0_8.index t 1 * 4352 + 1 * k.val = k.val; rw [hi.2]; omega

/-- What a point leaves in the gradient's block. -/
theorem left9 (h : Args m c X D Q K U C T R E G W) (t : Fin cfg0.N) :
    R2 ((outsAt0 m c t.val t.isLt).1 : Vec Ideal S512x1024 .f32) fun j => (inr X D G fun j => rowMulT (joined (Q j) (K j) (U j) (C j) (T j) (R j) (E j)) W) (row t j) := by
  have e : ∀ j k, inr (fun j => X (row t j)) (fun j => D (row t j)) G (fun j => rowMulT (padded (Q (row t j)) (K (row t j)) (U (row t j))
      (lat (C (row t j)) (T (row t j)) (R (row t j))) (E (row t j))) (wide W)) j k = (inr X D G fun j => rowMulT (joined (Q j) (K j) (U j) (C j) (T j) (R j) (E j)) W) (row t j) k := fun j k => by
    unfold inr
    simp only [padded_mul]
  refine R2.congr ?_ e
  by_cases h0 : t.val % 16 = 0
  · simp only [outsAt0_A m c t h0]
    exact out_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (blk0 h t) (blk1 h t) (blk2 h t) (blk3 h t) (blk4 h t) (blk5 h t) (blk6 h t) (blk7 h t) (blk8 h t)
  · simp only [outsAt0_B m c t h0]
    exact out_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (blk0 h t) (blk1 h t) (blk2 h t) (blk3 h t) (blk4 h t) (blk5 h t) (blk6 h t) (blk7 h t) (blk8 h t)

/-- The gradient. -/
def arr9 (Y : Fin 8192 → Fin 1024 → ℝ) : S8192x1024.Idx → EReal := mat fun j k => ((Y j k : ℝ) : EReal)

theorem eq_arr9 {y : S8192x1024.Idx → EReal} {Y : Fin 8192 → Fin 1024 → ℝ} (h : R2 y Y) : y = arr9 Y :=
  Cert.Fwd.E2.eq_mat (X := fun j k => ((Y j k : ℝ) : EReal)) h

theorem final9 (h : Args m c X D Q K U C T R E G W) : (dats m 0 c).arrAt 9 cfg0.N = arr9 (inr X D G fun j => rowMulT (joined (Q j) (K j) (U j) (C j) (T j) (R j) (E j)) W) := by
  refine (dats m 0 c).arrAt_eq_of_covers 9 _ (by decide +kernel) fun t hf y => ?_
  blk_simp
  rw [after0_9]
  have hi := (by decide +kernel : ∀ t : Fin grid0.N, win0_9.index t 0 = t.val ∧ win0_9.index t 1 = 0) t
  obtain ⟨j, k, rfl⟩ : ∃ (j : Fin 512) (k : Fin 1024), y = ix2 j k := ⟨y 0, y 1, by funext d; fin_cases d <;> rfl⟩
  refine (left9 h t j k).trans ?_
  have e0 : ((win0_9.blk t).view.emb (ix2 j k)) 0 = row t j := by
    apply Fin.ext
    show win0_9.index t 0 * 512 + 1 * j.val = 512 * t.val + j.val
    rw [hi.1]; omega
  have e1 : ((win0_9.blk t).view.emb (ix2 j k)) 1 = k := by
    apply Fin.ext
    show win0_9.index t 1 * 1024 + 1 * k.val = k.val
    rw [hi.2]; omega
  show _ = (((inr X D G fun j => rowMulT (joined (Q j) (K j) (U j) (C j) (T j) (R j) (E j)) W) (((win0_9.blk t).view.emb (ix2 j k)) 0) (((win0_9.blk t).view.emb (ix2 j k)) 1) : ℝ) : EReal)
  rw [e0, e1]

end Blocks

end Cert.Kernel3Ideal.Inp

end
-- ==== Proof.Inp.Ref.lean ====
/-
  The gradient through the input projection as the reference computes it, of real numbers, stage by stage: `X` is the input,
  `D` the residual's gradient, `G` the norm's weight, `W` the projection's.
-/
module

public import proofs.«01_k».proof.Proof.Gen.Reference3Ideal.Read
public import proofs.«01_k».proof.Proof.Inp.Rows

@[expose] public section

noncomputable section

namespace Cert.Reference3Ideal.Inp

open Cert.Reference3Ideal Cert.Reference3Ideal.Gen Cert.Reference3Ideal.Read Idealize.ShloMosaic Idealize.SL.Sem Cert.Row

variable {x0 x1 : (⟨S8192x1024, .f32⟩ : BufTy).Contents (Elt Ideal)} {x2 x3 x4 : (⟨S8192x512, .f32⟩ : BufTy).Contents (Elt Ideal)}
  {x5 : (⟨S8192x384, .f32⟩ : BufTy).Contents (Elt Ideal)} {x6 : (⟨S8192x256, .f32⟩ : BufTy).Contents (Elt Ideal)}
  {x7 : (⟨S8192x32, .f32⟩ : BufTy).Contents (Elt Ideal)} {x8 : (⟨S8192x2048, .f32⟩ : BufTy).Contents (Elt Ideal)}
  {x9 : (⟨S1x1024, .f32⟩ : BufTy).Contents (Elt Ideal)} {x10 : (⟨S1024x4256, .f32⟩ : BufTy).Contents (Elt Ideal)}
  {X D : Fin 8192 → Fin 1024 → ℝ} {Q K V : Fin 8192 → Fin 512 → ℝ} {C : Fin 8192 → Fin 384 → ℝ}
  {T : Fin 8192 → Fin 256 → ℝ} {R : Fin 8192 → Fin 32 → ℝ} {E : Fin 8192 → Fin 2048 → ℝ} {G : Fin 1 → Fin 1024 → ℝ}
  {W : Fin 1024 → Fin 4256 → ℝ}

theorem v6_R (h0 : R2 x0 X) : R2 (val_main_v6 (F := Ideal) x0) fun j _ => ms (X j) := by
  intro j k
  pointwise [val_main_v6, val_main_v5, val_main_v4, val_main_v3, val_main_v2, val_main_v1, val_main_v0, val_main_cst, val_main_cst_0, val_main_cst_1]
  simp only [h0.at, lit_1024, lit_eps, ← EReal.coe_mul, coe_sum, div_coe (by norm_num : (1024:ℝ) ≠ 0), ← EReal.coe_add]
  rfl

theorem v7_R (h0 : R2 x0 X) : R2 (val_main_v7 (F := Ideal) x0) fun j _ => rr (X j) := by
  intro j k
  pointwise [val_main_v7]
  simp only [(v6_R h0).at, rsqrt_coe_pos (ms_pos _)]
  rfl

theorem v10_R (h0 : R2 x0 X) : R2 (val_main_v10 (F := Ideal) x0) fun j _ => -(1/2) * (rr (X j) / ms (X j)) := by
  intro j k
  pointwise [val_main_v10, val_main_v9, val_main_v8, val_main_cst_2]
  simp only [(v7_R h0).at, (v6_R h0).at, lit_neg_half, ← EReal.coe_mul, div_coe (ms_pos _).ne']

theorem v16_R (h2 : R2 x2 Q) (h3 : R2 x3 K) (h4 : R2 x4 V) (h5 : R2 x5 C) (h6 : R2 x6 T) (h7 : R2 x7 R) (h8 : R2 x8 E) :
    R2 (val_main_v16 (F := Ideal) x2 x3 x4 x5 x6 x7 x8) fun j => joined (Q j) (K j) (V j) (C j) (T j) (R j) (E j) := by
  intro j n
  pointwise [val_main_v16]
  simp only [h2.at, h3.at, h4.at, h5.at, h6.at, h7.at, h8.at]
  unfold joined
  simp only [apply_dite Real.toEReal]
  have hn := n.isLt
  by_cases c0 : n.val < 512
  · simp only [c0, ↓reduceDIte]
  have d1 : (n.val - 512 < 512) = (n.val < 1024) := by apply propext; omega
  by_cases c1 : n.val < 1024
  · simp only [c0, c1, d1, ↓reduceDIte]
  have d2 : (n.val - 512 - 512 < 512) = (n.val < 1536) := by apply propext; omega
  by_cases c2 : n.val < 1536
  · simp only [c0, c1, c2, d1, d2, ↓reduceDIte]
    exact congrArg (fun s => ((V j s : ℝ) : EReal)) (Fin.ext (by dsimp only <;> omega))
  have d3 : (n.val - 512 - 512 - 512 < 384) = (n.val < 1920) := by apply propext; omega
  by_cases c3 : n.val < 1920
  · simp only [c0, c1, c2, c3, d1, d2, d3, ↓reduceDIte]
    exact congrArg (fun s => ((C j s : ℝ) : EReal)) (Fin.ext (by dsimp only <;> omega))
  have d4 : (n.val - 512 - 512 - 512 - 384 < 256) = (n.val < 2176) := by apply propext; omega
  by_cases c4 : n.val < 2176
  · simp only [c0, c1, c2, c3, c4, d1, d2, d3, d4, ↓reduceDIte]
    exact congrArg (fun s => ((T j s : ℝ) : EReal)) (Fin.ext (by dsimp only <;> omega))
  have d5 : (n.val - 512 - 512 - 512 - 384 - 256 < 32) = (n.val < 2208) := by apply propext; omega
  by_cases c5 : n.val < 2208
  · simp only [c0, c1, c2, c3, c4, c5, d1, d2, d3, d4, d5, ↓reduceDIte]
    exact congrArg (fun s => ((R j s : ℝ) : EReal)) (Fin.ext (by dsimp only <;> omega))
  · simp only [c0, c1, c2, c3, c4, c5, d1, d2, d3, d4, d5, ↓reduceDIte]
    exact congrArg (fun s => ((E j s : ℝ) : EReal)) (Fin.ext (by dsimp only <;> omega))

theorem v17_R (h2 : R2 x2 Q) (h3 : R2 x3 K) (h4 : R2 x4 V) (h5 : R2 x5 C) (h6 : R2 x6 T) (h7 : R2 x7 R) (h8 : R2 x8 E) (h10 : R2 x10 W) :
    R2 (val_main_v17 (F := Ideal) x2 x3 x4 x5 x6 x7 x8 x10)
      fun j => rowMulT (joined (Q j) (K j) (V j) (C j) (T j) (R j) (E j)) W := by
  intro j k
  pointwise [val_main_v17]
  simp only [(v16_R h2 h3 h4 h5 h6 h7 h8).at, h10.at, ← EReal.coe_mul, coe_sum]
  rfl

theorem v22_R (h2 : R2 x2 Q) (h3 : R2 x3 K) (h4 : R2 x4 V) (h5 : R2 x5 C) (h6 : R2 x6 T) (h7 : R2 x7 R) (h8 : R2 x8 E) (h9 : R2 x9 G) (h10 : R2 x10 W) :
    R2 (val_main_v22 (F := Ideal) x2 x3 x4 x5 x6 x7 x8 x9 x10)
      fun j k => rowMulT (joined (Q j) (K j) (V j) (C j) (T j) (R j) (E j)) W k * G 0 k := by
  intro j k
  pointwise [val_main_v22, val_main_v21]
  simp only [(v17_R h2 h3 h4 h5 h6 h7 h8 h10).at, h9.at, ← EReal.coe_mul]

theorem v32_R (h0 : R2 x0 X) (h2 : R2 x2 Q) (h3 : R2 x3 K) (h4 : R2 x4 V) (h5 : R2 x5 C) (h6 : R2 x6 T) (h7 : R2 x7 R) (h8 : R2 x8 E) (h9 : R2 x9 G) (h10 : R2 x10 W) :
    R2 (val_main_v32 (F := Ideal) x0 x2 x3 x4 x5 x6 x7 x8 x9 x10) fun j _ =>
      (∑ l, X j l * (rowMulT (joined (Q j) (K j) (V j) (C j) (T j) (R j) (E j)) W l * G 0 l)) * (-(1/2) * (rr (X j) / ms (X j))) / 1024 := by
  intro j k
  pointwise [val_main_v32, val_main_v31, val_main_v30, val_main_v29, val_main_v28, val_main_v25, val_main_v24, val_main_v23, val_main_cst_4, val_main_cst_5, val_main_cst_6]
  simp only [h0.at, (v22_R h2 h3 h4 h5 h6 h7 h8 h9 h10).at, (v10_R h0).at, lit_1024, ← EReal.coe_mul, coe_sum, div_coe (by norm_num : (1024:ℝ) ≠ 0), Finset.univ_unique, Finset.sum_singleton]

/-- The gradient of the input. -/
theorem v37_R (h0 : R2 x0 X) (h1 : R2 x1 D) (h2 : R2 x2 Q) (h3 : R2 x3 K) (h4 : R2 x4 V) (h5 : R2 x5 C) (h6 : R2 x6 T) (h7 : R2 x7 R) (h8 : R2 x8 E) (h9 : R2 x9 G) (h10 : R2 x10 W) :
    R2 (val_main_v37 (F := Ideal) x0 x1 x2 x3 x4 x5 x6 x7 x8 x9 x10)
      (inr X D G fun j => rowMulT (joined (Q j) (K j) (V j) (C j) (T j) (R j) (E j)) W) := by
  intro j k
  pointwise [val_main_v37, val_main_v36, val_main_v35, val_main_v34, val_main_v33, val_main_v27, val_main_v26]
  simp only [h0.at, h1.at, (v32_R h0 h2 h3 h4 h5 h6 h7 h8 h9 h10).at, (v22_R h2 h3 h4 h5 h6 h7 h8 h9 h10).at, (v7_R h0).at, ← EReal.coe_mul, ← EReal.coe_add]
  exact congrArg (fun t : ℝ => ((D j k + t : ℝ) : EReal))
    (dnrm_eq (X j) (fun l => rowMulT (joined (Q j) (K j) (V j) (C j) (T j) (R j) (E j)) W l * G 0 l) k).symm

end Cert.Reference3Ideal.Inp

end
-- ==== Proof.Inp.Claim.lean ====
/-
  The claim about the input projection's backward call: of finite arguments its large result is the gradient that
  automatic differentiation takes of the layer's input.
-/
module

public import proofs.«01_k».proof.Defs
public import proofs.«01_k».proof.Proof.Finite
public import proofs.«01_k».proof.Proof.Inp.Arr
public import proofs.«01_k».proof.Proof.Inp.Ref
public import proofs.«01_k».proof.Proof.Gen.Pre_finite3
public import proofs.«01_k».proof.Proof.Gen.Reference3Ideal.Read
public import proofs.«01_k».proof.Proof.Gen.Kernel3Ideal.Value

@[expose] public section

noncomputable section

namespace Cert.Kernel3Ideal.Inp

open Cert.Kernel3Ideal Cert.Kernel3Ideal.Gen Idealize.ShloMosaic Idealize.ShloMosaic.TcCoe Idealize.SL.Sem Cert.Row

/-- The precondition says that each argument holds real numbers. -/
theorem real_of_pre (m : (ℓ : Loc nD τ sig) → Buf (Elt Ideal) ℓ) (h : Cert.Pre_Kernel3Ideal_finite3 m) (c : Dev nD) :
    ∃ X D Q K U C T R E G W, Args m c X D Q K U C T R E G W := by
  have j : (⟨0, ![]⟩ : Shape).Idx := fun k => k.elim0
  have e := congrFun (h c) j
  unfold Cert.Pre_finite3.fn Cert.Pre_finite3.fn_part1 Cert.Pre_finite3.fn_part2 Cert.Pre_finite3.fn_part3 at e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨X, h0⟩ := R2.of_all _ _ _ _ _ j e0
  obtain ⟨D, h1⟩ := R2.of_all _ _ _ _ _ j e1
  obtain ⟨Q, h2⟩ := R2.of_all _ _ _ _ _ j e2
  obtain ⟨K, h3⟩ := R2.of_all _ _ _ _ _ j e3
  obtain ⟨U, h4⟩ := R2.of_all _ _ _ _ _ j e4
  obtain ⟨C, h5⟩ := R2.of_all _ _ _ _ _ j e5
  obtain ⟨T, h6⟩ := R2.of_all _ _ _ _ _ j e6
  obtain ⟨R, h7⟩ := R2.of_all _ _ _ _ _ j e7
  obtain ⟨E, h8⟩ := R2.of_all _ _ _ _ _ j e8
  obtain ⟨G, h9⟩ := R2.of_all _ _ _ _ _ j e9
  obtain ⟨W, h10⟩ := R2.of_all _ _ _ _ _ j e10
  exact ⟨X, D, Q, K, U, C, T, R, E, G, W, h0, h1, h2, h3, h4, h5, h6, h7, h8, h9, h10⟩

theorem algebraic [Cert.Kernel3Ideal.Facts] [Cert.Reference3Ideal.Facts] [Cert.Pre_finite3.Facts] :
    Cert.algebraic_Kernel3Ideal_Reference3Ideal_pre_finite3 := by
  intro m ρ m' ρ' hpre hargs
  choose X D Q K U C T R E G W h using real_of_pre m hpre
  refine ⟨fun c => arr9 (inr (X c) (D c) (G c) fun j =>
    rowMulT (joined (Q c j) (K c j) (U c j) (C c j) (T c j) (R c j) (E c j)) (W c)), ?_, ?_⟩
  · refine (θ_run _ _ _).mono (fun r hr c => ?_) (Value.run_blocks (F := Ideal) m ρ)
    obtain ⟨h9, _, _, ha⟩ := hr c
    exact ⟨h9.trans (final9 (h c)), ha⟩
  · refine (θ_run _ _ _).mono (fun r hr c => ?_) (Cert.Reference3Ideal.Value.run (F := Ideal) m' ρ')
    obtain ⟨h0, ha⟩ := hr c
    obtain ⟨a0, a1, a2, a3, a4, a5, a6, a7, a8, a9, a10⟩ := hargs c
    have g0 := (h c).a0; rw [← a0] at g0
    have g1 := (h c).a1; rw [← a1] at g1
    have g2 := (h c).a2; rw [← a2] at g2
    have g3 := (h c).a3; rw [← a3] at g3
    have g4 := (h c).a4; rw [← a4] at g4
    have g5 := (h c).a5; rw [← a5] at g5
    have g6 := (h c).a6; rw [← a6] at g6
    have g7 := (h c).a7; rw [← a7] at g7
    have g8 := (h c).a8; rw [← a8] at g8
    have g9 := (h c).a9; rw [← a9] at g9
    have g10 := (h c).a10; rw [← a10] at g10
    refine ⟨h0.trans ?_, ha⟩
    exact (Cert.Reference3Ideal.Read.val_main_v37_eq _ c).trans
      (eq_arr9 (Cert.Reference3Ideal.Inp.v37_R g0 g1 g2 g3 g4 g5 g6 g7 g8 g9 g10))

end Cert.Kernel3Ideal.Inp

end
-- ==== Proof.Dw.GateUp.lean ====
/-
  The weight gradient of `Kernel4Ideal`: the product lhsᵀ · rhs is accumulated over eight row blocks of the two
  operands, in a scratch block that is zeroed at the first and written back after the last of them. At exact
  arithmetic the result is one sum over all rows, which is what the reference's one product is.
-/
module

public import proofs.«01_k».proof.Defs
public import proofs.«01_k».proof.Proof.Gen.Kernel4Ideal.Value
public import proofs.«01_k».proof.Proof.Gen.Reference4Ideal.Read
public import Idealize.ShloMosaic.Lib.ValueIdx
public import Idealize.ShloMosaic.Lib.Pointwise

@[expose] public section

noncomputable section

namespace Cert.Kernel4Ideal.Dw

open Cert.Kernel4Ideal Cert.Kernel4Ideal.Gen Idealize.ShloMosaic Idealize.ShloMosaic.TcCoe Idealize.SL.Sem

section AnyInstance

variable {F : FTy → Type} [FloatOps F]

theorem hz : (![0, 0] : Fin 2 → Nat) = fun _ => 0 := funext fun a => by fin_cases a <;> rfl

variable (c : Dev nD) (i : grid0.Coords) (a3 : Memref sig .tc .vmem S1024x1408 .bf16) (h3 : a3.IsWhole)
  (a4 : Memref sig .tc .vmem S1024x1024 .bf16) (h4 : a4.IsWhole) (a5 : Memref sig .tc .vmem S1408x1024 .bf16)
  (h5 : a5.IsWhole) (a6 : Memref sig .tc .vmem S1408x1024 .f32) (h6 : a6.IsWhole)

/-- At the first of its points a block's scratch is left holding zero plus the product of the two blocks read. -/
theorem sout_A (hc0 : cond0_0 i) (hc1 : ¬cond0_1 i) (x : Vec F S1024x1408 .bf16) (y : Vec F S1024x1024 .bf16) :
    sout0_A_0 c i a3 h3 a4 h4 a5 h5 a6 h6 hc0 hc1 x y = k0_pay2 (k0_pay1 (F := F)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1408x1024) hz, View.readCov_unit_zero (S := S1408x1024) _ hz]
  simp only [View.readAt_eq_ld, h3.read_unread, h4.read_unread, View.ld_unit_zero (S := S1024x1408) hz,
    View.ld_unit_zero (S := S1024x1024) hz]

/-- At a later point the product is added to what the scratch held. -/
theorem sout_B (hc0 : ¬cond0_0 i) (hc1 : ¬cond0_1 i) (x : Vec F S1024x1408 .bf16) (y : Vec F S1024x1024 .bf16) (s : Vec F S1408x1024 .f32) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero (S := S1408x1024) hz]
  simp only [View.readAt_eq_ld, h3.read_unread, h4.read_unread, h6.read_unread, View.ld_unit_zero (S := S1024x1408) hz,
    View.ld_unit_zero (S := S1024x1024) hz, View.ld_unit_zero (S := S1408x1024) hz]

/-- So at the last point. -/
theorem sout_C (hc0 : ¬cond0_0 i) (hc1 : cond0_1 i) (x : Vec F S1024x1408 .bf16) (y : Vec F S1024x1024 .bf16) (s : Vec F S1408x1024 .f32) :
    sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero (S := S1408x1024) hz]
  simp only [View.readAt_eq_ld, h3.read_unread, h4.read_unread, h6.read_unread, View.ld_unit_zero (S := S1024x1408) hz,
    View.ld_unit_zero (S := S1024x1024) hz, View.ld_unit_zero (S := S1408x1024) hz]

/-- At the last point the output block is left holding the scratch, narrowed. -/
theorem out_C (hc0 : ¬cond0_0 i) (hc1 : cond0_1 i) (x : Vec F S1024x1408 .bf16) (y : Vec F S1024x1024 .bf16) (s : Vec F S1408x1024 .f32) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1408x1024) hz, View.readCov_unit_zero (S := S1408x1024) _ hz]
  simp only [View.readAt_eq_ld, h3.read_unread, h4.read_unread, h6.read_unread, View.ld_unit_zero (S := S1024x1408) hz,
    View.ld_unit_zero (S := S1024x1024) hz, View.ld_unit_zero (S := S1408x1024) hz]

end AnyInstance

/-- The zero block. -/
theorem pay1_apply (j : S1408x1024.Idx) : k0_pay1 (F := Ideal) j = 0 := by
  unfold k0_pay1
  rw [shapeCast_self]
  show Ideal.ofBits .f32 0x00000000#32 = 0
  simp [Ideal.ofBits, Ideal.ieee]

/-- One step adds the product of the two blocks, contracted over their rows. -/
theorem pay2_apply (s : Vec Ideal S1408x1024 .f32) (x : Vec Ideal S1024x1408 .bf16) (y : Vec Ideal S1024x1024 .bf16)
    (a : Fin 1408) (b : Fin 1024) :
    k0_pay2 (F := Ideal) s x y (ix2 a b) = s (ix2 a b) + ∑ k : Fin 1024, x (ix2 k a) * y (ix2 k b) := by
  unfold k0_pay2
  rw [shapeCast_self]
  show s (ix2 a b) + _ = _
  congr 1
  refine (Ideal.matmul_apply₁_of dot_S1024x1408_S1024x1024_S1408x1024_0_0_1_1_n_n (a := 0) (K := 1024) rfl rfl
    x y (constant (F := Ideal) S1408x1024 .f32 0x00000000#32) (ix2 a b) (fun k => ix2 k a) (fun k => ix2 k b) ?_ ?_).trans ?_
  · intro k; simp only [pointwise]
  · intro k; simp only [pointwise]
  · rw [show constant (F := Ideal) S1408x1024 .f32 0x00000000#32 (ix2 a b) = (0 : EReal) from by
      show Ideal.ofBits .f32 0x00000000#32 = 0
      simp [Ideal.ofBits, Ideal.ieee]]
    exact zero_add _

/-- Where the two blocks read at a point lie in their arrays. -/
theorem iblk0_apply (m : (ℓ : Loc nD τ sig) → Buf (Elt Ideal) ℓ) (c : Dev nD) (t : Fin cfg0.N) (k : Fin 1024)
    (a : Fin 1408) :
    (iblk m c 0 t : Vec Ideal S1024x1408 .bf16) (ix2 k a)
      = m ((c : Thread nD τ).loc main_arg1) (ix2 (⟨1024 * (t.val % 8) + k.val, by omega⟩ : Fin 8192)
          (⟨1408 * (t.val / 8) + a.val, by have := lt_of_lt_of_eq t.isLt N_0; have := a.isLt; omega⟩ : Fin 5632)) := by
  have hi := (by decide +kernel : ∀ t : Fin grid0.N, win0_0.index t 0 = t.val % 8 ∧ win0_0.index t 1 = t.val / 8) t
  refine congrArg (V m c main_arg1) (funext fun d => Fin.ext ?_)
  match d with
  | ⟨0, _⟩ => show win0_0.index t 0 * 1024 + 1 * k.val = 1024 * (t.val % 8) + k.val; rw [hi.1]; omega
  | ⟨1, _⟩ => show win0_0.index t 1 * 1408 + 1 * a.val = 1408 * (t.val / 8) + a.val; rw [hi.2]; omega

theorem iblk1_apply (m : (ℓ : Loc nD τ sig) → Buf (Elt Ideal) ℓ) (c : Dev nD) (t : Fin cfg0.N) (k b : Fin 1024) :
    (iblk m c 1 t : Vec Ideal S1024x1024 .bf16) (ix2 k b)
      = m ((c : Thread nD τ).loc main_arg0) (ix2 (⟨1024 * (t.val % 8) + k.val, by omega⟩ : Fin 8192) b) := by
  have hi := (by decide +kernel : ∀ t : Fin grid0.N, win0_1.index t 0 = t.val % 8 ∧ win0_1.index t 1 = 0) t
  refine congrArg (V m c main_arg0) (funext fun d => Fin.ext ?_)
  match d with
  | ⟨0, _⟩ => show win0_1.index t 0 * 1024 + 1 * k.val = 1024 * (t.val % 8) + k.val; rw [hi.1]; omega
  | ⟨1, _⟩ => show win0_1.index t 1 * 1024 + 1 * b.val = b.val; rw [hi.2]; omega

section Fold

variable (m : (ℓ : Loc nD τ sig) → Buf (Elt Ideal) ℓ) (c : Dev nD)

/-- The two operands, as arrays of numbers. -/
def opL : S8192x5632.Idx → EReal := m ((c : Thread nD τ).loc main_arg1)
def opR : S8192x1024.Idx → EReal := m ((c : Thread nD τ).loc main_arg0)

/-- The left operand at a row and a column, and the right one; zero outside them. -/
@[irreducible] def lhs (k a : ℕ) : EReal :=
  if h : k < 8192 ∧ a < 5632 then
    opL m c (ix2 ⟨k, h.1⟩ ⟨a, h.2⟩) else 0
@[irreducible] def rhs (k b : ℕ) : EReal :=
  if h : k < 8192 ∧ b < 1024 then
    opR m c (ix2 ⟨k, h.1⟩ ⟨b, h.2⟩) else 0

/-- The addend of a point: the part of the sum over its row block. -/
theorem step_apply (s : Vec Ideal S1408x1024 .f32) (t : Fin cfg0.N) (a : Fin 1408) (b : Fin 1024) :
    k0_pay2 (F := Ideal) s (iblk m c 0 t) (iblk m c 1 t) (ix2 a b)
      = s (ix2 a b) + ∑ k ∈ Finset.range 1024,
          lhs m c (1024 * (t.val % 8) + k) (1408 * (t.val / 8) + a.val) * rhs m c (1024 * (t.val % 8) + k) b.val := by
  refine (pay2_apply s _ _ a b).trans ?_
  rw [Finset.sum_range]
  congr 1
  refine Finset.sum_congr rfl fun k _ => ?_
  have hN := lt_of_lt_of_eq t.isLt N_0
  have h1 : 1024 * (t.val % 8) + k.val < 8192 ∧ 1408 * (t.val / 8) + a.val < 5632 := by omega
  have h2 : 1024 * (t.val % 8) + k.val < 8192 ∧ b.val < 1024 := by omega
  rw [iblk0_apply m c t k a, iblk1_apply m c t k b]
  unfold lhs rhs
  rw [dif_pos h1, dif_pos h2]
  rfl

/-- What a point that keeps the scratch leaves in it, when it found there the sum over the rows met before. -/
theorem step_sum (s : Vec Ideal S1408x1024 .f32) (n : ℕ) (h : n + 1 < cfg0.N) (h0 : ¬(n + 1) % 8 = 0) (a : Fin 1408) (b : Fin 1024)
    (hs : s (ix2 a b) = ∑ k ∈ Finset.range (1024 * (n % 8) + 1024), lhs m c k (1408 * (n / 8) + a.val) * rhs m c k b.val) :
    k0_pay2 (F := Ideal) s (iblk m c 0 ⟨n + 1, h⟩) (iblk m c 1 ⟨n + 1, h⟩) (ix2 a b)
      = ∑ k ∈ Finset.range (1024 * ((n + 1) % 8) + 1024), lhs m c k (1408 * ((n + 1) / 8) + a.val) * rhs m c k b.val := by
  have e1 : (n + 1) % 8 = n % 8 + 1 := by omega
  have e2 : (n + 1) / 8 = n / 8 := by omega
  have e3 : 1024 * (n % 8 + 1) = 1024 * (n % 8) + 1024 := by omega
  refine (step_apply m c s ⟨n + 1, h⟩ a b).trans ?_
  rw [hs]
  dsimp only
  rw [e1, e2, e3, Finset.sum_range_add _ (1024 * (n % 8) + 1024) 1024]

/-- What the scratch holds after a point: the sum over the rows met so far. -/
theorem scratch_eq (a : Fin 1408) (b : Fin 1024) : ∀ (n : ℕ) (h : n < cfg0.N),
    (outsAt0 m c n h).2 (ix2 a b)
      = ∑ k ∈ Finset.range (1024 * (n % 8) + 1024), lhs m c k (1408 * (n / 8) + a.val) * rhs m c k b.val := by
  intro n
  induction n with
  | zero =>
    intro h
    rw [outsAt0_A m c ⟨0, h⟩ rfl (by dsimp only; omega)]
    dsimp only
    rw [sout_A, step_apply, pay1_apply, zero_add]
    exact Finset.sum_congr rfl fun k _ => by simp
  | succ n ih =>
    intro h
    by_cases h0 : (n + 1) % 8 = 0
    · rw [outsAt0_A m c ⟨n + 1, h⟩ h0 (by dsimp only; omega)]
      dsimp only
      rw [sout_A, step_apply, pay1_apply, zero_add]
      dsimp only
      rw [h0]
      exact Finset.sum_congr rfl fun k _ => by simp
    · have hs := ih (Nat.lt_of_succ_lt h)
      by_cases h7 : (n + 1) % 8 = 7
      · rw [outsAt0_C m c ⟨n + 1, h⟩ h0 h7]
        dsimp only
        rw [sout_C]
        exact step_sum m c _ n h h0 a b hs
      · rw [outsAt0_B m c ⟨n + 1, h⟩ h0 h7]
        dsimp only
        rw [sout_B]
        exact step_sum m c _ n h h0 a b hs

/-- The whole sum over the rows. -/
def prod (i : S5632x1024.Idx) : EReal :=
  ∑ k : Fin 8192, opL m c (ix2 k (i 0)) * opR m c (ix2 k (i 1))

/-- What the last point of a block leaves in the output block. -/
theorem out_eq (a : Fin 1408) (b : Fin 1024) (n : ℕ) (h : n < cfg0.N) (h7 : n % 8 = 7) :
    (outsAt0 m c n h).1 (ix2 a b)
      = ∑ k ∈ Finset.range 8192, lhs m c k (1408 * (n / 8) + a.val) * rhs m c k b.val := by
  have hs := scratch_eq m c a b n h
  rw [outsAt0_C m c ⟨n, h⟩ (by dsimp only; omega) h7] at hs ⊢
  dsimp only at hs ⊢
  rw [sout_C] at hs
  rw [out_C]
  refine (show k0_pay3 (F := Ideal) _ (ix2 a b) = _ from rfl).trans (hs.trans ?_)
  rw [h7]

/-- The result array is the product. -/
theorem G2_eq : (Value.G2 m c : S5632x1024.Idx → EReal) = prod m c := by
  funext i
  have h0 : (i 0).val < 5632 := (i 0).isLt
  have h1 : (i 1).val < 1024 := (i 1).isLt
  have hp : Value.pt2Of i < cfg0.N := lt_of_lt_of_eq (by unfold Value.pt2Of Value.run2Of; omega) N_0.symm
  unfold Value.G2
  rw [dif_pos hp, ← Value.outsAt0_sweep]
  have hl := congrArg (outsAt0 m c (Value.pt2Of i) hp).1 (ix2_eta (n0 := 1408) (n1 := 1024) (Value.loc2Of i))
  refine hl.symm.trans ((out_eq m c _ _ _ hp (by unfold Value.pt2Of; omega)).trans ?_)
  rw [Finset.sum_range]
  unfold prod
  refine Finset.sum_congr rfl fun k _ => ?_
  have e0 : 1408 * (Value.pt2Of i / 8) + ((Value.loc2Of i) 0).val = (i 0).val := by
    show 1408 * ((8 * (1 * ((i 0).val / 1408 - 0) + 1 * ((i 1).val / 1024 - 0)) + 7) / 8) + (i 0).val % 1408 = (i 0).val
    omega
  have e1 : ((Value.loc2Of i) 1).val = (i 1).val := by
    show (i 1).val % 1024 = (i 1).val
    omega
  rw [e0, e1]
  unfold lhs rhs
  rw [dif_pos ⟨k.isLt, h0⟩, dif_pos ⟨k.isLt, h1⟩]
  rfl

end Fold

open Cert.Reference4Ideal.Read

/-- The reference's result is the product. -/
theorem ref_eq (x0 : S8192x1024.Idx → EReal) (x1 : S8192x5632.Idx → EReal) (i : S5632x1024.Idx) :
    val_main_v7 (F := Ideal) x0 x1 i
      = ∑ k : Fin 8192, x1 (ix2 k (i 0)) * x0 (ix2 k (i 1)) := by
  rw [val_main_v7_apply, val_main_v6_apply, val_main_v5_apply, val_main_v4_apply]
  refine Finset.sum_congr rfl fun k _ => ?_
  refine congrArg₂ (· * ·) (congrArg x1 (funext fun a => ?_)) (congrArg x0 (funext fun a => ?_))
  all_goals fin_cases a <;> rfl

/-- The claim. -/
theorem algebraic [Cert.Kernel4Ideal.Facts] [Cert.Reference4Ideal.Facts] :
    Cert.algebraic_Kernel4Ideal_Reference4Ideal := by
  intro m ρ m' ρ' _ hargs
  refine ⟨fun c => prod m c, ?_, ?_⟩
  · exact (θ_run _ _ _).mono (fun r h c => ⟨(h c).1.trans (G2_eq m c), (h c).2⟩) (Value.run (F := Ideal) m ρ)
  · refine (θ_run _ _ _).mono (fun r h c => ⟨?_, (h c).2⟩) (Cert.Reference4Ideal.Value.run (F := Ideal) m' ρ')
    refine (h c).1.trans ((val_main_v7_eq _ _).trans (funext fun i => ?_))
    rw [(hargs c).1, (hargs c).2]
    exact ref_eq _ _ i

end Cert.Kernel4Ideal.Dw

end
-- ==== Proof.Dw.Down.lean ====
/-
  The weight gradient of `Kernel5Ideal`: the product lhsᵀ · rhs is accumulated over eight row blocks of the two
  operands, in a scratch block that is zeroed at the first and written back after the last of them. At exact
  arithmetic the result is one sum over all rows, which is what the reference's one product is.
-/
module

public import proofs.«01_k».proof.Defs
public import proofs.«01_k».proof.Proof.Gen.Kernel5Ideal.Value
public import proofs.«01_k».proof.Proof.Gen.Reference5Ideal.Read
public import Idealize.ShloMosaic.Lib.ValueIdx
public import Idealize.ShloMosaic.Lib.Pointwise

@[expose] public section

noncomputable section

namespace Cert.Kernel5Ideal.Dw

open Cert.Kernel5Ideal Cert.Kernel5Ideal.Gen Idealize.ShloMosaic Idealize.ShloMosaic.TcCoe Idealize.SL.Sem

section AnyInstance

variable {F : FTy → Type} [FloatOps F]

theorem hz : (![0, 0] : Fin 2 → Nat) = fun _ => 0 := funext fun a => by fin_cases a <;> rfl

variable (c : Dev nD) (i : grid0.Coords) (a3 : Memref sig .tc .vmem S1024x1408 .bf16) (h3 : a3.IsWhole)
  (a4 : Memref sig .tc .vmem S1024x1024 .bf16) (h4 : a4.IsWhole) (a5 : Memref sig .tc .vmem S1408x1024 .bf16)
  (h5 : a5.IsWhole) (a6 : Memref sig .tc .vmem S1408x1024 .f32) (h6 : a6.IsWhole)

/-- At the first of its points a block's scratch is left holding zero plus the product of the two blocks read. -/
theorem sout_A (hc0 : cond0_0 i) (hc1 : ¬cond0_1 i) (x : Vec F S1024x1408 .bf16) (y : Vec F S1024x1024 .bf16) :
    sout0_A_0 c i a3 h3 a4 h4 a5 h5 a6 h6 hc0 hc1 x y = k0_pay2 (k0_pay1 (F := F)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1408x1024) hz, View.readCov_unit_zero (S := S1408x1024) _ hz]
  simp only [View.readAt_eq_ld, h3.read_unread, h4.read_unread, View.ld_unit_zero (S := S1024x1408) hz,
    View.ld_unit_zero (S := S1024x1024) hz]

/-- At a later point the product is added to what the scratch held. -/
theorem sout_B (hc0 : ¬cond0_0 i) (hc1 : ¬cond0_1 i) (x : Vec F S1024x1408 .bf16) (y : Vec F S1024x1024 .bf16) (s : Vec F S1408x1024 .f32) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero (S := S1408x1024) hz]
  simp only [View.readAt_eq_ld, h3.read_unread, h4.read_unread, h6.read_unread, View.ld_unit_zero (S := S1024x1408) hz,
    View.ld_unit_zero (S := S1024x1024) hz, View.ld_unit_zero (S := S1408x1024) hz]

/-- So at the last point. -/
theorem sout_C (hc0 : ¬cond0_0 i) (hc1 : cond0_1 i) (x : Vec F S1024x1408 .bf16) (y : Vec F S1024x1024 .bf16) (s : Vec F S1408x1024 .f32) :
    sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero (S := S1408x1024) hz]
  simp only [View.readAt_eq_ld, h3.read_unread, h4.read_unread, h6.read_unread, View.ld_unit_zero (S := S1024x1408) hz,
    View.ld_unit_zero (S := S1024x1024) hz, View.ld_unit_zero (S := S1408x1024) hz]

/-- At the last point the output block is left holding the scratch, narrowed. -/
theorem out_C (hc0 : ¬cond0_0 i) (hc1 : cond0_1 i) (x : Vec F S1024x1408 .bf16) (y : Vec F S1024x1024 .bf16) (s : Vec F S1408x1024 .f32) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1408x1024) hz, View.readCov_unit_zero (S := S1408x1024) _ hz]
  simp only [View.readAt_eq_ld, h3.read_unread, h4.read_unread, h6.read_unread, View.ld_unit_zero (S := S1024x1408) hz,
    View.ld_unit_zero (S := S1024x1024) hz, View.ld_unit_zero (S := S1408x1024) hz]

end AnyInstance

/-- The zero block. -/
theorem pay1_apply (j : S1408x1024.Idx) : k0_pay1 (F := Ideal) j = 0 := by
  unfold k0_pay1
  rw [shapeCast_self]
  show Ideal.ofBits .f32 0x00000000#32 = 0
  simp [Ideal.ofBits, Ideal.ieee]

/-- One step adds the product of the two blocks, contracted over their rows. -/
theorem pay2_apply (s : Vec Ideal S1408x1024 .f32) (x : Vec Ideal S1024x1408 .bf16) (y : Vec Ideal S1024x1024 .bf16)
    (a : Fin 1408) (b : Fin 1024) :
    k0_pay2 (F := Ideal) s x y (ix2 a b) = s (ix2 a b) + ∑ k : Fin 1024, x (ix2 k a) * y (ix2 k b) := by
  unfold k0_pay2
  rw [shapeCast_self]
  show s (ix2 a b) + _ = _
  congr 1
  refine (Ideal.matmul_apply₁_of dot_S1024x1408_S1024x1024_S1408x1024_0_0_1_1_n_n (a := 0) (K := 1024) rfl rfl
    x y (constant (F := Ideal) S1408x1024 .f32 0x00000000#32) (ix2 a b) (fun k => ix2 k a) (fun k => ix2 k b) ?_ ?_).trans ?_
  · intro k; simp only [pointwise]
  · intro k; simp only [pointwise]
  · rw [show constant (F := Ideal) S1408x1024 .f32 0x00000000#32 (ix2 a b) = (0 : EReal) from by
      show Ideal.ofBits .f32 0x00000000#32 = 0
      simp [Ideal.ofBits, Ideal.ieee]]
    exact zero_add _

/-- Where the two blocks read at a point lie in their arrays. -/
theorem iblk0_apply (m : (ℓ : Loc nD τ sig) → Buf (Elt Ideal) ℓ) (c : Dev nD) (t : Fin cfg0.N) (k : Fin 1024)
    (a : Fin 1408) :
    (iblk m c 0 t : Vec Ideal S1024x1408 .bf16) (ix2 k a)
      = m ((c : Thread nD τ).loc main_arg0) (ix2 (⟨1024 * (t.val % 8) + k.val, by omega⟩ : Fin 8192)
          (⟨1408 * (t.val / 8) + a.val, by have := lt_of_lt_of_eq t.isLt N_0; have := a.isLt; omega⟩ : Fin 2816)) := by
  have hi := (by decide +kernel : ∀ t : Fin grid0.N, win0_0.index t 0 = t.val % 8 ∧ win0_0.index t 1 = t.val / 8) t
  refine congrArg (V m c main_arg0) (funext fun d => Fin.ext ?_)
  match d with
  | ⟨0, _⟩ => show win0_0.index t 0 * 1024 + 1 * k.val = 1024 * (t.val % 8) + k.val; rw [hi.1]; omega
  | ⟨1, _⟩ => show win0_0.index t 1 * 1408 + 1 * a.val = 1408 * (t.val / 8) + a.val; rw [hi.2]; omega

theorem iblk1_apply (m : (ℓ : Loc nD τ sig) → Buf (Elt Ideal) ℓ) (c : Dev nD) (t : Fin cfg0.N) (k b : Fin 1024) :
    (iblk m c 1 t : Vec Ideal S1024x1024 .bf16) (ix2 k b)
      = m ((c : Thread nD τ).loc main_arg1) (ix2 (⟨1024 * (t.val % 8) + k.val, by omega⟩ : Fin 8192) b) := by
  have hi := (by decide +kernel : ∀ t : Fin grid0.N, win0_1.index t 0 = t.val % 8 ∧ win0_1.index t 1 = 0) t
  refine congrArg (V m c main_arg1) (funext fun d => Fin.ext ?_)
  match d with
  | ⟨0, _⟩ => show win0_1.index t 0 * 1024 + 1 * k.val = 1024 * (t.val % 8) + k.val; rw [hi.1]; omega
  | ⟨1, _⟩ => show win0_1.index t 1 * 1024 + 1 * b.val = b.val; rw [hi.2]; omega

section Fold

variable (m : (ℓ : Loc nD τ sig) → Buf (Elt Ideal) ℓ) (c : Dev nD)

/-- The two operands, as arrays of numbers. -/
def opL : S8192x2816.Idx → EReal := m ((c : Thread nD τ).loc main_arg0)
def opR : S8192x1024.Idx → EReal := m ((c : Thread nD τ).loc main_arg1)

/-- The left operand at a row and a column, and the right one; zero outside them. -/
@[irreducible] def lhs (k a : ℕ) : EReal :=
  if h : k < 8192 ∧ a < 2816 then
    opL m c (ix2 ⟨k, h.1⟩ ⟨a, h.2⟩) else 0
@[irreducible] def rhs (k b : ℕ) : EReal :=
  if h : k < 8192 ∧ b < 1024 then
    opR m c (ix2 ⟨k, h.1⟩ ⟨b, h.2⟩) else 0

/-- The addend of a point: the part of the sum over its row block. -/
theorem step_apply (s : Vec Ideal S1408x1024 .f32) (t : Fin cfg0.N) (a : Fin 1408) (b : Fin 1024) :
    k0_pay2 (F := Ideal) s (iblk m c 0 t) (iblk m c 1 t) (ix2 a b)
      = s (ix2 a b) + ∑ k ∈ Finset.range 1024,
          lhs m c (1024 * (t.val % 8) + k) (1408 * (t.val / 8) + a.val) * rhs m c (1024 * (t.val % 8) + k) b.val := by
  refine (pay2_apply s _ _ a b).trans ?_
  rw [Finset.sum_range]
  congr 1
  refine Finset.sum_congr rfl fun k _ => ?_
  have hN := lt_of_lt_of_eq t.isLt N_0
  have h1 : 1024 * (t.val % 8) + k.val < 8192 ∧ 1408 * (t.val / 8) + a.val < 2816 := by omega
  have h2 : 1024 * (t.val % 8) + k.val < 8192 ∧ b.val < 1024 := by omega
  rw [iblk0_apply m c t k a, iblk1_apply m c t k b]
  unfold lhs rhs
  rw [dif_pos h1, dif_pos h2]
  rfl

/-- What a point that keeps the scratch leaves in it, when it found there the sum over the rows met before. -/
theorem step_sum (s : Vec Ideal S1408x1024 .f32) (n : ℕ) (h : n + 1 < cfg0.N) (h0 : ¬(n + 1) % 8 = 0) (a : Fin 1408) (b : Fin 1024)
    (hs : s (ix2 a b) = ∑ k ∈ Finset.range (1024 * (n % 8) + 1024), lhs m c k (1408 * (n / 8) + a.val) * rhs m c k b.val) :
    k0_pay2 (F := Ideal) s (iblk m c 0 ⟨n + 1, h⟩) (iblk m c 1 ⟨n + 1, h⟩) (ix2 a b)
      = ∑ k ∈ Finset.range (1024 * ((n + 1) % 8) + 1024), lhs m c k (1408 * ((n + 1) / 8) + a.val) * rhs m c k b.val := by
  have e1 : (n + 1) % 8 = n % 8 + 1 := by omega
  have e2 : (n + 1) / 8 = n / 8 := by omega
  have e3 : 1024 * (n % 8 + 1) = 1024 * (n % 8) + 1024 := by omega
  refine (step_apply m c s ⟨n + 1, h⟩ a b).trans ?_
  rw [hs]
  dsimp only
  rw [e1, e2, e3, Finset.sum_range_add _ (1024 * (n % 8) + 1024) 1024]

/-- What the scratch holds after a point: the sum over the rows met so far. -/
theorem scratch_eq (a : Fin 1408) (b : Fin 1024) : ∀ (n : ℕ) (h : n < cfg0.N),
    (outsAt0 m c n h).2 (ix2 a b)
      = ∑ k ∈ Finset.range (1024 * (n % 8) + 1024), lhs m c k (1408 * (n / 8) + a.val) * rhs m c k b.val := by
  intro n
  induction n with
  | zero =>
    intro h
    rw [outsAt0_A m c ⟨0, h⟩ rfl (by dsimp only; omega)]
    dsimp only
    rw [sout_A, step_apply, pay1_apply, zero_add]
    exact Finset.sum_congr rfl fun k _ => by simp
  | succ n ih =>
    intro h
    by_cases h0 : (n + 1) % 8 = 0
    · rw [outsAt0_A m c ⟨n + 1, h⟩ h0 (by dsimp only; omega)]
      dsimp only
      rw [sout_A, step_apply, pay1_apply, zero_add]
      dsimp only
      rw [h0]
      exact Finset.sum_congr rfl fun k _ => by simp
    · have hs := ih (Nat.lt_of_succ_lt h)
      by_cases h7 : (n + 1) % 8 = 7
      · rw [outsAt0_C m c ⟨n + 1, h⟩ h0 h7]
        dsimp only
        rw [sout_C]
        exact step_sum m c _ n h h0 a b hs
      · rw [outsAt0_B m c ⟨n + 1, h⟩ h0 h7]
        dsimp only
        rw [sout_B]
        exact step_sum m c _ n h h0 a b hs

/-- The whole sum over the rows. -/
def prod (i : S2816x1024.Idx) : EReal :=
  ∑ k : Fin 8192, opL m c (ix2 k (i 0)) * opR m c (ix2 k (i 1))

/-- What the last point of a block leaves in the output block. -/
theorem out_eq (a : Fin 1408) (b : Fin 1024) (n : ℕ) (h : n < cfg0.N) (h7 : n % 8 = 7) :
    (outsAt0 m c n h).1 (ix2 a b)
      = ∑ k ∈ Finset.range 8192, lhs m c k (1408 * (n / 8) + a.val) * rhs m c k b.val := by
  have hs := scratch_eq m c a b n h
  rw [outsAt0_C m c ⟨n, h⟩ (by dsimp only; omega) h7] at hs ⊢
  dsimp only at hs ⊢
  rw [sout_C] at hs
  rw [out_C]
  refine (show k0_pay3 (F := Ideal) _ (ix2 a b) = _ from rfl).trans (hs.trans ?_)
  rw [h7]

/-- The result array is the product. -/
theorem G2_eq : (Value.G2 m c : S2816x1024.Idx → EReal) = prod m c := by
  funext i
  have h0 : (i 0).val < 2816 := (i 0).isLt
  have h1 : (i 1).val < 1024 := (i 1).isLt
  have hp : Value.pt2Of i < cfg0.N := lt_of_lt_of_eq (by unfold Value.pt2Of Value.run2Of; omega) N_0.symm
  unfold Value.G2
  rw [dif_pos hp, ← Value.outsAt0_sweep]
  have hl := congrArg (outsAt0 m c (Value.pt2Of i) hp).1 (ix2_eta (n0 := 1408) (n1 := 1024) (Value.loc2Of i))
  refine hl.symm.trans ((out_eq m c _ _ _ hp (by unfold Value.pt2Of; omega)).trans ?_)
  rw [Finset.sum_range]
  unfold prod
  refine Finset.sum_congr rfl fun k _ => ?_
  have e0 : 1408 * (Value.pt2Of i / 8) + ((Value.loc2Of i) 0).val = (i 0).val := by
    show 1408 * ((8 * (1 * ((i 0).val / 1408 - 0) + 1 * ((i 1).val / 1024 - 0)) + 7) / 8) + (i 0).val % 1408 = (i 0).val
    omega
  have e1 : ((Value.loc2Of i) 1).val = (i 1).val := by
    show (i 1).val % 1024 = (i 1).val
    omega
  rw [e0, e1]
  unfold lhs rhs
  rw [dif_pos ⟨k.isLt, h0⟩, dif_pos ⟨k.isLt, h1⟩]
  rfl

end Fold

open Cert.Reference5Ideal.Read

/-- The reference's result is the product. -/
theorem ref_eq (x0 : S8192x2816.Idx → EReal) (x1 : S8192x1024.Idx → EReal) (i : S2816x1024.Idx) :
    val_main_v6 (F := Ideal) x0 x1 i
      = ∑ k : Fin 8192, x0 (ix2 k (i 0)) * x1 (ix2 k (i 1)) := by
  rw [val_main_v6_apply, val_main_v5_apply, val_main_v4_apply]
  refine Finset.sum_congr rfl fun k _ => ?_
  refine (mul_comm (G := EReal) _ _).trans ?_
  refine congrArg₂ (· * ·) (congrArg x0 (funext fun a => ?_)) (congrArg x1 (funext fun a => ?_))
  all_goals fin_cases a <;> rfl

/-- The claim. -/
theorem algebraic [Cert.Kernel5Ideal.Facts] [Cert.Reference5Ideal.Facts] :
    Cert.algebraic_Kernel5Ideal_Reference5Ideal := by
  intro m ρ m' ρ' _ hargs
  refine ⟨fun c => prod m c, ?_, ?_⟩
  · exact (θ_run _ _ _).mono (fun r h c => ⟨(h c).1.trans (G2_eq m c), (h c).2⟩) (Value.run (F := Ideal) m ρ)
  · refine (θ_run _ _ _).mono (fun r h c => ⟨?_, (h c).2⟩) (Cert.Reference5Ideal.Value.run (F := Ideal) m' ρ')
    refine (h c).1.trans ((val_main_v6_eq _ _).trans (funext fun i => ?_))
    rw [(hargs c).1, (hargs c).2]
    exact ref_eq _ _ i

end Cert.Kernel5Ideal.Dw

end
-- ==== Proof.Dw.In.lean ====
/-
  The weight gradient of `Kernel6Ideal`: the product lhsᵀ · rhs is accumulated over eight row blocks of the two
  operands, in a scratch block that is zeroed at the first and written back after the last of them. At exact
  arithmetic the result is one sum over all rows, which is what the reference's one product is.
-/
module

public import proofs.«01_k».proof.Defs
public import proofs.«01_k».proof.Proof.Gen.Kernel6Ideal.Value
public import proofs.«01_k».proof.Proof.Gen.Reference6Ideal.Read
public import Idealize.ShloMosaic.Lib.ValueIdx
public import Idealize.ShloMosaic.Lib.Pointwise

@[expose] public section

noncomputable section

namespace Cert.Kernel6Ideal.Dw

open Cert.Kernel6Ideal Cert.Kernel6Ideal.Gen Idealize.ShloMosaic Idealize.ShloMosaic.TcCoe Idealize.SL.Sem

section AnyInstance

variable {F : FTy → Type} [FloatOps F]

theorem hz : (![0, 0] : Fin 2 → Nat) = fun _ => 0 := funext fun a => by fin_cases a <;> rfl

variable (c : Dev nD) (i : grid0.Coords) (a3 : Memref sig .tc .vmem S1024x2176 .bf16) (h3 : a3.IsWhole)
  (a4 : Memref sig .tc .vmem S1024x1024 .bf16) (h4 : a4.IsWhole) (a5 : Memref sig .tc .vmem S2176x1024 .bf16)
  (h5 : a5.IsWhole) (a6 : Memref sig .tc .vmem S2176x1024 .f32) (h6 : a6.IsWhole)

/-- At the first of its points a block's scratch is left holding zero plus the product of the two blocks read. -/
theorem sout_A (hc0 : cond0_0 i) (hc1 : ¬cond0_1 i) (x : Vec F S1024x2176 .bf16) (y : Vec F S1024x1024 .bf16) :
    sout0_A_0 c i a3 h3 a4 h4 a5 h5 a6 h6 hc0 hc1 x y = k0_pay2 (k0_pay1 (F := F)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S2176x1024) hz, View.readCov_unit_zero (S := S2176x1024) _ hz]
  simp only [View.readAt_eq_ld, h3.read_unread, h4.read_unread, View.ld_unit_zero (S := S1024x2176) hz,
    View.ld_unit_zero (S := S1024x1024) hz]

/-- At a later point the product is added to what the scratch held. -/
theorem sout_B (hc0 : ¬cond0_0 i) (hc1 : ¬cond0_1 i) (x : Vec F S1024x2176 .bf16) (y : Vec F S1024x1024 .bf16) (s : Vec F S2176x1024 .f32) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero (S := S2176x1024) hz]
  simp only [View.readAt_eq_ld, h3.read_unread, h4.read_unread, h6.read_unread, View.ld_unit_zero (S := S1024x2176) hz,
    View.ld_unit_zero (S := S1024x1024) hz, View.ld_unit_zero (S := S2176x1024) hz]

/-- So at the last point. -/
theorem sout_C (hc0 : ¬cond0_0 i) (hc1 : cond0_1 i) (x : Vec F S1024x2176 .bf16) (y : Vec F S1024x1024 .bf16) (s : Vec F S2176x1024 .f32) :
    sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero (S := S2176x1024) hz]
  simp only [View.readAt_eq_ld, h3.read_unread, h4.read_unread, h6.read_unread, View.ld_unit_zero (S := S1024x2176) hz,
    View.ld_unit_zero (S := S1024x1024) hz, View.ld_unit_zero (S := S2176x1024) hz]

/-- At the last point the output block is left holding the scratch, narrowed. -/
theorem out_C (hc0 : ¬cond0_0 i) (hc1 : cond0_1 i) (x : Vec F S1024x2176 .bf16) (y : Vec F S1024x1024 .bf16) (s : Vec F S2176x1024 .f32) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S2176x1024) hz, View.readCov_unit_zero (S := S2176x1024) _ hz]
  simp only [View.readAt_eq_ld, h3.read_unread, h4.read_unread, h6.read_unread, View.ld_unit_zero (S := S1024x2176) hz,
    View.ld_unit_zero (S := S1024x1024) hz, View.ld_unit_zero (S := S2176x1024) hz]

end AnyInstance

/-- The zero block. -/
theorem pay1_apply (j : S2176x1024.Idx) : k0_pay1 (F := Ideal) j = 0 := by
  unfold k0_pay1
  rw [shapeCast_self]
  show Ideal.ofBits .f32 0x00000000#32 = 0
  simp [Ideal.ofBits, Ideal.ieee]

/-- One step adds the product of the two blocks, contracted over their rows. -/
theorem pay2_apply (s : Vec Ideal S2176x1024 .f32) (x : Vec Ideal S1024x2176 .bf16) (y : Vec Ideal S1024x1024 .bf16)
    (a : Fin 2176) (b : Fin 1024) :
    k0_pay2 (F := Ideal) s x y (ix2 a b) = s (ix2 a b) + ∑ k : Fin 1024, x (ix2 k a) * y (ix2 k b) := by
  unfold k0_pay2
  rw [shapeCast_self]
  show s (ix2 a b) + _ = _
  congr 1
  refine (Ideal.matmul_apply₁_of dot_S1024x2176_S1024x1024_S2176x1024_0_0_1_1_n_n (a := 0) (K := 1024) rfl rfl
    x y (constant (F := Ideal) S2176x1024 .f32 0x00000000#32) (ix2 a b) (fun k => ix2 k a) (fun k => ix2 k b) ?_ ?_).trans ?_
  · intro k; simp only [pointwise]
  · intro k; simp only [pointwise]
  · rw [show constant (F := Ideal) S2176x1024 .f32 0x00000000#32 (ix2 a b) = (0 : EReal) from by
      show Ideal.ofBits .f32 0x00000000#32 = 0
      simp [Ideal.ofBits, Ideal.ieee]]
    exact zero_add _

/-- Where the two blocks read at a point lie in their arrays. -/
theorem iblk0_apply (m : (ℓ : Loc nD τ sig) → Buf (Elt Ideal) ℓ) (c : Dev nD) (t : Fin cfg0.N) (k : Fin 1024)
    (a : Fin 2176) :
    (iblk m c 0 t : Vec Ideal S1024x2176 .bf16) (ix2 k a)
      = m ((c : Thread nD τ).loc main_arg1) (ix2 (⟨1024 * (t.val % 8) + k.val, by omega⟩ : Fin 8192)
          (⟨2176 * (t.val / 8) + a.val, by have := lt_of_lt_of_eq t.isLt N_0; have := a.isLt; omega⟩ : Fin 4352)) := by
  have hi := (by decide +kernel : ∀ t : Fin grid0.N, win0_0.index t 0 = t.val % 8 ∧ win0_0.index t 1 = t.val / 8) t
  refine congrArg (V m c main_arg1) (funext fun d => Fin.ext ?_)
  match d with
  | ⟨0, _⟩ => show win0_0.index t 0 * 1024 + 1 * k.val = 1024 * (t.val % 8) + k.val; rw [hi.1]; omega
  | ⟨1, _⟩ => show win0_0.index t 1 * 2176 + 1 * a.val = 2176 * (t.val / 8) + a.val; rw [hi.2]; omega

theorem iblk1_apply (m : (ℓ : Loc nD τ sig) → Buf (Elt Ideal) ℓ) (c : Dev nD) (t : Fin cfg0.N) (k b : Fin 1024) :
    (iblk m c 1 t : Vec Ideal S1024x1024 .bf16) (ix2 k b)
      = m ((c : Thread nD τ).loc main_arg0) (ix2 (⟨1024 * (t.val % 8) + k.val, by omega⟩ : Fin 8192) b) := by
  have hi := (by decide +kernel : ∀ t : Fin grid0.N, win0_1.index t 0 = t.val % 8 ∧ win0_1.index t 1 = 0) t
  refine congrArg (V m c main_arg0) (funext fun d => Fin.ext ?_)
  match d with
  | ⟨0, _⟩ => show win0_1.index t 0 * 1024 + 1 * k.val = 1024 * (t.val % 8) + k.val; rw [hi.1]; omega
  | ⟨1, _⟩ => show win0_1.index t 1 * 1024 + 1 * b.val = b.val; rw [hi.2]; omega

section Fold

variable (m : (ℓ : Loc nD τ sig) → Buf (Elt Ideal) ℓ) (c : Dev nD)

/-- The two operands, as arrays of numbers. -/
def opL : S8192x4352.Idx → EReal := m ((c : Thread nD τ).loc main_arg1)
def opR : S8192x1024.Idx → EReal := m ((c : Thread nD τ).loc main_arg0)

/-- The left operand at a row and a column, and the right one; zero outside them. -/
@[irreducible] def lhs (k a : ℕ) : EReal :=
  if h : k < 8192 ∧ a < 4352 then
    opL m c (ix2 ⟨k, h.1⟩ ⟨a, h.2⟩) else 0
@[irreducible] def rhs (k b : ℕ) : EReal :=
  if h : k < 8192 ∧ b < 1024 then
    opR m c (ix2 ⟨k, h.1⟩ ⟨b, h.2⟩) else 0

/-- The addend of a point: the part of the sum over its row block. -/
theorem step_apply (s : Vec Ideal S2176x1024 .f32) (t : Fin cfg0.N) (a : Fin 2176) (b : Fin 1024) :
    k0_pay2 (F := Ideal) s (iblk m c 0 t) (iblk m c 1 t) (ix2 a b)
      = s (ix2 a b) + ∑ k ∈ Finset.range 1024,
          lhs m c (1024 * (t.val % 8) + k) (2176 * (t.val / 8) + a.val) * rhs m c (1024 * (t.val % 8) + k) b.val := by
  refine (pay2_apply s _ _ a b).trans ?_
  rw [Finset.sum_range]
  congr 1
  refine Finset.sum_congr rfl fun k _ => ?_
  have hN := lt_of_lt_of_eq t.isLt N_0
  have h1 : 1024 * (t.val % 8) + k.val < 8192 ∧ 2176 * (t.val / 8) + a.val < 4352 := by omega
  have h2 : 1024 * (t.val % 8) + k.val < 8192 ∧ b.val < 1024 := by omega
  rw [iblk0_apply m c t k a, iblk1_apply m c t k b]
  unfold lhs rhs
  rw [dif_pos h1, dif_pos h2]
  rfl

/-- What a point that keeps the scratch leaves in it, when it found there the sum over the rows met before. -/
theorem step_sum (s : Vec Ideal S2176x1024 .f32) (n : ℕ) (h : n + 1 < cfg0.N) (h0 : ¬(n + 1) % 8 = 0) (a : Fin 2176) (b : Fin 1024)
    (hs : s (ix2 a b) = ∑ k ∈ Finset.range (1024 * (n % 8) + 1024), lhs m c k (2176 * (n / 8) + a.val) * rhs m c k b.val) :
    k0_pay2 (F := Ideal) s (iblk m c 0 ⟨n + 1, h⟩) (iblk m c 1 ⟨n + 1, h⟩) (ix2 a b)
      = ∑ k ∈ Finset.range (1024 * ((n + 1) % 8) + 1024), lhs m c k (2176 * ((n + 1) / 8) + a.val) * rhs m c k b.val := by
  have e1 : (n + 1) % 8 = n % 8 + 1 := by omega
  have e2 : (n + 1) / 8 = n / 8 := by omega
  have e3 : 1024 * (n % 8 + 1) = 1024 * (n % 8) + 1024 := by omega
  refine (step_apply m c s ⟨n + 1, h⟩ a b).trans ?_
  rw [hs]
  dsimp only
  rw [e1, e2, e3, Finset.sum_range_add _ (1024 * (n % 8) + 1024) 1024]

/-- What the scratch holds after a point: the sum over the rows met so far. -/
theorem scratch_eq (a : Fin 2176) (b : Fin 1024) : ∀ (n : ℕ) (h : n < cfg0.N),
    (outsAt0 m c n h).2 (ix2 a b)
      = ∑ k ∈ Finset.range (1024 * (n % 8) + 1024), lhs m c k (2176 * (n / 8) + a.val) * rhs m c k b.val := by
  intro n
  induction n with
  | zero =>
    intro h
    rw [outsAt0_A m c ⟨0, h⟩ rfl (by dsimp only; omega)]
    dsimp only
    rw [sout_A, step_apply, pay1_apply, zero_add]
    exact Finset.sum_congr rfl fun k _ => by simp
  | succ n ih =>
    intro h
    by_cases h0 : (n + 1) % 8 = 0
    · rw [outsAt0_A m c ⟨n + 1, h⟩ h0 (by dsimp only; omega)]
      dsimp only
      rw [sout_A, step_apply, pay1_apply, zero_add]
      dsimp only
      rw [h0]
      exact Finset.sum_congr rfl fun k _ => by simp
    · have hs := ih (Nat.lt_of_succ_lt h)
      by_cases h7 : (n + 1) % 8 = 7
      · rw [outsAt0_C m c ⟨n + 1, h⟩ h0 h7]
        dsimp only
        rw [sout_C]
        exact step_sum m c _ n h h0 a b hs
      · rw [outsAt0_B m c ⟨n + 1, h⟩ h0 h7]
        dsimp only
        rw [sout_B]
        exact step_sum m c _ n h h0 a b hs

/-- The whole sum over the rows. -/
def prod (i : S4352x1024.Idx) : EReal :=
  ∑ k : Fin 8192, opL m c (ix2 k (i 0)) * opR m c (ix2 k (i 1))

/-- What the last point of a block leaves in the output block. -/
theorem out_eq (a : Fin 2176) (b : Fin 1024) (n : ℕ) (h : n < cfg0.N) (h7 : n % 8 = 7) :
    (outsAt0 m c n h).1 (ix2 a b)
      = ∑ k ∈ Finset.range 8192, lhs m c k (2176 * (n / 8) + a.val) * rhs m c k b.val := by
  have hs := scratch_eq m c a b n h
  rw [outsAt0_C m c ⟨n, h⟩ (by dsimp only; omega) h7] at hs ⊢
  dsimp only at hs ⊢
  rw [sout_C] at hs
  rw [out_C]
  refine (show k0_pay3 (F := Ideal) _ (ix2 a b) = _ from rfl).trans (hs.trans ?_)
  rw [h7]

/-- The result array is the product. -/
theorem G2_eq : (Value.G2 m c : S4352x1024.Idx → EReal) = prod m c := by
  funext i
  have h0 : (i 0).val < 4352 := (i 0).isLt
  have h1 : (i 1).val < 1024 := (i 1).isLt
  have hp : Value.pt2Of i < cfg0.N := lt_of_lt_of_eq (by unfold Value.pt2Of Value.run2Of; omega) N_0.symm
  unfold Value.G2
  rw [dif_pos hp, ← Value.outsAt0_sweep]
  have hl := congrArg (outsAt0 m c (Value.pt2Of i) hp).1 (ix2_eta (n0 := 2176) (n1 := 1024) (Value.loc2Of i))
  refine hl.symm.trans ((out_eq m c _ _ _ hp (by unfold Value.pt2Of; omega)).trans ?_)
  rw [Finset.sum_range]
  unfold prod
  refine Finset.sum_congr rfl fun k _ => ?_
  have e0 : 2176 * (Value.pt2Of i / 8) + ((Value.loc2Of i) 0).val = (i 0).val := by
    show 2176 * ((8 * (1 * ((i 0).val / 2176 - 0) + 1 * ((i 1).val / 1024 - 0)) + 7) / 8) + (i 0).val % 2176 = (i 0).val
    omega
  have e1 : ((Value.loc2Of i) 1).val = (i 1).val := by
    show (i 1).val % 1024 = (i 1).val
    omega
  rw [e0, e1]
  unfold lhs rhs
  rw [dif_pos ⟨k.isLt, h0⟩, dif_pos ⟨k.isLt, h1⟩]
  rfl

end Fold

open Cert.Reference6Ideal.Read

/-- The reference's result is the product. -/
theorem ref_eq (x0 : S8192x1024.Idx → EReal) (x1 : S8192x4352.Idx → EReal) (i : S4352x1024.Idx) :
    val_main_v7 (F := Ideal) x0 x1 i
      = ∑ k : Fin 8192, x1 (ix2 k (i 0)) * x0 (ix2 k (i 1)) := by
  rw [val_main_v7_apply, val_main_v6_apply, val_main_v5_apply, val_main_v4_apply]
  refine Finset.sum_congr rfl fun k _ => ?_
  refine congrArg₂ (· * ·) (congrArg x1 (funext fun a => ?_)) (congrArg x0 (funext fun a => ?_))
  all_goals fin_cases a <;> rfl

/-- The claim. -/
theorem algebraic [Cert.Kernel6Ideal.Facts] [Cert.Reference6Ideal.Facts] :
    Cert.algebraic_Kernel6Ideal_Reference6Ideal := by
  intro m ρ m' ρ' _ hargs
  refine ⟨fun c => prod m c, ?_, ?_⟩
  · exact (θ_run _ _ _).mono (fun r h c => ⟨(h c).1.trans (G2_eq m c), (h c).2⟩) (Value.run (F := Ideal) m ρ)
  · refine (θ_run _ _ _).mono (fun r h c => ⟨?_, (h c).2⟩) (Cert.Reference6Ideal.Value.run (F := Ideal) m' ρ')
    refine (h c).1.trans ((val_main_v7_eq _ _).trans (funext fun i => ?_))
    rw [(hargs c).1, (hargs c).2]
    exact ref_eq _ _ i

end Cert.Kernel6Ideal.Dw

end
-- ==== Proof.Dw.Out.lean ====
/-
  The weight gradient of `Kernel7Ideal`: the product lhsᵀ · rhs is accumulated over eight row blocks of the two
  operands, in a scratch block that is zeroed at the first and written back after the last of them. At exact
  arithmetic the result is one sum over all rows, which is what the reference's one product is.
-/
module

public import proofs.«01_k».proof.Defs
public import proofs.«01_k».proof.Proof.Gen.Kernel7Ideal.Value
public import proofs.«01_k».proof.Proof.Gen.Reference7Ideal.Read
public import Idealize.ShloMosaic.Lib.ValueIdx
public import Idealize.ShloMosaic.Lib.Pointwise

@[expose] public section

noncomputable section

namespace Cert.Kernel7Ideal.Dw

open Cert.Kernel7Ideal Cert.Kernel7Ideal.Gen Idealize.ShloMosaic Idealize.ShloMosaic.TcCoe Idealize.SL.Sem

section AnyInstance

variable {F : FTy → Type} [FloatOps F]

theorem hz : (![0, 0] : Fin 2 → Nat) = fun _ => 0 := funext fun a => by fin_cases a <;> rfl

variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .bf16)
  (h5 : a5.IsWhole) (a6 : Memref sig .tc .vmem S1024x1024 .f32) (h6 : a6.IsWhole)

/-- At the first of its points a block's scratch is left holding zero plus the product of the two blocks read. -/
theorem sout_A (hc0 : cond0_0 i) (hc1 : ¬cond0_1 i) (x : Vec F S1024x1024 .bf16) (y : Vec F S1024x1024 .bf16) :
    sout0_A_0 c i a3 h3 a4 h4 a5 h5 a6 h6 hc0 hc1 x y = k0_pay2 (k0_pay1 (F := F)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- At a later point the product is added to what the scratch held. -/
theorem sout_B (hc0 : ¬cond0_0 i) (hc1 : ¬cond0_1 i) (x : Vec F S1024x1024 .bf16) (y : Vec F S1024x1024 .bf16) (s : Vec F S1024x1024 .f32) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero (S := S1024x1024) hz]
  simp only [View.readAt_eq_ld, h3.read_unread, h4.read_unread, h6.read_unread, View.ld_unit_zero (S := S1024x1024) hz,
    View.ld_unit_zero (S := S1024x1024) hz]

/-- So at the last point. -/
theorem sout_C (hc0 : ¬cond0_0 i) (hc1 : cond0_1 i) (x : Vec F S1024x1024 .bf16) (y : Vec F S1024x1024 .bf16) (s : Vec F S1024x1024 .f32) :
    sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero (S := S1024x1024) hz]
  simp only [View.readAt_eq_ld, h3.read_unread, h4.read_unread, h6.read_unread, View.ld_unit_zero (S := S1024x1024) hz,
    View.ld_unit_zero (S := S1024x1024) hz]

/-- At the last point the output block is left holding the scratch, narrowed. -/
theorem out_C (hc0 : ¬cond0_0 i) (hc1 : cond0_1 i) (x : Vec F S1024x1024 .bf16) (y : Vec F S1024x1024 .bf16) (s : Vec F S1024x1024 .f32) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1024x1024) hz, View.readCov_unit_zero (S := S1024x1024) _ hz]
  simp only [View.readAt_eq_ld, h3.read_unread, h4.read_unread, h6.read_unread, View.ld_unit_zero (S := S1024x1024) hz,
    View.ld_unit_zero (S := S1024x1024) hz]

end AnyInstance

/-- The zero block. -/
theorem pay1_apply (j : S1024x1024.Idx) : k0_pay1 (F := Ideal) j = 0 := by
  unfold k0_pay1
  rw [shapeCast_self]
  show Ideal.ofBits .f32 0x00000000#32 = 0
  simp [Ideal.ofBits, Ideal.ieee]

/-- One step adds the product of the two blocks, contracted over their rows. -/
theorem pay2_apply (s : Vec Ideal S1024x1024 .f32) (x : Vec Ideal S1024x1024 .bf16) (y : Vec Ideal S1024x1024 .bf16)
    (a : Fin 1024) (b : Fin 1024) :
    k0_pay2 (F := Ideal) s x y (ix2 a b) = s (ix2 a b) + ∑ k : Fin 1024, x (ix2 k a) * y (ix2 k b) := by
  unfold k0_pay2
  rw [shapeCast_self]
  show s (ix2 a b) + _ = _
  congr 1
  refine (Ideal.matmul_apply₁_of dot_S1024x1024_S1024x1024_S1024x1024_0_0_1_1_n_n (a := 0) (K := 1024) rfl rfl
    x y (constant (F := Ideal) S1024x1024 .f32 0x00000000#32) (ix2 a b) (fun k => ix2 k a) (fun k => ix2 k b) ?_ ?_).trans ?_
  · intro k; simp only [pointwise]
  · intro k; simp only [pointwise]
  · rw [show constant (F := Ideal) S1024x1024 .f32 0x00000000#32 (ix2 a b) = (0 : EReal) from by
      show Ideal.ofBits .f32 0x00000000#32 = 0
      simp [Ideal.ofBits, Ideal.ieee]]
    exact zero_add _

/-- Where the two blocks read at a point lie in their arrays. -/
theorem iblk0_apply (m : (ℓ : Loc nD τ sig) → Buf (Elt Ideal) ℓ) (c : Dev nD) (t : Fin cfg0.N) (k : Fin 1024)
    (a : Fin 1024) :
    (iblk m c 0 t : Vec Ideal S1024x1024 .bf16) (ix2 k a)
      = m ((c : Thread nD τ).loc main_arg0) (ix2 (⟨1024 * (t.val % 8) + k.val, by omega⟩ : Fin 8192)
          (⟨1024 * (t.val / 8) + a.val, by have := lt_of_lt_of_eq t.isLt N_0; have := a.isLt; omega⟩ : Fin 1024)) := by
  have hi := (by decide +kernel : ∀ t : Fin grid0.N, win0_0.index t 0 = t.val % 8 ∧ win0_0.index t 1 = t.val / 8) t
  refine congrArg (V m c main_arg0) (funext fun d => Fin.ext ?_)
  match d with
  | ⟨0, _⟩ => show win0_0.index t 0 * 1024 + 1 * k.val = 1024 * (t.val % 8) + k.val; rw [hi.1]; omega
  | ⟨1, _⟩ => show win0_0.index t 1 * 1024 + 1 * a.val = 1024 * (t.val / 8) + a.val; rw [hi.2]; omega

theorem iblk1_apply (m : (ℓ : Loc nD τ sig) → Buf (Elt Ideal) ℓ) (c : Dev nD) (t : Fin cfg0.N) (k b : Fin 1024) :
    (iblk m c 1 t : Vec Ideal S1024x1024 .bf16) (ix2 k b)
      = m ((c : Thread nD τ).loc main_arg1) (ix2 (⟨1024 * (t.val % 8) + k.val, by omega⟩ : Fin 8192) b) := by
  have hi := (by decide +kernel : ∀ t : Fin grid0.N, win0_1.index t 0 = t.val % 8 ∧ win0_1.index t 1 = 0) t
  refine congrArg (V m c main_arg1) (funext fun d => Fin.ext ?_)
  match d with
  | ⟨0, _⟩ => show win0_1.index t 0 * 1024 + 1 * k.val = 1024 * (t.val % 8) + k.val; rw [hi.1]; omega
  | ⟨1, _⟩ => show win0_1.index t 1 * 1024 + 1 * b.val = b.val; rw [hi.2]; omega

section Fold

variable (m : (ℓ : Loc nD τ sig) → Buf (Elt Ideal) ℓ) (c : Dev nD)

/-- The two operands, as arrays of numbers. -/
def opL : S8192x1024.Idx → EReal := m ((c : Thread nD τ).loc main_arg0)
def opR : S8192x1024.Idx → EReal := m ((c : Thread nD τ).loc main_arg1)

/-- The left operand at a row and a column, and the right one; zero outside them. -/
@[irreducible] def lhs (k a : ℕ) : EReal :=
  if h : k < 8192 ∧ a < 1024 then
    opL m c (ix2 ⟨k, h.1⟩ ⟨a, h.2⟩) else 0
@[irreducible] def rhs (k b : ℕ) : EReal :=
  if h : k < 8192 ∧ b < 1024 then
    opR m c (ix2 ⟨k, h.1⟩ ⟨b, h.2⟩) else 0

/-- The addend of a point: the part of the sum over its row block. -/
theorem step_apply (s : Vec Ideal S1024x1024 .f32) (t : Fin cfg0.N) (a : Fin 1024) (b : Fin 1024) :
    k0_pay2 (F := Ideal) s (iblk m c 0 t) (iblk m c 1 t) (ix2 a b)
      = s (ix2 a b) + ∑ k ∈ Finset.range 1024,
          lhs m c (1024 * (t.val % 8) + k) (1024 * (t.val / 8) + a.val) * rhs m c (1024 * (t.val % 8) + k) b.val := by
  refine (pay2_apply s _ _ a b).trans ?_
  rw [Finset.sum_range]
  congr 1
  refine Finset.sum_congr rfl fun k _ => ?_
  have hN := lt_of_lt_of_eq t.isLt N_0
  have h1 : 1024 * (t.val % 8) + k.val < 8192 ∧ 1024 * (t.val / 8) + a.val < 1024 := by omega
  have h2 : 1024 * (t.val % 8) + k.val < 8192 ∧ b.val < 1024 := by omega
  rw [iblk0_apply m c t k a, iblk1_apply m c t k b]
  unfold lhs rhs
  rw [dif_pos h1, dif_pos h2]
  rfl

/-- What a point that keeps the scratch leaves in it, when it found there the sum over the rows met before. -/
theorem step_sum (s : Vec Ideal S1024x1024 .f32) (n : ℕ) (h : n + 1 < cfg0.N) (h0 : ¬(n + 1) % 8 = 0) (a : Fin 1024) (b : Fin 1024)
    (hs : s (ix2 a b) = ∑ k ∈ Finset.range (1024 * (n % 8) + 1024), lhs m c k (1024 * (n / 8) + a.val) * rhs m c k b.val) :
    k0_pay2 (F := Ideal) s (iblk m c 0 ⟨n + 1, h⟩) (iblk m c 1 ⟨n + 1, h⟩) (ix2 a b)
      = ∑ k ∈ Finset.range (1024 * ((n + 1) % 8) + 1024), lhs m c k (1024 * ((n + 1) / 8) + a.val) * rhs m c k b.val := by
  have e1 : (n + 1) % 8 = n % 8 + 1 := by omega
  have e2 : (n + 1) / 8 = n / 8 := by omega
  have e3 : 1024 * (n % 8 + 1) = 1024 * (n % 8) + 1024 := by omega
  refine (step_apply m c s ⟨n + 1, h⟩ a b).trans ?_
  rw [hs]
  dsimp only
  rw [e1, e2, e3, Finset.sum_range_add _ (1024 * (n % 8) + 1024) 1024]

/-- What the scratch holds after a point: the sum over the rows met so far. -/
theorem scratch_eq (a : Fin 1024) (b : Fin 1024) : ∀ (n : ℕ) (h : n < cfg0.N),
    (outsAt0 m c n h).2 (ix2 a b)
      = ∑ k ∈ Finset.range (1024 * (n % 8) + 1024), lhs m c k (1024 * (n / 8) + a.val) * rhs m c k b.val := by
  intro n
  induction n with
  | zero =>
    intro h
    rw [outsAt0_A m c ⟨0, h⟩ rfl (by dsimp only; omega)]
    dsimp only
    rw [sout_A, step_apply, pay1_apply, zero_add]
    exact Finset.sum_congr rfl fun k _ => by simp
  | succ n ih =>
    intro h
    by_cases h0 : (n + 1) % 8 = 0
    · rw [outsAt0_A m c ⟨n + 1, h⟩ h0 (by dsimp only; omega)]
      dsimp only
      rw [sout_A, step_apply, pay1_apply, zero_add]
      dsimp only
      rw [h0]
      exact Finset.sum_congr rfl fun k _ => by simp
    · have hs := ih (Nat.lt_of_succ_lt h)
      by_cases h7 : (n + 1) % 8 = 7
      · rw [outsAt0_C m c ⟨n + 1, h⟩ h0 h7]
        dsimp only
        rw [sout_C]
        exact step_sum m c _ n h h0 a b hs
      · rw [outsAt0_B m c ⟨n + 1, h⟩ h0 h7]
        dsimp only
        rw [sout_B]
        exact step_sum m c _ n h h0 a b hs

/-- The whole sum over the rows. -/
def prod (i : S1024x1024.Idx) : EReal :=
  ∑ k : Fin 8192, opL m c (ix2 k (i 0)) * opR m c (ix2 k (i 1))

/-- What the last point of a block leaves in the output block. -/
theorem out_eq (a : Fin 1024) (b : Fin 1024) (n : ℕ) (h : n < cfg0.N) (h7 : n % 8 = 7) :
    (outsAt0 m c n h).1 (ix2 a b)
      = ∑ k ∈ Finset.range 8192, lhs m c k (1024 * (n / 8) + a.val) * rhs m c k b.val := by
  have hs := scratch_eq m c a b n h
  rw [outsAt0_C m c ⟨n, h⟩ (by dsimp only; omega) h7] at hs ⊢
  dsimp only at hs ⊢
  rw [sout_C] at hs
  rw [out_C]
  refine (show k0_pay3 (F := Ideal) _ (ix2 a b) = _ from rfl).trans (hs.trans ?_)
  rw [h7]

/-- The result array is the product. -/
theorem G2_eq : (Value.G2 m c : S1024x1024.Idx → EReal) = prod m c := by
  funext i
  have h0 : (i 0).val < 1024 := (i 0).isLt
  have h1 : (i 1).val < 1024 := (i 1).isLt
  have hp : Value.pt2Of i < cfg0.N := lt_of_lt_of_eq (by unfold Value.pt2Of Value.run2Of; omega) N_0.symm
  unfold Value.G2
  rw [dif_pos hp, ← Value.outsAt0_sweep]
  have hl := congrArg (outsAt0 m c (Value.pt2Of i) hp).1 (ix2_eta (n0 := 1024) (n1 := 1024) (Value.loc2Of i))
  refine hl.symm.trans ((out_eq m c _ _ _ hp (by unfold Value.pt2Of; omega)).trans ?_)
  rw [Finset.sum_range]
  unfold prod
  refine Finset.sum_congr rfl fun k _ => ?_
  have e0 : 1024 * (Value.pt2Of i / 8) + ((Value.loc2Of i) 0).val = (i 0).val := by
    show 1024 * ((8 * (1 * ((i 0).val / 1024 - 0) + 1 * ((i 1).val / 1024 - 0)) + 7) / 8) + (i 0).val % 1024 = (i 0).val
    omega
  have e1 : ((Value.loc2Of i) 1).val = (i 1).val := by
    show (i 1).val % 1024 = (i 1).val
    omega
  rw [e0, e1]
  unfold lhs rhs
  rw [dif_pos ⟨k.isLt, h0⟩, dif_pos ⟨k.isLt, h1⟩]
  rfl

end Fold

open Cert.Reference7Ideal.Read

/-- The reference's result is the product. -/
theorem ref_eq (x0 : S8192x1024.Idx → EReal) (x1 : S8192x1024.Idx → EReal) (i : S1024x1024.Idx) :
    val_main_v6 (F := Ideal) x0 x1 i
      = ∑ k : Fin 8192, x0 (ix2 k (i 0)) * x1 (ix2 k (i 1)) := by
  rw [val_main_v6_apply, val_main_v5_apply, val_main_v4_apply]
  refine Finset.sum_congr rfl fun k _ => ?_
  refine (mul_comm (G := EReal) _ _).trans ?_
  refine congrArg₂ (· * ·) (congrArg x0 (funext fun a => ?_)) (congrArg x1 (funext fun a => ?_))
  all_goals fin_cases a <;> rfl

/-- The claim. -/
theorem algebraic [Cert.Kernel7Ideal.Facts] [Cert.Reference7Ideal.Facts] :
    Cert.algebraic_Kernel7Ideal_Reference7Ideal := by
  intro m ρ m' ρ' _ hargs
  refine ⟨fun c => prod m c, ?_, ?_⟩
  · exact (θ_run _ _ _).mono (fun r h c => ⟨(h c).1.trans (G2_eq m c), (h c).2⟩) (Value.run (F := Ideal) m ρ)
  · refine (θ_run _ _ _).mono (fun r h c => ⟨?_, (h c).2⟩) (Cert.Reference7Ideal.Value.run (F := Ideal) m' ρ')
    refine (h c).1.trans ((val_main_v6_eq _ _).trans (funext fun i => ?_))
    rw [(hargs c).1, (hargs c).2]
    exact ref_eq _ _ i

end Cert.Kernel7Ideal.Dw

end
-- ==== Proof.Dw.ProjSb.lean ====
/-
  The weight gradient of `Kernel8Ideal`: the product lhsᵀ · rhs is accumulated over eight row blocks of the two
  operands, in a scratch block that is zeroed at the first and written back after the last of them. At exact
  arithmetic the result is one sum over all rows, which is what the reference's one product is.
-/
module

public import proofs.«01_k».proof.Defs
public import proofs.«01_k».proof.Proof.Gen.Kernel8Ideal.Value
public import proofs.«01_k».proof.Proof.Gen.Reference8Ideal.Read
public import Idealize.ShloMosaic.Lib.ValueIdx
public import Idealize.ShloMosaic.Lib.Pointwise

@[expose] public section

noncomputable section

namespace Cert.Kernel8Ideal.Dw

open Cert.Kernel8Ideal Cert.Kernel8Ideal.Gen Idealize.ShloMosaic Idealize.ShloMosaic.TcCoe Idealize.SL.Sem

section AnyInstance

variable {F : FTy → Type} [FloatOps F]

theorem hz : (![0, 0] : Fin 2 → Nat) = fun _ => 0 := funext fun a => by fin_cases a <;> rfl

variable (c : Dev nD) (i : grid0.Coords) (a3 : Memref sig .tc .vmem S1024x1024 .bf16) (h3 : a3.IsWhole)
  (a4 : Memref sig .tc .vmem S1024x512 .bf16) (h4 : a4.IsWhole) (a5 : Memref sig .tc .vmem S1024x512 .bf16)
  (h5 : a5.IsWhole) (a6 : Memref sig .tc .vmem S1024x512 .f32) (h6 : a6.IsWhole)

/-- At the first of its points a block's scratch is left holding zero plus the product of the two blocks read. -/
theorem sout_A (hc0 : cond0_0 i) (hc1 : ¬cond0_1 i) (x : Vec F S1024x1024 .bf16) (y : Vec F S1024x512 .bf16) :
    sout0_A_0 c i a3 h3 a4 h4 a5 h5 a6 h6 hc0 hc1 x y = k0_pay2 (k0_pay1 (F := F)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x512) hz, View.readCov_unit_zero (S := S1024x512) _ hz]
  simp only [View.readAt_eq_ld, h3.read_unread, h4.read_unread, View.ld_unit_zero (S := S1024x1024) hz,
    View.ld_unit_zero (S := S1024x512) hz]

/-- At a later point the product is added to what the scratch held. -/
theorem sout_B (hc0 : ¬cond0_0 i) (hc1 : ¬cond0_1 i) (x : Vec F S1024x1024 .bf16) (y : Vec F S1024x512 .bf16) (s : Vec F S1024x512 .f32) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero (S := S1024x512) hz]
  simp only [View.readAt_eq_ld, h3.read_unread, h4.read_unread, h6.read_unread, View.ld_unit_zero (S := S1024x1024) hz,
    View.ld_unit_zero (S := S1024x512) hz]

/-- So at the last point. -/
theorem sout_C (hc0 : ¬cond0_0 i) (hc1 : cond0_1 i) (x : Vec F S1024x1024 .bf16) (y : Vec F S1024x512 .bf16) (s : Vec F S1024x512 .f32) :
    sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero (S := S1024x512) hz]
  simp only [View.readAt_eq_ld, h3.read_unread, h4.read_unread, h6.read_unread, View.ld_unit_zero (S := S1024x1024) hz,
    View.ld_unit_zero (S := S1024x512) hz]

/-- At the last point the output block is left holding the scratch, narrowed. -/
theorem out_C (hc0 : ¬cond0_0 i) (hc1 : cond0_1 i) (x : Vec F S1024x1024 .bf16) (y : Vec F S1024x512 .bf16) (s : Vec F S1024x512 .f32) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1024x512) hz, View.readCov_unit_zero (S := S1024x512) _ hz]
  simp only [View.readAt_eq_ld, h3.read_unread, h4.read_unread, h6.read_unread, View.ld_unit_zero (S := S1024x1024) hz,
    View.ld_unit_zero (S := S1024x512) hz]

end AnyInstance

/-- The zero block. -/
theorem pay1_apply (j : S1024x512.Idx) : k0_pay1 (F := Ideal) j = 0 := by
  unfold k0_pay1
  rw [shapeCast_self]
  show Ideal.ofBits .f32 0x00000000#32 = 0
  simp [Ideal.ofBits, Ideal.ieee]

/-- One step adds the product of the two blocks, contracted over their rows. -/
theorem pay2_apply (s : Vec Ideal S1024x512 .f32) (x : Vec Ideal S1024x1024 .bf16) (y : Vec Ideal S1024x512 .bf16)
    (a : Fin 1024) (b : Fin 512) :
    k0_pay2 (F := Ideal) s x y (ix2 a b) = s (ix2 a b) + ∑ k : Fin 1024, x (ix2 k a) * y (ix2 k b) := by
  unfold k0_pay2
  rw [shapeCast_self]
  show s (ix2 a b) + _ = _
  congr 1
  refine (Ideal.matmul_apply₁_of dot_S1024x1024_S1024x512_S1024x512_0_0_1_1_n_n (a := 0) (K := 1024) rfl rfl
    x y (constant (F := Ideal) S1024x512 .f32 0x00000000#32) (ix2 a b) (fun k => ix2 k a) (fun k => ix2 k b) ?_ ?_).trans ?_
  · intro k; simp only [pointwise]
  · intro k; simp only [pointwise]
  · rw [show constant (F := Ideal) S1024x512 .f32 0x00000000#32 (ix2 a b) = (0 : EReal) from by
      show Ideal.ofBits .f32 0x00000000#32 = 0
      simp [Ideal.ofBits, Ideal.ieee]]
    exact zero_add _

/-- Where the two blocks read at a point lie in their arrays. -/
theorem iblk0_apply (m : (ℓ : Loc nD τ sig) → Buf (Elt Ideal) ℓ) (c : Dev nD) (t : Fin cfg0.N) (k : Fin 1024)
    (a : Fin 1024) :
    (iblk m c 0 t : Vec Ideal S1024x1024 .bf16) (ix2 k a)
      = m ((c : Thread nD τ).loc main_arg1) (ix2 (⟨1024 * (t.val % 8) + k.val, by omega⟩ : Fin 8192)
          (⟨1024 * (t.val / 8) + a.val, by have := lt_of_lt_of_eq t.isLt N_0; have := a.isLt; omega⟩ : Fin 1024)) := by
  have hi := (by decide +kernel : ∀ t : Fin grid0.N, win0_0.index t 0 = t.val % 8 ∧ win0_0.index t 1 = t.val / 8) t
  refine congrArg (V m c main_arg1) (funext fun d => Fin.ext ?_)
  match d with
  | ⟨0, _⟩ => show win0_0.index t 0 * 1024 + 1 * k.val = 1024 * (t.val % 8) + k.val; rw [hi.1]; omega
  | ⟨1, _⟩ => show win0_0.index t 1 * 1024 + 1 * a.val = 1024 * (t.val / 8) + a.val; rw [hi.2]; omega

theorem iblk1_apply (m : (ℓ : Loc nD τ sig) → Buf (Elt Ideal) ℓ) (c : Dev nD) (t : Fin cfg0.N) (k : Fin 1024) (b : Fin 512) :
    (iblk m c 1 t : Vec Ideal S1024x512 .bf16) (ix2 k b)
      = m ((c : Thread nD τ).loc main_arg0) (ix2 (⟨1024 * (t.val % 8) + k.val, by omega⟩ : Fin 8192) b) := by
  have hi := (by decide +kernel : ∀ t : Fin grid0.N, win0_1.index t 0 = t.val % 8 ∧ win0_1.index t 1 = 0) t
  refine congrArg (V m c main_arg0) (funext fun d => Fin.ext ?_)
  match d with
  | ⟨0, _⟩ => show win0_1.index t 0 * 1024 + 1 * k.val = 1024 * (t.val % 8) + k.val; rw [hi.1]; omega
  | ⟨1, _⟩ => show win0_1.index t 1 * 512 + 1 * b.val = b.val; rw [hi.2]; omega

section Fold

variable (m : (ℓ : Loc nD τ sig) → Buf (Elt Ideal) ℓ) (c : Dev nD)

/-- The two operands, as arrays of numbers. -/
def opL : S8192x1024.Idx → EReal := m ((c : Thread nD τ).loc main_arg1)
def opR : S8192x512.Idx → EReal := m ((c : Thread nD τ).loc main_arg0)

/-- The left operand at a row and a column, and the right one; zero outside them. -/
@[irreducible] def lhs (k a : ℕ) : EReal :=
  if h : k < 8192 ∧ a < 1024 then
    opL m c (ix2 ⟨k, h.1⟩ ⟨a, h.2⟩) else 0
@[irreducible] def rhs (k b : ℕ) : EReal :=
  if h : k < 8192 ∧ b < 512 then
    opR m c (ix2 ⟨k, h.1⟩ ⟨b, h.2⟩) else 0

/-- The addend of a point: the part of the sum over its row block. -/
theorem step_apply (s : Vec Ideal S1024x512 .f32) (t : Fin cfg0.N) (a : Fin 1024) (b : Fin 512) :
    k0_pay2 (F := Ideal) s (iblk m c 0 t) (iblk m c 1 t) (ix2 a b)
      = s (ix2 a b) + ∑ k ∈ Finset.range 1024,
          lhs m c (1024 * (t.val % 8) + k) (1024 * (t.val / 8) + a.val) * rhs m c (1024 * (t.val % 8) + k) b.val := by
  refine (pay2_apply s _ _ a b).trans ?_
  rw [Finset.sum_range]
  congr 1
  refine Finset.sum_congr rfl fun k _ => ?_
  have hN := lt_of_lt_of_eq t.isLt N_0
  have h1 : 1024 * (t.val % 8) + k.val < 8192 ∧ 1024 * (t.val / 8) + a.val < 1024 := by omega
  have h2 : 1024 * (t.val % 8) + k.val < 8192 ∧ b.val < 512 := by omega
  rw [iblk0_apply m c t k a, iblk1_apply m c t k b]
  unfold lhs rhs
  rw [dif_pos h1, dif_pos h2]
  rfl

/-- What a point that keeps the scratch leaves in it, when it found there the sum over the rows met before. -/
theorem step_sum (s : Vec Ideal S1024x512 .f32) (n : ℕ) (h : n + 1 < cfg0.N) (h0 : ¬(n + 1) % 8 = 0) (a : Fin 1024) (b : Fin 512)
    (hs : s (ix2 a b) = ∑ k ∈ Finset.range (1024 * (n % 8) + 1024), lhs m c k (1024 * (n / 8) + a.val) * rhs m c k b.val) :
    k0_pay2 (F := Ideal) s (iblk m c 0 ⟨n + 1, h⟩) (iblk m c 1 ⟨n + 1, h⟩) (ix2 a b)
      = ∑ k ∈ Finset.range (1024 * ((n + 1) % 8) + 1024), lhs m c k (1024 * ((n + 1) / 8) + a.val) * rhs m c k b.val := by
  have e1 : (n + 1) % 8 = n % 8 + 1 := by omega
  have e2 : (n + 1) / 8 = n / 8 := by omega
  have e3 : 1024 * (n % 8 + 1) = 1024 * (n % 8) + 1024 := by omega
  refine (step_apply m c s ⟨n + 1, h⟩ a b).trans ?_
  rw [hs]
  dsimp only
  rw [e1, e2, e3, Finset.sum_range_add _ (1024 * (n % 8) + 1024) 1024]

/-- What the scratch holds after a point: the sum over the rows met so far. -/
theorem scratch_eq (a : Fin 1024) (b : Fin 512) : ∀ (n : ℕ) (h : n < cfg0.N),
    (outsAt0 m c n h).2 (ix2 a b)
      = ∑ k ∈ Finset.range (1024 * (n % 8) + 1024), lhs m c k (1024 * (n / 8) + a.val) * rhs m c k b.val := by
  intro n
  induction n with
  | zero =>
    intro h
    rw [outsAt0_A m c ⟨0, h⟩ rfl (by dsimp only; omega)]
    dsimp only
    rw [sout_A, step_apply, pay1_apply, zero_add]
    exact Finset.sum_congr rfl fun k _ => by simp
  | succ n ih =>
    intro h
    by_cases h0 : (n + 1) % 8 = 0
    · rw [outsAt0_A m c ⟨n + 1, h⟩ h0 (by dsimp only; omega)]
      dsimp only
      rw [sout_A, step_apply, pay1_apply, zero_add]
      dsimp only
      rw [h0]
      exact Finset.sum_congr rfl fun k _ => by simp
    · have hs := ih (Nat.lt_of_succ_lt h)
      by_cases h7 : (n + 1) % 8 = 7
      · rw [outsAt0_C m c ⟨n + 1, h⟩ h0 h7]
        dsimp only
        rw [sout_C]
        exact step_sum m c _ n h h0 a b hs
      · rw [outsAt0_B m c ⟨n + 1, h⟩ h0 h7]
        dsimp only
        rw [sout_B]
        exact step_sum m c _ n h h0 a b hs

/-- The whole sum over the rows. -/
def prod (i : S1024x512.Idx) : EReal :=
  ∑ k : Fin 8192, opL m c (ix2 k (i 0)) * opR m c (ix2 k (i 1))

/-- What the last point of a block leaves in the output block. -/
theorem out_eq (a : Fin 1024) (b : Fin 512) (n : ℕ) (h : n < cfg0.N) (h7 : n % 8 = 7) :
    (outsAt0 m c n h).1 (ix2 a b)
      = ∑ k ∈ Finset.range 8192, lhs m c k (1024 * (n / 8) + a.val) * rhs m c k b.val := by
  have hs := scratch_eq m c a b n h
  rw [outsAt0_C m c ⟨n, h⟩ (by dsimp only; omega) h7] at hs ⊢
  dsimp only at hs ⊢
  rw [sout_C] at hs
  rw [out_C]
  refine (show k0_pay3 (F := Ideal) _ (ix2 a b) = _ from rfl).trans (hs.trans ?_)
  rw [h7]

/-- The result array is the product. -/
theorem G2_eq : (Value.G2 m c : S1024x512.Idx → EReal) = prod m c := by
  funext i
  have h0 : (i 0).val < 1024 := (i 0).isLt
  have h1 : (i 1).val < 512 := (i 1).isLt
  have hp : Value.pt2Of i < cfg0.N := lt_of_lt_of_eq (by unfold Value.pt2Of Value.run2Of; omega) N_0.symm
  unfold Value.G2
  rw [dif_pos hp, ← Value.outsAt0_sweep]
  have hl := congrArg (outsAt0 m c (Value.pt2Of i) hp).1 (ix2_eta (n0 := 1024) (n1 := 512) (Value.loc2Of i))
  refine hl.symm.trans ((out_eq m c _ _ _ hp (by unfold Value.pt2Of; omega)).trans ?_)
  rw [Finset.sum_range]
  unfold prod
  refine Finset.sum_congr rfl fun k _ => ?_
  have e0 : 1024 * (Value.pt2Of i / 8) + ((Value.loc2Of i) 0).val = (i 0).val := by
    show 1024 * ((8 * (1 * ((i 0).val / 1024 - 0) + 1 * ((i 1).val / 512 - 0)) + 7) / 8) + (i 0).val % 1024 = (i 0).val
    omega
  have e1 : ((Value.loc2Of i) 1).val = (i 1).val := by
    show (i 1).val % 512 = (i 1).val
    omega
  rw [e0, e1]
  unfold lhs rhs
  rw [dif_pos ⟨k.isLt, h0⟩, dif_pos ⟨k.isLt, h1⟩]
  rfl

end Fold

open Cert.Reference8Ideal.Read

/-- The reference's result is the product. -/
theorem ref_eq (x0 : S8192x512.Idx → EReal) (x1 : S8192x1024.Idx → EReal) (i : S1024x512.Idx) :
    val_main_v7 (F := Ideal) x0 x1 i
      = ∑ k : Fin 8192, x1 (ix2 k (i 0)) * x0 (ix2 k (i 1)) := by
  rw [val_main_v7_apply, val_main_v6_apply, val_main_v5_apply, val_main_v4_apply]
  refine Finset.sum_congr rfl fun k _ => ?_
  refine congrArg₂ (· * ·) (congrArg x1 (funext fun a => ?_)) (congrArg x0 (funext fun a => ?_))
  all_goals fin_cases a <;> rfl

/-- The claim. -/
theorem algebraic [Cert.Kernel8Ideal.Facts] [Cert.Reference8Ideal.Facts] :
    Cert.algebraic_Kernel8Ideal_Reference8Ideal := by
  intro m ρ m' ρ' _ hargs
  refine ⟨fun c => prod m c, ?_, ?_⟩
  · exact (θ_run _ _ _).mono (fun r h c => ⟨(h c).1.trans (G2_eq m c), (h c).2⟩) (Value.run (F := Ideal) m ρ)
  · refine (θ_run _ _ _).mono (fun r h c => ⟨?_, (h c).2⟩) (Cert.Reference8Ideal.Value.run (F := Ideal) m' ρ')
    refine (h c).1.trans ((val_main_v7_eq _ _).trans (funext fun i => ?_))
    rw [(hargs c).1, (hargs c).2]
    exact ref_eq _ _ i

end Cert.Kernel8Ideal.Dw

end
-- ==== Proof.Dw.Uq.lean ====
/-
  The weight gradient of `Kernel12Ideal`: the product lhsᵀ · rhs is accumulated over eight row blocks of the two
  operands, in a scratch block that is zeroed at the first and written back after the last of them. At exact
  arithmetic the result is one sum over all rows, which is what the reference's one product is.
-/
module

public import proofs.«01_k».proof.Defs
public import proofs.«01_k».proof.Proof.Gen.Kernel12Ideal.Value
public import proofs.«01_k».proof.Proof.Gen.Reference12Ideal.Read
public import Idealize.ShloMosaic.Lib.ValueIdx
public import Idealize.ShloMosaic.Lib.Pointwise

@[expose] public section

noncomputable section

namespace Cert.Kernel12Ideal.Dw

open Cert.Kernel12Ideal Cert.Kernel12Ideal.Gen Idealize.ShloMosaic Idealize.ShloMosaic.TcCoe Idealize.SL.Sem

section AnyInstance

variable {F : FTy → Type} [FloatOps F]

theorem hz : (![0, 0] : Fin 2 → Nat) = fun _ => 0 := funext fun a => by fin_cases a <;> rfl

variable (c : Dev nD) (i : grid0.Coords) (a3 : Memref sig .tc .vmem S1024x1024 .bf16) (h3 : a3.IsWhole)
  (a4 : Memref sig .tc .vmem S1024x384 .bf16) (h4 : a4.IsWhole) (a5 : Memref sig .tc .vmem S1024x384 .bf16)
  (h5 : a5.IsWhole) (a6 : Memref sig .tc .vmem S1024x384 .f32) (h6 : a6.IsWhole)

/-- At the first of its points a block's scratch is left holding zero plus the product of the two blocks read. -/
theorem sout_A (hc0 : cond0_0 i) (hc1 : ¬cond0_1 i) (x : Vec F S1024x1024 .bf16) (y : Vec F S1024x384 .bf16) :
    sout0_A_0 c i a3 h3 a4 h4 a5 h5 a6 h6 hc0 hc1 x y = k0_pay2 (k0_pay1 (F := F)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x384) hz, View.readCov_unit_zero (S := S1024x384) _ hz]
  simp only [View.readAt_eq_ld, h3.read_unread, h4.read_unread, View.ld_unit_zero (S := S1024x1024) hz,
    View.ld_unit_zero (S := S1024x384) hz]

/-- At a later point the product is added to what the scratch held. -/
theorem sout_B (hc0 : ¬cond0_0 i) (hc1 : ¬cond0_1 i) (x : Vec F S1024x1024 .bf16) (y : Vec F S1024x384 .bf16) (s : Vec F S1024x384 .f32) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero (S := S1024x384) hz]
  simp only [View.readAt_eq_ld, h3.read_unread, h4.read_unread, h6.read_unread, View.ld_unit_zero (S := S1024x1024) hz,
    View.ld_unit_zero (S := S1024x384) hz]

/-- So at the last point. -/
theorem sout_C (hc0 : ¬cond0_0 i) (hc1 : cond0_1 i) (x : Vec F S1024x1024 .bf16) (y : Vec F S1024x384 .bf16) (s : Vec F S1024x384 .f32) :
    sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero (S := S1024x384) hz]
  simp only [View.readAt_eq_ld, h3.read_unread, h4.read_unread, h6.read_unread, View.ld_unit_zero (S := S1024x1024) hz,
    View.ld_unit_zero (S := S1024x384) hz]

/-- At the last point the output block is left holding the scratch, narrowed. -/
theorem out_C (hc0 : ¬cond0_0 i) (hc1 : cond0_1 i) (x : Vec F S1024x1024 .bf16) (y : Vec F S1024x384 .bf16) (s : Vec F S1024x384 .f32) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1024x384) hz, View.readCov_unit_zero (S := S1024x384) _ hz]
  simp only [View.readAt_eq_ld, h3.read_unread, h4.read_unread, h6.read_unread, View.ld_unit_zero (S := S1024x1024) hz,
    View.ld_unit_zero (S := S1024x384) hz]

end AnyInstance

/-- The zero block. -/
theorem pay1_apply (j : S1024x384.Idx) : k0_pay1 (F := Ideal) j = 0 := by
  unfold k0_pay1
  rw [shapeCast_self]
  show Ideal.ofBits .f32 0x00000000#32 = 0
  simp [Ideal.ofBits, Ideal.ieee]

/-- One step adds the product of the two blocks, contracted over their rows. -/
theorem pay2_apply (s : Vec Ideal S1024x384 .f32) (x : Vec Ideal S1024x1024 .bf16) (y : Vec Ideal S1024x384 .bf16)
    (a : Fin 1024) (b : Fin 384) :
    k0_pay2 (F := Ideal) s x y (ix2 a b) = s (ix2 a b) + ∑ k : Fin 1024, x (ix2 k a) * y (ix2 k b) := by
  unfold k0_pay2
  rw [shapeCast_self]
  show s (ix2 a b) + _ = _
  congr 1
  refine (Ideal.matmul_apply₁_of dot_S1024x1024_S1024x384_S1024x384_0_0_1_1_n_n (a := 0) (K := 1024) rfl rfl
    x y (constant (F := Ideal) S1024x384 .f32 0x00000000#32) (ix2 a b) (fun k => ix2 k a) (fun k => ix2 k b) ?_ ?_).trans ?_
  · intro k; simp only [pointwise]
  · intro k; simp only [pointwise]
  · rw [show constant (F := Ideal) S1024x384 .f32 0x00000000#32 (ix2 a b) = (0 : EReal) from by
      show Ideal.ofBits .f32 0x00000000#32 = 0
      simp [Ideal.ofBits, Ideal.ieee]]
    exact zero_add _

/-- Where the two blocks read at a point lie in their arrays. -/
theorem iblk0_apply (m : (ℓ : Loc nD τ sig) → Buf (Elt Ideal) ℓ) (c : Dev nD) (t : Fin cfg0.N) (k : Fin 1024)
    (a : Fin 1024) :
    (iblk m c 0 t : Vec Ideal S1024x1024 .bf16) (ix2 k a)
      = m ((c : Thread nD τ).loc main_arg1) (ix2 (⟨1024 * (t.val % 8) + k.val, by omega⟩ : Fin 8192)
          (⟨1024 * (t.val / 8) + a.val, by have := lt_of_lt_of_eq t.isLt N_0; have := a.isLt; omega⟩ : Fin 1024)) := by
  have hi := (by decide +kernel : ∀ t : Fin grid0.N, win0_0.index t 0 = t.val % 8 ∧ win0_0.index t 1 = t.val / 8) t
  refine congrArg (V m c main_arg1) (funext fun d => Fin.ext ?_)
  match d with
  | ⟨0, _⟩ => show win0_0.index t 0 * 1024 + 1 * k.val = 1024 * (t.val % 8) + k.val; rw [hi.1]; omega
  | ⟨1, _⟩ => show win0_0.index t 1 * 1024 + 1 * a.val = 1024 * (t.val / 8) + a.val; rw [hi.2]; omega

theorem iblk1_apply (m : (ℓ : Loc nD τ sig) → Buf (Elt Ideal) ℓ) (c : Dev nD) (t : Fin cfg0.N) (k : Fin 1024) (b : Fin 384) :
    (iblk m c 1 t : Vec Ideal S1024x384 .bf16) (ix2 k b)
      = m ((c : Thread nD τ).loc main_arg0) (ix2 (⟨1024 * (t.val % 8) + k.val, by omega⟩ : Fin 8192) b) := by
  have hi := (by decide +kernel : ∀ t : Fin grid0.N, win0_1.index t 0 = t.val % 8 ∧ win0_1.index t 1 = 0) t
  refine congrArg (V m c main_arg0) (funext fun d => Fin.ext ?_)
  match d with
  | ⟨0, _⟩ => show win0_1.index t 0 * 1024 + 1 * k.val = 1024 * (t.val % 8) + k.val; rw [hi.1]; omega
  | ⟨1, _⟩ => show win0_1.index t 1 * 384 + 1 * b.val = b.val; rw [hi.2]; omega

section Fold

variable (m : (ℓ : Loc nD τ sig) → Buf (Elt Ideal) ℓ) (c : Dev nD)

/-- The two operands, as arrays of numbers. -/
def opL : S8192x1024.Idx → EReal := m ((c : Thread nD τ).loc main_arg1)
def opR : S8192x384.Idx → EReal := m ((c : Thread nD τ).loc main_arg0)

/-- The left operand at a row and a column, and the right one; zero outside them. -/
@[irreducible] def lhs (k a : ℕ) : EReal :=
  if h : k < 8192 ∧ a < 1024 then
    opL m c (ix2 ⟨k, h.1⟩ ⟨a, h.2⟩) else 0
@[irreducible] def rhs (k b : ℕ) : EReal :=
  if h : k < 8192 ∧ b < 384 then
    opR m c (ix2 ⟨k, h.1⟩ ⟨b, h.2⟩) else 0

/-- The addend of a point: the part of the sum over its row block. -/
theorem step_apply (s : Vec Ideal S1024x384 .f32) (t : Fin cfg0.N) (a : Fin 1024) (b : Fin 384) :
    k0_pay2 (F := Ideal) s (iblk m c 0 t) (iblk m c 1 t) (ix2 a b)
      = s (ix2 a b) + ∑ k ∈ Finset.range 1024,
          lhs m c (1024 * (t.val % 8) + k) (1024 * (t.val / 8) + a.val) * rhs m c (1024 * (t.val % 8) + k) b.val := by
  refine (pay2_apply s _ _ a b).trans ?_
  rw [Finset.sum_range]
  congr 1
  refine Finset.sum_congr rfl fun k _ => ?_
  have hN := lt_of_lt_of_eq t.isLt N_0
  have h1 : 1024 * (t.val % 8) + k.val < 8192 ∧ 1024 * (t.val / 8) + a.val < 1024 := by omega
  have h2 : 1024 * (t.val % 8) + k.val < 8192 ∧ b.val < 384 := by omega
  rw [iblk0_apply m c t k a, iblk1_apply m c t k b]
  unfold lhs rhs
  rw [dif_pos h1, dif_pos h2]
  rfl

/-- What a point that keeps the scratch leaves in it, when it found there the sum over the rows met before. -/
theorem step_sum (s : Vec Ideal S1024x384 .f32) (n : ℕ) (h : n + 1 < cfg0.N) (h0 : ¬(n + 1) % 8 = 0) (a : Fin 1024) (b : Fin 384)
    (hs : s (ix2 a b) = ∑ k ∈ Finset.range (1024 * (n % 8) + 1024), lhs m c k (1024 * (n / 8) + a.val) * rhs m c k b.val) :
    k0_pay2 (F := Ideal) s (iblk m c 0 ⟨n + 1, h⟩) (iblk m c 1 ⟨n + 1, h⟩) (ix2 a b)
      = ∑ k ∈ Finset.range (1024 * ((n + 1) % 8) + 1024), lhs m c k (1024 * ((n + 1) / 8) + a.val) * rhs m c k b.val := by
  have e1 : (n + 1) % 8 = n % 8 + 1 := by omega
  have e2 : (n + 1) / 8 = n / 8 := by omega
  have e3 : 1024 * (n % 8 + 1) = 1024 * (n % 8) + 1024 := by omega
  refine (step_apply m c s ⟨n + 1, h⟩ a b).trans ?_
  rw [hs]
  dsimp only
  rw [e1, e2, e3, Finset.sum_range_add _ (1024 * (n % 8) + 1024) 1024]

/-- What the scratch holds after a point: the sum over the rows met so far. -/
theorem scratch_eq (a : Fin 1024) (b : Fin 384) : ∀ (n : ℕ) (h : n < cfg0.N),
    (outsAt0 m c n h).2 (ix2 a b)
      = ∑ k ∈ Finset.range (1024 * (n % 8) + 1024), lhs m c k (1024 * (n / 8) + a.val) * rhs m c k b.val := by
  intro n
  induction n with
  | zero =>
    intro h
    rw [outsAt0_A m c ⟨0, h⟩ rfl (by dsimp only; omega)]
    dsimp only
    rw [sout_A, step_apply, pay1_apply, zero_add]
    exact Finset.sum_congr rfl fun k _ => by simp
  | succ n ih =>
    intro h
    by_cases h0 : (n + 1) % 8 = 0
    · rw [outsAt0_A m c ⟨n + 1, h⟩ h0 (by dsimp only; omega)]
      dsimp only
      rw [sout_A, step_apply, pay1_apply, zero_add]
      dsimp only
      rw [h0]
      exact Finset.sum_congr rfl fun k _ => by simp
    · have hs := ih (Nat.lt_of_succ_lt h)
      by_cases h7 : (n + 1) % 8 = 7
      · rw [outsAt0_C m c ⟨n + 1, h⟩ h0 h7]
        dsimp only
        rw [sout_C]
        exact step_sum m c _ n h h0 a b hs
      · rw [outsAt0_B m c ⟨n + 1, h⟩ h0 h7]
        dsimp only
        rw [sout_B]
        exact step_sum m c _ n h h0 a b hs

/-- The whole sum over the rows. -/
def prod (i : S1024x384.Idx) : EReal :=
  ∑ k : Fin 8192, opL m c (ix2 k (i 0)) * opR m c (ix2 k (i 1))

/-- What the last point of a block leaves in the output block. -/
theorem out_eq (a : Fin 1024) (b : Fin 384) (n : ℕ) (h : n < cfg0.N) (h7 : n % 8 = 7) :
    (outsAt0 m c n h).1 (ix2 a b)
      = ∑ k ∈ Finset.range 8192, lhs m c k (1024 * (n / 8) + a.val) * rhs m c k b.val := by
  have hs := scratch_eq m c a b n h
  rw [outsAt0_C m c ⟨n, h⟩ (by dsimp only; omega) h7] at hs ⊢
  dsimp only at hs ⊢
  rw [sout_C] at hs
  rw [out_C]
  refine (show k0_pay3 (F := Ideal) _ (ix2 a b) = _ from rfl).trans (hs.trans ?_)
  rw [h7]

/-- The result array is the product. -/
theorem G2_eq : (Value.G2 m c : S1024x384.Idx → EReal) = prod m c := by
  funext i
  have h0 : (i 0).val < 1024 := (i 0).isLt
  have h1 : (i 1).val < 384 := (i 1).isLt
  have hp : Value.pt2Of i < cfg0.N := lt_of_lt_of_eq (by unfold Value.pt2Of Value.run2Of; omega) N_0.symm
  unfold Value.G2
  rw [dif_pos hp, ← Value.outsAt0_sweep]
  have hl := congrArg (outsAt0 m c (Value.pt2Of i) hp).1 (ix2_eta (n0 := 1024) (n1 := 384) (Value.loc2Of i))
  refine hl.symm.trans ((out_eq m c _ _ _ hp (by unfold Value.pt2Of; omega)).trans ?_)
  rw [Finset.sum_range]
  unfold prod
  refine Finset.sum_congr rfl fun k _ => ?_
  have e0 : 1024 * (Value.pt2Of i / 8) + ((Value.loc2Of i) 0).val = (i 0).val := by
    show 1024 * ((8 * (1 * ((i 0).val / 1024 - 0) + 1 * ((i 1).val / 384 - 0)) + 7) / 8) + (i 0).val % 1024 = (i 0).val
    omega
  have e1 : ((Value.loc2Of i) 1).val = (i 1).val := by
    show (i 1).val % 384 = (i 1).val
    omega
  rw [e0, e1]
  unfold lhs rhs
  rw [dif_pos ⟨k.isLt, h0⟩, dif_pos ⟨k.isLt, h1⟩]
  rfl

end Fold

open Cert.Reference12Ideal.Read

/-- The reference's result is the product. -/
theorem ref_eq (x0 : S8192x384.Idx → EReal) (x1 : S8192x1024.Idx → EReal) (i : S1024x384.Idx) :
    val_main_v7 (F := Ideal) x0 x1 i
      = ∑ k : Fin 8192, x1 (ix2 k (i 0)) * x0 (ix2 k (i 1)) := by
  rw [val_main_v7_apply, val_main_v6_apply, val_main_v5_apply, val_main_v4_apply]
  refine Finset.sum_congr rfl fun k _ => ?_
  refine congrArg₂ (· * ·) (congrArg x1 (funext fun a => ?_)) (congrArg x0 (funext fun a => ?_))
  all_goals fin_cases a <;> rfl

/-- The claim. -/
theorem algebraic [Cert.Kernel12Ideal.Facts] [Cert.Reference12Ideal.Facts] :
    Cert.algebraic_Kernel12Ideal_Reference12Ideal := by
  intro m ρ m' ρ' _ hargs
  refine ⟨fun c => prod m c, ?_, ?_⟩
  · exact (θ_run _ _ _).mono (fun r h c => ⟨(h c).1.trans (G2_eq m c), (h c).2⟩) (Value.run (F := Ideal) m ρ)
  · refine (θ_run _ _ _).mono (fun r h c => ⟨?_, (h c).2⟩) (Cert.Reference12Ideal.Value.run (F := Ideal) m' ρ')
    refine (h c).1.trans ((val_main_v7_eq _ _).trans (funext fun i => ?_))
    rw [(hargs c).1, (hargs c).2]
    exact ref_eq _ _ i

end Cert.Kernel12Ideal.Dw

end
-- ==== Proof.Dw.Uk.lean ====
/-
  The weight gradient of `Kernel13Ideal`: the product lhsᵀ · rhs is accumulated over eight row blocks of the two
  operands, in a scratch block that is zeroed at the first and written back after the last of them. At exact
  arithmetic the result is one sum over all rows, which is what the reference's one product is.
-/
module

public import proofs.«01_k».proof.Defs
public import proofs.«01_k».proof.Proof.Gen.Kernel13Ideal.Value
public import proofs.«01_k».proof.Proof.Gen.Reference13Ideal.Read
public import Idealize.ShloMosaic.Lib.ValueIdx
public import Idealize.ShloMosaic.Lib.Pointwise

@[expose] public section

noncomputable section

namespace Cert.Kernel13Ideal.Dw

open Cert.Kernel13Ideal Cert.Kernel13Ideal.Gen Idealize.ShloMosaic Idealize.ShloMosaic.TcCoe Idealize.SL.Sem

section AnyInstance

variable {F : FTy → Type} [FloatOps F]

theorem hz : (![0, 0] : Fin 2 → Nat) = fun _ => 0 := funext fun a => by fin_cases a <;> rfl

variable (c : Dev nD) (i : grid0.Coords) (a3 : Memref sig .tc .vmem S1024x1024 .bf16) (h3 : a3.IsWhole)
  (a4 : Memref sig .tc .vmem S1024x256 .bf16) (h4 : a4.IsWhole) (a5 : Memref sig .tc .vmem S1024x256 .bf16)
  (h5 : a5.IsWhole) (a6 : Memref sig .tc .vmem S1024x256 .f32) (h6 : a6.IsWhole)

/-- At the first of its points a block's scratch is left holding zero plus the product of the two blocks read. -/
theorem sout_A (hc0 : cond0_0 i) (hc1 : ¬cond0_1 i) (x : Vec F S1024x1024 .bf16) (y : Vec F S1024x256 .bf16) :
    sout0_A_0 c i a3 h3 a4 h4 a5 h5 a6 h6 hc0 hc1 x y = k0_pay2 (k0_pay1 (F := F)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x256) hz, View.readCov_unit_zero (S := S1024x256) _ hz]
  simp only [View.readAt_eq_ld, h3.read_unread, h4.read_unread, View.ld_unit_zero (S := S1024x1024) hz,
    View.ld_unit_zero (S := S1024x256) hz]

/-- At a later point the product is added to what the scratch held. -/
theorem sout_B (hc0 : ¬cond0_0 i) (hc1 : ¬cond0_1 i) (x : Vec F S1024x1024 .bf16) (y : Vec F S1024x256 .bf16) (s : Vec F S1024x256 .f32) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero (S := S1024x256) hz]
  simp only [View.readAt_eq_ld, h3.read_unread, h4.read_unread, h6.read_unread, View.ld_unit_zero (S := S1024x1024) hz,
    View.ld_unit_zero (S := S1024x256) hz]

/-- So at the last point. -/
theorem sout_C (hc0 : ¬cond0_0 i) (hc1 : cond0_1 i) (x : Vec F S1024x1024 .bf16) (y : Vec F S1024x256 .bf16) (s : Vec F S1024x256 .f32) :
    sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero (S := S1024x256) hz]
  simp only [View.readAt_eq_ld, h3.read_unread, h4.read_unread, h6.read_unread, View.ld_unit_zero (S := S1024x1024) hz,
    View.ld_unit_zero (S := S1024x256) hz]

/-- At the last point the output block is left holding the scratch, narrowed. -/
theorem out_C (hc0 : ¬cond0_0 i) (hc1 : cond0_1 i) (x : Vec F S1024x1024 .bf16) (y : Vec F S1024x256 .bf16) (s : Vec F S1024x256 .f32) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1024x256) hz, View.readCov_unit_zero (S := S1024x256) _ hz]
  simp only [View.readAt_eq_ld, h3.read_unread, h4.read_unread, h6.read_unread, View.ld_unit_zero (S := S1024x1024) hz,
    View.ld_unit_zero (S := S1024x256) hz]

end AnyInstance

/-- The zero block. -/
theorem pay1_apply (j : S1024x256.Idx) : k0_pay1 (F := Ideal) j = 0 := by
  unfold k0_pay1
  rw [shapeCast_self]
  show Ideal.ofBits .f32 0x00000000#32 = 0
  simp [Ideal.ofBits, Ideal.ieee]

/-- One step adds the product of the two blocks, contracted over their rows. -/
theorem pay2_apply (s : Vec Ideal S1024x256 .f32) (x : Vec Ideal S1024x1024 .bf16) (y : Vec Ideal S1024x256 .bf16)
    (a : Fin 1024) (b : Fin 256) :
    k0_pay2 (F := Ideal) s x y (ix2 a b) = s (ix2 a b) + ∑ k : Fin 1024, x (ix2 k a) * y (ix2 k b) := by
  unfold k0_pay2
  rw [shapeCast_self]
  show s (ix2 a b) + _ = _
  congr 1
  refine (Ideal.matmul_apply₁_of dot_S1024x1024_S1024x256_S1024x256_0_0_1_1_n_n (a := 0) (K := 1024) rfl rfl
    x y (constant (F := Ideal) S1024x256 .f32 0x00000000#32) (ix2 a b) (fun k => ix2 k a) (fun k => ix2 k b) ?_ ?_).trans ?_
  · intro k; simp only [pointwise]
  · intro k; simp only [pointwise]
  · rw [show constant (F := Ideal) S1024x256 .f32 0x00000000#32 (ix2 a b) = (0 : EReal) from by
      show Ideal.ofBits .f32 0x00000000#32 = 0
      simp [Ideal.ofBits, Ideal.ieee]]
    exact zero_add _

/-- Where the two blocks read at a point lie in their arrays. -/
theorem iblk0_apply (m : (ℓ : Loc nD τ sig) → Buf (Elt Ideal) ℓ) (c : Dev nD) (t : Fin cfg0.N) (k : Fin 1024)
    (a : Fin 1024) :
    (iblk m c 0 t : Vec Ideal S1024x1024 .bf16) (ix2 k a)
      = m ((c : Thread nD τ).loc main_arg1) (ix2 (⟨1024 * (t.val % 8) + k.val, by omega⟩ : Fin 8192)
          (⟨1024 * (t.val / 8) + a.val, by have := lt_of_lt_of_eq t.isLt N_0; have := a.isLt; omega⟩ : Fin 1024)) := by
  have hi := (by decide +kernel : ∀ t : Fin grid0.N, win0_0.index t 0 = t.val % 8 ∧ win0_0.index t 1 = t.val / 8) t
  refine congrArg (V m c main_arg1) (funext fun d => Fin.ext ?_)
  match d with
  | ⟨0, _⟩ => show win0_0.index t 0 * 1024 + 1 * k.val = 1024 * (t.val % 8) + k.val; rw [hi.1]; omega
  | ⟨1, _⟩ => show win0_0.index t 1 * 1024 + 1 * a.val = 1024 * (t.val / 8) + a.val; rw [hi.2]; omega

theorem iblk1_apply (m : (ℓ : Loc nD τ sig) → Buf (Elt Ideal) ℓ) (c : Dev nD) (t : Fin cfg0.N) (k : Fin 1024) (b : Fin 256) :
    (iblk m c 1 t : Vec Ideal S1024x256 .bf16) (ix2 k b)
      = m ((c : Thread nD τ).loc main_arg0) (ix2 (⟨1024 * (t.val % 8) + k.val, by omega⟩ : Fin 8192) b) := by
  have hi := (by decide +kernel : ∀ t : Fin grid0.N, win0_1.index t 0 = t.val % 8 ∧ win0_1.index t 1 = 0) t
  refine congrArg (V m c main_arg0) (funext fun d => Fin.ext ?_)
  match d with
  | ⟨0, _⟩ => show win0_1.index t 0 * 1024 + 1 * k.val = 1024 * (t.val % 8) + k.val; rw [hi.1]; omega
  | ⟨1, _⟩ => show win0_1.index t 1 * 256 + 1 * b.val = b.val; rw [hi.2]; omega

section Fold

variable (m : (ℓ : Loc nD τ sig) → Buf (Elt Ideal) ℓ) (c : Dev nD)

/-- The two operands, as arrays of numbers. -/
def opL : S8192x1024.Idx → EReal := m ((c : Thread nD τ).loc main_arg1)
def opR : S8192x256.Idx → EReal := m ((c : Thread nD τ).loc main_arg0)

/-- The left operand at a row and a column, and the right one; zero outside them. -/
@[irreducible] def lhs (k a : ℕ) : EReal :=
  if h : k < 8192 ∧ a < 1024 then
    opL m c (ix2 ⟨k, h.1⟩ ⟨a, h.2⟩) else 0
@[irreducible] def rhs (k b : ℕ) : EReal :=
  if h : k < 8192 ∧ b < 256 then
    opR m c (ix2 ⟨k, h.1⟩ ⟨b, h.2⟩) else 0

/-- The addend of a point: the part of the sum over its row block. -/
theorem step_apply (s : Vec Ideal S1024x256 .f32) (t : Fin cfg0.N) (a : Fin 1024) (b : Fin 256) :
    k0_pay2 (F := Ideal) s (iblk m c 0 t) (iblk m c 1 t) (ix2 a b)
      = s (ix2 a b) + ∑ k ∈ Finset.range 1024,
          lhs m c (1024 * (t.val % 8) + k) (1024 * (t.val / 8) + a.val) * rhs m c (1024 * (t.val % 8) + k) b.val := by
  refine (pay2_apply s _ _ a b).trans ?_
  rw [Finset.sum_range]
  congr 1
  refine Finset.sum_congr rfl fun k _ => ?_
  have hN := lt_of_lt_of_eq t.isLt N_0
  have h1 : 1024 * (t.val % 8) + k.val < 8192 ∧ 1024 * (t.val / 8) + a.val < 1024 := by omega
  have h2 : 1024 * (t.val % 8) + k.val < 8192 ∧ b.val < 256 := by omega
  rw [iblk0_apply m c t k a, iblk1_apply m c t k b]
  unfold lhs rhs
  rw [dif_pos h1, dif_pos h2]
  rfl

/-- What a point that keeps the scratch leaves in it, when it found there the sum over the rows met before. -/
theorem step_sum (s : Vec Ideal S1024x256 .f32) (n : ℕ) (h : n + 1 < cfg0.N) (h0 : ¬(n + 1) % 8 = 0) (a : Fin 1024) (b : Fin 256)
    (hs : s (ix2 a b) = ∑ k ∈ Finset.range (1024 * (n % 8) + 1024), lhs m c k (1024 * (n / 8) + a.val) * rhs m c k b.val) :
    k0_pay2 (F := Ideal) s (iblk m c 0 ⟨n + 1, h⟩) (iblk m c 1 ⟨n + 1, h⟩) (ix2 a b)
      = ∑ k ∈ Finset.range (1024 * ((n + 1) % 8) + 1024), lhs m c k (1024 * ((n + 1) / 8) + a.val) * rhs m c k b.val := by
  have e1 : (n + 1) % 8 = n % 8 + 1 := by omega
  have e2 : (n + 1) / 8 = n / 8 := by omega
  have e3 : 1024 * (n % 8 + 1) = 1024 * (n % 8) + 1024 := by omega
  refine (step_apply m c s ⟨n + 1, h⟩ a b).trans ?_
  rw [hs]
  dsimp only
  rw [e1, e2, e3, Finset.sum_range_add _ (1024 * (n % 8) + 1024) 1024]

/-- What the scratch holds after a point: the sum over the rows met so far. -/
theorem scratch_eq (a : Fin 1024) (b : Fin 256) : ∀ (n : ℕ) (h : n < cfg0.N),
    (outsAt0 m c n h).2 (ix2 a b)
      = ∑ k ∈ Finset.range (1024 * (n % 8) + 1024), lhs m c k (1024 * (n / 8) + a.val) * rhs m c k b.val := by
  intro n
  induction n with
  | zero =>
    intro h
    rw [outsAt0_A m c ⟨0, h⟩ rfl (by dsimp only; omega)]
    dsimp only
    rw [sout_A, step_apply, pay1_apply, zero_add]
    exact Finset.sum_congr rfl fun k _ => by simp
  | succ n ih =>
    intro h
    by_cases h0 : (n + 1) % 8 = 0
    · rw [outsAt0_A m c ⟨n + 1, h⟩ h0 (by dsimp only; omega)]
      dsimp only
      rw [sout_A, step_apply, pay1_apply, zero_add]
      dsimp only
      rw [h0]
      exact Finset.sum_congr rfl fun k _ => by simp
    · have hs := ih (Nat.lt_of_succ_lt h)
      by_cases h7 : (n + 1) % 8 = 7
      · rw [outsAt0_C m c ⟨n + 1, h⟩ h0 h7]
        dsimp only
        rw [sout_C]
        exact step_sum m c _ n h h0 a b hs
      · rw [outsAt0_B m c ⟨n + 1, h⟩ h0 h7]
        dsimp only
        rw [sout_B]
        exact step_sum m c _ n h h0 a b hs

/-- The whole sum over the rows. -/
def prod (i : S1024x256.Idx) : EReal :=
  ∑ k : Fin 8192, opL m c (ix2 k (i 0)) * opR m c (ix2 k (i 1))

/-- What the last point of a block leaves in the output block. -/
theorem out_eq (a : Fin 1024) (b : Fin 256) (n : ℕ) (h : n < cfg0.N) (h7 : n % 8 = 7) :
    (outsAt0 m c n h).1 (ix2 a b)
      = ∑ k ∈ Finset.range 8192, lhs m c k (1024 * (n / 8) + a.val) * rhs m c k b.val := by
  have hs := scratch_eq m c a b n h
  rw [outsAt0_C m c ⟨n, h⟩ (by dsimp only; omega) h7] at hs ⊢
  dsimp only at hs ⊢
  rw [sout_C] at hs
  rw [out_C]
  refine (show k0_pay3 (F := Ideal) _ (ix2 a b) = _ from rfl).trans (hs.trans ?_)
  rw [h7]

/-- The result array is the product. -/
theorem G2_eq : (Value.G2 m c : S1024x256.Idx → EReal) = prod m c := by
  funext i
  have h0 : (i 0).val < 1024 := (i 0).isLt
  have h1 : (i 1).val < 256 := (i 1).isLt
  have hp : Value.pt2Of i < cfg0.N := lt_of_lt_of_eq (by unfold Value.pt2Of Value.run2Of; omega) N_0.symm
  unfold Value.G2
  rw [dif_pos hp, ← Value.outsAt0_sweep]
  have hl := congrArg (outsAt0 m c (Value.pt2Of i) hp).1 (ix2_eta (n0 := 1024) (n1 := 256) (Value.loc2Of i))
  refine hl.symm.trans ((out_eq m c _ _ _ hp (by unfold Value.pt2Of; omega)).trans ?_)
  rw [Finset.sum_range]
  unfold prod
  refine Finset.sum_congr rfl fun k _ => ?_
  have e0 : 1024 * (Value.pt2Of i / 8) + ((Value.loc2Of i) 0).val = (i 0).val := by
    show 1024 * ((8 * (1 * ((i 0).val / 1024 - 0) + 1 * ((i 1).val / 256 - 0)) + 7) / 8) + (i 0).val % 1024 = (i 0).val
    omega
  have e1 : ((Value.loc2Of i) 1).val = (i 1).val := by
    show (i 1).val % 256 = (i 1).val
    omega
  rw [e0, e1]
  unfold lhs rhs
  rw [dif_pos ⟨k.isLt, h0⟩, dif_pos ⟨k.isLt, h1⟩]
  rfl

end Fold

open Cert.Reference13Ideal.Read

/-- The reference's result is the product. -/
theorem ref_eq (x0 : S8192x256.Idx → EReal) (x1 : S8192x1024.Idx → EReal) (i : S1024x256.Idx) :
    val_main_v7 (F := Ideal) x0 x1 i
      = ∑ k : Fin 8192, x1 (ix2 k (i 0)) * x0 (ix2 k (i 1)) := by
  rw [val_main_v7_apply, val_main_v6_apply, val_main_v5_apply, val_main_v4_apply]
  refine Finset.sum_congr rfl fun k _ => ?_
  refine congrArg₂ (· * ·) (congrArg x1 (funext fun a => ?_)) (congrArg x0 (funext fun a => ?_))
  all_goals fin_cases a <;> rfl

/-- The claim. -/
theorem algebraic [Cert.Kernel13Ideal.Facts] [Cert.Reference13Ideal.Facts] :
    Cert.algebraic_Kernel13Ideal_Reference13Ideal := by
  intro m ρ m' ρ' _ hargs
  refine ⟨fun c => prod m c, ?_, ?_⟩
  · exact (θ_run _ _ _).mono (fun r h c => ⟨(h c).1.trans (G2_eq m c), (h c).2⟩) (Value.run (F := Ideal) m ρ)
  · refine (θ_run _ _ _).mono (fun r h c => ⟨?_, (h c).2⟩) (Cert.Reference13Ideal.Value.run (F := Ideal) m' ρ')
    refine (h c).1.trans ((val_main_v7_eq _ _).trans (funext fun i => ?_))
    rw [(hargs c).1, (hargs c).2]
    exact ref_eq _ _ i

end Cert.Kernel13Ideal.Dw

end
-- ==== Proof.Dw.Uv.lean ====
/-
  The weight gradient of `Kernel14Ideal`: the product lhsᵀ · rhs is accumulated over eight row blocks of the two
  operands, in a scratch block that is zeroed at the first and written back after the last of them. At exact
  arithmetic the result is one sum over all rows, which is what the reference's one product is.
-/
module

public import proofs.«01_k».proof.Defs
public import proofs.«01_k».proof.Proof.Gen.Kernel14Ideal.Value
public import proofs.«01_k».proof.Proof.Gen.Reference14Ideal.Read
public import Idealize.ShloMosaic.Lib.ValueIdx
public import Idealize.ShloMosaic.Lib.Pointwise

@[expose] public section

noncomputable section

namespace Cert.Kernel14Ideal.Dw

open Cert.Kernel14Ideal Cert.Kernel14Ideal.Gen Idealize.ShloMosaic Idealize.ShloMosaic.TcCoe Idealize.SL.Sem

section AnyInstance

variable {F : FTy → Type} [FloatOps F]

theorem hz : (![0, 0] : Fin 2 → Nat) = fun _ => 0 := funext fun a => by fin_cases a <;> rfl

variable (c : Dev nD) (i : grid0.Coords) (a3 : Memref sig .tc .vmem S1024x512 .bf16) (h3 : a3.IsWhole)
  (a4 : Memref sig .tc .vmem S1024x256 .bf16) (h4 : a4.IsWhole) (a5 : Memref sig .tc .vmem S512x256 .bf16)
  (h5 : a5.IsWhole) (a6 : Memref sig .tc .vmem S512x256 .f32) (h6 : a6.IsWhole)

/-- At the first of its points a block's scratch is left holding zero plus the product of the two blocks read. -/
theorem sout_A (hc0 : cond0_0 i) (hc1 : ¬cond0_1 i) (x : Vec F S1024x512 .bf16) (y : Vec F S1024x256 .bf16) :
    sout0_A_0 c i a3 h3 a4 h4 a5 h5 a6 h6 hc0 hc1 x y = k0_pay2 (k0_pay1 (F := F)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S512x256) hz, View.readCov_unit_zero (S := S512x256) _ hz]
  simp only [View.readAt_eq_ld, h3.read_unread, h4.read_unread, View.ld_unit_zero (S := S1024x512) hz,
    View.ld_unit_zero (S := S1024x256) hz]

/-- At a later point the product is added to what the scratch held. -/
theorem sout_B (hc0 : ¬cond0_0 i) (hc1 : ¬cond0_1 i) (x : Vec F S1024x512 .bf16) (y : Vec F S1024x256 .bf16) (s : Vec F S512x256 .f32) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero (S := S512x256) hz]
  simp only [View.readAt_eq_ld, h3.read_unread, h4.read_unread, h6.read_unread, View.ld_unit_zero (S := S1024x512) hz,
    View.ld_unit_zero (S := S1024x256) hz, View.ld_unit_zero (S := S512x256) hz]

/-- So at the last point. -/
theorem sout_C (hc0 : ¬cond0_0 i) (hc1 : cond0_1 i) (x : Vec F S1024x512 .bf16) (y : Vec F S1024x256 .bf16) (s : Vec F S512x256 .f32) :
    sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero (S := S512x256) hz]
  simp only [View.readAt_eq_ld, h3.read_unread, h4.read_unread, h6.read_unread, View.ld_unit_zero (S := S1024x512) hz,
    View.ld_unit_zero (S := S1024x256) hz, View.ld_unit_zero (S := S512x256) hz]

/-- At the last point the output block is left holding the scratch, narrowed. -/
theorem out_C (hc0 : ¬cond0_0 i) (hc1 : cond0_1 i) (x : Vec F S1024x512 .bf16) (y : Vec F S1024x256 .bf16) (s : Vec F S512x256 .f32) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S512x256) hz, View.readCov_unit_zero (S := S512x256) _ hz]
  simp only [View.readAt_eq_ld, h3.read_unread, h4.read_unread, h6.read_unread, View.ld_unit_zero (S := S1024x512) hz,
    View.ld_unit_zero (S := S1024x256) hz, View.ld_unit_zero (S := S512x256) hz]

end AnyInstance

/-- The zero block. -/
theorem pay1_apply (j : S512x256.Idx) : k0_pay1 (F := Ideal) j = 0 := by
  unfold k0_pay1
  rw [shapeCast_self]
  show Ideal.ofBits .f32 0x00000000#32 = 0
  simp [Ideal.ofBits, Ideal.ieee]

/-- One step adds the product of the two blocks, contracted over their rows. -/
theorem pay2_apply (s : Vec Ideal S512x256 .f32) (x : Vec Ideal S1024x512 .bf16) (y : Vec Ideal S1024x256 .bf16)
    (a : Fin 512) (b : Fin 256) :
    k0_pay2 (F := Ideal) s x y (ix2 a b) = s (ix2 a b) + ∑ k : Fin 1024, x (ix2 k a) * y (ix2 k b) := by
  unfold k0_pay2
  rw [shapeCast_self]
  show s (ix2 a b) + _ = _
  congr 1
  refine (Ideal.matmul_apply₁_of dot_S1024x512_S1024x256_S512x256_0_0_1_1_n_n (a := 0) (K := 1024) rfl rfl
    x y (constant (F := Ideal) S512x256 .f32 0x00000000#32) (ix2 a b) (fun k => ix2 k a) (fun k => ix2 k b) ?_ ?_).trans ?_
  · intro k; simp only [pointwise]
  · intro k; simp only [pointwise]
  · rw [show constant (F := Ideal) S512x256 .f32 0x00000000#32 (ix2 a b) = (0 : EReal) from by
      show Ideal.ofBits .f32 0x00000000#32 = 0
      simp [Ideal.ofBits, Ideal.ieee]]
    exact zero_add _

/-- Where the two blocks read at a point lie in their arrays. -/
theorem iblk0_apply (m : (ℓ : Loc nD τ sig) → Buf (Elt Ideal) ℓ) (c : Dev nD) (t : Fin cfg0.N) (k : Fin 1024)
    (a : Fin 512) :
    (iblk m c 0 t : Vec Ideal S1024x512 .bf16) (ix2 k a)
      = m ((c : Thread nD τ).loc main_arg1) (ix2 (⟨1024 * (t.val % 8) + k.val, by omega⟩ : Fin 8192)
          (⟨512 * (t.val / 8) + a.val, by have := lt_of_lt_of_eq t.isLt N_0; have := a.isLt; omega⟩ : Fin 512)) := by
  have hi := (by decide +kernel : ∀ t : Fin grid0.N, win0_0.index t 0 = t.val % 8 ∧ win0_0.index t 1 = t.val / 8) t
  refine congrArg (V m c main_arg1) (funext fun d => Fin.ext ?_)
  match d with
  | ⟨0, _⟩ => show win0_0.index t 0 * 1024 + 1 * k.val = 1024 * (t.val % 8) + k.val; rw [hi.1]; omega
  | ⟨1, _⟩ => show win0_0.index t 1 * 512 + 1 * a.val = 512 * (t.val / 8) + a.val; rw [hi.2]; omega

theorem iblk1_apply (m : (ℓ : Loc nD τ sig) → Buf (Elt Ideal) ℓ) (c : Dev nD) (t : Fin cfg0.N) (k : Fin 1024) (b : Fin 256) :
    (iblk m c 1 t : Vec Ideal S1024x256 .bf16) (ix2 k b)
      = m ((c : Thread nD τ).loc main_arg0) (ix2 (⟨1024 * (t.val % 8) + k.val, by omega⟩ : Fin 8192) b) := by
  have hi := (by decide +kernel : ∀ t : Fin grid0.N, win0_1.index t 0 = t.val % 8 ∧ win0_1.index t 1 = 0) t
  refine congrArg (V m c main_arg0) (funext fun d => Fin.ext ?_)
  match d with
  | ⟨0, _⟩ => show win0_1.index t 0 * 1024 + 1 * k.val = 1024 * (t.val % 8) + k.val; rw [hi.1]; omega
  | ⟨1, _⟩ => show win0_1.index t 1 * 256 + 1 * b.val = b.val; rw [hi.2]; omega

section Fold

variable (m : (ℓ : Loc nD τ sig) → Buf (Elt Ideal) ℓ) (c : Dev nD)

/-- The two operands, as arrays of numbers. -/
def opL : S8192x512.Idx → EReal := m ((c : Thread nD τ).loc main_arg1)
def opR : S8192x256.Idx → EReal := m ((c : Thread nD τ).loc main_arg0)

/-- The left operand at a row and a column, and the right one; zero outside them. -/
@[irreducible] def lhs (k a : ℕ) : EReal :=
  if h : k < 8192 ∧ a < 512 then
    opL m c (ix2 ⟨k, h.1⟩ ⟨a, h.2⟩) else 0
@[irreducible] def rhs (k b : ℕ) : EReal :=
  if h : k < 8192 ∧ b < 256 then
    opR m c (ix2 ⟨k, h.1⟩ ⟨b, h.2⟩) else 0

/-- The addend of a point: the part of the sum over its row block. -/
theorem step_apply (s : Vec Ideal S512x256 .f32) (t : Fin cfg0.N) (a : Fin 512) (b : Fin 256) :
    k0_pay2 (F := Ideal) s (iblk m c 0 t) (iblk m c 1 t) (ix2 a b)
      = s (ix2 a b) + ∑ k ∈ Finset.range 1024,
          lhs m c (1024 * (t.val % 8) + k) (512 * (t.val / 8) + a.val) * rhs m c (1024 * (t.val % 8) + k) b.val := by
  refine (pay2_apply s _ _ a b).trans ?_
  rw [Finset.sum_range]
  congr 1
  refine Finset.sum_congr rfl fun k _ => ?_
  have hN := lt_of_lt_of_eq t.isLt N_0
  have h1 : 1024 * (t.val % 8) + k.val < 8192 ∧ 512 * (t.val / 8) + a.val < 512 := by omega
  have h2 : 1024 * (t.val % 8) + k.val < 8192 ∧ b.val < 256 := by omega
  rw [iblk0_apply m c t k a, iblk1_apply m c t k b]
  unfold lhs rhs
  rw [dif_pos h1, dif_pos h2]
  rfl

/-- What a point that keeps the scratch leaves in it, when it found there the sum over the rows met before. -/
theorem step_sum (s : Vec Ideal S512x256 .f32) (n : ℕ) (h : n + 1 < cfg0.N) (h0 : ¬(n + 1) % 8 = 0) (a : Fin 512) (b : Fin 256)
    (hs : s (ix2 a b) = ∑ k ∈ Finset.range (1024 * (n % 8) + 1024), lhs m c k (512 * (n / 8) + a.val) * rhs m c k b.val) :
    k0_pay2 (F := Ideal) s (iblk m c 0 ⟨n + 1, h⟩) (iblk m c 1 ⟨n + 1, h⟩) (ix2 a b)
      = ∑ k ∈ Finset.range (1024 * ((n + 1) % 8) + 1024), lhs m c k (512 * ((n + 1) / 8) + a.val) * rhs m c k b.val := by
  have e1 : (n + 1) % 8 = n % 8 + 1 := by omega
  have e2 : (n + 1) / 8 = n / 8 := by omega
  have e3 : 1024 * (n % 8 + 1) = 1024 * (n % 8) + 1024 := by omega
  refine (step_apply m c s ⟨n + 1, h⟩ a b).trans ?_
  rw [hs]
  dsimp only
  rw [e1, e2, e3, Finset.sum_range_add _ (1024 * (n % 8) + 1024) 1024]

/-- What the scratch holds after a point: the sum over the rows met so far. -/
theorem scratch_eq (a : Fin 512) (b : Fin 256) : ∀ (n : ℕ) (h : n < cfg0.N),
    (outsAt0 m c n h).2 (ix2 a b)
      = ∑ k ∈ Finset.range (1024 * (n % 8) + 1024), lhs m c k (512 * (n / 8) + a.val) * rhs m c k b.val := by
  intro n
  induction n with
  | zero =>
    intro h
    rw [outsAt0_A m c ⟨0, h⟩ rfl (by dsimp only; omega)]
    dsimp only
    rw [sout_A, step_apply, pay1_apply, zero_add]
    exact Finset.sum_congr rfl fun k _ => by simp
  | succ n ih =>
    intro h
    by_cases h0 : (n + 1) % 8 = 0
    · rw [outsAt0_A m c ⟨n + 1, h⟩ h0 (by dsimp only; omega)]
      dsimp only
      rw [sout_A, step_apply, pay1_apply, zero_add]
      dsimp only
      rw [h0]
      exact Finset.sum_congr rfl fun k _ => by simp
    · have hs := ih (Nat.lt_of_succ_lt h)
      by_cases h7 : (n + 1) % 8 = 7
      · rw [outsAt0_C m c ⟨n + 1, h⟩ h0 h7]
        dsimp only
        rw [sout_C]
        exact step_sum m c _ n h h0 a b hs
      · rw [outsAt0_B m c ⟨n + 1, h⟩ h0 h7]
        dsimp only
        rw [sout_B]
        exact step_sum m c _ n h h0 a b hs

/-- The whole sum over the rows. -/
def prod (i : S512x256.Idx) : EReal :=
  ∑ k : Fin 8192, opL m c (ix2 k (i 0)) * opR m c (ix2 k (i 1))

/-- What the last point of a block leaves in the output block. -/
theorem out_eq (a : Fin 512) (b : Fin 256) (n : ℕ) (h : n < cfg0.N) (h7 : n % 8 = 7) :
    (outsAt0 m c n h).1 (ix2 a b)
      = ∑ k ∈ Finset.range 8192, lhs m c k (512 * (n / 8) + a.val) * rhs m c k b.val := by
  have hs := scratch_eq m c a b n h
  rw [outsAt0_C m c ⟨n, h⟩ (by dsimp only; omega) h7] at hs ⊢
  dsimp only at hs ⊢
  rw [sout_C] at hs
  rw [out_C]
  refine (show k0_pay3 (F := Ideal) _ (ix2 a b) = _ from rfl).trans (hs.trans ?_)
  rw [h7]

/-- The result array is the product. -/
theorem G2_eq : (Value.G2 m c : S512x256.Idx → EReal) = prod m c := by
  funext i
  have h0 : (i 0).val < 512 := (i 0).isLt
  have h1 : (i 1).val < 256 := (i 1).isLt
  have hp : Value.pt2Of i < cfg0.N := lt_of_lt_of_eq (by unfold Value.pt2Of Value.run2Of; omega) N_0.symm
  unfold Value.G2
  rw [dif_pos hp, ← Value.outsAt0_sweep]
  have hl := congrArg (outsAt0 m c (Value.pt2Of i) hp).1 (ix2_eta (n0 := 512) (n1 := 256) (Value.loc2Of i))
  refine hl.symm.trans ((out_eq m c _ _ _ hp (by unfold Value.pt2Of; omega)).trans ?_)
  rw [Finset.sum_range]
  unfold prod
  refine Finset.sum_congr rfl fun k _ => ?_
  have e0 : 512 * (Value.pt2Of i / 8) + ((Value.loc2Of i) 0).val = (i 0).val := by
    show 512 * ((8 * (1 * ((i 0).val / 512 - 0) + 1 * ((i 1).val / 256 - 0)) + 7) / 8) + (i 0).val % 512 = (i 0).val
    omega
  have e1 : ((Value.loc2Of i) 1).val = (i 1).val := by
    show (i 1).val % 256 = (i 1).val
    omega
  rw [e0, e1]
  unfold lhs rhs
  rw [dif_pos ⟨k.isLt, h0⟩, dif_pos ⟨k.isLt, h1⟩]
  rfl

end Fold

open Cert.Reference14Ideal.Read

/-- The reference's result is the product. -/
theorem ref_eq (x0 : S8192x256.Idx → EReal) (x1 : S8192x512.Idx → EReal) (i : S512x256.Idx) :
    val_main_v7 (F := Ideal) x0 x1 i
      = ∑ k : Fin 8192, x1 (ix2 k (i 0)) * x0 (ix2 k (i 1)) := by
  rw [val_main_v7_apply, val_main_v6_apply, val_main_v5_apply, val_main_v4_apply]
  refine Finset.sum_congr rfl fun k _ => ?_
  refine congrArg₂ (· * ·) (congrArg x1 (funext fun a => ?_)) (congrArg x0 (funext fun a => ?_))
  all_goals fin_cases a <;> rfl

/-- The claim. -/
theorem algebraic [Cert.Kernel14Ideal.Facts] [Cert.Reference14Ideal.Facts] :
    Cert.algebraic_Kernel14Ideal_Reference14Ideal := by
  intro m ρ m' ρ' _ hargs
  refine ⟨fun c => prod m c, ?_, ?_⟩
  · exact (θ_run _ _ _).mono (fun r h c => ⟨(h c).1.trans (G2_eq m c), (h c).2⟩) (Value.run (F := Ideal) m ρ)
  · refine (θ_run _ _ _).mono (fun r h c => ⟨?_, (h c).2⟩) (Cert.Reference14Ideal.Value.run (F := Ideal) m' ρ')
    refine (h c).1.trans ((val_main_v7_eq _ _).trans (funext fun i => ?_))
    rw [(hargs c).1, (hargs c).2]
    exact ref_eq _ _ i

end Cert.Kernel14Ideal.Dw

end
-- ==== Proof.FfnFwd.Pay.lean ====
/-
  What the body of `Kernel9Ideal`'s call computes, at a row and a column: `X` is the block of rows, `T` the target's,
  `G` and `P` the two norms' weights, `W` and `U` columns of the first weight, `Z` rows of the second.
-/
module

public import proofs.«01_k».proof.Proof.Gen.Kernel9Ideal.Skeleton
public import proofs.«01_k».proof.Proof.Fwd.Rows

@[expose] public section

noncomputable section

namespace Cert.Kernel9Ideal.FfnFwd

open Cert.Kernel9Ideal Cert.Kernel9Ideal.Gen Idealize.ShloMosaic Cert.Fwd

variable {x t : Vec Ideal S512x1024 .f32} {g p : Vec Ideal S1x1024 .f32} {X T : Fin 512 → Fin 1024 → EReal}
  {G P : Fin 1 → Fin 1024 → EReal} {h : FVec Ideal S512x1024 .bf16} {H : Fin 512 → Fin 1024 → EReal}
  {w u w' u' : Vec Ideal S1024x1408 .bf16} {W U W' U' : Fin 1024 → Fin 1408 → EReal} {z z' : Vec Ideal S1408x1024 .bf16}
  {Z Z' : Fin 1408 → Fin 1024 → EReal}

theorem pay3_E (hx : E2 x X) (hg : E2 g G) : E2 (k0_pay3 x g) fun j k => nrm (X j) k * G 0 k := by
  intro j k
  pointwise [k0_pay3]
  simp only [hx.at, hg.at]
  rfl

theorem pay5_E (hx : E2 x X) (hg : E2 g G) (hw : E2 w W) :
    E2 (k0_pay5 x g w) fun j n => mul (fun k => nrm (X j) k * G 0 k) W n := by
  intro j k
  pointwise [k0_pay5]
  simp only [(pay3_E hx hg).at, hw.at]
  rfl

theorem pay4_E (hx : E2 x X) (hg : E2 g G) (hw : E2 w W) (hu : E2 u U) (hz : E2 z Z) :
    E2 (k0_pay4 x g w u z) fun j n => mul (hid (fun k => nrm (X j) k * G 0 k) W U) Z n := by
  intro j k
  pointwise [k0_pay4]
  simp only [(pay3_E hx hg).at, hw.at, hu.at, hz.at]
  rfl

theorem pay6_E (hx : E2 x X) (hg : E2 g G) (hw : E2 w W) (hu : E2 u U) (hz : E2 z Z) (hw' : E2 w' W') (hu' : E2 u' U')
    (hz' : E2 z' Z') : E2 (k0_pay6 (k0_pay3 x g) (k0_pay4 x g w u z) (k0_pay5 x g w') u' z') fun j n =>
      mul (hid (fun k => nrm (X j) k * G 0 k) W U) Z n + mul (hid (fun k => nrm (X j) k * G 0 k) W' U') Z' n := by
  intro j k
  pointwise [k0_pay6]
  simp only [(pay3_E hx hg).at, (pay4_E hx hg hw hu hz).at, (pay5_E hx hg hw').at, hu'.at, hz'.at]
  rfl

theorem pay8_E {f : Fin 512 → Fin 1024 → EReal} {a : FVec Ideal S512x1024 .bf16} {b : FVec Ideal S512x1024 .f32}
    {c : FVec Ideal S512x1408 .f32} (hf : E2 (k0_pay6 a b c u z) f) (hx : E2 x X) (hp : E2 p P) (ht : E2 t T) :
    E2 (k0_pay8 x a b c u z p t) fun j k =>
      (X j k + nrm (f j) k * P 0 k - T j k) * Ideal.ofBits .f32 0x3A800000#32 := by
  intro j k
  pointwise [k0_pay8, k0_pay7]
  simp only [hf.at, hx.at, hp.at, ht.at]
  rfl

end Cert.Kernel9Ideal.FfnFwd

end
-- ==== Proof.FfnFwd.Out.lean ====
/-
  What the body of `Kernel9Ideal`'s call leaves in its three large output blocks, at the first point and at the others:
  the same functions of a row.
-/
module

public import proofs.«01_k».proof.Proof.Gen.Kernel9Ideal.Value
public import proofs.«01_k».proof.Proof.FfnFwd.Pay

@[expose] public section

set_option maxRecDepth 16384

noncomputable section

namespace Cert.Kernel9Ideal.FfnFwd

open Cert.Kernel9Ideal Cert.Kernel9Ideal.Gen Idealize.ShloMosaic Idealize.ShloMosaic.TcCoe Idealize.SL.Sem Cert.Fwd

variable {x0 x1 : Vec Ideal S512x1024 .f32} {x2 x3 : Vec Ideal S1x1024 .f32} {x4 : Vec Ideal S1024x5632 .bf16}
  {x5 : Vec Ideal S2816x1024 .bf16} {xo9 : Vec Ideal S8x128 .f32} {X T : Fin 512 → Fin 1024 → EReal}
  {G P : Fin 1 → Fin 1024 → EReal} {W : Fin 1024 → Fin 5632 → EReal} {Z : Fin 2816 → Fin 1024 → EReal}

/-- The row the first product takes, the block's output before its norm, and the gradient of the row the layer leaves. -/
def hrow {n : Nat} (X : Fin n → Fin 1024 → EReal) (G : Fin 1 → Fin 1024 → EReal) (j : Fin n) (k : Fin 1024) : EReal :=
  nrm (X j) k * G 0 k
def frow {n : Nat} (X : Fin n → Fin 1024 → EReal) (G : Fin 1 → Fin 1024 → EReal) (W : Fin 1024 → Fin 5632 → EReal)
    (Z : Fin 2816 → Fin 1024 → EReal) (j : Fin n) (k : Fin 1024) : EReal :=
  mul (hid (hrow X G j) (cols 0 2816 (by norm_num) W) (cols 2816 2816 (by norm_num) W)) Z k
def drow {n : Nat} (X T : Fin n → Fin 1024 → EReal) (G P : Fin 1 → Fin 1024 → EReal) (W : Fin 1024 → Fin 5632 → EReal)
    (Z : Fin 2816 → Fin 1024 → EReal) (j : Fin n) (k : Fin 1024) : EReal :=
  (X j k + nrm (frow X G W Z j) k * P 0 k - T j k) * Ideal.ofBits .f32 0x3A800000#32

/-- Half of the hidden columns. -/
theorem hid_half (H : Fin 1024 → EReal) (W : Fin 1024 → Fin 5632 → EReal) (o : Nat) (ho : o + 1408 ≤ 2816) (i : Fin 1408) :
    hid H (cols o 1408 (by omega) W) (cols (2816 + o) 1408 (by omega) W) i
      = hid H (cols 0 2816 (by norm_num) W) (cols 2816 2816 (by norm_num) W) ⟨o + i.val, by have := i.isLt; omega⟩ := by
  have e1 : (⟨o + i.val, by have := i.isLt; omega⟩ : Fin 5632) = ⟨0 + (o + i.val), by have := i.isLt; omega⟩ :=
    Fin.ext (Nat.zero_add _).symm
  have e2 : (⟨2816 + o + i.val, by have := i.isLt; omega⟩ : Fin 5632) = ⟨2816 + (o + i.val), by have := i.isLt; omega⟩ :=
    Fin.ext (Nat.add_assoc _ _ _)
  unfold hid mul cols
  dsimp only
  rw [e1, e2]

theorem frow_eq {n : Nat} (X : Fin n → Fin 1024 → EReal) (G : Fin 1 → Fin 1024 → EReal) (W : Fin 1024 → Fin 5632 → EReal)
    (Z : Fin 2816 → Fin 1024 → EReal) (j : Fin n) (k : Fin 1024) :
    mul (hid (hrow X G j) (cols 0 1408 (by norm_num) W) (cols 2816 1408 (by norm_num) W)) (rows 0 1408 (by norm_num) Z) k
      + mul (hid (hrow X G j) (cols 1408 1408 (by norm_num) W) (cols 4224 1408 (by norm_num) W)) (rows 1408 1408 (by norm_num) Z) k
      = frow X G W Z j k := by
  unfold frow
  rw [← mul_halves]
  refine congrArg₂ (fun u v => mul u (rows 0 1408 (by norm_num) Z) k + mul v (rows 1408 1408 (by norm_num) Z) k) ?_ ?_
  · funext i
    exact hid_half (hrow X G j) W 0 (by norm_num) i
  · funext i
    exact hid_half (hrow X G j) W 1408 (by norm_num) i

section CaseA

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S8x128 .f32) (harg10 : arg10.IsWhole) (hc0 : cond0_0 i)

include hc0 in
theorem out_A_8 (h0 : E2 x0 X) (h2 : E2 x2 G) :
    E2 (out0_A_8 c i arg1 harg1 arg2 harg2 arg3 harg3 arg4 harg4 arg5 harg5 arg6 harg6 arg7 harg7 arg8 harg8 arg9 harg9 arg10 harg10 hc0 x0 x1 x2 x3 x4 x5) (hrow X G) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero (S := S512x1024) hz]
  simp only [View.readAt_eq_ld, harg1.read_unread, harg3.read_unread, View.ld_unit_zero (S := S512x1024) hz, View.ld_unit_zero (S := S1x1024) hz]
  exact pay3_E h0 h2

include hc0 in
theorem out_A_7 (h0 : E2 x0 X) (h2 : E2 x2 G) (h4 : E2 x4 W) (h5 : E2 x5 Z) :
    E2 (out0_A_7 c i arg1 harg1 arg2 harg2 arg3 harg3 arg4 harg4 arg5 harg5 arg6 harg6 arg7 harg7 arg8 harg8 arg9 harg9 arg10 harg10 hc0 x0 x1 x2 x3 x4 x5) (frow X G W Z) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero (S := S512x1024) hz]
  simp only [View.readAt_eq_ld, harg1.read_unread, harg3.read_unread, harg5.read_unread, harg6.read_unread, View.ld_unit_zero (S := S512x1024) hz, View.ld_unit_zero (S := S1x1024) hz]
  exact (pay6_E h0 h2 (ld_cols 0 (by norm_num) _ h4) (ld_cols 2816 (by norm_num) _ h4) (ld_rows 0 (by norm_num) _ h5)
    (ld_cols 1408 (by norm_num) _ h4) (ld_cols 4224 (by norm_num) _ h4) (ld_rows 1408 (by norm_num) _ h5)).congr
    fun j k => frow_eq X G W Z j k

include hc0 in
theorem out_A_6 (h0 : E2 x0 X) (h1 : E2 x1 T) (h2 : E2 x2 G) (h3 : E2 x3 P) (h4 : E2 x4 W) (h5 : E2 x5 Z) :
    E2 (out0_A_6 c i arg1 harg1 arg2 harg2 arg3 harg3 arg4 harg4 arg5 harg5 arg6 harg6 arg7 harg7 arg8 harg8 arg9 harg9 arg10 harg10 hc0 x0 x1 x2 x3 x4 x5) (drow X T G P W Z) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero (S := S512x1024) hz]
  simp only [View.readAt_eq_ld, harg1.read_unread, harg2.read_unread, harg3.read_unread, harg4.read_unread, harg5.read_unread, harg6.read_unread, View.ld_unit_zero (S := S512x1024) hz, View.ld_unit_zero (S := S1x1024) hz]
  exact pay8_E ((pay6_E h0 h2 (ld_cols 0 (by norm_num) _ h4) (ld_cols 2816 (by norm_num) _ h4) (ld_rows 0 (by norm_num) _ h5)
    (ld_cols 1408 (by norm_num) _ h4) (ld_cols 4224 (by norm_num) _ h4) (ld_rows 1408 (by norm_num) _ h5)).congr
    fun j k => frow_eq X G W Z j k) h0 h3 h1

end CaseA

section CaseB

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S8x128 .f32) (harg10 : arg10.IsWhole) (hc0 : ¬cond0_0 i)

include hc0 in
theorem out_B_8 (h0 : E2 x0 X) (h2 : E2 x2 G) :
    E2 (out0_B_8 c i arg1 harg1 arg2 harg2 arg3 harg3 arg4 harg4 arg5 harg5 arg6 harg6 arg7 harg7 arg8 harg8 arg9 harg9 arg10 harg10 hc0 x0 x1 x2 x3 x4 x5 xo9) (hrow X G) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 xo9)]
  unfold kernelRun0_B
  dsimp only
  sl_unfold_words
  rw [View.canon_unit_zero (S := S512x1024) hz]
  simp only [View.readAt_eq_ld, harg1.read_unread, harg3.read_unread, View.ld_unit_zero (S := S512x1024) hz, View.ld_unit_zero (S := S1x1024) hz]
  exact pay3_E h0 h2

include hc0 in
theorem out_B_7 (h0 : E2 x0 X) (h2 : E2 x2 G) (h4 : E2 x4 W) (h5 : E2 x5 Z) :
    E2 (out0_B_7 c i arg1 harg1 arg2 harg2 arg3 harg3 arg4 harg4 arg5 harg5 arg6 harg6 arg7 harg7 arg8 harg8 arg9 harg9 arg10 harg10 hc0 x0 x1 x2 x3 x4 x5 xo9) (frow X G W Z) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 x5 xo9)]
  unfold kernelRun0_B
  dsimp only
  sl_unfold_words
  rw [View.canon_unit_zero (S := S512x1024) hz]
  simp only [View.readAt_eq_ld, harg1.read_unread, harg3.read_unread, harg5.read_unread, harg6.read_unread, View.ld_unit_zero (S := S512x1024) hz, View.ld_unit_zero (S := S1x1024) hz]
  exact (pay6_E h0 h2 (ld_cols 0 (by norm_num) _ h4) (ld_cols 2816 (by norm_num) _ h4) (ld_rows 0 (by norm_num) _ h5)
    (ld_cols 1408 (by norm_num) _ h4) (ld_cols 4224 (by norm_num) _ h4) (ld_rows 1408 (by norm_num) _ h5)).congr
    fun j k => frow_eq X G W Z j k

include hc0 in
theorem out_B_6 (h0 : E2 x0 X) (h1 : E2 x1 T) (h2 : E2 x2 G) (h3 : E2 x3 P) (h4 : E2 x4 W) (h5 : E2 x5 Z) :
    E2 (out0_B_6 c i arg1 harg1 arg2 harg2 arg3 harg3 arg4 harg4 arg5 harg5 arg6 harg6 arg7 harg7 arg8 harg8 arg9 harg9 arg10 harg10 hc0 x0 x1 x2 x3 x4 x5 xo9) (drow X T G P W Z) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 x4 x5 xo9)]
  unfold kernelRun0_B
  dsimp only
  sl_unfold_words
  rw [View.canon_unit_zero (S := S512x1024) hz]
  simp only [View.readAt_eq_ld, harg1.read_unread, harg2.read_unread, harg3.read_unread, harg4.read_unread, harg5.read_unread, harg6.read_unread, View.ld_unit_zero (S := S512x1024) hz, View.ld_unit_zero (S := S1x1024) hz]
  exact pay8_E ((pay6_E h0 h2 (ld_cols 0 (by norm_num) _ h4) (ld_cols 2816 (by norm_num) _ h4) (ld_rows 0 (by norm_num) _ h5)
    (ld_cols 1408 (by norm_num) _ h4) (ld_cols 4224 (by norm_num) _ h4) (ld_rows 1408 (by norm_num) _ h5)).congr
    fun j k => frow_eq X G W Z j k) h0 h3 h1

end CaseB

end Cert.Kernel9Ideal.FfnFwd

end
-- ==== Proof.FfnFwd.Host.lean ====
/-
  What the host code of `Kernel9Ideal` hands its call: the two weights narrowed.
-/
module

public import proofs.«01_k».proof.Proof.Gen.Kernel9Ideal.Value
public import proofs.«01_k».proof.Proof.Fwd.Rows
public import Idealize.ShloMosaic.Lib.Claim
public import Idealize.ShloMosaic.Lib.StableHlo.RunRead

@[expose] public section

noncomputable section

namespace Cert.Kernel9Ideal.FfnFwd

open Cert.Kernel9Ideal Cert.Kernel9Ideal.Gen Idealize.ShloMosaic Idealize.ShloMosaic.TcCoe Idealize.SL.Sem

variable (m : (ℓ : Loc nD τ sig) → Buf (Elt Ideal) ℓ) (c : Dev nD)

theorem V_v0 : V m c main_v0
    = (truncf .bf16 (m ((c : Thread nD τ).loc main_arg4) : FVec Ideal S1024x5632 .f32) bitsLt_bf16_f32 : FVec Ideal S1024x5632 .bf16) := by
  unfold V
  after_reads_simp

theorem V_v1 : V m c main_v1
    = (truncf .bf16 (m ((c : Thread nD τ).loc main_arg5) : FVec Ideal S2816x1024 .f32) bitsLt_bf16_f32 : FVec Ideal S2816x1024 .bf16) := by
  unfold V
  after_reads_simp

end Cert.Kernel9Ideal.FfnFwd

end
-- ==== Proof.FfnFwd.Arr.lean ====
/-
  The three large results of `Kernel9Ideal`'s call: block by block the functions of a row that `FfnFwd/Out` finds, the
  blocks put together.
-/
module

public import proofs.«01_k».proof.Proof.FfnFwd.Out
public import proofs.«01_k».proof.Proof.FfnFwd.Host
public import Idealize.ShloMosaic.Lib.Pipeline.ValueKit.Geometry

@[expose] public section

noncomputable section

namespace Cert.Kernel9Ideal.FfnFwd

open Cert.Kernel9Ideal Cert.Kernel9Ideal.Gen Idealize.ShloMosaic Idealize.ShloMosaic.TcCoe Idealize.SL.Sem Cert.Fwd

variable (m : (ℓ : Loc nD τ sig) → Buf (Elt Ideal) ℓ) (c : Dev nD)

/-- What the arguments hold. -/
structure Args (X T : Fin 8192 → Fin 1024 → EReal) (G P : Fin 1 → Fin 1024 → EReal) (W : Fin 1024 → Fin 5632 → EReal)
    (Z : Fin 2816 → Fin 1024 → EReal) : Prop where
  a0 : E2 (m ((c : Thread nD τ).loc main_arg0)) X
  a1 : E2 (m ((c : Thread nD τ).loc main_arg1)) T
  a2 : E2 (m ((c : Thread nD τ).loc main_arg2)) G
  a3 : E2 (m ((c : Thread nD τ).loc main_arg3)) P
  a4 : E2 (m ((c : Thread nD τ).loc main_arg4)) W
  a5 : E2 (m ((c : Thread nD τ).loc main_arg5)) Z

/-- Row `j` of a point's block. -/
def row (t : Fin cfg0.N) (j : Fin 512) : Fin 8192 :=
  ⟨512 * t.val + j.val, by have := lt_of_lt_of_eq t.isLt N_0; have := j.isLt; omega⟩

section Blocks

variable {m c} {X T : Fin 8192 → Fin 1024 → EReal} {G P : Fin 1 → Fin 1024 → EReal} {W : Fin 1024 → Fin 5632 → EReal}
    {Z : Fin 2816 → Fin 1024 → EReal}

theorem blk0 (h : Args m c X T G P W Z) (t : Fin cfg0.N) :
    E2 (iblk m c 0 t : Vec Ideal S512x1024 .f32) (fun j => X (row t j)) := by
  intro j k
  refine Eq.trans ?_ (h.a0.at (row t j) k)
  unfold iblk
  rw [View.read_apply]
  show V m c main_arg0 _ = _
  rw [V_main_arg0]
  congr 1
  have hi := (by decide +kernel : ∀ t : Fin grid0.N, win0_0.index t 0 = t.val ∧ win0_0.index t 1 = 0) t
  funext d
  apply Fin.ext
  match d with
  | ⟨0, _⟩ => show win0_0.index t 0 * 512 + 1 * j.val = 512 * t.val + j.val; rw [hi.1]; omega
  | ⟨1, _⟩ => show win0_0.index t 1 * 1024 + 1 * k.val = k.val; rw [hi.2]; omega

theorem blk1 (h : Args m c X T G P W Z) (t : Fin cfg0.N) :
    E2 (iblk m c 1 t : Vec Ideal S512x1024 .f32) (fun j => T (row t j)) := by
  intro j k
  refine Eq.trans ?_ (h.a1.at (row t j) k)
  unfold iblk
  rw [View.read_apply]
  show V m c main_arg1 _ = _
  rw [V_main_arg1]
  congr 1
  have hi := (by decide +kernel : ∀ t : Fin grid0.N, win0_1.index t 0 = t.val ∧ win0_1.index t 1 = 0) t
  funext d
  apply Fin.ext
  match d with
  | ⟨0, _⟩ => show win0_1.index t 0 * 512 + 1 * j.val = 512 * t.val + j.val; rw [hi.1]; omega
  | ⟨1, _⟩ => show win0_1.index t 1 * 1024 + 1 * k.val = k.val; rw [hi.2]; omega

theorem blk2 (h : Args m c X T G P W Z) (t : Fin cfg0.N) :
    E2 (iblk m c 2 t : Vec Ideal S1x1024 .f32) G := by
  intro j k
  refine Eq.trans ?_ (h.a2.at j k)
  unfold iblk
  rw [View.read_apply]
  show V m c main_arg2 _ = _
  rw [V_main_arg2]
  congr 1
  have hi := (by decide +kernel : ∀ t : Fin grid0.N, win0_2.index t 0 = 0 ∧ win0_2.index t 1 = 0) t
  funext d
  apply Fin.ext
  match d with
  | ⟨0, _⟩ => show win0_2.index t 0 * 1 + 1 * j.val = j.val; rw [hi.1]; omega
  | ⟨1, _⟩ => show win0_2.index t 1 * 1024 + 1 * k.val = k.val; rw [hi.2]; omega

theorem blk3 (h : Args m c X T G P W Z) (t : Fin cfg0.N) :
    E2 (iblk m c 3 t : Vec Ideal S1x1024 .f32) P := by
  intro j k
  refine Eq.trans ?_ (h.a3.at j k)
  unfold iblk
  rw [View.read_apply]
  show V m c main_arg3 _ = _
  rw [V_main_arg3]
  congr 1
  have hi := (by decide +kernel : ∀ t : Fin grid0.N, win0_3.index t 0 = 0 ∧ win0_3.index t 1 = 0) t
  funext d
  apply Fin.ext
  match d with
  | ⟨0, _⟩ => show win0_3.index t 0 * 1 + 1 * j.val = j.val; rw [hi.1]; omega
  | ⟨1, _⟩ => show win0_3.index t 1 * 1024 + 1 * k.val = k.val; rw [hi.2]; omega

theorem blk4 (h : Args m c X T G P W Z) (t : Fin cfg0.N) :
    E2 (iblk m c 4 t : Vec Ideal S1024x5632 .bf16) W := by
  intro j k
  refine Eq.trans ?_ (h.a4.at j k)
  unfold iblk
  rw [View.read_apply]
  show V m c main_v0 _ = _
  rw [V_v0]
  show m _ _ = m _ _
  congr 1
  have hi := (by decide +kernel : ∀ t : Fin grid0.N, win0_4.index t 0 = 0 ∧ win0_4.index t 1 = 0) t
  funext d
  apply Fin.ext
  match d with
  | ⟨0, _⟩ => show win0_4.index t 0 * 1024 + 1 * j.val = j.val; rw [hi.1]; omega
  | ⟨1, _⟩ => show win0_4.index t 1 * 5632 + 1 * k.val = k.val; rw [hi.2]; omega

theorem blk5 (h : Args m c X T G P W Z) (t : Fin cfg0.N) :
    E2 (iblk m c 5 t : Vec Ideal S2816x1024 .bf16) Z := by
  intro j k
  refine Eq.trans ?_ (h.a5.at j k)
  unfold iblk
  rw [View.read_apply]
  show V m c main_v1 _ = _
  rw [V_v1]
  show m _ _ = m _ _
  congr 1
  have hi := (by decide +kernel : ∀ t : Fin grid0.N, win0_5.index t 0 = 0 ∧ win0_5.index t 1 = 0) t
  funext d
  apply Fin.ext
  match d with
  | ⟨0, _⟩ => show win0_5.index t 0 * 2816 + 1 * j.val = j.val; rw [hi.1]; omega
  | ⟨1, _⟩ => show win0_5.index t 1 * 1024 + 1 * k.val = k.val; rw [hi.2]; omega

/-- What a point leaves in output block 6. -/
theorem left6 (h : Args m c X T G P W Z) (t : Fin cfg0.N) :
    E2 ((outsAt0 m c t.val t.isLt).1 : Vec Ideal S512x1024 .f32) fun j => drow X T G P W Z (row t j) := by
  by_cases h0 : t.val % 16 = 0
  · simp only [outsAt0_A m c t h0]
    exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (blk0 h t) (blk1 h t) (blk2 h t) (blk3 h t) (blk4 h t) (blk5 h t)
  · simp only [outsAt0_B m c t h0]
    exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (blk0 h t) (blk1 h t) (blk2 h t) (blk3 h t) (blk4 h t) (blk5 h t)

theorem final6 (h : Args m c X T G P W Z) : (dats m 0 c).arrAt 6 cfg0.N = mat (drow X T G P W Z) := by
  refine (dats m 0 c).arrAt_eq_of_covers 6 _ (by decide +kernel) fun t hf y => ?_
  blk_simp
  rw [after0_6]
  have hi := (by decide +kernel : ∀ t : Fin grid0.N, win0_6.index t 0 = t.val ∧ win0_6.index t 1 = 0) t
  obtain ⟨j, k, rfl⟩ : ∃ (j : Fin 512) (k : Fin 1024), y = ix2 j k := ⟨y 0, y 1, by funext d; fin_cases d <;> rfl⟩
  refine (left6 h t j k).trans ?_
  have e0 : ((win0_6.blk t).view.emb (ix2 j k)) 0 = row t j := by
    apply Fin.ext
    show win0_6.index t 0 * 512 + 1 * j.val = 512 * t.val + j.val
    rw [hi.1]; omega
  have e1 : ((win0_6.blk t).view.emb (ix2 j k)) 1 = k := by
    apply Fin.ext
    show win0_6.index t 1 * 1024 + 1 * k.val = k.val
    rw [hi.2]; omega
  show _ = (drow X T G P W Z) (((win0_6.blk t).view.emb (ix2 j k)) 0) (((win0_6.blk t).view.emb (ix2 j k)) 1)
  rw [e0, e1]

/-- What a point leaves in output block 7. -/
theorem left7 (h : Args m c X T G P W Z) (t : Fin cfg0.N) :
    E2 ((outsAt0 m c t.val t.isLt).2.1 : Vec Ideal S512x1024 .f32) fun j => frow X G W Z (row t j) := by
  by_cases h0 : t.val % 16 = 0
  · simp only [outsAt0_A m c t h0]
    exact out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (blk0 h t) (blk2 h t) (blk4 h t) (blk5 h t)
  · simp only [outsAt0_B m c t h0]
    exact out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (blk0 h t) (blk2 h t) (blk4 h t) (blk5 h t)

theorem final7 (h : Args m c X T G P W Z) : (dats m 0 c).arrAt 7 cfg0.N = mat (frow X G W Z) := by
  refine (dats m 0 c).arrAt_eq_of_covers 7 _ (by decide +kernel) fun t hf y => ?_
  blk_simp
  rw [after0_7]
  have hi := (by decide +kernel : ∀ t : Fin grid0.N, win0_7.index t 0 = t.val ∧ win0_7.index t 1 = 0) t
  obtain ⟨j, k, rfl⟩ : ∃ (j : Fin 512) (k : Fin 1024), y = ix2 j k := ⟨y 0, y 1, by funext d; fin_cases d <;> rfl⟩
  refine (left7 h t j k).trans ?_
  have e0 : ((win0_7.blk t).view.emb (ix2 j k)) 0 = row t j := by
    apply Fin.ext
    show win0_7.index t 0 * 512 + 1 * j.val = 512 * t.val + j.val
    rw [hi.1]; omega
  have e1 : ((win0_7.blk t).view.emb (ix2 j k)) 1 = k := by
    apply Fin.ext
    show win0_7.index t 1 * 1024 + 1 * k.val = k.val
    rw [hi.2]; omega
  show _ = (frow X G W Z) (((win0_7.blk t).view.emb (ix2 j k)) 0) (((win0_7.blk t).view.emb (ix2 j k)) 1)
  rw [e0, e1]

/-- What a point leaves in output block 8. -/
theorem left8 (h : Args m c X T G P W Z) (t : Fin cfg0.N) :
    E2 ((outsAt0 m c t.val t.isLt).2.2.1 : Vec Ideal S512x1024 .bf16) fun j => hrow X G (row t j) := by
  by_cases h0 : t.val % 16 = 0
  · simp only [outsAt0_A m c t h0]
    exact out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (blk0 h t) (blk2 h t)
  · simp only [outsAt0_B m c t h0]
    exact out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (blk0 h t) (blk2 h t)

theorem final8 (h : Args m c X T G P W Z) : (dats m 0 c).arrAt 8 cfg0.N = mat (hrow X G) := by
  refine (dats m 0 c).arrAt_eq_of_covers 8 _ (by decide +kernel) fun t hf y => ?_
  blk_simp
  rw [after0_8]
  have hi := (by decide +kernel : ∀ t : Fin grid0.N, win0_8.index t 0 = t.val ∧ win0_8.index t 1 = 0) t
  obtain ⟨j, k, rfl⟩ : ∃ (j : Fin 512) (k : Fin 1024), y = ix2 j k := ⟨y 0, y 1, by funext d; fin_cases d <;> rfl⟩
  refine (left8 h t j k).trans ?_
  have e0 : ((win0_8.blk t).view.emb (ix2 j k)) 0 = row t j := by
    apply Fin.ext
    show win0_8.index t 0 * 512 + 1 * j.val = 512 * t.val + j.val
    rw [hi.1]; omega
  have e1 : ((win0_8.blk t).view.emb (ix2 j k)) 1 = k := by
    apply Fin.ext
    show win0_8.index t 1 * 1024 + 1 * k.val = k.val
    rw [hi.2]; omega
  show _ = (hrow X G) (((win0_8.blk t).view.emb (ix2 j k)) 0) (((win0_8.blk t).view.emb (ix2 j k)) 1)
  rw [e0, e1]

end Blocks

end Cert.Kernel9Ideal.FfnFwd

end
-- ==== Proof.FfnFwd.Ref.lean ====
/-
  The reference of the forward feed-forward call, stage by stage: row by row the functions the kernel computes.
-/
module

public import proofs.«01_k».proof.Proof.Gen.Reference9Ideal.Read
public import proofs.«01_k».proof.Proof.FfnFwd.Out
public import proofs.«01_k».proof.Proof.Real

@[expose] public section

noncomputable section

namespace Cert.Reference9Ideal.FfnFwd

open Cert.Reference9Ideal Cert.Reference9Ideal.Gen Cert.Reference9Ideal.Read Idealize.ShloMosaic Idealize.SL.Sem Cert.Fwd
open Cert.Kernel9Ideal.FfnFwd (hrow frow drow)

variable {x0 x1 : (⟨S8192x1024, .f32⟩ : BufTy).Contents (Elt Ideal)} {x2 x3 : (⟨S1x1024, .f32⟩ : BufTy).Contents (Elt Ideal)}
  {x4 : (⟨S1024x5632, .f32⟩ : BufTy).Contents (Elt Ideal)} {x5 : (⟨S2816x1024, .f32⟩ : BufTy).Contents (Elt Ideal)}
  {X T : Fin 8192 → Fin 1024 → EReal} {G P : Fin 1 → Fin 1024 → EReal} {W : Fin 1024 → Fin 5632 → EReal}
  {Z : Fin 2816 → Fin 1024 → EReal}

theorem v11_E (h0 : E2 x0 X) (h2 : E2 x2 G) : E2 (val_main_v11 (F := Ideal) x0 x2) (hrow X G) := by
  intro j k
  pointwise [val_main_v11, val_main_v10, val_main_v9, val_main_v8, val_main_v7, val_main_v6, val_main_v5, val_main_v4, val_main_v3, val_main_v2, val_main_v1, val_main_v0, val_main_cst, val_main_cst_0, val_main_cst_1]
  simp only [h0.at, h2.at]
  rfl

theorem v46_E (h0 : E2 x0 X) (h2 : E2 x2 G) : E2 (val_main_v46 (F := Ideal) x0 x2) (hrow X G) := fun j k => v11_E h0 h2 j k

theorem v12_E (h0 : E2 x0 X) (h2 : E2 x2 G) (h4 : E2 x4 W) :
    E2 (val_main_v12 (F := Ideal) x0 x2 x4) fun j n => mul (hrow X G j) W n := by
  intro j n
  pointwise [val_main_v12]
  simp only [(v11_E h0 h2).at, h4.at]
  rfl

theorem v13_E (h0 : E2 x0 X) (h2 : E2 x2 G) (h4 : E2 x4 W) :
    E2 (val_main_v13 (F := Ideal) x0 x2 x4) fun j n => mul (hrow X G j) (cols 0 2816 (by norm_num) W) n := by
  intro j n
  pointwise [val_main_v13]
  simp only [(v12_E h0 h2 h4).at]
  exact congrArg (mul (hrow X G j) W) (Fin.ext (Nat.zero_add _).symm)

theorem v14_E (h0 : E2 x0 X) (h2 : E2 x2 G) (h4 : E2 x4 W) :
    E2 (val_main_v14 (F := Ideal) x0 x2 x4) fun j n => mul (hrow X G j) (cols 2816 2816 (by norm_num) W) n := by
  intro j n
  pointwise [val_main_v14]
  simp only [(v12_E h0 h2 h4).at]
  rfl

theorem v16_E (h0 : E2 x0 X) (h2 : E2 x2 G) (h4 : E2 x4 W) :
    E2 (val_main_v16 (F := Ideal) x0 x2 x4)
      fun j n => hid (hrow X G j) (cols 0 2816 (by norm_num) W) (cols 2816 2816 (by norm_num) W) n := by
  intro j n
  pointwise [val_main_v16, val_main_v15, val_main_call0_v5, val_main_call0_v4, val_main_call0_v3, val_main_call0_v2, val_main_call0_v1, val_main_call0_v0, val_main_call0_cst, val_main_call0_cst_0]
  simp only [(v13_E h0 h2 h4).at, (v14_E h0 h2 h4).at]
  rfl

theorem v17_E (h0 : E2 x0 X) (h2 : E2 x2 G) (h4 : E2 x4 W) (h5 : E2 x5 Z) :
    E2 (val_main_v17 (F := Ideal) x0 x2 x4 x5) (frow X G W Z) := by
  intro j n
  pointwise [val_main_v17]
  simp only [(v16_E h0 h2 h4).at, h5.at]
  rfl

/-- The row the layer leaves, less the target's. -/
theorem v31_E (h0 : E2 x0 X) (h1 : E2 x1 T) (h2 : E2 x2 G) (h3 : E2 x3 P) (h4 : E2 x4 W) (h5 : E2 x5 Z) :
    E2 (val_main_v31 (F := Ideal) x0 x1 x2 x3 x4 x5)
      fun j k => X j k + nrm (frow X G W Z j) k * P 0 k - T j k := by
  intro j k
  pointwise [val_main_v31, val_main_v30, val_main_v29, val_main_v28, val_main_v27, val_main_v26, val_main_v25, val_main_v24, val_main_v23, val_main_v22, val_main_v21, val_main_v20, val_main_v19, val_main_v18, val_main_cst_2, val_main_cst_3, val_main_cst_4]
  simp only [(v17_E h0 h2 h4 h5).at, h0.at, h1.at, h3.at]
  rfl

/-- Half over 1024, times twice the difference, is the difference over 1024. -/
theorem scale (e : EReal) :
    Ideal.div (Ideal.ofBits .f32 0x3F000000#32) (Ideal.ofBits .f32 0x44800000#32) * (Ideal.ofBits .f32 0x40000000#32 * e)
      = e * Ideal.ofBits .f32 0x3A800000#32 := by
  have l1 : Ideal.ofBits .f32 0x3F000000#32 = ((1 / 2 : ℝ) : EReal) := by
    simp [Ideal.ofBits, Ideal.ieee, -EReal.coe_mul]; norm_num
  have l2 : Ideal.ofBits .f32 0x40000000#32 = ((2 : ℝ) : EReal) := by
    simp [Ideal.ofBits, Ideal.ieee, -EReal.coe_mul]; norm_num
  have l3 : Ideal.ofBits .f32 0x3A800000#32 = ((1 / 1024 : ℝ) : EReal) := by
    simp [Ideal.ofBits, Ideal.ieee, -EReal.coe_mul]; norm_num
  rw [l1, l2, l3, Cert.Row.lit_1024, Cert.Row.div_coe (by norm_num : (1024 : ℝ) ≠ 0), ← mul_assoc, ← EReal.coe_mul, mul_comm]
  norm_num

/-- The gradient of the loss with respect to it. -/
theorem v45_E (h0 : E2 x0 X) (h1 : E2 x1 T) (h2 : E2 x2 G) (h3 : E2 x3 P) (h4 : E2 x4 W) (h5 : E2 x5 Z) :
    E2 (val_main_v45 (F := Ideal) x0 x1 x2 x3 x4 x5) (drow X T G P W Z) := by
  intro j k
  pointwise [val_main_v45, val_main_v44, val_main_v43, val_main_v42, val_main_v41, val_main_v40, val_main_v34, val_main_v33, val_main_cst_5, val_main_cst_10, val_main_cst_11, val_main_cst_12]
  simp only [(v31_E h0 h1 h2 h3 h4 h5).at]
  exact scale _

end Cert.Reference9Ideal.FfnFwd

end
-- ==== Proof.FfnFwd.Claim.lean ====
/-
  The claim about the forward feed-forward call: its three large results are those of the layer, of its loss's gradient and
  of its norm, of whatever arguments.
-/
module

public import proofs.«01_k».proof.Defs
public import proofs.«01_k».proof.Proof.FfnFwd.Arr
public import proofs.«01_k».proof.Proof.FfnFwd.Ref

@[expose] public section

noncomputable section

namespace Cert.Kernel9Ideal.FfnFwd

open Cert.Kernel9Ideal Cert.Kernel9Ideal.Gen Idealize.ShloMosaic Idealize.ShloMosaic.TcCoe Idealize.SL.Sem Cert.Fwd

theorem args (m : (ℓ : Loc nD τ sig) → Buf (Elt Ideal) ℓ) (c : Dev nD) : ∃ X T G P W Z, Args m c X T G P W Z :=
  ⟨_, _, _, _, _, _, E2.self _, E2.self _, E2.self _, E2.self _, E2.self _, E2.self _⟩

theorem algebraic [Cert.Kernel9Ideal.Facts] [Cert.Reference9Ideal.Facts] : Cert.algebraic_Kernel9Ideal_Reference9Ideal := by
  intro m ρ m' ρ' _ hargs
  choose X T G P W Z h using args m
  refine ⟨fun c => mat (drow (X c) (T c) (G c) (P c) (W c) (Z c)), fun c => mat (frow (X c) (G c) (W c) (Z c)),
    fun c => mat (hrow (X c) (G c)), ?_, ?_⟩
  · refine (θ_run _ _ _).mono (fun r hr c => ?_) (Value.run_blocks (F := Ideal) m ρ)
    obtain ⟨h6, h7, h8, _, ha⟩ := hr c
    exact ⟨h6.trans (final6 (h c)), h7.trans (final7 (h c)), h8.trans (final8 (h c)), ha⟩
  · refine (θ_run _ _ _).mono (fun r hr c => ?_) (Cert.Reference9Ideal.Value.run (F := Ideal) m' ρ')
    obtain ⟨h0, h1, h2, ha⟩ := hr c
    obtain ⟨a0, a1, a2, a3, a4, a5⟩ := hargs c
    have g0 := (h c).a0; rw [← a0] at g0
    have g1 := (h c).a1; rw [← a1] at g1
    have g2 := (h c).a2; rw [← a2] at g2
    have g3 := (h c).a3; rw [← a3] at g3
    have g4 := (h c).a4; rw [← a4] at g4
    have g5 := (h c).a5; rw [← a5] at g5
    refine ⟨h0.trans ?_, h1.trans ?_, h2.trans ?_, ha⟩
    · exact (Cert.Reference9Ideal.Read.val_main_v45_eq _ _).trans
        (Cert.Reference9Ideal.FfnFwd.v45_E g0 g1 g2 g3 g4 g5).eq_mat
    · exact (Cert.Reference9Ideal.Read.val_main_v17_eq _ _ _ _).trans
        (Cert.Reference9Ideal.FfnFwd.v17_E g0 g2 g4 g5).eq_mat
    · exact (Cert.Reference9Ideal.Read.val_main_v46_eq _ _).trans
        (Cert.Reference9Ideal.FfnFwd.v46_E g0 g2).eq_mat

end Cert.Kernel9Ideal.FfnFwd

end
-- ==== Proof.InpFwd.Out.lean ====
/-
  What the body of `Kernel10Ideal`'s call computes, at a row and a column, and what it leaves in its output blocks: the
  normed row, and it times columns of the weight.
-/
module

public import proofs.«01_k».proof.Proof.Gen.Kernel10Ideal.Value
public import proofs.«01_k».proof.Proof.Fwd.Rows

@[expose] public section

noncomputable section

namespace Cert.Kernel10Ideal.InpFwd

open Cert.Kernel10Ideal Cert.Kernel10Ideal.Gen Idealize.ShloMosaic Cert.Fwd

variable {x0 : Vec Ideal S512x1024 .f32} {x1 : Vec Ideal S1x1024 .f32} {x2 : Vec Ideal S1024x4352 .bf16}
  {X : Fin 512 → Fin 1024 → EReal} {G : Fin 1 → Fin 1024 → EReal} {W : Fin 1024 → Fin 4352 → EReal}
  {h : FVec Ideal S512x1024 .bf16} {H : Fin 512 → Fin 1024 → EReal}

/-- The row the product takes. -/
def hrow {n : Nat} (X : Fin n → Fin 1024 → EReal) (G : Fin 1 → Fin 1024 → EReal) (j : Fin n) (k : Fin 1024) : EReal :=
  nrm (X j) k * G 0 k

/-- Columns of the product of every row. -/
def part {n : Nat} (o N : Nat) (ho : o + N ≤ 4352) (X : Fin n → Fin 1024 → EReal) (G : Fin 1 → Fin 1024 → EReal)
    (W : Fin 1024 → Fin 4352 → EReal) (j : Fin n) (i : Fin N) : EReal := mul (hrow X G j) (cols o N ho W) i

theorem pay2_E (hx : E2 x0 X) (hg : E2 x1 G) : E2 (k0_pay2 x0 x1) (hrow X G) := by
  intro j k
  pointwise [k0_pay2]
  simp only [hx.at, hg.at]
  rfl

theorem pay3_E {w : Vec Ideal S1024x512 .bf16} {U : Fin 1024 → Fin 512 → EReal} (hx : E2 x0 X) (hg : E2 x1 G) (hw : E2 w U) :
    E2 (k0_pay3 x0 x1 w) fun j i => mul (hrow X G j) U i := by
  intro j k
  pointwise [k0_pay3]
  simp only [(pay2_E hx hg).at, hw.at]
  rfl

theorem pay4_E {w : Vec Ideal S1024x512 .bf16} {U : Fin 1024 → Fin 512 → EReal} (hx : E2 x0 X) (hg : E2 x1 G) (hw : E2 w U) :
    E2 (k0_pay4 x0 x1 w) fun j i => mul (hrow X G j) U i := by
  intro j k
  pointwise [k0_pay4]
  simp only [(pay2_E hx hg).at, hw.at]
  rfl

theorem pay5_E {w : Vec Ideal S1024x512 .bf16} {U : Fin 1024 → Fin 512 → EReal} (hx : E2 x0 X) (hg : E2 x1 G) (hw : E2 w U) :
    E2 (k0_pay5 x0 x1 w) fun j i => mul (hrow X G j) U i := by
  intro j k
  pointwise [k0_pay5]
  simp only [(pay2_E hx hg).at, hw.at]
  rfl

theorem pay6_E {w : Vec Ideal S1024x384 .bf16} {U : Fin 1024 → Fin 384 → EReal} (hh : E2 h H) (hw : E2 w U) :
    E2 (k0_pay6 h w) fun j i => mul (H j) U i := by
  intro j k
  pointwise [k0_pay6]
  simp only [hh.at, hw.at]
  rfl

theorem pay7_E {w : Vec Ideal S1024x256 .bf16} {U : Fin 1024 → Fin 256 → EReal} (hh : E2 h H) (hw : E2 w U) :
    E2 (k0_pay7 h w) fun j i => mul (H j) U i := by
  intro j k
  pointwise [k0_pay7]
  simp only [hh.at, hw.at]
  rfl

theorem pay8_E {w : Vec Ideal S1024x128 .bf16} {U : Fin 1024 → Fin 128 → EReal} (hh : E2 h H) (hw : E2 w U) :
    E2 (k0_pay8 h w) fun j i => mul (H j) U i := by
  intro j k
  pointwise [k0_pay8]
  simp only [hh.at, hw.at]
  rfl

theorem pay9_E {w : Vec Ideal S1024x512 .bf16} {U : Fin 1024 → Fin 512 → EReal} (hh : E2 h H) (hw : E2 w U) :
    E2 (k0_pay9 h w) fun j i => mul (H j) U i := by
  intro j k
  pointwise [k0_pay9]
  simp only [hh.at, hw.at]
  rfl

theorem pay10_E {w : Vec Ideal S1024x512 .bf16} {U : Fin 1024 → Fin 512 → EReal} (hh : E2 h H) (hw : E2 w U) :
    E2 (k0_pay10 h w) fun j i => mul (H j) U i := by
  intro j k
  pointwise [k0_pay10]
  simp only [hh.at, hw.at]
  rfl

theorem pay11_E {w : Vec Ideal S1024x512 .bf16} {U : Fin 1024 → Fin 512 → EReal} (hh : E2 h H) (hw : E2 w U) :
    E2 (k0_pay11 h w) fun j i => mul (H j) U i := by
  intro j k
  pointwise [k0_pay11]
  simp only [hh.at, hw.at]
  rfl

theorem pay1_E {w : Vec Ideal S1024x512 .bf16} {U : Fin 1024 → Fin 512 → EReal} (hh : E2 h H) (hw : E2 w U) :
    E2 (k0_pay1 h w) fun j i => mul (H j) U i := by
  intro j k
  pointwise [k0_pay1]
  simp only [hh.at, hw.at]
  rfl

/-- A piece of the product's columns is the product with the piece. -/
theorem part_at {n o N : Nat} (ho : o + N ≤ 4352) (X : Fin n → Fin 1024 → EReal) (G : Fin 1 → Fin 1024 → EReal)
    (W : Fin 1024 → Fin 4352 → EReal) (p M q : Nat) (hp : p + M ≤ N) (hq : q + M ≤ 4352) (e : q = o + p) (j : Fin n)
    (i : Fin M) :
    mul (hrow X G j) (cols q M hq W) i = part o N ho X G W j ⟨p + i.val, by have := i.isLt; omega⟩ := by
  have e1 : (⟨q + i.val, by have := i.isLt; omega⟩ : Fin 4352) = ⟨o + (p + i.val), by have := i.isLt; omega⟩ :=
    Fin.ext (by dsimp only; omega)
  unfold part mul cols
  dsimp only
  rw [e1]

theorem out_8 (h0 : E2 x0 X) (h1 : E2 x1 G) : E2 (out0_8 x0 x1 x2) (hrow X G) := by
  unfold out0_8
  rw [View.canon_unit_zero (S := S512x1024) hz]
  simp only [View.ld_unit_zero (S := S512x1024) hz, View.ld_unit_zero (S := S1x1024) hz]
  exact pay2_E h0 h1

theorem pay12_E (h0 : E2 x0 X) (h1 : E2 x1 G) : E2 (k0_pay12 x0 x1 x2) (hrow X G) := by
  unfold k0_pay12
  simp only [View.ld_unit_zero (S := S512x1024) hz, View.ld_unit_zero (S := S1x1024) hz]
  exact pay2_E h0 h1

theorem out_4 (h0 : E2 x0 X) (h1 : E2 x1 G) (h2 : E2 x2 W) : E2 (out0_4 x0 x1 x2) (part 1536 384 (by norm_num) X G W) := by
  unfold out0_4
  rw [View.canon_unit_zero (S := S512x384) hz]
  exact pay6_E (pay12_E h0 h1) (ld_cols 1536 (by norm_num) _ h2)

theorem out_5 (h0 : E2 x0 X) (h1 : E2 x1 G) (h2 : E2 x2 W) : E2 (out0_5 x0 x1 x2) (part 1920 256 (by norm_num) X G W) := by
  unfold out0_5
  rw [View.canon_unit_zero (S := S512x256) hz]
  exact pay7_E (pay12_E h0 h1) (ld_cols 1920 (by norm_num) _ h2)

theorem out_6 (h0 : E2 x0 X) (h1 : E2 x1 G) (h2 : E2 x2 W) : E2 (out0_6 x0 x1 x2) (part 2176 128 (by norm_num) X G W) := by
  unfold out0_6
  rw [View.canon_unit_zero (S := S512x128) hz]
  exact pay8_E (pay12_E h0 h1) (ld_cols 2176 (by norm_num) _ h2)

theorem out_3 (h0 : E2 x0 X) (h1 : E2 x1 G) (h2 : E2 x2 W) : E2 (out0_3 x0 x1 x2) (part 0 1536 (by norm_num) X G W) := by
  intro j n
  unfold out0_3
  refine View.canon_apply_of_pieces (Val := Elt Ideal) (e := .bf16) (G := fun y : S512x1536.Idx => part 0 1536 (by norm_num) X G W (y 0) (y 1)) _ ?_ (ix2 j n) ?_
  on_goal 2 => exact cover0_3 _ _ _ (ix2 j n)
  simp only [View.ld_unit_zero (S := S512x1024) hz, View.ld_unit_zero (S := S1x1024) hz]
  refine List.forall_mem_cons.2 ⟨?_, List.forall_mem_cons.2 ⟨?_, List.forall_mem_cons.2 ⟨?_, fun _ h => nomatch h⟩⟩⟩
  · exact col_piece (e := .bf16) 1024 (by norm_num) inb_S512x1536_S512x512_0_1024 (part 0 1536 (by norm_num) X G W) (pay5_E h0 h1 (ld_cols 1024 (by norm_num) _ h2))
      fun j i => part_at _ X G W 1024 512 1024 (by norm_num) (by norm_num) rfl j i
  · exact col_piece (e := .bf16) 512 (by norm_num) inb_S512x1536_S512x512_0_512 (part 0 1536 (by norm_num) X G W) (pay4_E h0 h1 (ld_cols 512 (by norm_num) _ h2))
      fun j i => part_at _ X G W 512 512 512 (by norm_num) (by norm_num) rfl j i
  · exact col_piece (e := .bf16) 0 (by norm_num) inb_S512x1536_S512x512_0_0 (part 0 1536 (by norm_num) X G W) (pay3_E h0 h1 (ld_cols 0 (by norm_num) _ h2))
      fun j i => part_at _ X G W 0 512 0 (by norm_num) (by norm_num) rfl j i

theorem out_7 (h0 : E2 x0 X) (h1 : E2 x1 G) (h2 : E2 x2 W) : E2 (out0_7 x0 x1 x2) (part 2304 2048 (by norm_num) X G W) := by
  intro j n
  unfold out0_7
  refine View.canon_apply_of_pieces (Val := Elt Ideal) (e := .f32) (G := fun y : S512x2048.Idx => part 2304 2048 (by norm_num) X G W (y 0) (y 1)) _ ?_ (ix2 j n) ?_
  on_goal 2 => exact cover0_7 _ _ _ _ (ix2 j n)
  refine List.forall_mem_cons.2 ⟨?_, List.forall_mem_cons.2 ⟨?_, List.forall_mem_cons.2 ⟨?_, List.forall_mem_cons.2 ⟨?_, fun _ h => nomatch h⟩⟩⟩⟩
  · exact col_piece (e := .f32) 1536 (by norm_num) inb_S512x2048_S512x512_0_1536 (part 2304 2048 (by norm_num) X G W) (pay1_E (pay12_E h0 h1) (ld_cols 3840 (by norm_num) _ h2))
      fun j i => part_at _ X G W 1536 512 3840 (by norm_num) (by norm_num) rfl j i
  · exact col_piece (e := .f32) 1024 (by norm_num) inb_S512x2048_S512x512_0_1024 (part 2304 2048 (by norm_num) X G W) (pay11_E (pay12_E h0 h1) (ld_cols 3328 (by norm_num) _ h2))
      fun j i => part_at _ X G W 1024 512 3328 (by norm_num) (by norm_num) rfl j i
  · exact col_piece (e := .f32) 512 (by norm_num) inb_S512x2048_S512x512_0_512 (part 2304 2048 (by norm_num) X G W) (pay10_E (pay12_E h0 h1) (ld_cols 2816 (by norm_num) _ h2))
      fun j i => part_at _ X G W 512 512 2816 (by norm_num) (by norm_num) rfl j i
  · exact col_piece (e := .f32) 0 (by norm_num) inb_S512x2048_S512x512_0_0 (part 2304 2048 (by norm_num) X G W) (pay9_E (pay12_E h0 h1) (ld_cols 2304 (by norm_num) _ h2))
      fun j i => part_at _ X G W 0 512 2304 (by norm_num) (by norm_num) rfl j i

end Cert.Kernel10Ideal.InpFwd

end
-- ==== Proof.InpFwd.Host.lean ====
/-
  What the host code of `Kernel10Ideal` hands its call: the weight, with columns of zeros put in on both sides of the
  columns of the rotated key.
-/
module

public import proofs.«01_k».proof.Proof.Gen.Kernel10Ideal.Value
public import proofs.«01_k».proof.Proof.Fwd.Rows
public import Idealize.ShloMosaic.Lib.Claim
public import Idealize.ShloMosaic.Lib.StableHlo.RunRead

@[expose] public section

noncomputable section

namespace Cert.Kernel10Ideal.InpFwd

open Cert.Kernel10Ideal Cert.Kernel10Ideal.Gen Idealize.ShloMosaic Idealize.ShloMosaic.TcCoe Idealize.SL.Sem Cert.Fwd

variable (m : (ℓ : Loc nD τ sig) → Buf (Elt Ideal) ℓ) (c : Dev nD)

/-- The weight with its columns of zeros. -/
def wide (W : Fin 1024 → Fin 4256 → EReal) (k : Fin 1024) (n : Fin 4352) : EReal :=
  if h : n.val < 2176 then W k ⟨n.val, by omega⟩
  else if n.val < 2240 then 0
  else if h2 : n.val < 2272 then W k ⟨n.val - 64, by omega⟩
  else if h3 : n.val < 2304 then 0
  else W k ⟨n.val - 96, by have := n.isLt; omega⟩

theorem V_v8 {W : Fin 1024 → Fin 4256 → EReal} (h : E2 (m ((c : Thread nD τ).loc main_arg2)) W) :
    E2 (V m c main_v8 : Vec Ideal S1024x4352 .bf16) (wide W) := by
  intro k n
  unfold V
  after_reads_simp
  pointwise []
  after_reads_simp
  pointwise []
  simp only [h.at]
  unfold wide
  have e : ∀ {a b : Fin 4256}, a.val = b.val → W k a = W k b := fun h => congrArg (W k) (Fin.ext h)
  have hn := n.isLt
  by_cases c0 : n.val < 2176
  · simp only [c0, ↓reduceDIte]
  have d1 : (n.val - 2176 < 64) = (n.val < 2240) := by apply propext; omega
  have d2 : (n.val - 2176 - 64 < 32) = (n.val < 2272) := by apply propext; omega
  have d3 : (n.val - 2176 - 64 - 32 < 32) = (n.val < 2304) := by apply propext; omega
  by_cases c1 : n.val < 2240
  · simp only [c0, c1, d1, ↓reduceDIte, ↓reduceIte]
  by_cases c2 : n.val < 2272
  · simp only [c0, c1, c2, d1, d2, ↓reduceDIte, ↓reduceIte]
    exact e (by dsimp only <;> omega)
  by_cases c3 : n.val < 2304
  · simp only [c0, c1, c2, c3, d1, d2, d3, ↓reduceDIte, ↓reduceIte]
  · simp only [c0, c1, c2, c3, d1, d2, d3, ↓reduceDIte, ↓reduceIte]
    exact e (by dsimp only <;> omega)

end Cert.Kernel10Ideal.InpFwd

end
-- ==== Proof.InpFwd.Arr.lean ====
/-
  The six results of `Kernel10Ideal`'s call: block by block the functions of a row that `InpFwd/Out` finds, the blocks
  put together.
-/
module

public import proofs.«01_k».proof.Proof.InpFwd.Out
public import proofs.«01_k».proof.Proof.InpFwd.Host
public import Idealize.ShloMosaic.Lib.Pipeline.ValueKit.Geometry

@[expose] public section

noncomputable section

namespace Cert.Kernel10Ideal.InpFwd

open Cert.Kernel10Ideal Cert.Kernel10Ideal.Gen Idealize.ShloMosaic Idealize.ShloMosaic.TcCoe Idealize.SL.Sem Cert.Fwd

variable (m : (ℓ : Loc nD τ sig) → Buf (Elt Ideal) ℓ) (c : Dev nD)

/-- What the arguments hold. -/
structure Args (X : Fin 8192 → Fin 1024 → EReal) (G : Fin 1 → Fin 1024 → EReal) (W : Fin 1024 → Fin 4256 → EReal) : Prop where
  a0 : E2 (m ((c : Thread nD τ).loc main_arg0)) X
  a1 : E2 (m ((c : Thread nD τ).loc main_arg1)) G
  a2 : E2 (m ((c : Thread nD τ).loc main_arg2)) W

/-- Row `j` of a point's block. -/
def row (t : Fin cfg0.N) (j : Fin 512) : Fin 8192 :=
  ⟨512 * t.val + j.val, by have := lt_of_lt_of_eq t.isLt N_0; have := j.isLt; omega⟩

section Blocks

variable {m c} {X : Fin 8192 → Fin 1024 → EReal} {G : Fin 1 → Fin 1024 → EReal} {W : Fin 1024 → Fin 4256 → EReal}

theorem blk0 (h : Args m c X G W) (t : Fin cfg0.N) :
    E2 (iblk m c 0 t : Vec Ideal S512x1024 .f32) (fun j => X (row t j)) := by
  intro j k
  refine Eq.trans ?_ (h.a0.at (row t j) k)
  unfold iblk
  rw [View.read_apply]
  show V m c main_arg0 _ = _
  rw [V_main_arg0]
  congr 1
  have hi := (by decide +kernel : ∀ t : Fin grid0.N, win0_0.index t 0 = t.val ∧ win0_0.index t 1 = 0) t
  funext d
  apply Fin.ext
  match d with
  | ⟨0, _⟩ => show win0_0.index t 0 * 512 + 1 * j.val = 512 * t.val + j.val; rw [hi.1]; omega
  | ⟨1, _⟩ => show win0_0.index t 1 * 1024 + 1 * k.val = k.val; rw [hi.2]; omega

theorem blk1 (h : Args m c X G W) (t : Fin cfg0.N) :
    E2 (iblk m c 1 t : Vec Ideal S1x1024 .f32) G := by
  intro j k
  refine Eq.trans ?_ (h.a1.at j k)
  unfold iblk
  rw [View.read_apply]
  show V m c main_arg1 _ = _
  rw [V_main_arg1]
  congr 1
  have hi := (by decide +kernel : ∀ t : Fin grid0.N, win0_1.index t 0 = 0 ∧ win0_1.index t 1 = 0) t
  funext d
  apply Fin.ext
  match d with
  | ⟨0, _⟩ => show win0_1.index t 0 * 1 + 1 * j.val = j.val; rw [hi.1]; omega
  | ⟨1, _⟩ => show win0_1.index t 1 * 1024 + 1 * k.val = k.val; rw [hi.2]; omega

theorem blk2 (h : Args m c X G W) (t : Fin cfg0.N) :
    E2 (iblk m c 2 t : Vec Ideal S1024x4352 .bf16) (wide W) := by
  intro j k
  refine Eq.trans ?_ ((V_v8 m c h.a2).at j k)
  unfold iblk
  rw [View.read_apply]
  show V m c main_v8 _ = V m c main_v8 _
  congr 1
  have hi := (by decide +kernel : ∀ t : Fin grid0.N, win0_2.index t 0 = 0 ∧ win0_2.index t 1 = 0) t
  funext d
  apply Fin.ext
  match d with
  | ⟨0, _⟩ => show win0_2.index t 0 * 1024 + 1 * j.val = j.val; rw [hi.1]; omega
  | ⟨1, _⟩ => show win0_2.index t 1 * 4352 + 1 * k.val = k.val; rw [hi.2]; omega

/-- What a point leaves in output block 3. -/
theorem left3 (h : Args m c X G W) (t : Fin cfg0.N) :
    E2 (out0_3 (iblk m c 0 t) (iblk m c 1 t) (iblk m c 2 t) : Vec Ideal S512x1536 .bf16) fun j => (part 0 1536 (by norm_num) X G (wide W)) (row t j) :=
  out_3 (blk0 h t) (blk1 h t) (blk2 h t)

theorem final3 (h : Args m c X G W) : (dats m 0 c).arrAt 3 cfg0.N = mat (part 0 1536 (by norm_num) X G (wide W)) := by
  refine (dats m 0 c).arrAt_eq_of_covers 3 _ (by decide +kernel) fun t hf y => ?_
  blk_simp
  rw [after0_3]
  have hi := (by decide +kernel : ∀ t : Fin grid0.N, win0_3.index t 0 = t.val ∧ win0_3.index t 1 = 0) t
  obtain ⟨j, k, rfl⟩ : ∃ (j : Fin 512) (k : Fin 1536), y = ix2 j k := ⟨y 0, y 1, by funext d; fin_cases d <;> rfl⟩
  refine (left3 h t j k).trans ?_
  have e0 : ((win0_3.blk t).view.emb (ix2 j k)) 0 = row t j := by
    apply Fin.ext
    show win0_3.index t 0 * 512 + 1 * j.val = 512 * t.val + j.val
    rw [hi.1]; omega
  have e1 : ((win0_3.blk t).view.emb (ix2 j k)) 1 = k := by
    apply Fin.ext
    show win0_3.index t 1 * 1536 + 1 * k.val = k.val
    rw [hi.2]; omega
  show _ = (part 0 1536 (by norm_num) X G (wide W)) (((win0_3.blk t).view.emb (ix2 j k)) 0) (((win0_3.blk t).view.emb (ix2 j k)) 1)
  rw [e0, e1]

/-- What a point leaves in output block 4. -/
theorem left4 (h : Args m c X G W) (t : Fin cfg0.N) :
    E2 (out0_4 (iblk m c 0 t) (iblk m c 1 t) (iblk m c 2 t) : Vec Ideal S512x384 .f32) fun j => (part 1536 384 (by norm_num) X G (wide W)) (row t j) :=
  out_4 (blk0 h t) (blk1 h t) (blk2 h t)

theorem final4 (h : Args m c X G W) : (dats m 0 c).arrAt 4 cfg0.N = mat (part 1536 384 (by norm_num) X G (wide W)) := by
  refine (dats m 0 c).arrAt_eq_of_covers 4 _ (by decide +kernel) fun t hf y => ?_
  blk_simp
  rw [after0_4]
  have hi := (by decide +kernel : ∀ t : Fin grid0.N, win0_4.index t 0 = t.val ∧ win0_4.index t 1 = 0) t
  obtain ⟨j, k, rfl⟩ : ∃ (j : Fin 512) (k : Fin 384), y = ix2 j k := ⟨y 0, y 1, by funext d; fin_cases d <;> rfl⟩
  refine (left4 h t j k).trans ?_
  have e0 : ((win0_4.blk t).view.emb (ix2 j k)) 0 = row t j := by
    apply Fin.ext
    show win0_4.index t 0 * 512 + 1 * j.val = 512 * t.val + j.val
    rw [hi.1]; omega
  have e1 : ((win0_4.blk t).view.emb (ix2 j k)) 1 = k := by
    apply Fin.ext
    show win0_4.index t 1 * 384 + 1 * k.val = k.val
    rw [hi.2]; omega
  show _ = (part 1536 384 (by norm_num) X G (wide W)) (((win0_4.blk t).view.emb (ix2 j k)) 0) (((win0_4.blk t).view.emb (ix2 j k)) 1)
  rw [e0, e1]

/-- What a point leaves in output block 5. -/
theorem left5 (h : Args m c X G W) (t : Fin cfg0.N) :
    E2 (out0_5 (iblk m c 0 t) (iblk m c 1 t) (iblk m c 2 t) : Vec Ideal S512x256 .f32) fun j => (part 1920 256 (by norm_num) X G (wide W)) (row t j) :=
  out_5 (blk0 h t) (blk1 h t) (blk2 h t)

theorem final5 (h : Args m c X G W) : (dats m 0 c).arrAt 5 cfg0.N = mat (part 1920 256 (by norm_num) X G (wide W)) := by
  refine (dats m 0 c).arrAt_eq_of_covers 5 _ (by decide +kernel) fun t hf y => ?_
  blk_simp
  rw [after0_5]
  have hi := (by decide +kernel : ∀ t : Fin grid0.N, win0_5.index t 0 = t.val ∧ win0_5.index t 1 = 0) t
  obtain ⟨j, k, rfl⟩ : ∃ (j : Fin 512) (k : Fin 256), y = ix2 j k := ⟨y 0, y 1, by funext d; fin_cases d <;> rfl⟩
  refine (left5 h t j k).trans ?_
  have e0 : ((win0_5.blk t).view.emb (ix2 j k)) 0 = row t j := by
    apply Fin.ext
    show win0_5.index t 0 * 512 + 1 * j.val = 512 * t.val + j.val
    rw [hi.1]; omega
  have e1 : ((win0_5.blk t).view.emb (ix2 j k)) 1 = k := by
    apply Fin.ext
    show win0_5.index t 1 * 256 + 1 * k.val = k.val
    rw [hi.2]; omega
  show _ = (part 1920 256 (by norm_num) X G (wide W)) (((win0_5.blk t).view.emb (ix2 j k)) 0) (((win0_5.blk t).view.emb (ix2 j k)) 1)
  rw [e0, e1]

/-- What a point leaves in output block 6. -/
theorem left6 (h : Args m c X G W) (t : Fin cfg0.N) :
    E2 (out0_6 (iblk m c 0 t) (iblk m c 1 t) (iblk m c 2 t) : Vec Ideal S512x128 .f32) fun j => (part 2176 128 (by norm_num) X G (wide W)) (row t j) :=
  out_6 (blk0 h t) (blk1 h t) (blk2 h t)

theorem final6 (h : Args m c X G W) : (dats m 0 c).arrAt 6 cfg0.N = mat (part 2176 128 (by norm_num) X G (wide W)) := by
  refine (dats m 0 c).arrAt_eq_of_covers 6 _ (by decide +kernel) fun t hf y => ?_
  blk_simp
  rw [after0_6]
  have hi := (by decide +kernel : ∀ t : Fin grid0.N, win0_6.index t 0 = t.val ∧ win0_6.index t 1 = 0) t
  obtain ⟨j, k, rfl⟩ : ∃ (j : Fin 512) (k : Fin 128), y = ix2 j k := ⟨y 0, y 1, by funext d; fin_cases d <;> rfl⟩
  refine (left6 h t j k).trans ?_
  have e0 : ((win0_6.blk t).view.emb (ix2 j k)) 0 = row t j := by
    apply Fin.ext
    show win0_6.index t 0 * 512 + 1 * j.val = 512 * t.val + j.val
    rw [hi.1]; omega
  have e1 : ((win0_6.blk t).view.emb (ix2 j k)) 1 = k := by
    apply Fin.ext
    show win0_6.index t 1 * 128 + 1 * k.val = k.val
    rw [hi.2]; omega
  show _ = (part 2176 128 (by norm_num) X G (wide W)) (((win0_6.blk t).view.emb (ix2 j k)) 0) (((win0_6.blk t).view.emb (ix2 j k)) 1)
  rw [e0, e1]

/-- What a point leaves in output block 7. -/
theorem left7 (h : Args m c X G W) (t : Fin cfg0.N) :
    E2 (out0_7 (iblk m c 0 t) (iblk m c 1 t) (iblk m c 2 t) : Vec Ideal S512x2048 .f32) fun j => (part 2304 2048 (by norm_num) X G (wide W)) (row t j) :=
  out_7 (blk0 h t) (blk1 h t) (blk2 h t)

theorem final7 (h : Args m c X G W) : (dats m 0 c).arrAt 7 cfg0.N = mat (part 2304 2048 (by norm_num) X G (wide W)) := by
  refine (dats m 0 c).arrAt_eq_of_covers 7 _ (by decide +kernel) fun t hf y => ?_
  blk_simp
  rw [after0_7]
  have hi := (by decide +kernel : ∀ t : Fin grid0.N, win0_7.index t 0 = t.val ∧ win0_7.index t 1 = 0) t
  obtain ⟨j, k, rfl⟩ : ∃ (j : Fin 512) (k : Fin 2048), y = ix2 j k := ⟨y 0, y 1, by funext d; fin_cases d <;> rfl⟩
  refine (left7 h t j k).trans ?_
  have e0 : ((win0_7.blk t).view.emb (ix2 j k)) 0 = row t j := by
    apply Fin.ext
    show win0_7.index t 0 * 512 + 1 * j.val = 512 * t.val + j.val
    rw [hi.1]; omega
  have e1 : ((win0_7.blk t).view.emb (ix2 j k)) 1 = k := by
    apply Fin.ext
    show win0_7.index t 1 * 2048 + 1 * k.val = k.val
    rw [hi.2]; omega
  show _ = (part 2304 2048 (by norm_num) X G (wide W)) (((win0_7.blk t).view.emb (ix2 j k)) 0) (((win0_7.blk t).view.emb (ix2 j k)) 1)
  rw [e0, e1]

/-- What a point leaves in output block 8. -/
theorem left8 (h : Args m c X G W) (t : Fin cfg0.N) :
    E2 (out0_8 (iblk m c 0 t) (iblk m c 1 t) (iblk m c 2 t) : Vec Ideal S512x1024 .bf16) fun j => (hrow X G) (row t j) :=
  out_8 (blk0 h t) (blk1 h t)

theorem final8 (h : Args m c X G W) : (dats m 0 c).arrAt 8 cfg0.N = mat (hrow X G) := by
  refine (dats m 0 c).arrAt_eq_of_covers 8 _ (by decide +kernel) fun t hf y => ?_
  blk_simp
  rw [after0_8]
  have hi := (by decide +kernel : ∀ t : Fin grid0.N, win0_8.index t 0 = t.val ∧ win0_8.index t 1 = 0) t
  obtain ⟨j, k, rfl⟩ : ∃ (j : Fin 512) (k : Fin 1024), y = ix2 j k := ⟨y 0, y 1, by funext d; fin_cases d <;> rfl⟩
  refine (left8 h t j k).trans ?_
  have e0 : ((win0_8.blk t).view.emb (ix2 j k)) 0 = row t j := by
    apply Fin.ext
    show win0_8.index t 0 * 512 + 1 * j.val = 512 * t.val + j.val
    rw [hi.1]; omega
  have e1 : ((win0_8.blk t).view.emb (ix2 j k)) 1 = k := by
    apply Fin.ext
    show win0_8.index t 1 * 1024 + 1 * k.val = k.val
    rw [hi.2]; omega
  show _ = (hrow X G) (((win0_8.blk t).view.emb (ix2 j k)) 0) (((win0_8.blk t).view.emb (ix2 j k)) 1)
  rw [e0, e1]

end Blocks

end Cert.Kernel10Ideal.InpFwd

end
-- ==== Proof.InpFwd.Ref.lean ====
/-
  The reference of the forward input projection, stage by stage: row by row the functions the kernel computes.
-/
module

public import proofs.«01_k».proof.Proof.Gen.Reference10Ideal.Read
public import proofs.«01_k».proof.Proof.InpFwd.Out
public import proofs.«01_k».proof.Proof.InpFwd.Host

@[expose] public section

noncomputable section

namespace Cert.Reference10Ideal.InpFwd

open Cert.Reference10Ideal Cert.Reference10Ideal.Gen Cert.Reference10Ideal.Read Idealize.ShloMosaic Idealize.SL.Sem Cert.Fwd
open Cert.Kernel10Ideal.InpFwd (hrow part wide)

variable {x0 : (⟨S8192x1024, .f32⟩ : BufTy).Contents (Elt Ideal)} {x1 : (⟨S1x1024, .f32⟩ : BufTy).Contents (Elt Ideal)}
  {x2 : (⟨S1024x4256, .f32⟩ : BufTy).Contents (Elt Ideal)} {X : Fin 8192 → Fin 1024 → EReal} {G : Fin 1 → Fin 1024 → EReal}
  {W : Fin 1024 → Fin 4256 → EReal}

theorem v11_E (h0 : E2 x0 X) (h1 : E2 x1 G) : E2 (val_main_v11 (F := Ideal) x0 x1) (hrow X G) := by
  intro j k
  pointwise [val_main_v11, val_main_v10, val_main_v9, val_main_v8, val_main_v7, val_main_v6, val_main_v5, val_main_v4, val_main_v3, val_main_v2, val_main_v1, val_main_v0, val_main_cst, val_main_cst_0, val_main_cst_1]
  simp only [h0.at, h1.at]
  rfl

theorem v20_E (h0 : E2 x0 X) (h1 : E2 x1 G) : E2 (val_main_v20 (F := Ideal) x0 x1) (hrow X G) := fun j k => v11_E h0 h1 j k

theorem v12_E (h0 : E2 x0 X) (h1 : E2 x1 G) (h2 : E2 x2 W) :
    E2 (val_main_v12 (F := Ideal) x0 x1 x2) fun j n => mul (hrow X G j) W n := by
  intro j n
  pointwise [val_main_v12]
  simp only [(v11_E h0 h1).at, h2.at]
  rfl

/-- A column of the product with the wide weight, where the wide weight's column is the weight's. -/
theorem part_of {o N : Nat} (ho : o + N ≤ 4352) (j : Fin 8192) (i : Fin N) (n : Fin 4256)
    (h : ∀ k, wide W k ⟨o + i.val, by have := i.isLt; omega⟩ = W k n) :
    mul (hrow X G j) W n = part o N ho X G (wide W) j i := by
  unfold part mul cols
  exact Finset.sum_congr rfl fun k _ => congrArg _ (h k).symm

/-- Where it is a column of zeros. -/
theorem part_zero {o N : Nat} (ho : o + N ≤ 4352) (j : Fin 8192) (i : Fin N)
    (h : ∀ k, wide W k ⟨o + i.val, by have := i.isLt; omega⟩ = 0) : part o N ho X G (wide W) j i = 0 := by
  unfold part mul cols
  exact Finset.sum_eq_zero fun k _ => by rw [h k, mul_zero]

/-- The number zero, converted. -/
theorem zero_cast (i : S_.Idx) : val_main_call0_v0 (F := Ideal) i = (0 : EReal) := by
  rw [val_main_call0_v0_apply, val_main_c_apply]
  show (((0#32 : BitVec 32).toInt : ℝ) : EReal) = 0
  simp

theorem wide_low (k : Fin 1024) (n : Nat) (h : n < 2176) : wide W k ⟨n, by omega⟩ = W k ⟨n, by omega⟩ := by
  unfold wide
  exact dif_pos h

theorem wide_key (k : Fin 1024) (n : Nat) (h : 2240 ≤ n) (h' : n < 2272) : wide W k ⟨n, by omega⟩ = W k ⟨n - 64, by omega⟩ := by
  unfold wide
  dsimp only
  split_ifs <;> first | omega | rfl

theorem wide_high (k : Fin 1024) (n : Nat) (h : 2304 ≤ n) (h' : n < 4352) : wide W k ⟨n, h'⟩ = W k ⟨n - 96, by omega⟩ := by
  unfold wide
  dsimp only
  split_ifs <;> first | omega | rfl

theorem wide_zero (k : Fin 1024) (n : Nat) (h : 2176 ≤ n) (h' : n < 2304) (h2 : ¬(2240 ≤ n ∧ n < 2272)) :
    wide W k ⟨n, by omega⟩ = 0 := by
  unfold wide
  dsimp only
  split_ifs <;> first | omega | rfl

theorem v13_E (h0 : E2 x0 X) (h1 : E2 x1 G) (h2 : E2 x2 W) :
    E2 (val_main_v13 (F := Ideal) x0 x1 x2) (part 0 1536 (by norm_num) X G (wide W)) := by
  intro j n
  pointwise [val_main_v13]
  simp only [(v12_E h0 h1 h2).at]
  refine part_of (by norm_num) j n _ fun k => (wide_low k _ (by have := n.isLt; omega)).trans ?_
  exact congrArg (W k) (Fin.ext (by dsimp only; omega))

theorem v14_E (h0 : E2 x0 X) (h1 : E2 x1 G) (h2 : E2 x2 W) :
    E2 (val_main_v14 (F := Ideal) x0 x1 x2) (part 1536 384 (by norm_num) X G (wide W)) := by
  intro j n
  pointwise [val_main_v14]
  simp only [(v12_E h0 h1 h2).at]
  refine part_of (by norm_num) j n _ fun k => (wide_low k _ (by have := n.isLt; omega)).trans ?_
  exact congrArg (W k) (Fin.ext (by dsimp only))

theorem v15_E (h0 : E2 x0 X) (h1 : E2 x1 G) (h2 : E2 x2 W) :
    E2 (val_main_v15 (F := Ideal) x0 x1 x2) (part 1920 256 (by norm_num) X G (wide W)) := by
  intro j n
  pointwise [val_main_v15]
  simp only [(v12_E h0 h1 h2).at]
  refine part_of (by norm_num) j n _ fun k => (wide_low k _ (by have := n.isLt; omega)).trans ?_
  exact congrArg (W k) (Fin.ext (by dsimp only))

theorem v18_E (h0 : E2 x0 X) (h1 : E2 x1 G) (h2 : E2 x2 W) :
    E2 (val_main_v18 (F := Ideal) x0 x1 x2) (part 0 1536 (by norm_num) X G (wide W)) := by
  intro j n
  exact v13_E h0 h1 h2 j n

theorem v17_E (h0 : E2 x0 X) (h1 : E2 x1 G) (h2 : E2 x2 W) :
    E2 (val_main_v17 (F := Ideal) x0 x1 x2) (part 2304 2048 (by norm_num) X G (wide W)) := by
  intro j n
  pointwise [val_main_v17]
  simp only [(v12_E h0 h1 h2).at]
  refine part_of (by norm_num) j n _ fun k => (wide_high k _ (by omega) (by have := n.isLt; omega)).trans ?_
  exact congrArg (W k) (Fin.ext (by dsimp only; omega))

theorem v19_E (h0 : E2 x0 X) (h1 : E2 x1 G) (h2 : E2 x2 W) :
    E2 (val_main_v19 (F := Ideal) x0 x1 x2) (part 2176 128 (by norm_num) X G (wide W)) := by
  intro j n
  pointwise [val_main_v19, val_main_v16]
  simp only [(v12_E h0 h1 h2).at]
  split
  · rename_i hn
    refine part_of (by norm_num) j n _ fun k => (wide_key k _ (by omega) (by omega)).trans ?_
    exact congrArg (W k) (Fin.ext (by dsimp only; omega))
  · rename_i hn
    rw [part_zero (by norm_num) j n fun k => wide_zero k _ (by omega) (by have := n.isLt; omega) (by omega)]
    exact zero_cast _

end Cert.Reference10Ideal.InpFwd

end
-- ==== Proof.InpFwd.Claim.lean ====
/-
  The claim about the forward input projection: its six results are the normed row and the pieces of its product with the
  weight, of whatever arguments.
-/
module

public import proofs.«01_k».proof.Defs
public import proofs.«01_k».proof.Proof.InpFwd.Arr
public import proofs.«01_k».proof.Proof.InpFwd.Ref

@[expose] public section

noncomputable section

namespace Cert.Kernel10Ideal.InpFwd

open Cert.Kernel10Ideal Cert.Kernel10Ideal.Gen Idealize.ShloMosaic Idealize.ShloMosaic.TcCoe Idealize.SL.Sem Cert.Fwd

theorem args (m : (ℓ : Loc nD τ sig) → Buf (Elt Ideal) ℓ) (c : Dev nD) : ∃ X G W, Args m c X G W :=
  ⟨_, _, _, E2.self _, E2.self _, E2.self _⟩

theorem algebraic [Cert.Kernel10Ideal.Facts] [Cert.Reference10Ideal.Facts] :
    Cert.algebraic_Kernel10Ideal_Reference10Ideal := by
  intro m ρ m' ρ' _ hargs
  choose X G W h using args m
  refine ⟨fun c => mat (part 0 1536 (by norm_num) (X c) (G c) (wide (W c))), fun c => mat (part 1536 384 (by norm_num) (X c) (G c) (wide (W c))), fun c => mat (part 1920 256 (by norm_num) (X c) (G c) (wide (W c))), fun c => mat (part 2176 128 (by norm_num) (X c) (G c) (wide (W c))), fun c => mat (part 2304 2048 (by norm_num) (X c) (G c) (wide (W c))), fun c => mat (hrow (X c) (G c)), ?_, ?_⟩
  · refine (θ_run _ _ _).mono (fun r hr c => ?_) (Value.run_blocks (F := Ideal) m ρ)
    obtain ⟨h3, h4, h5, h6, h7, h8, ha⟩ := hr c
    exact ⟨h3.trans (final3 (h c)), h4.trans (final4 (h c)), h5.trans (final5 (h c)), h6.trans (final6 (h c)), h7.trans (final7 (h c)), h8.trans (final8 (h c)), ha⟩
  · refine (θ_run _ _ _).mono (fun r hr c => ?_) (Cert.Reference10Ideal.Value.run (F := Ideal) m' ρ')
    obtain ⟨h0, h1, h2, h3, h4, h5, ha⟩ := hr c
    obtain ⟨a0, a1, a2⟩ := hargs c
    have g0 := (h c).a0; rw [← a0] at g0
    have g1 := (h c).a1; rw [← a1] at g1
    have g2 := (h c).a2; rw [← a2] at g2
    refine ⟨h0.trans ?_, h1.trans ?_, h2.trans ?_, h3.trans ?_, h4.trans ?_, h5.trans ?_, ha⟩
    · exact (Cert.Reference10Ideal.Read.val_main_v18_eq _ _ _).trans
        (Cert.Reference10Ideal.InpFwd.v18_E g0 g1 g2).eq_mat
    · exact (Cert.Reference10Ideal.Read.val_main_v14_eq _ _ _).trans
        (Cert.Reference10Ideal.InpFwd.v14_E g0 g1 g2).eq_mat
    · exact (Cert.Reference10Ideal.Read.val_main_v15_eq _ _ _).trans
        (Cert.Reference10Ideal.InpFwd.v15_E g0 g1 g2).eq_mat
    · exact (Cert.Reference10Ideal.Read.val_main_v19_eq _ _ _).trans
        (Cert.Reference10Ideal.InpFwd.v19_E g0 g1 g2).eq_mat
    · exact (Cert.Reference10Ideal.Read.val_main_v17_eq _ _ _).trans
        (Cert.Reference10Ideal.InpFwd.v17_E g0 g1 g2).eq_mat
    · exact (Cert.Reference10Ideal.Read.val_main_v20_eq _ _).trans
        (Cert.Reference10Ideal.InpFwd.v20_E g0 g1).eq_mat

end Cert.Kernel10Ideal.InpFwd

end
-- ==== Proof.MixFwd.Out.lean ====
/-
  What the body of `Kernel11Ideal`'s call computes, at a row and a column, and what it leaves in its output blocks: `A` and `O` are
  the two heads' outputs, `L` the gates' logits, `B` their bias.
-/
module

public import proofs.«01_k».proof.Proof.Gen.Kernel11Ideal.Value
public import proofs.«01_k».proof.Proof.Fwd.Rows

@[expose] public section

noncomputable section

namespace Cert.Kernel11Ideal.MixFwd

open Cert.Kernel11Ideal Cert.Kernel11Ideal.Gen Idealize.ShloMosaic Cert.Fwd

/-- The gated sum of the two projections. -/
def mrow {n : Nat} (A O : Fin n → Fin 512 → EReal) (L : Fin n → Fin 2048 → EReal) (B : Fin 1 → Fin 2048 → EReal)
    (U V : Fin 512 → Fin 1024 → EReal) (j : Fin n) (k : Fin 1024) : EReal :=
  Ideal.logistic (L j ⟨k.val, by have := k.isLt; omega⟩ + B 0 ⟨k.val, by have := k.isLt; omega⟩) * mul (A j) U k
    + Ideal.logistic (L j ⟨1024 + k.val, by have := k.isLt; omega⟩ + B 0 ⟨1024 + k.val, by have := k.isLt; omega⟩) * mul (O j) V k

/-- It times the output weight, and the row the layer leaves. -/
def yrow {n : Nat} (A O : Fin n → Fin 512 → EReal) (L : Fin n → Fin 2048 → EReal) (B : Fin 1 → Fin 2048 → EReal)
    (U V : Fin 512 → Fin 1024 → EReal) (W : Fin 1024 → Fin 1024 → EReal) (j : Fin n) (k : Fin 1024) : EReal :=
  mul (mrow A O L B U V j) W k
def xrow {n : Nat} (A O : Fin n → Fin 512 → EReal) (L : Fin n → Fin 2048 → EReal) (X : Fin n → Fin 1024 → EReal)
    (B : Fin 1 → Fin 2048 → EReal) (P : Fin 1 → Fin 1024 → EReal) (U V : Fin 512 → Fin 1024 → EReal)
    (W : Fin 1024 → Fin 1024 → EReal) (j : Fin n) (k : Fin 1024) : EReal :=
  X j k + nrm (yrow A O L B U V W j) k * P 0 k

variable {x0 x1 : Vec Ideal S512x512 .f32} {x2 : Vec Ideal S512x2048 .f32} {x3 : Vec Ideal S512x1024 .f32}
  {x4 : Vec Ideal S1x2048 .f32} {x5 : Vec Ideal S1x1024 .f32} {x6 x7 : Vec Ideal S512x1024 .bf16}
  {x8 : Vec Ideal S1024x1024 .bf16} {A O : Fin 512 → Fin 512 → EReal} {L : Fin 512 → Fin 2048 → EReal} {X : Fin 512 → Fin 1024 → EReal}
  {B : Fin 1 → Fin 2048 → EReal} {P : Fin 1 → Fin 1024 → EReal} {U V : Fin 512 → Fin 1024 → EReal} {W : Fin 1024 → Fin 1024 → EReal}

theorem pay4_E (h0 : E2 x0 A) (h1 : E2 x1 O) (h2 : E2 x2 L) (h4 : E2 x4 B) (h6 : E2 x6 U) (h7 : E2 x7 V) :
    E2 (k0_pay4 x0 x1 x6 x7 x2 x4) (mrow A O L B U V) := by
  intro j k
  pointwise [k0_pay4, k0_pay2, k0_pay3]
  simp only [h0.at, h1.at, h2.at, h4.at, h6.at, h7.at]
  unfold mrow
  rfl

theorem pay5_E (h0 : E2 x0 A) (h1 : E2 x1 O) (h2 : E2 x2 L) (h4 : E2 x4 B) (h6 : E2 x6 U) (h7 : E2 x7 V) (h8 : E2 x8 W) :
    E2 (k0_pay5 x0 x1 x6 x7 x2 x4 x8) (yrow A O L B U V W) := by
  intro j k
  pointwise [k0_pay5]
  simp only [(pay4_E h0 h1 h2 h4 h6 h7).at, h8.at]
  rfl

theorem pay1_E (h0 : E2 x0 A) (h1 : E2 x1 O) (h2 : E2 x2 L) (h3 : E2 x3 X) (h4 : E2 x4 B) (h5 : E2 x5 P) (h6 : E2 x6 U)
    (h7 : E2 x7 V) (h8 : E2 x8 W) :
    E2 (k0_pay1 (k0_pay5 x0 x1 x6 x7 x2 x4 x8) (k0_pay6 x0 x1 x6 x7 x2 x4 x8) x3 x5) (xrow A O L X B P U V W) := by
  intro j k
  pointwise [k0_pay1, k0_pay6]
  simp only [(pay5_E h0 h1 h2 h4 h6 h7 h8).at, h3.at, h5.at]
  rfl

theorem out_9 (h0 : E2 x0 A) (h1 : E2 x1 O) (h2 : E2 x2 L) (h3 : E2 x3 X) (h4 : E2 x4 B) (h5 : E2 x5 P) (h6 : E2 x6 U)
    (h7 : E2 x7 V) (h8 : E2 x8 W) :
    E2 (out0_9 x0 x1 x2 x3 x4 x5 x6 x7 x8) (xrow A O L X B P U V W) := by
  unfold out0_9
  rw [View.canon_unit_zero (S := S512x1024) hz]
  simp only [View.ld_unit_zero (S := S512x512) hz, View.ld_unit_zero (S := S512x2048) hz, View.ld_unit_zero (S := S512x1024) hz, View.ld_unit_zero (S := S1x2048) hz, View.ld_unit_zero (S := S1x1024) hz, View.ld_unit_zero (S := S1024x1024) hz]
  exact pay1_E h0 h1 h2 h3 h4 h5 h6 h7 h8

theorem out_10 (h0 : E2 x0 A) (h1 : E2 x1 O) (h2 : E2 x2 L) (h4 : E2 x4 B) (h6 : E2 x6 U) (h7 : E2 x7 V) (h8 : E2 x8 W) :
    E2 (out0_10 x0 x1 x2 x3 x4 x5 x6 x7 x8) (yrow A O L B U V W) := by
  unfold out0_10
  rw [View.canon_unit_zero (S := S512x1024) hz]
  simp only [View.ld_unit_zero (S := S512x512) hz, View.ld_unit_zero (S := S512x2048) hz, View.ld_unit_zero (S := S512x1024) hz, View.ld_unit_zero (S := S1x2048) hz, View.ld_unit_zero (S := S1024x1024) hz]
  exact pay5_E h0 h1 h2 h4 h6 h7 h8

theorem out_11 (h0 : E2 x0 A) (h1 : E2 x1 O) (h2 : E2 x2 L) (h4 : E2 x4 B) (h6 : E2 x6 U) (h7 : E2 x7 V) :
    E2 (out0_11 x0 x1 x2 x3 x4 x5 x6 x7 x8) (mrow A O L B U V) := by
  unfold out0_11
  rw [View.canon_unit_zero (S := S512x1024) hz]
  simp only [View.ld_unit_zero (S := S512x512) hz, View.ld_unit_zero (S := S512x2048) hz, View.ld_unit_zero (S := S512x1024) hz, View.ld_unit_zero (S := S1x2048) hz]
  exact pay4_E h0 h1 h2 h4 h6 h7

end Cert.Kernel11Ideal.MixFwd

end
-- ==== Proof.MixFwd.Host.lean ====
/-
  What the host code of `Kernel11Ideal` hands its call: the three weights narrowed.
-/
module

public import proofs.«01_k».proof.Proof.Gen.Kernel11Ideal.Value
public import proofs.«01_k».proof.Proof.Fwd.Rows
public import Idealize.ShloMosaic.Lib.Claim
public import Idealize.ShloMosaic.Lib.StableHlo.RunRead

@[expose] public section

noncomputable section

namespace Cert.Kernel11Ideal.MixFwd

open Cert.Kernel11Ideal Cert.Kernel11Ideal.Gen Idealize.ShloMosaic Idealize.ShloMosaic.TcCoe Idealize.SL.Sem

variable (m : (ℓ : Loc nD τ sig) → Buf (Elt Ideal) ℓ) (c : Dev nD)

theorem V_v0 : V m c main_v0
    = (truncf .bf16 (m ((c : Thread nD τ).loc main_arg6) : FVec Ideal S512x1024 .f32) bitsLt_bf16_f32 : FVec Ideal S512x1024 .bf16) := by
  unfold V
  after_reads_simp

theorem V_v1 : V m c main_v1
    = (truncf .bf16 (m ((c : Thread nD τ).loc main_arg7) : FVec Ideal S512x1024 .f32) bitsLt_bf16_f32 : FVec Ideal S512x1024 .bf16) := by
  unfold V
  after_reads_simp

theorem V_v2 : V m c main_v2
    = (truncf .bf16 (m ((c : Thread nD τ).loc main_arg8) : FVec Ideal S1024x1024 .f32) bitsLt_bf16_f32 : FVec Ideal S1024x1024 .bf16) := by
  unfold V
  after_reads_simp

end Cert.Kernel11Ideal.MixFwd

end
-- ==== Proof.MixFwd.Arr.lean ====
/-
  The three results of `Kernel11Ideal`'s call: block by block the functions of a row that `MixFwd/Out` finds, the blocks put
  together.
-/
module

public import proofs.«01_k».proof.Proof.MixFwd.Out
public import proofs.«01_k».proof.Proof.MixFwd.Host
public import Idealize.ShloMosaic.Lib.Pipeline.ValueKit.Geometry

@[expose] public section

noncomputable section

namespace Cert.Kernel11Ideal.MixFwd

open Cert.Kernel11Ideal Cert.Kernel11Ideal.Gen Idealize.ShloMosaic Idealize.ShloMosaic.TcCoe Idealize.SL.Sem Cert.Fwd

variable (m : (ℓ : Loc nD τ sig) → Buf (Elt Ideal) ℓ) (c : Dev nD)

/-- What the arguments hold. -/
structure Args (A O : Fin 8192 → Fin 512 → EReal) (L : Fin 8192 → Fin 2048 → EReal) (X : Fin 8192 → Fin 1024 → EReal)
    (B : Fin 1 → Fin 2048 → EReal) (P : Fin 1 → Fin 1024 → EReal) (U V' : Fin 512 → Fin 1024 → EReal) (W : Fin 1024 → Fin 1024 → EReal) : Prop where
  a0 : E2 (m ((c : Thread nD τ).loc main_arg0)) A
  a1 : E2 (m ((c : Thread nD τ).loc main_arg1)) O
  a2 : E2 (m ((c : Thread nD τ).loc main_arg2)) L
  a3 : E2 (m ((c : Thread nD τ).loc main_arg3)) X
  a4 : E2 (m ((c : Thread nD τ).loc main_arg4)) B
  a5 : E2 (m ((c : Thread nD τ).loc main_arg5)) P
  a6 : E2 (m ((c : Thread nD τ).loc main_arg6)) U
  a7 : E2 (m ((c : Thread nD τ).loc main_arg7)) V'
  a8 : E2 (m ((c : Thread nD τ).loc main_arg8)) W

/-- Row `j` of a point's block. -/
def row (t : Fin cfg0.N) (j : Fin 512) : Fin 8192 :=
  ⟨512 * t.val + j.val, by have := lt_of_lt_of_eq t.isLt N_0; have := j.isLt; omega⟩

section Blocks

variable {m c} {A O : Fin 8192 → Fin 512 → EReal} {L : Fin 8192 → Fin 2048 → EReal} {X : Fin 8192 → Fin 1024 → EReal}
    {B : Fin 1 → Fin 2048 → EReal} {P : Fin 1 → Fin 1024 → EReal} {U V' : Fin 512 → Fin 1024 → EReal} {W : Fin 1024 → Fin 1024 → EReal}

theorem blk0 (h : Args m c A O L X B P U V' W) (t : Fin cfg0.N) :
    E2 (iblk m c 0 t : Vec Ideal S512x512 .f32) (fun j => A (row t j)) := by
  intro j k
  refine Eq.trans ?_ (h.a0.at (row t j) k)
  unfold iblk
  rw [View.read_apply]
  show V m c main_arg0 _ = _
  rw [V_main_arg0]
  congr 1
  have hi := (by decide +kernel : ∀ t : Fin grid0.N, win0_0.index t 0 = t.val ∧ win0_0.index t 1 = 0) t
  funext d
  apply Fin.ext
  match d with
  | ⟨0, _⟩ => show win0_0.index t 0 * 512 + 1 * j.val = 512 * t.val + j.val; rw [hi.1]; omega
  | ⟨1, _⟩ => show win0_0.index t 1 * 512 + 1 * k.val = k.val; rw [hi.2]; omega

theorem blk1 (h : Args m c A O L X B P U V' W) (t : Fin cfg0.N) :
    E2 (iblk m c 1 t : Vec Ideal S512x512 .f32) (fun j => O (row t j)) := by
  intro j k
  refine Eq.trans ?_ (h.a1.at (row t j) k)
  unfold iblk
  rw [View.read_apply]
  show V m c main_arg1 _ = _
  rw [V_main_arg1]
  congr 1
  have hi := (by decide +kernel : ∀ t : Fin grid0.N, win0_1.index t 0 = t.val ∧ win0_1.index t 1 = 0) t
  funext d
  apply Fin.ext
  match d with
  | ⟨0, _⟩ => show win0_1.index t 0 * 512 + 1 * j.val = 512 * t.val + j.val; rw [hi.1]; omega
  | ⟨1, _⟩ => show win0_1.index t 1 * 512 + 1 * k.val = k.val; rw [hi.2]; omega

theorem blk2 (h : Args m c A O L X B P U V' W) (t : Fin cfg0.N) :
    E2 (iblk m c 2 t : Vec Ideal S512x2048 .f32) (fun j => L (row t j)) := by
  intro j k
  refine Eq.trans ?_ (h.a2.at (row t j) k)
  unfold iblk
  rw [View.read_apply]
  show V m c main_arg2 _ = _
  rw [V_main_arg2]
  congr 1
  have hi := (by decide +kernel : ∀ t : Fin grid0.N, win0_2.index t 0 = t.val ∧ win0_2.index t 1 = 0) t
  funext d
  apply Fin.ext
  match d with
  | ⟨0, _⟩ => show win0_2.index t 0 * 512 + 1 * j.val = 512 * t.val + j.val; rw [hi.1]; omega
  | ⟨1, _⟩ => show win0_2.index t 1 * 2048 + 1 * k.val = k.val; rw [hi.2]; omega

theorem blk3 (h : Args m c A O L X B P U V' W) (t : Fin cfg0.N) :
    E2 (iblk m c 3 t : Vec Ideal S512x1024 .f32) (fun j => X (row t j)) := by
  intro j k
  refine Eq.trans ?_ (h.a3.at (row t j) k)
  unfold iblk
  rw [View.read_apply]
  show V m c main_arg3 _ = _
  rw [V_main_arg3]
  congr 1
  have hi := (by decide +kernel : ∀ t : Fin grid0.N, win0_3.index t 0 = t.val ∧ win0_3.index t 1 = 0) t
  funext d
  apply Fin.ext
  match d with
  | ⟨0, _⟩ => show win0_3.index t 0 * 512 + 1 * j.val = 512 * t.val + j.val; rw [hi.1]; omega
  | ⟨1, _⟩ => show win0_3.index t 1 * 1024 + 1 * k.val = k.val; rw [hi.2]; omega

theorem blk4 (h : Args m c A O L X B P U V' W) (t : Fin cfg0.N) :
    E2 (iblk m c 4 t : Vec Ideal S1x2048 .f32) B := by
  intro j k
  refine Eq.trans ?_ (h.a4.at j k)
  unfold iblk
  rw [View.read_apply]
  show V m c main_arg4 _ = _
  rw [V_main_arg4]
  congr 1
  have hi := (by decide +kernel : ∀ t : Fin grid0.N, win0_4.index t 0 = 0 ∧ win0_4.index t 1 = 0) t
  funext d
  apply Fin.ext
  match d with
  | ⟨0, _⟩ => show win0_4.index t 0 * 1 + 1 * j.val = j.val; rw [hi.1]; omega
  | ⟨1, _⟩ => show win0_4.index t 1 * 2048 + 1 * k.val = k.val; rw [hi.2]; omega

theorem blk5 (h : Args m c A O L X B P U V' W) (t : Fin cfg0.N) :
    E2 (iblk m c 5 t : Vec Ideal S1x1024 .f32) P := by
  intro j k
  refine Eq.trans ?_ (h.a5.at j k)
  unfold iblk
  rw [View.read_apply]
  show V m c main_arg5 _ = _
  rw [V_main_arg5]
  congr 1
  have hi := (by decide +kernel : ∀ t : Fin grid0.N, win0_5.index t 0 = 0 ∧ win0_5.index t 1 = 0) t
  funext d
  apply Fin.ext
  match d with
  | ⟨0, _⟩ => show win0_5.index t 0 * 1 + 1 * j.val = j.val; rw [hi.1]; omega
  | ⟨1, _⟩ => show win0_5.index t 1 * 1024 + 1 * k.val = k.val; rw [hi.2]; omega

theorem blk6 (h : Args m c A O L X B P U V' W) (t : Fin cfg0.N) :
    E2 (iblk m c 6 t : Vec Ideal S512x1024 .bf16) U := by
  intro j k
  refine Eq.trans ?_ (h.a6.at j k)
  unfold iblk
  rw [View.read_apply]
  show V m c main_v0 _ = _
  rw [V_v0]
  show m _ _ = m _ _
  congr 1
  have hi := (by decide +kernel : ∀ t : Fin grid0.N, win0_6.index t 0 = 0 ∧ win0_6.index t 1 = 0) t
  funext d
  apply Fin.ext
  match d with
  | ⟨0, _⟩ => show win0_6.index t 0 * 512 + 1 * j.val = j.val; rw [hi.1]; omega
  | ⟨1, _⟩ => show win0_6.index t 1 * 1024 + 1 * k.val = k.val; rw [hi.2]; omega

theorem blk7 (h : Args m c A O L X B P U V' W) (t : Fin cfg0.N) :
    E2 (iblk m c 7 t : Vec Ideal S512x1024 .bf16) V' := by
  intro j k
  refine Eq.trans ?_ (h.a7.at j k)
  unfold iblk
  rw [View.read_apply]
  show V m c main_v1 _ = _
  rw [V_v1]
  show m _ _ = m _ _
  congr 1
  have hi := (by decide +kernel : ∀ t : Fin grid0.N, win0_7.index t 0 = 0 ∧ win0_7.index t 1 = 0) t
  funext d
  apply Fin.ext
  match d with
  | ⟨0, _⟩ => show win0_7.index t 0 * 512 + 1 * j.val = j.val; rw [hi.1]; omega
  | ⟨1, _⟩ => show win0_7.index t 1 * 1024 + 1 * k.val = k.val; rw [hi.2]; omega

theorem blk8 (h : Args m c A O L X B P U V' W) (t : Fin cfg0.N) :
    E2 (iblk m c 8 t : Vec Ideal S1024x1024 .bf16) W := by
  intro j k
  refine Eq.trans ?_ (h.a8.at j k)
  unfold iblk
  rw [View.read_apply]
  show V m c main_v2 _ = _
  rw [V_v2]
  show m _ _ = m _ _
  congr 1
  have hi := (by decide +kernel : ∀ t : Fin grid0.N, win0_8.index t 0 = 0 ∧ win0_8.index t 1 = 0) t
  funext d
  apply Fin.ext
  match d with
  | ⟨0, _⟩ => show win0_8.index t 0 * 1024 + 1 * j.val = j.val; rw [hi.1]; omega
  | ⟨1, _⟩ => show win0_8.index t 1 * 1024 + 1 * k.val = k.val; rw [hi.2]; omega

/-- What a point leaves in output block 9. -/
theorem left9 (h : Args m c A O L X B P U V' W) (t : Fin cfg0.N) :
    E2 (out0_9 (iblk m c 0 t) (iblk m c 1 t) (iblk m c 2 t) (iblk m c 3 t) (iblk m c 4 t) (iblk m c 5 t) (iblk m c 6 t) (iblk m c 7 t) (iblk m c 8 t) : Vec Ideal S512x1024 .f32) fun j => (xrow A O L X B P U V' W) (row t j) :=
  out_9 (blk0 h t) (blk1 h t) (blk2 h t) (blk3 h t) (blk4 h t) (blk5 h t) (blk6 h t) (blk7 h t) (blk8 h t)

theorem final9 (h : Args m c A O L X B P U V' W) : (dats m 0 c).arrAt 9 cfg0.N = mat (xrow A O L X B P U V' W) := by
  refine (dats m 0 c).arrAt_eq_of_covers 9 _ (by decide +kernel) fun t hf y => ?_
  blk_simp
  rw [after0_9]
  have hi := (by decide +kernel : ∀ t : Fin grid0.N, win0_9.index t 0 = t.val ∧ win0_9.index t 1 = 0) t
  obtain ⟨j, k, rfl⟩ : ∃ (j : Fin 512) (k : Fin 1024), y = ix2 j k := ⟨y 0, y 1, by funext d; fin_cases d <;> rfl⟩
  refine (left9 h t j k).trans ?_
  have e0 : ((win0_9.blk t).view.emb (ix2 j k)) 0 = row t j := by
    apply Fin.ext
    show win0_9.index t 0 * 512 + 1 * j.val = 512 * t.val + j.val
    rw [hi.1]; omega
  have e1 : ((win0_9.blk t).view.emb (ix2 j k)) 1 = k := by
    apply Fin.ext
    show win0_9.index t 1 * 1024 + 1 * k.val = k.val
    rw [hi.2]; omega
  show _ = (xrow A O L X B P U V' W) (((win0_9.blk t).view.emb (ix2 j k)) 0) (((win0_9.blk t).view.emb (ix2 j k)) 1)
  rw [e0, e1]

/-- What a point leaves in output block 10. -/
theorem left10 (h : Args m c A O L X B P U V' W) (t : Fin cfg0.N) :
    E2 (out0_10 (iblk m c 0 t) (iblk m c 1 t) (iblk m c 2 t) (iblk m c 3 t) (iblk m c 4 t) (iblk m c 5 t) (iblk m c 6 t) (iblk m c 7 t) (iblk m c 8 t) : Vec Ideal S512x1024 .f32) fun j => (yrow A O L B U V' W) (row t j) :=
  out_10 (blk0 h t) (blk1 h t) (blk2 h t) (blk4 h t) (blk6 h t) (blk7 h t) (blk8 h t)

theorem final10 (h : Args m c A O L X B P U V' W) : (dats m 0 c).arrAt 10 cfg0.N = mat (yrow A O L B U V' W) := by
  refine (dats m 0 c).arrAt_eq_of_covers 10 _ (by decide +kernel) fun t hf y => ?_
  blk_simp
  rw [after0_10]
  have hi := (by decide +kernel : ∀ t : Fin grid0.N, win0_10.index t 0 = t.val ∧ win0_10.index t 1 = 0) t
  obtain ⟨j, k, rfl⟩ : ∃ (j : Fin 512) (k : Fin 1024), y = ix2 j k := ⟨y 0, y 1, by funext d; fin_cases d <;> rfl⟩
  refine (left10 h t j k).trans ?_
  have e0 : ((win0_10.blk t).view.emb (ix2 j k)) 0 = row t j := by
    apply Fin.ext
    show win0_10.index t 0 * 512 + 1 * j.val = 512 * t.val + j.val
    rw [hi.1]; omega
  have e1 : ((win0_10.blk t).view.emb (ix2 j k)) 1 = k := by
    apply Fin.ext
    show win0_10.index t 1 * 1024 + 1 * k.val = k.val
    rw [hi.2]; omega
  show _ = (yrow A O L B U V' W) (((win0_10.blk t).view.emb (ix2 j k)) 0) (((win0_10.blk t).view.emb (ix2 j k)) 1)
  rw [e0, e1]

/-- What a point leaves in output block 11. -/
theorem left11 (h : Args m c A O L X B P U V' W) (t : Fin cfg0.N) :
    E2 (out0_11 (iblk m c 0 t) (iblk m c 1 t) (iblk m c 2 t) (iblk m c 3 t) (iblk m c 4 t) (iblk m c 5 t) (iblk m c 6 t) (iblk m c 7 t) (iblk m c 8 t) : Vec Ideal S512x1024 .bf16) fun j => (mrow A O L B U V') (row t j) :=
  out_11 (blk0 h t) (blk1 h t) (blk2 h t) (blk4 h t) (blk6 h t) (blk7 h t)

theorem final11 (h : Args m c A O L X B P U V' W) : (dats m 0 c).arrAt 11 cfg0.N = mat (mrow A O L B U V') := by
  refine (dats m 0 c).arrAt_eq_of_covers 11 _ (by decide +kernel) fun t hf y => ?_
  blk_simp
  rw [after0_11]
  have hi := (by decide +kernel : ∀ t : Fin grid0.N, win0_11.index t 0 = t.val ∧ win0_11.index t 1 = 0) t
  obtain ⟨j, k, rfl⟩ : ∃ (j : Fin 512) (k : Fin 1024), y = ix2 j k := ⟨y 0, y 1, by funext d; fin_cases d <;> rfl⟩
  refine (left11 h t j k).trans ?_
  have e0 : ((win0_11.blk t).view.emb (ix2 j k)) 0 = row t j := by
    apply Fin.ext
    show win0_11.index t 0 * 512 + 1 * j.val = 512 * t.val + j.val
    rw [hi.1]; omega
  have e1 : ((win0_11.blk t).view.emb (ix2 j k)) 1 = k := by
    apply Fin.ext
    show win0_11.index t 1 * 1024 + 1 * k.val = k.val
    rw [hi.2]; omega
  show _ = (mrow A O L B U V') (((win0_11.blk t).view.emb (ix2 j k)) 0) (((win0_11.blk t).view.emb (ix2 j k)) 1)
  rw [e0, e1]

end Blocks

end Cert.Kernel11Ideal.MixFwd

end
-- ==== Proof.MixFwd.Ref.lean ====
/-
  The reference of the forward mix, stage by stage: row by row the functions the kernel computes.
-/
module

public import proofs.«01_k».proof.Proof.Gen.Reference11Ideal.Read
public import proofs.«01_k».proof.Proof.MixFwd.Out

@[expose] public section

noncomputable section

namespace Cert.Reference11Ideal.MixFwd

open Cert.Reference11Ideal Cert.Reference11Ideal.Gen Cert.Reference11Ideal.Read Idealize.ShloMosaic Idealize.SL.Sem Cert.Fwd
open Cert.Kernel11Ideal.MixFwd (mrow yrow xrow)

variable {x0 x1 : (⟨S8192x512, .f32⟩ : BufTy).Contents (Elt Ideal)} {x2 : (⟨S8192x2048, .f32⟩ : BufTy).Contents (Elt Ideal)}
  {x3 : (⟨S8192x1024, .f32⟩ : BufTy).Contents (Elt Ideal)} {x4 : (⟨S1x2048, .f32⟩ : BufTy).Contents (Elt Ideal)}
  {x5 : (⟨S1x1024, .f32⟩ : BufTy).Contents (Elt Ideal)} {x6 x7 : (⟨S512x1024, .f32⟩ : BufTy).Contents (Elt Ideal)}
  {x8 : (⟨S1024x1024, .f32⟩ : BufTy).Contents (Elt Ideal)}
  {A O : Fin 8192 → Fin 512 → EReal} {L : Fin 8192 → Fin 2048 → EReal} {X : Fin 8192 → Fin 1024 → EReal}
  {B : Fin 1 → Fin 2048 → EReal} {P : Fin 1 → Fin 1024 → EReal} {U V : Fin 512 → Fin 1024 → EReal} {W : Fin 1024 → Fin 1024 → EReal}

theorem v14_E (h0 : E2 x0 A) (h1 : E2 x1 O) (h2 : E2 x2 L) (h4 : E2 x4 B) (h6 : E2 x6 U) (h7 : E2 x7 V) :
    E2 (val_main_v14 (F := Ideal) x0 x1 x2 x4 x6 x7) (mrow A O L B U V) := by
  intro j k
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0]
  simp only [h0.at, h1.at, h2.at, h4.at, h6.at, h7.at]
  unfold mrow
  rfl

theorem v29_E (h0 : E2 x0 A) (h1 : E2 x1 O) (h2 : E2 x2 L) (h4 : E2 x4 B) (h6 : E2 x6 U) (h7 : E2 x7 V) :
    E2 (val_main_v29 (F := Ideal) x0 x1 x2 x4 x6 x7) (mrow A O L B U V) := fun j k => v14_E h0 h1 h2 h4 h6 h7 j k

theorem v15_E (h0 : E2 x0 A) (h1 : E2 x1 O) (h2 : E2 x2 L) (h4 : E2 x4 B) (h6 : E2 x6 U) (h7 : E2 x7 V) (h8 : E2 x8 W) :
    E2 (val_main_v15 (F := Ideal) x0 x1 x2 x4 x6 x7 x8) (yrow A O L B U V W) := by
  intro j k
  pointwise [val_main_v15]
  simp only [(v14_E h0 h1 h2 h4 h6 h7).at, h8.at]
  rfl

theorem v28_E (h0 : E2 x0 A) (h1 : E2 x1 O) (h2 : E2 x2 L) (h3 : E2 x3 X) (h4 : E2 x4 B) (h5 : E2 x5 P) (h6 : E2 x6 U)
    (h7 : E2 x7 V) (h8 : E2 x8 W) :
    E2 (val_main_v28 (F := Ideal) x0 x1 x2 x3 x4 x5 x6 x7 x8) (xrow A O L X B P U V W) := by
  intro j k
  pointwise [val_main_v28, val_main_v27, val_main_v26, val_main_v25, val_main_v24, val_main_v23, val_main_v22, val_main_v21, val_main_v20, val_main_v19, val_main_v18, val_main_v17, val_main_v16, val_main_cst_1, val_main_cst_2, val_main_cst_3]
  simp only [(v15_E h0 h1 h2 h4 h6 h7 h8).at, h3.at, h5.at]
  rfl

end Cert.Reference11Ideal.MixFwd

end
-- ==== Proof.MixFwd.Claim.lean ====
/-
  The claim about the forward mix: its three results are the layer's, of whatever arguments.
-/
module

public import proofs.«01_k».proof.Defs
public import proofs.«01_k».proof.Proof.MixFwd.Arr
public import proofs.«01_k».proof.Proof.MixFwd.Ref

@[expose] public section

noncomputable section

namespace Cert.Kernel11Ideal.MixFwd

open Cert.Kernel11Ideal Cert.Kernel11Ideal.Gen Idealize.ShloMosaic Idealize.ShloMosaic.TcCoe Idealize.SL.Sem Cert.Fwd

theorem args (m : (ℓ : Loc nD τ sig) → Buf (Elt Ideal) ℓ) (c : Dev nD) : ∃ A O L X B P U V' W, Args m c A O L X B P U V' W :=
  ⟨_, _, _, _, _, _, _, _, _, E2.self _, E2.self _, E2.self _, E2.self _, E2.self _, E2.self _, E2.self _, E2.self _, E2.self _⟩

theorem algebraic [Cert.Kernel11Ideal.Facts] [Cert.Reference11Ideal.Facts] : Cert.algebraic_Kernel11Ideal_Reference11Ideal := by
  intro m ρ m' ρ' _ hargs
  choose A O L X B P U V' W h using args m
  refine ⟨fun c => mat (xrow (A c) (O c) (L c) (X c) (B c) (P c) (U c) (V' c) (W c)),
    fun c => mat (yrow (A c) (O c) (L c) (B c) (U c) (V' c) (W c)),
    fun c => mat (mrow (A c) (O c) (L c) (B c) (U c) (V' c)), ?_, ?_⟩
  · refine (θ_run _ _ _).mono (fun r hr c => ?_) (Value.run_blocks (F := Ideal) m ρ)
    obtain ⟨h9, h10, h11, _, _, ha⟩ := hr c
    exact ⟨h9.trans (final9 (h c)), h10.trans (final10 (h c)), h11.trans (final11 (h c)), ha⟩
  · refine (θ_run _ _ _).mono (fun r hr c => ?_) (Cert.Reference11Ideal.Value.run (F := Ideal) m' ρ')
    obtain ⟨h0, h1, h2, ha⟩ := hr c
    obtain ⟨a0, a1, a2, a3, a4, a5, a6, a7, a8⟩ := hargs c
    have g0 := (h c).a0; rw [← a0] at g0
    have g1 := (h c).a1; rw [← a1] at g1
    have g2 := (h c).a2; rw [← a2] at g2
    have g3 := (h c).a3; rw [← a3] at g3
    have g4 := (h c).a4; rw [← a4] at g4
    have g5 := (h c).a5; rw [← a5] at g5
    have g6 := (h c).a6; rw [← a6] at g6
    have g7 := (h c).a7; rw [← a7] at g7
    have g8 := (h c).a8; rw [← a8] at g8
    refine ⟨h0.trans ?_, h1.trans ?_, h2.trans ?_, ha⟩
    · exact (Cert.Reference11Ideal.Read.val_main_v28_eq _ _).trans
        (Cert.Reference11Ideal.MixFwd.v28_E g0 g1 g2 g3 g4 g5 g6 g7 g8).eq_mat
    · exact (Cert.Reference11Ideal.Read.val_main_v15_eq _ _ _ _ _ _ _).trans
        (Cert.Reference11Ideal.MixFwd.v15_E g0 g1 g2 g4 g6 g7 g8).eq_mat
    · exact (Cert.Reference11Ideal.Read.val_main_v29_eq _ _ _ _ _ _).trans
        (Cert.Reference11Ideal.MixFwd.v29_E g0 g1 g2 g4 g6 g7).eq_mat

end Cert.Kernel11Ideal.MixFwd

end
-- ==== Proof.Adam.Step.lean ====
/-
  One AdamW step of one weight, over extended reals: the two moments and the change of the weight. The kernels and the
  references are both brought to these functions.
-/
module

public import proofs.«01_k».proof.Proof.Fwd.Rows

@[expose] public section

noncomputable section

namespace Cert.Adam

open Idealize.ShloMosaic

/-- The first moment: 0.9 of the old and 0.1 of the gradient. -/
def first (g m : EReal) : EReal := Ideal.ofBits .f32 0x3F666666#32 * m + Ideal.ofBits .f32 0x3DCCCCCD#32 * g

/-- The second moment: 0.999 of the old and 0.001 of the gradient's square. -/
def second (g v : EReal) : EReal := Ideal.ofBits .f32 0x3F7FBE77#32 * v + Ideal.ofBits .f32 0x3A83126F#32 * (g * g)

/-- The change of the weight: the first moment over the root of the second, each corrected for its bias, and the decay. -/
def delta (w g m v : EReal) : EReal :=
  Ideal.ofBits .f32 0xBA83126F#32 *
    (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

end Cert.Adam

end
-- ==== Proof.Adam.A15.lean ====
/-
  The AdamW call of w_in: its three results are the step's, of whatever arguments.
-/
module

public import proofs.«01_k».proof.Defs
public import proofs.«01_k».proof.Proof.Gen.Kernel15Ideal.Value
public import proofs.«01_k».proof.Proof.Gen.Reference15Ideal.Read
public import proofs.«01_k».proof.Proof.Adam.Step
public import Idealize.ShloMosaic.Lib.Pipeline.ValueKit.Geometry

@[expose] public section

noncomputable section

namespace Cert.Kernel15Ideal.Adam

open Cert.Kernel15Ideal Cert.Kernel15Ideal.Gen Idealize.ShloMosaic Idealize.ShloMosaic.TcCoe Idealize.SL.Sem Cert.Fwd Cert.Adam

section Out

variable {x0 x1 x2 x3 : Vec Ideal S256x532 .f32} {W G M N : Fin 256 → Fin 532 → EReal}

theorem out_5 (h1 : E2 x1 G) (h2 : E2 x2 M) : E2 (out0_5 x0 x1 x2 x3) fun j k => first (G j k) (M j k) := by
  unfold out0_5
  rw [View.canon_unit_zero hz]
  simp only [View.ld_unit_zero (S := S256x532) hz]
  intro j k
  pointwise [k0_pay1]
  simp only [h1.at, h2.at]
  rfl

theorem out_6 (h1 : E2 x1 G) (h3 : E2 x3 N) : E2 (out0_6 x0 x1 x2 x3) fun j k => second (G j k) (N j k) := by
  unfold out0_6
  rw [View.canon_unit_zero hz]
  simp only [View.ld_unit_zero (S := S256x532) hz]
  intro j k
  pointwise [k0_pay2]
  simp only [h1.at, h3.at]
  rfl

theorem out_4 (h0 : E2 x0 W) (h1 : E2 x1 G) (h2 : E2 x2 M) (h3 : E2 x3 N) :
    E2 (out0_4 x0 x1 x2 x3) fun j k => delta (W j k) (G j k) (M j k) (N j k) := by
  unfold out0_4
  rw [View.canon_unit_zero hz]
  simp only [View.ld_unit_zero (S := S256x532) hz]
  intro j k
  pointwise [k0_pay3, k0_pay1, k0_pay2]
  simp only [h0.at, h1.at, h2.at, h3.at]
  rfl

end Out

variable (m : (ℓ : Loc nD τ sig) → Buf (Elt Ideal) ℓ) (c : Dev nD)

/-- What the arguments hold. -/
structure Args (W G M N : Fin 1024 → Fin 532 → EReal) : Prop where
  a0 : E2 (m ((c : Thread nD τ).loc main_arg0)) W
  a1 : E2 (m ((c : Thread nD τ).loc main_arg1)) G
  a2 : E2 (m ((c : Thread nD τ).loc main_arg2)) M
  a3 : E2 (m ((c : Thread nD τ).loc main_arg3)) N

/-- Row `j` of a point's block. -/
def row (t : Fin cfg0.N) (j : Fin 256) : Fin 1024 :=
  ⟨256 * t.val + j.val, by have := lt_of_lt_of_eq t.isLt N_0; have := j.isLt; omega⟩

section Blocks

variable {m c} {W G M N : Fin 1024 → Fin 532 → EReal}

/-- Where an entry of a point's block lies in its array: at the same place in each of the seven. -/
theorem emb (t : Fin grid0.N) (j : Fin 256) (k : Fin 532) :
    (win0_0.blk t).view.emb (ix2 j k) = (ix2 (row t j) k : S1024x532.Idx) := by
  have hi := (by decide +kernel : ∀ t : Fin grid0.N, win0_0.index t 0 = t.val ∧ win0_0.index t 1 = 0) t
  funext d
  apply Fin.ext
  match d with
  | ⟨0, _⟩ => show win0_0.index t 0 * 256 + 1 * j.val = 256 * t.val + j.val; rw [hi.1]; omega
  | ⟨1, _⟩ => show win0_0.index t 1 * 532 + 1 * k.val = k.val; rw [hi.2]; omega

theorem blk0 (h : Args m c W G M N) (t : Fin cfg0.N) :
    E2 (iblk m c 0 t : Vec Ideal S256x532 .f32) (fun j => W (row t j)) :=
  fun j k => (congrArg (V m c main_arg0) (emb t j k)).trans (h.a0.at _ _)

theorem blk1 (h : Args m c W G M N) (t : Fin cfg0.N) :
    E2 (iblk m c 1 t : Vec Ideal S256x532 .f32) (fun j => G (row t j)) :=
  fun j k => (congrArg (V m c main_arg1) (emb t j k)).trans (h.a1.at _ _)

theorem blk2 (h : Args m c W G M N) (t : Fin cfg0.N) :
    E2 (iblk m c 2 t : Vec Ideal S256x532 .f32) (fun j => M (row t j)) :=
  fun j k => (congrArg (V m c main_arg2) (emb t j k)).trans (h.a2.at _ _)

theorem blk3 (h : Args m c W G M N) (t : Fin cfg0.N) :
    E2 (iblk m c 3 t : Vec Ideal S256x532 .f32) (fun j => N (row t j)) :=
  fun j k => (congrArg (V m c main_arg3) (emb t j k)).trans (h.a3.at _ _)

theorem final4 (h : Args m c W G M N) : (dats m 0 c).arrAt 4 cfg0.N = mat fun j k => delta (W j k) (G j k) (M j k) (N j k) := by
  refine (dats m 0 c).arrAt_eq_of_covers 4 _ (by decide +kernel) fun t hf y => ?_
  blk_simp
  rw [after0_4]
  obtain ⟨j, k, rfl⟩ : ∃ j k, y = (ix2 j k : S256x532.Idx) := ⟨_, _, (ix2_eta y).symm⟩
  exact (out_4 (blk0 h t) (blk1 h t) (blk2 h t) (blk3 h t) j k).trans (congrArg (mat fun j k => delta (W j k) (G j k) (M j k) (N j k)) (emb t j k)).symm

theorem final5 (h : Args m c W G M N) : (dats m 0 c).arrAt 5 cfg0.N = mat fun j k => first (G j k) (M j k) := by
  refine (dats m 0 c).arrAt_eq_of_covers 5 _ (by decide +kernel) fun t hf y => ?_
  blk_simp
  rw [after0_5]
  obtain ⟨j, k, rfl⟩ : ∃ j k, y = (ix2 j k : S256x532.Idx) := ⟨_, _, (ix2_eta y).symm⟩
  exact (out_5 (blk1 h t) (blk2 h t) j k).trans (congrArg (mat fun j k => first (G j k) (M j k)) (emb t j k)).symm

theorem final6 (h : Args m c W G M N) : (dats m 0 c).arrAt 6 cfg0.N = mat fun j k => second (G j k) (N j k) := by
  refine (dats m 0 c).arrAt_eq_of_covers 6 _ (by decide +kernel) fun t hf y => ?_
  blk_simp
  rw [after0_6]
  obtain ⟨j, k, rfl⟩ : ∃ j k, y = (ix2 j k : S256x532.Idx) := ⟨_, _, (ix2_eta y).symm⟩
  exact (out_6 (blk1 h t) (blk3 h t) j k).trans (congrArg (mat fun j k => second (G j k) (N j k)) (emb t j k)).symm

end Blocks

end Cert.Kernel15Ideal.Adam

namespace Cert.Reference15Ideal.Adam

open Cert.Reference15Ideal Cert.Reference15Ideal.Gen Cert.Reference15Ideal.Read Idealize.ShloMosaic Idealize.SL.Sem Cert.Fwd Cert.Adam

variable {x0 x1 x2 x3 : (⟨S1024x532, .f32⟩ : BufTy).Contents (Elt Ideal)} {W G M N : Fin 1024 → Fin 532 → EReal}

theorem v4_E (h1 : E2 x1 G) (h2 : E2 x2 M) :
    E2 (val_main_v4 (F := Ideal) x1 x2) fun j k => first (G j k) (M j k) := by
  intro j k
  pointwise [val_main_v4, val_main_v3, val_main_v2, val_main_v1, val_main_v0, val_main_cst, val_main_cst_0]
  simp only [h1.at, h2.at]
  rfl

theorem v10_E (h1 : E2 x1 G) (h3 : E2 x3 N) :
    E2 (val_main_v10 (F := Ideal) x1 x3) fun j k => second (G j k) (N j k) := by
  intro j k
  pointwise [val_main_v10, val_main_v9, val_main_v8, val_main_v7, val_main_v6, val_main_v5, val_main_cst_1, val_main_cst_2]
  simp only [h1.at, h3.at]
  rfl

theorem v23_E (h0 : E2 x0 W) (h1 : E2 x1 G) (h2 : E2 x2 M) (h3 : E2 x3 N) :
    E2 (val_main_v23 (F := Ideal) x0 x1 x2 x3) fun j k => delta (W j k) (G j k) (M j k) (N j k) := by
  intro j k
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  simp only [h0.at, (v4_E h1 h2).at, (v10_E h1 h3).at]
  rfl

end Cert.Reference15Ideal.Adam

namespace Cert.Kernel15Ideal.Adam

open Cert.Kernel15Ideal Cert.Kernel15Ideal.Gen Idealize.ShloMosaic Idealize.ShloMosaic.TcCoe Idealize.SL.Sem Cert.Fwd Cert.Adam Cert.Reference15Ideal.Read Cert.Reference15Ideal.Adam

theorem args (m : (ℓ : Loc nD τ sig) → Buf (Elt Ideal) ℓ) (c : Dev nD) : ∃ W G M N, Args m c W G M N :=
  ⟨_, _, _, _, E2.self _, E2.self _, E2.self _, E2.self _⟩

theorem algebraic [Cert.Kernel15Ideal.Facts] [Cert.Reference15Ideal.Facts] : Cert.algebraic_Kernel15Ideal_Reference15Ideal := by
  intro m ρ m' ρ' _ hargs
  choose W G M N h using args m
  refine ⟨fun c => mat fun j k => delta (W c j k) (G c j k) (M c j k) (N c j k),
    fun c => mat fun j k => first (G c j k) (M c j k), fun c => mat fun j k => second (G c j k) (N c j k), ?_, ?_⟩
  · refine (θ_run _ _ _).mono (fun r hr c => ?_) (Value.run_blocks (F := Ideal) m ρ)
    obtain ⟨h4, h5, h6, ha⟩ := hr c
    exact ⟨h4.trans (final4 (h c)), h5.trans (final5 (h c)), h6.trans (final6 (h c)), ha⟩
  · refine (θ_run _ _ _).mono (fun r hr c => ?_) (Cert.Reference15Ideal.Value.run (F := Ideal) m' ρ')
    obtain ⟨h0, h1, h2, ha⟩ := hr c
    obtain ⟨a0, a1, a2, a3⟩ := hargs c
    have g0 := (h c).a0; rw [← a0] at g0
    have g1 := (h c).a1; rw [← a1] at g1
    have g2 := (h c).a2; rw [← a2] at g2
    have g3 := (h c).a3; rw [← a3] at g3
    refine ⟨h0.trans ?_, h1.trans ?_, h2.trans ?_, ha⟩
    · exact (val_main_v23_eq _ _ _ _).trans (v23_E g0 g1 g2 g3).eq_mat
    · exact (val_main_v4_eq _ _).trans (v4_E g1 g2).eq_mat
    · exact (val_main_v10_eq _ _).trans (v10_E g1 g3).eq_mat

end Cert.Kernel15Ideal.Adam

end
-- ==== Proof.Adam.A16.lean ====
/-
  The AdamW call of w_uq: its three results are the step's, of whatever arguments.
-/
module

public import proofs.«01_k».proof.Defs
public import proofs.«01_k».proof.Proof.Gen.Kernel16Ideal.Value
public import proofs.«01_k».proof.Proof.Gen.Reference16Ideal.Read
public import proofs.«01_k».proof.Proof.Adam.Step
public import Idealize.ShloMosaic.Lib.Pipeline.ValueKit.Geometry

@[expose] public section

noncomputable section

namespace Cert.Kernel16Ideal.Adam

open Cert.Kernel16Ideal Cert.Kernel16Ideal.Gen Idealize.ShloMosaic Idealize.ShloMosaic.TcCoe Idealize.SL.Sem Cert.Fwd Cert.Adam

section Out

variable {x0 x1 x2 x3 : Vec Ideal S128x96 .f32} {W G M N : Fin 128 → Fin 96 → EReal}

theorem out_5 (h1 : E2 x1 G) (h2 : E2 x2 M) : E2 (out0_5 x0 x1 x2 x3) fun j k => first (G j k) (M j k) := by
  unfold out0_5
  rw [View.canon_unit_zero hz]
  simp only [View.ld_unit_zero (S := S128x96) hz]
  intro j k
  pointwise [k0_pay1]
  simp only [h1.at, h2.at]
  rfl

theorem out_6 (h1 : E2 x1 G) (h3 : E2 x3 N) : E2 (out0_6 x0 x1 x2 x3) fun j k => second (G j k) (N j k) := by
  unfold out0_6
  rw [View.canon_unit_zero hz]
  simp only [View.ld_unit_zero (S := S128x96) hz]
  intro j k
  pointwise [k0_pay2]
  simp only [h1.at, h3.at]
  rfl

theorem out_4 (h0 : E2 x0 W) (h1 : E2 x1 G) (h2 : E2 x2 M) (h3 : E2 x3 N) :
    E2 (out0_4 x0 x1 x2 x3) fun j k => delta (W j k) (G j k) (M j k) (N j k) := by
  unfold out0_4
  rw [View.canon_unit_zero hz]
  simp only [View.ld_unit_zero (S := S128x96) hz]
  intro j k
  pointwise [k0_pay3, k0_pay1, k0_pay2]
  simp only [h0.at, h1.at, h2.at, h3.at]
  rfl

end Out

variable (m : (ℓ : Loc nD τ sig) → Buf (Elt Ideal) ℓ) (c : Dev nD)

/-- What the arguments hold. -/
structure Args (W G M N : Fin 384 → Fin 96 → EReal) : Prop where
  a0 : E2 (m ((c : Thread nD τ).loc main_arg0)) W
  a1 : E2 (m ((c : Thread nD τ).loc main_arg1)) G
  a2 : E2 (m ((c : Thread nD τ).loc main_arg2)) M
  a3 : E2 (m ((c : Thread nD τ).loc main_arg3)) N

/-- Row `j` of a point's block. -/
def row (t : Fin cfg0.N) (j : Fin 128) : Fin 384 :=
  ⟨128 * t.val + j.val, by have := lt_of_lt_of_eq t.isLt N_0; have := j.isLt; omega⟩

section Blocks

variable {m c} {W G M N : Fin 384 → Fin 96 → EReal}

/-- Where an entry of a point's block lies in its array: at the same place in each of the seven. -/
theorem emb (t : Fin grid0.N) (j : Fin 128) (k : Fin 96) :
    (win0_0.blk t).view.emb (ix2 j k) = (ix2 (row t j) k : S384x96.Idx) := by
  have hi := (by decide +kernel : ∀ t : Fin grid0.N, win0_0.index t 0 = t.val ∧ win0_0.index t 1 = 0) t
  funext d
  apply Fin.ext
  match d with
  | ⟨0, _⟩ => show win0_0.index t 0 * 128 + 1 * j.val = 128 * t.val + j.val; rw [hi.1]; omega
  | ⟨1, _⟩ => show win0_0.index t 1 * 96 + 1 * k.val = k.val; rw [hi.2]; omega

theorem blk0 (h : Args m c W G M N) (t : Fin cfg0.N) :
    E2 (iblk m c 0 t : Vec Ideal S128x96 .f32) (fun j => W (row t j)) :=
  fun j k => (congrArg (V m c main_arg0) (emb t j k)).trans (h.a0.at _ _)

theorem blk1 (h : Args m c W G M N) (t : Fin cfg0.N) :
    E2 (iblk m c 1 t : Vec Ideal S128x96 .f32) (fun j => G (row t j)) :=
  fun j k => (congrArg (V m c main_arg1) (emb t j k)).trans (h.a1.at _ _)

theorem blk2 (h : Args m c W G M N) (t : Fin cfg0.N) :
    E2 (iblk m c 2 t : Vec Ideal S128x96 .f32) (fun j => M (row t j)) :=
  fun j k => (congrArg (V m c main_arg2) (emb t j k)).trans (h.a2.at _ _)

theorem blk3 (h : Args m c W G M N) (t : Fin cfg0.N) :
    E2 (iblk m c 3 t : Vec Ideal S128x96 .f32) (fun j => N (row t j)) :=
  fun j k => (congrArg (V m c main_arg3) (emb t j k)).trans (h.a3.at _ _)

theorem final4 (h : Args m c W G M N) : (dats m 0 c).arrAt 4 cfg0.N = mat fun j k => delta (W j k) (G j k) (M j k) (N j k) := by
  refine (dats m 0 c).arrAt_eq_of_covers 4 _ (by decide +kernel) fun t hf y => ?_
  blk_simp
  rw [after0_4]
  obtain ⟨j, k, rfl⟩ : ∃ j k, y = (ix2 j k : S128x96.Idx) := ⟨_, _, (ix2_eta y).symm⟩
  exact (out_4 (blk0 h t) (blk1 h t) (blk2 h t) (blk3 h t) j k).trans (congrArg (mat fun j k => delta (W j k) (G j k) (M j k) (N j k)) (emb t j k)).symm

theorem final5 (h : Args m c W G M N) : (dats m 0 c).arrAt 5 cfg0.N = mat fun j k => first (G j k) (M j k) := by
  refine (dats m 0 c).arrAt_eq_of_covers 5 _ (by decide +kernel) fun t hf y => ?_
  blk_simp
  rw [after0_5]
  obtain ⟨j, k, rfl⟩ : ∃ j k, y = (ix2 j k : S128x96.Idx) := ⟨_, _, (ix2_eta y).symm⟩
  exact (out_5 (blk1 h t) (blk2 h t) j k).trans (congrArg (mat fun j k => first (G j k) (M j k)) (emb t j k)).symm

theorem final6 (h : Args m c W G M N) : (dats m 0 c).arrAt 6 cfg0.N = mat fun j k => second (G j k) (N j k) := by
  refine (dats m 0 c).arrAt_eq_of_covers 6 _ (by decide +kernel) fun t hf y => ?_
  blk_simp
  rw [after0_6]
  obtain ⟨j, k, rfl⟩ : ∃ j k, y = (ix2 j k : S128x96.Idx) := ⟨_, _, (ix2_eta y).symm⟩
  exact (out_6 (blk1 h t) (blk3 h t) j k).trans (congrArg (mat fun j k => second (G j k) (N j k)) (emb t j k)).symm

end Blocks

end Cert.Kernel16Ideal.Adam

namespace Cert.Reference16Ideal.Adam

open Cert.Reference16Ideal Cert.Reference16Ideal.Gen Cert.Reference16Ideal.Read Idealize.ShloMosaic Idealize.SL.Sem Cert.Fwd Cert.Adam

variable {x0 x1 x2 x3 : (⟨S384x96, .f32⟩ : BufTy).Contents (Elt Ideal)} {W G M N : Fin 384 → Fin 96 → EReal}

theorem v4_E (h1 : E2 x1 G) (h2 : E2 x2 M) :
    E2 (val_main_v4 (F := Ideal) x1 x2) fun j k => first (G j k) (M j k) := by
  intro j k
  pointwise [val_main_v4, val_main_v3, val_main_v2, val_main_v1, val_main_v0, val_main_cst, val_main_cst_0]
  simp only [h1.at, h2.at]
  rfl

theorem v10_E (h1 : E2 x1 G) (h3 : E2 x3 N) :
    E2 (val_main_v10 (F := Ideal) x1 x3) fun j k => second (G j k) (N j k) := by
  intro j k
  pointwise [val_main_v10, val_main_v9, val_main_v8, val_main_v7, val_main_v6, val_main_v5, val_main_cst_1, val_main_cst_2]
  simp only [h1.at, h3.at]
  rfl

theorem v23_E (h0 : E2 x0 W) (h1 : E2 x1 G) (h2 : E2 x2 M) (h3 : E2 x3 N) :
    E2 (val_main_v23 (F := Ideal) x0 x1 x2 x3) fun j k => delta (W j k) (G j k) (M j k) (N j k) := by
  intro j k
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  simp only [h0.at, (v4_E h1 h2).at, (v10_E h1 h3).at]
  rfl

end Cert.Reference16Ideal.Adam

namespace Cert.Kernel16Ideal.Adam

open Cert.Kernel16Ideal Cert.Kernel16Ideal.Gen Idealize.ShloMosaic Idealize.ShloMosaic.TcCoe Idealize.SL.Sem Cert.Fwd Cert.Adam Cert.Reference16Ideal.Read Cert.Reference16Ideal.Adam

theorem args (m : (ℓ : Loc nD τ sig) → Buf (Elt Ideal) ℓ) (c : Dev nD) : ∃ W G M N, Args m c W G M N :=
  ⟨_, _, _, _, E2.self _, E2.self _, E2.self _, E2.self _⟩

theorem algebraic [Cert.Kernel16Ideal.Facts] [Cert.Reference16Ideal.Facts] : Cert.algebraic_Kernel16Ideal_Reference16Ideal := by
  intro m ρ m' ρ' _ hargs
  choose W G M N h using args m
  refine ⟨fun c => mat fun j k => delta (W c j k) (G c j k) (M c j k) (N c j k),
    fun c => mat fun j k => first (G c j k) (M c j k), fun c => mat fun j k => second (G c j k) (N c j k), ?_, ?_⟩
  · refine (θ_run _ _ _).mono (fun r hr c => ?_) (Value.run_blocks (F := Ideal) m ρ)
    obtain ⟨h4, h5, h6, ha⟩ := hr c
    exact ⟨h4.trans (final4 (h c)), h5.trans (final5 (h c)), h6.trans (final6 (h c)), ha⟩
  · refine (θ_run _ _ _).mono (fun r hr c => ?_) (Cert.Reference16Ideal.Value.run (F := Ideal) m' ρ')
    obtain ⟨h0, h1, h2, ha⟩ := hr c
    obtain ⟨a0, a1, a2, a3⟩ := hargs c
    have g0 := (h c).a0; rw [← a0] at g0
    have g1 := (h c).a1; rw [← a1] at g1
    have g2 := (h c).a2; rw [← a2] at g2
    have g3 := (h c).a3; rw [← a3] at g3
    refine ⟨h0.trans ?_, h1.trans ?_, h2.trans ?_, ha⟩
    · exact (val_main_v23_eq _ _ _ _).trans (v23_E g0 g1 g2 g3).eq_mat
    · exact (val_main_v4_eq _ _).trans (v4_E g1 g2).eq_mat
    · exact (val_main_v10_eq _ _).trans (v10_E g1 g3).eq_mat

end Cert.Kernel16Ideal.Adam

end
-- ==== Proof.Adam.A17.lean ====
/-
  The AdamW call of w_ukv: its three results are the step's, of whatever arguments.
-/
module

public import proofs.«01_k».proof.Defs
public import proofs.«01_k».proof.Proof.Gen.Kernel17Ideal.Value
public import proofs.«01_k».proof.Proof.Gen.Reference17Ideal.Read
public import proofs.«01_k».proof.Proof.Adam.Step
public import Idealize.ShloMosaic.Lib.Pipeline.ValueKit.Geometry

@[expose] public section

noncomputable section

namespace Cert.Kernel17Ideal.Adam

open Cert.Kernel17Ideal Cert.Kernel17Ideal.Gen Idealize.ShloMosaic Idealize.ShloMosaic.TcCoe Idealize.SL.Sem Cert.Fwd Cert.Adam

section Out

variable {x0 x1 x2 x3 : Vec Ideal S256x128 .f32} {W G M N : Fin 256 → Fin 128 → EReal}

theorem out_5 (h1 : E2 x1 G) (h2 : E2 x2 M) : E2 (out0_5 x0 x1 x2 x3) fun j k => first (G j k) (M j k) := by
  unfold out0_5
  rw [View.canon_unit_zero hz]
  simp only [View.ld_unit_zero (S := S256x128) hz]
  intro j k
  pointwise [k0_pay1]
  simp only [h1.at, h2.at]
  rfl

theorem out_6 (h1 : E2 x1 G) (h3 : E2 x3 N) : E2 (out0_6 x0 x1 x2 x3) fun j k => second (G j k) (N j k) := by
  unfold out0_6
  rw [View.canon_unit_zero hz]
  simp only [View.ld_unit_zero (S := S256x128) hz]
  intro j k
  pointwise [k0_pay2]
  simp only [h1.at, h3.at]
  rfl

theorem out_4 (h0 : E2 x0 W) (h1 : E2 x1 G) (h2 : E2 x2 M) (h3 : E2 x3 N) :
    E2 (out0_4 x0 x1 x2 x3) fun j k => delta (W j k) (G j k) (M j k) (N j k) := by
  unfold out0_4
  rw [View.canon_unit_zero hz]
  simp only [View.ld_unit_zero (S := S256x128) hz]
  intro j k
  pointwise [k0_pay3, k0_pay1, k0_pay2]
  simp only [h0.at, h1.at, h2.at, h3.at]
  rfl

end Out

variable (m : (ℓ : Loc nD τ sig) → Buf (Elt Ideal) ℓ) (c : Dev nD)

/-- What the arguments hold. -/
structure Args (W G M N : Fin 256 → Fin 128 → EReal) : Prop where
  a0 : E2 (m ((c : Thread nD τ).loc main_arg0)) W
  a1 : E2 (m ((c : Thread nD τ).loc main_arg1)) G
  a2 : E2 (m ((c : Thread nD τ).loc main_arg2)) M
  a3 : E2 (m ((c : Thread nD τ).loc main_arg3)) N

/-- Row `j` of a point's block. -/
def row (t : Fin cfg0.N) (j : Fin 256) : Fin 256 :=
  ⟨256 * t.val + j.val, by have := lt_of_lt_of_eq t.isLt N_0; have := j.isLt; omega⟩

section Blocks

variable {m c} {W G M N : Fin 256 → Fin 128 → EReal}

/-- Where an entry of a point's block lies in its array: at the same place in each of the seven. -/
theorem emb (t : Fin grid0.N) (j : Fin 256) (k : Fin 128) :
    (win0_0.blk t).view.emb (ix2 j k) = (ix2 (row t j) k : S256x128.Idx) := by
  have hi := (by decide +kernel : ∀ t : Fin grid0.N, win0_0.index t 0 = t.val ∧ win0_0.index t 1 = 0) t
  funext d
  apply Fin.ext
  match d with
  | ⟨0, _⟩ => show win0_0.index t 0 * 256 + 1 * j.val = 256 * t.val + j.val; rw [hi.1]; omega
  | ⟨1, _⟩ => show win0_0.index t 1 * 128 + 1 * k.val = k.val; rw [hi.2]; omega

theorem blk0 (h : Args m c W G M N) (t : Fin cfg0.N) :
    E2 (iblk m c 0 t : Vec Ideal S256x128 .f32) (fun j => W (row t j)) :=
  fun j k => (congrArg (V m c main_arg0) (emb t j k)).trans (h.a0.at _ _)

theorem blk1 (h : Args m c W G M N) (t : Fin cfg0.N) :
    E2 (iblk m c 1 t : Vec Ideal S256x128 .f32) (fun j => G (row t j)) :=
  fun j k => (congrArg (V m c main_arg1) (emb t j k)).trans (h.a1.at _ _)

theorem blk2 (h : Args m c W G M N) (t : Fin cfg0.N) :
    E2 (iblk m c 2 t : Vec Ideal S256x128 .f32) (fun j => M (row t j)) :=
  fun j k => (congrArg (V m c main_arg2) (emb t j k)).trans (h.a2.at _ _)

theorem blk3 (h : Args m c W G M N) (t : Fin cfg0.N) :
    E2 (iblk m c 3 t : Vec Ideal S256x128 .f32) (fun j => N (row t j)) :=
  fun j k => (congrArg (V m c main_arg3) (emb t j k)).trans (h.a3.at _ _)

theorem final4 (h : Args m c W G M N) : (dats m 0 c).arrAt 4 cfg0.N = mat fun j k => delta (W j k) (G j k) (M j k) (N j k) := by
  refine (dats m 0 c).arrAt_eq_of_covers 4 _ (by decide +kernel) fun t hf y => ?_
  blk_simp
  rw [after0_4]
  obtain ⟨j, k, rfl⟩ : ∃ j k, y = (ix2 j k : S256x128.Idx) := ⟨_, _, (ix2_eta y).symm⟩
  exact (out_4 (blk0 h t) (blk1 h t) (blk2 h t) (blk3 h t) j k).trans (congrArg (mat fun j k => delta (W j k) (G j k) (M j k) (N j k)) (emb t j k)).symm

theorem final5 (h : Args m c W G M N) : (dats m 0 c).arrAt 5 cfg0.N = mat fun j k => first (G j k) (M j k) := by
  refine (dats m 0 c).arrAt_eq_of_covers 5 _ (by decide +kernel) fun t hf y => ?_
  blk_simp
  rw [after0_5]
  obtain ⟨j, k, rfl⟩ : ∃ j k, y = (ix2 j k : S256x128.Idx) := ⟨_, _, (ix2_eta y).symm⟩
  exact (out_5 (blk1 h t) (blk2 h t) j k).trans (congrArg (mat fun j k => first (G j k) (M j k)) (emb t j k)).symm

theorem final6 (h : Args m c W G M N) : (dats m 0 c).arrAt 6 cfg0.N = mat fun j k => second (G j k) (N j k) := by
  refine (dats m 0 c).arrAt_eq_of_covers 6 _ (by decide +kernel) fun t hf y => ?_
  blk_simp
  rw [after0_6]
  obtain ⟨j, k, rfl⟩ : ∃ j k, y = (ix2 j k : S256x128.Idx) := ⟨_, _, (ix2_eta y).symm⟩
  exact (out_6 (blk1 h t) (blk3 h t) j k).trans (congrArg (mat fun j k => second (G j k) (N j k)) (emb t j k)).symm

end Blocks

end Cert.Kernel17Ideal.Adam

namespace Cert.Reference17Ideal.Adam

open Cert.Reference17Ideal Cert.Reference17Ideal.Gen Cert.Reference17Ideal.Read Idealize.ShloMosaic Idealize.SL.Sem Cert.Fwd Cert.Adam

variable {x0 x1 x2 x3 : (⟨S256x128, .f32⟩ : BufTy).Contents (Elt Ideal)} {W G M N : Fin 256 → Fin 128 → EReal}

theorem v4_E (h1 : E2 x1 G) (h2 : E2 x2 M) :
    E2 (val_main_v4 (F := Ideal) x1 x2) fun j k => first (G j k) (M j k) := by
  intro j k
  pointwise [val_main_v4, val_main_v3, val_main_v2, val_main_v1, val_main_v0, val_main_cst, val_main_cst_0]
  simp only [h1.at, h2.at]
  rfl

theorem v10_E (h1 : E2 x1 G) (h3 : E2 x3 N) :
    E2 (val_main_v10 (F := Ideal) x1 x3) fun j k => second (G j k) (N j k) := by
  intro j k
  pointwise [val_main_v10, val_main_v9, val_main_v8, val_main_v7, val_main_v6, val_main_v5, val_main_cst_1, val_main_cst_2]
  simp only [h1.at, h3.at]
  rfl

theorem v23_E (h0 : E2 x0 W) (h1 : E2 x1 G) (h2 : E2 x2 M) (h3 : E2 x3 N) :
    E2 (val_main_v23 (F := Ideal) x0 x1 x2 x3) fun j k => delta (W j k) (G j k) (M j k) (N j k) := by
  intro j k
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  simp only [h0.at, (v4_E h1 h2).at, (v10_E h1 h3).at]
  rfl

end Cert.Reference17Ideal.Adam

namespace Cert.Kernel17Ideal.Adam

open Cert.Kernel17Ideal Cert.Kernel17Ideal.Gen Idealize.ShloMosaic Idealize.ShloMosaic.TcCoe Idealize.SL.Sem Cert.Fwd Cert.Adam Cert.Reference17Ideal.Read Cert.Reference17Ideal.Adam

theorem args (m : (ℓ : Loc nD τ sig) → Buf (Elt Ideal) ℓ) (c : Dev nD) : ∃ W G M N, Args m c W G M N :=
  ⟨_, _, _, _, E2.self _, E2.self _, E2.self _, E2.self _⟩

theorem algebraic [Cert.Kernel17Ideal.Facts] [Cert.Reference17Ideal.Facts] : Cert.algebraic_Kernel17Ideal_Reference17Ideal := by
  intro m ρ m' ρ' _ hargs
  choose W G M N h using args m
  refine ⟨fun c => mat fun j k => delta (W c j k) (G c j k) (M c j k) (N c j k),
    fun c => mat fun j k => first (G c j k) (M c j k), fun c => mat fun j k => second (G c j k) (N c j k), ?_, ?_⟩
  · refine (θ_run _ _ _).mono (fun r hr c => ?_) (Value.run_blocks (F := Ideal) m ρ)
    obtain ⟨h4, h5, h6, ha⟩ := hr c
    exact ⟨h4.trans (final4 (h c)), h5.trans (final5 (h c)), h6.trans (final6 (h c)), ha⟩
  · refine (θ_run _ _ _).mono (fun r hr c => ?_) (Cert.Reference17Ideal.Value.run (F := Ideal) m' ρ')
    obtain ⟨h0, h1, h2, ha⟩ := hr c
    obtain ⟨a0, a1, a2, a3⟩ := hargs c
    have g0 := (h c).a0; rw [← a0] at g0
    have g1 := (h c).a1; rw [← a1] at g1
    have g2 := (h c).a2; rw [← a2] at g2
    have g3 := (h c).a3; rw [← a3] at g3
    refine ⟨h0.trans ?_, h1.trans ?_, h2.trans ?_, ha⟩
    · exact (val_main_v23_eq _ _ _ _).trans (v23_E g0 g1 g2 g3).eq_mat
    · exact (val_main_v4_eq _ _).trans (v4_E g1 g2).eq_mat
    · exact (val_main_v10_eq _ _).trans (v10_E g1 g3).eq_mat

end Cert.Kernel17Ideal.Adam

end
-- ==== Proof.Adam.A18.lean ====
/-
  The AdamW call of w_proj_sb and w_proj_mla: its three results are the step's, of whatever arguments.
-/
module

public import proofs.«01_k».proof.Defs
public import proofs.«01_k».proof.Proof.Gen.Kernel18Ideal.Value
public import proofs.«01_k».proof.Proof.Gen.Reference18Ideal.Read
public import proofs.«01_k».proof.Proof.Adam.Step
public import Idealize.ShloMosaic.Lib.Pipeline.ValueKit.Geometry

@[expose] public section

noncomputable section

namespace Cert.Kernel18Ideal.Adam

open Cert.Kernel18Ideal Cert.Kernel18Ideal.Gen Idealize.ShloMosaic Idealize.ShloMosaic.TcCoe Idealize.SL.Sem Cert.Fwd Cert.Adam

section Out

variable {x0 x1 x2 x3 : Vec Ideal S256x128 .f32} {W G M N : Fin 256 → Fin 128 → EReal}

theorem out_5 (h1 : E2 x1 G) (h2 : E2 x2 M) : E2 (out0_5 x0 x1 x2 x3) fun j k => first (G j k) (M j k) := by
  unfold out0_5
  rw [View.canon_unit_zero hz]
  simp only [View.ld_unit_zero (S := S256x128) hz]
  intro j k
  pointwise [k0_pay1]
  simp only [h1.at, h2.at]
  rfl

theorem out_6 (h1 : E2 x1 G) (h3 : E2 x3 N) : E2 (out0_6 x0 x1 x2 x3) fun j k => second (G j k) (N j k) := by
  unfold out0_6
  rw [View.canon_unit_zero hz]
  simp only [View.ld_unit_zero (S := S256x128) hz]
  intro j k
  pointwise [k0_pay2]
  simp only [h1.at, h3.at]
  rfl

theorem out_4 (h0 : E2 x0 W) (h1 : E2 x1 G) (h2 : E2 x2 M) (h3 : E2 x3 N) :
    E2 (out0_4 x0 x1 x2 x3) fun j k => delta (W j k) (G j k) (M j k) (N j k) := by
  unfold out0_4
  rw [View.canon_unit_zero hz]
  simp only [View.ld_unit_zero (S := S256x128) hz]
  intro j k
  pointwise [k0_pay3, k0_pay1, k0_pay2]
  simp only [h0.at, h1.at, h2.at, h3.at]
  rfl

end Out

variable (m : (ℓ : Loc nD τ sig) → Buf (Elt Ideal) ℓ) (c : Dev nD)

/-- What the arguments hold. -/
structure Args (W G M N : Fin 512 → Fin 128 → EReal) : Prop where
  a0 : E2 (m ((c : Thread nD τ).loc main_arg0)) W
  a1 : E2 (m ((c : Thread nD τ).loc main_arg1)) G
  a2 : E2 (m ((c : Thread nD τ).loc main_arg2)) M
  a3 : E2 (m ((c : Thread nD τ).loc main_arg3)) N

/-- Row `j` of a point's block. -/
def row (t : Fin cfg0.N) (j : Fin 256) : Fin 512 :=
  ⟨256 * t.val + j.val, by have := lt_of_lt_of_eq t.isLt N_0; have := j.isLt; omega⟩

section Blocks

variable {m c} {W G M N : Fin 512 → Fin 128 → EReal}

/-- Where an entry of a point's block lies in its array: at the same place in each of the seven. -/
theorem emb (t : Fin grid0.N) (j : Fin 256) (k : Fin 128) :
    (win0_0.blk t).view.emb (ix2 j k) = (ix2 (row t j) k : S512x128.Idx) := by
  have hi := (by decide +kernel : ∀ t : Fin grid0.N, win0_0.index t 0 = t.val ∧ win0_0.index t 1 = 0) t
  funext d
  apply Fin.ext
  match d with
  | ⟨0, _⟩ => show win0_0.index t 0 * 256 + 1 * j.val = 256 * t.val + j.val; rw [hi.1]; omega
  | ⟨1, _⟩ => show win0_0.index t 1 * 128 + 1 * k.val = k.val; rw [hi.2]; omega

theorem blk0 (h : Args m c W G M N) (t : Fin cfg0.N) :
    E2 (iblk m c 0 t : Vec Ideal S256x128 .f32) (fun j => W (row t j)) :=
  fun j k => (congrArg (V m c main_arg0) (emb t j k)).trans (h.a0.at _ _)

theorem blk1 (h : Args m c W G M N) (t : Fin cfg0.N) :
    E2 (iblk m c 1 t : Vec Ideal S256x128 .f32) (fun j => G (row t j)) :=
  fun j k => (congrArg (V m c main_arg1) (emb t j k)).trans (h.a1.at _ _)

theorem blk2 (h : Args m c W G M N) (t : Fin cfg0.N) :
    E2 (iblk m c 2 t : Vec Ideal S256x128 .f32) (fun j => M (row t j)) :=
  fun j k => (congrArg (V m c main_arg2) (emb t j k)).trans (h.a2.at _ _)

theorem blk3 (h : Args m c W G M N) (t : Fin cfg0.N) :
    E2 (iblk m c 3 t : Vec Ideal S256x128 .f32) (fun j => N (row t j)) :=
  fun j k => (congrArg (V m c main_arg3) (emb t j k)).trans (h.a3.at _ _)

theorem final4 (h : Args m c W G M N) : (dats m 0 c).arrAt 4 cfg0.N = mat fun j k => delta (W j k) (G j k) (M j k) (N j k) := by
  refine (dats m 0 c).arrAt_eq_of_covers 4 _ (by decide +kernel) fun t hf y => ?_
  blk_simp
  rw [after0_4]
  obtain ⟨j, k, rfl⟩ : ∃ j k, y = (ix2 j k : S256x128.Idx) := ⟨_, _, (ix2_eta y).symm⟩
  exact (out_4 (blk0 h t) (blk1 h t) (blk2 h t) (blk3 h t) j k).trans (congrArg (mat fun j k => delta (W j k) (G j k) (M j k) (N j k)) (emb t j k)).symm

theorem final5 (h : Args m c W G M N) : (dats m 0 c).arrAt 5 cfg0.N = mat fun j k => first (G j k) (M j k) := by
  refine (dats m 0 c).arrAt_eq_of_covers 5 _ (by decide +kernel) fun t hf y => ?_
  blk_simp
  rw [after0_5]
  obtain ⟨j, k, rfl⟩ : ∃ j k, y = (ix2 j k : S256x128.Idx) := ⟨_, _, (ix2_eta y).symm⟩
  exact (out_5 (blk1 h t) (blk2 h t) j k).trans (congrArg (mat fun j k => first (G j k) (M j k)) (emb t j k)).symm

theorem final6 (h : Args m c W G M N) : (dats m 0 c).arrAt 6 cfg0.N = mat fun j k => second (G j k) (N j k) := by
  refine (dats m 0 c).arrAt_eq_of_covers 6 _ (by decide +kernel) fun t hf y => ?_
  blk_simp
  rw [after0_6]
  obtain ⟨j, k, rfl⟩ : ∃ j k, y = (ix2 j k : S256x128.Idx) := ⟨_, _, (ix2_eta y).symm⟩
  exact (out_6 (blk1 h t) (blk3 h t) j k).trans (congrArg (mat fun j k => second (G j k) (N j k)) (emb t j k)).symm

end Blocks

end Cert.Kernel18Ideal.Adam

namespace Cert.Reference18Ideal.Adam

open Cert.Reference18Ideal Cert.Reference18Ideal.Gen Cert.Reference18Ideal.Read Idealize.ShloMosaic Idealize.SL.Sem Cert.Fwd Cert.Adam

variable {x0 x1 x2 x3 : (⟨S512x128, .f32⟩ : BufTy).Contents (Elt Ideal)} {W G M N : Fin 512 → Fin 128 → EReal}

theorem v4_E (h1 : E2 x1 G) (h2 : E2 x2 M) :
    E2 (val_main_v4 (F := Ideal) x1 x2) fun j k => first (G j k) (M j k) := by
  intro j k
  pointwise [val_main_v4, val_main_v3, val_main_v2, val_main_v1, val_main_v0, val_main_cst, val_main_cst_0]
  simp only [h1.at, h2.at]
  rfl

theorem v10_E (h1 : E2 x1 G) (h3 : E2 x3 N) :
    E2 (val_main_v10 (F := Ideal) x1 x3) fun j k => second (G j k) (N j k) := by
  intro j k
  pointwise [val_main_v10, val_main_v9, val_main_v8, val_main_v7, val_main_v6, val_main_v5, val_main_cst_1, val_main_cst_2]
  simp only [h1.at, h3.at]
  rfl

theorem v23_E (h0 : E2 x0 W) (h1 : E2 x1 G) (h2 : E2 x2 M) (h3 : E2 x3 N) :
    E2 (val_main_v23 (F := Ideal) x0 x1 x2 x3) fun j k => delta (W j k) (G j k) (M j k) (N j k) := by
  intro j k
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  simp only [h0.at, (v4_E h1 h2).at, (v10_E h1 h3).at]
  rfl

end Cert.Reference18Ideal.Adam

namespace Cert.Kernel18Ideal.Adam

open Cert.Kernel18Ideal Cert.Kernel18Ideal.Gen Idealize.ShloMosaic Idealize.ShloMosaic.TcCoe Idealize.SL.Sem Cert.Fwd Cert.Adam Cert.Reference18Ideal.Read Cert.Reference18Ideal.Adam

theorem args (m : (ℓ : Loc nD τ sig) → Buf (Elt Ideal) ℓ) (c : Dev nD) : ∃ W G M N, Args m c W G M N :=
  ⟨_, _, _, _, E2.self _, E2.self _, E2.self _, E2.self _⟩

theorem algebraic [Cert.Kernel18Ideal.Facts] [Cert.Reference18Ideal.Facts] : Cert.algebraic_Kernel18Ideal_Reference18Ideal := by
  intro m ρ m' ρ' _ hargs
  choose W G M N h using args m
  refine ⟨fun c => mat fun j k => delta (W c j k) (G c j k) (M c j k) (N c j k),
    fun c => mat fun j k => first (G c j k) (M c j k), fun c => mat fun j k => second (G c j k) (N c j k), ?_, ?_⟩
  · refine (θ_run _ _ _).mono (fun r hr c => ?_) (Value.run_blocks (F := Ideal) m ρ)
    obtain ⟨h4, h5, h6, ha⟩ := hr c
    exact ⟨h4.trans (final4 (h c)), h5.trans (final5 (h c)), h6.trans (final6 (h c)), ha⟩
  · refine (θ_run _ _ _).mono (fun r hr c => ?_) (Cert.Reference18Ideal.Value.run (F := Ideal) m' ρ')
    obtain ⟨h0, h1, h2, ha⟩ := hr c
    obtain ⟨a0, a1, a2, a3⟩ := hargs c
    have g0 := (h c).a0; rw [← a0] at g0
    have g1 := (h c).a1; rw [← a1] at g1
    have g2 := (h c).a2; rw [← a2] at g2
    have g3 := (h c).a3; rw [← a3] at g3
    refine ⟨h0.trans ?_, h1.trans ?_, h2.trans ?_, ha⟩
    · exact (val_main_v23_eq _ _ _ _).trans (v23_E g0 g1 g2 g3).eq_mat
    · exact (val_main_v4_eq _ _).trans (v4_E g1 g2).eq_mat
    · exact (val_main_v10_eq _ _).trans (v10_E g1 g3).eq_mat

end Cert.Kernel18Ideal.Adam

end
-- ==== Proof.Adam.A19.lean ====
/-
  The AdamW call of w_out: its three results are the step's, of whatever arguments.
-/
module

public import proofs.«01_k».proof.Defs
public import proofs.«01_k».proof.Proof.Gen.Kernel19Ideal.Value
public import proofs.«01_k».proof.Proof.Gen.Reference19Ideal.Read
public import proofs.«01_k».proof.Proof.Adam.Step
public import Idealize.ShloMosaic.Lib.Pipeline.ValueKit.Geometry

@[expose] public section

noncomputable section

namespace Cert.Kernel19Ideal.Adam

open Cert.Kernel19Ideal Cert.Kernel19Ideal.Gen Idealize.ShloMosaic Idealize.ShloMosaic.TcCoe Idealize.SL.Sem Cert.Fwd Cert.Adam

section Out

variable {x0 x1 x2 x3 : Vec Ideal S128x1024 .f32} {W G M N : Fin 128 → Fin 1024 → EReal}

theorem out_5 (h1 : E2 x1 G) (h2 : E2 x2 M) : E2 (out0_5 x0 x1 x2 x3) fun j k => first (G j k) (M j k) := by
  unfold out0_5
  rw [View.canon_unit_zero hz]
  simp only [View.ld_unit_zero (S := S128x1024) hz]
  intro j k
  pointwise [k0_pay1]
  simp only [h1.at, h2.at]
  rfl

theorem out_6 (h1 : E2 x1 G) (h3 : E2 x3 N) : E2 (out0_6 x0 x1 x2 x3) fun j k => second (G j k) (N j k) := by
  unfold out0_6
  rw [View.canon_unit_zero hz]
  simp only [View.ld_unit_zero (S := S128x1024) hz]
  intro j k
  pointwise [k0_pay2]
  simp only [h1.at, h3.at]
  rfl

theorem out_4 (h0 : E2 x0 W) (h1 : E2 x1 G) (h2 : E2 x2 M) (h3 : E2 x3 N) :
    E2 (out0_4 x0 x1 x2 x3) fun j k => delta (W j k) (G j k) (M j k) (N j k) := by
  unfold out0_4
  rw [View.canon_unit_zero hz]
  simp only [View.ld_unit_zero (S := S128x1024) hz]
  intro j k
  pointwise [k0_pay3, k0_pay1, k0_pay2]
  simp only [h0.at, h1.at, h2.at, h3.at]
  rfl

end Out

variable (m : (ℓ : Loc nD τ sig) → Buf (Elt Ideal) ℓ) (c : Dev nD)

/-- What the arguments hold. -/
structure Args (W G M N : Fin 128 → Fin 1024 → EReal) : Prop where
  a0 : E2 (m ((c : Thread nD τ).loc main_arg0)) W
  a1 : E2 (m ((c : Thread nD τ).loc main_arg1)) G
  a2 : E2 (m ((c : Thread nD τ).loc main_arg2)) M
  a3 : E2 (m ((c : Thread nD τ).loc main_arg3)) N

/-- Row `j` of a point's block. -/
def row (t : Fin cfg0.N) (j : Fin 128) : Fin 128 :=
  ⟨128 * t.val + j.val, by have := lt_of_lt_of_eq t.isLt N_0; have := j.isLt; omega⟩

section Blocks

variable {m c} {W G M N : Fin 128 → Fin 1024 → EReal}

/-- Where an entry of a point's block lies in its array: at the same place in each of the seven. -/
theorem emb (t : Fin grid0.N) (j : Fin 128) (k : Fin 1024) :
    (win0_0.blk t).view.emb (ix2 j k) = (ix2 (row t j) k : S128x1024.Idx) := by
  have hi := (by decide +kernel : ∀ t : Fin grid0.N, win0_0.index t 0 = t.val ∧ win0_0.index t 1 = 0) t
  funext d
  apply Fin.ext
  match d with
  | ⟨0, _⟩ => show win0_0.index t 0 * 128 + 1 * j.val = 128 * t.val + j.val; rw [hi.1]; omega
  | ⟨1, _⟩ => show win0_0.index t 1 * 1024 + 1 * k.val = k.val; rw [hi.2]; omega

theorem blk0 (h : Args m c W G M N) (t : Fin cfg0.N) :
    E2 (iblk m c 0 t : Vec Ideal S128x1024 .f32) (fun j => W (row t j)) :=
  fun j k => (congrArg (V m c main_arg0) (emb t j k)).trans (h.a0.at _ _)

theorem blk1 (h : Args m c W G M N) (t : Fin cfg0.N) :
    E2 (iblk m c 1 t : Vec Ideal S128x1024 .f32) (fun j => G (row t j)) :=
  fun j k => (congrArg (V m c main_arg1) (emb t j k)).trans (h.a1.at _ _)

theorem blk2 (h : Args m c W G M N) (t : Fin cfg0.N) :
    E2 (iblk m c 2 t : Vec Ideal S128x1024 .f32) (fun j => M (row t j)) :=
  fun j k => (congrArg (V m c main_arg2) (emb t j k)).trans (h.a2.at _ _)

theorem blk3 (h : Args m c W G M N) (t : Fin cfg0.N) :
    E2 (iblk m c 3 t : Vec Ideal S128x1024 .f32) (fun j => N (row t j)) :=
  fun j k => (congrArg (V m c main_arg3) (emb t j k)).trans (h.a3.at _ _)

theorem final4 (h : Args m c W G M N) : (dats m 0 c).arrAt 4 cfg0.N = mat fun j k => delta (W j k) (G j k) (M j k) (N j k) := by
  refine (dats m 0 c).arrAt_eq_of_covers 4 _ (by decide +kernel) fun t hf y => ?_
  blk_simp
  rw [after0_4]
  obtain ⟨j, k, rfl⟩ : ∃ j k, y = (ix2 j k : S128x1024.Idx) := ⟨_, _, (ix2_eta y).symm⟩
  exact (out_4 (blk0 h t) (blk1 h t) (blk2 h t) (blk3 h t) j k).trans (congrArg (mat fun j k => delta (W j k) (G j k) (M j k) (N j k)) (emb t j k)).symm

theorem final5 (h : Args m c W G M N) : (dats m 0 c).arrAt 5 cfg0.N = mat fun j k => first (G j k) (M j k) := by
  refine (dats m 0 c).arrAt_eq_of_covers 5 _ (by decide +kernel) fun t hf y => ?_
  blk_simp
  rw [after0_5]
  obtain ⟨j, k, rfl⟩ : ∃ j k, y = (ix2 j k : S128x1024.Idx) := ⟨_, _, (ix2_eta y).symm⟩
  exact (out_5 (blk1 h t) (blk2 h t) j k).trans (congrArg (mat fun j k => first (G j k) (M j k)) (emb t j k)).symm

theorem final6 (h : Args m c W G M N) : (dats m 0 c).arrAt 6 cfg0.N = mat fun j k => second (G j k) (N j k) := by
  refine (dats m 0 c).arrAt_eq_of_covers 6 _ (by decide +kernel) fun t hf y => ?_
  blk_simp
  rw [after0_6]
  obtain ⟨j, k, rfl⟩ : ∃ j k, y = (ix2 j k : S128x1024.Idx) := ⟨_, _, (ix2_eta y).symm⟩
  exact (out_6 (blk1 h t) (blk3 h t) j k).trans (congrArg (mat fun j k => second (G j k) (N j k)) (emb t j k)).symm

end Blocks

end Cert.Kernel19Ideal.Adam

namespace Cert.Reference19Ideal.Adam

open Cert.Reference19Ideal Cert.Reference19Ideal.Gen Cert.Reference19Ideal.Read Idealize.ShloMosaic Idealize.SL.Sem Cert.Fwd Cert.Adam

variable {x0 x1 x2 x3 : (⟨S128x1024, .f32⟩ : BufTy).Contents (Elt Ideal)} {W G M N : Fin 128 → Fin 1024 → EReal}

theorem v4_E (h1 : E2 x1 G) (h2 : E2 x2 M) :
    E2 (val_main_v4 (F := Ideal) x1 x2) fun j k => first (G j k) (M j k) := by
  intro j k
  pointwise [val_main_v4, val_main_v3, val_main_v2, val_main_v1, val_main_v0, val_main_cst, val_main_cst_0]
  simp only [h1.at, h2.at]
  rfl

theorem v10_E (h1 : E2 x1 G) (h3 : E2 x3 N) :
    E2 (val_main_v10 (F := Ideal) x1 x3) fun j k => second (G j k) (N j k) := by
  intro j k
  pointwise [val_main_v10, val_main_v9, val_main_v8, val_main_v7, val_main_v6, val_main_v5, val_main_cst_1, val_main_cst_2]
  simp only [h1.at, h3.at]
  rfl

theorem v23_E (h0 : E2 x0 W) (h1 : E2 x1 G) (h2 : E2 x2 M) (h3 : E2 x3 N) :
    E2 (val_main_v23 (F := Ideal) x0 x1 x2 x3) fun j k => delta (W j k) (G j k) (M j k) (N j k) := by
  intro j k
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  simp only [h0.at, (v4_E h1 h2).at, (v10_E h1 h3).at]
  rfl

end Cert.Reference19Ideal.Adam

namespace Cert.Kernel19Ideal.Adam

open Cert.Kernel19Ideal Cert.Kernel19Ideal.Gen Idealize.ShloMosaic Idealize.ShloMosaic.TcCoe Idealize.SL.Sem Cert.Fwd Cert.Adam Cert.Reference19Ideal.Read Cert.Reference19Ideal.Adam

theorem args (m : (ℓ : Loc nD τ sig) → Buf (Elt Ideal) ℓ) (c : Dev nD) : ∃ W G M N, Args m c W G M N :=
  ⟨_, _, _, _, E2.self _, E2.self _, E2.self _, E2.self _⟩

theorem algebraic [Cert.Kernel19Ideal.Facts] [Cert.Reference19Ideal.Facts] : Cert.algebraic_Kernel19Ideal_Reference19Ideal := by
  intro m ρ m' ρ' _ hargs
  choose W G M N h using args m
  refine ⟨fun c => mat fun j k => delta (W c j k) (G c j k) (M c j k) (N c j k),
    fun c => mat fun j k => first (G c j k) (M c j k), fun c => mat fun j k => second (G c j k) (N c j k), ?_, ?_⟩
  · refine (θ_run _ _ _).mono (fun r hr c => ?_) (Value.run_blocks (F := Ideal) m ρ)
    obtain ⟨h4, h5, h6, ha⟩ := hr c
    exact ⟨h4.trans (final4 (h c)), h5.trans (final5 (h c)), h6.trans (final6 (h c)), ha⟩
  · refine (θ_run _ _ _).mono (fun r hr c => ?_) (Cert.Reference19Ideal.Value.run (F := Ideal) m' ρ')
    obtain ⟨h0, h1, h2, ha⟩ := hr c
    obtain ⟨a0, a1, a2, a3⟩ := hargs c
    have g0 := (h c).a0; rw [← a0] at g0
    have g1 := (h c).a1; rw [← a1] at g1
    have g2 := (h c).a2; rw [← a2] at g2
    have g3 := (h c).a3; rw [← a3] at g3
    refine ⟨h0.trans ?_, h1.trans ?_, h2.trans ?_, ha⟩
    · exact (val_main_v23_eq _ _ _ _).trans (v23_E g0 g1 g2 g3).eq_mat
    · exact (val_main_v4_eq _ _).trans (v4_E g1 g2).eq_mat
    · exact (val_main_v10_eq _ _).trans (v10_E g1 g3).eq_mat

end Cert.Kernel19Ideal.Adam

end
-- ==== Proof.Adam.A20.lean ====
/-
  The AdamW call of w_gate_up: its three results are the step's, of whatever arguments.
-/
module

public import proofs.«01_k».proof.Defs
public import proofs.«01_k».proof.Proof.Gen.Kernel20Ideal.Value
public import proofs.«01_k».proof.Proof.Gen.Reference20Ideal.Read
public import proofs.«01_k».proof.Proof.Adam.Step
public import Idealize.ShloMosaic.Lib.Pipeline.ValueKit.Geometry

@[expose] public section

noncomputable section

namespace Cert.Kernel20Ideal.Adam

open Cert.Kernel20Ideal Cert.Kernel20Ideal.Gen Idealize.ShloMosaic Idealize.ShloMosaic.TcCoe Idealize.SL.Sem Cert.Fwd Cert.Adam

section Out

variable {x0 x1 x2 x3 : Vec Ideal S256x704 .f32} {W G M N : Fin 256 → Fin 704 → EReal}

theorem out_5 (h1 : E2 x1 G) (h2 : E2 x2 M) : E2 (out0_5 x0 x1 x2 x3) fun j k => first (G j k) (M j k) := by
  unfold out0_5
  rw [View.canon_unit_zero hz]
  simp only [View.ld_unit_zero (S := S256x704) hz]
  intro j k
  pointwise [k0_pay1]
  simp only [h1.at, h2.at]
  rfl

theorem out_6 (h1 : E2 x1 G) (h3 : E2 x3 N) : E2 (out0_6 x0 x1 x2 x3) fun j k => second (G j k) (N j k) := by
  unfold out0_6
  rw [View.canon_unit_zero hz]
  simp only [View.ld_unit_zero (S := S256x704) hz]
  intro j k
  pointwise [k0_pay2]
  simp only [h1.at, h3.at]
  rfl

theorem out_4 (h0 : E2 x0 W) (h1 : E2 x1 G) (h2 : E2 x2 M) (h3 : E2 x3 N) :
    E2 (out0_4 x0 x1 x2 x3) fun j k => delta (W j k) (G j k) (M j k) (N j k) := by
  unfold out0_4
  rw [View.canon_unit_zero hz]
  simp only [View.ld_unit_zero (S := S256x704) hz]
  intro j k
  pointwise [k0_pay3, k0_pay1, k0_pay2]
  simp only [h0.at, h1.at, h2.at, h3.at]
  rfl

end Out

variable (m : (ℓ : Loc nD τ sig) → Buf (Elt Ideal) ℓ) (c : Dev nD)

/-- What the arguments hold. -/
structure Args (W G M N : Fin 1024 → Fin 704 → EReal) : Prop where
  a0 : E2 (m ((c : Thread nD τ).loc main_arg0)) W
  a1 : E2 (m ((c : Thread nD τ).loc main_arg1)) G
  a2 : E2 (m ((c : Thread nD τ).loc main_arg2)) M
  a3 : E2 (m ((c : Thread nD τ).loc main_arg3)) N

/-- Row `j` of a point's block. -/
def row (t : Fin cfg0.N) (j : Fin 256) : Fin 1024 :=
  ⟨256 * t.val + j.val, by have := lt_of_lt_of_eq t.isLt N_0; have := j.isLt; omega⟩

section Blocks

variable {m c} {W G M N : Fin 1024 → Fin 704 → EReal}

/-- Where an entry of a point's block lies in its array: at the same place in each of the seven. -/
theorem emb (t : Fin grid0.N) (j : Fin 256) (k : Fin 704) :
    (win0_0.blk t).view.emb (ix2 j k) = (ix2 (row t j) k : S1024x704.Idx) := by
  have hi := (by decide +kernel : ∀ t : Fin grid0.N, win0_0.index t 0 = t.val ∧ win0_0.index t 1 = 0) t
  funext d
  apply Fin.ext
  match d with
  | ⟨0, _⟩ => show win0_0.index t 0 * 256 + 1 * j.val = 256 * t.val + j.val; rw [hi.1]; omega
  | ⟨1, _⟩ => show win0_0.index t 1 * 704 + 1 * k.val = k.val; rw [hi.2]; omega

theorem blk0 (h : Args m c W G M N) (t : Fin cfg0.N) :
    E2 (iblk m c 0 t : Vec Ideal S256x704 .f32) (fun j => W (row t j)) :=
  fun j k => (congrArg (V m c main_arg0) (emb t j k)).trans (h.a0.at _ _)

theorem blk1 (h : Args m c W G M N) (t : Fin cfg0.N) :
    E2 (iblk m c 1 t : Vec Ideal S256x704 .f32) (fun j => G (row t j)) :=
  fun j k => (congrArg (V m c main_arg1) (emb t j k)).trans (h.a1.at _ _)

theorem blk2 (h : Args m c W G M N) (t : Fin cfg0.N) :
    E2 (iblk m c 2 t : Vec Ideal S256x704 .f32) (fun j => M (row t j)) :=
  fun j k => (congrArg (V m c main_arg2) (emb t j k)).trans (h.a2.at _ _)

theorem blk3 (h : Args m c W G M N) (t : Fin cfg0.N) :
    E2 (iblk m c 3 t : Vec Ideal S256x704 .f32) (fun j => N (row t j)) :=
  fun j k => (congrArg (V m c main_arg3) (emb t j k)).trans (h.a3.at _ _)

theorem final4 (h : Args m c W G M N) : (dats m 0 c).arrAt 4 cfg0.N = mat fun j k => delta (W j k) (G j k) (M j k) (N j k) := by
  refine (dats m 0 c).arrAt_eq_of_covers 4 _ (by decide +kernel) fun t hf y => ?_
  blk_simp
  rw [after0_4]
  obtain ⟨j, k, rfl⟩ : ∃ j k, y = (ix2 j k : S256x704.Idx) := ⟨_, _, (ix2_eta y).symm⟩
  exact (out_4 (blk0 h t) (blk1 h t) (blk2 h t) (blk3 h t) j k).trans (congrArg (mat fun j k => delta (W j k) (G j k) (M j k) (N j k)) (emb t j k)).symm

theorem final5 (h : Args m c W G M N) : (dats m 0 c).arrAt 5 cfg0.N = mat fun j k => first (G j k) (M j k) := by
  refine (dats m 0 c).arrAt_eq_of_covers 5 _ (by decide +kernel) fun t hf y => ?_
  blk_simp
  rw [after0_5]
  obtain ⟨j, k, rfl⟩ : ∃ j k, y = (ix2 j k : S256x704.Idx) := ⟨_, _, (ix2_eta y).symm⟩
  exact (out_5 (blk1 h t) (blk2 h t) j k).trans (congrArg (mat fun j k => first (G j k) (M j k)) (emb t j k)).symm

theorem final6 (h : Args m c W G M N) : (dats m 0 c).arrAt 6 cfg0.N = mat fun j k => second (G j k) (N j k) := by
  refine (dats m 0 c).arrAt_eq_of_covers 6 _ (by decide +kernel) fun t hf y => ?_
  blk_simp
  rw [after0_6]
  obtain ⟨j, k, rfl⟩ : ∃ j k, y = (ix2 j k : S256x704.Idx) := ⟨_, _, (ix2_eta y).symm⟩
  exact (out_6 (blk1 h t) (blk3 h t) j k).trans (congrArg (mat fun j k => second (G j k) (N j k)) (emb t j k)).symm

end Blocks

end Cert.Kernel20Ideal.Adam

namespace Cert.Reference20Ideal.Adam

open Cert.Reference20Ideal Cert.Reference20Ideal.Gen Cert.Reference20Ideal.Read Idealize.ShloMosaic Idealize.SL.Sem Cert.Fwd Cert.Adam

variable {x0 x1 x2 x3 : (⟨S1024x704, .f32⟩ : BufTy).Contents (Elt Ideal)} {W G M N : Fin 1024 → Fin 704 → EReal}

theorem v4_E (h1 : E2 x1 G) (h2 : E2 x2 M) :
    E2 (val_main_v4 (F := Ideal) x1 x2) fun j k => first (G j k) (M j k) := by
  intro j k
  pointwise [val_main_v4, val_main_v3, val_main_v2, val_main_v1, val_main_v0, val_main_cst, val_main_cst_0]
  simp only [h1.at, h2.at]
  rfl

theorem v10_E (h1 : E2 x1 G) (h3 : E2 x3 N) :
    E2 (val_main_v10 (F := Ideal) x1 x3) fun j k => second (G j k) (N j k) := by
  intro j k
  pointwise [val_main_v10, val_main_v9, val_main_v8, val_main_v7, val_main_v6, val_main_v5, val_main_cst_1, val_main_cst_2]
  simp only [h1.at, h3.at]
  rfl

theorem v23_E (h0 : E2 x0 W) (h1 : E2 x1 G) (h2 : E2 x2 M) (h3 : E2 x3 N) :
    E2 (val_main_v23 (F := Ideal) x0 x1 x2 x3) fun j k => delta (W j k) (G j k) (M j k) (N j k) := by
  intro j k
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  simp only [h0.at, (v4_E h1 h2).at, (v10_E h1 h3).at]
  rfl

end Cert.Reference20Ideal.Adam

namespace Cert.Kernel20Ideal.Adam

open Cert.Kernel20Ideal Cert.Kernel20Ideal.Gen Idealize.ShloMosaic Idealize.ShloMosaic.TcCoe Idealize.SL.Sem Cert.Fwd Cert.Adam Cert.Reference20Ideal.Read Cert.Reference20Ideal.Adam

theorem args (m : (ℓ : Loc nD τ sig) → Buf (Elt Ideal) ℓ) (c : Dev nD) : ∃ W G M N, Args m c W G M N :=
  ⟨_, _, _, _, E2.self _, E2.self _, E2.self _, E2.self _⟩

theorem algebraic [Cert.Kernel20Ideal.Facts] [Cert.Reference20Ideal.Facts] : Cert.algebraic_Kernel20Ideal_Reference20Ideal := by
  intro m ρ m' ρ' _ hargs
  choose W G M N h using args m
  refine ⟨fun c => mat fun j k => delta (W c j k) (G c j k) (M c j k) (N c j k),
    fun c => mat fun j k => first (G c j k) (M c j k), fun c => mat fun j k => second (G c j k) (N c j k), ?_, ?_⟩
  · refine (θ_run _ _ _).mono (fun r hr c => ?_) (Value.run_blocks (F := Ideal) m ρ)
    obtain ⟨h4, h5, h6, ha⟩ := hr c
    exact ⟨h4.trans (final4 (h c)), h5.trans (final5 (h c)), h6.trans (final6 (h c)), ha⟩
  · refine (θ_run _ _ _).mono (fun r hr c => ?_) (Cert.Reference20Ideal.Value.run (F := Ideal) m' ρ')
    obtain ⟨h0, h1, h2, ha⟩ := hr c
    obtain ⟨a0, a1, a2, a3⟩ := hargs c
    have g0 := (h c).a0; rw [← a0] at g0
    have g1 := (h c).a1; rw [← a1] at g1
    have g2 := (h c).a2; rw [← a2] at g2
    have g3 := (h c).a3; rw [← a3] at g3
    refine ⟨h0.trans ?_, h1.trans ?_, h2.trans ?_, ha⟩
    · exact (val_main_v23_eq _ _ _ _).trans (v23_E g0 g1 g2 g3).eq_mat
    · exact (val_main_v4_eq _ _).trans (v4_E g1 g2).eq_mat
    · exact (val_main_v10_eq _ _).trans (v10_E g1 g3).eq_mat

end Cert.Kernel20Ideal.Adam

end
-- ==== Proof.Adam.A21.lean ====
/-
  The AdamW call of w_down: its three results are the step's, of whatever arguments.
-/
module

public import proofs.«01_k».proof.Defs
public import proofs.«01_k».proof.Proof.Gen.Kernel21Ideal.Value
public import proofs.«01_k».proof.Proof.Gen.Reference21Ideal.Read
public import proofs.«01_k».proof.Proof.Adam.Step
public import Idealize.ShloMosaic.Lib.Pipeline.ValueKit.Geometry

@[expose] public section

noncomputable section

namespace Cert.Kernel21Ideal.Adam

open Cert.Kernel21Ideal Cert.Kernel21Ideal.Gen Idealize.ShloMosaic Idealize.ShloMosaic.TcCoe Idealize.SL.Sem Cert.Fwd Cert.Adam

section Out

variable {x0 x1 x2 x3 : Vec Ideal S88x1024 .f32} {W G M N : Fin 88 → Fin 1024 → EReal}

theorem out_5 (h1 : E2 x1 G) (h2 : E2 x2 M) : E2 (out0_5 x0 x1 x2 x3) fun j k => first (G j k) (M j k) := by
  unfold out0_5
  rw [View.canon_unit_zero hz]
  simp only [View.ld_unit_zero (S := S88x1024) hz]
  intro j k
  pointwise [k0_pay1]
  simp only [h1.at, h2.at]
  rfl

theorem out_6 (h1 : E2 x1 G) (h3 : E2 x3 N) : E2 (out0_6 x0 x1 x2 x3) fun j k => second (G j k) (N j k) := by
  unfold out0_6
  rw [View.canon_unit_zero hz]
  simp only [View.ld_unit_zero (S := S88x1024) hz]
  intro j k
  pointwise [k0_pay2]
  simp only [h1.at, h3.at]
  rfl

theorem out_4 (h0 : E2 x0 W) (h1 : E2 x1 G) (h2 : E2 x2 M) (h3 : E2 x3 N) :
    E2 (out0_4 x0 x1 x2 x3) fun j k => delta (W j k) (G j k) (M j k) (N j k) := by
  unfold out0_4
  rw [View.canon_unit_zero hz]
  simp only [View.ld_unit_zero (S := S88x1024) hz]
  intro j k
  pointwise [k0_pay3, k0_pay1, k0_pay2]
  simp only [h0.at, h1.at, h2.at, h3.at]
  rfl

end Out

variable (m : (ℓ : Loc nD τ sig) → Buf (Elt Ideal) ℓ) (c : Dev nD)

/-- What the arguments hold. -/
structure Args (W G M N : Fin 352 → Fin 1024 → EReal) : Prop where
  a0 : E2 (m ((c : Thread nD τ).loc main_arg0)) W
  a1 : E2 (m ((c : Thread nD τ).loc main_arg1)) G
  a2 : E2 (m ((c : Thread nD τ).loc main_arg2)) M
  a3 : E2 (m ((c : Thread nD τ).loc main_arg3)) N

/-- Row `j` of a point's block. -/
def row (t : Fin cfg0.N) (j : Fin 88) : Fin 352 :=
  ⟨88 * t.val + j.val, by have := lt_of_lt_of_eq t.isLt N_0; have := j.isLt; omega⟩

section Blocks

variable {m c} {W G M N : Fin 352 → Fin 1024 → EReal}

/-- Where an entry of a point's block lies in its array: at the same place in each of the seven. -/
theorem emb (t : Fin grid0.N) (j : Fin 88) (k : Fin 1024) :
    (win0_0.blk t).view.emb (ix2 j k) = (ix2 (row t j) k : S352x1024.Idx) := by
  have hi := (by decide +kernel : ∀ t : Fin grid0.N, win0_0.index t 0 = t.val ∧ win0_0.index t 1 = 0) t
  funext d
  apply Fin.ext
  match d with
  | ⟨0, _⟩ => show win0_0.index t 0 * 88 + 1 * j.val = 88 * t.val + j.val; rw [hi.1]; omega
  | ⟨1, _⟩ => show win0_0.index t 1 * 1024 + 1 * k.val = k.val; rw [hi.2]; omega

theorem blk0 (h : Args m c W G M N) (t : Fin cfg0.N) :
    E2 (iblk m c 0 t : Vec Ideal S88x1024 .f32) (fun j => W (row t j)) :=
  fun j k => (congrArg (V m c main_arg0) (emb t j k)).trans (h.a0.at _ _)

theorem blk1 (h : Args m c W G M N) (t : Fin cfg0.N) :
    E2 (iblk m c 1 t : Vec Ideal S88x1024 .f32) (fun j => G (row t j)) :=
  fun j k => (congrArg (V m c main_arg1) (emb t j k)).trans (h.a1.at _ _)

theorem blk2 (h : Args m c W G M N) (t : Fin cfg0.N) :
    E2 (iblk m c 2 t : Vec Ideal S88x1024 .f32) (fun j => M (row t j)) :=
  fun j k => (congrArg (V m c main_arg2) (emb t j k)).trans (h.a2.at _ _)

theorem blk3 (h : Args m c W G M N) (t : Fin cfg0.N) :
    E2 (iblk m c 3 t : Vec Ideal S88x1024 .f32) (fun j => N (row t j)) :=
  fun j k => (congrArg (V m c main_arg3) (emb t j k)).trans (h.a3.at _ _)

theorem final4 (h : Args m c W G M N) : (dats m 0 c).arrAt 4 cfg0.N = mat fun j k => delta (W j k) (G j k) (M j k) (N j k) := by
  refine (dats m 0 c).arrAt_eq_of_covers 4 _ (by decide +kernel) fun t hf y => ?_
  blk_simp
  rw [after0_4]
  obtain ⟨j, k, rfl⟩ : ∃ j k, y = (ix2 j k : S88x1024.Idx) := ⟨_, _, (ix2_eta y).symm⟩
  exact (out_4 (blk0 h t) (blk1 h t) (blk2 h t) (blk3 h t) j k).trans (congrArg (mat fun j k => delta (W j k) (G j k) (M j k) (N j k)) (emb t j k)).symm

theorem final5 (h : Args m c W G M N) : (dats m 0 c).arrAt 5 cfg0.N = mat fun j k => first (G j k) (M j k) := by
  refine (dats m 0 c).arrAt_eq_of_covers 5 _ (by decide +kernel) fun t hf y => ?_
  blk_simp
  rw [after0_5]
  obtain ⟨j, k, rfl⟩ : ∃ j k, y = (ix2 j k : S88x1024.Idx) := ⟨_, _, (ix2_eta y).symm⟩
  exact (out_5 (blk1 h t) (blk2 h t) j k).trans (congrArg (mat fun j k => first (G j k) (M j k)) (emb t j k)).symm

theorem final6 (h : Args m c W G M N) : (dats m 0 c).arrAt 6 cfg0.N = mat fun j k => second (G j k) (N j k) := by
  refine (dats m 0 c).arrAt_eq_of_covers 6 _ (by decide +kernel) fun t hf y => ?_
  blk_simp
  rw [after0_6]
  obtain ⟨j, k, rfl⟩ : ∃ j k, y = (ix2 j k : S88x1024.Idx) := ⟨_, _, (ix2_eta y).symm⟩
  exact (out_6 (blk1 h t) (blk3 h t) j k).trans (congrArg (mat fun j k => second (G j k) (N j k)) (emb t j k)).symm

end Blocks

end Cert.Kernel21Ideal.Adam

namespace Cert.Reference21Ideal.Adam

open Cert.Reference21Ideal Cert.Reference21Ideal.Gen Cert.Reference21Ideal.Read Idealize.ShloMosaic Idealize.SL.Sem Cert.Fwd Cert.Adam

variable {x0 x1 x2 x3 : (⟨S352x1024, .f32⟩ : BufTy).Contents (Elt Ideal)} {W G M N : Fin 352 → Fin 1024 → EReal}

theorem v4_E (h1 : E2 x1 G) (h2 : E2 x2 M) :
    E2 (val_main_v4 (F := Ideal) x1 x2) fun j k => first (G j k) (M j k) := by
  intro j k
  pointwise [val_main_v4, val_main_v3, val_main_v2, val_main_v1, val_main_v0, val_main_cst, val_main_cst_0]
  simp only [h1.at, h2.at]
  rfl

theorem v10_E (h1 : E2 x1 G) (h3 : E2 x3 N) :
    E2 (val_main_v10 (F := Ideal) x1 x3) fun j k => second (G j k) (N j k) := by
  intro j k
  pointwise [val_main_v10, val_main_v9, val_main_v8, val_main_v7, val_main_v6, val_main_v5, val_main_cst_1, val_main_cst_2]
  simp only [h1.at, h3.at]
  rfl

theorem v23_E (h0 : E2 x0 W) (h1 : E2 x1 G) (h2 : E2 x2 M) (h3 : E2 x3 N) :
    E2 (val_main_v23 (F := Ideal) x0 x1 x2 x3) fun j k => delta (W j k) (G j k) (M j k) (N j k) := by
  intro j k
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  simp only [h0.at, (v4_E h1 h2).at, (v10_E h1 h3).at]
  rfl

end Cert.Reference21Ideal.Adam

namespace Cert.Kernel21Ideal.Adam

open Cert.Kernel21Ideal Cert.Kernel21Ideal.Gen Idealize.ShloMosaic Idealize.ShloMosaic.TcCoe Idealize.SL.Sem Cert.Fwd Cert.Adam Cert.Reference21Ideal.Read Cert.Reference21Ideal.Adam

theorem args (m : (ℓ : Loc nD τ sig) → Buf (Elt Ideal) ℓ) (c : Dev nD) : ∃ W G M N, Args m c W G M N :=
  ⟨_, _, _, _, E2.self _, E2.self _, E2.self _, E2.self _⟩

theorem algebraic [Cert.Kernel21Ideal.Facts] [Cert.Reference21Ideal.Facts] : Cert.algebraic_Kernel21Ideal_Reference21Ideal := by
  intro m ρ m' ρ' _ hargs
  choose W G M N h using args m
  refine ⟨fun c => mat fun j k => delta (W c j k) (G c j k) (M c j k) (N c j k),
    fun c => mat fun j k => first (G c j k) (M c j k), fun c => mat fun j k => second (G c j k) (N c j k), ?_, ?_⟩
  · refine (θ_run _ _ _).mono (fun r hr c => ?_) (Value.run_blocks (F := Ideal) m ρ)
    obtain ⟨h4, h5, h6, ha⟩ := hr c
    exact ⟨h4.trans (final4 (h c)), h5.trans (final5 (h c)), h6.trans (final6 (h c)), ha⟩
  · refine (θ_run _ _ _).mono (fun r hr c => ?_) (Cert.Reference21Ideal.Value.run (F := Ideal) m' ρ')
    obtain ⟨h0, h1, h2, ha⟩ := hr c
    obtain ⟨a0, a1, a2, a3⟩ := hargs c
    have g0 := (h c).a0; rw [← a0] at g0
    have g1 := (h c).a1; rw [← a1] at g1
    have g2 := (h c).a2; rw [← a2] at g2
    have g3 := (h c).a3; rw [← a3] at g3
    refine ⟨h0.trans ?_, h1.trans ?_, h2.trans ?_, ha⟩
    · exact (val_main_v23_eq _ _ _ _).trans (v23_E g0 g1 g2 g3).eq_mat
    · exact (val_main_v4_eq _ _).trans (v4_E g1 g2).eq_mat
    · exact (val_main_v10_eq _ _).trans (v10_E g1 g3).eq_mat

end Cert.Kernel21Ideal.Adam

end
-- ==== Proof.Adam.A22.lean ====
/-
  The AdamW call of the four norms of width 1024: its three results are the step's, of whatever arguments.
-/
module

public import proofs.«01_k».proof.Defs
public import proofs.«01_k».proof.Proof.Gen.Kernel22Ideal.Value
public import proofs.«01_k».proof.Proof.Gen.Reference22Ideal.Read
public import proofs.«01_k».proof.Proof.Adam.Step
public import Idealize.ShloMosaic.Lib.Pipeline.ValueKit.Geometry

@[expose] public section

noncomputable section

namespace Cert.Kernel22Ideal.Adam

open Cert.Kernel22Ideal Cert.Kernel22Ideal.Gen Idealize.ShloMosaic Idealize.ShloMosaic.TcCoe Idealize.SL.Sem Cert.Fwd Cert.Adam

section Out

variable {x0 x1 x2 x3 : Vec Ideal S1x1024 .f32} {W G M N : Fin 1 → Fin 1024 → EReal}

theorem out_5 (h1 : E2 x1 G) (h2 : E2 x2 M) : E2 (out0_5 x0 x1 x2 x3) fun j k => first (G j k) (M j k) := by
  unfold out0_5
  rw [View.canon_unit_zero hz]
  simp only [View.ld_unit_zero (S := S1x1024) hz]
  intro j k
  pointwise [k0_pay1]
  simp only [h1.at, h2.at]
  rfl

theorem out_6 (h1 : E2 x1 G) (h3 : E2 x3 N) : E2 (out0_6 x0 x1 x2 x3) fun j k => second (G j k) (N j k) := by
  unfold out0_6
  rw [View.canon_unit_zero hz]
  simp only [View.ld_unit_zero (S := S1x1024) hz]
  intro j k
  pointwise [k0_pay2]
  simp only [h1.at, h3.at]
  rfl

theorem out_4 (h0 : E2 x0 W) (h1 : E2 x1 G) (h2 : E2 x2 M) (h3 : E2 x3 N) :
    E2 (out0_4 x0 x1 x2 x3) fun j k => delta (W j k) (G j k) (M j k) (N j k) := by
  unfold out0_4
  rw [View.canon_unit_zero hz]
  simp only [View.ld_unit_zero (S := S1x1024) hz]
  intro j k
  pointwise [k0_pay3, k0_pay1, k0_pay2]
  simp only [h0.at, h1.at, h2.at, h3.at]
  rfl

end Out

variable (m : (ℓ : Loc nD τ sig) → Buf (Elt Ideal) ℓ) (c : Dev nD)

/-- What the arguments hold. -/
structure Args (W G M N : Fin 1 → Fin 1024 → EReal) : Prop where
  a0 : E2 (m ((c : Thread nD τ).loc main_arg0)) W
  a1 : E2 (m ((c : Thread nD τ).loc main_arg1)) G
  a2 : E2 (m ((c : Thread nD τ).loc main_arg2)) M
  a3 : E2 (m ((c : Thread nD τ).loc main_arg3)) N

/-- Row `j` of a point's block. -/
def row (t : Fin cfg0.N) (j : Fin 1) : Fin 1 :=
  ⟨1 * t.val + j.val, by have := lt_of_lt_of_eq t.isLt N_0; have := j.isLt; omega⟩

section Blocks

variable {m c} {W G M N : Fin 1 → Fin 1024 → EReal}

/-- Where an entry of a point's block lies in its array: at the same place in each of the seven. -/
theorem emb (t : Fin grid0.N) (j : Fin 1) (k : Fin 1024) :
    (win0_0.blk t).view.emb (ix2 j k) = (ix2 (row t j) k : S1x1024.Idx) := by
  have hi := (by decide +kernel : ∀ t : Fin grid0.N, win0_0.index t 0 = t.val ∧ win0_0.index t 1 = 0) t
  funext d
  apply Fin.ext
  match d with
  | ⟨0, _⟩ => show win0_0.index t 0 * 1 + 1 * j.val = 1 * t.val + j.val; rw [hi.1]; omega
  | ⟨1, _⟩ => show win0_0.index t 1 * 1024 + 1 * k.val = k.val; rw [hi.2]; omega

theorem blk0 (h : Args m c W G M N) (t : Fin cfg0.N) :
    E2 (iblk m c 0 t : Vec Ideal S1x1024 .f32) (fun j => W (row t j)) :=
  fun j k => (congrArg (V m c main_arg0) (emb t j k)).trans (h.a0.at _ _)

theorem blk1 (h : Args m c W G M N) (t : Fin cfg0.N) :
    E2 (iblk m c 1 t : Vec Ideal S1x1024 .f32) (fun j => G (row t j)) :=
  fun j k => (congrArg (V m c main_arg1) (emb t j k)).trans (h.a1.at _ _)

theorem blk2 (h : Args m c W G M N) (t : Fin cfg0.N) :
    E2 (iblk m c 2 t : Vec Ideal S1x1024 .f32) (fun j => M (row t j)) :=
  fun j k => (congrArg (V m c main_arg2) (emb t j k)).trans (h.a2.at _ _)

theorem blk3 (h : Args m c W G M N) (t : Fin cfg0.N) :
    E2 (iblk m c 3 t : Vec Ideal S1x1024 .f32) (fun j => N (row t j)) :=
  fun j k => (congrArg (V m c main_arg3) (emb t j k)).trans (h.a3.at _ _)

theorem final4 (h : Args m c W G M N) : (dats m 0 c).arrAt 4 cfg0.N = mat fun j k => delta (W j k) (G j k) (M j k) (N j k) := by
  refine (dats m 0 c).arrAt_eq_of_covers 4 _ (by decide +kernel) fun t hf y => ?_
  blk_simp
  rw [after0_4]
  obtain ⟨j, k, rfl⟩ : ∃ j k, y = (ix2 j k : S1x1024.Idx) := ⟨_, _, (ix2_eta y).symm⟩
  exact (out_4 (blk0 h t) (blk1 h t) (blk2 h t) (blk3 h t) j k).trans (congrArg (mat fun j k => delta (W j k) (G j k) (M j k) (N j k)) (emb t j k)).symm

theorem final5 (h : Args m c W G M N) : (dats m 0 c).arrAt 5 cfg0.N = mat fun j k => first (G j k) (M j k) := by
  refine (dats m 0 c).arrAt_eq_of_covers 5 _ (by decide +kernel) fun t hf y => ?_
  blk_simp
  rw [after0_5]
  obtain ⟨j, k, rfl⟩ : ∃ j k, y = (ix2 j k : S1x1024.Idx) := ⟨_, _, (ix2_eta y).symm⟩
  exact (out_5 (blk1 h t) (blk2 h t) j k).trans (congrArg (mat fun j k => first (G j k) (M j k)) (emb t j k)).symm

theorem final6 (h : Args m c W G M N) : (dats m 0 c).arrAt 6 cfg0.N = mat fun j k => second (G j k) (N j k) := by
  refine (dats m 0 c).arrAt_eq_of_covers 6 _ (by decide +kernel) fun t hf y => ?_
  blk_simp
  rw [after0_6]
  obtain ⟨j, k, rfl⟩ : ∃ j k, y = (ix2 j k : S1x1024.Idx) := ⟨_, _, (ix2_eta y).symm⟩
  exact (out_6 (blk1 h t) (blk3 h t) j k).trans (congrArg (mat fun j k => second (G j k) (N j k)) (emb t j k)).symm

end Blocks

end Cert.Kernel22Ideal.Adam

namespace Cert.Reference22Ideal.Adam

open Cert.Reference22Ideal Cert.Reference22Ideal.Gen Cert.Reference22Ideal.Read Idealize.ShloMosaic Idealize.SL.Sem Cert.Fwd Cert.Adam

variable {x0 x1 x2 x3 : (⟨S1x1024, .f32⟩ : BufTy).Contents (Elt Ideal)} {W G M N : Fin 1 → Fin 1024 → EReal}

theorem v4_E (h1 : E2 x1 G) (h2 : E2 x2 M) :
    E2 (val_main_v4 (F := Ideal) x1 x2) fun j k => first (G j k) (M j k) := by
  intro j k
  pointwise [val_main_v4, val_main_v3, val_main_v2, val_main_v1, val_main_v0, val_main_cst, val_main_cst_0]
  simp only [h1.at, h2.at]
  rfl

theorem v10_E (h1 : E2 x1 G) (h3 : E2 x3 N) :
    E2 (val_main_v10 (F := Ideal) x1 x3) fun j k => second (G j k) (N j k) := by
  intro j k
  pointwise [val_main_v10, val_main_v9, val_main_v8, val_main_v7, val_main_v6, val_main_v5, val_main_cst_1, val_main_cst_2]
  simp only [h1.at, h3.at]
  rfl

theorem v23_E (h0 : E2 x0 W) (h1 : E2 x1 G) (h2 : E2 x2 M) (h3 : E2 x3 N) :
    E2 (val_main_v23 (F := Ideal) x0 x1 x2 x3) fun j k => delta (W j k) (G j k) (M j k) (N j k) := by
  intro j k
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  simp only [h0.at, (v4_E h1 h2).at, (v10_E h1 h3).at]
  rfl

end Cert.Reference22Ideal.Adam

namespace Cert.Kernel22Ideal.Adam

open Cert.Kernel22Ideal Cert.Kernel22Ideal.Gen Idealize.ShloMosaic Idealize.ShloMosaic.TcCoe Idealize.SL.Sem Cert.Fwd Cert.Adam Cert.Reference22Ideal.Read Cert.Reference22Ideal.Adam

theorem args (m : (ℓ : Loc nD τ sig) → Buf (Elt Ideal) ℓ) (c : Dev nD) : ∃ W G M N, Args m c W G M N :=
  ⟨_, _, _, _, E2.self _, E2.self _, E2.self _, E2.self _⟩

theorem algebraic [Cert.Kernel22Ideal.Facts] [Cert.Reference22Ideal.Facts] : Cert.algebraic_Kernel22Ideal_Reference22Ideal := by
  intro m ρ m' ρ' _ hargs
  choose W G M N h using args m
  refine ⟨fun c => mat fun j k => delta (W c j k) (G c j k) (M c j k) (N c j k),
    fun c => mat fun j k => first (G c j k) (M c j k), fun c => mat fun j k => second (G c j k) (N c j k), ?_, ?_⟩
  · refine (θ_run _ _ _).mono (fun r hr c => ?_) (Value.run_blocks (F := Ideal) m ρ)
    obtain ⟨h4, h5, h6, ha⟩ := hr c
    exact ⟨h4.trans (final4 (h c)), h5.trans (final5 (h c)), h6.trans (final6 (h c)), ha⟩
  · refine (θ_run _ _ _).mono (fun r hr c => ?_) (Cert.Reference22Ideal.Value.run (F := Ideal) m' ρ')
    obtain ⟨h0, h1, h2, ha⟩ := hr c
    obtain ⟨a0, a1, a2, a3⟩ := hargs c
    have g0 := (h c).a0; rw [← a0] at g0
    have g1 := (h c).a1; rw [← a1] at g1
    have g2 := (h c).a2; rw [← a2] at g2
    have g3 := (h c).a3; rw [← a3] at g3
    refine ⟨h0.trans ?_, h1.trans ?_, h2.trans ?_, ha⟩
    · exact (val_main_v23_eq _ _ _ _).trans (v23_E g0 g1 g2 g3).eq_mat
    · exact (val_main_v4_eq _ _).trans (v4_E g1 g2).eq_mat
    · exact (val_main_v10_eq _ _).trans (v10_E g1 g3).eq_mat

end Cert.Kernel22Ideal.Adam

end
-- ==== Proof.Adam.A23.lean ====
/-
  The AdamW call of b_gate: its three results are the step's, of whatever arguments.
-/
module

public import proofs.«01_k».proof.Defs
public import proofs.«01_k».proof.Proof.Gen.Kernel23Ideal.Value
public import proofs.«01_k».proof.Proof.Gen.Reference23Ideal.Read
public import proofs.«01_k».proof.Proof.Adam.Step
public import Idealize.ShloMosaic.Lib.Pipeline.ValueKit.Geometry

@[expose] public section

noncomputable section

namespace Cert.Kernel23Ideal.Adam

open Cert.Kernel23Ideal Cert.Kernel23Ideal.Gen Idealize.ShloMosaic Idealize.ShloMosaic.TcCoe Idealize.SL.Sem Cert.Fwd Cert.Adam

section Out

variable {x0 x1 x2 x3 : Vec Ideal S1x2048 .f32} {W G M N : Fin 1 → Fin 2048 → EReal}

theorem out_5 (h1 : E2 x1 G) (h2 : E2 x2 M) : E2 (out0_5 x0 x1 x2 x3) fun j k => first (G j k) (M j k) := by
  unfold out0_5
  rw [View.canon_unit_zero hz]
  simp only [View.ld_unit_zero (S := S1x2048) hz]
  intro j k
  pointwise [k0_pay1]
  simp only [h1.at, h2.at]
  rfl

theorem out_6 (h1 : E2 x1 G) (h3 : E2 x3 N) : E2 (out0_6 x0 x1 x2 x3) fun j k => second (G j k) (N j k) := by
  unfold out0_6
  rw [View.canon_unit_zero hz]
  simp only [View.ld_unit_zero (S := S1x2048) hz]
  intro j k
  pointwise [k0_pay2]
  simp only [h1.at, h3.at]
  rfl

theorem out_4 (h0 : E2 x0 W) (h1 : E2 x1 G) (h2 : E2 x2 M) (h3 : E2 x3 N) :
    E2 (out0_4 x0 x1 x2 x3) fun j k => delta (W j k) (G j k) (M j k) (N j k) := by
  unfold out0_4
  rw [View.canon_unit_zero hz]
  simp only [View.ld_unit_zero (S := S1x2048) hz]
  intro j k
  pointwise [k0_pay3, k0_pay1, k0_pay2]
  simp only [h0.at, h1.at, h2.at, h3.at]
  rfl

end Out

variable (m : (ℓ : Loc nD τ sig) → Buf (Elt Ideal) ℓ) (c : Dev nD)

/-- What the arguments hold. -/
structure Args (W G M N : Fin 1 → Fin 2048 → EReal) : Prop where
  a0 : E2 (m ((c : Thread nD τ).loc main_arg0)) W
  a1 : E2 (m ((c : Thread nD τ).loc main_arg1)) G
  a2 : E2 (m ((c : Thread nD τ).loc main_arg2)) M
  a3 : E2 (m ((c : Thread nD τ).loc main_arg3)) N

/-- Row `j` of a point's block. -/
def row (t : Fin cfg0.N) (j : Fin 1) : Fin 1 :=
  ⟨1 * t.val + j.val, by have := lt_of_lt_of_eq t.isLt N_0; have := j.isLt; omega⟩

section Blocks

variable {m c} {W G M N : Fin 1 → Fin 2048 → EReal}

/-- Where an entry of a point's block lies in its array: at the same place in each of the seven. -/
theorem emb (t : Fin grid0.N) (j : Fin 1) (k : Fin 2048) :
    (win0_0.blk t).view.emb (ix2 j k) = (ix2 (row t j) k : S1x2048.Idx) := by
  have hi := (by decide +kernel : ∀ t : Fin grid0.N, win0_0.index t 0 = t.val ∧ win0_0.index t 1 = 0) t
  funext d
  apply Fin.ext
  match d with
  | ⟨0, _⟩ => show win0_0.index t 0 * 1 + 1 * j.val = 1 * t.val + j.val; rw [hi.1]; omega
  | ⟨1, _⟩ => show win0_0.index t 1 * 2048 + 1 * k.val = k.val; rw [hi.2]; omega

theorem blk0 (h : Args m c W G M N) (t : Fin cfg0.N) :
    E2 (iblk m c 0 t : Vec Ideal S1x2048 .f32) (fun j => W (row t j)) :=
  fun j k => (congrArg (V m c main_arg0) (emb t j k)).trans (h.a0.at _ _)

theorem blk1 (h : Args m c W G M N) (t : Fin cfg0.N) :
    E2 (iblk m c 1 t : Vec Ideal S1x2048 .f32) (fun j => G (row t j)) :=
  fun j k => (congrArg (V m c main_arg1) (emb t j k)).trans (h.a1.at _ _)

theorem blk2 (h : Args m c W G M N) (t : Fin cfg0.N) :
    E2 (iblk m c 2 t : Vec Ideal S1x2048 .f32) (fun j => M (row t j)) :=
  fun j k => (congrArg (V m c main_arg2) (emb t j k)).trans (h.a2.at _ _)

theorem blk3 (h : Args m c W G M N) (t : Fin cfg0.N) :
    E2 (iblk m c 3 t : Vec Ideal S1x2048 .f32) (fun j => N (row t j)) :=
  fun j k => (congrArg (V m c main_arg3) (emb t j k)).trans (h.a3.at _ _)

theorem final4 (h : Args m c W G M N) : (dats m 0 c).arrAt 4 cfg0.N = mat fun j k => delta (W j k) (G j k) (M j k) (N j k) := by
  refine (dats m 0 c).arrAt_eq_of_covers 4 _ (by decide +kernel) fun t hf y => ?_
  blk_simp
  rw [after0_4]
  obtain ⟨j, k, rfl⟩ : ∃ j k, y = (ix2 j k : S1x2048.Idx) := ⟨_, _, (ix2_eta y).symm⟩
  exact (out_4 (blk0 h t) (blk1 h t) (blk2 h t) (blk3 h t) j k).trans (congrArg (mat fun j k => delta (W j k) (G j k) (M j k) (N j k)) (emb t j k)).symm

theorem final5 (h : Args m c W G M N) : (dats m 0 c).arrAt 5 cfg0.N = mat fun j k => first (G j k) (M j k) := by
  refine (dats m 0 c).arrAt_eq_of_covers 5 _ (by decide +kernel) fun t hf y => ?_
  blk_simp
  rw [after0_5]
  obtain ⟨j, k, rfl⟩ : ∃ j k, y = (ix2 j k : S1x2048.Idx) := ⟨_, _, (ix2_eta y).symm⟩
  exact (out_5 (blk1 h t) (blk2 h t) j k).trans (congrArg (mat fun j k => first (G j k) (M j k)) (emb t j k)).symm

theorem final6 (h : Args m c W G M N) : (dats m 0 c).arrAt 6 cfg0.N = mat fun j k => second (G j k) (N j k) := by
  refine (dats m 0 c).arrAt_eq_of_covers 6 _ (by decide +kernel) fun t hf y => ?_
  blk_simp
  rw [after0_6]
  obtain ⟨j, k, rfl⟩ : ∃ j k, y = (ix2 j k : S1x2048.Idx) := ⟨_, _, (ix2_eta y).symm⟩
  exact (out_6 (blk1 h t) (blk3 h t) j k).trans (congrArg (mat fun j k => second (G j k) (N j k)) (emb t j k)).symm

end Blocks

end Cert.Kernel23Ideal.Adam

namespace Cert.Reference23Ideal.Adam

open Cert.Reference23Ideal Cert.Reference23Ideal.Gen Cert.Reference23Ideal.Read Idealize.ShloMosaic Idealize.SL.Sem Cert.Fwd Cert.Adam

variable {x0 x1 x2 x3 : (⟨S1x2048, .f32⟩ : BufTy).Contents (Elt Ideal)} {W G M N : Fin 1 → Fin 2048 → EReal}

theorem v4_E (h1 : E2 x1 G) (h2 : E2 x2 M) :
    E2 (val_main_v4 (F := Ideal) x1 x2) fun j k => first (G j k) (M j k) := by
  intro j k
  pointwise [val_main_v4, val_main_v3, val_main_v2, val_main_v1, val_main_v0, val_main_cst, val_main_cst_0]
  simp only [h1.at, h2.at]
  rfl

theorem v10_E (h1 : E2 x1 G) (h3 : E2 x3 N) :
    E2 (val_main_v10 (F := Ideal) x1 x3) fun j k => second (G j k) (N j k) := by
  intro j k
  pointwise [val_main_v10, val_main_v9, val_main_v8, val_main_v7, val_main_v6, val_main_v5, val_main_cst_1, val_main_cst_2]
  simp only [h1.at, h3.at]
  rfl

theorem v23_E (h0 : E2 x0 W) (h1 : E2 x1 G) (h2 : E2 x2 M) (h3 : E2 x3 N) :
    E2 (val_main_v23 (F := Ideal) x0 x1 x2 x3) fun j k => delta (W j k) (G j k) (M j k) (N j k) := by
  intro j k
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  simp only [h0.at, (v4_E h1 h2).at, (v10_E h1 h3).at]
  rfl

end Cert.Reference23Ideal.Adam

namespace Cert.Kernel23Ideal.Adam

open Cert.Kernel23Ideal Cert.Kernel23Ideal.Gen Idealize.ShloMosaic Idealize.ShloMosaic.TcCoe Idealize.SL.Sem Cert.Fwd Cert.Adam Cert.Reference23Ideal.Read Cert.Reference23Ideal.Adam

theorem args (m : (ℓ : Loc nD τ sig) → Buf (Elt Ideal) ℓ) (c : Dev nD) : ∃ W G M N, Args m c W G M N :=
  ⟨_, _, _, _, E2.self _, E2.self _, E2.self _, E2.self _⟩

theorem algebraic [Cert.Kernel23Ideal.Facts] [Cert.Reference23Ideal.Facts] : Cert.algebraic_Kernel23Ideal_Reference23Ideal := by
  intro m ρ m' ρ' _ hargs
  choose W G M N h using args m
  refine ⟨fun c => mat fun j k => delta (W c j k) (G c j k) (M c j k) (N c j k),
    fun c => mat fun j k => first (G c j k) (M c j k), fun c => mat fun j k => second (G c j k) (N c j k), ?_, ?_⟩
  · refine (θ_run _ _ _).mono (fun r hr c => ?_) (Value.run_blocks (F := Ideal) m ρ)
    obtain ⟨h4, h5, h6, ha⟩ := hr c
    exact ⟨h4.trans (final4 (h c)), h5.trans (final5 (h c)), h6.trans (final6 (h c)), ha⟩
  · refine (θ_run _ _ _).mono (fun r hr c => ?_) (Cert.Reference23Ideal.Value.run (F := Ideal) m' ρ')
    obtain ⟨h0, h1, h2, ha⟩ := hr c
    obtain ⟨a0, a1, a2, a3⟩ := hargs c
    have g0 := (h c).a0; rw [← a0] at g0
    have g1 := (h c).a1; rw [← a1] at g1
    have g2 := (h c).a2; rw [← a2] at g2
    have g3 := (h c).a3; rw [← a3] at g3
    refine ⟨h0.trans ?_, h1.trans ?_, h2.trans ?_, ha⟩
    · exact (val_main_v23_eq _ _ _ _).trans (v23_E g0 g1 g2 g3).eq_mat
    · exact (val_main_v4_eq _ _).trans (v4_E g1 g2).eq_mat
    · exact (val_main_v10_eq _ _).trans (v10_E g1 g3).eq_mat

end Cert.Kernel23Ideal.Adam

end
-- ==== Proof.Adam.A24.lean ====
/-
  The AdamW call of q_norm: its three results are the step's, of whatever arguments.
-/
module

public import proofs.«01_k».proof.Defs
public import proofs.«01_k».proof.Proof.Gen.Kernel24Ideal.Value
public import proofs.«01_k».proof.Proof.Gen.Reference24Ideal.Read
public import proofs.«01_k».proof.Proof.Adam.Step
public import Idealize.ShloMosaic.Lib.Pipeline.ValueKit.Geometry

@[expose] public section

noncomputable section

namespace Cert.Kernel24Ideal.Adam

open Cert.Kernel24Ideal Cert.Kernel24Ideal.Gen Idealize.ShloMosaic Idealize.ShloMosaic.TcCoe Idealize.SL.Sem Cert.Fwd Cert.Adam

section Out

variable {x0 x1 x2 x3 : Vec Ideal S1x384 .f32} {W G M N : Fin 1 → Fin 384 → EReal}

theorem out_5 (h1 : E2 x1 G) (h2 : E2 x2 M) : E2 (out0_5 x0 x1 x2 x3) fun j k => first (G j k) (M j k) := by
  unfold out0_5
  rw [View.canon_unit_zero hz]
  simp only [View.ld_unit_zero (S := S1x384) hz]
  intro j k
  pointwise [k0_pay1]
  simp only [h1.at, h2.at]
  rfl

theorem out_6 (h1 : E2 x1 G) (h3 : E2 x3 N) : E2 (out0_6 x0 x1 x2 x3) fun j k => second (G j k) (N j k) := by
  unfold out0_6
  rw [View.canon_unit_zero hz]
  simp only [View.ld_unit_zero (S := S1x384) hz]
  intro j k
  pointwise [k0_pay2]
  simp only [h1.at, h3.at]
  rfl

theorem out_4 (h0 : E2 x0 W) (h1 : E2 x1 G) (h2 : E2 x2 M) (h3 : E2 x3 N) :
    E2 (out0_4 x0 x1 x2 x3) fun j k => delta (W j k) (G j k) (M j k) (N j k) := by
  unfold out0_4
  rw [View.canon_unit_zero hz]
  simp only [View.ld_unit_zero (S := S1x384) hz]
  intro j k
  pointwise [k0_pay3, k0_pay1, k0_pay2]
  simp only [h0.at, h1.at, h2.at, h3.at]
  rfl

end Out

variable (m : (ℓ : Loc nD τ sig) → Buf (Elt Ideal) ℓ) (c : Dev nD)

/-- What the arguments hold. -/
structure Args (W G M N : Fin 1 → Fin 384 → EReal) : Prop where
  a0 : E2 (m ((c : Thread nD τ).loc main_arg0)) W
  a1 : E2 (m ((c : Thread nD τ).loc main_arg1)) G
  a2 : E2 (m ((c : Thread nD τ).loc main_arg2)) M
  a3 : E2 (m ((c : Thread nD τ).loc main_arg3)) N

/-- Row `j` of a point's block. -/
def row (t : Fin cfg0.N) (j : Fin 1) : Fin 1 :=
  ⟨1 * t.val + j.val, by have := lt_of_lt_of_eq t.isLt N_0; have := j.isLt; omega⟩

section Blocks

variable {m c} {W G M N : Fin 1 → Fin 384 → EReal}

/-- Where an entry of a point's block lies in its array: at the same place in each of the seven. -/
theorem emb (t : Fin grid0.N) (j : Fin 1) (k : Fin 384) :
    (win0_0.blk t).view.emb (ix2 j k) = (ix2 (row t j) k : S1x384.Idx) := by
  have hi := (by decide +kernel : ∀ t : Fin grid0.N, win0_0.index t 0 = t.val ∧ win0_0.index t 1 = 0) t
  funext d
  apply Fin.ext
  match d with
  | ⟨0, _⟩ => show win0_0.index t 0 * 1 + 1 * j.val = 1 * t.val + j.val; rw [hi.1]; omega
  | ⟨1, _⟩ => show win0_0.index t 1 * 384 + 1 * k.val = k.val; rw [hi.2]; omega

theorem blk0 (h : Args m c W G M N) (t : Fin cfg0.N) :
    E2 (iblk m c 0 t : Vec Ideal S1x384 .f32) (fun j => W (row t j)) :=
  fun j k => (congrArg (V m c main_arg0) (emb t j k)).trans (h.a0.at _ _)

theorem blk1 (h : Args m c W G M N) (t : Fin cfg0.N) :
    E2 (iblk m c 1 t : Vec Ideal S1x384 .f32) (fun j => G (row t j)) :=
  fun j k => (congrArg (V m c main_arg1) (emb t j k)).trans (h.a1.at _ _)

theorem blk2 (h : Args m c W G M N) (t : Fin cfg0.N) :
    E2 (iblk m c 2 t : Vec Ideal S1x384 .f32) (fun j => M (row t j)) :=
  fun j k => (congrArg (V m c main_arg2) (emb t j k)).trans (h.a2.at _ _)

theorem blk3 (h : Args m c W G M N) (t : Fin cfg0.N) :
    E2 (iblk m c 3 t : Vec Ideal S1x384 .f32) (fun j => N (row t j)) :=
  fun j k => (congrArg (V m c main_arg3) (emb t j k)).trans (h.a3.at _ _)

theorem final4 (h : Args m c W G M N) : (dats m 0 c).arrAt 4 cfg0.N = mat fun j k => delta (W j k) (G j k) (M j k) (N j k) := by
  refine (dats m 0 c).arrAt_eq_of_covers 4 _ (by decide +kernel) fun t hf y => ?_
  blk_simp
  rw [after0_4]
  obtain ⟨j, k, rfl⟩ : ∃ j k, y = (ix2 j k : S1x384.Idx) := ⟨_, _, (ix2_eta y).symm⟩
  exact (out_4 (blk0 h t) (blk1 h t) (blk2 h t) (blk3 h t) j k).trans (congrArg (mat fun j k => delta (W j k) (G j k) (M j k) (N j k)) (emb t j k)).symm

theorem final5 (h : Args m c W G M N) : (dats m 0 c).arrAt 5 cfg0.N = mat fun j k => first (G j k) (M j k) := by
  refine (dats m 0 c).arrAt_eq_of_covers 5 _ (by decide +kernel) fun t hf y => ?_
  blk_simp
  rw [after0_5]
  obtain ⟨j, k, rfl⟩ : ∃ j k, y = (ix2 j k : S1x384.Idx) := ⟨_, _, (ix2_eta y).symm⟩
  exact (out_5 (blk1 h t) (blk2 h t) j k).trans (congrArg (mat fun j k => first (G j k) (M j k)) (emb t j k)).symm

theorem final6 (h : Args m c W G M N) : (dats m 0 c).arrAt 6 cfg0.N = mat fun j k => second (G j k) (N j k) := by
  refine (dats m 0 c).arrAt_eq_of_covers 6 _ (by decide +kernel) fun t hf y => ?_
  blk_simp
  rw [after0_6]
  obtain ⟨j, k, rfl⟩ : ∃ j k, y = (ix2 j k : S1x384.Idx) := ⟨_, _, (ix2_eta y).symm⟩
  exact (out_6 (blk1 h t) (blk3 h t) j k).trans (congrArg (mat fun j k => second (G j k) (N j k)) (emb t j k)).symm

end Blocks

end Cert.Kernel24Ideal.Adam

namespace Cert.Reference24Ideal.Adam

open Cert.Reference24Ideal Cert.Reference24Ideal.Gen Cert.Reference24Ideal.Read Idealize.ShloMosaic Idealize.SL.Sem Cert.Fwd Cert.Adam

variable {x0 x1 x2 x3 : (⟨S1x384, .f32⟩ : BufTy).Contents (Elt Ideal)} {W G M N : Fin 1 → Fin 384 → EReal}

theorem v4_E (h1 : E2 x1 G) (h2 : E2 x2 M) :
    E2 (val_main_v4 (F := Ideal) x1 x2) fun j k => first (G j k) (M j k) := by
  intro j k
  pointwise [val_main_v4, val_main_v3, val_main_v2, val_main_v1, val_main_v0, val_main_cst, val_main_cst_0]
  simp only [h1.at, h2.at]
  rfl

theorem v10_E (h1 : E2 x1 G) (h3 : E2 x3 N) :
    E2 (val_main_v10 (F := Ideal) x1 x3) fun j k => second (G j k) (N j k) := by
  intro j k
  pointwise [val_main_v10, val_main_v9, val_main_v8, val_main_v7, val_main_v6, val_main_v5, val_main_cst_1, val_main_cst_2]
  simp only [h1.at, h3.at]
  rfl

theorem v23_E (h0 : E2 x0 W) (h1 : E2 x1 G) (h2 : E2 x2 M) (h3 : E2 x3 N) :
    E2 (val_main_v23 (F := Ideal) x0 x1 x2 x3) fun j k => delta (W j k) (G j k) (M j k) (N j k) := by
  intro j k
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  simp only [h0.at, (v4_E h1 h2).at, (v10_E h1 h3).at]
  rfl

end Cert.Reference24Ideal.Adam

namespace Cert.Kernel24Ideal.Adam

open Cert.Kernel24Ideal Cert.Kernel24Ideal.Gen Idealize.ShloMosaic Idealize.ShloMosaic.TcCoe Idealize.SL.Sem Cert.Fwd Cert.Adam Cert.Reference24Ideal.Read Cert.Reference24Ideal.Adam

theorem args (m : (ℓ : Loc nD τ sig) → Buf (Elt Ideal) ℓ) (c : Dev nD) : ∃ W G M N, Args m c W G M N :=
  ⟨_, _, _, _, E2.self _, E2.self _, E2.self _, E2.self _⟩

theorem algebraic [Cert.Kernel24Ideal.Facts] [Cert.Reference24Ideal.Facts] : Cert.algebraic_Kernel24Ideal_Reference24Ideal := by
  intro m ρ m' ρ' _ hargs
  choose W G M N h using args m
  refine ⟨fun c => mat fun j k => delta (W c j k) (G c j k) (M c j k) (N c j k),
    fun c => mat fun j k => first (G c j k) (M c j k), fun c => mat fun j k => second (G c j k) (N c j k), ?_, ?_⟩
  · refine (θ_run _ _ _).mono (fun r hr c => ?_) (Value.run_blocks (F := Ideal) m ρ)
    obtain ⟨h4, h5, h6, ha⟩ := hr c
    exact ⟨h4.trans (final4 (h c)), h5.trans (final5 (h c)), h6.trans (final6 (h c)), ha⟩
  · refine (θ_run _ _ _).mono (fun r hr c => ?_) (Cert.Reference24Ideal.Value.run (F := Ideal) m' ρ')
    obtain ⟨h0, h1, h2, ha⟩ := hr c
    obtain ⟨a0, a1, a2, a3⟩ := hargs c
    have g0 := (h c).a0; rw [← a0] at g0
    have g1 := (h c).a1; rw [← a1] at g1
    have g2 := (h c).a2; rw [← a2] at g2
    have g3 := (h c).a3; rw [← a3] at g3
    refine ⟨h0.trans ?_, h1.trans ?_, h2.trans ?_, ha⟩
    · exact (val_main_v23_eq _ _ _ _).trans (v23_E g0 g1 g2 g3).eq_mat
    · exact (val_main_v4_eq _ _).trans (v4_E g1 g2).eq_mat
    · exact (val_main_v10_eq _ _).trans (v10_E g1 g3).eq_mat

end Cert.Kernel24Ideal.Adam

end
-- ==== Proof.Adam.A25.lean ====
/-
  The AdamW call of kv_norm: its three results are the step's, of whatever arguments.
-/
module

public import proofs.«01_k».proof.Defs
public import proofs.«01_k».proof.Proof.Gen.Kernel25Ideal.Value
public import proofs.«01_k».proof.Proof.Gen.Reference25Ideal.Read
public import proofs.«01_k».proof.Proof.Adam.Step
public import Idealize.ShloMosaic.Lib.Pipeline.ValueKit.Geometry

@[expose] public section

noncomputable section

namespace Cert.Kernel25Ideal.Adam

open Cert.Kernel25Ideal Cert.Kernel25Ideal.Gen Idealize.ShloMosaic Idealize.ShloMosaic.TcCoe Idealize.SL.Sem Cert.Fwd Cert.Adam

section Out

variable {x0 x1 x2 x3 : Vec Ideal S1x256 .f32} {W G M N : Fin 1 → Fin 256 → EReal}

theorem out_5 (h1 : E2 x1 G) (h2 : E2 x2 M) : E2 (out0_5 x0 x1 x2 x3) fun j k => first (G j k) (M j k) := by
  unfold out0_5
  rw [View.canon_unit_zero hz]
  simp only [View.ld_unit_zero (S := S1x256) hz]
  intro j k
  pointwise [k0_pay1]
  simp only [h1.at, h2.at]
  rfl

theorem out_6 (h1 : E2 x1 G) (h3 : E2 x3 N) : E2 (out0_6 x0 x1 x2 x3) fun j k => second (G j k) (N j k) := by
  unfold out0_6
  rw [View.canon_unit_zero hz]
  simp only [View.ld_unit_zero (S := S1x256) hz]
  intro j k
  pointwise [k0_pay2]
  simp only [h1.at, h3.at]
  rfl

theorem out_4 (h0 : E2 x0 W) (h1 : E2 x1 G) (h2 : E2 x2 M) (h3 : E2 x3 N) :
    E2 (out0_4 x0 x1 x2 x3) fun j k => delta (W j k) (G j k) (M j k) (N j k) := by
  unfold out0_4
  rw [View.canon_unit_zero hz]
  simp only [View.ld_unit_zero (S := S1x256) hz]
  intro j k
  pointwise [k0_pay3, k0_pay1, k0_pay2]
  simp only [h0.at, h1.at, h2.at, h3.at]
  rfl

end Out

variable (m : (ℓ : Loc nD τ sig) → Buf (Elt Ideal) ℓ) (c : Dev nD)

/-- What the arguments hold. -/
structure Args (W G M N : Fin 1 → Fin 256 → EReal) : Prop where
  a0 : E2 (m ((c : Thread nD τ).loc main_arg0)) W
  a1 : E2 (m ((c : Thread nD τ).loc main_arg1)) G
  a2 : E2 (m ((c : Thread nD τ).loc main_arg2)) M
  a3 : E2 (m ((c : Thread nD τ).loc main_arg3)) N

/-- Row `j` of a point's block. -/
def row (t : Fin cfg0.N) (j : Fin 1) : Fin 1 :=
  ⟨1 * t.val + j.val, by have := lt_of_lt_of_eq t.isLt N_0; have := j.isLt; omega⟩

section Blocks

variable {m c} {W G M N : Fin 1 → Fin 256 → EReal}

/-- Where an entry of a point's block lies in its array: at the same place in each of the seven. -/
theorem emb (t : Fin grid0.N) (j : Fin 1) (k : Fin 256) :
    (win0_0.blk t).view.emb (ix2 j k) = (ix2 (row t j) k : S1x256.Idx) := by
  have hi := (by decide +kernel : ∀ t : Fin grid0.N, win0_0.index t 0 = t.val ∧ win0_0.index t 1 = 0) t
  funext d
  apply Fin.ext
  match d with
  | ⟨0, _⟩ => show win0_0.index t 0 * 1 + 1 * j.val = 1 * t.val + j.val; rw [hi.1]; omega
  | ⟨1, _⟩ => show win0_0.index t 1 * 256 + 1 * k.val = k.val; rw [hi.2]; omega

theorem blk0 (h : Args m c W G M N) (t : Fin cfg0.N) :
    E2 (iblk m c 0 t : Vec Ideal S1x256 .f32) (fun j => W (row t j)) :=
  fun j k => (congrArg (V m c main_arg0) (emb t j k)).trans (h.a0.at _ _)

theorem blk1 (h : Args m c W G M N) (t : Fin cfg0.N) :
    E2 (iblk m c 1 t : Vec Ideal S1x256 .f32) (fun j => G (row t j)) :=
  fun j k => (congrArg (V m c main_arg1) (emb t j k)).trans (h.a1.at _ _)

theorem blk2 (h : Args m c W G M N) (t : Fin cfg0.N) :
    E2 (iblk m c 2 t : Vec Ideal S1x256 .f32) (fun j => M (row t j)) :=
  fun j k => (congrArg (V m c main_arg2) (emb t j k)).trans (h.a2.at _ _)

theorem blk3 (h : Args m c W G M N) (t : Fin cfg0.N) :
    E2 (iblk m c 3 t : Vec Ideal S1x256 .f32) (fun j => N (row t j)) :=
  fun j k => (congrArg (V m c main_arg3) (emb t j k)).trans (h.a3.at _ _)

theorem final4 (h : Args m c W G M N) : (dats m 0 c).arrAt 4 cfg0.N = mat fun j k => delta (W j k) (G j k) (M j k) (N j k) := by
  refine (dats m 0 c).arrAt_eq_of_covers 4 _ (by decide +kernel) fun t hf y => ?_
  blk_simp
  rw [after0_4]
  obtain ⟨j, k, rfl⟩ : ∃ j k, y = (ix2 j k : S1x256.Idx) := ⟨_, _, (ix2_eta y).symm⟩
  exact (out_4 (blk0 h t) (blk1 h t) (blk2 h t) (blk3 h t) j k).trans (congrArg (mat fun j k => delta (W j k) (G j k) (M j k) (N j k)) (emb t j k)).symm

theorem final5 (h : Args m c W G M N) : (dats m 0 c).arrAt 5 cfg0.N = mat fun j k => first (G j k) (M j k) := by
  refine (dats m 0 c).arrAt_eq_of_covers 5 _ (by decide +kernel) fun t hf y => ?_
  blk_simp
  rw [after0_5]
  obtain ⟨j, k, rfl⟩ : ∃ j k, y = (ix2 j k : S1x256.Idx) := ⟨_, _, (ix2_eta y).symm⟩
  exact (out_5 (blk1 h t) (blk2 h t) j k).trans (congrArg (mat fun j k => first (G j k) (M j k)) (emb t j k)).symm

theorem final6 (h : Args m c W G M N) : (dats m 0 c).arrAt 6 cfg0.N = mat fun j k => second (G j k) (N j k) := by
  refine (dats m 0 c).arrAt_eq_of_covers 6 _ (by decide +kernel) fun t hf y => ?_
  blk_simp
  rw [after0_6]
  obtain ⟨j, k, rfl⟩ : ∃ j k, y = (ix2 j k : S1x256.Idx) := ⟨_, _, (ix2_eta y).symm⟩
  exact (out_6 (blk1 h t) (blk3 h t) j k).trans (congrArg (mat fun j k => second (G j k) (N j k)) (emb t j k)).symm

end Blocks

end Cert.Kernel25Ideal.Adam

namespace Cert.Reference25Ideal.Adam

open Cert.Reference25Ideal Cert.Reference25Ideal.Gen Cert.Reference25Ideal.Read Idealize.ShloMosaic Idealize.SL.Sem Cert.Fwd Cert.Adam

variable {x0 x1 x2 x3 : (⟨S1x256, .f32⟩ : BufTy).Contents (Elt Ideal)} {W G M N : Fin 1 → Fin 256 → EReal}

theorem v4_E (h1 : E2 x1 G) (h2 : E2 x2 M) :
    E2 (val_main_v4 (F := Ideal) x1 x2) fun j k => first (G j k) (M j k) := by
  intro j k
  pointwise [val_main_v4, val_main_v3, val_main_v2, val_main_v1, val_main_v0, val_main_cst, val_main_cst_0]
  simp only [h1.at, h2.at]
  rfl

theorem v10_E (h1 : E2 x1 G) (h3 : E2 x3 N) :
    E2 (val_main_v10 (F := Ideal) x1 x3) fun j k => second (G j k) (N j k) := by
  intro j k
  pointwise [val_main_v10, val_main_v9, val_main_v8, val_main_v7, val_main_v6, val_main_v5, val_main_cst_1, val_main_cst_2]
  simp only [h1.at, h3.at]
  rfl

theorem v23_E (h0 : E2 x0 W) (h1 : E2 x1 G) (h2 : E2 x2 M) (h3 : E2 x3 N) :
    E2 (val_main_v23 (F := Ideal) x0 x1 x2 x3) fun j k => delta (W j k) (G j k) (M j k) (N j k) := by
  intro j k
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  simp only [h0.at, (v4_E h1 h2).at, (v10_E h1 h3).at]
  rfl

end Cert.Reference25Ideal.Adam

namespace Cert.Kernel25Ideal.Adam

open Cert.Kernel25Ideal Cert.Kernel25Ideal.Gen Idealize.ShloMosaic Idealize.ShloMosaic.TcCoe Idealize.SL.Sem Cert.Fwd Cert.Adam Cert.Reference25Ideal.Read Cert.Reference25Ideal.Adam

theorem args (m : (ℓ : Loc nD τ sig) → Buf (Elt Ideal) ℓ) (c : Dev nD) : ∃ W G M N, Args m c W G M N :=
  ⟨_, _, _, _, E2.self _, E2.self _, E2.self _, E2.self _⟩

theorem algebraic [Cert.Kernel25Ideal.Facts] [Cert.Reference25Ideal.Facts] : Cert.algebraic_Kernel25Ideal_Reference25Ideal := by
  intro m ρ m' ρ' _ hargs
  choose W G M N h using args m
  refine ⟨fun c => mat fun j k => delta (W c j k) (G c j k) (M c j k) (N c j k),
    fun c => mat fun j k => first (G c j k) (M c j k), fun c => mat fun j k => second (G c j k) (N c j k), ?_, ?_⟩
  · refine (θ_run _ _ _).mono (fun r hr c => ?_) (Value.run_blocks (F := Ideal) m ρ)
    obtain ⟨h4, h5, h6, ha⟩ := hr c
    exact ⟨h4.trans (final4 (h c)), h5.trans (final5 (h c)), h6.trans (final6 (h c)), ha⟩
  · refine (θ_run _ _ _).mono (fun r hr c => ?_) (Cert.Reference25Ideal.Value.run (F := Ideal) m' ρ')
    obtain ⟨h0, h1, h2, ha⟩ := hr c
    obtain ⟨a0, a1, a2, a3⟩ := hargs c
    have g0 := (h c).a0; rw [← a0] at g0
    have g1 := (h c).a1; rw [← a1] at g1
    have g2 := (h c).a2; rw [← a2] at g2
    have g3 := (h c).a3; rw [← a3] at g3
    refine ⟨h0.trans ?_, h1.trans ?_, h2.trans ?_, ha⟩
    · exact (val_main_v23_eq _ _ _ _).trans (v23_E g0 g1 g2 g3).eq_mat
    · exact (val_main_v4_eq _ _).trans (v4_E g1 g2).eq_mat
    · exact (val_main_v10_eq _ _).trans (v10_E g1 g3).eq_mat

end Cert.Kernel25Ideal.Adam

end
-- ==== Proof.Sum.Slots.lean ====
/-
  The sum of a gradient over the eight slots in which the devices' parts arrive. The kernels and the references of these
  sums are both brought to `total`.
-/
module

public import proofs.«01_k».proof.Proof.Fwd.Rows

@[expose] public section

noncomputable section

namespace Cert.Slots

open Idealize.ShloMosaic Cert.Fwd

variable {a b : Nat}

/-- The sum over the slots. -/
def total (x : (⟨3, ![8, a, b]⟩ : Shape).Idx → EReal) : (⟨2, ![a, b]⟩ : Shape).Idx → EReal :=
  mat fun j k => ∑ d : Fin 8, x (ix3 d j k)

theorem total_apply (x : (⟨3, ![8, a, b]⟩ : Shape).Idx → EReal) (j : Fin a) (k : Fin b) :
    total x (ix2 j k) = ∑ d : Fin 8, x (ix3 d j k) := rfl

/-- A sum over the slots that starts from a zero. -/
theorem zero_add_sum (x : (⟨3, ![8, a, b]⟩ : Shape).Idx → EReal) (i : (⟨2, ![a, b]⟩ : Shape).Idx) (z : EReal)
    (hz : z = Ideal.ofBits .f32 0x00000000#32) (f : Fin 8 → (⟨3, ![8, a, b]⟩ : Shape).Idx)
    (hf : ∀ d, f d = ix3 d (i 0) (i 1)) : z + ∑ d, x (f d) = total x i := by
  rw [hz, show Ideal.ofBits .f32 0x00000000#32 = (0 : EReal) from by simp [Ideal.ofBits, Ideal.ieee], zero_add]
  exact Finset.sum_congr rfl fun d _ => congrArg x (hf d)

end Cert.Slots

end
-- ==== Proof.Sum.S26.lean ====
/-
  The gradient of w_in summed over the devices' slots: the kernel's chain of additions is the sum over the slots.
-/
module

public import proofs.«01_k».proof.Defs
public import proofs.«01_k».proof.Proof.Gen.Kernel26Ideal.Value
public import proofs.«01_k».proof.Proof.Gen.Reference26Ideal.Read
public import proofs.«01_k».proof.Proof.Sum.Slots

@[expose] public section

noncomputable section

namespace Cert.Kernel26Ideal.Sum

open Cert.Kernel26Ideal Cert.Kernel26Ideal.Gen Idealize.ShloMosaic Idealize.ShloMosaic.TcCoe Idealize.SL.Sem Cert.Fwd Cert.Slots

theorem out_1 (x : Vec Ideal S8x532x1024 .bf16) (j : Fin 532) (k : Fin 1024) :
    out0_1 x (ix2 j k) = ∑ d : Fin 8, x (ix3 d j k) := by
  unfold out0_1
  rw [View.canon_unit_zero (S := S532x1024) hz]
  pointwise [k0_pay1]
  rw [Fin.sum_univ_eight]

/-- Row `j` of a point's block. -/
def row (t : Fin cfg0.N) (j : Fin 532) : Fin 532 :=
  ⟨532 * t.val + j.val, by have := lt_of_lt_of_eq t.isLt N_0; have := j.isLt; omega⟩

/-! Where an entry of a point's block lies in its array. -/

theorem emb0 (t : Fin grid0.N) (d : Fin 8) (j : Fin 532) (k : Fin 1024) :
    (win0_0.blk t).view.emb (ix3 d j k) = (ix3 d (row t j) k : S8x532x1024.Idx) := by
  have hi := (by decide +kernel : ∀ t : Fin grid0.N,
    win0_0.index t 0 = 0 ∧ win0_0.index t 1 = t.val ∧ win0_0.index t 2 = 0) t
  funext a
  apply Fin.ext
  match a with
  | ⟨0, _⟩ => show win0_0.index t 0 * 8 + 1 * d.val = d.val; rw [hi.1]; omega
  | ⟨1, _⟩ => show win0_0.index t 1 * 532 + 1 * j.val = 532 * t.val + j.val; rw [hi.2.1]; omega
  | ⟨2, _⟩ => show win0_0.index t 2 * 1024 + 1 * k.val = k.val; rw [hi.2.2]; omega

theorem emb1 (t : Fin grid0.N) (j : Fin 532) (k : Fin 1024) :
    (win0_1.blk t).view.emb (ix2 j k) = (ix2 (row t j) k : S532x1024.Idx) := by
  have hi := (by decide +kernel : ∀ t : Fin grid0.N, win0_1.index t 0 = t.val ∧ win0_1.index t 1 = 0) t
  funext a
  apply Fin.ext
  match a with
  | ⟨0, _⟩ => show win0_1.index t 0 * 532 + 1 * j.val = 532 * t.val + j.val; rw [hi.1]; omega
  | ⟨1, _⟩ => show win0_1.index t 1 * 1024 + 1 * k.val = k.val; rw [hi.2]; omega

theorem final (m : (ℓ : Loc nD τ sig) → Buf (Elt Ideal) ℓ) (c : Dev nD) :
    (dats m 0 c).arrAt 1 cfg0.N = total (m ((c : Thread nD τ).loc main_arg0)) := by
  refine (dats m 0 c).arrAt_eq_of_covers 1 _ (by decide +kernel) fun t hf y => ?_
  blk_simp
  rw [after0_1]
  obtain ⟨j, k, rfl⟩ : ∃ j k, y = (ix2 j k : S532x1024.Idx) := ⟨_, _, (ix2_eta y).symm⟩
  refine (out_1 _ j k).trans (Eq.trans ?_ (congrArg (total (m ((c : Thread nD τ).loc main_arg0))) (emb1 t j k)).symm)
  refine Eq.trans ?_ (total_apply _ (row t j) k).symm
  refine Finset.sum_congr rfl fun d _ => ?_
  exact congrArg (V m c main_arg0) (emb0 t d j k)

open Cert.Reference26Ideal.Read

theorem ref (x : (⟨S8x532x1024, .bf16⟩ : BufTy).Contents (Elt Ideal)) : val_main_v1 (F := Ideal) x = total x := by
  funext i
  rw [val_main_v1_apply]
  exact zero_add_sum x i _ (val_main_cst_apply _) _ fun d => by funext a; fin_cases a <;> rfl

theorem algebraic [Cert.Kernel26Ideal.Facts] [Cert.Reference26Ideal.Facts] :
    Cert.algebraic_Kernel26Ideal_Reference26Ideal := by
  intro m ρ m' ρ' _ hargs
  refine ⟨fun c => total (m ((c : Thread nD τ).loc main_arg0)), ?_, ?_⟩
  · refine (θ_run _ _ _).mono (fun r hr c => ?_) (Value.run_blocks (F := Ideal) m ρ)
    exact ⟨(hr c).1.trans (final m c), (hr c).2⟩
  · refine (θ_run _ _ _).mono (fun r hr c => ?_) (Cert.Reference26Ideal.Value.run (F := Ideal) m' ρ')
    refine ⟨(hr c).1.trans ((val_main_v1_eq _).trans ((ref _).trans ?_)), (hr c).2⟩
    exact congrArg total (hargs c)

end Cert.Kernel26Ideal.Sum

end
-- ==== Proof.Sum.S27.lean ====
/-
  The gradient of w_uq and w_ukv, packed summed over the devices' slots: the kernel's chain of additions is the sum over the slots.
-/
module

public import proofs.«01_k».proof.Defs
public import proofs.«01_k».proof.Proof.Gen.Kernel27Ideal.Value
public import proofs.«01_k».proof.Proof.Gen.Reference27Ideal.Read
public import proofs.«01_k».proof.Proof.Sum.Slots

@[expose] public section

noncomputable section

namespace Cert.Kernel27Ideal.Sum

open Cert.Kernel27Ideal Cert.Kernel27Ideal.Gen Idealize.ShloMosaic Idealize.ShloMosaic.TcCoe Idealize.SL.Sem Cert.Fwd Cert.Slots

theorem out_1 (x : Vec Ideal S8x544x128 .bf16) (j : Fin 544) (k : Fin 128) :
    out0_1 x (ix2 j k) = ∑ d : Fin 8, x (ix3 d j k) := by
  unfold out0_1
  rw [View.canon_unit_zero (S := S544x128) hz]
  pointwise [k0_pay1]
  rw [Fin.sum_univ_eight]

/-- Row `j` of a point's block. -/
def row (t : Fin cfg0.N) (j : Fin 544) : Fin 544 :=
  ⟨544 * t.val + j.val, by have := lt_of_lt_of_eq t.isLt N_0; have := j.isLt; omega⟩

/-! Where an entry of a point's block lies in its array. -/

theorem emb0 (t : Fin grid0.N) (d : Fin 8) (j : Fin 544) (k : Fin 128) :
    (win0_0.blk t).view.emb (ix3 d j k) = (ix3 d (row t j) k : S8x544x128.Idx) := by
  have hi := (by decide +kernel : ∀ t : Fin grid0.N,
    win0_0.index t 0 = 0 ∧ win0_0.index t 1 = t.val ∧ win0_0.index t 2 = 0) t
  funext a
  apply Fin.ext
  match a with
  | ⟨0, _⟩ => show win0_0.index t 0 * 8 + 1 * d.val = d.val; rw [hi.1]; omega
  | ⟨1, _⟩ => show win0_0.index t 1 * 544 + 1 * j.val = 544 * t.val + j.val; rw [hi.2.1]; omega
  | ⟨2, _⟩ => show win0_0.index t 2 * 128 + 1 * k.val = k.val; rw [hi.2.2]; omega

theorem emb1 (t : Fin grid0.N) (j : Fin 544) (k : Fin 128) :
    (win0_1.blk t).view.emb (ix2 j k) = (ix2 (row t j) k : S544x128.Idx) := by
  have hi := (by decide +kernel : ∀ t : Fin grid0.N, win0_1.index t 0 = t.val ∧ win0_1.index t 1 = 0) t
  funext a
  apply Fin.ext
  match a with
  | ⟨0, _⟩ => show win0_1.index t 0 * 544 + 1 * j.val = 544 * t.val + j.val; rw [hi.1]; omega
  | ⟨1, _⟩ => show win0_1.index t 1 * 128 + 1 * k.val = k.val; rw [hi.2]; omega

theorem final (m : (ℓ : Loc nD τ sig) → Buf (Elt Ideal) ℓ) (c : Dev nD) :
    (dats m 0 c).arrAt 1 cfg0.N = total (m ((c : Thread nD τ).loc main_arg0)) := by
  refine (dats m 0 c).arrAt_eq_of_covers 1 _ (by decide +kernel) fun t hf y => ?_
  blk_simp
  rw [after0_1]
  obtain ⟨j, k, rfl⟩ : ∃ j k, y = (ix2 j k : S544x128.Idx) := ⟨_, _, (ix2_eta y).symm⟩
  refine (out_1 _ j k).trans (Eq.trans ?_ (congrArg (total (m ((c : Thread nD τ).loc main_arg0))) (emb1 t j k)).symm)
  refine Eq.trans ?_ (total_apply _ (row t j) k).symm
  refine Finset.sum_congr rfl fun d _ => ?_
  exact congrArg (V m c main_arg0) (emb0 t d j k)

open Cert.Reference27Ideal.Read

theorem ref (x : (⟨S8x544x128, .bf16⟩ : BufTy).Contents (Elt Ideal)) : val_main_v1 (F := Ideal) x = total x := by
  funext i
  rw [val_main_v1_apply]
  exact zero_add_sum x i _ (val_main_cst_apply _) _ fun d => by funext a; fin_cases a <;> rfl

theorem algebraic [Cert.Kernel27Ideal.Facts] [Cert.Reference27Ideal.Facts] :
    Cert.algebraic_Kernel27Ideal_Reference27Ideal := by
  intro m ρ m' ρ' _ hargs
  refine ⟨fun c => total (m ((c : Thread nD τ).loc main_arg0)), ?_, ?_⟩
  · refine (θ_run _ _ _).mono (fun r hr c => ?_) (Value.run_blocks (F := Ideal) m ρ)
    exact ⟨(hr c).1.trans (final m c), (hr c).2⟩
  · refine (θ_run _ _ _).mono (fun r hr c => ?_) (Cert.Reference27Ideal.Value.run (F := Ideal) m' ρ')
    refine ⟨(hr c).1.trans ((val_main_v1_eq _).trans ((ref _).trans ?_)), (hr c).2⟩
    exact congrArg total (hargs c)

end Cert.Kernel27Ideal.Sum

end
-- ==== Proof.Sum.S28.lean ====
/-
  The gradient of w_proj_sb (and of w_proj_mla) summed over the devices' slots: the kernel's chain of additions is the sum over the slots.
-/
module

public import proofs.«01_k».proof.Defs
public import proofs.«01_k».proof.Proof.Gen.Kernel28Ideal.Value
public import proofs.«01_k».proof.Proof.Gen.Reference28Ideal.Read
public import proofs.«01_k».proof.Proof.Sum.Slots

@[expose] public section

noncomputable section

namespace Cert.Kernel28Ideal.Sum

open Cert.Kernel28Ideal Cert.Kernel28Ideal.Gen Idealize.ShloMosaic Idealize.ShloMosaic.TcCoe Idealize.SL.Sem Cert.Fwd Cert.Slots

theorem out_1 (x : Vec Ideal S8x128x512 .bf16) (j : Fin 128) (k : Fin 512) :
    out0_1 x (ix2 j k) = ∑ d : Fin 8, x (ix3 d j k) := by
  unfold out0_1
  rw [View.canon_unit_zero (S := S128x512) hz]
  pointwise [k0_pay1]
  rw [Fin.sum_univ_eight]

/-- Row `j` of a point's block. -/
def row (t : Fin cfg0.N) (j : Fin 128) : Fin 128 :=
  ⟨128 * t.val + j.val, by have := lt_of_lt_of_eq t.isLt N_0; have := j.isLt; omega⟩

/-! Where an entry of a point's block lies in its array. -/

theorem emb0 (t : Fin grid0.N) (d : Fin 8) (j : Fin 128) (k : Fin 512) :
    (win0_0.blk t).view.emb (ix3 d j k) = (ix3 d (row t j) k : S8x128x512.Idx) := by
  have hi := (by decide +kernel : ∀ t : Fin grid0.N,
    win0_0.index t 0 = 0 ∧ win0_0.index t 1 = t.val ∧ win0_0.index t 2 = 0) t
  funext a
  apply Fin.ext
  match a with
  | ⟨0, _⟩ => show win0_0.index t 0 * 8 + 1 * d.val = d.val; rw [hi.1]; omega
  | ⟨1, _⟩ => show win0_0.index t 1 * 128 + 1 * j.val = 128 * t.val + j.val; rw [hi.2.1]; omega
  | ⟨2, _⟩ => show win0_0.index t 2 * 512 + 1 * k.val = k.val; rw [hi.2.2]; omega

theorem emb1 (t : Fin grid0.N) (j : Fin 128) (k : Fin 512) :
    (win0_1.blk t).view.emb (ix2 j k) = (ix2 (row t j) k : S128x512.Idx) := by
  have hi := (by decide +kernel : ∀ t : Fin grid0.N, win0_1.index t 0 = t.val ∧ win0_1.index t 1 = 0) t
  funext a
  apply Fin.ext
  match a with
  | ⟨0, _⟩ => show win0_1.index t 0 * 128 + 1 * j.val = 128 * t.val + j.val; rw [hi.1]; omega
  | ⟨1, _⟩ => show win0_1.index t 1 * 512 + 1 * k.val = k.val; rw [hi.2]; omega

theorem final (m : (ℓ : Loc nD τ sig) → Buf (Elt Ideal) ℓ) (c : Dev nD) :
    (dats m 0 c).arrAt 1 cfg0.N = total (m ((c : Thread nD τ).loc main_arg0)) := by
  refine (dats m 0 c).arrAt_eq_of_covers 1 _ (by decide +kernel) fun t hf y => ?_
  blk_simp
  rw [after0_1]
  obtain ⟨j, k, rfl⟩ : ∃ j k, y = (ix2 j k : S128x512.Idx) := ⟨_, _, (ix2_eta y).symm⟩
  refine (out_1 _ j k).trans (Eq.trans ?_ (congrArg (total (m ((c : Thread nD τ).loc main_arg0))) (emb1 t j k)).symm)
  refine Eq.trans ?_ (total_apply _ (row t j) k).symm
  refine Finset.sum_congr rfl fun d _ => ?_
  exact congrArg (V m c main_arg0) (emb0 t d j k)

open Cert.Reference28Ideal.Read

theorem ref (x : (⟨S8x128x512, .bf16⟩ : BufTy).Contents (Elt Ideal)) : val_main_v1 (F := Ideal) x = total x := by
  funext i
  rw [val_main_v1_apply]
  exact zero_add_sum x i _ (val_main_cst_apply _) _ fun d => by funext a; fin_cases a <;> rfl

theorem algebraic [Cert.Kernel28Ideal.Facts] [Cert.Reference28Ideal.Facts] :
    Cert.algebraic_Kernel28Ideal_Reference28Ideal := by
  intro m ρ m' ρ' _ hargs
  refine ⟨fun c => total (m ((c : Thread nD τ).loc main_arg0)), ?_, ?_⟩
  · refine (θ_run _ _ _).mono (fun r hr c => ?_) (Value.run_blocks (F := Ideal) m ρ)
    exact ⟨(hr c).1.trans (final m c), (hr c).2⟩
  · refine (θ_run _ _ _).mono (fun r hr c => ?_) (Cert.Reference28Ideal.Value.run (F := Ideal) m' ρ')
    refine ⟨(hr c).1.trans ((val_main_v1_eq _).trans ((ref _).trans ?_)), (hr c).2⟩
    exact congrArg total (hargs c)

end Cert.Kernel28Ideal.Sum

end
-- ==== Proof.Sum.S29.lean ====
/-
  The gradient of w_out summed over the devices' slots: the kernel's chain of additions is the sum over the slots.
-/
module

public import proofs.«01_k».proof.Defs
public import proofs.«01_k».proof.Proof.Gen.Kernel29Ideal.Value
public import proofs.«01_k».proof.Proof.Gen.Reference29Ideal.Read
public import proofs.«01_k».proof.Proof.Sum.Slots

@[expose] public section

noncomputable section

namespace Cert.Kernel29Ideal.Sum

open Cert.Kernel29Ideal Cert.Kernel29Ideal.Gen Idealize.ShloMosaic Idealize.ShloMosaic.TcCoe Idealize.SL.Sem Cert.Fwd Cert.Slots

theorem out_1 (x : Vec Ideal S8x128x1024 .bf16) (j : Fin 128) (k : Fin 1024) :
    out0_1 x (ix2 j k) = ∑ d : Fin 8, x (ix3 d j k) := by
  unfold out0_1
  rw [View.canon_unit_zero (S := S128x1024) hz]
  pointwise [k0_pay1]
  rw [Fin.sum_univ_eight]

/-- Row `j` of a point's block. -/
def row (t : Fin cfg0.N) (j : Fin 128) : Fin 128 :=
  ⟨128 * t.val + j.val, by have := lt_of_lt_of_eq t.isLt N_0; have := j.isLt; omega⟩

/-! Where an entry of a point's block lies in its array. -/

theorem emb0 (t : Fin grid0.N) (d : Fin 8) (j : Fin 128) (k : Fin 1024) :
    (win0_0.blk t).view.emb (ix3 d j k) = (ix3 d (row t j) k : S8x128x1024.Idx) := by
  have hi := (by decide +kernel : ∀ t : Fin grid0.N,
    win0_0.index t 0 = 0 ∧ win0_0.index t 1 = t.val ∧ win0_0.index t 2 = 0) t
  funext a
  apply Fin.ext
  match a with
  | ⟨0, _⟩ => show win0_0.index t 0 * 8 + 1 * d.val = d.val; rw [hi.1]; omega
  | ⟨1, _⟩ => show win0_0.index t 1 * 128 + 1 * j.val = 128 * t.val + j.val; rw [hi.2.1]; omega
  | ⟨2, _⟩ => show win0_0.index t 2 * 1024 + 1 * k.val = k.val; rw [hi.2.2]; omega

theorem emb1 (t : Fin grid0.N) (j : Fin 128) (k : Fin 1024) :
    (win0_1.blk t).view.emb (ix2 j k) = (ix2 (row t j) k : S128x1024.Idx) := by
  have hi := (by decide +kernel : ∀ t : Fin grid0.N, win0_1.index t 0 = t.val ∧ win0_1.index t 1 = 0) t
  funext a
  apply Fin.ext
  match a with
  | ⟨0, _⟩ => show win0_1.index t 0 * 128 + 1 * j.val = 128 * t.val + j.val; rw [hi.1]; omega
  | ⟨1, _⟩ => show win0_1.index t 1 * 1024 + 1 * k.val = k.val; rw [hi.2]; omega

theorem final (m : (ℓ : Loc nD τ sig) → Buf (Elt Ideal) ℓ) (c : Dev nD) :
    (dats m 0 c).arrAt 1 cfg0.N = total (m ((c : Thread nD τ).loc main_arg0)) := by
  refine (dats m 0 c).arrAt_eq_of_covers 1 _ (by decide +kernel) fun t hf y => ?_
  blk_simp
  rw [after0_1]
  obtain ⟨j, k, rfl⟩ : ∃ j k, y = (ix2 j k : S128x1024.Idx) := ⟨_, _, (ix2_eta y).symm⟩
  refine (out_1 _ j k).trans (Eq.trans ?_ (congrArg (total (m ((c : Thread nD τ).loc main_arg0))) (emb1 t j k)).symm)
  refine Eq.trans ?_ (total_apply _ (row t j) k).symm
  refine Finset.sum_congr rfl fun d _ => ?_
  exact congrArg (V m c main_arg0) (emb0 t d j k)

open Cert.Reference29Ideal.Read

theorem ref (x : (⟨S8x128x1024, .bf16⟩ : BufTy).Contents (Elt Ideal)) : val_main_v1 (F := Ideal) x = total x := by
  funext i
  rw [val_main_v1_apply]
  exact zero_add_sum x i _ (val_main_cst_apply _) _ fun d => by funext a; fin_cases a <;> rfl

theorem algebraic [Cert.Kernel29Ideal.Facts] [Cert.Reference29Ideal.Facts] :
    Cert.algebraic_Kernel29Ideal_Reference29Ideal := by
  intro m ρ m' ρ' _ hargs
  refine ⟨fun c => total (m ((c : Thread nD τ).loc main_arg0)), ?_, ?_⟩
  · refine (θ_run _ _ _).mono (fun r hr c => ?_) (Value.run_blocks (F := Ideal) m ρ)
    exact ⟨(hr c).1.trans (final m c), (hr c).2⟩
  · refine (θ_run _ _ _).mono (fun r hr c => ?_) (Cert.Reference29Ideal.Value.run (F := Ideal) m' ρ')
    refine ⟨(hr c).1.trans ((val_main_v1_eq _).trans ((ref _).trans ?_)), (hr c).2⟩
    exact congrArg total (hargs c)

end Cert.Kernel29Ideal.Sum

end
-- ==== Proof.Sum.S30.lean ====
/-
  The gradient of w_gate_up summed over the devices' slots: the kernel's chain of additions is the sum over the slots.
-/
module

public import proofs.«01_k».proof.Defs
public import proofs.«01_k».proof.Proof.Gen.Kernel30Ideal.Value
public import proofs.«01_k».proof.Proof.Gen.Reference30Ideal.Read
public import proofs.«01_k».proof.Proof.Sum.Slots

@[expose] public section

noncomputable section

namespace Cert.Kernel30Ideal.Sum

open Cert.Kernel30Ideal Cert.Kernel30Ideal.Gen Idealize.ShloMosaic Idealize.ShloMosaic.TcCoe Idealize.SL.Sem Cert.Fwd Cert.Slots

theorem out_1 (x : Vec Ideal S8x352x1024 .bf16) (j : Fin 352) (k : Fin 1024) :
    out0_1 x (ix2 j k) = ∑ d : Fin 8, x (ix3 d j k) := by
  unfold out0_1
  rw [View.canon_unit_zero (S := S352x1024) hz]
  pointwise [k0_pay1]
  rw [Fin.sum_univ_eight]

/-- Row `j` of a point's block. -/
def row (t : Fin cfg0.N) (j : Fin 352) : Fin 704 :=
  ⟨352 * t.val + j.val, by have := lt_of_lt_of_eq t.isLt N_0; have := j.isLt; omega⟩

/-! Where an entry of a point's block lies in its array. -/

theorem emb0 (t : Fin grid0.N) (d : Fin 8) (j : Fin 352) (k : Fin 1024) :
    (win0_0.blk t).view.emb (ix3 d j k) = (ix3 d (row t j) k : S8x704x1024.Idx) := by
  have hi := (by decide +kernel : ∀ t : Fin grid0.N,
    win0_0.index t 0 = 0 ∧ win0_0.index t 1 = t.val ∧ win0_0.index t 2 = 0) t
  funext a
  apply Fin.ext
  match a with
  | ⟨0, _⟩ => show win0_0.index t 0 * 8 + 1 * d.val = d.val; rw [hi.1]; omega
  | ⟨1, _⟩ => show win0_0.index t 1 * 352 + 1 * j.val = 352 * t.val + j.val; rw [hi.2.1]; omega
  | ⟨2, _⟩ => show win0_0.index t 2 * 1024 + 1 * k.val = k.val; rw [hi.2.2]; omega

theorem emb1 (t : Fin grid0.N) (j : Fin 352) (k : Fin 1024) :
    (win0_1.blk t).view.emb (ix2 j k) = (ix2 (row t j) k : S704x1024.Idx) := by
  have hi := (by decide +kernel : ∀ t : Fin grid0.N, win0_1.index t 0 = t.val ∧ win0_1.index t 1 = 0) t
  funext a
  apply Fin.ext
  match a with
  | ⟨0, _⟩ => show win0_1.index t 0 * 352 + 1 * j.val = 352 * t.val + j.val; rw [hi.1]; omega
  | ⟨1, _⟩ => show win0_1.index t 1 * 1024 + 1 * k.val = k.val; rw [hi.2]; omega

theorem final (m : (ℓ : Loc nD τ sig) → Buf (Elt Ideal) ℓ) (c : Dev nD) :
    (dats m 0 c).arrAt 1 cfg0.N = total (m ((c : Thread nD τ).loc main_arg0)) := by
  refine (dats m 0 c).arrAt_eq_of_covers 1 _ (by decide +kernel) fun t hf y => ?_
  blk_simp
  rw [after0_1]
  obtain ⟨j, k, rfl⟩ : ∃ j k, y = (ix2 j k : S352x1024.Idx) := ⟨_, _, (ix2_eta y).symm⟩
  refine (out_1 _ j k).trans (Eq.trans ?_ (congrArg (total (m ((c : Thread nD τ).loc main_arg0))) (emb1 t j k)).symm)
  refine Eq.trans ?_ (total_apply _ (row t j) k).symm
  refine Finset.sum_congr rfl fun d _ => ?_
  exact congrArg (V m c main_arg0) (emb0 t d j k)

open Cert.Reference30Ideal.Read

theorem ref (x : (⟨S8x704x1024, .bf16⟩ : BufTy).Contents (Elt Ideal)) : val_main_v1 (F := Ideal) x = total x := by
  funext i
  rw [val_main_v1_apply]
  exact zero_add_sum x i _ (val_main_cst_apply _) _ fun d => by funext a; fin_cases a <;> rfl

theorem algebraic [Cert.Kernel30Ideal.Facts] [Cert.Reference30Ideal.Facts] :
    Cert.algebraic_Kernel30Ideal_Reference30Ideal := by
  intro m ρ m' ρ' _ hargs
  refine ⟨fun c => total (m ((c : Thread nD τ).loc main_arg0)), ?_, ?_⟩
  · refine (θ_run _ _ _).mono (fun r hr c => ?_) (Value.run_blocks (F := Ideal) m ρ)
    exact ⟨(hr c).1.trans (final m c), (hr c).2⟩
  · refine (θ_run _ _ _).mono (fun r hr c => ?_) (Cert.Reference30Ideal.Value.run (F := Ideal) m' ρ')
    refine ⟨(hr c).1.trans ((val_main_v1_eq _).trans ((ref _).trans ?_)), (hr c).2⟩
    exact congrArg total (hargs c)

end Cert.Kernel30Ideal.Sum

end
-- ==== Proof.Sum.S31.lean ====
/-
  The gradient of w_down summed over the devices' slots: the kernel's chain of additions is the sum over the slots.
-/
module

public import proofs.«01_k».proof.Defs
public import proofs.«01_k».proof.Proof.Gen.Kernel31Ideal.Value
public import proofs.«01_k».proof.Proof.Gen.Reference31Ideal.Read
public import proofs.«01_k».proof.Proof.Sum.Slots

@[expose] public section

noncomputable section

namespace Cert.Kernel31Ideal.Sum

open Cert.Kernel31Ideal Cert.Kernel31Ideal.Gen Idealize.ShloMosaic Idealize.ShloMosaic.TcCoe Idealize.SL.Sem Cert.Fwd Cert.Slots

theorem out_1 (x : Vec Ideal S8x352x1024 .bf16) (j : Fin 352) (k : Fin 1024) :
    out0_1 x (ix2 j k) = ∑ d : Fin 8, x (ix3 d j k) := by
  unfold out0_1
  rw [View.canon_unit_zero (S := S352x1024) hz]
  pointwise [k0_pay1]
  rw [Fin.sum_univ_eight]

/-- Row `j` of a point's block. -/
def row (t : Fin cfg0.N) (j : Fin 352) : Fin 352 :=
  ⟨352 * t.val + j.val, by have := lt_of_lt_of_eq t.isLt N_0; have := j.isLt; omega⟩

/-! Where an entry of a point's block lies in its array. -/

theorem emb0 (t : Fin grid0.N) (d : Fin 8) (j : Fin 352) (k : Fin 1024) :
    (win0_0.blk t).view.emb (ix3 d j k) = (ix3 d (row t j) k : S8x352x1024.Idx) := by
  have hi := (by decide +kernel : ∀ t : Fin grid0.N,
    win0_0.index t 0 = 0 ∧ win0_0.index t 1 = t.val ∧ win0_0.index t 2 = 0) t
  funext a
  apply Fin.ext
  match a with
  | ⟨0, _⟩ => show win0_0.index t 0 * 8 + 1 * d.val = d.val; rw [hi.1]; omega
  | ⟨1, _⟩ => show win0_0.index t 1 * 352 + 1 * j.val = 352 * t.val + j.val; rw [hi.2.1]; omega
  | ⟨2, _⟩ => show win0_0.index t 2 * 1024 + 1 * k.val = k.val; rw [hi.2.2]; omega

theorem emb1 (t : Fin grid0.N) (j : Fin 352) (k : Fin 1024) :
    (win0_1.blk t).view.emb (ix2 j k) = (ix2 (row t j) k : S352x1024.Idx) := by
  have hi := (by decide +kernel : ∀ t : Fin grid0.N, win0_1.index t 0 = t.val ∧ win0_1.index t 1 = 0) t
  funext a
  apply Fin.ext
  match a with
  | ⟨0, _⟩ => show win0_1.index t 0 * 352 + 1 * j.val = 352 * t.val + j.val; rw [hi.1]; omega
  | ⟨1, _⟩ => show win0_1.index t 1 * 1024 + 1 * k.val = k.val; rw [hi.2]; omega

theorem final (m : (ℓ : Loc nD τ sig) → Buf (Elt Ideal) ℓ) (c : Dev nD) :
    (dats m 0 c).arrAt 1 cfg0.N = total (m ((c : Thread nD τ).loc main_arg0)) := by
  refine (dats m 0 c).arrAt_eq_of_covers 1 _ (by decide +kernel) fun t hf y => ?_
  blk_simp
  rw [after0_1]
  obtain ⟨j, k, rfl⟩ : ∃ j k, y = (ix2 j k : S352x1024.Idx) := ⟨_, _, (ix2_eta y).symm⟩
  refine (out_1 _ j k).trans (Eq.trans ?_ (congrArg (total (m ((c : Thread nD τ).loc main_arg0))) (emb1 t j k)).symm)
  refine Eq.trans ?_ (total_apply _ (row t j) k).symm
  refine Finset.sum_congr rfl fun d _ => ?_
  exact congrArg (V m c main_arg0) (emb0 t d j k)

open Cert.Reference31Ideal.Read

theorem ref (x : (⟨S8x352x1024, .bf16⟩ : BufTy).Contents (Elt Ideal)) : val_main_v1 (F := Ideal) x = total x := by
  funext i
  rw [val_main_v1_apply]
  exact zero_add_sum x i _ (val_main_cst_apply _) _ fun d => by funext a; fin_cases a <;> rfl

theorem algebraic [Cert.Kernel31Ideal.Facts] [Cert.Reference31Ideal.Facts] :
    Cert.algebraic_Kernel31Ideal_Reference31Ideal := by
  intro m ρ m' ρ' _ hargs
  refine ⟨fun c => total (m ((c : Thread nD τ).loc main_arg0)), ?_, ?_⟩
  · refine (θ_run _ _ _).mono (fun r hr c => ?_) (Value.run_blocks (F := Ideal) m ρ)
    exact ⟨(hr c).1.trans (final m c), (hr c).2⟩
  · refine (θ_run _ _ _).mono (fun r hr c => ?_) (Cert.Reference31Ideal.Value.run (F := Ideal) m' ρ')
    refine ⟨(hr c).1.trans ((val_main_v1_eq _).trans ((ref _).trans ?_)), (hr c).2⟩
    exact congrArg total (hargs c)

end Cert.Kernel31Ideal.Sum

end
-- ==== Proof.Sum.S32.lean ====
/-
  The gradient of the norms and b_gate, packed with the loss, summed over the devices' slots: the kernel's chain of additions is the sum over the slots.
-/
module

public import proofs.«01_k».proof.Defs
public import proofs.«01_k».proof.Proof.Gen.Kernel32Ideal.Value
public import proofs.«01_k».proof.Proof.Gen.Reference32Ideal.Read
public import proofs.«01_k».proof.Proof.Sum.Slots

@[expose] public section

noncomputable section

namespace Cert.Kernel32Ideal.Sum

open Cert.Kernel32Ideal Cert.Kernel32Ideal.Gen Idealize.ShloMosaic Idealize.ShloMosaic.TcCoe Idealize.SL.Sem Cert.Fwd Cert.Slots

theorem out_1 (x : Vec Ideal S8x56x128 .f32) (j : Fin 56) (k : Fin 128) :
    out0_1 x (ix2 j k) = ∑ d : Fin 8, x (ix3 d j k) := by
  unfold out0_1
  rw [View.canon_unit_zero (S := S56x128) hz]
  pointwise [k0_pay1]
  rw [Fin.sum_univ_eight]

/-- Row `j` of a point's block. -/
def row (t : Fin cfg0.N) (j : Fin 56) : Fin 56 :=
  ⟨56 * t.val + j.val, by have := lt_of_lt_of_eq t.isLt N_0; have := j.isLt; omega⟩

/-! Where an entry of a point's block lies in its array. -/

theorem emb0 (t : Fin grid0.N) (d : Fin 8) (j : Fin 56) (k : Fin 128) :
    (win0_0.blk t).view.emb (ix3 d j k) = (ix3 d (row t j) k : S8x56x128.Idx) := by
  have hi := (by decide +kernel : ∀ t : Fin grid0.N,
    win0_0.index t 0 = 0 ∧ win0_0.index t 1 = t.val ∧ win0_0.index t 2 = 0) t
  funext a
  apply Fin.ext
  match a with
  | ⟨0, _⟩ => show win0_0.index t 0 * 8 + 1 * d.val = d.val; rw [hi.1]; omega
  | ⟨1, _⟩ => show win0_0.index t 1 * 56 + 1 * j.val = 56 * t.val + j.val; rw [hi.2.1]; omega
  | ⟨2, _⟩ => show win0_0.index t 2 * 128 + 1 * k.val = k.val; rw [hi.2.2]; omega

theorem emb1 (t : Fin grid0.N) (j : Fin 56) (k : Fin 128) :
    (win0_1.blk t).view.emb (ix2 j k) = (ix2 (row t j) k : S56x128.Idx) := by
  have hi := (by decide +kernel : ∀ t : Fin grid0.N, win0_1.index t 0 = t.val ∧ win0_1.index t 1 = 0) t
  funext a
  apply Fin.ext
  match a with
  | ⟨0, _⟩ => show win0_1.index t 0 * 56 + 1 * j.val = 56 * t.val + j.val; rw [hi.1]; omega
  | ⟨1, _⟩ => show win0_1.index t 1 * 128 + 1 * k.val = k.val; rw [hi.2]; omega

theorem final (m : (ℓ : Loc nD τ sig) → Buf (Elt Ideal) ℓ) (c : Dev nD) :
    (dats m 0 c).arrAt 1 cfg0.N = total (m ((c : Thread nD τ).loc main_arg0)) := by
  refine (dats m 0 c).arrAt_eq_of_covers 1 _ (by decide +kernel) fun t hf y => ?_
  blk_simp
  rw [after0_1]
  obtain ⟨j, k, rfl⟩ : ∃ j k, y = (ix2 j k : S56x128.Idx) := ⟨_, _, (ix2_eta y).symm⟩
  refine (out_1 _ j k).trans (Eq.trans ?_ (congrArg (total (m ((c : Thread nD τ).loc main_arg0))) (emb1 t j k)).symm)
  refine Eq.trans ?_ (total_apply _ (row t j) k).symm
  refine Finset.sum_congr rfl fun d _ => ?_
  exact congrArg (V m c main_arg0) (emb0 t d j k)

open Cert.Reference32Ideal.Read

theorem ref (x : (⟨S8x56x128, .f32⟩ : BufTy).Contents (Elt Ideal)) : val_main_v0 (F := Ideal) x = total x := by
  funext i
  rw [val_main_v0_apply]
  exact zero_add_sum x i _ (val_main_cst_apply _) _ fun d => by funext a; fin_cases a <;> rfl

theorem algebraic [Cert.Kernel32Ideal.Facts] [Cert.Reference32Ideal.Facts] :
    Cert.algebraic_Kernel32Ideal_Reference32Ideal := by
  intro m ρ m' ρ' _ hargs
  refine ⟨fun c => total (m ((c : Thread nD τ).loc main_arg0)), ?_, ?_⟩
  · refine (θ_run _ _ _).mono (fun r hr c => ?_) (Value.run_blocks (F := Ideal) m ρ)
    exact ⟨(hr c).1.trans (final m c), (hr c).2⟩
  · refine (θ_run _ _ _).mono (fun r hr c => ?_) (Cert.Reference32Ideal.Value.run (F := Ideal) m' ρ')
    refine ⟨(hr c).1.trans ((val_main_v0_eq _).trans ((ref _).trans ?_)), (hr c).2⟩
    exact congrArg total (hargs c)

end Cert.Kernel32Ideal.Sum

end
-- ==== Proof.lean ====
/- The proof of the claims: each kernel's frame, as printed and idealized, each reference's frame, and that a kernel's
   results are its reference's. -/
module

public import proofs.«01_k».proof.Defs
public import proofs.«01_k».proof.Proof.Gen.Kernel1.Frame
public import proofs.«01_k».proof.Proof.Gen.Kernel1Ideal.Frame
public import proofs.«01_k».proof.Proof.Gen.Reference1Ideal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Reference29Ideal.Run
public import proofs.«01_k».proof.Proof.Gen.Kernel30.Frame
public import proofs.«01_k».proof.Proof.Gen.Kernel30Ideal.Frame
public import proofs.«01_k».proof.Proof.Gen.Reference30Ideal.Run
public import proofs.«01_k».proof.Proof.Gen.Kernel31.Frame
public import proofs.«01_k».proof.Proof.Gen.Kernel31Ideal.Frame
public import proofs.«01_k».proof.Proof.Gen.Reference31Ideal.Run
public import proofs.«01_k».proof.Proof.Gen.Kernel32.Frame
public import proofs.«01_k».proof.Proof.Gen.Kernel32Ideal.Frame
public import proofs.«01_k».proof.Proof.Gen.Reference32Ideal.Run
public import proofs.«01_k».proof.Proof.Gen.Pre_finite1
public import proofs.«01_k».proof.Proof.Gen.Pre_finite2
public import proofs.«01_k».proof.Proof.Gen.Pre_finite3
public import proofs.«01_k».proof.Proof.Attn.Same
public import proofs.«01_k».proof.Proof.Ffn.Claim
public import proofs.«01_k».proof.Proof.Mix.Claim
public import proofs.«01_k».proof.Proof.Inp.Claim
public import proofs.«01_k».proof.Proof.Dw.GateUp
public import proofs.«01_k».proof.Proof.Dw.Down
public import proofs.«01_k».proof.Proof.Dw.In
public import proofs.«01_k».proof.Proof.Dw.Out
public import proofs.«01_k».proof.Proof.Dw.ProjSb
public import proofs.«01_k».proof.Proof.Dw.Uq
public import proofs.«01_k».proof.Proof.Dw.Uk
public import proofs.«01_k».proof.Proof.Dw.Uv
public import proofs.«01_k».proof.Proof.FfnFwd.Claim
public import proofs.«01_k».proof.Proof.InpFwd.Claim
public import proofs.«01_k».proof.Proof.MixFwd.Claim
public import proofs.«01_k».proof.Proof.Adam.A15
public import proofs.«01_k».proof.Proof.Adam.A16
public import proofs.«01_k».proof.Proof.Adam.A17
public import proofs.«01_k».proof.Proof.Adam.A18
public import proofs.«01_k».proof.Proof.Adam.A19
public import proofs.«01_k».proof.Proof.Adam.A20
public import proofs.«01_k».proof.Proof.Adam.A21
public import proofs.«01_k».proof.Proof.Adam.A22
public import proofs.«01_k».proof.Proof.Adam.A23
public import proofs.«01_k».proof.Proof.Adam.A24
public import proofs.«01_k».proof.Proof.Adam.A25
public import proofs.«01_k».proof.Proof.Sum.S26
public import proofs.«01_k».proof.Proof.Sum.S27
public import proofs.«01_k».proof.Proof.Sum.S28
public import proofs.«01_k».proof.Proof.Sum.S29
public import proofs.«01_k».proof.Proof.Sum.S30
public import proofs.«01_k».proof.Proof.Sum.S31
public import proofs.«01_k».proof.Proof.Sum.S32

@[expose] public section

noncomputable section

namespace Cert.Proof

open Idealize.ShloMosaic Idealize.SL.Sem

/-! The references have no semaphore, and write none of their arguments. -/

theorem frame_Reference1Ideal : quiescent_Reference1Ideal := fun m ρ _ =>
  (θ_run _ _ _).mono (fun r h => ⟨fun c => (h c).2.2.2.2, sem_eq_zero_of_no_sems (by decide) r.2⟩)
    (Reference1Ideal.Value.run (F := Ideal) m ρ)

theorem frame_Reference2Ideal : quiescent_Reference2Ideal := fun m ρ _ =>
  (θ_run _ _ _).mono (fun r h => ⟨fun c => (h c).2.2.2.2.2.2, sem_eq_zero_of_no_sems (by decide) r.2⟩)
    (Reference2Ideal.Value.run (F := Ideal) m ρ)

theorem frame_Reference3Ideal : quiescent_Reference3Ideal := fun m ρ _ =>
  (θ_run _ _ _).mono (fun r h => ⟨fun c => (h c).2, sem_eq_zero_of_no_sems (by decide) r.2⟩)
    (Reference3Ideal.Value.run (F := Ideal) m ρ)

theorem claim : Cert.Claim :=
  ⟨Kernel.Gen.facts, KernelIdeal.Gen.facts, Kernel1.Gen.facts, Kernel1Ideal.Gen.facts, Reference1Ideal.Gen.facts, Kernel2.Gen.facts, Kernel2Ideal.Gen.facts, Reference2Ideal.Gen.facts, Kernel3.Gen.facts, Kernel3Ideal.Gen.facts, Reference3Ideal.Gen.facts, Kernel4.Gen.facts, Kernel4Ideal.Gen.facts, Reference4Ideal.Gen.facts, Kernel5.Gen.facts, Kernel5Ideal.Gen.facts, Reference5Ideal.Gen.facts, Kernel6.Gen.facts, Kernel6Ideal.Gen.facts, Reference6Ideal.Gen.facts, Kernel7.Gen.facts, Kernel7Ideal.Gen.facts, Reference7Ideal.Gen.facts, Kernel8.Gen.facts, Kernel8Ideal.Gen.facts, Reference8Ideal.Gen.facts, Kernel12.Gen.facts, Kernel12Ideal.Gen.facts, Reference12Ideal.Gen.facts, Kernel13.Gen.facts, Kernel13Ideal.Gen.facts, Reference13Ideal.Gen.facts, Kernel14.Gen.facts, Kernel14Ideal.Gen.facts, Reference14Ideal.Gen.facts, Kernel9.Gen.facts, Kernel9Ideal.Gen.facts, Reference9Ideal.Gen.facts, Kernel10.Gen.facts, Kernel10Ideal.Gen.facts, Reference10Ideal.Gen.facts, Kernel11.Gen.facts, Kernel11Ideal.Gen.facts, Reference11Ideal.Gen.facts, Kernel15.Gen.facts, Kernel15Ideal.Gen.facts, Reference15Ideal.Gen.facts, Kernel16.Gen.facts, Kernel16Ideal.Gen.facts, Reference16Ideal.Gen.facts, Kernel17.Gen.facts, Kernel17Ideal.Gen.facts, Reference17Ideal.Gen.facts, Kernel18.Gen.facts, Kernel18Ideal.Gen.facts, Reference18Ideal.Gen.facts, Kernel19.Gen.facts, Kernel19Ideal.Gen.facts, Reference19Ideal.Gen.facts, Kernel20.Gen.facts, Kernel20Ideal.Gen.facts, Reference20Ideal.Gen.facts, Kernel21.Gen.facts, Kernel21Ideal.Gen.facts, Reference21Ideal.Gen.facts, Kernel22.Gen.facts, Kernel22Ideal.Gen.facts, Reference22Ideal.Gen.facts, Kernel23.Gen.facts, Kernel23Ideal.Gen.facts, Reference23Ideal.Gen.facts, Kernel24.Gen.facts, Kernel24Ideal.Gen.facts, Reference24Ideal.Gen.facts, Kernel25.Gen.facts, Kernel25Ideal.Gen.facts, Reference25Ideal.Gen.facts, Kernel26.Gen.facts, Kernel26Ideal.Gen.facts, Reference26Ideal.Gen.facts, Kernel27.Gen.facts, Kernel27Ideal.Gen.facts, Reference27Ideal.Gen.facts, Kernel28.Gen.facts, Kernel28Ideal.Gen.facts, Reference28Ideal.Gen.facts, Kernel29.Gen.facts, Kernel29Ideal.Gen.facts, Reference29Ideal.Gen.facts, Kernel30.Gen.facts, Kernel30Ideal.Gen.facts, Reference30Ideal.Gen.facts, Kernel31.Gen.facts, Kernel31Ideal.Gen.facts, Reference31Ideal.Gen.facts, Kernel32.Gen.facts, Kernel32Ideal.Gen.facts, Reference32Ideal.Gen.facts, Pre_finite1.Gen.facts, Pre_finite2.Gen.facts, Pre_finite3.Gen.facts,
    @KernelIdeal.Hand.frame_printed Kernel.Gen.facts KernelIdeal.Gen.facts,
    fun m ρ _ => KernelIdeal.Hand.frame (F := Ideal) m ρ,
    fun m ρ _ => Kernel1.Gen.frame m ρ,
    fun m ρ _ => Kernel1Ideal.Gen.frame m ρ,
    fun m ρ _ => Kernel1Ideal.Gen.frame m ρ,
    frame_Reference1Ideal,
    fun m ρ _ => frame_Reference1Ideal m ρ trivial,
    fun m ρ _ => Kernel2.Gen.frame m ρ,
    fun m ρ _ => Kernel2Ideal.Gen.frame m ρ,
    fun m ρ _ => Kernel2Ideal.Gen.frame m ρ,
    frame_Reference2Ideal,
    fun m ρ _ => frame_Reference2Ideal m ρ trivial,
    fun m ρ _ => Kernel3.Gen.frame m ρ,
    fun m ρ _ => Kernel3Ideal.Gen.frame m ρ,
    fun m ρ _ => Kernel3Ideal.Gen.frame m ρ,
    frame_Reference3Ideal,
    fun m ρ _ => frame_Reference3Ideal m ρ trivial,
    fun m ρ _ => Kernel4.Gen.frame m ρ,
    fun m ρ _ => Kernel4Ideal.Gen.frame m ρ,
    fun m ρ _ => (θ_run _ _ _).mono (fun r h => ⟨fun c => (h c).2, sem_eq_zero_of_no_sems (by decide) r.2⟩)
      (Reference4Ideal.Value.run (F := Ideal) m ρ),
    fun m ρ _ => Kernel5.Gen.frame m ρ,
    fun m ρ _ => Kernel5Ideal.Gen.frame m ρ,
    fun m ρ _ => (θ_run _ _ _).mono (fun r h => ⟨fun c => (h c).2, sem_eq_zero_of_no_sems (by decide) r.2⟩)
      (Reference5Ideal.Value.run (F := Ideal) m ρ),
    fun m ρ _ => Kernel6.Gen.frame m ρ,
    fun m ρ _ => Kernel6Ideal.Gen.frame m ρ,
    fun m ρ _ => (θ_run _ _ _).mono (fun r h => ⟨fun c => (h c).2, sem_eq_zero_of_no_sems (by decide) r.2⟩)
      (Reference6Ideal.Value.run (F := Ideal) m ρ),
    fun m ρ _ => Kernel7.Gen.frame m ρ,
    fun m ρ _ => Kernel7Ideal.Gen.frame m ρ,
    fun m ρ _ => (θ_run _ _ _).mono (fun r h => ⟨fun c => (h c).2, sem_eq_zero_of_no_sems (by decide) r.2⟩)
      (Reference7Ideal.Value.run (F := Ideal) m ρ),
    fun m ρ _ => Kernel8.Gen.frame m ρ,
    fun m ρ _ => Kernel8Ideal.Gen.frame m ρ,
    fun m ρ _ => (θ_run _ _ _).mono (fun r h => ⟨fun c => (h c).2, sem_eq_zero_of_no_sems (by decide) r.2⟩)
      (Reference8Ideal.Value.run (F := Ideal) m ρ),
    fun m ρ _ => Kernel12.Gen.frame m ρ,
    fun m ρ _ => Kernel12Ideal.Gen.frame m ρ,
    fun m ρ _ => (θ_run _ _ _).mono (fun r h => ⟨fun c => (h c).2, sem_eq_zero_of_no_sems (by decide) r.2⟩)
      (Reference12Ideal.Value.run (F := Ideal) m ρ),
    fun m ρ _ => Kernel13.Gen.frame m ρ,
    fun m ρ _ => Kernel13Ideal.Gen.frame m ρ,
    fun m ρ _ => (θ_run _ _ _).mono (fun r h => ⟨fun c => (h c).2, sem_eq_zero_of_no_sems (by decide) r.2⟩)
      (Reference13Ideal.Value.run (F := Ideal) m ρ),
    fun m ρ _ => Kernel14.Gen.frame m ρ,
    fun m ρ _ => Kernel14Ideal.Gen.frame m ρ,
    fun m ρ _ => (θ_run _ _ _).mono (fun r h => ⟨fun c => (h c).2, sem_eq_zero_of_no_sems (by decide) r.2⟩)
      (Reference14Ideal.Value.run (F := Ideal) m ρ),
    fun m ρ _ => Kernel9.Gen.frame m ρ,
    fun m ρ _ => Kernel9Ideal.Gen.frame m ρ,
    fun m ρ _ => (θ_run _ _ _).mono (fun r h => ⟨fun c => (h c).2.2.2, sem_eq_zero_of_no_sems (by decide) r.2⟩)
      (Reference9Ideal.Value.run (F := Ideal) m ρ),
    fun m ρ _ => Kernel10.Gen.frame m ρ,
    fun m ρ _ => Kernel10Ideal.Gen.frame m ρ,
    fun m ρ _ => (θ_run _ _ _).mono (fun r h => ⟨fun c => (h c).2.2.2.2.2.2, sem_eq_zero_of_no_sems (by decide) r.2⟩)
      (Reference10Ideal.Value.run (F := Ideal) m ρ),
    fun m ρ _ => Kernel11.Gen.frame m ρ,
    fun m ρ _ => Kernel11Ideal.Gen.frame m ρ,
    fun m ρ _ => (θ_run _ _ _).mono (fun r h => ⟨fun c => (h c).2.2.2, sem_eq_zero_of_no_sems (by decide) r.2⟩)
      (Reference11Ideal.Value.run (F := Ideal) m ρ),
    fun m ρ _ => Kernel15.Gen.frame m ρ,
    fun m ρ _ => Kernel15Ideal.Gen.frame m ρ,
    fun m ρ _ => (θ_run _ _ _).mono (fun r h => ⟨fun c => (h c).2.2.2, sem_eq_zero_of_no_sems (by decide) r.2⟩)
      (Reference15Ideal.Value.run (F := Ideal) m ρ),
    fun m ρ _ => Kernel16.Gen.frame m ρ,
    fun m ρ _ => Kernel16Ideal.Gen.frame m ρ,
    fun m ρ _ => (θ_run _ _ _).mono (fun r h => ⟨fun c => (h c).2.2.2, sem_eq_zero_of_no_sems (by decide) r.2⟩)
      (Reference16Ideal.Value.run (F := Ideal) m ρ),
    fun m ρ _ => Kernel17.Gen.frame m ρ,
    fun m ρ _ => Kernel17Ideal.Gen.frame m ρ,
    fun m ρ _ => (θ_run _ _ _).mono (fun r h => ⟨fun c => (h c).2.2.2, sem_eq_zero_of_no_sems (by decide) r.2⟩)
      (Reference17Ideal.Value.run (F := Ideal) m ρ),
    fun m ρ _ => Kernel18.Gen.frame m ρ,
    fun m ρ _ => Kernel18Ideal.Gen.frame m ρ,
    fun m ρ _ => (θ_run _ _ _).mono (fun r h => ⟨fun c => (h c).2.2.2, sem_eq_zero_of_no_sems (by decide) r.2⟩)
      (Reference18Ideal.Value.run (F := Ideal) m ρ),
    fun m ρ _ => Kernel19.Gen.frame m ρ,
    fun m ρ _ => Kernel19Ideal.Gen.frame m ρ,
    fun m ρ _ => (θ_run _ _ _).mono (fun r h => ⟨fun c => (h c).2.2.2, sem_eq_zero_of_no_sems (by decide) r.2⟩)
      (Reference19Ideal.Value.run (F := Ideal) m ρ),
    fun m ρ _ => Kernel20.Gen.frame m ρ,
    fun m ρ _ => Kernel20Ideal.Gen.frame m ρ,
    fun m ρ _ => (θ_run _ _ _).mono (fun r h => ⟨fun c => (h c).2.2.2, sem_eq_zero_of_no_sems (by decide) r.2⟩)
      (Reference20Ideal.Value.run (F := Ideal) m ρ),
    fun m ρ _ => Kernel21.Gen.frame m ρ,
    fun m ρ _ => Kernel21Ideal.Gen.frame m ρ,
    fun m ρ _ => (θ_run _ _ _).mono (fun r h => ⟨fun c => (h c).2.2.2, sem_eq_zero_of_no_sems (by decide) r.2⟩)
      (Reference21Ideal.Value.run (F := Ideal) m ρ),
    fun m ρ _ => Kernel22.Gen.frame m ρ,
    fun m ρ _ => Kernel22Ideal.Gen.frame m ρ,
    fun m ρ _ => (θ_run _ _ _).mono (fun r h => ⟨fun c => (h c).2.2.2, sem_eq_zero_of_no_sems (by decide) r.2⟩)
      (Reference22Ideal.Value.run (F := Ideal) m ρ),
    fun m ρ _ => Kernel23.Gen.frame m ρ,
    fun m ρ _ => Kernel23Ideal.Gen.frame m ρ,
    fun m ρ _ => (θ_run _ _ _).mono (fun r h => ⟨fun c => (h c).2.2.2, sem_eq_zero_of_no_sems (by decide) r.2⟩)
      (Reference23Ideal.Value.run (F := Ideal) m ρ),
    fun m ρ _ => Kernel24.Gen.frame m ρ,
    fun m ρ _ => Kernel24Ideal.Gen.frame m ρ,
    fun m ρ _ => (θ_run _ _ _).mono (fun r h => ⟨fun c => (h c).2.2.2, sem_eq_zero_of_no_sems (by decide) r.2⟩)
      (Reference24Ideal.Value.run (F := Ideal) m ρ),
    fun m ρ _ => Kernel25.Gen.frame m ρ,
    fun m ρ _ => Kernel25Ideal.Gen.frame m ρ,
    fun m ρ _ => (θ_run _ _ _).mono (fun r h => ⟨fun c => (h c).2.2.2, sem_eq_zero_of_no_sems (by decide) r.2⟩)
      (Reference25Ideal.Value.run (F := Ideal) m ρ),
    fun m ρ _ => Kernel26.Gen.frame m ρ,
    fun m ρ _ => Kernel26Ideal.Gen.frame m ρ,
    fun m ρ _ => (θ_run _ _ _).mono (fun r h => ⟨fun c => (h c).2, sem_eq_zero_of_no_sems (by decide) r.2⟩)
      (Reference26Ideal.Value.run (F := Ideal) m ρ),
    fun m ρ _ => Kernel27.Gen.frame m ρ,
    fun m ρ _ => Kernel27Ideal.Gen.frame m ρ,
    fun m ρ _ => (θ_run _ _ _).mono (fun r h => ⟨fun c => (h c).2, sem_eq_zero_of_no_sems (by decide) r.2⟩)
      (Reference27Ideal.Value.run (F := Ideal) m ρ),
    fun m ρ _ => Kernel28.Gen.frame m ρ,
    fun m ρ _ => Kernel28Ideal.Gen.frame m ρ,
    fun m ρ _ => (θ_run _ _ _).mono (fun r h => ⟨fun c => (h c).2, sem_eq_zero_of_no_sems (by decide) r.2⟩)
      (Reference28Ideal.Value.run (F := Ideal) m ρ),
    fun m ρ _ => Kernel29.Gen.frame m ρ,
    fun m ρ _ => Kernel29Ideal.Gen.frame m ρ,
    fun m ρ _ => (θ_run _ _ _).mono (fun r h => ⟨fun c => (h c).2, sem_eq_zero_of_no_sems (by decide) r.2⟩)
      (Reference29Ideal.Value.run (F := Ideal) m ρ),
    fun m ρ _ => Kernel30.Gen.frame m ρ,
    fun m ρ _ => Kernel30Ideal.Gen.frame m ρ,
    fun m ρ _ => (θ_run _ _ _).mono (fun r h => ⟨fun c => (h c).2, sem_eq_zero_of_no_sems (by decide) r.2⟩)
      (Reference30Ideal.Value.run (F := Ideal) m ρ),
    fun m ρ _ => Kernel31.Gen.frame m ρ,
    fun m ρ _ => Kernel31Ideal.Gen.frame m ρ,
    fun m ρ _ => (θ_run _ _ _).mono (fun r h => ⟨fun c => (h c).2, sem_eq_zero_of_no_sems (by decide) r.2⟩)
      (Reference31Ideal.Value.run (F := Ideal) m ρ),
    fun m ρ _ => Kernel32.Gen.frame m ρ,
    fun m ρ _ => Kernel32Ideal.Gen.frame m ρ,
    fun m ρ _ => (θ_run _ _ _).mono (fun r h => ⟨fun c => (h c).2, sem_eq_zero_of_no_sems (by decide) r.2⟩)
      (Reference32Ideal.Value.run (F := Ideal) m ρ),
    trivial,
    trivial,
    Kernel1Ideal.Ffn.algebraic,
    trivial,
    Kernel2Ideal.Mix.algebraic,
    trivial,
    Kernel3Ideal.Inp.algebraic,
    trivial,
    Kernel4Ideal.Dw.algebraic,
    trivial,
    Kernel5Ideal.Dw.algebraic,
    trivial,
    Kernel6Ideal.Dw.algebraic,
    trivial,
    Kernel7Ideal.Dw.algebraic,
    trivial,
    Kernel8Ideal.Dw.algebraic,
    trivial,
    Kernel12Ideal.Dw.algebraic,
    trivial,
    Kernel13Ideal.Dw.algebraic,
    trivial,
    Kernel14Ideal.Dw.algebraic,
    trivial,
    Kernel9Ideal.FfnFwd.algebraic,
    trivial,
    Kernel10Ideal.InpFwd.algebraic,
    trivial,
    Kernel11Ideal.MixFwd.algebraic,
    trivial,
    Kernel15Ideal.Adam.algebraic,
    trivial,
    Kernel16Ideal.Adam.algebraic,
    trivial,
    Kernel17Ideal.Adam.algebraic,
    trivial,
    Kernel18Ideal.Adam.algebraic,
    trivial,
    Kernel19Ideal.Adam.algebraic,
    trivial,
    Kernel20Ideal.Adam.algebraic,
    trivial,
    Kernel21Ideal.Adam.algebraic,
    trivial,
    Kernel22Ideal.Adam.algebraic,
    trivial,
    Kernel23Ideal.Adam.algebraic,
    trivial,
    Kernel24Ideal.Adam.algebraic,
    trivial,
    Kernel25Ideal.Adam.algebraic,
    trivial,
    Kernel26Ideal.Sum.algebraic,
    trivial,
    Kernel27Ideal.Sum.algebraic,
    trivial,
    Kernel28Ideal.Sum.algebraic,
    trivial,
    Kernel29Ideal.Sum.algebraic,
    trivial,
    Kernel30Ideal.Sum.algebraic,
    trivial,
    Kernel31Ideal.Sum.algebraic,
    trivial,
    Kernel32Ideal.Sum.algebraic⟩

end Cert.Proof

end
